-- ==== Defs.lean ====
def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_ScatterRef (m : (ℓ : Loc Cert.ScatterRef.nD Cert.ScatterRef.τ Cert.ScatterRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Sibling (m : (ℓ : Loc Cert.Sibling.nD Cert.Sibling.τ Cert.Sibling.sig) → Buf (Elt Bits) ℓ) : Prop :=
  True

def Pre_SiblingIdeal (m : (ℓ : Loc Cert.SiblingIdeal.nD Cert.SiblingIdeal.τ Cert.SiblingIdeal.sig) → Buf (Elt Ideal) ℓ) : Prop :=
  True

def Pre_SiblingRefIdeal (m : (ℓ : Loc Cert.SiblingRefIdeal.nD Cert.SiblingRefIdeal.τ Cert.SiblingRefIdeal.sig) → Buf (Elt Ideal) ℓ) : Prop :=
  True

def Pre_SiblingRef (m : (ℓ : Loc Cert.SiblingRef.nD Cert.SiblingRef.τ Cert.SiblingRef.sig) → Buf (Elt Bits) ℓ) : Prop :=
  True

def Pre_ScatterMix (m : (ℓ : Loc Cert.ScatterMix.nD Cert.ScatterMix.τ Cert.ScatterMix.sig) → Buf (Elt Bits) ℓ) : Prop :=
  True

def Pre_ScatterMixIdeal (m : (ℓ : Loc Cert.ScatterMixIdeal.nD Cert.ScatterMixIdeal.τ Cert.ScatterMixIdeal.sig) → Buf (Elt Ideal) ℓ) : Prop :=
  True

def Pre_ScatterMixRefIdeal (m : (ℓ : Loc Cert.ScatterMixRefIdeal.nD Cert.ScatterMixRefIdeal.τ Cert.ScatterMixRefIdeal.sig) → Buf (Elt Ideal) ℓ) : Prop :=
  True

def Pre_ScatterMixRef (m : (ℓ : Loc Cert.ScatterMixRef.nD Cert.ScatterMixRef.τ Cert.ScatterMixRef.sig) → Buf (Elt Bits) ℓ) : Prop :=
  True

def Pre_SiblingMix (m : (ℓ : Loc Cert.SiblingMix.nD Cert.SiblingMix.τ Cert.SiblingMix.sig) → Buf (Elt Bits) ℓ) : Prop :=
  True

def Pre_SiblingMixIdeal (m : (ℓ : Loc Cert.SiblingMixIdeal.nD Cert.SiblingMixIdeal.τ Cert.SiblingMixIdeal.sig) → Buf (Elt Ideal) ℓ) : Prop :=
  True

def Pre_SiblingMixRefIdeal (m : (ℓ : Loc Cert.SiblingMixRefIdeal.nD Cert.SiblingMixRefIdeal.τ Cert.SiblingMixRefIdeal.sig) → Buf (Elt Ideal) ℓ) : Prop :=
  True

def Pre_SiblingMixRef (m : (ℓ : Loc Cert.SiblingMixRef.nD Cert.SiblingMixRef.τ Cert.SiblingMixRef.sig) → Buf (Elt Bits) ℓ) : Prop :=
  True

def Pre_GatherMix (m : (ℓ : Loc Cert.GatherMix.nD Cert.GatherMix.τ Cert.GatherMix.sig) → Buf (Elt Bits) ℓ) : Prop :=
  True

def Pre_GatherMixIdeal (m : (ℓ : Loc Cert.GatherMixIdeal.nD Cert.GatherMixIdeal.τ Cert.GatherMixIdeal.sig) → Buf (Elt Ideal) ℓ) : Prop :=
  True

def Pre_GatherMixRefIdeal (m : (ℓ : Loc Cert.GatherMixRefIdeal.nD Cert.GatherMixRefIdeal.τ Cert.GatherMixRefIdeal.sig) → Buf (Elt Ideal) ℓ) : Prop :=
  True

def Pre_GatherMixRef (m : (ℓ : Loc Cert.GatherMixRef.nD Cert.GatherMixRef.τ Cert.GatherMixRef.sig) → Buf (Elt Bits) ℓ) : Prop :=
  True

def Pre_GatherTwo (m : (ℓ : Loc Cert.GatherTwo.nD Cert.GatherTwo.τ Cert.GatherTwo.sig) → Buf (Elt Bits) ℓ) : Prop :=
  True

def Pre_GatherTwoIdeal (m : (ℓ : Loc Cert.GatherTwoIdeal.nD Cert.GatherTwoIdeal.τ Cert.GatherTwoIdeal.sig) → Buf (Elt Ideal) ℓ) : Prop :=
  True

def Pre_GatherTwoRefIdeal (m : (ℓ : Loc Cert.GatherTwoRefIdeal.nD Cert.GatherTwoRefIdeal.τ Cert.GatherTwoRefIdeal.sig) → Buf (Elt Ideal) ℓ) : Prop :=
  True

def Pre_GatherTwoRef (m : (ℓ : Loc Cert.GatherTwoRef.nD Cert.GatherTwoRef.τ Cert.GatherTwoRef.sig) → Buf (Elt Bits) ℓ) : Prop :=
  True

def Pre_GatherOne (m : (ℓ : Loc Cert.GatherOne.nD Cert.GatherOne.τ Cert.GatherOne.sig) → Buf (Elt Bits) ℓ) : Prop :=
  True

def Pre_GatherOneIdeal (m : (ℓ : Loc Cert.GatherOneIdeal.nD Cert.GatherOneIdeal.τ Cert.GatherOneIdeal.sig) → Buf (Elt Ideal) ℓ) : Prop :=
  True

def Pre_GatherOneRefIdeal (m : (ℓ : Loc Cert.GatherOneRefIdeal.nD Cert.GatherOneRefIdeal.τ Cert.GatherOneRefIdeal.sig) → Buf (Elt Ideal) ℓ) : Prop :=
  True

def Pre_GatherOneRef (m : (ℓ : Loc Cert.GatherOneRef.nD Cert.GatherOneRef.τ Cert.GatherOneRef.sig) → Buf (Elt Bits) ℓ) : Prop :=
  True

def Pre_Everyone (m : (ℓ : Loc Cert.Everyone.nD Cert.Everyone.τ Cert.Everyone.sig) → Buf (Elt Bits) ℓ) : Prop :=
  True

def Pre_EveryoneIdeal (m : (ℓ : Loc Cert.EveryoneIdeal.nD Cert.EveryoneIdeal.τ Cert.EveryoneIdeal.sig) → Buf (Elt Ideal) ℓ) : Prop :=
  True

def Pre_EveryoneRefIdeal (m : (ℓ : Loc Cert.EveryoneRefIdeal.nD Cert.EveryoneRefIdeal.τ Cert.EveryoneRefIdeal.sig) → Buf (Elt Ideal) ℓ) : Prop :=
  True

def Pre_EveryoneRef (m : (ℓ : Loc Cert.EveryoneRef.nD Cert.EveryoneRef.τ Cert.EveryoneRef.sig) → Buf (Elt Bits) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWSquare (m : (ℓ : Loc Cert.AdamWSquare.nD Cert.AdamWSquare.τ Cert.AdamWSquare.sig) → Buf (Elt Bits) ℓ) : Prop :=
  True

def Pre_AdamWSquareIdeal (m : (ℓ : Loc Cert.AdamWSquareIdeal.nD Cert.AdamWSquareIdeal.τ Cert.AdamWSquareIdeal.sig) → Buf (Elt Ideal) ℓ) : Prop :=
  True

def Pre_AdamWSquareRefIdeal (m : (ℓ : Loc Cert.AdamWSquareRefIdeal.nD Cert.AdamWSquareRefIdeal.τ Cert.AdamWSquareRefIdeal.sig) → Buf (Elt Ideal) ℓ) : Prop :=
  True

def Pre_AdamWHalf (m : (ℓ : Loc Cert.AdamWHalf.nD Cert.AdamWHalf.τ Cert.AdamWHalf.sig) → Buf (Elt Bits) ℓ) : Prop :=
  True

def Pre_AdamWHalfIdeal (m : (ℓ : Loc Cert.AdamWHalfIdeal.nD Cert.AdamWHalfIdeal.τ Cert.AdamWHalfIdeal.sig) → Buf (Elt Ideal) ℓ) : Prop :=
  True

def Pre_AdamWHalfRefIdeal (m : (ℓ : Loc Cert.AdamWHalfRefIdeal.nD Cert.AdamWHalfRefIdeal.τ Cert.AdamWHalfRefIdeal.sig) → Buf (Elt Ideal) ℓ) : Prop :=
  True

def Pre_AdamWSmall (m : (ℓ : Loc Cert.AdamWSmall.nD Cert.AdamWSmall.τ Cert.AdamWSmall.sig) → Buf (Elt Bits) ℓ) : Prop :=
  True

def Pre_AdamWSmallIdeal (m : (ℓ : Loc Cert.AdamWSmallIdeal.nD Cert.AdamWSmallIdeal.τ Cert.AdamWSmallIdeal.sig) → Buf (Elt Ideal) ℓ) : Prop :=
  True

def Pre_AdamWSmallRefIdeal (m : (ℓ : Loc Cert.AdamWSmallRefIdeal.nD Cert.AdamWSmallRefIdeal.τ Cert.AdamWSmallRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxRefIdeal (m : (ℓ : Loc Cert.FfnDxRefIdeal.nD Cert.FfnDxRefIdeal.τ Cert.FfnDxRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDwUp (m : (ℓ : Loc Cert.FfnDwUp.nD Cert.FfnDwUp.τ Cert.FfnDwUp.sig) → Buf (Elt Bits) ℓ) : Prop :=
  True

def Pre_FfnDwUpIdeal (m : (ℓ : Loc Cert.FfnDwUpIdeal.nD Cert.FfnDwUpIdeal.τ Cert.FfnDwUpIdeal.sig) → Buf (Elt Ideal) ℓ) : Prop :=
  True

def Pre_FfnDwUpRefIdeal (m : (ℓ : Loc Cert.FfnDwUpRefIdeal.nD Cert.FfnDwUpRefIdeal.τ Cert.FfnDwUpRefIdeal.sig) → Buf (Elt Ideal) ℓ) : Prop :=
  True

def Pre_FfnDwDown (m : (ℓ : Loc Cert.FfnDwDown.nD Cert.FfnDwDown.τ Cert.FfnDwDown.sig) → Buf (Elt Bits) ℓ) : Prop :=
  True

def Pre_FfnDwDownIdeal (m : (ℓ : Loc Cert.FfnDwDownIdeal.nD Cert.FfnDwDownIdeal.τ Cert.FfnDwDownIdeal.sig) → Buf (Elt Ideal) ℓ) : Prop :=
  True

def Pre_FfnDwDownRefIdeal (m : (ℓ : Loc Cert.FfnDwDownRefIdeal.nD Cert.FfnDwDownRefIdeal.τ Cert.FfnDwDownRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_SumFfn (m : (ℓ : Loc Cert.SumFfn.nD Cert.SumFfn.τ Cert.SumFfn.sig) → Buf (Elt Bits) ℓ) : Prop :=
  True

def Pre_SumFfnIdeal (m : (ℓ : Loc Cert.SumFfnIdeal.nD Cert.SumFfnIdeal.τ Cert.SumFfnIdeal.sig) → Buf (Elt Ideal) ℓ) : Prop :=
  True

def Pre_SumFfnRefIdeal (m : (ℓ : Loc Cert.SumFfnRefIdeal.nD Cert.SumFfnRefIdeal.τ Cert.SumFfnRefIdeal.sig) → Buf (Elt Ideal) ℓ) : Prop :=
  True

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1)
      ∧ r.2.mem ((c.tc : Thread Cert.ScatterRefIdeal.nD Cert.ScatterRefIdeal.τ).loc Cert.ScatterRefIdeal.main_arg2) = m ((c.tc : Thread Cert.ScatterRefIdeal.nD Cert.ScatterRefIdeal.τ).loc Cert.ScatterRefIdeal.main_arg2))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0)
      ∧ r.2.mem ((c.tc : Thread Cert.ScatterRef.nD Cert.ScatterRef.τ).loc Cert.ScatterRef.main_arg1) = m ((c.tc : Thread Cert.ScatterRef.nD Cert.ScatterRef.τ).loc Cert.ScatterRef.main_arg1)
      ∧ r.2.mem ((c.tc : Thread Cert.ScatterRef.nD Cert.ScatterRef.τ).loc Cert.ScatterRef.main_arg2) = m ((c.tc : Thread Cert.ScatterRef.nD Cert.ScatterRef.τ).loc Cert.ScatterRef.main_arg2))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2))
      ∧ r.2.sem = fun _ => 0)

def quiescent_Sibling [hSibling : Cert.Sibling.Facts] : Prop :=
  ∀ (m : (ℓ : Loc Cert.Sibling.nD Cert.Sibling.τ Cert.Sibling.sig) → Buf (Elt Bits) ℓ) (g : Dev Cert.Sibling.nD → PrngReg), Pre_Sibling m →
    θ_run (Cert.Sibling.defs (F := Bits)) (onTc (τ := Cert.Sibling.τ) (Cert.Sibling.main (F := Bits))) ⟨m, fun _ => 0, g⟩ (fun r => (∀ c : Dev Cert.Sibling.nD,
      r.2.mem ((c.tc : Thread Cert.Sibling.nD Cert.Sibling.τ).loc Cert.Sibling.main_arg0) = m ((c.tc : Thread Cert.Sibling.nD Cert.Sibling.τ).loc Cert.Sibling.main_arg0)
      ∧ r.2.mem ((c.tc : Thread Cert.Sibling.nD Cert.Sibling.τ).loc Cert.Sibling.main_arg1) = m ((c.tc : Thread Cert.Sibling.nD Cert.Sibling.τ).loc Cert.Sibling.main_arg1)
      ∧ r.2.mem ((c.tc : Thread Cert.Sibling.nD Cert.Sibling.τ).loc Cert.Sibling.main_arg2) = m ((c.tc : Thread Cert.Sibling.nD Cert.Sibling.τ).loc Cert.Sibling.main_arg2))
      ∧ r.2.sem = fun _ => 0)

def quiescent_SiblingIdeal [hSiblingIdeal : Cert.SiblingIdeal.Facts] : Prop :=
  ∀ (m : (ℓ : Loc Cert.SiblingIdeal.nD Cert.SiblingIdeal.τ Cert.SiblingIdeal.sig) → Buf (Elt Ideal) ℓ) (g : Dev Cert.SiblingIdeal.nD → PrngReg), Pre_SiblingIdeal m →
    θ_run (Cert.SiblingIdeal.defs (F := Ideal)) (onTc (τ := Cert.SiblingIdeal.τ) (Cert.SiblingIdeal.main (F := Ideal))) ⟨m, fun _ => 0, g⟩ (fun r => (∀ c : Dev Cert.SiblingIdeal.nD,
      r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0)
      ∧ r.2.mem ((c.tc : Thread Cert.SiblingIdeal.nD Cert.SiblingIdeal.τ).loc Cert.SiblingIdeal.main_arg1) = m ((c.tc : Thread Cert.SiblingIdeal.nD Cert.SiblingIdeal.τ).loc Cert.SiblingIdeal.main_arg1)
      ∧ r.2.mem ((c.tc : Thread Cert.SiblingIdeal.nD Cert.SiblingIdeal.τ).loc Cert.SiblingIdeal.main_arg2) = m ((c.tc : Thread Cert.SiblingIdeal.nD Cert.SiblingIdeal.τ).loc Cert.SiblingIdeal.main_arg2))
      ∧ r.2.sem = fun _ => 0)

def quiescent_SiblingRefIdeal [hSiblingRefIdeal : Cert.SiblingRefIdeal.Facts] : Prop :=
  ∀ (m : (ℓ : Loc Cert.SiblingRefIdeal.nD Cert.SiblingRefIdeal.τ Cert.SiblingRefIdeal.sig) → Buf (Elt Ideal) ℓ) (g : Dev Cert.SiblingRefIdeal.nD → PrngReg), Pre_SiblingRefIdeal m →
    θ_run (Cert.SiblingRefIdeal.defs (F := Ideal)) (onTc (τ := Cert.SiblingRefIdeal.τ) (Cert.SiblingRefIdeal.main (F := Ideal))) ⟨m, fun _ => 0, g⟩ (fun r => (∀ c : Dev Cert.SiblingRefIdeal.nD,
      r.2.mem ((c.tc : Thread Cert.SiblingRefIdeal.nD Cert.SiblingRefIdeal.τ).loc Cert.SiblingRefIdeal.main_arg0) = m ((c.tc : Thread Cert.SiblingRefIdeal.nD Cert.SiblingRefIdeal.τ).loc Cert.SiblingRefIdeal.main_arg0)
      ∧ r.2.mem ((c.tc : Thread Cert.SiblingRefIdeal.nD Cert.SiblingRefIdeal.τ).loc Cert.SiblingRefIdeal.main_arg1) = m ((c.tc : Thread Cert.SiblingRefIdeal.nD Cert.SiblingRefIdeal.τ).loc Cert.SiblingRefIdeal.main_arg1)
      ∧ r.2.mem ((c.tc : Thread Cert.SiblingRefIdeal.nD Cert.SiblingRefIdeal.τ).loc Cert.SiblingRefIdeal.main_arg2) = m ((c.tc : Thread Cert.SiblingRefIdeal.nD Cert.SiblingRefIdeal.τ).loc Cert.SiblingRefIdeal.main_arg2))
      ∧ r.2.sem = fun _ => 0)

def quiescent_SiblingRef [hSiblingRef : Cert.SiblingRef.Facts] : Prop :=
  ∀ (m : (ℓ : Loc Cert.SiblingRef.nD Cert.SiblingRef.τ Cert.SiblingRef.sig) → Buf (Elt Bits) ℓ) (g : Dev Cert.SiblingRef.nD → PrngReg), Pre_SiblingRef m →
    θ_run (Cert.SiblingRef.defs (F := Bits)) (onTc (τ := Cert.SiblingRef.τ) (Cert.SiblingRef.main (F := Bits))) ⟨m, fun _ => 0, g⟩ (fun r => (∀ c : Dev Cert.SiblingRef.nD,
      r.2.mem ((c.tc : Thread Cert.SiblingRef.nD Cert.SiblingRef.τ).loc Cert.SiblingRef.main_arg0) = m ((c.tc : Thread Cert.SiblingRef.nD Cert.SiblingRef.τ).loc Cert.SiblingRef.main_arg0)
      ∧ r.2.mem ((c.tc : Thread Cert.SiblingRef.nD Cert.SiblingRef.τ).loc Cert.SiblingRef.main_arg1) = m ((c.tc : Thread Cert.SiblingRef.nD Cert.SiblingRef.τ).loc Cert.SiblingRef.main_arg1)
      ∧ r.2.mem ((c.tc : Thread Cert.SiblingRef.nD Cert.SiblingRef.τ).loc Cert.SiblingRef.main_arg2) = m ((c.tc : Thread Cert.SiblingRef.nD Cert.SiblingRef.τ).loc Cert.SiblingRef.main_arg2))
      ∧ r.2.sem = fun _ => 0)

def quiescent_ScatterMix [hScatterMix : Cert.ScatterMix.Facts] : Prop :=
  ∀ (m : (ℓ : Loc Cert.ScatterMix.nD Cert.ScatterMix.τ Cert.ScatterMix.sig) → Buf (Elt Bits) ℓ) (g : Dev Cert.ScatterMix.nD → PrngReg), Pre_ScatterMix m →
    θ_run (Cert.ScatterMix.defs (F := Bits)) (onTc (τ := Cert.ScatterMix.τ) (Cert.ScatterMix.main (F := Bits))) ⟨m, fun _ => 0, g⟩ (fun r => (∀ c : Dev Cert.ScatterMix.nD,
      r.2.mem ((c.tc : Thread Cert.ScatterMix.nD Cert.ScatterMix.τ).loc Cert.ScatterMix.main_arg0) = m ((c.tc : Thread Cert.ScatterMix.nD Cert.ScatterMix.τ).loc Cert.ScatterMix.main_arg0)
      ∧ r.2.mem ((c.tc : Thread Cert.ScatterMix.nD Cert.ScatterMix.τ).loc Cert.ScatterMix.main_arg1) = m ((c.tc : Thread Cert.ScatterMix.nD Cert.ScatterMix.τ).loc Cert.ScatterMix.main_arg1)
      ∧ r.2.mem ((c.tc : Thread Cert.ScatterMix.nD Cert.ScatterMix.τ).loc Cert.ScatterMix.main_arg2) = m ((c.tc : Thread Cert.ScatterMix.nD Cert.ScatterMix.τ).loc Cert.ScatterMix.main_arg2)
      ∧ r.2.mem ((c.tc : Thread Cert.ScatterMix.nD Cert.ScatterMix.τ).loc Cert.ScatterMix.main_arg3) = m ((c.tc : Thread Cert.ScatterMix.nD Cert.ScatterMix.τ).loc Cert.ScatterMix.main_arg3)
      ∧ r.2.mem ((c.tc : Thread Cert.ScatterMix.nD Cert.ScatterMix.τ).loc Cert.ScatterMix.main_arg4) = m ((c.tc : Thread Cert.ScatterMix.nD Cert.ScatterMix.τ).loc Cert.ScatterMix.main_arg4)
      ∧ r.2.mem ((c.tc : Thread Cert.ScatterMix.nD Cert.ScatterMix.τ).loc Cert.ScatterMix.main_arg5) = m ((c.tc : Thread Cert.ScatterMix.nD Cert.ScatterMix.τ).loc Cert.ScatterMix.main_arg5))
      ∧ r.2.sem = fun _ => 0)

def quiescent_ScatterMixIdeal [hScatterMixIdeal : Cert.ScatterMixIdeal.Facts] : Prop :=
  ∀ (m : (ℓ : Loc Cert.ScatterMixIdeal.nD Cert.ScatterMixIdeal.τ Cert.ScatterMixIdeal.sig) → Buf (Elt Ideal) ℓ) (g : Dev Cert.ScatterMixIdeal.nD → PrngReg), Pre_ScatterMixIdeal m →
    θ_run (Cert.ScatterMixIdeal.defs (F := Ideal)) (onTc (τ := Cert.ScatterMixIdeal.τ) (Cert.ScatterMixIdeal.main (F := Ideal))) ⟨m, fun _ => 0, g⟩ (fun r => (∀ c : Dev Cert.ScatterMixIdeal.nD,
      r.2.mem ((c.tc : Thread Cert.ScatterMixIdeal.nD Cert.ScatterMixIdeal.τ).loc Cert.ScatterMixIdeal.main_arg0) = m ((c.tc : Thread Cert.ScatterMixIdeal.nD Cert.ScatterMixIdeal.τ).loc Cert.ScatterMixIdeal.main_arg0)
      ∧ r.2.mem ((c.tc : Thread Cert.ScatterMixIdeal.nD Cert.ScatterMixIdeal.τ).loc Cert.ScatterMixIdeal.main_arg1) = m ((c.tc : Thread Cert.ScatterMixIdeal.nD Cert.ScatterMixIdeal.τ).loc Cert.ScatterMixIdeal.main_arg1)
      ∧ r.2.mem ((c.tc : Thread Cert.ScatterMixIdeal.nD Cert.ScatterMixIdeal.τ).loc Cert.ScatterMixIdeal.main_arg2) = m ((c.tc : Thread Cert.ScatterMixIdeal.nD Cert.ScatterMixIdeal.τ).loc Cert.ScatterMixIdeal.main_arg2)
      ∧ r.2.mem ((c.tc : Thread Cert.ScatterMixIdeal.nD Cert.ScatterMixIdeal.τ).loc Cert.ScatterMixIdeal.main_arg3) = m ((c.tc : Thread Cert.ScatterMixIdeal.nD Cert.ScatterMixIdeal.τ).loc Cert.ScatterMixIdeal.main_arg3)
      ∧ r.2.mem ((c.tc : Thread Cert.ScatterMixIdeal.nD Cert.ScatterMixIdeal.τ).loc Cert.ScatterMixIdeal.main_arg4) = m ((c.tc : Thread Cert.ScatterMixIdeal.nD Cert.ScatterMixIdeal.τ).loc Cert.ScatterMixIdeal.main_arg4)
      ∧ r.2.mem ((c.tc : Thread Cert.ScatterMixIdeal.nD Cert.ScatterMixIdeal.τ).loc Cert.ScatterMixIdeal.main_arg5) = m ((c.tc : Thread Cert.ScatterMixIdeal.nD Cert.ScatterMixIdeal.τ).loc Cert.ScatterMixIdeal.main_arg5))
      ∧ r.2.sem = fun _ => 0)

def quiescent_ScatterMixRefIdeal [hScatterMixRefIdeal : Cert.ScatterMixRefIdeal.Facts] : Prop :=
  ∀ (m : (ℓ : Loc Cert.ScatterMixRefIdeal.nD Cert.ScatterMixRefIdeal.τ Cert.ScatterMixRefIdeal.sig) → Buf (Elt Ideal) ℓ) (g : Dev Cert.ScatterMixRefIdeal.nD → PrngReg), Pre_ScatterMixRefIdeal m →
    θ_run (Cert.ScatterMixRefIdeal.defs (F := Ideal)) (onTc (τ := Cert.ScatterMixRefIdeal.τ) (Cert.ScatterMixRefIdeal.main (F := Ideal))) ⟨m, fun _ => 0, g⟩ (fun r => (∀ c : Dev Cert.ScatterMixRefIdeal.nD,
      r.2.mem ((c.tc : Thread Cert.ScatterMixRefIdeal.nD Cert.ScatterMixRefIdeal.τ).loc Cert.ScatterMixRefIdeal.main_arg0) = m ((c.tc : Thread Cert.ScatterMixRefIdeal.nD Cert.ScatterMixRefIdeal.τ).loc Cert.ScatterMixRefIdeal.main_arg0)
      ∧ r.2.mem ((c.tc : Thread Cert.ScatterMixRefIdeal.nD Cert.ScatterMixRefIdeal.τ).loc Cert.ScatterMixRefIdeal.main_arg1) = m ((c.tc : Thread Cert.ScatterMixRefIdeal.nD Cert.ScatterMixRefIdeal.τ).loc Cert.ScatterMixRefIdeal.main_arg1)
      ∧ r.2.mem ((c.tc : Thread Cert.ScatterMixRefIdeal.nD Cert.ScatterMixRefIdeal.τ).loc Cert.ScatterMixRefIdeal.main_arg2) = m ((c.tc : Thread Cert.ScatterMixRefIdeal.nD Cert.ScatterMixRefIdeal.τ).loc Cert.ScatterMixRefIdeal.main_arg2)
      ∧ r.2.mem ((c.tc : Thread Cert.ScatterMixRefIdeal.nD Cert.ScatterMixRefIdeal.τ).loc Cert.ScatterMixRefIdeal.main_arg3) = m ((c.tc : Thread Cert.ScatterMixRefIdeal.nD Cert.ScatterMixRefIdeal.τ).loc Cert.ScatterMixRefIdeal.main_arg3)
      ∧ r.2.mem ((c.tc : Thread Cert.ScatterMixRefIdeal.nD Cert.ScatterMixRefIdeal.τ).loc Cert.ScatterMixRefIdeal.main_arg4) = m ((c.tc : Thread Cert.ScatterMixRefIdeal.nD Cert.ScatterMixRefIdeal.τ).loc Cert.ScatterMixRefIdeal.main_arg4)
      ∧ r.2.mem ((c.tc : Thread Cert.ScatterMixRefIdeal.nD Cert.ScatterMixRefIdeal.τ).loc Cert.ScatterMixRefIdeal.main_arg5) = m ((c.tc : Thread Cert.ScatterMixRefIdeal.nD Cert.ScatterMixRefIdeal.τ).loc Cert.ScatterMixRefIdeal.main_arg5))
      ∧ r.2.sem = fun _ => 0)

def quiescent_ScatterMixRef [hScatterMixRef : Cert.ScatterMixRef.Facts] : Prop :=
  ∀ (m : (ℓ : Loc Cert.ScatterMixRef.nD Cert.ScatterMixRef.τ Cert.ScatterMixRef.sig) → Buf (Elt Bits) ℓ) (g : Dev Cert.ScatterMixRef.nD → PrngReg), Pre_ScatterMixRef m →
    θ_run (Cert.ScatterMixRef.defs (F := Bits)) (onTc (τ := Cert.ScatterMixRef.τ) (Cert.ScatterMixRef.main (F := Bits))) ⟨m, fun _ => 0, g⟩ (fun r => (∀ c : Dev Cert.ScatterMixRef.nD,
      r.2.mem ((c.tc : Thread Cert.ScatterMixRef.nD Cert.ScatterMixRef.τ).loc Cert.ScatterMixRef.main_arg0) = m ((c.tc : Thread Cert.ScatterMixRef.nD Cert.ScatterMixRef.τ).loc Cert.ScatterMixRef.main_arg0)
      ∧ r.2.mem ((c.tc : Thread Cert.ScatterMixRef.nD Cert.ScatterMixRef.τ).loc Cert.ScatterMixRef.main_arg1) = m ((c.tc : Thread Cert.ScatterMixRef.nD Cert.ScatterMixRef.τ).loc Cert.ScatterMixRef.main_arg1)
      ∧ r.2.mem ((c.tc : Thread Cert.ScatterMixRef.nD Cert.ScatterMixRef.τ).loc Cert.ScatterMixRef.main_arg2) = m ((c.tc : Thread Cert.ScatterMixRef.nD Cert.ScatterMixRef.τ).loc Cert.ScatterMixRef.main_arg2)
      ∧ r.2.mem ((c.tc : Thread Cert.ScatterMixRef.nD Cert.ScatterMixRef.τ).loc Cert.ScatterMixRef.main_arg3) = m ((c.tc : Thread Cert.ScatterMixRef.nD Cert.ScatterMixRef.τ).loc Cert.ScatterMixRef.main_arg3)
      ∧ r.2.mem ((c.tc : Thread Cert.ScatterMixRef.nD Cert.ScatterMixRef.τ).loc Cert.ScatterMixRef.main_arg4) = m ((c.tc : Thread Cert.ScatterMixRef.nD Cert.ScatterMixRef.τ).loc Cert.ScatterMixRef.main_arg4)
      ∧ r.2.mem ((c.tc : Thread Cert.ScatterMixRef.nD Cert.ScatterMixRef.τ).loc Cert.ScatterMixRef.main_arg5) = m ((c.tc : Thread Cert.ScatterMixRef.nD Cert.ScatterMixRef.τ).loc Cert.ScatterMixRef.main_arg5))
      ∧ r.2.sem = fun _ => 0)

def quiescent_SiblingMix [hSiblingMix : Cert.SiblingMix.Facts] : Prop :=
  ∀ (m : (ℓ : Loc Cert.SiblingMix.nD Cert.SiblingMix.τ Cert.SiblingMix.sig) → Buf (Elt Bits) ℓ) (g : Dev Cert.SiblingMix.nD → PrngReg), Pre_SiblingMix m →
    θ_run (Cert.SiblingMix.defs (F := Bits)) (onTc (τ := Cert.SiblingMix.τ) (Cert.SiblingMix.main (F := Bits))) ⟨m, fun _ => 0, g⟩ (fun r => (∀ c : Dev Cert.SiblingMix.nD,
      r.2.mem ((c.tc : Thread Cert.SiblingMix.nD Cert.SiblingMix.τ).loc Cert.SiblingMix.main_arg0) = m ((c.tc : Thread Cert.SiblingMix.nD Cert.SiblingMix.τ).loc Cert.SiblingMix.main_arg0)
      ∧ r.2.mem ((c.tc : Thread Cert.SiblingMix.nD Cert.SiblingMix.τ).loc Cert.SiblingMix.main_arg1) = m ((c.tc : Thread Cert.SiblingMix.nD Cert.SiblingMix.τ).loc Cert.SiblingMix.main_arg1)
      ∧ r.2.mem ((c.tc : Thread Cert.SiblingMix.nD Cert.SiblingMix.τ).loc Cert.SiblingMix.main_arg2) = m ((c.tc : Thread Cert.SiblingMix.nD Cert.SiblingMix.τ).loc Cert.SiblingMix.main_arg2)
      ∧ r.2.mem ((c.tc : Thread Cert.SiblingMix.nD Cert.SiblingMix.τ).loc Cert.SiblingMix.main_arg3) = m ((c.tc : Thread Cert.SiblingMix.nD Cert.SiblingMix.τ).loc Cert.SiblingMix.main_arg3)
      ∧ r.2.mem ((c.tc : Thread Cert.SiblingMix.nD Cert.SiblingMix.τ).loc Cert.SiblingMix.main_arg4) = m ((c.tc : Thread Cert.SiblingMix.nD Cert.SiblingMix.τ).loc Cert.SiblingMix.main_arg4)
      ∧ r.2.mem ((c.tc : Thread Cert.SiblingMix.nD Cert.SiblingMix.τ).loc Cert.SiblingMix.main_arg5) = m ((c.tc : Thread Cert.SiblingMix.nD Cert.SiblingMix.τ).loc Cert.SiblingMix.main_arg5))
      ∧ r.2.sem = fun _ => 0)

def quiescent_SiblingMixIdeal [hSiblingMixIdeal : Cert.SiblingMixIdeal.Facts] : Prop :=
  ∀ (m : (ℓ : Loc Cert.SiblingMixIdeal.nD Cert.SiblingMixIdeal.τ Cert.SiblingMixIdeal.sig) → Buf (Elt Ideal) ℓ) (g : Dev Cert.SiblingMixIdeal.nD → PrngReg), Pre_SiblingMixIdeal m →
    θ_run (Cert.SiblingMixIdeal.defs (F := Ideal)) (onTc (τ := Cert.SiblingMixIdeal.τ) (Cert.SiblingMixIdeal.main (F := Ideal))) ⟨m, fun _ => 0, g⟩ (fun r => (∀ c : Dev Cert.SiblingMixIdeal.nD,
      r.2.mem ((c.tc : Thread Cert.SiblingMixIdeal.nD Cert.SiblingMixIdeal.τ).loc Cert.SiblingMixIdeal.main_arg0) = m ((c.tc : Thread Cert.SiblingMixIdeal.nD Cert.SiblingMixIdeal.τ).loc Cert.SiblingMixIdeal.main_arg0)
      ∧ r.2.mem ((c.tc : Thread Cert.SiblingMixIdeal.nD Cert.SiblingMixIdeal.τ).loc Cert.SiblingMixIdeal.main_arg1) = m ((c.tc : Thread Cert.SiblingMixIdeal.nD Cert.SiblingMixIdeal.τ).loc Cert.SiblingMixIdeal.main_arg1)
      ∧ r.2.mem ((c.tc : Thread Cert.SiblingMixIdeal.nD Cert.SiblingMixIdeal.τ).loc Cert.SiblingMixIdeal.main_arg2) = m ((c.tc : Thread Cert.SiblingMixIdeal.nD Cert.SiblingMixIdeal.τ).loc Cert.SiblingMixIdeal.main_arg2)
      ∧ r.2.mem ((c.tc : Thread Cert.SiblingMixIdeal.nD Cert.SiblingMixIdeal.τ).loc Cert.SiblingMixIdeal.main_arg3) = m ((c.tc : Thread Cert.SiblingMixIdeal.nD Cert.SiblingMixIdeal.τ).loc Cert.SiblingMixIdeal.main_arg3)
      ∧ r.2.mem ((c.tc : Thread Cert.SiblingMixIdeal.nD Cert.SiblingMixIdeal.τ).loc Cert.SiblingMixIdeal.main_arg4) = m ((c.tc : Thread Cert.SiblingMixIdeal.nD Cert.SiblingMixIdeal.τ).loc Cert.SiblingMixIdeal.main_arg4)
      ∧ r.2.mem ((c.tc : Thread Cert.SiblingMixIdeal.nD Cert.SiblingMixIdeal.τ).loc Cert.SiblingMixIdeal.main_arg5) = m ((c.tc : Thread Cert.SiblingMixIdeal.nD Cert.SiblingMixIdeal.τ).loc Cert.SiblingMixIdeal.main_arg5))
      ∧ r.2.sem = fun _ => 0)

def quiescent_SiblingMixRefIdeal [hSiblingMixRefIdeal : Cert.SiblingMixRefIdeal.Facts] : Prop :=
  ∀ (m : (ℓ : Loc Cert.SiblingMixRefIdeal.nD Cert.SiblingMixRefIdeal.τ Cert.SiblingMixRefIdeal.sig) → Buf (Elt Ideal) ℓ) (g : Dev Cert.SiblingMixRefIdeal.nD → PrngReg), Pre_SiblingMixRefIdeal m →
    θ_run (Cert.SiblingMixRefIdeal.defs (F := Ideal)) (onTc (τ := Cert.SiblingMixRefIdeal.τ) (Cert.SiblingMixRefIdeal.main (F := Ideal))) ⟨m, fun _ => 0, g⟩ (fun r => (∀ c : Dev Cert.SiblingMixRefIdeal.nD,
      r.2.mem ((c.tc : Thread Cert.SiblingMixRefIdeal.nD Cert.SiblingMixRefIdeal.τ).loc Cert.SiblingMixRefIdeal.main_arg0) = m ((c.tc : Thread Cert.SiblingMixRefIdeal.nD Cert.SiblingMixRefIdeal.τ).loc Cert.SiblingMixRefIdeal.main_arg0)
      ∧ r.2.mem ((c.tc : Thread Cert.SiblingMixRefIdeal.nD Cert.SiblingMixRefIdeal.τ).loc Cert.SiblingMixRefIdeal.main_arg1) = m ((c.tc : Thread Cert.SiblingMixRefIdeal.nD Cert.SiblingMixRefIdeal.τ).loc Cert.SiblingMixRefIdeal.main_arg1)
      ∧ r.2.mem ((c.tc : Thread Cert.SiblingMixRefIdeal.nD Cert.SiblingMixRefIdeal.τ).loc Cert.SiblingMixRefIdeal.main_arg2) = m ((c.tc : Thread Cert.SiblingMixRefIdeal.nD Cert.SiblingMixRefIdeal.τ).loc Cert.SiblingMixRefIdeal.main_arg2)
      ∧ r.2.mem ((c.tc : Thread Cert.SiblingMixRefIdeal.nD Cert.SiblingMixRefIdeal.τ).loc Cert.SiblingMixRefIdeal.main_arg3) = m ((c.tc : Thread Cert.SiblingMixRefIdeal.nD Cert.SiblingMixRefIdeal.τ).loc Cert.SiblingMixRefIdeal.main_arg3)
      ∧ r.2.mem ((c.tc : Thread Cert.SiblingMixRefIdeal.nD Cert.SiblingMixRefIdeal.τ).loc Cert.SiblingMixRefIdeal.main_arg4) = m ((c.tc : Thread Cert.SiblingMixRefIdeal.nD Cert.SiblingMixRefIdeal.τ).loc Cert.SiblingMixRefIdeal.main_arg4)
      ∧ r.2.mem ((c.tc : Thread Cert.SiblingMixRefIdeal.nD Cert.SiblingMixRefIdeal.τ).loc Cert.SiblingMixRefIdeal.main_arg5) = m ((c.tc : Thread Cert.SiblingMixRefIdeal.nD Cert.SiblingMixRefIdeal.τ).loc Cert.SiblingMixRefIdeal.main_arg5))
      ∧ r.2.sem = fun _ => 0)

def quiescent_SiblingMixRef [hSiblingMixRef : Cert.SiblingMixRef.Facts] : Prop :=
  ∀ (m : (ℓ : Loc Cert.SiblingMixRef.nD Cert.SiblingMixRef.τ Cert.SiblingMixRef.sig) → Buf (Elt Bits) ℓ) (g : Dev Cert.SiblingMixRef.nD → PrngReg), Pre_SiblingMixRef m →
    θ_run (Cert.SiblingMixRef.defs (F := Bits)) (onTc (τ := Cert.SiblingMixRef.τ) (Cert.SiblingMixRef.main (F := Bits))) ⟨m, fun _ => 0, g⟩ (fun r => (∀ c : Dev Cert.SiblingMixRef.nD,
      r.2.mem ((c.tc : Thread Cert.SiblingMixRef.nD Cert.SiblingMixRef.τ).loc Cert.SiblingMixRef.main_arg0) = m ((c.tc : Thread Cert.SiblingMixRef.nD Cert.SiblingMixRef.τ).loc Cert.SiblingMixRef.main_arg0)
      ∧ r.2.mem ((c.tc : Thread Cert.SiblingMixRef.nD Cert.SiblingMixRef.τ).loc Cert.SiblingMixRef.main_arg1) = m ((c.tc : Thread Cert.SiblingMixRef.nD Cert.SiblingMixRef.τ).loc Cert.SiblingMixRef.main_arg1)
      ∧ r.2.mem ((c.tc : Thread Cert.SiblingMixRef.nD Cert.SiblingMixRef.τ).loc Cert.SiblingMixRef.main_arg2) = m ((c.tc : Thread Cert.SiblingMixRef.nD Cert.SiblingMixRef.τ).loc Cert.SiblingMixRef.main_arg2)
      ∧ r.2.mem ((c.tc : Thread Cert.SiblingMixRef.nD Cert.SiblingMixRef.τ).loc Cert.SiblingMixRef.main_arg3) = m ((c.tc : Thread Cert.SiblingMixRef.nD Cert.SiblingMixRef.τ).loc Cert.SiblingMixRef.main_arg3)
      ∧ r.2.mem ((c.tc : Thread Cert.SiblingMixRef.nD Cert.SiblingMixRef.τ).loc Cert.SiblingMixRef.main_arg4) = m ((c.tc : Thread Cert.SiblingMixRef.nD Cert.SiblingMixRef.τ).loc Cert.SiblingMixRef.main_arg4)
      ∧ r.2.mem ((c.tc : Thread Cert.SiblingMixRef.nD Cert.SiblingMixRef.τ).loc Cert.SiblingMixRef.main_arg5) = m ((c.tc : Thread Cert.SiblingMixRef.nD Cert.SiblingMixRef.τ).loc Cert.SiblingMixRef.main_arg5))
      ∧ r.2.sem = fun _ => 0)

def quiescent_GatherMix [hGatherMix : Cert.GatherMix.Facts] : Prop :=
  ∀ (m : (ℓ : Loc Cert.GatherMix.nD Cert.GatherMix.τ Cert.GatherMix.sig) → Buf (Elt Bits) ℓ) (g : Dev Cert.GatherMix.nD → PrngReg), Pre_GatherMix m →
    θ_run (Cert.GatherMix.defs (F := Bits)) (onTc (τ := Cert.GatherMix.τ) (Cert.GatherMix.main (F := Bits))) ⟨m, fun _ => 0, g⟩ (fun r => (∀ c : Dev Cert.GatherMix.nD,
      r.2.mem ((c.tc : Thread Cert.GatherMix.nD Cert.GatherMix.τ).loc Cert.GatherMix.main_arg0) = m ((c.tc : Thread Cert.GatherMix.nD Cert.GatherMix.τ).loc Cert.GatherMix.main_arg0)
      ∧ r.2.mem ((c.tc : Thread Cert.GatherMix.nD Cert.GatherMix.τ).loc Cert.GatherMix.main_arg1) = m ((c.tc : Thread Cert.GatherMix.nD Cert.GatherMix.τ).loc Cert.GatherMix.main_arg1)
      ∧ r.2.mem ((c.tc : Thread Cert.GatherMix.nD Cert.GatherMix.τ).loc Cert.GatherMix.main_arg2) = m ((c.tc : Thread Cert.GatherMix.nD Cert.GatherMix.τ).loc Cert.GatherMix.main_arg2)
      ∧ r.2.mem ((c.tc : Thread Cert.GatherMix.nD Cert.GatherMix.τ).loc Cert.GatherMix.main_arg3) = m ((c.tc : Thread Cert.GatherMix.nD Cert.GatherMix.τ).loc Cert.GatherMix.main_arg3)
      ∧ r.2.mem ((c.tc : Thread Cert.GatherMix.nD Cert.GatherMix.τ).loc Cert.GatherMix.main_arg4) = m ((c.tc : Thread Cert.GatherMix.nD Cert.GatherMix.τ).loc Cert.GatherMix.main_arg4)
      ∧ r.2.mem ((c.tc : Thread Cert.GatherMix.nD Cert.GatherMix.τ).loc Cert.GatherMix.main_arg5) = m ((c.tc : Thread Cert.GatherMix.nD Cert.GatherMix.τ).loc Cert.GatherMix.main_arg5)
      ∧ r.2.mem ((c.tc : Thread Cert.GatherMix.nD Cert.GatherMix.τ).loc Cert.GatherMix.main_arg6) = m ((c.tc : Thread Cert.GatherMix.nD Cert.GatherMix.τ).loc Cert.GatherMix.main_arg6))
      ∧ r.2.sem = fun _ => 0)

def quiescent_GatherMixIdeal [hGatherMixIdeal : Cert.GatherMixIdeal.Facts] : Prop :=
  ∀ (m : (ℓ : Loc Cert.GatherMixIdeal.nD Cert.GatherMixIdeal.τ Cert.GatherMixIdeal.sig) → Buf (Elt Ideal) ℓ) (g : Dev Cert.GatherMixIdeal.nD → PrngReg), Pre_GatherMixIdeal m →
    θ_run (Cert.GatherMixIdeal.defs (F := Ideal)) (onTc (τ := Cert.GatherMixIdeal.τ) (Cert.GatherMixIdeal.main (F := Ideal))) ⟨m, fun _ => 0, g⟩ (fun r => (∀ c : Dev Cert.GatherMixIdeal.nD,
      r.2.mem ((c.tc : Thread Cert.GatherMixIdeal.nD Cert.GatherMixIdeal.τ).loc Cert.GatherMixIdeal.main_arg0) = m ((c.tc : Thread Cert.GatherMixIdeal.nD Cert.GatherMixIdeal.τ).loc Cert.GatherMixIdeal.main_arg0)
      ∧ r.2.mem ((c.tc : Thread Cert.GatherMixIdeal.nD Cert.GatherMixIdeal.τ).loc Cert.GatherMixIdeal.main_arg1) = m ((c.tc : Thread Cert.GatherMixIdeal.nD Cert.GatherMixIdeal.τ).loc Cert.GatherMixIdeal.main_arg1)
      ∧ r.2.mem ((c.tc : Thread Cert.GatherMixIdeal.nD Cert.GatherMixIdeal.τ).loc Cert.GatherMixIdeal.main_arg2) = m ((c.tc : Thread Cert.GatherMixIdeal.nD Cert.GatherMixIdeal.τ).loc Cert.GatherMixIdeal.main_arg2)
      ∧ r.2.mem ((c.tc : Thread Cert.GatherMixIdeal.nD Cert.GatherMixIdeal.τ).loc Cert.GatherMixIdeal.main_arg3) = m ((c.tc : Thread Cert.GatherMixIdeal.nD Cert.GatherMixIdeal.τ).loc Cert.GatherMixIdeal.main_arg3)
      ∧ r.2.mem ((c.tc : Thread Cert.GatherMixIdeal.nD Cert.GatherMixIdeal.τ).loc Cert.GatherMixIdeal.main_arg4) = m ((c.tc : Thread Cert.GatherMixIdeal.nD Cert.GatherMixIdeal.τ).loc Cert.GatherMixIdeal.main_arg4)
      ∧ r.2.mem ((c.tc : Thread Cert.GatherMixIdeal.nD Cert.GatherMixIdeal.τ).loc Cert.GatherMixIdeal.main_arg5) = m ((c.tc : Thread Cert.GatherMixIdeal.nD Cert.GatherMixIdeal.τ).loc Cert.GatherMixIdeal.main_arg5)
      ∧ r.2.mem ((c.tc : Thread Cert.GatherMixIdeal.nD Cert.GatherMixIdeal.τ).loc Cert.GatherMixIdeal.main_arg6) = m ((c.tc : Thread Cert.GatherMixIdeal.nD Cert.GatherMixIdeal.τ).loc Cert.GatherMixIdeal.main_arg6))
      ∧ r.2.sem = fun _ => 0)

def quiescent_GatherMixRefIdeal [hGatherMixRefIdeal : Cert.GatherMixRefIdeal.Facts] : Prop :=
  ∀ (m : (ℓ : Loc Cert.GatherMixRefIdeal.nD Cert.GatherMixRefIdeal.τ Cert.GatherMixRefIdeal.sig) → Buf (Elt Ideal) ℓ) (g : Dev Cert.GatherMixRefIdeal.nD → PrngReg), Pre_GatherMixRefIdeal m →
    θ_run (Cert.GatherMixRefIdeal.defs (F := Ideal)) (onTc (τ := Cert.GatherMixRefIdeal.τ) (Cert.GatherMixRefIdeal.main (F := Ideal))) ⟨m, fun _ => 0, g⟩ (fun r => (∀ c : Dev Cert.GatherMixRefIdeal.nD,
      r.2.mem ((c.tc : Thread Cert.GatherMixRefIdeal.nD Cert.GatherMixRefIdeal.τ).loc Cert.GatherMixRefIdeal.main_arg0) = m ((c.tc : Thread Cert.GatherMixRefIdeal.nD Cert.GatherMixRefIdeal.τ).loc Cert.GatherMixRefIdeal.main_arg0)
      ∧ r.2.mem ((c.tc : Thread Cert.GatherMixRefIdeal.nD Cert.GatherMixRefIdeal.τ).loc Cert.GatherMixRefIdeal.main_arg1) = m ((c.tc : Thread Cert.GatherMixRefIdeal.nD Cert.GatherMixRefIdeal.τ).loc Cert.GatherMixRefIdeal.main_arg1)
      ∧ r.2.mem ((c.tc : Thread Cert.GatherMixRefIdeal.nD Cert.GatherMixRefIdeal.τ).loc Cert.GatherMixRefIdeal.main_arg2) = m ((c.tc : Thread Cert.GatherMixRefIdeal.nD Cert.GatherMixRefIdeal.τ).loc Cert.GatherMixRefIdeal.main_arg2)
      ∧ r.2.mem ((c.tc : Thread Cert.GatherMixRefIdeal.nD Cert.GatherMixRefIdeal.τ).loc Cert.GatherMixRefIdeal.main_arg3) = m ((c.tc : Thread Cert.GatherMixRefIdeal.nD Cert.GatherMixRefIdeal.τ).loc Cert.GatherMixRefIdeal.main_arg3)
      ∧ r.2.mem ((c.tc : Thread Cert.GatherMixRefIdeal.nD Cert.GatherMixRefIdeal.τ).loc Cert.GatherMixRefIdeal.main_arg4) = m ((c.tc : Thread Cert.GatherMixRefIdeal.nD Cert.GatherMixRefIdeal.τ).loc Cert.GatherMixRefIdeal.main_arg4)
      ∧ r.2.mem ((c.tc : Thread Cert.GatherMixRefIdeal.nD Cert.GatherMixRefIdeal.τ).loc Cert.GatherMixRefIdeal.main_arg5) = m ((c.tc : Thread Cert.GatherMixRefIdeal.nD Cert.GatherMixRefIdeal.τ).loc Cert.GatherMixRefIdeal.main_arg5)
      ∧ r.2.mem ((c.tc : Thread Cert.GatherMixRefIdeal.nD Cert.GatherMixRefIdeal.τ).loc Cert.GatherMixRefIdeal.main_arg6) = m ((c.tc : Thread Cert.GatherMixRefIdeal.nD Cert.GatherMixRefIdeal.τ).loc Cert.GatherMixRefIdeal.main_arg6))
      ∧ r.2.sem = fun _ => 0)

def quiescent_GatherMixRef [hGatherMixRef : Cert.GatherMixRef.Facts] : Prop :=
  ∀ (m : (ℓ : Loc Cert.GatherMixRef.nD Cert.GatherMixRef.τ Cert.GatherMixRef.sig) → Buf (Elt Bits) ℓ) (g : Dev Cert.GatherMixRef.nD → PrngReg), Pre_GatherMixRef m →
    θ_run (Cert.GatherMixRef.defs (F := Bits)) (onTc (τ := Cert.GatherMixRef.τ) (Cert.GatherMixRef.main (F := Bits))) ⟨m, fun _ => 0, g⟩ (fun r => (∀ c : Dev Cert.GatherMixRef.nD,
      r.2.mem ((c.tc : Thread Cert.GatherMixRef.nD Cert.GatherMixRef.τ).loc Cert.GatherMixRef.main_arg0) = m ((c.tc : Thread Cert.GatherMixRef.nD Cert.GatherMixRef.τ).loc Cert.GatherMixRef.main_arg0)
      ∧ r.2.mem ((c.tc : Thread Cert.GatherMixRef.nD Cert.GatherMixRef.τ).loc Cert.GatherMixRef.main_arg1) = m ((c.tc : Thread Cert.GatherMixRef.nD Cert.GatherMixRef.τ).loc Cert.GatherMixRef.main_arg1)
      ∧ r.2.mem ((c.tc : Thread Cert.GatherMixRef.nD Cert.GatherMixRef.τ).loc Cert.GatherMixRef.main_arg2) = m ((c.tc : Thread Cert.GatherMixRef.nD Cert.GatherMixRef.τ).loc Cert.GatherMixRef.main_arg2)
      ∧ r.2.mem ((c.tc : Thread Cert.GatherMixRef.nD Cert.GatherMixRef.τ).loc Cert.GatherMixRef.main_arg3) = m ((c.tc : Thread Cert.GatherMixRef.nD Cert.GatherMixRef.τ).loc Cert.GatherMixRef.main_arg3)
      ∧ r.2.mem ((c.tc : Thread Cert.GatherMixRef.nD Cert.GatherMixRef.τ).loc Cert.GatherMixRef.main_arg4) = m ((c.tc : Thread Cert.GatherMixRef.nD Cert.GatherMixRef.τ).loc Cert.GatherMixRef.main_arg4)
      ∧ r.2.mem ((c.tc : Thread Cert.GatherMixRef.nD Cert.GatherMixRef.τ).loc Cert.GatherMixRef.main_arg5) = m ((c.tc : Thread Cert.GatherMixRef.nD Cert.GatherMixRef.τ).loc Cert.GatherMixRef.main_arg5)
      ∧ r.2.mem ((c.tc : Thread Cert.GatherMixRef.nD Cert.GatherMixRef.τ).loc Cert.GatherMixRef.main_arg6) = m ((c.tc : Thread Cert.GatherMixRef.nD Cert.GatherMixRef.τ).loc Cert.GatherMixRef.main_arg6))
      ∧ r.2.sem = fun _ => 0)

def quiescent_GatherTwo [hGatherTwo : Cert.GatherTwo.Facts] : Prop :=
  ∀ (m : (ℓ : Loc Cert.GatherTwo.nD Cert.GatherTwo.τ Cert.GatherTwo.sig) → Buf (Elt Bits) ℓ) (g : Dev Cert.GatherTwo.nD → PrngReg), Pre_GatherTwo m →
    θ_run (Cert.GatherTwo.defs (F := Bits)) (onTc (τ := Cert.GatherTwo.τ) (Cert.GatherTwo.main (F := Bits))) ⟨m, fun _ => 0, g⟩ (fun r => (∀ c : Dev Cert.GatherTwo.nD,
      r.2.mem ((c.tc : Thread Cert.GatherTwo.nD Cert.GatherTwo.τ).loc Cert.GatherTwo.main_arg0) = m ((c.tc : Thread Cert.GatherTwo.nD Cert.GatherTwo.τ).loc Cert.GatherTwo.main_arg0)
      ∧ r.2.mem ((c.tc : Thread Cert.GatherTwo.nD Cert.GatherTwo.τ).loc Cert.GatherTwo.main_arg1) = m ((c.tc : Thread Cert.GatherTwo.nD Cert.GatherTwo.τ).loc Cert.GatherTwo.main_arg1))
      ∧ r.2.sem = fun _ => 0)

def quiescent_GatherTwoIdeal [hGatherTwoIdeal : Cert.GatherTwoIdeal.Facts] : Prop :=
  ∀ (m : (ℓ : Loc Cert.GatherTwoIdeal.nD Cert.GatherTwoIdeal.τ Cert.GatherTwoIdeal.sig) → Buf (Elt Ideal) ℓ) (g : Dev Cert.GatherTwoIdeal.nD → PrngReg), Pre_GatherTwoIdeal m →
    θ_run (Cert.GatherTwoIdeal.defs (F := Ideal)) (onTc (τ := Cert.GatherTwoIdeal.τ) (Cert.GatherTwoIdeal.main (F := Ideal))) ⟨m, fun _ => 0, g⟩ (fun r => (∀ c : Dev Cert.GatherTwoIdeal.nD,
      r.2.mem ((c.tc : Thread Cert.GatherTwoIdeal.nD Cert.GatherTwoIdeal.τ).loc Cert.GatherTwoIdeal.main_arg0) = m ((c.tc : Thread Cert.GatherTwoIdeal.nD Cert.GatherTwoIdeal.τ).loc Cert.GatherTwoIdeal.main_arg0)
      ∧ r.2.mem ((c.tc : Thread Cert.GatherTwoIdeal.nD Cert.GatherTwoIdeal.τ).loc Cert.GatherTwoIdeal.main_arg1) = m ((c.tc : Thread Cert.GatherTwoIdeal.nD Cert.GatherTwoIdeal.τ).loc Cert.GatherTwoIdeal.main_arg1))
      ∧ r.2.sem = fun _ => 0)

def quiescent_GatherTwoRefIdeal [hGatherTwoRefIdeal : Cert.GatherTwoRefIdeal.Facts] : Prop :=
  ∀ (m : (ℓ : Loc Cert.GatherTwoRefIdeal.nD Cert.GatherTwoRefIdeal.τ Cert.GatherTwoRefIdeal.sig) → Buf (Elt Ideal) ℓ) (g : Dev Cert.GatherTwoRefIdeal.nD → PrngReg), Pre_GatherTwoRefIdeal m →
    θ_run (Cert.GatherTwoRefIdeal.defs (F := Ideal)) (onTc (τ := Cert.GatherTwoRefIdeal.τ) (Cert.GatherTwoRefIdeal.main (F := Ideal))) ⟨m, fun _ => 0, g⟩ (fun r => (∀ c : Dev Cert.GatherTwoRefIdeal.nD,
      r.2.mem ((c.tc : Thread Cert.GatherTwoRefIdeal.nD Cert.GatherTwoRefIdeal.τ).loc Cert.GatherTwoRefIdeal.main_arg0) = m ((c.tc : Thread Cert.GatherTwoRefIdeal.nD Cert.GatherTwoRefIdeal.τ).loc Cert.GatherTwoRefIdeal.main_arg0)
      ∧ r.2.mem ((c.tc : Thread Cert.GatherTwoRefIdeal.nD Cert.GatherTwoRefIdeal.τ).loc Cert.GatherTwoRefIdeal.main_arg1) = m ((c.tc : Thread Cert.GatherTwoRefIdeal.nD Cert.GatherTwoRefIdeal.τ).loc Cert.GatherTwoRefIdeal.main_arg1))
      ∧ r.2.sem = fun _ => 0)

def quiescent_GatherTwoRef [hGatherTwoRef : Cert.GatherTwoRef.Facts] : Prop :=
  ∀ (m : (ℓ : Loc Cert.GatherTwoRef.nD Cert.GatherTwoRef.τ Cert.GatherTwoRef.sig) → Buf (Elt Bits) ℓ) (g : Dev Cert.GatherTwoRef.nD → PrngReg), Pre_GatherTwoRef m →
    θ_run (Cert.GatherTwoRef.defs (F := Bits)) (onTc (τ := Cert.GatherTwoRef.τ) (Cert.GatherTwoRef.main (F := Bits))) ⟨m, fun _ => 0, g⟩ (fun r => (∀ c : Dev Cert.GatherTwoRef.nD,
      r.2.mem ((c.tc : Thread Cert.GatherTwoRef.nD Cert.GatherTwoRef.τ).loc Cert.GatherTwoRef.main_arg0) = m ((c.tc : Thread Cert.GatherTwoRef.nD Cert.GatherTwoRef.τ).loc Cert.GatherTwoRef.main_arg0)
      ∧ r.2.mem ((c.tc : Thread Cert.GatherTwoRef.nD Cert.GatherTwoRef.τ).loc Cert.GatherTwoRef.main_arg1) = m ((c.tc : Thread Cert.GatherTwoRef.nD Cert.GatherTwoRef.τ).loc Cert.GatherTwoRef.main_arg1))
      ∧ r.2.sem = fun _ => 0)

def quiescent_GatherOne [hGatherOne : Cert.GatherOne.Facts] : Prop :=
  ∀ (m : (ℓ : Loc Cert.GatherOne.nD Cert.GatherOne.τ Cert.GatherOne.sig) → Buf (Elt Bits) ℓ) (g : Dev Cert.GatherOne.nD → PrngReg), Pre_GatherOne m →
    θ_run (Cert.GatherOne.defs (F := Bits)) (onTc (τ := Cert.GatherOne.τ) (Cert.GatherOne.main (F := Bits))) ⟨m, fun _ => 0, g⟩ (fun r => (∀ c : Dev Cert.GatherOne.nD,
      r.2.mem ((c.tc : Thread Cert.GatherOne.nD Cert.GatherOne.τ).loc Cert.GatherOne.main_arg0) = m ((c.tc : Thread Cert.GatherOne.nD Cert.GatherOne.τ).loc Cert.GatherOne.main_arg0))
      ∧ r.2.sem = fun _ => 0)

def quiescent_GatherOneIdeal [hGatherOneIdeal : Cert.GatherOneIdeal.Facts] : Prop :=
  ∀ (m : (ℓ : Loc Cert.GatherOneIdeal.nD Cert.GatherOneIdeal.τ Cert.GatherOneIdeal.sig) → Buf (Elt Ideal) ℓ) (g : Dev Cert.GatherOneIdeal.nD → PrngReg), Pre_GatherOneIdeal m →
    θ_run (Cert.GatherOneIdeal.defs (F := Ideal)) (onTc (τ := Cert.GatherOneIdeal.τ) (Cert.GatherOneIdeal.main (F := Ideal))) ⟨m, fun _ => 0, g⟩ (fun r => (∀ c : Dev Cert.GatherOneIdeal.nD,
      r.2.mem ((c.tc : Thread Cert.GatherOneIdeal.nD Cert.GatherOneIdeal.τ).loc Cert.GatherOneIdeal.main_arg0) = m ((c.tc : Thread Cert.GatherOneIdeal.nD Cert.GatherOneIdeal.τ).loc Cert.GatherOneIdeal.main_arg0))
      ∧ r.2.sem = fun _ => 0)

def quiescent_GatherOneRefIdeal [hGatherOneRefIdeal : Cert.GatherOneRefIdeal.Facts] : Prop :=
  ∀ (m : (ℓ : Loc Cert.GatherOneRefIdeal.nD Cert.GatherOneRefIdeal.τ Cert.GatherOneRefIdeal.sig) → Buf (Elt Ideal) ℓ) (g : Dev Cert.GatherOneRefIdeal.nD → PrngReg), Pre_GatherOneRefIdeal m →
    θ_run (Cert.GatherOneRefIdeal.defs (F := Ideal)) (onTc (τ := Cert.GatherOneRefIdeal.τ) (Cert.GatherOneRefIdeal.main (F := Ideal))) ⟨m, fun _ => 0, g⟩ (fun r => (∀ c : Dev Cert.GatherOneRefIdeal.nD,
      r.2.mem ((c.tc : Thread Cert.GatherOneRefIdeal.nD Cert.GatherOneRefIdeal.τ).loc Cert.GatherOneRefIdeal.main_arg0) = m ((c.tc : Thread Cert.GatherOneRefIdeal.nD Cert.GatherOneRefIdeal.τ).loc Cert.GatherOneRefIdeal.main_arg0))
      ∧ r.2.sem = fun _ => 0)

def quiescent_GatherOneRef [hGatherOneRef : Cert.GatherOneRef.Facts] : Prop :=
  ∀ (m : (ℓ : Loc Cert.GatherOneRef.nD Cert.GatherOneRef.τ Cert.GatherOneRef.sig) → Buf (Elt Bits) ℓ) (g : Dev Cert.GatherOneRef.nD → PrngReg), Pre_GatherOneRef m →
    θ_run (Cert.GatherOneRef.defs (F := Bits)) (onTc (τ := Cert.GatherOneRef.τ) (Cert.GatherOneRef.main (F := Bits))) ⟨m, fun _ => 0, g⟩ (fun r => (∀ c : Dev Cert.GatherOneRef.nD,
      r.2.mem ((c.tc : Thread Cert.GatherOneRef.nD Cert.GatherOneRef.τ).loc Cert.GatherOneRef.main_arg0) = m ((c.tc : Thread Cert.GatherOneRef.nD Cert.GatherOneRef.τ).loc Cert.GatherOneRef.main_arg0))
      ∧ r.2.sem = fun _ => 0)

def quiescent_Everyone [hEveryone : Cert.Everyone.Facts] : Prop :=
  ∀ (m : (ℓ : Loc Cert.Everyone.nD Cert.Everyone.τ Cert.Everyone.sig) → Buf (Elt Bits) ℓ) (g : Dev Cert.Everyone.nD → PrngReg), Pre_Everyone m →
    θ_run (Cert.Everyone.defs (F := Bits)) (onTc (τ := Cert.Everyone.τ) (Cert.Everyone.main (F := Bits))) ⟨m, fun _ => 0, g⟩ (fun r => (∀ c : Dev Cert.Everyone.nD,
      r.2.mem ((c.tc : Thread Cert.Everyone.nD Cert.Everyone.τ).loc Cert.Everyone.main_arg0) = m ((c.tc : Thread Cert.Everyone.nD Cert.Everyone.τ).loc Cert.Everyone.main_arg0))
      ∧ r.2.sem = fun _ => 0)

def quiescent_EveryoneIdeal [hEveryoneIdeal : Cert.EveryoneIdeal.Facts] : Prop :=
  ∀ (m : (ℓ : Loc Cert.EveryoneIdeal.nD Cert.EveryoneIdeal.τ Cert.EveryoneIdeal.sig) → Buf (Elt Ideal) ℓ) (g : Dev Cert.EveryoneIdeal.nD → PrngReg), Pre_EveryoneIdeal m →
    θ_run (Cert.EveryoneIdeal.defs (F := Ideal)) (onTc (τ := Cert.EveryoneIdeal.τ) (Cert.EveryoneIdeal.main (F := Ideal))) ⟨m, fun _ => 0, g⟩ (fun r => (∀ c : Dev Cert.EveryoneIdeal.nD,
      r.2.mem ((c.tc : Thread Cert.EveryoneIdeal.nD Cert.EveryoneIdeal.τ).loc Cert.EveryoneIdeal.main_arg0) = m ((c.tc : Thread Cert.EveryoneIdeal.nD Cert.EveryoneIdeal.τ).loc Cert.EveryoneIdeal.main_arg0))
      ∧ r.2.sem = fun _ => 0)

def quiescent_EveryoneRefIdeal [hEveryoneRefIdeal : Cert.EveryoneRefIdeal.Facts] : Prop :=
  ∀ (m : (ℓ : Loc Cert.EveryoneRefIdeal.nD Cert.EveryoneRefIdeal.τ Cert.EveryoneRefIdeal.sig) → Buf (Elt Ideal) ℓ) (g : Dev Cert.EveryoneRefIdeal.nD → PrngReg), Pre_EveryoneRefIdeal m →
    θ_run (Cert.EveryoneRefIdeal.defs (F := Ideal)) (onTc (τ := Cert.EveryoneRefIdeal.τ) (Cert.EveryoneRefIdeal.main (F := Ideal))) ⟨m, fun _ => 0, g⟩ (fun r => (∀ c : Dev Cert.EveryoneRefIdeal.nD,
      r.2.mem ((c.tc : Thread Cert.EveryoneRefIdeal.nD Cert.EveryoneRefIdeal.τ).loc Cert.EveryoneRefIdeal.main_arg0) = m ((c.tc : Thread Cert.EveryoneRefIdeal.nD Cert.EveryoneRefIdeal.τ).loc Cert.EveryoneRefIdeal.main_arg0))
      ∧ r.2.sem = fun _ => 0)

def quiescent_EveryoneRef [hEveryoneRef : Cert.EveryoneRef.Facts] : Prop :=
  ∀ (m : (ℓ : Loc Cert.EveryoneRef.nD Cert.EveryoneRef.τ Cert.EveryoneRef.sig) → Buf (Elt Bits) ℓ) (g : Dev Cert.EveryoneRef.nD → PrngReg), Pre_EveryoneRef m →
    θ_run (Cert.EveryoneRef.defs (F := Bits)) (onTc (τ := Cert.EveryoneRef.τ) (Cert.EveryoneRef.main (F := Bits))) ⟨m, fun _ => 0, g⟩ (fun r => (∀ c : Dev Cert.EveryoneRef.nD,
      r.2.mem ((c.tc : Thread Cert.EveryoneRef.nD Cert.EveryoneRef.τ).loc Cert.EveryoneRef.main_arg0) = m ((c.tc : Thread Cert.EveryoneRef.nD Cert.EveryoneRef.τ).loc Cert.EveryoneRef.main_arg0))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3)
      ∧ r.2.mem ((c.tc : Thread Cert.AdamW.nD Cert.AdamW.τ).loc Cert.AdamW.main_arg4) = m ((c.tc : Thread Cert.AdamW.nD Cert.AdamW.τ).loc Cert.AdamW.main_arg4))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
      ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3)
      ∧ r.2.mem ((c.tc : Thread Cert.AdamWRefIdeal.nD Cert.AdamWRefIdeal.τ).loc Cert.AdamWRefIdeal.main_arg4) = m ((c.tc : Thread Cert.AdamWRefIdeal.nD Cert.AdamWRefIdeal.τ).loc Cert.AdamWRefIdeal.main_arg4))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3)
      ∧ r.2.mem ((c.tc : Thread Cert.AdamWIn.nD Cert.AdamWIn.τ).loc Cert.AdamWIn.main_arg4) = m ((c.tc : Thread Cert.AdamWIn.nD Cert.AdamWIn.τ).loc Cert.AdamWIn.main_arg4))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3)
      ∧ r.2.mem ((c.tc : Thread Cert.AdamWInIdeal.nD Cert.AdamWInIdeal.τ).loc Cert.AdamWInIdeal.main_arg4) = m ((c.tc : Thread Cert.AdamWInIdeal.nD Cert.AdamWInIdeal.τ).loc Cert.AdamWInIdeal.main_arg4))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3)
      ∧ r.2.mem ((c.tc : Thread Cert.AdamWInRefIdeal.nD Cert.AdamWInRefIdeal.τ).loc Cert.AdamWInRefIdeal.main_arg4) = m ((c.tc : Thread Cert.AdamWInRefIdeal.nD Cert.AdamWInRefIdeal.τ).loc Cert.AdamWInRefIdeal.main_arg4))
      ∧ r.2.sem = fun _ => 0)

def quiescent_AdamWSquare [hAdamWSquare : Cert.AdamWSquare.Facts] : Prop :=
  ∀ (m : (ℓ : Loc Cert.AdamWSquare.nD Cert.AdamWSquare.τ Cert.AdamWSquare.sig) → Buf (Elt Bits) ℓ) (g : Dev Cert.AdamWSquare.nD → PrngReg), Pre_AdamWSquare m →
    θ_run (Cert.AdamWSquare.defs (F := Bits)) (onTc (τ := Cert.AdamWSquare.τ) (Cert.AdamWSquare.main (F := Bits))) ⟨m, fun _ => 0, g⟩ (fun r => (∀ c : Dev Cert.AdamWSquare.nD,
      r.2.mem ((c.tc : Thread Cert.AdamWSquare.nD Cert.AdamWSquare.τ).loc Cert.AdamWSquare.main_arg0) = m ((c.tc : Thread Cert.AdamWSquare.nD Cert.AdamWSquare.τ).loc Cert.AdamWSquare.main_arg0)
      ∧ r.2.mem ((c.tc : Thread Cert.AdamWSquare.nD Cert.AdamWSquare.τ).loc Cert.AdamWSquare.main_arg1) = m ((c.tc : Thread Cert.AdamWSquare.nD Cert.AdamWSquare.τ).loc Cert.AdamWSquare.main_arg1)
      ∧ r.2.mem ((c.tc : Thread Cert.AdamWSquare.nD Cert.AdamWSquare.τ).loc Cert.AdamWSquare.main_arg2) = m ((c.tc : Thread Cert.AdamWSquare.nD Cert.AdamWSquare.τ).loc Cert.AdamWSquare.main_arg2)
      ∧ r.2.mem ((c.tc : Thread Cert.AdamWSquare.nD Cert.AdamWSquare.τ).loc Cert.AdamWSquare.main_arg3) = m ((c.tc : Thread Cert.AdamWSquare.nD Cert.AdamWSquare.τ).loc Cert.AdamWSquare.main_arg3)
      ∧ r.2.mem ((c.tc : Thread Cert.AdamWSquare.nD Cert.AdamWSquare.τ).loc Cert.AdamWSquare.main_arg4) = m ((c.tc : Thread Cert.AdamWSquare.nD Cert.AdamWSquare.τ).loc Cert.AdamWSquare.main_arg4))
      ∧ r.2.sem = fun _ => 0)

def quiescent_AdamWSquareIdeal [hAdamWSquareIdeal : Cert.AdamWSquareIdeal.Facts] : Prop :=
  ∀ (m : (ℓ : Loc Cert.AdamWSquareIdeal.nD Cert.AdamWSquareIdeal.τ Cert.AdamWSquareIdeal.sig) → Buf (Elt Ideal) ℓ) (g : Dev Cert.AdamWSquareIdeal.nD → PrngReg), Pre_AdamWSquareIdeal m →
    θ_run (Cert.AdamWSquareIdeal.defs (F := Ideal)) (onTc (τ := Cert.AdamWSquareIdeal.τ) (Cert.AdamWSquareIdeal.main (F := Ideal))) ⟨m, fun _ => 0, g⟩ (fun r => (∀ c : Dev Cert.AdamWSquareIdeal.nD,
      r.2.mem ((c.tc : Thread Cert.AdamWSquareIdeal.nD Cert.AdamWSquareIdeal.τ).loc Cert.AdamWSquareIdeal.main_arg0) = m ((c.tc : Thread Cert.AdamWSquareIdeal.nD Cert.AdamWSquareIdeal.τ).loc Cert.AdamWSquareIdeal.main_arg0)
      ∧ r.2.mem ((c.tc : Thread Cert.AdamWSquareIdeal.nD Cert.AdamWSquareIdeal.τ).loc Cert.AdamWSquareIdeal.main_arg1) = m ((c.tc : Thread Cert.AdamWSquareIdeal.nD Cert.AdamWSquareIdeal.τ).loc Cert.AdamWSquareIdeal.main_arg1)
      ∧ r.2.mem ((c.tc : Thread Cert.AdamWSquareIdeal.nD Cert.AdamWSquareIdeal.τ).loc Cert.AdamWSquareIdeal.main_arg2) = m ((c.tc : Thread Cert.AdamWSquareIdeal.nD Cert.AdamWSquareIdeal.τ).loc Cert.AdamWSquareIdeal.main_arg2)
      ∧ r.2.mem ((c.tc : Thread Cert.AdamWSquareIdeal.nD Cert.AdamWSquareIdeal.τ).loc Cert.AdamWSquareIdeal.main_arg3) = m ((c.tc : Thread Cert.AdamWSquareIdeal.nD Cert.AdamWSquareIdeal.τ).loc Cert.AdamWSquareIdeal.main_arg3)
      ∧ r.2.mem ((c.tc : Thread Cert.AdamWSquareIdeal.nD Cert.AdamWSquareIdeal.τ).loc Cert.AdamWSquareIdeal.main_arg4) = m ((c.tc : Thread Cert.AdamWSquareIdeal.nD Cert.AdamWSquareIdeal.τ).loc Cert.AdamWSquareIdeal.main_arg4))
      ∧ r.2.sem = fun _ => 0)

def quiescent_AdamWSquareRefIdeal [hAdamWSquareRefIdeal : Cert.AdamWSquareRefIdeal.Facts] : Prop :=
  ∀ (m : (ℓ : Loc Cert.AdamWSquareRefIdeal.nD Cert.AdamWSquareRefIdeal.τ Cert.AdamWSquareRefIdeal.sig) → Buf (Elt Ideal) ℓ) (g : Dev Cert.AdamWSquareRefIdeal.nD → PrngReg), Pre_AdamWSquareRefIdeal m →
    θ_run (Cert.AdamWSquareRefIdeal.defs (F := Ideal)) (onTc (τ := Cert.AdamWSquareRefIdeal.τ) (Cert.AdamWSquareRefIdeal.main (F := Ideal))) ⟨m, fun _ => 0, g⟩ (fun r => (∀ c : Dev Cert.AdamWSquareRefIdeal.nD,
      r.2.mem ((c.tc : Thread Cert.AdamWSquareRefIdeal.nD Cert.AdamWSquareRefIdeal.τ).loc Cert.AdamWSquareRefIdeal.main_arg0) = m ((c.tc : Thread Cert.AdamWSquareRefIdeal.nD Cert.AdamWSquareRefIdeal.τ).loc Cert.AdamWSquareRefIdeal.main_arg0)
      ∧ r.2.mem ((c.tc : Thread Cert.AdamWSquareRefIdeal.nD Cert.AdamWSquareRefIdeal.τ).loc Cert.AdamWSquareRefIdeal.main_arg1) = m ((c.tc : Thread Cert.AdamWSquareRefIdeal.nD Cert.AdamWSquareRefIdeal.τ).loc Cert.AdamWSquareRefIdeal.main_arg1)
      ∧ r.2.mem ((c.tc : Thread Cert.AdamWSquareRefIdeal.nD Cert.AdamWSquareRefIdeal.τ).loc Cert.AdamWSquareRefIdeal.main_arg2) = m ((c.tc : Thread Cert.AdamWSquareRefIdeal.nD Cert.AdamWSquareRefIdeal.τ).loc Cert.AdamWSquareRefIdeal.main_arg2)
      ∧ r.2.mem ((c.tc : Thread Cert.AdamWSquareRefIdeal.nD Cert.AdamWSquareRefIdeal.τ).loc Cert.AdamWSquareRefIdeal.main_arg3) = m ((c.tc : Thread Cert.AdamWSquareRefIdeal.nD Cert.AdamWSquareRefIdeal.τ).loc Cert.AdamWSquareRefIdeal.main_arg3)
      ∧ r.2.mem ((c.tc : Thread Cert.AdamWSquareRefIdeal.nD Cert.AdamWSquareRefIdeal.τ).loc Cert.AdamWSquareRefIdeal.main_arg4) = m ((c.tc : Thread Cert.AdamWSquareRefIdeal.nD Cert.AdamWSquareRefIdeal.τ).loc Cert.AdamWSquareRefIdeal.main_arg4))
      ∧ r.2.sem = fun _ => 0)

def quiescent_AdamWHalf [hAdamWHalf : Cert.AdamWHalf.Facts] : Prop :=
  ∀ (m : (ℓ : Loc Cert.AdamWHalf.nD Cert.AdamWHalf.τ Cert.AdamWHalf.sig) → Buf (Elt Bits) ℓ) (g : Dev Cert.AdamWHalf.nD → PrngReg), Pre_AdamWHalf m →
    θ_run (Cert.AdamWHalf.defs (F := Bits)) (onTc (τ := Cert.AdamWHalf.τ) (Cert.AdamWHalf.main (F := Bits))) ⟨m, fun _ => 0, g⟩ (fun r => (∀ c : Dev Cert.AdamWHalf.nD,
      r.2.mem ((c.tc : Thread Cert.AdamWHalf.nD Cert.AdamWHalf.τ).loc Cert.AdamWHalf.main_arg0) = m ((c.tc : Thread Cert.AdamWHalf.nD Cert.AdamWHalf.τ).loc Cert.AdamWHalf.main_arg0)
      ∧ r.2.mem ((c.tc : Thread Cert.AdamWHalf.nD Cert.AdamWHalf.τ).loc Cert.AdamWHalf.main_arg1) = m ((c.tc : Thread Cert.AdamWHalf.nD Cert.AdamWHalf.τ).loc Cert.AdamWHalf.main_arg1)
      ∧ r.2.mem ((c.tc : Thread Cert.AdamWHalf.nD Cert.AdamWHalf.τ).loc Cert.AdamWHalf.main_arg2) = m ((c.tc : Thread Cert.AdamWHalf.nD Cert.AdamWHalf.τ).loc Cert.AdamWHalf.main_arg2)
      ∧ r.2.mem ((c.tc : Thread Cert.AdamWHalf.nD Cert.AdamWHalf.τ).loc Cert.AdamWHalf.main_arg3) = m ((c.tc : Thread Cert.AdamWHalf.nD Cert.AdamWHalf.τ).loc Cert.AdamWHalf.main_arg3)
      ∧ r.2.mem ((c.tc : Thread Cert.AdamWHalf.nD Cert.AdamWHalf.τ).loc Cert.AdamWHalf.main_arg4) = m ((c.tc : Thread Cert.AdamWHalf.nD Cert.AdamWHalf.τ).loc Cert.AdamWHalf.main_arg4))
      ∧ r.2.sem = fun _ => 0)

def quiescent_AdamWHalfIdeal [hAdamWHalfIdeal : Cert.AdamWHalfIdeal.Facts] : Prop :=
  ∀ (m : (ℓ : Loc Cert.AdamWHalfIdeal.nD Cert.AdamWHalfIdeal.τ Cert.AdamWHalfIdeal.sig) → Buf (Elt Ideal) ℓ) (g : Dev Cert.AdamWHalfIdeal.nD → PrngReg), Pre_AdamWHalfIdeal m →
    θ_run (Cert.AdamWHalfIdeal.defs (F := Ideal)) (onTc (τ := Cert.AdamWHalfIdeal.τ) (Cert.AdamWHalfIdeal.main (F := Ideal))) ⟨m, fun _ => 0, g⟩ (fun r => (∀ c : Dev Cert.AdamWHalfIdeal.nD,
      r.2.mem ((c.tc : Thread Cert.AdamWHalfIdeal.nD Cert.AdamWHalfIdeal.τ).loc Cert.AdamWHalfIdeal.main_arg0) = m ((c.tc : Thread Cert.AdamWHalfIdeal.nD Cert.AdamWHalfIdeal.τ).loc Cert.AdamWHalfIdeal.main_arg0)
      ∧ r.2.mem ((c.tc : Thread Cert.AdamWHalfIdeal.nD Cert.AdamWHalfIdeal.τ).loc Cert.AdamWHalfIdeal.main_arg1) = m ((c.tc : Thread Cert.AdamWHalfIdeal.nD Cert.AdamWHalfIdeal.τ).loc Cert.AdamWHalfIdeal.main_arg1)
      ∧ r.2.mem ((c.tc : Thread Cert.AdamWHalfIdeal.nD Cert.AdamWHalfIdeal.τ).loc Cert.AdamWHalfIdeal.main_arg2) = m ((c.tc : Thread Cert.AdamWHalfIdeal.nD Cert.AdamWHalfIdeal.τ).loc Cert.AdamWHalfIdeal.main_arg2)
      ∧ r.2.mem ((c.tc : Thread Cert.AdamWHalfIdeal.nD Cert.AdamWHalfIdeal.τ).loc Cert.AdamWHalfIdeal.main_arg3) = m ((c.tc : Thread Cert.AdamWHalfIdeal.nD Cert.AdamWHalfIdeal.τ).loc Cert.AdamWHalfIdeal.main_arg3)
      ∧ r.2.mem ((c.tc : Thread Cert.AdamWHalfIdeal.nD Cert.AdamWHalfIdeal.τ).loc Cert.AdamWHalfIdeal.main_arg4) = m ((c.tc : Thread Cert.AdamWHalfIdeal.nD Cert.AdamWHalfIdeal.τ).loc Cert.AdamWHalfIdeal.main_arg4))
      ∧ r.2.sem = fun _ => 0)

def quiescent_AdamWHalfRefIdeal [hAdamWHalfRefIdeal : Cert.AdamWHalfRefIdeal.Facts] : Prop :=
  ∀ (m : (ℓ : Loc Cert.AdamWHalfRefIdeal.nD Cert.AdamWHalfRefIdeal.τ Cert.AdamWHalfRefIdeal.sig) → Buf (Elt Ideal) ℓ) (g : Dev Cert.AdamWHalfRefIdeal.nD → PrngReg), Pre_AdamWHalfRefIdeal m →
    θ_run (Cert.AdamWHalfRefIdeal.defs (F := Ideal)) (onTc (τ := Cert.AdamWHalfRefIdeal.τ) (Cert.AdamWHalfRefIdeal.main (F := Ideal))) ⟨m, fun _ => 0, g⟩ (fun r => (∀ c : Dev Cert.AdamWHalfRefIdeal.nD,
      r.2.mem ((c.tc : Thread Cert.AdamWHalfRefIdeal.nD Cert.AdamWHalfRefIdeal.τ).loc Cert.AdamWHalfRefIdeal.main_arg0) = m ((c.tc : Thread Cert.AdamWHalfRefIdeal.nD Cert.AdamWHalfRefIdeal.τ).loc Cert.AdamWHalfRefIdeal.main_arg0)
      ∧ r.2.mem ((c.tc : Thread Cert.AdamWHalfRefIdeal.nD Cert.AdamWHalfRefIdeal.τ).loc Cert.AdamWHalfRefIdeal.main_arg1) = m ((c.tc : Thread Cert.AdamWHalfRefIdeal.nD Cert.AdamWHalfRefIdeal.τ).loc Cert.AdamWHalfRefIdeal.main_arg1)
      ∧ r.2.mem ((c.tc : Thread Cert.AdamWHalfRefIdeal.nD Cert.AdamWHalfRefIdeal.τ).loc Cert.AdamWHalfRefIdeal.main_arg2) = m ((c.tc : Thread Cert.AdamWHalfRefIdeal.nD Cert.AdamWHalfRefIdeal.τ).loc Cert.AdamWHalfRefIdeal.main_arg2)
      ∧ r.2.mem ((c.tc : Thread Cert.AdamWHalfRefIdeal.nD Cert.AdamWHalfRefIdeal.τ).loc Cert.AdamWHalfRefIdeal.main_arg3) = m ((c.tc : Thread Cert.AdamWHalfRefIdeal.nD Cert.AdamWHalfRefIdeal.τ).loc Cert.AdamWHalfRefIdeal.main_arg3)
      ∧ r.2.mem ((c.tc : Thread Cert.AdamWHalfRefIdeal.nD Cert.AdamWHalfRefIdeal.τ).loc Cert.AdamWHalfRefIdeal.main_arg4) = m ((c.tc : Thread Cert.AdamWHalfRefIdeal.nD Cert.AdamWHalfRefIdeal.τ).loc Cert.AdamWHalfRefIdeal.main_arg4))
      ∧ r.2.sem = fun _ => 0)

def quiescent_AdamWSmall [hAdamWSmall : Cert.AdamWSmall.Facts] : Prop :=
  ∀ (m : (ℓ : Loc Cert.AdamWSmall.nD Cert.AdamWSmall.τ Cert.AdamWSmall.sig) → Buf (Elt Bits) ℓ) (g : Dev Cert.AdamWSmall.nD → PrngReg), Pre_AdamWSmall m →
    θ_run (Cert.AdamWSmall.defs (F := Bits)) (onTc (τ := Cert.AdamWSmall.τ) (Cert.AdamWSmall.main (F := Bits))) ⟨m, fun _ => 0, g⟩ (fun r => (∀ c : Dev Cert.AdamWSmall.nD,
      r.2.mem ((c.tc : Thread Cert.AdamWSmall.nD Cert.AdamWSmall.τ).loc Cert.AdamWSmall.main_arg0) = m ((c.tc : Thread Cert.AdamWSmall.nD Cert.AdamWSmall.τ).loc Cert.AdamWSmall.main_arg0)
      ∧ r.2.mem ((c.tc : Thread Cert.AdamWSmall.nD Cert.AdamWSmall.τ).loc Cert.AdamWSmall.main_arg1) = m ((c.tc : Thread Cert.AdamWSmall.nD Cert.AdamWSmall.τ).loc Cert.AdamWSmall.main_arg1)
      ∧ r.2.mem ((c.tc : Thread Cert.AdamWSmall.nD Cert.AdamWSmall.τ).loc Cert.AdamWSmall.main_arg2) = m ((c.tc : Thread Cert.AdamWSmall.nD Cert.AdamWSmall.τ).loc Cert.AdamWSmall.main_arg2)
      ∧ r.2.mem ((c.tc : Thread Cert.AdamWSmall.nD Cert.AdamWSmall.τ).loc Cert.AdamWSmall.main_arg3) = m ((c.tc : Thread Cert.AdamWSmall.nD Cert.AdamWSmall.τ).loc Cert.AdamWSmall.main_arg3))
      ∧ r.2.sem = fun _ => 0)

def quiescent_AdamWSmallIdeal [hAdamWSmallIdeal : Cert.AdamWSmallIdeal.Facts] : Prop :=
  ∀ (m : (ℓ : Loc Cert.AdamWSmallIdeal.nD Cert.AdamWSmallIdeal.τ Cert.AdamWSmallIdeal.sig) → Buf (Elt Ideal) ℓ) (g : Dev Cert.AdamWSmallIdeal.nD → PrngReg), Pre_AdamWSmallIdeal m →
    θ_run (Cert.AdamWSmallIdeal.defs (F := Ideal)) (onTc (τ := Cert.AdamWSmallIdeal.τ) (Cert.AdamWSmallIdeal.main (F := Ideal))) ⟨m, fun _ => 0, g⟩ (fun r => (∀ c : Dev Cert.AdamWSmallIdeal.nD,
      r.2.mem ((c.tc : Thread Cert.AdamWSmallIdeal.nD Cert.AdamWSmallIdeal.τ).loc Cert.AdamWSmallIdeal.main_arg0) = m ((c.tc : Thread Cert.AdamWSmallIdeal.nD Cert.AdamWSmallIdeal.τ).loc Cert.AdamWSmallIdeal.main_arg0)
      ∧ r.2.mem ((c.tc : Thread Cert.AdamWSmallIdeal.nD Cert.AdamWSmallIdeal.τ).loc Cert.AdamWSmallIdeal.main_arg1) = m ((c.tc : Thread Cert.AdamWSmallIdeal.nD Cert.AdamWSmallIdeal.τ).loc Cert.AdamWSmallIdeal.main_arg1)
      ∧ r.2.mem ((c.tc : Thread Cert.AdamWSmallIdeal.nD Cert.AdamWSmallIdeal.τ).loc Cert.AdamWSmallIdeal.main_arg2) = m ((c.tc : Thread Cert.AdamWSmallIdeal.nD Cert.AdamWSmallIdeal.τ).loc Cert.AdamWSmallIdeal.main_arg2)
      ∧ r.2.mem ((c.tc : Thread Cert.AdamWSmallIdeal.nD Cert.AdamWSmallIdeal.τ).loc Cert.AdamWSmallIdeal.main_arg3) = m ((c.tc : Thread Cert.AdamWSmallIdeal.nD Cert.AdamWSmallIdeal.τ).loc Cert.AdamWSmallIdeal.main_arg3))
      ∧ r.2.sem = fun _ => 0)

def quiescent_AdamWSmallRefIdeal [hAdamWSmallRefIdeal : Cert.AdamWSmallRefIdeal.Facts] : Prop :=
  ∀ (m : (ℓ : Loc Cert.AdamWSmallRefIdeal.nD Cert.AdamWSmallRefIdeal.τ Cert.AdamWSmallRefIdeal.sig) → Buf (Elt Ideal) ℓ) (g : Dev Cert.AdamWSmallRefIdeal.nD → PrngReg), Pre_AdamWSmallRefIdeal m →
    θ_run (Cert.AdamWSmallRefIdeal.defs (F := Ideal)) (onTc (τ := Cert.AdamWSmallRefIdeal.τ) (Cert.AdamWSmallRefIdeal.main (F := Ideal))) ⟨m, fun _ => 0, g⟩ (fun r => (∀ c : Dev Cert.AdamWSmallRefIdeal.nD,
      r.2.mem ((c.tc : Thread Cert.AdamWSmallRefIdeal.nD Cert.AdamWSmallRefIdeal.τ).loc Cert.AdamWSmallRefIdeal.main_arg0) = m ((c.tc : Thread Cert.AdamWSmallRefIdeal.nD Cert.AdamWSmallRefIdeal.τ).loc Cert.AdamWSmallRefIdeal.main_arg0)
      ∧ r.2.mem ((c.tc : Thread Cert.AdamWSmallRefIdeal.nD Cert.AdamWSmallRefIdeal.τ).loc Cert.AdamWSmallRefIdeal.main_arg1) = m ((c.tc : Thread Cert.AdamWSmallRefIdeal.nD Cert.AdamWSmallRefIdeal.τ).loc Cert.AdamWSmallRefIdeal.main_arg1)
      ∧ r.2.mem ((c.tc : Thread Cert.AdamWSmallRefIdeal.nD Cert.AdamWSmallRefIdeal.τ).loc Cert.AdamWSmallRefIdeal.main_arg2) = m ((c.tc : Thread Cert.AdamWSmallRefIdeal.nD Cert.AdamWSmallRefIdeal.τ).loc Cert.AdamWSmallRefIdeal.main_arg2)
      ∧ r.2.mem ((c.tc : Thread Cert.AdamWSmallRefIdeal.nD Cert.AdamWSmallRefIdeal.τ).loc Cert.AdamWSmallRefIdeal.main_arg3) = m ((c.tc : Thread Cert.AdamWSmallRefIdeal.nD Cert.AdamWSmallRefIdeal.τ).loc Cert.AdamWSmallRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3)
      ∧ r.2.mem ((c.tc : Thread Cert.FfnDx.nD Cert.FfnDx.τ).loc Cert.FfnDx.main_arg4) = m ((c.tc : Thread Cert.FfnDx.nD Cert.FfnDx.τ).loc Cert.FfnDx.main_arg4)
      ∧ r.2.mem ((c.tc : Thread Cert.FfnDx.nD Cert.FfnDx.τ).loc Cert.FfnDx.main_arg5) = m ((c.tc : Thread Cert.FfnDx.nD Cert.FfnDx.τ).loc Cert.FfnDx.main_arg5)
      ∧ r.2.mem ((c.tc : Thread Cert.FfnDx.nD Cert.FfnDx.τ).loc Cert.FfnDx.main_arg6) = m ((c.tc : Thread Cert.FfnDx.nD Cert.FfnDx.τ).loc Cert.FfnDx.main_arg6))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4)
      ∧ r.2.mem ((c.tc : Thread Cert.FfnDxIdeal.nD Cert.FfnDxIdeal.τ).loc Cert.FfnDxIdeal.main_arg5) = m ((c.tc : Thread Cert.FfnDxIdeal.nD Cert.FfnDxIdeal.τ).loc Cert.FfnDxIdeal.main_arg5)
      ∧ r.2.mem ((c.tc : Thread Cert.FfnDxIdeal.nD Cert.FfnDxIdeal.τ).loc Cert.FfnDxIdeal.main_arg6) = m ((c.tc : Thread Cert.FfnDxIdeal.nD Cert.FfnDxIdeal.τ).loc Cert.FfnDxIdeal.main_arg6))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4)
      ∧ r.2.mem ((c.tc : Thread Cert.FfnDxRefIdeal.nD Cert.FfnDxRefIdeal.τ).loc Cert.FfnDxRefIdeal.main_arg5) = m ((c.tc : Thread Cert.FfnDxRefIdeal.nD Cert.FfnDxRefIdeal.τ).loc Cert.FfnDxRefIdeal.main_arg5)
      ∧ r.2.mem ((c.tc : Thread Cert.FfnDxRefIdeal.nD Cert.FfnDxRefIdeal.τ).loc Cert.FfnDxRefIdeal.main_arg6) = m ((c.tc : Thread Cert.FfnDxRefIdeal.nD Cert.FfnDxRefIdeal.τ).loc Cert.FfnDxRefIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_FfnDwUp [hFfnDwUp : Cert.FfnDwUp.Facts] : Prop :=
  ∀ (m : (ℓ : Loc Cert.FfnDwUp.nD Cert.FfnDwUp.τ Cert.FfnDwUp.sig) → Buf (Elt Bits) ℓ) (g : Dev Cert.FfnDwUp.nD → PrngReg), Pre_FfnDwUp m →
    θ_run (Cert.FfnDwUp.defs (F := Bits)) (onTc (τ := Cert.FfnDwUp.τ) (Cert.FfnDwUp.main (F := Bits))) ⟨m, fun _ => 0, g⟩ (fun r => (∀ c : Dev Cert.FfnDwUp.nD,
      r.2.mem ((c.tc : Thread Cert.FfnDwUp.nD Cert.FfnDwUp.τ).loc Cert.FfnDwUp.main_arg0) = m ((c.tc : Thread Cert.FfnDwUp.nD Cert.FfnDwUp.τ).loc Cert.FfnDwUp.main_arg0)
      ∧ r.2.mem ((c.tc : Thread Cert.FfnDwUp.nD Cert.FfnDwUp.τ).loc Cert.FfnDwUp.main_arg1) = m ((c.tc : Thread Cert.FfnDwUp.nD Cert.FfnDwUp.τ).loc Cert.FfnDwUp.main_arg1))
      ∧ r.2.sem = fun _ => 0)

def quiescent_FfnDwUpIdeal [hFfnDwUpIdeal : Cert.FfnDwUpIdeal.Facts] : Prop :=
  ∀ (m : (ℓ : Loc Cert.FfnDwUpIdeal.nD Cert.FfnDwUpIdeal.τ Cert.FfnDwUpIdeal.sig) → Buf (Elt Ideal) ℓ) (g : Dev Cert.FfnDwUpIdeal.nD → PrngReg), Pre_FfnDwUpIdeal m →
    θ_run (Cert.FfnDwUpIdeal.defs (F := Ideal)) (onTc (τ := Cert.FfnDwUpIdeal.τ) (Cert.FfnDwUpIdeal.main (F := Ideal))) ⟨m, fun _ => 0, g⟩ (fun r => (∀ c : Dev Cert.FfnDwUpIdeal.nD,
      r.2.mem ((c.tc : Thread Cert.FfnDwUpIdeal.nD Cert.FfnDwUpIdeal.τ).loc Cert.FfnDwUpIdeal.main_arg0) = m ((c.tc : Thread Cert.FfnDwUpIdeal.nD Cert.FfnDwUpIdeal.τ).loc Cert.FfnDwUpIdeal.main_arg0)
      ∧ r.2.mem ((c.tc : Thread Cert.FfnDwUpIdeal.nD Cert.FfnDwUpIdeal.τ).loc Cert.FfnDwUpIdeal.main_arg1) = m ((c.tc : Thread Cert.FfnDwUpIdeal.nD Cert.FfnDwUpIdeal.τ).loc Cert.FfnDwUpIdeal.main_arg1))
      ∧ r.2.sem = fun _ => 0)

def quiescent_FfnDwUpRefIdeal [hFfnDwUpRefIdeal : Cert.FfnDwUpRefIdeal.Facts] : Prop :=
  ∀ (m : (ℓ : Loc Cert.FfnDwUpRefIdeal.nD Cert.FfnDwUpRefIdeal.τ Cert.FfnDwUpRefIdeal.sig) → Buf (Elt Ideal) ℓ) (g : Dev Cert.FfnDwUpRefIdeal.nD → PrngReg), Pre_FfnDwUpRefIdeal m →
    θ_run (Cert.FfnDwUpRefIdeal.defs (F := Ideal)) (onTc (τ := Cert.FfnDwUpRefIdeal.τ) (Cert.FfnDwUpRefIdeal.main (F := Ideal))) ⟨m, fun _ => 0, g⟩ (fun r => (∀ c : Dev Cert.FfnDwUpRefIdeal.nD,
      r.2.mem ((c.tc : Thread Cert.FfnDwUpRefIdeal.nD Cert.FfnDwUpRefIdeal.τ).loc Cert.FfnDwUpRefIdeal.main_arg0) = m ((c.tc : Thread Cert.FfnDwUpRefIdeal.nD Cert.FfnDwUpRefIdeal.τ).loc Cert.FfnDwUpRefIdeal.main_arg0)
      ∧ r.2.mem ((c.tc : Thread Cert.FfnDwUpRefIdeal.nD Cert.FfnDwUpRefIdeal.τ).loc Cert.FfnDwUpRefIdeal.main_arg1) = m ((c.tc : Thread Cert.FfnDwUpRefIdeal.nD Cert.FfnDwUpRefIdeal.τ).loc Cert.FfnDwUpRefIdeal.main_arg1))
      ∧ r.2.sem = fun _ => 0)

def quiescent_FfnDwDown [hFfnDwDown : Cert.FfnDwDown.Facts] : Prop :=
  ∀ (m : (ℓ : Loc Cert.FfnDwDown.nD Cert.FfnDwDown.τ Cert.FfnDwDown.sig) → Buf (Elt Bits) ℓ) (g : Dev Cert.FfnDwDown.nD → PrngReg), Pre_FfnDwDown m →
    θ_run (Cert.FfnDwDown.defs (F := Bits)) (onTc (τ := Cert.FfnDwDown.τ) (Cert.FfnDwDown.main (F := Bits))) ⟨m, fun _ => 0, g⟩ (fun r => (∀ c : Dev Cert.FfnDwDown.nD,
      r.2.mem ((c.tc : Thread Cert.FfnDwDown.nD Cert.FfnDwDown.τ).loc Cert.FfnDwDown.main_arg0) = m ((c.tc : Thread Cert.FfnDwDown.nD Cert.FfnDwDown.τ).loc Cert.FfnDwDown.main_arg0)
      ∧ r.2.mem ((c.tc : Thread Cert.FfnDwDown.nD Cert.FfnDwDown.τ).loc Cert.FfnDwDown.main_arg1) = m ((c.tc : Thread Cert.FfnDwDown.nD Cert.FfnDwDown.τ).loc Cert.FfnDwDown.main_arg1))
      ∧ r.2.sem = fun _ => 0)

def quiescent_FfnDwDownIdeal [hFfnDwDownIdeal : Cert.FfnDwDownIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg), Pre_FfnDwDownIdeal m →
    θ_run (Cert.FfnDwDownIdeal.defs (F := Ideal)) (onTc (τ := Cert.FfnDwDownIdeal.τ) (Cert.FfnDwDownIdeal.main (F := Ideal))) ⟨m, fun _ => 0, g⟩ (fun r => (∀ c : Dev Cert.FfnDwDownIdeal.nD,
      r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
      ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1))
      ∧ r.2.sem = fun _ => 0)

def quiescent_FfnDwDownRefIdeal [hFfnDwDownRefIdeal : Cert.FfnDwDownRefIdeal.Facts] : Prop :=
  ∀ (m : (ℓ : Loc Cert.FfnDwDownRefIdeal.nD Cert.FfnDwDownRefIdeal.τ Cert.FfnDwDownRefIdeal.sig) → Buf (Elt Ideal) ℓ) (g : Dev Cert.FfnDwDownRefIdeal.nD → PrngReg), Pre_FfnDwDownRefIdeal m →
    θ_run (Cert.FfnDwDownRefIdeal.defs (F := Ideal)) (onTc (τ := Cert.FfnDwDownRefIdeal.τ) (Cert.FfnDwDownRefIdeal.main (F := Ideal))) ⟨m, fun _ => 0, g⟩ (fun r => (∀ c : Dev Cert.FfnDwDownRefIdeal.nD,
      r.2.mem ((c.tc : Thread Cert.FfnDwDownRefIdeal.nD Cert.FfnDwDownRefIdeal.τ).loc Cert.FfnDwDownRefIdeal.main_arg0) = m ((c.tc : Thread Cert.FfnDwDownRefIdeal.nD Cert.FfnDwDownRefIdeal.τ).loc Cert.FfnDwDownRefIdeal.main_arg0)
      ∧ r.2.mem ((c.tc : Thread Cert.FfnDwDownRefIdeal.nD Cert.FfnDwDownRefIdeal.τ).loc Cert.FfnDwDownRefIdeal.main_arg1) = m ((c.tc : Thread Cert.FfnDwDownRefIdeal.nD Cert.FfnDwDownRefIdeal.τ).loc Cert.FfnDwDownRefIdeal.main_arg1))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3)
      ∧ r.2.mem ((c.tc : Thread Cert.FfnAct.nD Cert.FfnAct.τ).loc Cert.FfnAct.main_arg4) = m ((c.tc : Thread Cert.FfnAct.nD Cert.FfnAct.τ).loc Cert.FfnAct.main_arg4))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
      ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3)
      ∧ r.2.mem ((c.tc : Thread Cert.FfnActRefIdeal.nD Cert.FfnActRefIdeal.τ).loc Cert.FfnActRefIdeal.main_arg4) = m ((c.tc : Thread Cert.FfnActRefIdeal.nD Cert.FfnActRefIdeal.τ).loc Cert.FfnActRefIdeal.main_arg4))
      ∧ r.2.sem = fun _ => 0)

def quiescent_SumFfn [hSumFfn : Cert.SumFfn.Facts] : Prop :=
  ∀ (m : (ℓ : Loc Cert.SumFfn.nD Cert.SumFfn.τ Cert.SumFfn.sig) → Buf (Elt Bits) ℓ) (g : Dev Cert.SumFfn.nD → PrngReg), Pre_SumFfn m →
    θ_run (Cert.SumFfn.defs (F := Bits)) (onTc (τ := Cert.SumFfn.τ) (Cert.SumFfn.main (F := Bits))) ⟨m, fun _ => 0, g⟩ (fun r => (∀ c : Dev Cert.SumFfn.nD,
      r.2.mem ((c.tc : Thread Cert.SumFfn.nD Cert.SumFfn.τ).loc Cert.SumFfn.main_arg0) = m ((c.tc : Thread Cert.SumFfn.nD Cert.SumFfn.τ).loc Cert.SumFfn.main_arg0)
      ∧ r.2.mem ((c.tc : Thread Cert.SumFfn.nD Cert.SumFfn.τ).loc Cert.SumFfn.main_arg1) = m ((c.tc : Thread Cert.SumFfn.nD Cert.SumFfn.τ).loc Cert.SumFfn.main_arg1)
      ∧ r.2.mem ((c.tc : Thread Cert.SumFfn.nD Cert.SumFfn.τ).loc Cert.SumFfn.main_arg2) = m ((c.tc : Thread Cert.SumFfn.nD Cert.SumFfn.τ).loc Cert.SumFfn.main_arg2)
      ∧ r.2.mem ((c.tc : Thread Cert.SumFfn.nD Cert.SumFfn.τ).loc Cert.SumFfn.main_arg3) = m ((c.tc : Thread Cert.SumFfn.nD Cert.SumFfn.τ).loc Cert.SumFfn.main_arg3))
      ∧ r.2.sem = fun _ => 0)

def quiescent_SumFfnIdeal [hSumFfnIdeal : Cert.SumFfnIdeal.Facts] : Prop :=
  ∀ (m : (ℓ : Loc Cert.SumFfnIdeal.nD Cert.SumFfnIdeal.τ Cert.SumFfnIdeal.sig) → Buf (Elt Ideal) ℓ) (g : Dev Cert.SumFfnIdeal.nD → PrngReg), Pre_SumFfnIdeal m →
    θ_run (Cert.SumFfnIdeal.defs (F := Ideal)) (onTc (τ := Cert.SumFfnIdeal.τ) (Cert.SumFfnIdeal.main (F := Ideal))) ⟨m, fun _ => 0, g⟩ (fun r => (∀ c : Dev Cert.SumFfnIdeal.nD,
      r.2.mem ((c.tc : Thread Cert.SumFfnIdeal.nD Cert.SumFfnIdeal.τ).loc Cert.SumFfnIdeal.main_arg0) = m ((c.tc : Thread Cert.SumFfnIdeal.nD Cert.SumFfnIdeal.τ).loc Cert.SumFfnIdeal.main_arg0)
      ∧ r.2.mem ((c.tc : Thread Cert.SumFfnIdeal.nD Cert.SumFfnIdeal.τ).loc Cert.SumFfnIdeal.main_arg1) = m ((c.tc : Thread Cert.SumFfnIdeal.nD Cert.SumFfnIdeal.τ).loc Cert.SumFfnIdeal.main_arg1)
      ∧ r.2.mem ((c.tc : Thread Cert.SumFfnIdeal.nD Cert.SumFfnIdeal.τ).loc Cert.SumFfnIdeal.main_arg2) = m ((c.tc : Thread Cert.SumFfnIdeal.nD Cert.SumFfnIdeal.τ).loc Cert.SumFfnIdeal.main_arg2)
      ∧ r.2.mem ((c.tc : Thread Cert.SumFfnIdeal.nD Cert.SumFfnIdeal.τ).loc Cert.SumFfnIdeal.main_arg3) = m ((c.tc : Thread Cert.SumFfnIdeal.nD Cert.SumFfnIdeal.τ).loc Cert.SumFfnIdeal.main_arg3))
      ∧ r.2.sem = fun _ => 0)

def quiescent_SumFfnRefIdeal [hSumFfnRefIdeal : Cert.SumFfnRefIdeal.Facts] : Prop :=
  ∀ (m : (ℓ : Loc Cert.SumFfnRefIdeal.nD Cert.SumFfnRefIdeal.τ Cert.SumFfnRefIdeal.sig) → Buf (Elt Ideal) ℓ) (g : Dev Cert.SumFfnRefIdeal.nD → PrngReg), Pre_SumFfnRefIdeal m →
    θ_run (Cert.SumFfnRefIdeal.defs (F := Ideal)) (onTc (τ := Cert.SumFfnRefIdeal.τ) (Cert.SumFfnRefIdeal.main (F := Ideal))) ⟨m, fun _ => 0, g⟩ (fun r => (∀ c : Dev Cert.SumFfnRefIdeal.nD,
      r.2.mem ((c.tc : Thread Cert.SumFfnRefIdeal.nD Cert.SumFfnRefIdeal.τ).loc Cert.SumFfnRefIdeal.main_arg0) = m ((c.tc : Thread Cert.SumFfnRefIdeal.nD Cert.SumFfnRefIdeal.τ).loc Cert.SumFfnRefIdeal.main_arg0)
      ∧ r.2.mem ((c.tc : Thread Cert.SumFfnRefIdeal.nD Cert.SumFfnRefIdeal.τ).loc Cert.SumFfnRefIdeal.main_arg1) = m ((c.tc : Thread Cert.SumFfnRefIdeal.nD Cert.SumFfnRefIdeal.τ).loc Cert.SumFfnRefIdeal.main_arg1)
      ∧ r.2.mem ((c.tc : Thread Cert.SumFfnRefIdeal.nD Cert.SumFfnRefIdeal.τ).loc Cert.SumFfnRefIdeal.main_arg2) = m ((c.tc : Thread Cert.SumFfnRefIdeal.nD Cert.SumFfnRefIdeal.τ).loc Cert.SumFfnRefIdeal.main_arg2)
      ∧ r.2.mem ((c.tc : Thread Cert.SumFfnRefIdeal.nD Cert.SumFfnRefIdeal.τ).loc Cert.SumFfnRefIdeal.main_arg3) = m ((c.tc : Thread Cert.SumFfnRefIdeal.nD Cert.SumFfnRefIdeal.τ).loc Cert.SumFfnRefIdeal.main_arg3))
      ∧ r.2.sem = fun _ => 0)

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![4, 704, 1024]⟩ ⟨3, ![32, 704, 1024]⟩ 0 8 c (m' (((0 : Dev Cert.ScatterRefIdeal.nD).tc : Thread Cert.ScatterRefIdeal.nD Cert.ScatterRefIdeal.τ).loc Cert.ScatterRefIdeal.main_arg0))
      ∧ m ((c.tc : Thread Cert.ScatterIdeal.nD Cert.ScatterIdeal.τ).loc Cert.ScatterIdeal.main_arg1) = Layout.block ⟨3, ![4, 704, 1024]⟩ ⟨3, ![32, 704, 1024]⟩ 0 8 c (m' (((0 : Dev Cert.ScatterRefIdeal.nD).tc : Thread Cert.ScatterRefIdeal.nD Cert.ScatterRefIdeal.τ).loc Cert.ScatterRefIdeal.main_arg1))
      ∧ m ((c.tc : Thread Cert.ScatterIdeal.nD Cert.ScatterIdeal.τ).loc Cert.ScatterIdeal.main_arg2) = Layout.block ⟨3, ![4, 704, 1024]⟩ ⟨3, ![32, 704, 1024]⟩ 0 8 c (m' (((0 : Dev Cert.ScatterRefIdeal.nD).tc : Thread Cert.ScatterRefIdeal.nD Cert.ScatterRefIdeal.τ).loc Cert.ScatterRefIdeal.main_arg2))) →
    ∃ (v0 : Buf (Elt Ideal) (((0 : Dev Cert.ScatterRefIdeal.nD).tc : Thread Cert.ScatterRefIdeal.nD Cert.ScatterRefIdeal.τ).loc Cert.ScatterRefIdeal.main_v2)) (v1 : Buf (Elt Ideal) (((0 : Dev Cert.ScatterRefIdeal.nD).tc : Thread Cert.ScatterRefIdeal.nD Cert.ScatterRefIdeal.τ).loc Cert.ScatterRefIdeal.main_v5)) (v2 : Buf (Elt Ideal) (((0 : Dev Cert.ScatterRefIdeal.nD).tc : Thread Cert.ScatterRefIdeal.nD Cert.ScatterRefIdeal.τ).loc Cert.ScatterRefIdeal.main_v8)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1) = Layout.block ⟨3, ![4, 704, 1024]⟩ ⟨3, ![32, 704, 1024]⟩ 0 8 c v0
          ∧ r.2.mem ((c.tc : Thread Cert.ScatterIdeal.nD Cert.ScatterIdeal.τ).loc Cert.ScatterIdeal.main_v2) = Layout.block ⟨3, ![4, 704, 1024]⟩ ⟨3, ![32, 704, 1024]⟩ 0 8 c v1
          ∧ r.2.mem ((c.tc : Thread Cert.ScatterIdeal.nD Cert.ScatterIdeal.τ).loc Cert.ScatterIdeal.main_v3) = Layout.block ⟨3, ![4, 704, 1024]⟩ ⟨3, ![32, 704, 1024]⟩ 0 8 c v2
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v2) = v0
          ∧ r.2.mem (((0 : Dev Cert.ScatterRefIdeal.nD).tc : Thread Cert.ScatterRefIdeal.nD Cert.ScatterRefIdeal.τ).loc Cert.ScatterRefIdeal.main_v5) = v1
          ∧ r.2.mem (((0 : Dev Cert.ScatterRefIdeal.nD).tc : Thread Cert.ScatterRefIdeal.nD Cert.ScatterRefIdeal.τ).loc Cert.ScatterRefIdeal.main_v8) = v2
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0)
          ∧ r.2.mem (((0 : Dev Cert.ScatterRefIdeal.nD).tc : Thread Cert.ScatterRefIdeal.nD Cert.ScatterRefIdeal.τ).loc Cert.ScatterRefIdeal.main_arg1) = m' (((0 : Dev Cert.ScatterRefIdeal.nD).tc : Thread Cert.ScatterRefIdeal.nD Cert.ScatterRefIdeal.τ).loc Cert.ScatterRefIdeal.main_arg1)
          ∧ r.2.mem (((0 : Dev Cert.ScatterRefIdeal.nD).tc : Thread Cert.ScatterRefIdeal.nD Cert.ScatterRefIdeal.τ).loc Cert.ScatterRefIdeal.main_arg2) = m' (((0 : Dev Cert.ScatterRefIdeal.nD).tc : Thread Cert.ScatterRefIdeal.nD Cert.ScatterRefIdeal.τ).loc Cert.ScatterRefIdeal.main_arg2))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.block ⟨3, ![4, 704, 1024]⟩ ⟨3, ![32, 704, 1024]⟩ 0 8 c (m' (((0 : Dev Cert.ScatterRef.nD).tc : Thread Cert.ScatterRef.nD Cert.ScatterRef.τ).loc Cert.ScatterRef.main_arg0))
      ∧ m ((c.tc : Thread Cert.Scatter.nD Cert.Scatter.τ).loc Cert.Scatter.main_arg1) = Layout.block ⟨3, ![4, 704, 1024]⟩ ⟨3, ![32, 704, 1024]⟩ 0 8 c (m' (((0 : Dev Cert.ScatterRef.nD).tc : Thread Cert.ScatterRef.nD Cert.ScatterRef.τ).loc Cert.ScatterRef.main_arg1))
      ∧ m ((c.tc : Thread Cert.Scatter.nD Cert.Scatter.τ).loc Cert.Scatter.main_arg2) = Layout.block ⟨3, ![4, 704, 1024]⟩ ⟨3, ![32, 704, 1024]⟩ 0 8 c (m' (((0 : Dev Cert.ScatterRef.nD).tc : Thread Cert.ScatterRef.nD Cert.ScatterRef.τ).loc Cert.ScatterRef.main_arg2))) →
    ∃ (v0 : Buf (Elt Bits) (((0 : Dev Cert.ScatterRef.nD).tc : Thread Cert.ScatterRef.nD Cert.ScatterRef.τ).loc Cert.ScatterRef.main_v2)) (v1 : Buf (Elt Bits) (((0 : Dev Cert.ScatterRef.nD).tc : Thread Cert.ScatterRef.nD Cert.ScatterRef.τ).loc Cert.ScatterRef.main_v5)) (v2 : Buf (Elt Bits) (((0 : Dev Cert.ScatterRef.nD).tc : Thread Cert.ScatterRef.nD Cert.ScatterRef.τ).loc Cert.ScatterRef.main_v8)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1) = Layout.block ⟨3, ![4, 704, 1024]⟩ ⟨3, ![32, 704, 1024]⟩ 0 8 c v0
          ∧ r.2.mem ((c.tc : Thread Cert.Scatter.nD Cert.Scatter.τ).loc Cert.Scatter.main_v2) = Layout.block ⟨3, ![4, 704, 1024]⟩ ⟨3, ![32, 704, 1024]⟩ 0 8 c v1
          ∧ r.2.mem ((c.tc : Thread Cert.Scatter.nD Cert.Scatter.τ).loc Cert.Scatter.main_v3) = Layout.block ⟨3, ![4, 704, 1024]⟩ ⟨3, ![32, 704, 1024]⟩ 0 8 c v2
          ∧ r.2.mem ((c.tc : Thread Cert.Scatter.nD Cert.Scatter.τ).loc Cert.Scatter.main_arg0) = m ((c.tc : Thread Cert.Scatter.nD Cert.Scatter.τ).loc Cert.Scatter.main_arg0)
          ∧ r.2.mem ((c.tc : Thread Cert.Scatter.nD Cert.Scatter.τ).loc Cert.Scatter.main_arg1) = m ((c.tc : Thread Cert.Scatter.nD Cert.Scatter.τ).loc Cert.Scatter.main_arg1)
          ∧ r.2.mem ((c.tc : Thread Cert.Scatter.nD Cert.Scatter.τ).loc Cert.Scatter.main_arg2) = m ((c.tc : Thread Cert.Scatter.nD Cert.Scatter.τ).loc Cert.Scatter.main_arg2))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v2) = v0
          ∧ r.2.mem (((0 : Dev Cert.ScatterRef.nD).tc : Thread Cert.ScatterRef.nD Cert.ScatterRef.τ).loc Cert.ScatterRef.main_v5) = v1
          ∧ r.2.mem (((0 : Dev Cert.ScatterRef.nD).tc : Thread Cert.ScatterRef.nD Cert.ScatterRef.τ).loc Cert.ScatterRef.main_v8) = v2
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0)
          ∧ r.2.mem (((0 : Dev Cert.ScatterRef.nD).tc : Thread Cert.ScatterRef.nD Cert.ScatterRef.τ).loc Cert.ScatterRef.main_arg1) = m' (((0 : Dev Cert.ScatterRef.nD).tc : Thread Cert.ScatterRef.nD Cert.ScatterRef.τ).loc Cert.ScatterRef.main_arg1)
          ∧ r.2.mem (((0 : Dev Cert.ScatterRef.nD).tc : Thread Cert.ScatterRef.nD Cert.ScatterRef.τ).loc Cert.ScatterRef.main_arg2) = m' (((0 : Dev Cert.ScatterRef.nD).tc : Thread Cert.ScatterRef.nD Cert.ScatterRef.τ).loc Cert.ScatterRef.main_arg2))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![704, 1024]⟩ ⟨2, ![5632, 1024]⟩ 0 8 c (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.block ⟨2, ![704, 1024]⟩ ⟨2, ![5632, 1024]⟩ 0 8 c (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.block ⟨2, ![704, 1024]⟩ ⟨2, ![5632, 1024]⟩ 0 8 c (m' (((0 : Dev Cert.GatherRefIdeal.nD).tc : Thread Cert.GatherRefIdeal.nD Cert.GatherRefIdeal.τ).loc Cert.GatherRefIdeal.main_arg2))) →
    ∃ (v0 : Buf (Elt Ideal) (((0 : Dev Cert.GatherRefIdeal.nD).tc : Thread Cert.GatherRefIdeal.nD Cert.GatherRefIdeal.τ).loc Cert.GatherRefIdeal.main_v4)) (v1 : Buf (Elt Ideal) (((0 : Dev Cert.GatherRefIdeal.nD).tc : Thread Cert.GatherRefIdeal.nD Cert.GatherRefIdeal.τ).loc Cert.GatherRefIdeal.main_v9)) (v2 : Buf (Elt Ideal) (((0 : Dev Cert.GatherRefIdeal.nD).tc : Thread Cert.GatherRefIdeal.nD Cert.GatherRefIdeal.τ).loc Cert.GatherRefIdeal.main_v14)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = Layout.block ⟨3, ![4, 704, 1024]⟩ ⟨3, ![32, 704, 1024]⟩ 0 8 c v0
          ∧ r.2.mem ((c.tc : Thread Cert.GatherIdeal.nD Cert.GatherIdeal.τ).loc Cert.GatherIdeal.main_v2) = Layout.block ⟨3, ![4, 704, 1024]⟩ ⟨3, ![32, 704, 1024]⟩ 0 8 c v1
          ∧ r.2.mem ((c.tc : Thread Cert.GatherIdeal.nD Cert.GatherIdeal.τ).loc Cert.GatherIdeal.main_v3) = Layout.block ⟨3, ![4, 704, 1024]⟩ ⟨3, ![32, 704, 1024]⟩ 0 8 c v2
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v4) = v0
          ∧ r.2.mem (((0 : Dev Cert.GatherRefIdeal.nD).tc : Thread Cert.GatherRefIdeal.nD Cert.GatherRefIdeal.τ).loc Cert.GatherRefIdeal.main_v9) = v1
          ∧ r.2.mem (((0 : Dev Cert.GatherRefIdeal.nD).tc : Thread Cert.GatherRefIdeal.nD Cert.GatherRefIdeal.τ).loc Cert.GatherRefIdeal.main_v14) = v2
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![704, 1024]⟩ ⟨2, ![5632, 1024]⟩ 0 8 c (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.block ⟨2, ![704, 1024]⟩ ⟨2, ![5632, 1024]⟩ 0 8 c (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.block ⟨2, ![704, 1024]⟩ ⟨2, ![5632, 1024]⟩ 0 8 c (m' (((0 : Dev Cert.GatherRef.nD).tc : Thread Cert.GatherRef.nD Cert.GatherRef.τ).loc Cert.GatherRef.main_arg2))) →
    ∃ (v0 : Buf (Elt Bits) (((0 : Dev Cert.GatherRef.nD).tc : Thread Cert.GatherRef.nD Cert.GatherRef.τ).loc Cert.GatherRef.main_v4)) (v1 : Buf (Elt Bits) (((0 : Dev Cert.GatherRef.nD).tc : Thread Cert.GatherRef.nD Cert.GatherRef.τ).loc Cert.GatherRef.main_v9)) (v2 : Buf (Elt Bits) (((0 : Dev Cert.GatherRef.nD).tc : Thread Cert.GatherRef.nD Cert.GatherRef.τ).loc Cert.GatherRef.main_v14)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = Layout.block ⟨3, ![4, 704, 1024]⟩ ⟨3, ![32, 704, 1024]⟩ 0 8 c v0
          ∧ r.2.mem ((c.tc : Thread Cert.Gather.nD Cert.Gather.τ).loc Cert.Gather.main_v2) = Layout.block ⟨3, ![4, 704, 1024]⟩ ⟨3, ![32, 704, 1024]⟩ 0 8 c v1
          ∧ r.2.mem ((c.tc : Thread Cert.Gather.nD Cert.Gather.τ).loc Cert.Gather.main_v3) = Layout.block ⟨3, ![4, 704, 1024]⟩ ⟨3, ![32, 704, 1024]⟩ 0 8 c v2
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v4) = v0
          ∧ r.2.mem (((0 : Dev Cert.GatherRef.nD).tc : Thread Cert.GatherRef.nD Cert.GatherRef.τ).loc Cert.GatherRef.main_v9) = v1
          ∧ r.2.mem (((0 : Dev Cert.GatherRef.nD).tc : Thread Cert.GatherRef.nD Cert.GatherRef.τ).loc Cert.GatherRef.main_v14) = v2
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2))

def preserves_Sibling_SiblingIdeal : Prop :=
  True

def algebraic_SiblingIdeal_SiblingRefIdeal [hSiblingIdeal : Cert.SiblingIdeal.Facts] [hSiblingRefIdeal : Cert.SiblingRefIdeal.Facts] : Prop :=
  ∀ (m : (ℓ : Loc Cert.SiblingIdeal.nD Cert.SiblingIdeal.τ Cert.SiblingIdeal.sig) → Buf (Elt Ideal) ℓ) (g : Dev Cert.SiblingIdeal.nD → PrngReg)
    (m' : (ℓ : Loc Cert.SiblingRefIdeal.nD Cert.SiblingRefIdeal.τ Cert.SiblingRefIdeal.sig) → Buf (Elt Ideal) ℓ) (g' : Dev Cert.SiblingRefIdeal.nD → PrngReg), Pre_SiblingIdeal m →
    (∀ c : Dev Cert.SiblingIdeal.nD,
      m ((c.tc : Thread Cert.SiblingIdeal.nD Cert.SiblingIdeal.τ).loc Cert.SiblingIdeal.main_arg0) = Layout.block ⟨2, ![2816, 1024]⟩ ⟨2, ![22528, 1024]⟩ 0 8 c (m' (((0 : Dev Cert.SiblingRefIdeal.nD).tc : Thread Cert.SiblingRefIdeal.nD Cert.SiblingRefIdeal.τ).loc Cert.SiblingRefIdeal.main_arg0))
      ∧ m ((c.tc : Thread Cert.SiblingIdeal.nD Cert.SiblingIdeal.τ).loc Cert.SiblingIdeal.main_arg1) = Layout.block ⟨2, ![2816, 1024]⟩ ⟨2, ![22528, 1024]⟩ 0 8 c (m' (((0 : Dev Cert.SiblingRefIdeal.nD).tc : Thread Cert.SiblingRefIdeal.nD Cert.SiblingRefIdeal.τ).loc Cert.SiblingRefIdeal.main_arg1))
      ∧ m ((c.tc : Thread Cert.SiblingIdeal.nD Cert.SiblingIdeal.τ).loc Cert.SiblingIdeal.main_arg2) = Layout.block ⟨2, ![2816, 1024]⟩ ⟨2, ![22528, 1024]⟩ 0 8 c (m' (((0 : Dev Cert.SiblingRefIdeal.nD).tc : Thread Cert.SiblingRefIdeal.nD Cert.SiblingRefIdeal.τ).loc Cert.SiblingRefIdeal.main_arg2))) →
    ∃ (v0 : Buf (Elt Ideal) (((0 : Dev Cert.SiblingRefIdeal.nD).tc : Thread Cert.SiblingRefIdeal.nD Cert.SiblingRefIdeal.τ).loc Cert.SiblingRefIdeal.main_v2)) (v1 : Buf (Elt Ideal) (((0 : Dev Cert.SiblingRefIdeal.nD).tc : Thread Cert.SiblingRefIdeal.nD Cert.SiblingRefIdeal.τ).loc Cert.SiblingRefIdeal.main_v5)) (v2 : Buf (Elt Ideal) (((0 : Dev Cert.SiblingRefIdeal.nD).tc : Thread Cert.SiblingRefIdeal.nD Cert.SiblingRefIdeal.τ).loc Cert.SiblingRefIdeal.main_v8)),
      θ_run (Cert.SiblingIdeal.defs (F := Ideal)) (onTc (τ := Cert.SiblingIdeal.τ) (Cert.SiblingIdeal.main (F := Ideal))) ⟨m, fun _ => 0, g⟩ (fun r => ∀ c : Dev Cert.SiblingIdeal.nD,
          r.2.mem ((c.tc : Thread Cert.SiblingIdeal.nD Cert.SiblingIdeal.τ).loc Cert.SiblingIdeal.main_v1) = Layout.block ⟨2, ![2816, 1024]⟩ ⟨2, ![22528, 1024]⟩ 0 8 c v0
          ∧ r.2.mem ((c.tc : Thread Cert.SiblingIdeal.nD Cert.SiblingIdeal.τ).loc Cert.SiblingIdeal.main_v2) = Layout.block ⟨2, ![2816, 1024]⟩ ⟨2, ![22528, 1024]⟩ 0 8 c v1
          ∧ r.2.mem ((c.tc : Thread Cert.SiblingIdeal.nD Cert.SiblingIdeal.τ).loc Cert.SiblingIdeal.main_v3) = Layout.block ⟨2, ![2816, 1024]⟩ ⟨2, ![22528, 1024]⟩ 0 8 c v2
          ∧ r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0)
          ∧ r.2.mem ((c.tc : Thread Cert.SiblingIdeal.nD Cert.SiblingIdeal.τ).loc Cert.SiblingIdeal.main_arg1) = m ((c.tc : Thread Cert.SiblingIdeal.nD Cert.SiblingIdeal.τ).loc Cert.SiblingIdeal.main_arg1)
          ∧ r.2.mem ((c.tc : Thread Cert.SiblingIdeal.nD Cert.SiblingIdeal.τ).loc Cert.SiblingIdeal.main_arg2) = m ((c.tc : Thread Cert.SiblingIdeal.nD Cert.SiblingIdeal.τ).loc Cert.SiblingIdeal.main_arg2))
      ∧ θ_run (Cert.SiblingRefIdeal.defs (F := Ideal)) (onTc (τ := Cert.SiblingRefIdeal.τ) (Cert.SiblingRefIdeal.main (F := Ideal))) ⟨m', fun _ => 0, g'⟩ (fun r =>
          r.2.mem (((0 : Dev Cert.SiblingRefIdeal.nD).tc : Thread Cert.SiblingRefIdeal.nD Cert.SiblingRefIdeal.τ).loc Cert.SiblingRefIdeal.main_v2) = v0
          ∧ r.2.mem (((0 : Dev Cert.SiblingRefIdeal.nD).tc : Thread Cert.SiblingRefIdeal.nD Cert.SiblingRefIdeal.τ).loc Cert.SiblingRefIdeal.main_v5) = v1
          ∧ r.2.mem (((0 : Dev Cert.SiblingRefIdeal.nD).tc : Thread Cert.SiblingRefIdeal.nD Cert.SiblingRefIdeal.τ).loc Cert.SiblingRefIdeal.main_v8) = v2
          ∧ r.2.mem (((0 : Dev Cert.SiblingRefIdeal.nD).tc : Thread Cert.SiblingRefIdeal.nD Cert.SiblingRefIdeal.τ).loc Cert.SiblingRefIdeal.main_arg0) = m' (((0 : Dev Cert.SiblingRefIdeal.nD).tc : Thread Cert.SiblingRefIdeal.nD Cert.SiblingRefIdeal.τ).loc Cert.SiblingRefIdeal.main_arg0)
          ∧ r.2.mem (((0 : Dev Cert.SiblingRefIdeal.nD).tc : Thread Cert.SiblingRefIdeal.nD Cert.SiblingRefIdeal.τ).loc Cert.SiblingRefIdeal.main_arg1) = m' (((0 : Dev Cert.SiblingRefIdeal.nD).tc : Thread Cert.SiblingRefIdeal.nD Cert.SiblingRefIdeal.τ).loc Cert.SiblingRefIdeal.main_arg1)
          ∧ r.2.mem (((0 : Dev Cert.SiblingRefIdeal.nD).tc : Thread Cert.SiblingRefIdeal.nD Cert.SiblingRefIdeal.τ).loc Cert.SiblingRefIdeal.main_arg2) = m' (((0 : Dev Cert.SiblingRefIdeal.nD).tc : Thread Cert.SiblingRefIdeal.nD Cert.SiblingRefIdeal.τ).loc Cert.SiblingRefIdeal.main_arg2))

def bitexact_Sibling_SiblingRef [hSibling : Cert.Sibling.Facts] [hSiblingRef : Cert.SiblingRef.Facts] : Prop :=
  ∀ (m : (ℓ : Loc Cert.Sibling.nD Cert.Sibling.τ Cert.Sibling.sig) → Buf (Elt Bits) ℓ) (g : Dev Cert.Sibling.nD → PrngReg)
    (m' : (ℓ : Loc Cert.SiblingRef.nD Cert.SiblingRef.τ Cert.SiblingRef.sig) → Buf (Elt Bits) ℓ) (g' : Dev Cert.SiblingRef.nD → PrngReg), Pre_Sibling m →
    (∀ c : Dev Cert.Sibling.nD,
      m ((c.tc : Thread Cert.Sibling.nD Cert.Sibling.τ).loc Cert.Sibling.main_arg0) = Layout.block ⟨2, ![2816, 1024]⟩ ⟨2, ![22528, 1024]⟩ 0 8 c (m' (((0 : Dev Cert.SiblingRef.nD).tc : Thread Cert.SiblingRef.nD Cert.SiblingRef.τ).loc Cert.SiblingRef.main_arg0))
      ∧ m ((c.tc : Thread Cert.Sibling.nD Cert.Sibling.τ).loc Cert.Sibling.main_arg1) = Layout.block ⟨2, ![2816, 1024]⟩ ⟨2, ![22528, 1024]⟩ 0 8 c (m' (((0 : Dev Cert.SiblingRef.nD).tc : Thread Cert.SiblingRef.nD Cert.SiblingRef.τ).loc Cert.SiblingRef.main_arg1))
      ∧ m ((c.tc : Thread Cert.Sibling.nD Cert.Sibling.τ).loc Cert.Sibling.main_arg2) = Layout.block ⟨2, ![2816, 1024]⟩ ⟨2, ![22528, 1024]⟩ 0 8 c (m' (((0 : Dev Cert.SiblingRef.nD).tc : Thread Cert.SiblingRef.nD Cert.SiblingRef.τ).loc Cert.SiblingRef.main_arg2))) →
    ∃ (v0 : Buf (Elt Bits) (((0 : Dev Cert.SiblingRef.nD).tc : Thread Cert.SiblingRef.nD Cert.SiblingRef.τ).loc Cert.SiblingRef.main_v2)) (v1 : Buf (Elt Bits) (((0 : Dev Cert.SiblingRef.nD).tc : Thread Cert.SiblingRef.nD Cert.SiblingRef.τ).loc Cert.SiblingRef.main_v5)) (v2 : Buf (Elt Bits) (((0 : Dev Cert.SiblingRef.nD).tc : Thread Cert.SiblingRef.nD Cert.SiblingRef.τ).loc Cert.SiblingRef.main_v8)),
      θ_run (Cert.Sibling.defs (F := Bits)) (onTc (τ := Cert.Sibling.τ) (Cert.Sibling.main (F := Bits))) ⟨m, fun _ => 0, g⟩ (fun r => ∀ c : Dev Cert.Sibling.nD,
          r.2.mem ((c.tc : Thread Cert.Sibling.nD Cert.Sibling.τ).loc Cert.Sibling.main_v1) = Layout.block ⟨2, ![2816, 1024]⟩ ⟨2, ![22528, 1024]⟩ 0 8 c v0
          ∧ r.2.mem ((c.tc : Thread Cert.Sibling.nD Cert.Sibling.τ).loc Cert.Sibling.main_v2) = Layout.block ⟨2, ![2816, 1024]⟩ ⟨2, ![22528, 1024]⟩ 0 8 c v1
          ∧ r.2.mem ((c.tc : Thread Cert.Sibling.nD Cert.Sibling.τ).loc Cert.Sibling.main_v3) = Layout.block ⟨2, ![2816, 1024]⟩ ⟨2, ![22528, 1024]⟩ 0 8 c v2
          ∧ r.2.mem ((c.tc : Thread Cert.Sibling.nD Cert.Sibling.τ).loc Cert.Sibling.main_arg0) = m ((c.tc : Thread Cert.Sibling.nD Cert.Sibling.τ).loc Cert.Sibling.main_arg0)
          ∧ r.2.mem ((c.tc : Thread Cert.Sibling.nD Cert.Sibling.τ).loc Cert.Sibling.main_arg1) = m ((c.tc : Thread Cert.Sibling.nD Cert.Sibling.τ).loc Cert.Sibling.main_arg1)
          ∧ r.2.mem ((c.tc : Thread Cert.Sibling.nD Cert.Sibling.τ).loc Cert.Sibling.main_arg2) = m ((c.tc : Thread Cert.Sibling.nD Cert.Sibling.τ).loc Cert.Sibling.main_arg2))
      ∧ θ_run (Cert.SiblingRef.defs (F := Bits)) (onTc (τ := Cert.SiblingRef.τ) (Cert.SiblingRef.main (F := Bits))) ⟨m', fun _ => 0, g'⟩ (fun r =>
          r.2.mem (((0 : Dev Cert.SiblingRef.nD).tc : Thread Cert.SiblingRef.nD Cert.SiblingRef.τ).loc Cert.SiblingRef.main_v2) = v0
          ∧ r.2.mem (((0 : Dev Cert.SiblingRef.nD).tc : Thread Cert.SiblingRef.nD Cert.SiblingRef.τ).loc Cert.SiblingRef.main_v5) = v1
          ∧ r.2.mem (((0 : Dev Cert.SiblingRef.nD).tc : Thread Cert.SiblingRef.nD Cert.SiblingRef.τ).loc Cert.SiblingRef.main_v8) = v2
          ∧ r.2.mem (((0 : Dev Cert.SiblingRef.nD).tc : Thread Cert.SiblingRef.nD Cert.SiblingRef.τ).loc Cert.SiblingRef.main_arg0) = m' (((0 : Dev Cert.SiblingRef.nD).tc : Thread Cert.SiblingRef.nD Cert.SiblingRef.τ).loc Cert.SiblingRef.main_arg0)
          ∧ r.2.mem (((0 : Dev Cert.SiblingRef.nD).tc : Thread Cert.SiblingRef.nD Cert.SiblingRef.τ).loc Cert.SiblingRef.main_arg1) = m' (((0 : Dev Cert.SiblingRef.nD).tc : Thread Cert.SiblingRef.nD Cert.SiblingRef.τ).loc Cert.SiblingRef.main_arg1)
          ∧ r.2.mem (((0 : Dev Cert.SiblingRef.nD).tc : Thread Cert.SiblingRef.nD Cert.SiblingRef.τ).loc Cert.SiblingRef.main_arg2) = m' (((0 : Dev Cert.SiblingRef.nD).tc : Thread Cert.SiblingRef.nD Cert.SiblingRef.τ).loc Cert.SiblingRef.main_arg2))

def preserves_ScatterMix_ScatterMixIdeal : Prop :=
  True

def algebraic_ScatterMixIdeal_ScatterMixRefIdeal [hScatterMixIdeal : Cert.ScatterMixIdeal.Facts] [hScatterMixRefIdeal : Cert.ScatterMixRefIdeal.Facts] : Prop :=
  ∀ (m : (ℓ : Loc Cert.ScatterMixIdeal.nD Cert.ScatterMixIdeal.τ Cert.ScatterMixIdeal.sig) → Buf (Elt Ideal) ℓ) (g : Dev Cert.ScatterMixIdeal.nD → PrngReg)
    (m' : (ℓ : Loc Cert.ScatterMixRefIdeal.nD Cert.ScatterMixRefIdeal.τ Cert.ScatterMixRefIdeal.sig) → Buf (Elt Ideal) ℓ) (g' : Dev Cert.ScatterMixRefIdeal.nD → PrngReg), Pre_ScatterMixIdeal m →
    (∀ c : Dev Cert.ScatterMixIdeal.nD,
      m ((c.tc : Thread Cert.ScatterMixIdeal.nD Cert.ScatterMixIdeal.τ).loc Cert.ScatterMixIdeal.main_arg0) = Layout.block ⟨3, ![4, 1600, 1024]⟩ ⟨3, ![32, 1600, 1024]⟩ 0 8 c (m' (((0 : Dev Cert.ScatterMixRefIdeal.nD).tc : Thread Cert.ScatterMixRefIdeal.nD Cert.ScatterMixRefIdeal.τ).loc Cert.ScatterMixRefIdeal.main_arg0))
      ∧ m ((c.tc : Thread Cert.ScatterMixIdeal.nD Cert.ScatterMixIdeal.τ).loc Cert.ScatterMixIdeal.main_arg1) = Layout.block ⟨3, ![4, 256, 512]⟩ ⟨3, ![32, 256, 512]⟩ 0 8 c (m' (((0 : Dev Cert.ScatterMixRefIdeal.nD).tc : Thread Cert.ScatterMixRefIdeal.nD Cert.ScatterMixRefIdeal.τ).loc Cert.ScatterMixRefIdeal.main_arg1))
      ∧ m ((c.tc : Thread Cert.ScatterMixIdeal.nD Cert.ScatterMixIdeal.τ).loc Cert.ScatterMixIdeal.main_arg2) = Layout.block ⟨3, ![4, 256, 1024]⟩ ⟨3, ![32, 256, 1024]⟩ 0 8 c (m' (((0 : Dev Cert.ScatterMixRefIdeal.nD).tc : Thread Cert.ScatterMixRefIdeal.nD Cert.ScatterMixRefIdeal.τ).loc Cert.ScatterMixRefIdeal.main_arg2))
      ∧ m ((c.tc : Thread Cert.ScatterMixIdeal.nD Cert.ScatterMixIdeal.τ).loc Cert.ScatterMixIdeal.main_arg3) = Layout.block ⟨3, ![4, 256, 1024]⟩ ⟨3, ![32, 256, 1024]⟩ 0 8 c (m' (((0 : Dev Cert.ScatterMixRefIdeal.nD).tc : Thread Cert.ScatterMixRefIdeal.nD Cert.ScatterMixRefIdeal.τ).loc Cert.ScatterMixRefIdeal.main_arg3))
      ∧ m ((c.tc : Thread Cert.ScatterMixIdeal.nD Cert.ScatterMixIdeal.τ).loc Cert.ScatterMixIdeal.main_arg4) = Layout.block ⟨3, ![4, 256, 512]⟩ ⟨3, ![32, 256, 512]⟩ 0 8 c (m' (((0 : Dev Cert.ScatterMixRefIdeal.nD).tc : Thread Cert.ScatterMixRefIdeal.nD Cert.ScatterMixRefIdeal.τ).loc Cert.ScatterMixRefIdeal.main_arg4))
      ∧ m ((c.tc : Thread Cert.ScatterMixIdeal.nD Cert.ScatterMixIdeal.τ).loc Cert.ScatterMixIdeal.main_arg5) = Layout.block ⟨3, ![4, 256, 1024]⟩ ⟨3, ![32, 256, 1024]⟩ 0 8 c (m' (((0 : Dev Cert.ScatterMixRefIdeal.nD).tc : Thread Cert.ScatterMixRefIdeal.nD Cert.ScatterMixRefIdeal.τ).loc Cert.ScatterMixRefIdeal.main_arg5))) →
    ∃ (v0 : Buf (Elt Ideal) (((0 : Dev Cert.ScatterMixRefIdeal.nD).tc : Thread Cert.ScatterMixRefIdeal.nD Cert.ScatterMixRefIdeal.τ).loc Cert.ScatterMixRefIdeal.main_v2)) (v1 : Buf (Elt Ideal) (((0 : Dev Cert.ScatterMixRefIdeal.nD).tc : Thread Cert.ScatterMixRefIdeal.nD Cert.ScatterMixRefIdeal.τ).loc Cert.ScatterMixRefIdeal.main_v5)) (v2 : Buf (Elt Ideal) (((0 : Dev Cert.ScatterMixRefIdeal.nD).tc : Thread Cert.ScatterMixRefIdeal.nD Cert.ScatterMixRefIdeal.τ).loc Cert.ScatterMixRefIdeal.main_v8)) (v3 : Buf (Elt Ideal) (((0 : Dev Cert.ScatterMixRefIdeal.nD).tc : Thread Cert.ScatterMixRefIdeal.nD Cert.ScatterMixRefIdeal.τ).loc Cert.ScatterMixRefIdeal.main_v11)) (v4 : Buf (Elt Ideal) (((0 : Dev Cert.ScatterMixRefIdeal.nD).tc : Thread Cert.ScatterMixRefIdeal.nD Cert.ScatterMixRefIdeal.τ).loc Cert.ScatterMixRefIdeal.main_v14)) (v5 : Buf (Elt Ideal) (((0 : Dev Cert.ScatterMixRefIdeal.nD).tc : Thread Cert.ScatterMixRefIdeal.nD Cert.ScatterMixRefIdeal.τ).loc Cert.ScatterMixRefIdeal.main_v17)),
      θ_run (Cert.ScatterMixIdeal.defs (F := Ideal)) (onTc (τ := Cert.ScatterMixIdeal.τ) (Cert.ScatterMixIdeal.main (F := Ideal))) ⟨m, fun _ => 0, g⟩ (fun r => ∀ c : Dev Cert.ScatterMixIdeal.nD,
          r.2.mem ((c.tc : Thread Cert.ScatterMixIdeal.nD Cert.ScatterMixIdeal.τ).loc Cert.ScatterMixIdeal.main_v1) = Layout.block ⟨3, ![4, 1600, 1024]⟩ ⟨3, ![32, 1600, 1024]⟩ 0 8 c v0
          ∧ r.2.mem ((c.tc : Thread Cert.ScatterMixIdeal.nD Cert.ScatterMixIdeal.τ).loc Cert.ScatterMixIdeal.main_v2) = Layout.block ⟨3, ![4, 256, 512]⟩ ⟨3, ![32, 256, 512]⟩ 0 8 c v1
          ∧ r.2.mem ((c.tc : Thread Cert.ScatterMixIdeal.nD Cert.ScatterMixIdeal.τ).loc Cert.ScatterMixIdeal.main_v3) = Layout.block ⟨3, ![4, 256, 1024]⟩ ⟨3, ![32, 256, 1024]⟩ 0 8 c v2
          ∧ r.2.mem ((c.tc : Thread Cert.ScatterMixIdeal.nD Cert.ScatterMixIdeal.τ).loc Cert.ScatterMixIdeal.main_v4) = Layout.block ⟨3, ![4, 256, 1024]⟩ ⟨3, ![32, 256, 1024]⟩ 0 8 c v3
          ∧ r.2.mem ((c.tc : Thread Cert.ScatterMixIdeal.nD Cert.ScatterMixIdeal.τ).loc Cert.ScatterMixIdeal.main_v5) = Layout.block ⟨3, ![4, 256, 512]⟩ ⟨3, ![32, 256, 512]⟩ 0 8 c v4
          ∧ r.2.mem ((c.tc : Thread Cert.ScatterMixIdeal.nD Cert.ScatterMixIdeal.τ).loc Cert.ScatterMixIdeal.main_v6) = Layout.block ⟨3, ![4, 256, 1024]⟩ ⟨3, ![32, 256, 1024]⟩ 0 8 c v5
          ∧ r.2.mem ((c.tc : Thread Cert.ScatterMixIdeal.nD Cert.ScatterMixIdeal.τ).loc Cert.ScatterMixIdeal.main_arg0) = m ((c.tc : Thread Cert.ScatterMixIdeal.nD Cert.ScatterMixIdeal.τ).loc Cert.ScatterMixIdeal.main_arg0)
          ∧ r.2.mem ((c.tc : Thread Cert.ScatterMixIdeal.nD Cert.ScatterMixIdeal.τ).loc Cert.ScatterMixIdeal.main_arg1) = m ((c.tc : Thread Cert.ScatterMixIdeal.nD Cert.ScatterMixIdeal.τ).loc Cert.ScatterMixIdeal.main_arg1)
          ∧ r.2.mem ((c.tc : Thread Cert.ScatterMixIdeal.nD Cert.ScatterMixIdeal.τ).loc Cert.ScatterMixIdeal.main_arg2) = m ((c.tc : Thread Cert.ScatterMixIdeal.nD Cert.ScatterMixIdeal.τ).loc Cert.ScatterMixIdeal.main_arg2)
          ∧ r.2.mem ((c.tc : Thread Cert.ScatterMixIdeal.nD Cert.ScatterMixIdeal.τ).loc Cert.ScatterMixIdeal.main_arg3) = m ((c.tc : Thread Cert.ScatterMixIdeal.nD Cert.ScatterMixIdeal.τ).loc Cert.ScatterMixIdeal.main_arg3)
          ∧ r.2.mem ((c.tc : Thread Cert.ScatterMixIdeal.nD Cert.ScatterMixIdeal.τ).loc Cert.ScatterMixIdeal.main_arg4) = m ((c.tc : Thread Cert.ScatterMixIdeal.nD Cert.ScatterMixIdeal.τ).loc Cert.ScatterMixIdeal.main_arg4)
          ∧ r.2.mem ((c.tc : Thread Cert.ScatterMixIdeal.nD Cert.ScatterMixIdeal.τ).loc Cert.ScatterMixIdeal.main_arg5) = m ((c.tc : Thread Cert.ScatterMixIdeal.nD Cert.ScatterMixIdeal.τ).loc Cert.ScatterMixIdeal.main_arg5))
      ∧ θ_run (Cert.ScatterMixRefIdeal.defs (F := Ideal)) (onTc (τ := Cert.ScatterMixRefIdeal.τ) (Cert.ScatterMixRefIdeal.main (F := Ideal))) ⟨m', fun _ => 0, g'⟩ (fun r =>
          r.2.mem (((0 : Dev Cert.ScatterMixRefIdeal.nD).tc : Thread Cert.ScatterMixRefIdeal.nD Cert.ScatterMixRefIdeal.τ).loc Cert.ScatterMixRefIdeal.main_v2) = v0
          ∧ r.2.mem (((0 : Dev Cert.ScatterMixRefIdeal.nD).tc : Thread Cert.ScatterMixRefIdeal.nD Cert.ScatterMixRefIdeal.τ).loc Cert.ScatterMixRefIdeal.main_v5) = v1
          ∧ r.2.mem (((0 : Dev Cert.ScatterMixRefIdeal.nD).tc : Thread Cert.ScatterMixRefIdeal.nD Cert.ScatterMixRefIdeal.τ).loc Cert.ScatterMixRefIdeal.main_v8) = v2
          ∧ r.2.mem (((0 : Dev Cert.ScatterMixRefIdeal.nD).tc : Thread Cert.ScatterMixRefIdeal.nD Cert.ScatterMixRefIdeal.τ).loc Cert.ScatterMixRefIdeal.main_v11) = v3
          ∧ r.2.mem (((0 : Dev Cert.ScatterMixRefIdeal.nD).tc : Thread Cert.ScatterMixRefIdeal.nD Cert.ScatterMixRefIdeal.τ).loc Cert.ScatterMixRefIdeal.main_v14) = v4
          ∧ r.2.mem (((0 : Dev Cert.ScatterMixRefIdeal.nD).tc : Thread Cert.ScatterMixRefIdeal.nD Cert.ScatterMixRefIdeal.τ).loc Cert.ScatterMixRefIdeal.main_v17) = v5
          ∧ r.2.mem (((0 : Dev Cert.ScatterMixRefIdeal.nD).tc : Thread Cert.ScatterMixRefIdeal.nD Cert.ScatterMixRefIdeal.τ).loc Cert.ScatterMixRefIdeal.main_arg0) = m' (((0 : Dev Cert.ScatterMixRefIdeal.nD).tc : Thread Cert.ScatterMixRefIdeal.nD Cert.ScatterMixRefIdeal.τ).loc Cert.ScatterMixRefIdeal.main_arg0)
          ∧ r.2.mem (((0 : Dev Cert.ScatterMixRefIdeal.nD).tc : Thread Cert.ScatterMixRefIdeal.nD Cert.ScatterMixRefIdeal.τ).loc Cert.ScatterMixRefIdeal.main_arg1) = m' (((0 : Dev Cert.ScatterMixRefIdeal.nD).tc : Thread Cert.ScatterMixRefIdeal.nD Cert.ScatterMixRefIdeal.τ).loc Cert.ScatterMixRefIdeal.main_arg1)
          ∧ r.2.mem (((0 : Dev Cert.ScatterMixRefIdeal.nD).tc : Thread Cert.ScatterMixRefIdeal.nD Cert.ScatterMixRefIdeal.τ).loc Cert.ScatterMixRefIdeal.main_arg2) = m' (((0 : Dev Cert.ScatterMixRefIdeal.nD).tc : Thread Cert.ScatterMixRefIdeal.nD Cert.ScatterMixRefIdeal.τ).loc Cert.ScatterMixRefIdeal.main_arg2)
          ∧ r.2.mem (((0 : Dev Cert.ScatterMixRefIdeal.nD).tc : Thread Cert.ScatterMixRefIdeal.nD Cert.ScatterMixRefIdeal.τ).loc Cert.ScatterMixRefIdeal.main_arg3) = m' (((0 : Dev Cert.ScatterMixRefIdeal.nD).tc : Thread Cert.ScatterMixRefIdeal.nD Cert.ScatterMixRefIdeal.τ).loc Cert.ScatterMixRefIdeal.main_arg3)
          ∧ r.2.mem (((0 : Dev Cert.ScatterMixRefIdeal.nD).tc : Thread Cert.ScatterMixRefIdeal.nD Cert.ScatterMixRefIdeal.τ).loc Cert.ScatterMixRefIdeal.main_arg4) = m' (((0 : Dev Cert.ScatterMixRefIdeal.nD).tc : Thread Cert.ScatterMixRefIdeal.nD Cert.ScatterMixRefIdeal.τ).loc Cert.ScatterMixRefIdeal.main_arg4)
          ∧ r.2.mem (((0 : Dev Cert.ScatterMixRefIdeal.nD).tc : Thread Cert.ScatterMixRefIdeal.nD Cert.ScatterMixRefIdeal.τ).loc Cert.ScatterMixRefIdeal.main_arg5) = m' (((0 : Dev Cert.ScatterMixRefIdeal.nD).tc : Thread Cert.ScatterMixRefIdeal.nD Cert.ScatterMixRefIdeal.τ).loc Cert.ScatterMixRefIdeal.main_arg5))

def bitexact_ScatterMix_ScatterMixRef [hScatterMix : Cert.ScatterMix.Facts] [hScatterMixRef : Cert.ScatterMixRef.Facts] : Prop :=
  ∀ (m : (ℓ : Loc Cert.ScatterMix.nD Cert.ScatterMix.τ Cert.ScatterMix.sig) → Buf (Elt Bits) ℓ) (g : Dev Cert.ScatterMix.nD → PrngReg)
    (m' : (ℓ : Loc Cert.ScatterMixRef.nD Cert.ScatterMixRef.τ Cert.ScatterMixRef.sig) → Buf (Elt Bits) ℓ) (g' : Dev Cert.ScatterMixRef.nD → PrngReg), Pre_ScatterMix m →
    (∀ c : Dev Cert.ScatterMix.nD,
      m ((c.tc : Thread Cert.ScatterMix.nD Cert.ScatterMix.τ).loc Cert.ScatterMix.main_arg0) = Layout.block ⟨3, ![4, 1600, 1024]⟩ ⟨3, ![32, 1600, 1024]⟩ 0 8 c (m' (((0 : Dev Cert.ScatterMixRef.nD).tc : Thread Cert.ScatterMixRef.nD Cert.ScatterMixRef.τ).loc Cert.ScatterMixRef.main_arg0))
      ∧ m ((c.tc : Thread Cert.ScatterMix.nD Cert.ScatterMix.τ).loc Cert.ScatterMix.main_arg1) = Layout.block ⟨3, ![4, 256, 512]⟩ ⟨3, ![32, 256, 512]⟩ 0 8 c (m' (((0 : Dev Cert.ScatterMixRef.nD).tc : Thread Cert.ScatterMixRef.nD Cert.ScatterMixRef.τ).loc Cert.ScatterMixRef.main_arg1))
      ∧ m ((c.tc : Thread Cert.ScatterMix.nD Cert.ScatterMix.τ).loc Cert.ScatterMix.main_arg2) = Layout.block ⟨3, ![4, 256, 1024]⟩ ⟨3, ![32, 256, 1024]⟩ 0 8 c (m' (((0 : Dev Cert.ScatterMixRef.nD).tc : Thread Cert.ScatterMixRef.nD Cert.ScatterMixRef.τ).loc Cert.ScatterMixRef.main_arg2))
      ∧ m ((c.tc : Thread Cert.ScatterMix.nD Cert.ScatterMix.τ).loc Cert.ScatterMix.main_arg3) = Layout.block ⟨3, ![4, 256, 1024]⟩ ⟨3, ![32, 256, 1024]⟩ 0 8 c (m' (((0 : Dev Cert.ScatterMixRef.nD).tc : Thread Cert.ScatterMixRef.nD Cert.ScatterMixRef.τ).loc Cert.ScatterMixRef.main_arg3))
      ∧ m ((c.tc : Thread Cert.ScatterMix.nD Cert.ScatterMix.τ).loc Cert.ScatterMix.main_arg4) = Layout.block ⟨3, ![4, 256, 512]⟩ ⟨3, ![32, 256, 512]⟩ 0 8 c (m' (((0 : Dev Cert.ScatterMixRef.nD).tc : Thread Cert.ScatterMixRef.nD Cert.ScatterMixRef.τ).loc Cert.ScatterMixRef.main_arg4))
      ∧ m ((c.tc : Thread Cert.ScatterMix.nD Cert.ScatterMix.τ).loc Cert.ScatterMix.main_arg5) = Layout.block ⟨3, ![4, 256, 1024]⟩ ⟨3, ![32, 256, 1024]⟩ 0 8 c (m' (((0 : Dev Cert.ScatterMixRef.nD).tc : Thread Cert.ScatterMixRef.nD Cert.ScatterMixRef.τ).loc Cert.ScatterMixRef.main_arg5))) →
    ∃ (v0 : Buf (Elt Bits) (((0 : Dev Cert.ScatterMixRef.nD).tc : Thread Cert.ScatterMixRef.nD Cert.ScatterMixRef.τ).loc Cert.ScatterMixRef.main_v2)) (v1 : Buf (Elt Bits) (((0 : Dev Cert.ScatterMixRef.nD).tc : Thread Cert.ScatterMixRef.nD Cert.ScatterMixRef.τ).loc Cert.ScatterMixRef.main_v5)) (v2 : Buf (Elt Bits) (((0 : Dev Cert.ScatterMixRef.nD).tc : Thread Cert.ScatterMixRef.nD Cert.ScatterMixRef.τ).loc Cert.ScatterMixRef.main_v8)) (v3 : Buf (Elt Bits) (((0 : Dev Cert.ScatterMixRef.nD).tc : Thread Cert.ScatterMixRef.nD Cert.ScatterMixRef.τ).loc Cert.ScatterMixRef.main_v11)) (v4 : Buf (Elt Bits) (((0 : Dev Cert.ScatterMixRef.nD).tc : Thread Cert.ScatterMixRef.nD Cert.ScatterMixRef.τ).loc Cert.ScatterMixRef.main_v14)) (v5 : Buf (Elt Bits) (((0 : Dev Cert.ScatterMixRef.nD).tc : Thread Cert.ScatterMixRef.nD Cert.ScatterMixRef.τ).loc Cert.ScatterMixRef.main_v17)),
      θ_run (Cert.ScatterMix.defs (F := Bits)) (onTc (τ := Cert.ScatterMix.τ) (Cert.ScatterMix.main (F := Bits))) ⟨m, fun _ => 0, g⟩ (fun r => ∀ c : Dev Cert.ScatterMix.nD,
          r.2.mem ((c.tc : Thread Cert.ScatterMix.nD Cert.ScatterMix.τ).loc Cert.ScatterMix.main_v1) = Layout.block ⟨3, ![4, 1600, 1024]⟩ ⟨3, ![32, 1600, 1024]⟩ 0 8 c v0
          ∧ r.2.mem ((c.tc : Thread Cert.ScatterMix.nD Cert.ScatterMix.τ).loc Cert.ScatterMix.main_v2) = Layout.block ⟨3, ![4, 256, 512]⟩ ⟨3, ![32, 256, 512]⟩ 0 8 c v1
          ∧ r.2.mem ((c.tc : Thread Cert.ScatterMix.nD Cert.ScatterMix.τ).loc Cert.ScatterMix.main_v3) = Layout.block ⟨3, ![4, 256, 1024]⟩ ⟨3, ![32, 256, 1024]⟩ 0 8 c v2
          ∧ r.2.mem ((c.tc : Thread Cert.ScatterMix.nD Cert.ScatterMix.τ).loc Cert.ScatterMix.main_v4) = Layout.block ⟨3, ![4, 256, 1024]⟩ ⟨3, ![32, 256, 1024]⟩ 0 8 c v3
          ∧ r.2.mem ((c.tc : Thread Cert.ScatterMix.nD Cert.ScatterMix.τ).loc Cert.ScatterMix.main_v5) = Layout.block ⟨3, ![4, 256, 512]⟩ ⟨3, ![32, 256, 512]⟩ 0 8 c v4
          ∧ r.2.mem ((c.tc : Thread Cert.ScatterMix.nD Cert.ScatterMix.τ).loc Cert.ScatterMix.main_v6) = Layout.block ⟨3, ![4, 256, 1024]⟩ ⟨3, ![32, 256, 1024]⟩ 0 8 c v5
          ∧ r.2.mem ((c.tc : Thread Cert.ScatterMix.nD Cert.ScatterMix.τ).loc Cert.ScatterMix.main_arg0) = m ((c.tc : Thread Cert.ScatterMix.nD Cert.ScatterMix.τ).loc Cert.ScatterMix.main_arg0)
          ∧ r.2.mem ((c.tc : Thread Cert.ScatterMix.nD Cert.ScatterMix.τ).loc Cert.ScatterMix.main_arg1) = m ((c.tc : Thread Cert.ScatterMix.nD Cert.ScatterMix.τ).loc Cert.ScatterMix.main_arg1)
          ∧ r.2.mem ((c.tc : Thread Cert.ScatterMix.nD Cert.ScatterMix.τ).loc Cert.ScatterMix.main_arg2) = m ((c.tc : Thread Cert.ScatterMix.nD Cert.ScatterMix.τ).loc Cert.ScatterMix.main_arg2)
          ∧ r.2.mem ((c.tc : Thread Cert.ScatterMix.nD Cert.ScatterMix.τ).loc Cert.ScatterMix.main_arg3) = m ((c.tc : Thread Cert.ScatterMix.nD Cert.ScatterMix.τ).loc Cert.ScatterMix.main_arg3)
          ∧ r.2.mem ((c.tc : Thread Cert.ScatterMix.nD Cert.ScatterMix.τ).loc Cert.ScatterMix.main_arg4) = m ((c.tc : Thread Cert.ScatterMix.nD Cert.ScatterMix.τ).loc Cert.ScatterMix.main_arg4)
          ∧ r.2.mem ((c.tc : Thread Cert.ScatterMix.nD Cert.ScatterMix.τ).loc Cert.ScatterMix.main_arg5) = m ((c.tc : Thread Cert.ScatterMix.nD Cert.ScatterMix.τ).loc Cert.ScatterMix.main_arg5))
      ∧ θ_run (Cert.ScatterMixRef.defs (F := Bits)) (onTc (τ := Cert.ScatterMixRef.τ) (Cert.ScatterMixRef.main (F := Bits))) ⟨m', fun _ => 0, g'⟩ (fun r =>
          r.2.mem (((0 : Dev Cert.ScatterMixRef.nD).tc : Thread Cert.ScatterMixRef.nD Cert.ScatterMixRef.τ).loc Cert.ScatterMixRef.main_v2) = v0
          ∧ r.2.mem (((0 : Dev Cert.ScatterMixRef.nD).tc : Thread Cert.ScatterMixRef.nD Cert.ScatterMixRef.τ).loc Cert.ScatterMixRef.main_v5) = v1
          ∧ r.2.mem (((0 : Dev Cert.ScatterMixRef.nD).tc : Thread Cert.ScatterMixRef.nD Cert.ScatterMixRef.τ).loc Cert.ScatterMixRef.main_v8) = v2
          ∧ r.2.mem (((0 : Dev Cert.ScatterMixRef.nD).tc : Thread Cert.ScatterMixRef.nD Cert.ScatterMixRef.τ).loc Cert.ScatterMixRef.main_v11) = v3
          ∧ r.2.mem (((0 : Dev Cert.ScatterMixRef.nD).tc : Thread Cert.ScatterMixRef.nD Cert.ScatterMixRef.τ).loc Cert.ScatterMixRef.main_v14) = v4
          ∧ r.2.mem (((0 : Dev Cert.ScatterMixRef.nD).tc : Thread Cert.ScatterMixRef.nD Cert.ScatterMixRef.τ).loc Cert.ScatterMixRef.main_v17) = v5
          ∧ r.2.mem (((0 : Dev Cert.ScatterMixRef.nD).tc : Thread Cert.ScatterMixRef.nD Cert.ScatterMixRef.τ).loc Cert.ScatterMixRef.main_arg0) = m' (((0 : Dev Cert.ScatterMixRef.nD).tc : Thread Cert.ScatterMixRef.nD Cert.ScatterMixRef.τ).loc Cert.ScatterMixRef.main_arg0)
          ∧ r.2.mem (((0 : Dev Cert.ScatterMixRef.nD).tc : Thread Cert.ScatterMixRef.nD Cert.ScatterMixRef.τ).loc Cert.ScatterMixRef.main_arg1) = m' (((0 : Dev Cert.ScatterMixRef.nD).tc : Thread Cert.ScatterMixRef.nD Cert.ScatterMixRef.τ).loc Cert.ScatterMixRef.main_arg1)
          ∧ r.2.mem (((0 : Dev Cert.ScatterMixRef.nD).tc : Thread Cert.ScatterMixRef.nD Cert.ScatterMixRef.τ).loc Cert.ScatterMixRef.main_arg2) = m' (((0 : Dev Cert.ScatterMixRef.nD).tc : Thread Cert.ScatterMixRef.nD Cert.ScatterMixRef.τ).loc Cert.ScatterMixRef.main_arg2)
          ∧ r.2.mem (((0 : Dev Cert.ScatterMixRef.nD).tc : Thread Cert.ScatterMixRef.nD Cert.ScatterMixRef.τ).loc Cert.ScatterMixRef.main_arg3) = m' (((0 : Dev Cert.ScatterMixRef.nD).tc : Thread Cert.ScatterMixRef.nD Cert.ScatterMixRef.τ).loc Cert.ScatterMixRef.main_arg3)
          ∧ r.2.mem (((0 : Dev Cert.ScatterMixRef.nD).tc : Thread Cert.ScatterMixRef.nD Cert.ScatterMixRef.τ).loc Cert.ScatterMixRef.main_arg4) = m' (((0 : Dev Cert.ScatterMixRef.nD).tc : Thread Cert.ScatterMixRef.nD Cert.ScatterMixRef.τ).loc Cert.ScatterMixRef.main_arg4)
          ∧ r.2.mem (((0 : Dev Cert.ScatterMixRef.nD).tc : Thread Cert.ScatterMixRef.nD Cert.ScatterMixRef.τ).loc Cert.ScatterMixRef.main_arg5) = m' (((0 : Dev Cert.ScatterMixRef.nD).tc : Thread Cert.ScatterMixRef.nD Cert.ScatterMixRef.τ).loc Cert.ScatterMixRef.main_arg5))

def preserves_SiblingMix_SiblingMixIdeal : Prop :=
  True

def algebraic_SiblingMixIdeal_SiblingMixRefIdeal [hSiblingMixIdeal : Cert.SiblingMixIdeal.Facts] [hSiblingMixRefIdeal : Cert.SiblingMixRefIdeal.Facts] : Prop :=
  ∀ (m : (ℓ : Loc Cert.SiblingMixIdeal.nD Cert.SiblingMixIdeal.τ Cert.SiblingMixIdeal.sig) → Buf (Elt Ideal) ℓ) (g : Dev Cert.SiblingMixIdeal.nD → PrngReg)
    (m' : (ℓ : Loc Cert.SiblingMixRefIdeal.nD Cert.SiblingMixRefIdeal.τ Cert.SiblingMixRefIdeal.sig) → Buf (Elt Ideal) ℓ) (g' : Dev Cert.SiblingMixRefIdeal.nD → PrngReg), Pre_SiblingMixIdeal m →
    (∀ c : Dev Cert.SiblingMixIdeal.nD,
      m ((c.tc : Thread Cert.SiblingMixIdeal.nD Cert.SiblingMixIdeal.τ).loc Cert.SiblingMixIdeal.main_arg0) = Layout.block ⟨2, ![6400, 1024]⟩ ⟨2, ![51200, 1024]⟩ 0 8 c (m' (((0 : Dev Cert.SiblingMixRefIdeal.nD).tc : Thread Cert.SiblingMixRefIdeal.nD Cert.SiblingMixRefIdeal.τ).loc Cert.SiblingMixRefIdeal.main_arg0))
      ∧ m ((c.tc : Thread Cert.SiblingMixIdeal.nD Cert.SiblingMixIdeal.τ).loc Cert.SiblingMixIdeal.main_arg1) = Layout.block ⟨2, ![1024, 512]⟩ ⟨2, ![8192, 512]⟩ 0 8 c (m' (((0 : Dev Cert.SiblingMixRefIdeal.nD).tc : Thread Cert.SiblingMixRefIdeal.nD Cert.SiblingMixRefIdeal.τ).loc Cert.SiblingMixRefIdeal.main_arg1))
      ∧ m ((c.tc : Thread Cert.SiblingMixIdeal.nD Cert.SiblingMixIdeal.τ).loc Cert.SiblingMixIdeal.main_arg2) = Layout.block ⟨2, ![1024, 1024]⟩ ⟨2, ![8192, 1024]⟩ 0 8 c (m' (((0 : Dev Cert.SiblingMixRefIdeal.nD).tc : Thread Cert.SiblingMixRefIdeal.nD Cert.SiblingMixRefIdeal.τ).loc Cert.SiblingMixRefIdeal.main_arg2))
      ∧ m ((c.tc : Thread Cert.SiblingMixIdeal.nD Cert.SiblingMixIdeal.τ).loc Cert.SiblingMixIdeal.main_arg3) = Layout.block ⟨2, ![1024, 1024]⟩ ⟨2, ![8192, 1024]⟩ 0 8 c (m' (((0 : Dev Cert.SiblingMixRefIdeal.nD).tc : Thread Cert.SiblingMixRefIdeal.nD Cert.SiblingMixRefIdeal.τ).loc Cert.SiblingMixRefIdeal.main_arg3))
      ∧ m ((c.tc : Thread Cert.SiblingMixIdeal.nD Cert.SiblingMixIdeal.τ).loc Cert.SiblingMixIdeal.main_arg4) = Layout.block ⟨2, ![1024, 512]⟩ ⟨2, ![8192, 512]⟩ 0 8 c (m' (((0 : Dev Cert.SiblingMixRefIdeal.nD).tc : Thread Cert.SiblingMixRefIdeal.nD Cert.SiblingMixRefIdeal.τ).loc Cert.SiblingMixRefIdeal.main_arg4))
      ∧ m ((c.tc : Thread Cert.SiblingMixIdeal.nD Cert.SiblingMixIdeal.τ).loc Cert.SiblingMixIdeal.main_arg5) = Layout.block ⟨2, ![1024, 1024]⟩ ⟨2, ![8192, 1024]⟩ 0 8 c (m' (((0 : Dev Cert.SiblingMixRefIdeal.nD).tc : Thread Cert.SiblingMixRefIdeal.nD Cert.SiblingMixRefIdeal.τ).loc Cert.SiblingMixRefIdeal.main_arg5))) →
    ∃ (v0 : Buf (Elt Ideal) (((0 : Dev Cert.SiblingMixRefIdeal.nD).tc : Thread Cert.SiblingMixRefIdeal.nD Cert.SiblingMixRefIdeal.τ).loc Cert.SiblingMixRefIdeal.main_v2)) (v1 : Buf (Elt Ideal) (((0 : Dev Cert.SiblingMixRefIdeal.nD).tc : Thread Cert.SiblingMixRefIdeal.nD Cert.SiblingMixRefIdeal.τ).loc Cert.SiblingMixRefIdeal.main_v5)) (v2 : Buf (Elt Ideal) (((0 : Dev Cert.SiblingMixRefIdeal.nD).tc : Thread Cert.SiblingMixRefIdeal.nD Cert.SiblingMixRefIdeal.τ).loc Cert.SiblingMixRefIdeal.main_v8)) (v3 : Buf (Elt Ideal) (((0 : Dev Cert.SiblingMixRefIdeal.nD).tc : Thread Cert.SiblingMixRefIdeal.nD Cert.SiblingMixRefIdeal.τ).loc Cert.SiblingMixRefIdeal.main_v11)) (v4 : Buf (Elt Ideal) (((0 : Dev Cert.SiblingMixRefIdeal.nD).tc : Thread Cert.SiblingMixRefIdeal.nD Cert.SiblingMixRefIdeal.τ).loc Cert.SiblingMixRefIdeal.main_v14)) (v5 : Buf (Elt Ideal) (((0 : Dev Cert.SiblingMixRefIdeal.nD).tc : Thread Cert.SiblingMixRefIdeal.nD Cert.SiblingMixRefIdeal.τ).loc Cert.SiblingMixRefIdeal.main_v17)),
      θ_run (Cert.SiblingMixIdeal.defs (F := Ideal)) (onTc (τ := Cert.SiblingMixIdeal.τ) (Cert.SiblingMixIdeal.main (F := Ideal))) ⟨m, fun _ => 0, g⟩ (fun r => ∀ c : Dev Cert.SiblingMixIdeal.nD,
          r.2.mem ((c.tc : Thread Cert.SiblingMixIdeal.nD Cert.SiblingMixIdeal.τ).loc Cert.SiblingMixIdeal.main_v1) = Layout.block ⟨2, ![6400, 1024]⟩ ⟨2, ![51200, 1024]⟩ 0 8 c v0
          ∧ r.2.mem ((c.tc : Thread Cert.SiblingMixIdeal.nD Cert.SiblingMixIdeal.τ).loc Cert.SiblingMixIdeal.main_v2) = Layout.block ⟨2, ![1024, 512]⟩ ⟨2, ![8192, 512]⟩ 0 8 c v1
          ∧ r.2.mem ((c.tc : Thread Cert.SiblingMixIdeal.nD Cert.SiblingMixIdeal.τ).loc Cert.SiblingMixIdeal.main_v3) = Layout.block ⟨2, ![1024, 1024]⟩ ⟨2, ![8192, 1024]⟩ 0 8 c v2
          ∧ r.2.mem ((c.tc : Thread Cert.SiblingMixIdeal.nD Cert.SiblingMixIdeal.τ).loc Cert.SiblingMixIdeal.main_v4) = Layout.block ⟨2, ![1024, 1024]⟩ ⟨2, ![8192, 1024]⟩ 0 8 c v3
          ∧ r.2.mem ((c.tc : Thread Cert.SiblingMixIdeal.nD Cert.SiblingMixIdeal.τ).loc Cert.SiblingMixIdeal.main_v5) = Layout.block ⟨2, ![1024, 512]⟩ ⟨2, ![8192, 512]⟩ 0 8 c v4
          ∧ r.2.mem ((c.tc : Thread Cert.SiblingMixIdeal.nD Cert.SiblingMixIdeal.τ).loc Cert.SiblingMixIdeal.main_v6) = Layout.block ⟨2, ![1024, 1024]⟩ ⟨2, ![8192, 1024]⟩ 0 8 c v5
          ∧ r.2.mem ((c.tc : Thread Cert.SiblingMixIdeal.nD Cert.SiblingMixIdeal.τ).loc Cert.SiblingMixIdeal.main_arg0) = m ((c.tc : Thread Cert.SiblingMixIdeal.nD Cert.SiblingMixIdeal.τ).loc Cert.SiblingMixIdeal.main_arg0)
          ∧ r.2.mem ((c.tc : Thread Cert.SiblingMixIdeal.nD Cert.SiblingMixIdeal.τ).loc Cert.SiblingMixIdeal.main_arg1) = m ((c.tc : Thread Cert.SiblingMixIdeal.nD Cert.SiblingMixIdeal.τ).loc Cert.SiblingMixIdeal.main_arg1)
          ∧ r.2.mem ((c.tc : Thread Cert.SiblingMixIdeal.nD Cert.SiblingMixIdeal.τ).loc Cert.SiblingMixIdeal.main_arg2) = m ((c.tc : Thread Cert.SiblingMixIdeal.nD Cert.SiblingMixIdeal.τ).loc Cert.SiblingMixIdeal.main_arg2)
          ∧ r.2.mem ((c.tc : Thread Cert.SiblingMixIdeal.nD Cert.SiblingMixIdeal.τ).loc Cert.SiblingMixIdeal.main_arg3) = m ((c.tc : Thread Cert.SiblingMixIdeal.nD Cert.SiblingMixIdeal.τ).loc Cert.SiblingMixIdeal.main_arg3)
          ∧ r.2.mem ((c.tc : Thread Cert.SiblingMixIdeal.nD Cert.SiblingMixIdeal.τ).loc Cert.SiblingMixIdeal.main_arg4) = m ((c.tc : Thread Cert.SiblingMixIdeal.nD Cert.SiblingMixIdeal.τ).loc Cert.SiblingMixIdeal.main_arg4)
          ∧ r.2.mem ((c.tc : Thread Cert.SiblingMixIdeal.nD Cert.SiblingMixIdeal.τ).loc Cert.SiblingMixIdeal.main_arg5) = m ((c.tc : Thread Cert.SiblingMixIdeal.nD Cert.SiblingMixIdeal.τ).loc Cert.SiblingMixIdeal.main_arg5))
      ∧ θ_run (Cert.SiblingMixRefIdeal.defs (F := Ideal)) (onTc (τ := Cert.SiblingMixRefIdeal.τ) (Cert.SiblingMixRefIdeal.main (F := Ideal))) ⟨m', fun _ => 0, g'⟩ (fun r =>
          r.2.mem (((0 : Dev Cert.SiblingMixRefIdeal.nD).tc : Thread Cert.SiblingMixRefIdeal.nD Cert.SiblingMixRefIdeal.τ).loc Cert.SiblingMixRefIdeal.main_v2) = v0
          ∧ r.2.mem (((0 : Dev Cert.SiblingMixRefIdeal.nD).tc : Thread Cert.SiblingMixRefIdeal.nD Cert.SiblingMixRefIdeal.τ).loc Cert.SiblingMixRefIdeal.main_v5) = v1
          ∧ r.2.mem (((0 : Dev Cert.SiblingMixRefIdeal.nD).tc : Thread Cert.SiblingMixRefIdeal.nD Cert.SiblingMixRefIdeal.τ).loc Cert.SiblingMixRefIdeal.main_v8) = v2
          ∧ r.2.mem (((0 : Dev Cert.SiblingMixRefIdeal.nD).tc : Thread Cert.SiblingMixRefIdeal.nD Cert.SiblingMixRefIdeal.τ).loc Cert.SiblingMixRefIdeal.main_v11) = v3
          ∧ r.2.mem (((0 : Dev Cert.SiblingMixRefIdeal.nD).tc : Thread Cert.SiblingMixRefIdeal.nD Cert.SiblingMixRefIdeal.τ).loc Cert.SiblingMixRefIdeal.main_v14) = v4
          ∧ r.2.mem (((0 : Dev Cert.SiblingMixRefIdeal.nD).tc : Thread Cert.SiblingMixRefIdeal.nD Cert.SiblingMixRefIdeal.τ).loc Cert.SiblingMixRefIdeal.main_v17) = v5
          ∧ r.2.mem (((0 : Dev Cert.SiblingMixRefIdeal.nD).tc : Thread Cert.SiblingMixRefIdeal.nD Cert.SiblingMixRefIdeal.τ).loc Cert.SiblingMixRefIdeal.main_arg0) = m' (((0 : Dev Cert.SiblingMixRefIdeal.nD).tc : Thread Cert.SiblingMixRefIdeal.nD Cert.SiblingMixRefIdeal.τ).loc Cert.SiblingMixRefIdeal.main_arg0)
          ∧ r.2.mem (((0 : Dev Cert.SiblingMixRefIdeal.nD).tc : Thread Cert.SiblingMixRefIdeal.nD Cert.SiblingMixRefIdeal.τ).loc Cert.SiblingMixRefIdeal.main_arg1) = m' (((0 : Dev Cert.SiblingMixRefIdeal.nD).tc : Thread Cert.SiblingMixRefIdeal.nD Cert.SiblingMixRefIdeal.τ).loc Cert.SiblingMixRefIdeal.main_arg1)
          ∧ r.2.mem (((0 : Dev Cert.SiblingMixRefIdeal.nD).tc : Thread Cert.SiblingMixRefIdeal.nD Cert.SiblingMixRefIdeal.τ).loc Cert.SiblingMixRefIdeal.main_arg2) = m' (((0 : Dev Cert.SiblingMixRefIdeal.nD).tc : Thread Cert.SiblingMixRefIdeal.nD Cert.SiblingMixRefIdeal.τ).loc Cert.SiblingMixRefIdeal.main_arg2)
          ∧ r.2.mem (((0 : Dev Cert.SiblingMixRefIdeal.nD).tc : Thread Cert.SiblingMixRefIdeal.nD Cert.SiblingMixRefIdeal.τ).loc Cert.SiblingMixRefIdeal.main_arg3) = m' (((0 : Dev Cert.SiblingMixRefIdeal.nD).tc : Thread Cert.SiblingMixRefIdeal.nD Cert.SiblingMixRefIdeal.τ).loc Cert.SiblingMixRefIdeal.main_arg3)
          ∧ r.2.mem (((0 : Dev Cert.SiblingMixRefIdeal.nD).tc : Thread Cert.SiblingMixRefIdeal.nD Cert.SiblingMixRefIdeal.τ).loc Cert.SiblingMixRefIdeal.main_arg4) = m' (((0 : Dev Cert.SiblingMixRefIdeal.nD).tc : Thread Cert.SiblingMixRefIdeal.nD Cert.SiblingMixRefIdeal.τ).loc Cert.SiblingMixRefIdeal.main_arg4)
          ∧ r.2.mem (((0 : Dev Cert.SiblingMixRefIdeal.nD).tc : Thread Cert.SiblingMixRefIdeal.nD Cert.SiblingMixRefIdeal.τ).loc Cert.SiblingMixRefIdeal.main_arg5) = m' (((0 : Dev Cert.SiblingMixRefIdeal.nD).tc : Thread Cert.SiblingMixRefIdeal.nD Cert.SiblingMixRefIdeal.τ).loc Cert.SiblingMixRefIdeal.main_arg5))

def bitexact_SiblingMix_SiblingMixRef [hSiblingMix : Cert.SiblingMix.Facts] [hSiblingMixRef : Cert.SiblingMixRef.Facts] : Prop :=
  ∀ (m : (ℓ : Loc Cert.SiblingMix.nD Cert.SiblingMix.τ Cert.SiblingMix.sig) → Buf (Elt Bits) ℓ) (g : Dev Cert.SiblingMix.nD → PrngReg)
    (m' : (ℓ : Loc Cert.SiblingMixRef.nD Cert.SiblingMixRef.τ Cert.SiblingMixRef.sig) → Buf (Elt Bits) ℓ) (g' : Dev Cert.SiblingMixRef.nD → PrngReg), Pre_SiblingMix m →
    (∀ c : Dev Cert.SiblingMix.nD,
      m ((c.tc : Thread Cert.SiblingMix.nD Cert.SiblingMix.τ).loc Cert.SiblingMix.main_arg0) = Layout.block ⟨2, ![6400, 1024]⟩ ⟨2, ![51200, 1024]⟩ 0 8 c (m' (((0 : Dev Cert.SiblingMixRef.nD).tc : Thread Cert.SiblingMixRef.nD Cert.SiblingMixRef.τ).loc Cert.SiblingMixRef.main_arg0))
      ∧ m ((c.tc : Thread Cert.SiblingMix.nD Cert.SiblingMix.τ).loc Cert.SiblingMix.main_arg1) = Layout.block ⟨2, ![1024, 512]⟩ ⟨2, ![8192, 512]⟩ 0 8 c (m' (((0 : Dev Cert.SiblingMixRef.nD).tc : Thread Cert.SiblingMixRef.nD Cert.SiblingMixRef.τ).loc Cert.SiblingMixRef.main_arg1))
      ∧ m ((c.tc : Thread Cert.SiblingMix.nD Cert.SiblingMix.τ).loc Cert.SiblingMix.main_arg2) = Layout.block ⟨2, ![1024, 1024]⟩ ⟨2, ![8192, 1024]⟩ 0 8 c (m' (((0 : Dev Cert.SiblingMixRef.nD).tc : Thread Cert.SiblingMixRef.nD Cert.SiblingMixRef.τ).loc Cert.SiblingMixRef.main_arg2))
      ∧ m ((c.tc : Thread Cert.SiblingMix.nD Cert.SiblingMix.τ).loc Cert.SiblingMix.main_arg3) = Layout.block ⟨2, ![1024, 1024]⟩ ⟨2, ![8192, 1024]⟩ 0 8 c (m' (((0 : Dev Cert.SiblingMixRef.nD).tc : Thread Cert.SiblingMixRef.nD Cert.SiblingMixRef.τ).loc Cert.SiblingMixRef.main_arg3))
      ∧ m ((c.tc : Thread Cert.SiblingMix.nD Cert.SiblingMix.τ).loc Cert.SiblingMix.main_arg4) = Layout.block ⟨2, ![1024, 512]⟩ ⟨2, ![8192, 512]⟩ 0 8 c (m' (((0 : Dev Cert.SiblingMixRef.nD).tc : Thread Cert.SiblingMixRef.nD Cert.SiblingMixRef.τ).loc Cert.SiblingMixRef.main_arg4))
      ∧ m ((c.tc : Thread Cert.SiblingMix.nD Cert.SiblingMix.τ).loc Cert.SiblingMix.main_arg5) = Layout.block ⟨2, ![1024, 1024]⟩ ⟨2, ![8192, 1024]⟩ 0 8 c (m' (((0 : Dev Cert.SiblingMixRef.nD).tc : Thread Cert.SiblingMixRef.nD Cert.SiblingMixRef.τ).loc Cert.SiblingMixRef.main_arg5))) →
    ∃ (v0 : Buf (Elt Bits) (((0 : Dev Cert.SiblingMixRef.nD).tc : Thread Cert.SiblingMixRef.nD Cert.SiblingMixRef.τ).loc Cert.SiblingMixRef.main_v2)) (v1 : Buf (Elt Bits) (((0 : Dev Cert.SiblingMixRef.nD).tc : Thread Cert.SiblingMixRef.nD Cert.SiblingMixRef.τ).loc Cert.SiblingMixRef.main_v5)) (v2 : Buf (Elt Bits) (((0 : Dev Cert.SiblingMixRef.nD).tc : Thread Cert.SiblingMixRef.nD Cert.SiblingMixRef.τ).loc Cert.SiblingMixRef.main_v8)) (v3 : Buf (Elt Bits) (((0 : Dev Cert.SiblingMixRef.nD).tc : Thread Cert.SiblingMixRef.nD Cert.SiblingMixRef.τ).loc Cert.SiblingMixRef.main_v11)) (v4 : Buf (Elt Bits) (((0 : Dev Cert.SiblingMixRef.nD).tc : Thread Cert.SiblingMixRef.nD Cert.SiblingMixRef.τ).loc Cert.SiblingMixRef.main_v14)) (v5 : Buf (Elt Bits) (((0 : Dev Cert.SiblingMixRef.nD).tc : Thread Cert.SiblingMixRef.nD Cert.SiblingMixRef.τ).loc Cert.SiblingMixRef.main_v17)),
      θ_run (Cert.SiblingMix.defs (F := Bits)) (onTc (τ := Cert.SiblingMix.τ) (Cert.SiblingMix.main (F := Bits))) ⟨m, fun _ => 0, g⟩ (fun r => ∀ c : Dev Cert.SiblingMix.nD,
          r.2.mem ((c.tc : Thread Cert.SiblingMix.nD Cert.SiblingMix.τ).loc Cert.SiblingMix.main_v1) = Layout.block ⟨2, ![6400, 1024]⟩ ⟨2, ![51200, 1024]⟩ 0 8 c v0
          ∧ r.2.mem ((c.tc : Thread Cert.SiblingMix.nD Cert.SiblingMix.τ).loc Cert.SiblingMix.main_v2) = Layout.block ⟨2, ![1024, 512]⟩ ⟨2, ![8192, 512]⟩ 0 8 c v1
          ∧ r.2.mem ((c.tc : Thread Cert.SiblingMix.nD Cert.SiblingMix.τ).loc Cert.SiblingMix.main_v3) = Layout.block ⟨2, ![1024, 1024]⟩ ⟨2, ![8192, 1024]⟩ 0 8 c v2
          ∧ r.2.mem ((c.tc : Thread Cert.SiblingMix.nD Cert.SiblingMix.τ).loc Cert.SiblingMix.main_v4) = Layout.block ⟨2, ![1024, 1024]⟩ ⟨2, ![8192, 1024]⟩ 0 8 c v3
          ∧ r.2.mem ((c.tc : Thread Cert.SiblingMix.nD Cert.SiblingMix.τ).loc Cert.SiblingMix.main_v5) = Layout.block ⟨2, ![1024, 512]⟩ ⟨2, ![8192, 512]⟩ 0 8 c v4
          ∧ r.2.mem ((c.tc : Thread Cert.SiblingMix.nD Cert.SiblingMix.τ).loc Cert.SiblingMix.main_v6) = Layout.block ⟨2, ![1024, 1024]⟩ ⟨2, ![8192, 1024]⟩ 0 8 c v5
          ∧ r.2.mem ((c.tc : Thread Cert.SiblingMix.nD Cert.SiblingMix.τ).loc Cert.SiblingMix.main_arg0) = m ((c.tc : Thread Cert.SiblingMix.nD Cert.SiblingMix.τ).loc Cert.SiblingMix.main_arg0)
          ∧ r.2.mem ((c.tc : Thread Cert.SiblingMix.nD Cert.SiblingMix.τ).loc Cert.SiblingMix.main_arg1) = m ((c.tc : Thread Cert.SiblingMix.nD Cert.SiblingMix.τ).loc Cert.SiblingMix.main_arg1)
          ∧ r.2.mem ((c.tc : Thread Cert.SiblingMix.nD Cert.SiblingMix.τ).loc Cert.SiblingMix.main_arg2) = m ((c.tc : Thread Cert.SiblingMix.nD Cert.SiblingMix.τ).loc Cert.SiblingMix.main_arg2)
          ∧ r.2.mem ((c.tc : Thread Cert.SiblingMix.nD Cert.SiblingMix.τ).loc Cert.SiblingMix.main_arg3) = m ((c.tc : Thread Cert.SiblingMix.nD Cert.SiblingMix.τ).loc Cert.SiblingMix.main_arg3)
          ∧ r.2.mem ((c.tc : Thread Cert.SiblingMix.nD Cert.SiblingMix.τ).loc Cert.SiblingMix.main_arg4) = m ((c.tc : Thread Cert.SiblingMix.nD Cert.SiblingMix.τ).loc Cert.SiblingMix.main_arg4)
          ∧ r.2.mem ((c.tc : Thread Cert.SiblingMix.nD Cert.SiblingMix.τ).loc Cert.SiblingMix.main_arg5) = m ((c.tc : Thread Cert.SiblingMix.nD Cert.SiblingMix.τ).loc Cert.SiblingMix.main_arg5))
      ∧ θ_run (Cert.SiblingMixRef.defs (F := Bits)) (onTc (τ := Cert.SiblingMixRef.τ) (Cert.SiblingMixRef.main (F := Bits))) ⟨m', fun _ => 0, g'⟩ (fun r =>
          r.2.mem (((0 : Dev Cert.SiblingMixRef.nD).tc : Thread Cert.SiblingMixRef.nD Cert.SiblingMixRef.τ).loc Cert.SiblingMixRef.main_v2) = v0
          ∧ r.2.mem (((0 : Dev Cert.SiblingMixRef.nD).tc : Thread Cert.SiblingMixRef.nD Cert.SiblingMixRef.τ).loc Cert.SiblingMixRef.main_v5) = v1
          ∧ r.2.mem (((0 : Dev Cert.SiblingMixRef.nD).tc : Thread Cert.SiblingMixRef.nD Cert.SiblingMixRef.τ).loc Cert.SiblingMixRef.main_v8) = v2
          ∧ r.2.mem (((0 : Dev Cert.SiblingMixRef.nD).tc : Thread Cert.SiblingMixRef.nD Cert.SiblingMixRef.τ).loc Cert.SiblingMixRef.main_v11) = v3
          ∧ r.2.mem (((0 : Dev Cert.SiblingMixRef.nD).tc : Thread Cert.SiblingMixRef.nD Cert.SiblingMixRef.τ).loc Cert.SiblingMixRef.main_v14) = v4
          ∧ r.2.mem (((0 : Dev Cert.SiblingMixRef.nD).tc : Thread Cert.SiblingMixRef.nD Cert.SiblingMixRef.τ).loc Cert.SiblingMixRef.main_v17) = v5
          ∧ r.2.mem (((0 : Dev Cert.SiblingMixRef.nD).tc : Thread Cert.SiblingMixRef.nD Cert.SiblingMixRef.τ).loc Cert.SiblingMixRef.main_arg0) = m' (((0 : Dev Cert.SiblingMixRef.nD).tc : Thread Cert.SiblingMixRef.nD Cert.SiblingMixRef.τ).loc Cert.SiblingMixRef.main_arg0)
          ∧ r.2.mem (((0 : Dev Cert.SiblingMixRef.nD).tc : Thread Cert.SiblingMixRef.nD Cert.SiblingMixRef.τ).loc Cert.SiblingMixRef.main_arg1) = m' (((0 : Dev Cert.SiblingMixRef.nD).tc : Thread Cert.SiblingMixRef.nD Cert.SiblingMixRef.τ).loc Cert.SiblingMixRef.main_arg1)
          ∧ r.2.mem (((0 : Dev Cert.SiblingMixRef.nD).tc : Thread Cert.SiblingMixRef.nD Cert.SiblingMixRef.τ).loc Cert.SiblingMixRef.main_arg2) = m' (((0 : Dev Cert.SiblingMixRef.nD).tc : Thread Cert.SiblingMixRef.nD Cert.SiblingMixRef.τ).loc Cert.SiblingMixRef.main_arg2)
          ∧ r.2.mem (((0 : Dev Cert.SiblingMixRef.nD).tc : Thread Cert.SiblingMixRef.nD Cert.SiblingMixRef.τ).loc Cert.SiblingMixRef.main_arg3) = m' (((0 : Dev Cert.SiblingMixRef.nD).tc : Thread Cert.SiblingMixRef.nD Cert.SiblingMixRef.τ).loc Cert.SiblingMixRef.main_arg3)
          ∧ r.2.mem (((0 : Dev Cert.SiblingMixRef.nD).tc : Thread Cert.SiblingMixRef.nD Cert.SiblingMixRef.τ).loc Cert.SiblingMixRef.main_arg4) = m' (((0 : Dev Cert.SiblingMixRef.nD).tc : Thread Cert.SiblingMixRef.nD Cert.SiblingMixRef.τ).loc Cert.SiblingMixRef.main_arg4)
          ∧ r.2.mem (((0 : Dev Cert.SiblingMixRef.nD).tc : Thread Cert.SiblingMixRef.nD Cert.SiblingMixRef.τ).loc Cert.SiblingMixRef.main_arg5) = m' (((0 : Dev Cert.SiblingMixRef.nD).tc : Thread Cert.SiblingMixRef.nD Cert.SiblingMixRef.τ).loc Cert.SiblingMixRef.main_arg5))

def preserves_GatherMix_GatherMixIdeal : Prop :=
  True

def algebraic_GatherMixIdeal_GatherMixRefIdeal [hGatherMixIdeal : Cert.GatherMixIdeal.Facts] [hGatherMixRefIdeal : Cert.GatherMixRefIdeal.Facts] : Prop :=
  ∀ (m : (ℓ : Loc Cert.GatherMixIdeal.nD Cert.GatherMixIdeal.τ Cert.GatherMixIdeal.sig) → Buf (Elt Ideal) ℓ) (g : Dev Cert.GatherMixIdeal.nD → PrngReg)
    (m' : (ℓ : Loc Cert.GatherMixRefIdeal.nD Cert.GatherMixRefIdeal.τ Cert.GatherMixRefIdeal.sig) → Buf (Elt Ideal) ℓ) (g' : Dev Cert.GatherMixRefIdeal.nD → PrngReg), Pre_GatherMixIdeal m →
    (∀ c : Dev Cert.GatherMixIdeal.nD,
      m ((c.tc : Thread Cert.GatherMixIdeal.nD Cert.GatherMixIdeal.τ).loc Cert.GatherMixIdeal.main_arg0) = Layout.block ⟨2, ![1600, 1024]⟩ ⟨2, ![12800, 1024]⟩ 0 8 c (m' (((0 : Dev Cert.GatherMixRefIdeal.nD).tc : Thread Cert.GatherMixRefIdeal.nD Cert.GatherMixRefIdeal.τ).loc Cert.GatherMixRefIdeal.main_arg0))
      ∧ m ((c.tc : Thread Cert.GatherMixIdeal.nD Cert.GatherMixIdeal.τ).loc Cert.GatherMixIdeal.main_arg1) = Layout.block ⟨2, ![256, 512]⟩ ⟨2, ![2048, 512]⟩ 0 8 c (m' (((0 : Dev Cert.GatherMixRefIdeal.nD).tc : Thread Cert.GatherMixRefIdeal.nD Cert.GatherMixRefIdeal.τ).loc Cert.GatherMixRefIdeal.main_arg1))
      ∧ m ((c.tc : Thread Cert.GatherMixIdeal.nD Cert.GatherMixIdeal.τ).loc Cert.GatherMixIdeal.main_arg2) = Layout.block ⟨2, ![256, 1024]⟩ ⟨2, ![2048, 1024]⟩ 0 8 c (m' (((0 : Dev Cert.GatherMixRefIdeal.nD).tc : Thread Cert.GatherMixRefIdeal.nD Cert.GatherMixRefIdeal.τ).loc Cert.GatherMixRefIdeal.main_arg2))
      ∧ m ((c.tc : Thread Cert.GatherMixIdeal.nD Cert.GatherMixIdeal.τ).loc Cert.GatherMixIdeal.main_arg3) = Layout.block ⟨2, ![256, 1024]⟩ ⟨2, ![2048, 1024]⟩ 0 8 c (m' (((0 : Dev Cert.GatherMixRefIdeal.nD).tc : Thread Cert.GatherMixRefIdeal.nD Cert.GatherMixRefIdeal.τ).loc Cert.GatherMixRefIdeal.main_arg3))
      ∧ m ((c.tc : Thread Cert.GatherMixIdeal.nD Cert.GatherMixIdeal.τ).loc Cert.GatherMixIdeal.main_arg4) = Layout.block ⟨2, ![256, 512]⟩ ⟨2, ![2048, 512]⟩ 0 8 c (m' (((0 : Dev Cert.GatherMixRefIdeal.nD).tc : Thread Cert.GatherMixRefIdeal.nD Cert.GatherMixRefIdeal.τ).loc Cert.GatherMixRefIdeal.main_arg4))
      ∧ m ((c.tc : Thread Cert.GatherMixIdeal.nD Cert.GatherMixIdeal.τ).loc Cert.GatherMixIdeal.main_arg5) = Layout.block ⟨2, ![256, 1024]⟩ ⟨2, ![2048, 1024]⟩ 0 8 c (m' (((0 : Dev Cert.GatherMixRefIdeal.nD).tc : Thread Cert.GatherMixRefIdeal.nD Cert.GatherMixRefIdeal.τ).loc Cert.GatherMixRefIdeal.main_arg5))
      ∧ m ((c.tc : Thread Cert.GatherMixIdeal.nD Cert.GatherMixIdeal.τ).loc Cert.GatherMixIdeal.main_arg6) = Layout.block ⟨2, ![4, 256]⟩ ⟨2, ![32, 256]⟩ 0 8 c (m' (((0 : Dev Cert.GatherMixRefIdeal.nD).tc : Thread Cert.GatherMixRefIdeal.nD Cert.GatherMixRefIdeal.τ).loc Cert.GatherMixRefIdeal.main_arg6))) →
    ∃ (v0 : Buf (Elt Ideal) (((0 : Dev Cert.GatherMixRefIdeal.nD).tc : Thread Cert.GatherMixRefIdeal.nD Cert.GatherMixRefIdeal.τ).loc Cert.GatherMixRefIdeal.main_v4)) (v1 : Buf (Elt Ideal) (((0 : Dev Cert.GatherMixRefIdeal.nD).tc : Thread Cert.GatherMixRefIdeal.nD Cert.GatherMixRefIdeal.τ).loc Cert.GatherMixRefIdeal.main_v9)) (v2 : Buf (Elt Ideal) (((0 : Dev Cert.GatherMixRefIdeal.nD).tc : Thread Cert.GatherMixRefIdeal.nD Cert.GatherMixRefIdeal.τ).loc Cert.GatherMixRefIdeal.main_v14)) (v3 : Buf (Elt Ideal) (((0 : Dev Cert.GatherMixRefIdeal.nD).tc : Thread Cert.GatherMixRefIdeal.nD Cert.GatherMixRefIdeal.τ).loc Cert.GatherMixRefIdeal.main_v19)) (v4 : Buf (Elt Ideal) (((0 : Dev Cert.GatherMixRefIdeal.nD).tc : Thread Cert.GatherMixRefIdeal.nD Cert.GatherMixRefIdeal.τ).loc Cert.GatherMixRefIdeal.main_v24)) (v5 : Buf (Elt Ideal) (((0 : Dev Cert.GatherMixRefIdeal.nD).tc : Thread Cert.GatherMixRefIdeal.nD Cert.GatherMixRefIdeal.τ).loc Cert.GatherMixRefIdeal.main_v29)) (v6 : Buf (Elt Ideal) (((0 : Dev Cert.GatherMixRefIdeal.nD).tc : Thread Cert.GatherMixRefIdeal.nD Cert.GatherMixRefIdeal.τ).loc Cert.GatherMixRefIdeal.main_v34)),
      θ_run (Cert.GatherMixIdeal.defs (F := Ideal)) (onTc (τ := Cert.GatherMixIdeal.τ) (Cert.GatherMixIdeal.main (F := Ideal))) ⟨m, fun _ => 0, g⟩ (fun r => ∀ c : Dev Cert.GatherMixIdeal.nD,
          r.2.mem ((c.tc : Thread Cert.GatherMixIdeal.nD Cert.GatherMixIdeal.τ).loc Cert.GatherMixIdeal.main_v1) = Layout.block ⟨3, ![4, 1600, 1024]⟩ ⟨3, ![32, 1600, 1024]⟩ 0 8 c v0
          ∧ r.2.mem ((c.tc : Thread Cert.GatherMixIdeal.nD Cert.GatherMixIdeal.τ).loc Cert.GatherMixIdeal.main_v2) = Layout.block ⟨3, ![4, 256, 512]⟩ ⟨3, ![32, 256, 512]⟩ 0 8 c v1
          ∧ r.2.mem ((c.tc : Thread Cert.GatherMixIdeal.nD Cert.GatherMixIdeal.τ).loc Cert.GatherMixIdeal.main_v3) = Layout.block ⟨3, ![4, 256, 1024]⟩ ⟨3, ![32, 256, 1024]⟩ 0 8 c v2
          ∧ r.2.mem ((c.tc : Thread Cert.GatherMixIdeal.nD Cert.GatherMixIdeal.τ).loc Cert.GatherMixIdeal.main_v4) = Layout.block ⟨3, ![4, 256, 1024]⟩ ⟨3, ![32, 256, 1024]⟩ 0 8 c v3
          ∧ r.2.mem ((c.tc : Thread Cert.GatherMixIdeal.nD Cert.GatherMixIdeal.τ).loc Cert.GatherMixIdeal.main_v5) = Layout.block ⟨3, ![4, 256, 512]⟩ ⟨3, ![32, 256, 512]⟩ 0 8 c v4
          ∧ r.2.mem ((c.tc : Thread Cert.GatherMixIdeal.nD Cert.GatherMixIdeal.τ).loc Cert.GatherMixIdeal.main_v6) = Layout.block ⟨3, ![4, 256, 1024]⟩ ⟨3, ![32, 256, 1024]⟩ 0 8 c v5
          ∧ r.2.mem ((c.tc : Thread Cert.GatherMixIdeal.nD Cert.GatherMixIdeal.τ).loc Cert.GatherMixIdeal.main_v7) = Layout.block ⟨3, ![4, 4, 256]⟩ ⟨3, ![32, 4, 256]⟩ 0 8 c v6
          ∧ r.2.mem ((c.tc : Thread Cert.GatherMixIdeal.nD Cert.GatherMixIdeal.τ).loc Cert.GatherMixIdeal.main_arg0) = m ((c.tc : Thread Cert.GatherMixIdeal.nD Cert.GatherMixIdeal.τ).loc Cert.GatherMixIdeal.main_arg0)
          ∧ r.2.mem ((c.tc : Thread Cert.GatherMixIdeal.nD Cert.GatherMixIdeal.τ).loc Cert.GatherMixIdeal.main_arg1) = m ((c.tc : Thread Cert.GatherMixIdeal.nD Cert.GatherMixIdeal.τ).loc Cert.GatherMixIdeal.main_arg1)
          ∧ r.2.mem ((c.tc : Thread Cert.GatherMixIdeal.nD Cert.GatherMixIdeal.τ).loc Cert.GatherMixIdeal.main_arg2) = m ((c.tc : Thread Cert.GatherMixIdeal.nD Cert.GatherMixIdeal.τ).loc Cert.GatherMixIdeal.main_arg2)
          ∧ r.2.mem ((c.tc : Thread Cert.GatherMixIdeal.nD Cert.GatherMixIdeal.τ).loc Cert.GatherMixIdeal.main_arg3) = m ((c.tc : Thread Cert.GatherMixIdeal.nD Cert.GatherMixIdeal.τ).loc Cert.GatherMixIdeal.main_arg3)
          ∧ r.2.mem ((c.tc : Thread Cert.GatherMixIdeal.nD Cert.GatherMixIdeal.τ).loc Cert.GatherMixIdeal.main_arg4) = m ((c.tc : Thread Cert.GatherMixIdeal.nD Cert.GatherMixIdeal.τ).loc Cert.GatherMixIdeal.main_arg4)
          ∧ r.2.mem ((c.tc : Thread Cert.GatherMixIdeal.nD Cert.GatherMixIdeal.τ).loc Cert.GatherMixIdeal.main_arg5) = m ((c.tc : Thread Cert.GatherMixIdeal.nD Cert.GatherMixIdeal.τ).loc Cert.GatherMixIdeal.main_arg5)
          ∧ r.2.mem ((c.tc : Thread Cert.GatherMixIdeal.nD Cert.GatherMixIdeal.τ).loc Cert.GatherMixIdeal.main_arg6) = m ((c.tc : Thread Cert.GatherMixIdeal.nD Cert.GatherMixIdeal.τ).loc Cert.GatherMixIdeal.main_arg6))
      ∧ θ_run (Cert.GatherMixRefIdeal.defs (F := Ideal)) (onTc (τ := Cert.GatherMixRefIdeal.τ) (Cert.GatherMixRefIdeal.main (F := Ideal))) ⟨m', fun _ => 0, g'⟩ (fun r =>
          r.2.mem (((0 : Dev Cert.GatherMixRefIdeal.nD).tc : Thread Cert.GatherMixRefIdeal.nD Cert.GatherMixRefIdeal.τ).loc Cert.GatherMixRefIdeal.main_v4) = v0
          ∧ r.2.mem (((0 : Dev Cert.GatherMixRefIdeal.nD).tc : Thread Cert.GatherMixRefIdeal.nD Cert.GatherMixRefIdeal.τ).loc Cert.GatherMixRefIdeal.main_v9) = v1
          ∧ r.2.mem (((0 : Dev Cert.GatherMixRefIdeal.nD).tc : Thread Cert.GatherMixRefIdeal.nD Cert.GatherMixRefIdeal.τ).loc Cert.GatherMixRefIdeal.main_v14) = v2
          ∧ r.2.mem (((0 : Dev Cert.GatherMixRefIdeal.nD).tc : Thread Cert.GatherMixRefIdeal.nD Cert.GatherMixRefIdeal.τ).loc Cert.GatherMixRefIdeal.main_v19) = v3
          ∧ r.2.mem (((0 : Dev Cert.GatherMixRefIdeal.nD).tc : Thread Cert.GatherMixRefIdeal.nD Cert.GatherMixRefIdeal.τ).loc Cert.GatherMixRefIdeal.main_v24) = v4
          ∧ r.2.mem (((0 : Dev Cert.GatherMixRefIdeal.nD).tc : Thread Cert.GatherMixRefIdeal.nD Cert.GatherMixRefIdeal.τ).loc Cert.GatherMixRefIdeal.main_v29) = v5
          ∧ r.2.mem (((0 : Dev Cert.GatherMixRefIdeal.nD).tc : Thread Cert.GatherMixRefIdeal.nD Cert.GatherMixRefIdeal.τ).loc Cert.GatherMixRefIdeal.main_v34) = v6
          ∧ r.2.mem (((0 : Dev Cert.GatherMixRefIdeal.nD).tc : Thread Cert.GatherMixRefIdeal.nD Cert.GatherMixRefIdeal.τ).loc Cert.GatherMixRefIdeal.main_arg0) = m' (((0 : Dev Cert.GatherMixRefIdeal.nD).tc : Thread Cert.GatherMixRefIdeal.nD Cert.GatherMixRefIdeal.τ).loc Cert.GatherMixRefIdeal.main_arg0)
          ∧ r.2.mem (((0 : Dev Cert.GatherMixRefIdeal.nD).tc : Thread Cert.GatherMixRefIdeal.nD Cert.GatherMixRefIdeal.τ).loc Cert.GatherMixRefIdeal.main_arg1) = m' (((0 : Dev Cert.GatherMixRefIdeal.nD).tc : Thread Cert.GatherMixRefIdeal.nD Cert.GatherMixRefIdeal.τ).loc Cert.GatherMixRefIdeal.main_arg1)
          ∧ r.2.mem (((0 : Dev Cert.GatherMixRefIdeal.nD).tc : Thread Cert.GatherMixRefIdeal.nD Cert.GatherMixRefIdeal.τ).loc Cert.GatherMixRefIdeal.main_arg2) = m' (((0 : Dev Cert.GatherMixRefIdeal.nD).tc : Thread Cert.GatherMixRefIdeal.nD Cert.GatherMixRefIdeal.τ).loc Cert.GatherMixRefIdeal.main_arg2)
          ∧ r.2.mem (((0 : Dev Cert.GatherMixRefIdeal.nD).tc : Thread Cert.GatherMixRefIdeal.nD Cert.GatherMixRefIdeal.τ).loc Cert.GatherMixRefIdeal.main_arg3) = m' (((0 : Dev Cert.GatherMixRefIdeal.nD).tc : Thread Cert.GatherMixRefIdeal.nD Cert.GatherMixRefIdeal.τ).loc Cert.GatherMixRefIdeal.main_arg3)
          ∧ r.2.mem (((0 : Dev Cert.GatherMixRefIdeal.nD).tc : Thread Cert.GatherMixRefIdeal.nD Cert.GatherMixRefIdeal.τ).loc Cert.GatherMixRefIdeal.main_arg4) = m' (((0 : Dev Cert.GatherMixRefIdeal.nD).tc : Thread Cert.GatherMixRefIdeal.nD Cert.GatherMixRefIdeal.τ).loc Cert.GatherMixRefIdeal.main_arg4)
          ∧ r.2.mem (((0 : Dev Cert.GatherMixRefIdeal.nD).tc : Thread Cert.GatherMixRefIdeal.nD Cert.GatherMixRefIdeal.τ).loc Cert.GatherMixRefIdeal.main_arg5) = m' (((0 : Dev Cert.GatherMixRefIdeal.nD).tc : Thread Cert.GatherMixRefIdeal.nD Cert.GatherMixRefIdeal.τ).loc Cert.GatherMixRefIdeal.main_arg5)
          ∧ r.2.mem (((0 : Dev Cert.GatherMixRefIdeal.nD).tc : Thread Cert.GatherMixRefIdeal.nD Cert.GatherMixRefIdeal.τ).loc Cert.GatherMixRefIdeal.main_arg6) = m' (((0 : Dev Cert.GatherMixRefIdeal.nD).tc : Thread Cert.GatherMixRefIdeal.nD Cert.GatherMixRefIdeal.τ).loc Cert.GatherMixRefIdeal.main_arg6))

def bitexact_GatherMix_GatherMixRef [hGatherMix : Cert.GatherMix.Facts] [hGatherMixRef : Cert.GatherMixRef.Facts] : Prop :=
  ∀ (m : (ℓ : Loc Cert.GatherMix.nD Cert.GatherMix.τ Cert.GatherMix.sig) → Buf (Elt Bits) ℓ) (g : Dev Cert.GatherMix.nD → PrngReg)
    (m' : (ℓ : Loc Cert.GatherMixRef.nD Cert.GatherMixRef.τ Cert.GatherMixRef.sig) → Buf (Elt Bits) ℓ) (g' : Dev Cert.GatherMixRef.nD → PrngReg), Pre_GatherMix m →
    (∀ c : Dev Cert.GatherMix.nD,
      m ((c.tc : Thread Cert.GatherMix.nD Cert.GatherMix.τ).loc Cert.GatherMix.main_arg0) = Layout.block ⟨2, ![1600, 1024]⟩ ⟨2, ![12800, 1024]⟩ 0 8 c (m' (((0 : Dev Cert.GatherMixRef.nD).tc : Thread Cert.GatherMixRef.nD Cert.GatherMixRef.τ).loc Cert.GatherMixRef.main_arg0))
      ∧ m ((c.tc : Thread Cert.GatherMix.nD Cert.GatherMix.τ).loc Cert.GatherMix.main_arg1) = Layout.block ⟨2, ![256, 512]⟩ ⟨2, ![2048, 512]⟩ 0 8 c (m' (((0 : Dev Cert.GatherMixRef.nD).tc : Thread Cert.GatherMixRef.nD Cert.GatherMixRef.τ).loc Cert.GatherMixRef.main_arg1))
      ∧ m ((c.tc : Thread Cert.GatherMix.nD Cert.GatherMix.τ).loc Cert.GatherMix.main_arg2) = Layout.block ⟨2, ![256, 1024]⟩ ⟨2, ![2048, 1024]⟩ 0 8 c (m' (((0 : Dev Cert.GatherMixRef.nD).tc : Thread Cert.GatherMixRef.nD Cert.GatherMixRef.τ).loc Cert.GatherMixRef.main_arg2))
      ∧ m ((c.tc : Thread Cert.GatherMix.nD Cert.GatherMix.τ).loc Cert.GatherMix.main_arg3) = Layout.block ⟨2, ![256, 1024]⟩ ⟨2, ![2048, 1024]⟩ 0 8 c (m' (((0 : Dev Cert.GatherMixRef.nD).tc : Thread Cert.GatherMixRef.nD Cert.GatherMixRef.τ).loc Cert.GatherMixRef.main_arg3))
      ∧ m ((c.tc : Thread Cert.GatherMix.nD Cert.GatherMix.τ).loc Cert.GatherMix.main_arg4) = Layout.block ⟨2, ![256, 512]⟩ ⟨2, ![2048, 512]⟩ 0 8 c (m' (((0 : Dev Cert.GatherMixRef.nD).tc : Thread Cert.GatherMixRef.nD Cert.GatherMixRef.τ).loc Cert.GatherMixRef.main_arg4))
      ∧ m ((c.tc : Thread Cert.GatherMix.nD Cert.GatherMix.τ).loc Cert.GatherMix.main_arg5) = Layout.block ⟨2, ![256, 1024]⟩ ⟨2, ![2048, 1024]⟩ 0 8 c (m' (((0 : Dev Cert.GatherMixRef.nD).tc : Thread Cert.GatherMixRef.nD Cert.GatherMixRef.τ).loc Cert.GatherMixRef.main_arg5))
      ∧ m ((c.tc : Thread Cert.GatherMix.nD Cert.GatherMix.τ).loc Cert.GatherMix.main_arg6) = Layout.block ⟨2, ![4, 256]⟩ ⟨2, ![32, 256]⟩ 0 8 c (m' (((0 : Dev Cert.GatherMixRef.nD).tc : Thread Cert.GatherMixRef.nD Cert.GatherMixRef.τ).loc Cert.GatherMixRef.main_arg6))) →
    ∃ (v0 : Buf (Elt Bits) (((0 : Dev Cert.GatherMixRef.nD).tc : Thread Cert.GatherMixRef.nD Cert.GatherMixRef.τ).loc Cert.GatherMixRef.main_v4)) (v1 : Buf (Elt Bits) (((0 : Dev Cert.GatherMixRef.nD).tc : Thread Cert.GatherMixRef.nD Cert.GatherMixRef.τ).loc Cert.GatherMixRef.main_v9)) (v2 : Buf (Elt Bits) (((0 : Dev Cert.GatherMixRef.nD).tc : Thread Cert.GatherMixRef.nD Cert.GatherMixRef.τ).loc Cert.GatherMixRef.main_v14)) (v3 : Buf (Elt Bits) (((0 : Dev Cert.GatherMixRef.nD).tc : Thread Cert.GatherMixRef.nD Cert.GatherMixRef.τ).loc Cert.GatherMixRef.main_v19)) (v4 : Buf (Elt Bits) (((0 : Dev Cert.GatherMixRef.nD).tc : Thread Cert.GatherMixRef.nD Cert.GatherMixRef.τ).loc Cert.GatherMixRef.main_v24)) (v5 : Buf (Elt Bits) (((0 : Dev Cert.GatherMixRef.nD).tc : Thread Cert.GatherMixRef.nD Cert.GatherMixRef.τ).loc Cert.GatherMixRef.main_v29)) (v6 : Buf (Elt Bits) (((0 : Dev Cert.GatherMixRef.nD).tc : Thread Cert.GatherMixRef.nD Cert.GatherMixRef.τ).loc Cert.GatherMixRef.main_v34)),
      θ_run (Cert.GatherMix.defs (F := Bits)) (onTc (τ := Cert.GatherMix.τ) (Cert.GatherMix.main (F := Bits))) ⟨m, fun _ => 0, g⟩ (fun r => ∀ c : Dev Cert.GatherMix.nD,
          r.2.mem ((c.tc : Thread Cert.GatherMix.nD Cert.GatherMix.τ).loc Cert.GatherMix.main_v1) = Layout.block ⟨3, ![4, 1600, 1024]⟩ ⟨3, ![32, 1600, 1024]⟩ 0 8 c v0
          ∧ r.2.mem ((c.tc : Thread Cert.GatherMix.nD Cert.GatherMix.τ).loc Cert.GatherMix.main_v2) = Layout.block ⟨3, ![4, 256, 512]⟩ ⟨3, ![32, 256, 512]⟩ 0 8 c v1
          ∧ r.2.mem ((c.tc : Thread Cert.GatherMix.nD Cert.GatherMix.τ).loc Cert.GatherMix.main_v3) = Layout.block ⟨3, ![4, 256, 1024]⟩ ⟨3, ![32, 256, 1024]⟩ 0 8 c v2
          ∧ r.2.mem ((c.tc : Thread Cert.GatherMix.nD Cert.GatherMix.τ).loc Cert.GatherMix.main_v4) = Layout.block ⟨3, ![4, 256, 1024]⟩ ⟨3, ![32, 256, 1024]⟩ 0 8 c v3
          ∧ r.2.mem ((c.tc : Thread Cert.GatherMix.nD Cert.GatherMix.τ).loc Cert.GatherMix.main_v5) = Layout.block ⟨3, ![4, 256, 512]⟩ ⟨3, ![32, 256, 512]⟩ 0 8 c v4
          ∧ r.2.mem ((c.tc : Thread Cert.GatherMix.nD Cert.GatherMix.τ).loc Cert.GatherMix.main_v6) = Layout.block ⟨3, ![4, 256, 1024]⟩ ⟨3, ![32, 256, 1024]⟩ 0 8 c v5
          ∧ r.2.mem ((c.tc : Thread Cert.GatherMix.nD Cert.GatherMix.τ).loc Cert.GatherMix.main_v7) = Layout.block ⟨3, ![4, 4, 256]⟩ ⟨3, ![32, 4, 256]⟩ 0 8 c v6
          ∧ r.2.mem ((c.tc : Thread Cert.GatherMix.nD Cert.GatherMix.τ).loc Cert.GatherMix.main_arg0) = m ((c.tc : Thread Cert.GatherMix.nD Cert.GatherMix.τ).loc Cert.GatherMix.main_arg0)
          ∧ r.2.mem ((c.tc : Thread Cert.GatherMix.nD Cert.GatherMix.τ).loc Cert.GatherMix.main_arg1) = m ((c.tc : Thread Cert.GatherMix.nD Cert.GatherMix.τ).loc Cert.GatherMix.main_arg1)
          ∧ r.2.mem ((c.tc : Thread Cert.GatherMix.nD Cert.GatherMix.τ).loc Cert.GatherMix.main_arg2) = m ((c.tc : Thread Cert.GatherMix.nD Cert.GatherMix.τ).loc Cert.GatherMix.main_arg2)
          ∧ r.2.mem ((c.tc : Thread Cert.GatherMix.nD Cert.GatherMix.τ).loc Cert.GatherMix.main_arg3) = m ((c.tc : Thread Cert.GatherMix.nD Cert.GatherMix.τ).loc Cert.GatherMix.main_arg3)
          ∧ r.2.mem ((c.tc : Thread Cert.GatherMix.nD Cert.GatherMix.τ).loc Cert.GatherMix.main_arg4) = m ((c.tc : Thread Cert.GatherMix.nD Cert.GatherMix.τ).loc Cert.GatherMix.main_arg4)
          ∧ r.2.mem ((c.tc : Thread Cert.GatherMix.nD Cert.GatherMix.τ).loc Cert.GatherMix.main_arg5) = m ((c.tc : Thread Cert.GatherMix.nD Cert.GatherMix.τ).loc Cert.GatherMix.main_arg5)
          ∧ r.2.mem ((c.tc : Thread Cert.GatherMix.nD Cert.GatherMix.τ).loc Cert.GatherMix.main_arg6) = m ((c.tc : Thread Cert.GatherMix.nD Cert.GatherMix.τ).loc Cert.GatherMix.main_arg6))
      ∧ θ_run (Cert.GatherMixRef.defs (F := Bits)) (onTc (τ := Cert.GatherMixRef.τ) (Cert.GatherMixRef.main (F := Bits))) ⟨m', fun _ => 0, g'⟩ (fun r =>
          r.2.mem (((0 : Dev Cert.GatherMixRef.nD).tc : Thread Cert.GatherMixRef.nD Cert.GatherMixRef.τ).loc Cert.GatherMixRef.main_v4) = v0
          ∧ r.2.mem (((0 : Dev Cert.GatherMixRef.nD).tc : Thread Cert.GatherMixRef.nD Cert.GatherMixRef.τ).loc Cert.GatherMixRef.main_v9) = v1
          ∧ r.2.mem (((0 : Dev Cert.GatherMixRef.nD).tc : Thread Cert.GatherMixRef.nD Cert.GatherMixRef.τ).loc Cert.GatherMixRef.main_v14) = v2
          ∧ r.2.mem (((0 : Dev Cert.GatherMixRef.nD).tc : Thread Cert.GatherMixRef.nD Cert.GatherMixRef.τ).loc Cert.GatherMixRef.main_v19) = v3
          ∧ r.2.mem (((0 : Dev Cert.GatherMixRef.nD).tc : Thread Cert.GatherMixRef.nD Cert.GatherMixRef.τ).loc Cert.GatherMixRef.main_v24) = v4
          ∧ r.2.mem (((0 : Dev Cert.GatherMixRef.nD).tc : Thread Cert.GatherMixRef.nD Cert.GatherMixRef.τ).loc Cert.GatherMixRef.main_v29) = v5
          ∧ r.2.mem (((0 : Dev Cert.GatherMixRef.nD).tc : Thread Cert.GatherMixRef.nD Cert.GatherMixRef.τ).loc Cert.GatherMixRef.main_v34) = v6
          ∧ r.2.mem (((0 : Dev Cert.GatherMixRef.nD).tc : Thread Cert.GatherMixRef.nD Cert.GatherMixRef.τ).loc Cert.GatherMixRef.main_arg0) = m' (((0 : Dev Cert.GatherMixRef.nD).tc : Thread Cert.GatherMixRef.nD Cert.GatherMixRef.τ).loc Cert.GatherMixRef.main_arg0)
          ∧ r.2.mem (((0 : Dev Cert.GatherMixRef.nD).tc : Thread Cert.GatherMixRef.nD Cert.GatherMixRef.τ).loc Cert.GatherMixRef.main_arg1) = m' (((0 : Dev Cert.GatherMixRef.nD).tc : Thread Cert.GatherMixRef.nD Cert.GatherMixRef.τ).loc Cert.GatherMixRef.main_arg1)
          ∧ r.2.mem (((0 : Dev Cert.GatherMixRef.nD).tc : Thread Cert.GatherMixRef.nD Cert.GatherMixRef.τ).loc Cert.GatherMixRef.main_arg2) = m' (((0 : Dev Cert.GatherMixRef.nD).tc : Thread Cert.GatherMixRef.nD Cert.GatherMixRef.τ).loc Cert.GatherMixRef.main_arg2)
          ∧ r.2.mem (((0 : Dev Cert.GatherMixRef.nD).tc : Thread Cert.GatherMixRef.nD Cert.GatherMixRef.τ).loc Cert.GatherMixRef.main_arg3) = m' (((0 : Dev Cert.GatherMixRef.nD).tc : Thread Cert.GatherMixRef.nD Cert.GatherMixRef.τ).loc Cert.GatherMixRef.main_arg3)
          ∧ r.2.mem (((0 : Dev Cert.GatherMixRef.nD).tc : Thread Cert.GatherMixRef.nD Cert.GatherMixRef.τ).loc Cert.GatherMixRef.main_arg4) = m' (((0 : Dev Cert.GatherMixRef.nD).tc : Thread Cert.GatherMixRef.nD Cert.GatherMixRef.τ).loc Cert.GatherMixRef.main_arg4)
          ∧ r.2.mem (((0 : Dev Cert.GatherMixRef.nD).tc : Thread Cert.GatherMixRef.nD Cert.GatherMixRef.τ).loc Cert.GatherMixRef.main_arg5) = m' (((0 : Dev Cert.GatherMixRef.nD).tc : Thread Cert.GatherMixRef.nD Cert.GatherMixRef.τ).loc Cert.GatherMixRef.main_arg5)
          ∧ r.2.mem (((0 : Dev Cert.GatherMixRef.nD).tc : Thread Cert.GatherMixRef.nD Cert.GatherMixRef.τ).loc Cert.GatherMixRef.main_arg6) = m' (((0 : Dev Cert.GatherMixRef.nD).tc : Thread Cert.GatherMixRef.nD Cert.GatherMixRef.τ).loc Cert.GatherMixRef.main_arg6))

def preserves_GatherTwo_GatherTwoIdeal : Prop :=
  True

def algebraic_GatherTwoIdeal_GatherTwoRefIdeal [hGatherTwoIdeal : Cert.GatherTwoIdeal.Facts] [hGatherTwoRefIdeal : Cert.GatherTwoRefIdeal.Facts] : Prop :=
  ∀ (m : (ℓ : Loc Cert.GatherTwoIdeal.nD Cert.GatherTwoIdeal.τ Cert.GatherTwoIdeal.sig) → Buf (Elt Ideal) ℓ) (g : Dev Cert.GatherTwoIdeal.nD → PrngReg)
    (m' : (ℓ : Loc Cert.GatherTwoRefIdeal.nD Cert.GatherTwoRefIdeal.τ Cert.GatherTwoRefIdeal.sig) → Buf (Elt Ideal) ℓ) (g' : Dev Cert.GatherTwoRefIdeal.nD → PrngReg), Pre_GatherTwoIdeal m →
    (∀ c : Dev Cert.GatherTwoIdeal.nD,
      m ((c.tc : Thread Cert.GatherTwoIdeal.nD Cert.GatherTwoIdeal.τ).loc Cert.GatherTwoIdeal.main_arg0) = Layout.block ⟨2, ![704, 1024]⟩ ⟨2, ![5632, 1024]⟩ 0 8 c (m' (((0 : Dev Cert.GatherTwoRefIdeal.nD).tc : Thread Cert.GatherTwoRefIdeal.nD Cert.GatherTwoRefIdeal.τ).loc Cert.GatherTwoRefIdeal.main_arg0))
      ∧ m ((c.tc : Thread Cert.GatherTwoIdeal.nD Cert.GatherTwoIdeal.τ).loc Cert.GatherTwoIdeal.main_arg1) = Layout.block ⟨2, ![704, 1024]⟩ ⟨2, ![5632, 1024]⟩ 0 8 c (m' (((0 : Dev Cert.GatherTwoRefIdeal.nD).tc : Thread Cert.GatherTwoRefIdeal.nD Cert.GatherTwoRefIdeal.τ).loc Cert.GatherTwoRefIdeal.main_arg1))) →
    ∃ (v0 : Buf (Elt Ideal) (((0 : Dev Cert.GatherTwoRefIdeal.nD).tc : Thread Cert.GatherTwoRefIdeal.nD Cert.GatherTwoRefIdeal.τ).loc Cert.GatherTwoRefIdeal.main_v4)) (v1 : Buf (Elt Ideal) (((0 : Dev Cert.GatherTwoRefIdeal.nD).tc : Thread Cert.GatherTwoRefIdeal.nD Cert.GatherTwoRefIdeal.τ).loc Cert.GatherTwoRefIdeal.main_v9)),
      θ_run (Cert.GatherTwoIdeal.defs (F := Ideal)) (onTc (τ := Cert.GatherTwoIdeal.τ) (Cert.GatherTwoIdeal.main (F := Ideal))) ⟨m, fun _ => 0, g⟩ (fun r => ∀ c : Dev Cert.GatherTwoIdeal.nD,
          r.2.mem ((c.tc : Thread Cert.GatherTwoIdeal.nD Cert.GatherTwoIdeal.τ).loc Cert.GatherTwoIdeal.main_v1) = Layout.block ⟨3, ![4, 704, 1024]⟩ ⟨3, ![32, 704, 1024]⟩ 0 8 c v0
          ∧ r.2.mem ((c.tc : Thread Cert.GatherTwoIdeal.nD Cert.GatherTwoIdeal.τ).loc Cert.GatherTwoIdeal.main_v2) = Layout.block ⟨3, ![4, 704, 1024]⟩ ⟨3, ![32, 704, 1024]⟩ 0 8 c v1
          ∧ r.2.mem ((c.tc : Thread Cert.GatherTwoIdeal.nD Cert.GatherTwoIdeal.τ).loc Cert.GatherTwoIdeal.main_arg0) = m ((c.tc : Thread Cert.GatherTwoIdeal.nD Cert.GatherTwoIdeal.τ).loc Cert.GatherTwoIdeal.main_arg0)
          ∧ r.2.mem ((c.tc : Thread Cert.GatherTwoIdeal.nD Cert.GatherTwoIdeal.τ).loc Cert.GatherTwoIdeal.main_arg1) = m ((c.tc : Thread Cert.GatherTwoIdeal.nD Cert.GatherTwoIdeal.τ).loc Cert.GatherTwoIdeal.main_arg1))
      ∧ θ_run (Cert.GatherTwoRefIdeal.defs (F := Ideal)) (onTc (τ := Cert.GatherTwoRefIdeal.τ) (Cert.GatherTwoRefIdeal.main (F := Ideal))) ⟨m', fun _ => 0, g'⟩ (fun r =>
          r.2.mem (((0 : Dev Cert.GatherTwoRefIdeal.nD).tc : Thread Cert.GatherTwoRefIdeal.nD Cert.GatherTwoRefIdeal.τ).loc Cert.GatherTwoRefIdeal.main_v4) = v0
          ∧ r.2.mem (((0 : Dev Cert.GatherTwoRefIdeal.nD).tc : Thread Cert.GatherTwoRefIdeal.nD Cert.GatherTwoRefIdeal.τ).loc Cert.GatherTwoRefIdeal.main_v9) = v1
          ∧ r.2.mem (((0 : Dev Cert.GatherTwoRefIdeal.nD).tc : Thread Cert.GatherTwoRefIdeal.nD Cert.GatherTwoRefIdeal.τ).loc Cert.GatherTwoRefIdeal.main_arg0) = m' (((0 : Dev Cert.GatherTwoRefIdeal.nD).tc : Thread Cert.GatherTwoRefIdeal.nD Cert.GatherTwoRefIdeal.τ).loc Cert.GatherTwoRefIdeal.main_arg0)
          ∧ r.2.mem (((0 : Dev Cert.GatherTwoRefIdeal.nD).tc : Thread Cert.GatherTwoRefIdeal.nD Cert.GatherTwoRefIdeal.τ).loc Cert.GatherTwoRefIdeal.main_arg1) = m' (((0 : Dev Cert.GatherTwoRefIdeal.nD).tc : Thread Cert.GatherTwoRefIdeal.nD Cert.GatherTwoRefIdeal.τ).loc Cert.GatherTwoRefIdeal.main_arg1))

def bitexact_GatherTwo_GatherTwoRef [hGatherTwo : Cert.GatherTwo.Facts] [hGatherTwoRef : Cert.GatherTwoRef.Facts] : Prop :=
  ∀ (m : (ℓ : Loc Cert.GatherTwo.nD Cert.GatherTwo.τ Cert.GatherTwo.sig) → Buf (Elt Bits) ℓ) (g : Dev Cert.GatherTwo.nD → PrngReg)
    (m' : (ℓ : Loc Cert.GatherTwoRef.nD Cert.GatherTwoRef.τ Cert.GatherTwoRef.sig) → Buf (Elt Bits) ℓ) (g' : Dev Cert.GatherTwoRef.nD → PrngReg), Pre_GatherTwo m →
    (∀ c : Dev Cert.GatherTwo.nD,
      m ((c.tc : Thread Cert.GatherTwo.nD Cert.GatherTwo.τ).loc Cert.GatherTwo.main_arg0) = Layout.block ⟨2, ![704, 1024]⟩ ⟨2, ![5632, 1024]⟩ 0 8 c (m' (((0 : Dev Cert.GatherTwoRef.nD).tc : Thread Cert.GatherTwoRef.nD Cert.GatherTwoRef.τ).loc Cert.GatherTwoRef.main_arg0))
      ∧ m ((c.tc : Thread Cert.GatherTwo.nD Cert.GatherTwo.τ).loc Cert.GatherTwo.main_arg1) = Layout.block ⟨2, ![704, 1024]⟩ ⟨2, ![5632, 1024]⟩ 0 8 c (m' (((0 : Dev Cert.GatherTwoRef.nD).tc : Thread Cert.GatherTwoRef.nD Cert.GatherTwoRef.τ).loc Cert.GatherTwoRef.main_arg1))) →
    ∃ (v0 : Buf (Elt Bits) (((0 : Dev Cert.GatherTwoRef.nD).tc : Thread Cert.GatherTwoRef.nD Cert.GatherTwoRef.τ).loc Cert.GatherTwoRef.main_v4)) (v1 : Buf (Elt Bits) (((0 : Dev Cert.GatherTwoRef.nD).tc : Thread Cert.GatherTwoRef.nD Cert.GatherTwoRef.τ).loc Cert.GatherTwoRef.main_v9)),
      θ_run (Cert.GatherTwo.defs (F := Bits)) (onTc (τ := Cert.GatherTwo.τ) (Cert.GatherTwo.main (F := Bits))) ⟨m, fun _ => 0, g⟩ (fun r => ∀ c : Dev Cert.GatherTwo.nD,
          r.2.mem ((c.tc : Thread Cert.GatherTwo.nD Cert.GatherTwo.τ).loc Cert.GatherTwo.main_v1) = Layout.block ⟨3, ![4, 704, 1024]⟩ ⟨3, ![32, 704, 1024]⟩ 0 8 c v0
          ∧ r.2.mem ((c.tc : Thread Cert.GatherTwo.nD Cert.GatherTwo.τ).loc Cert.GatherTwo.main_v2) = Layout.block ⟨3, ![4, 704, 1024]⟩ ⟨3, ![32, 704, 1024]⟩ 0 8 c v1
          ∧ r.2.mem ((c.tc : Thread Cert.GatherTwo.nD Cert.GatherTwo.τ).loc Cert.GatherTwo.main_arg0) = m ((c.tc : Thread Cert.GatherTwo.nD Cert.GatherTwo.τ).loc Cert.GatherTwo.main_arg0)
          ∧ r.2.mem ((c.tc : Thread Cert.GatherTwo.nD Cert.GatherTwo.τ).loc Cert.GatherTwo.main_arg1) = m ((c.tc : Thread Cert.GatherTwo.nD Cert.GatherTwo.τ).loc Cert.GatherTwo.main_arg1))
      ∧ θ_run (Cert.GatherTwoRef.defs (F := Bits)) (onTc (τ := Cert.GatherTwoRef.τ) (Cert.GatherTwoRef.main (F := Bits))) ⟨m', fun _ => 0, g'⟩ (fun r =>
          r.2.mem (((0 : Dev Cert.GatherTwoRef.nD).tc : Thread Cert.GatherTwoRef.nD Cert.GatherTwoRef.τ).loc Cert.GatherTwoRef.main_v4) = v0
          ∧ r.2.mem (((0 : Dev Cert.GatherTwoRef.nD).tc : Thread Cert.GatherTwoRef.nD Cert.GatherTwoRef.τ).loc Cert.GatherTwoRef.main_v9) = v1
          ∧ r.2.mem (((0 : Dev Cert.GatherTwoRef.nD).tc : Thread Cert.GatherTwoRef.nD Cert.GatherTwoRef.τ).loc Cert.GatherTwoRef.main_arg0) = m' (((0 : Dev Cert.GatherTwoRef.nD).tc : Thread Cert.GatherTwoRef.nD Cert.GatherTwoRef.τ).loc Cert.GatherTwoRef.main_arg0)
          ∧ r.2.mem (((0 : Dev Cert.GatherTwoRef.nD).tc : Thread Cert.GatherTwoRef.nD Cert.GatherTwoRef.τ).loc Cert.GatherTwoRef.main_arg1) = m' (((0 : Dev Cert.GatherTwoRef.nD).tc : Thread Cert.GatherTwoRef.nD Cert.GatherTwoRef.τ).loc Cert.GatherTwoRef.main_arg1))

def preserves_GatherOne_GatherOneIdeal : Prop :=
  True

def algebraic_GatherOneIdeal_GatherOneRefIdeal [hGatherOneIdeal : Cert.GatherOneIdeal.Facts] [hGatherOneRefIdeal : Cert.GatherOneRefIdeal.Facts] : Prop :=
  ∀ (m : (ℓ : Loc Cert.GatherOneIdeal.nD Cert.GatherOneIdeal.τ Cert.GatherOneIdeal.sig) → Buf (Elt Ideal) ℓ) (g : Dev Cert.GatherOneIdeal.nD → PrngReg)
    (m' : (ℓ : Loc Cert.GatherOneRefIdeal.nD Cert.GatherOneRefIdeal.τ Cert.GatherOneRefIdeal.sig) → Buf (Elt Ideal) ℓ) (g' : Dev Cert.GatherOneRefIdeal.nD → PrngReg), Pre_GatherOneIdeal m →
    (∀ c : Dev Cert.GatherOneIdeal.nD,
      m ((c.tc : Thread Cert.GatherOneIdeal.nD Cert.GatherOneIdeal.τ).loc Cert.GatherOneIdeal.main_arg0) = Layout.block ⟨2, ![704, 1024]⟩ ⟨2, ![5632, 1024]⟩ 0 8 c (m' (((0 : Dev Cert.GatherOneRefIdeal.nD).tc : Thread Cert.GatherOneRefIdeal.nD Cert.GatherOneRefIdeal.τ).loc Cert.GatherOneRefIdeal.main_arg0))) →
    ∃ (v0 : Buf (Elt Ideal) (((0 : Dev Cert.GatherOneRefIdeal.nD).tc : Thread Cert.GatherOneRefIdeal.nD Cert.GatherOneRefIdeal.τ).loc Cert.GatherOneRefIdeal.main_v4)),
      θ_run (Cert.GatherOneIdeal.defs (F := Ideal)) (onTc (τ := Cert.GatherOneIdeal.τ) (Cert.GatherOneIdeal.main (F := Ideal))) ⟨m, fun _ => 0, g⟩ (fun r => ∀ c : Dev Cert.GatherOneIdeal.nD,
          r.2.mem ((c.tc : Thread Cert.GatherOneIdeal.nD Cert.GatherOneIdeal.τ).loc Cert.GatherOneIdeal.main_v1) = Layout.block ⟨3, ![4, 704, 1024]⟩ ⟨3, ![32, 704, 1024]⟩ 0 8 c v0
          ∧ r.2.mem ((c.tc : Thread Cert.GatherOneIdeal.nD Cert.GatherOneIdeal.τ).loc Cert.GatherOneIdeal.main_arg0) = m ((c.tc : Thread Cert.GatherOneIdeal.nD Cert.GatherOneIdeal.τ).loc Cert.GatherOneIdeal.main_arg0))
      ∧ θ_run (Cert.GatherOneRefIdeal.defs (F := Ideal)) (onTc (τ := Cert.GatherOneRefIdeal.τ) (Cert.GatherOneRefIdeal.main (F := Ideal))) ⟨m', fun _ => 0, g'⟩ (fun r =>
          r.2.mem (((0 : Dev Cert.GatherOneRefIdeal.nD).tc : Thread Cert.GatherOneRefIdeal.nD Cert.GatherOneRefIdeal.τ).loc Cert.GatherOneRefIdeal.main_v4) = v0
          ∧ r.2.mem (((0 : Dev Cert.GatherOneRefIdeal.nD).tc : Thread Cert.GatherOneRefIdeal.nD Cert.GatherOneRefIdeal.τ).loc Cert.GatherOneRefIdeal.main_arg0) = m' (((0 : Dev Cert.GatherOneRefIdeal.nD).tc : Thread Cert.GatherOneRefIdeal.nD Cert.GatherOneRefIdeal.τ).loc Cert.GatherOneRefIdeal.main_arg0))

def bitexact_GatherOne_GatherOneRef [hGatherOne : Cert.GatherOne.Facts] [hGatherOneRef : Cert.GatherOneRef.Facts] : Prop :=
  ∀ (m : (ℓ : Loc Cert.GatherOne.nD Cert.GatherOne.τ Cert.GatherOne.sig) → Buf (Elt Bits) ℓ) (g : Dev Cert.GatherOne.nD → PrngReg)
    (m' : (ℓ : Loc Cert.GatherOneRef.nD Cert.GatherOneRef.τ Cert.GatherOneRef.sig) → Buf (Elt Bits) ℓ) (g' : Dev Cert.GatherOneRef.nD → PrngReg), Pre_GatherOne m →
    (∀ c : Dev Cert.GatherOne.nD,
      m ((c.tc : Thread Cert.GatherOne.nD Cert.GatherOne.τ).loc Cert.GatherOne.main_arg0) = Layout.block ⟨2, ![704, 1024]⟩ ⟨2, ![5632, 1024]⟩ 0 8 c (m' (((0 : Dev Cert.GatherOneRef.nD).tc : Thread Cert.GatherOneRef.nD Cert.GatherOneRef.τ).loc Cert.GatherOneRef.main_arg0))) →
    ∃ (v0 : Buf (Elt Bits) (((0 : Dev Cert.GatherOneRef.nD).tc : Thread Cert.GatherOneRef.nD Cert.GatherOneRef.τ).loc Cert.GatherOneRef.main_v4)),
      θ_run (Cert.GatherOne.defs (F := Bits)) (onTc (τ := Cert.GatherOne.τ) (Cert.GatherOne.main (F := Bits))) ⟨m, fun _ => 0, g⟩ (fun r => ∀ c : Dev Cert.GatherOne.nD,
          r.2.mem ((c.tc : Thread Cert.GatherOne.nD Cert.GatherOne.τ).loc Cert.GatherOne.main_v1) = Layout.block ⟨3, ![4, 704, 1024]⟩ ⟨3, ![32, 704, 1024]⟩ 0 8 c v0
          ∧ r.2.mem ((c.tc : Thread Cert.GatherOne.nD Cert.GatherOne.τ).loc Cert.GatherOne.main_arg0) = m ((c.tc : Thread Cert.GatherOne.nD Cert.GatherOne.τ).loc Cert.GatherOne.main_arg0))
      ∧ θ_run (Cert.GatherOneRef.defs (F := Bits)) (onTc (τ := Cert.GatherOneRef.τ) (Cert.GatherOneRef.main (F := Bits))) ⟨m', fun _ => 0, g'⟩ (fun r =>
          r.2.mem (((0 : Dev Cert.GatherOneRef.nD).tc : Thread Cert.GatherOneRef.nD Cert.GatherOneRef.τ).loc Cert.GatherOneRef.main_v4) = v0
          ∧ r.2.mem (((0 : Dev Cert.GatherOneRef.nD).tc : Thread Cert.GatherOneRef.nD Cert.GatherOneRef.τ).loc Cert.GatherOneRef.main_arg0) = m' (((0 : Dev Cert.GatherOneRef.nD).tc : Thread Cert.GatherOneRef.nD Cert.GatherOneRef.τ).loc Cert.GatherOneRef.main_arg0))

def preserves_Everyone_EveryoneIdeal : Prop :=
  True

def algebraic_EveryoneIdeal_EveryoneRefIdeal [hEveryoneIdeal : Cert.EveryoneIdeal.Facts] [hEveryoneRefIdeal : Cert.EveryoneRefIdeal.Facts] : Prop :=
  ∀ (m : (ℓ : Loc Cert.EveryoneIdeal.nD Cert.EveryoneIdeal.τ Cert.EveryoneIdeal.sig) → Buf (Elt Ideal) ℓ) (g : Dev Cert.EveryoneIdeal.nD → PrngReg)
    (m' : (ℓ : Loc Cert.EveryoneRefIdeal.nD Cert.EveryoneRefIdeal.τ Cert.EveryoneRefIdeal.sig) → Buf (Elt Ideal) ℓ) (g' : Dev Cert.EveryoneRefIdeal.nD → PrngReg), Pre_EveryoneIdeal m →
    (∀ c : Dev Cert.EveryoneIdeal.nD,
      m ((c.tc : Thread Cert.EveryoneIdeal.nD Cert.EveryoneIdeal.τ).loc Cert.EveryoneIdeal.main_arg0) = Layout.block ⟨2, ![624, 1024]⟩ ⟨2, ![4992, 1024]⟩ 0 8 c (m' (((0 : Dev Cert.EveryoneRefIdeal.nD).tc : Thread Cert.EveryoneRefIdeal.nD Cert.EveryoneRefIdeal.τ).loc Cert.EveryoneRefIdeal.main_arg0))) →
    ∃ (v0 : Buf (Elt Ideal) (((0 : Dev Cert.EveryoneRefIdeal.nD).tc : Thread Cert.EveryoneRefIdeal.nD Cert.EveryoneRefIdeal.τ).loc Cert.EveryoneRefIdeal.main_v3)),
      θ_run (Cert.EveryoneIdeal.defs (F := Ideal)) (onTc (τ := Cert.EveryoneIdeal.τ) (Cert.EveryoneIdeal.main (F := Ideal))) ⟨m, fun _ => 0, g⟩ (fun r => ∀ c : Dev Cert.EveryoneIdeal.nD,
          r.2.mem ((c.tc : Thread Cert.EveryoneIdeal.nD Cert.EveryoneIdeal.τ).loc Cert.EveryoneIdeal.main_v1) = Layout.block ⟨3, ![8, 624, 1024]⟩ ⟨3, ![64, 624, 1024]⟩ 0 8 c v0
          ∧ r.2.mem ((c.tc : Thread Cert.EveryoneIdeal.nD Cert.EveryoneIdeal.τ).loc Cert.EveryoneIdeal.main_arg0) = m ((c.tc : Thread Cert.EveryoneIdeal.nD Cert.EveryoneIdeal.τ).loc Cert.EveryoneIdeal.main_arg0))
      ∧ θ_run (Cert.EveryoneRefIdeal.defs (F := Ideal)) (onTc (τ := Cert.EveryoneRefIdeal.τ) (Cert.EveryoneRefIdeal.main (F := Ideal))) ⟨m', fun _ => 0, g'⟩ (fun r =>
          r.2.mem (((0 : Dev Cert.EveryoneRefIdeal.nD).tc : Thread Cert.EveryoneRefIdeal.nD Cert.EveryoneRefIdeal.τ).loc Cert.EveryoneRefIdeal.main_v3) = v0
          ∧ r.2.mem (((0 : Dev Cert.EveryoneRefIdeal.nD).tc : Thread Cert.EveryoneRefIdeal.nD Cert.EveryoneRefIdeal.τ).loc Cert.EveryoneRefIdeal.main_arg0) = m' (((0 : Dev Cert.EveryoneRefIdeal.nD).tc : Thread Cert.EveryoneRefIdeal.nD Cert.EveryoneRefIdeal.τ).loc Cert.EveryoneRefIdeal.main_arg0))

def bitexact_Everyone_EveryoneRef [hEveryone : Cert.Everyone.Facts] [hEveryoneRef : Cert.EveryoneRef.Facts] : Prop :=
  ∀ (m : (ℓ : Loc Cert.Everyone.nD Cert.Everyone.τ Cert.Everyone.sig) → Buf (Elt Bits) ℓ) (g : Dev Cert.Everyone.nD → PrngReg)
    (m' : (ℓ : Loc Cert.EveryoneRef.nD Cert.EveryoneRef.τ Cert.EveryoneRef.sig) → Buf (Elt Bits) ℓ) (g' : Dev Cert.EveryoneRef.nD → PrngReg), Pre_Everyone m →
    (∀ c : Dev Cert.Everyone.nD,
      m ((c.tc : Thread Cert.Everyone.nD Cert.Everyone.τ).loc Cert.Everyone.main_arg0) = Layout.block ⟨2, ![624, 1024]⟩ ⟨2, ![4992, 1024]⟩ 0 8 c (m' (((0 : Dev Cert.EveryoneRef.nD).tc : Thread Cert.EveryoneRef.nD Cert.EveryoneRef.τ).loc Cert.EveryoneRef.main_arg0))) →
    ∃ (v0 : Buf (Elt Bits) (((0 : Dev Cert.EveryoneRef.nD).tc : Thread Cert.EveryoneRef.nD Cert.EveryoneRef.τ).loc Cert.EveryoneRef.main_v3)),
      θ_run (Cert.Everyone.defs (F := Bits)) (onTc (τ := Cert.Everyone.τ) (Cert.Everyone.main (F := Bits))) ⟨m, fun _ => 0, g⟩ (fun r => ∀ c : Dev Cert.Everyone.nD,
          r.2.mem ((c.tc : Thread Cert.Everyone.nD Cert.Everyone.τ).loc Cert.Everyone.main_v1) = Layout.block ⟨3, ![8, 624, 1024]⟩ ⟨3, ![64, 624, 1024]⟩ 0 8 c v0
          ∧ r.2.mem ((c.tc : Thread Cert.Everyone.nD Cert.Everyone.τ).loc Cert.Everyone.main_arg0) = m ((c.tc : Thread Cert.Everyone.nD Cert.Everyone.τ).loc Cert.Everyone.main_arg0))
      ∧ θ_run (Cert.EveryoneRef.defs (F := Bits)) (onTc (τ := Cert.EveryoneRef.τ) (Cert.EveryoneRef.main (F := Bits))) ⟨m', fun _ => 0, g'⟩ (fun r =>
          r.2.mem (((0 : Dev Cert.EveryoneRef.nD).tc : Thread Cert.EveryoneRef.nD Cert.EveryoneRef.τ).loc Cert.EveryoneRef.main_v3) = v0
          ∧ r.2.mem (((0 : Dev Cert.EveryoneRef.nD).tc : Thread Cert.EveryoneRef.nD Cert.EveryoneRef.τ).loc Cert.EveryoneRef.main_arg0) = m' (((0 : Dev Cert.EveryoneRef.nD).tc : Thread Cert.EveryoneRef.nD Cert.EveryoneRef.τ).loc Cert.EveryoneRef.main_arg0))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)
      ∧ m' ((c.tc : Thread Cert.AdamWRefIdeal.nD Cert.AdamWRefIdeal.τ).loc Cert.AdamWRefIdeal.main_arg4) = m ((c.tc : Thread Cert.AdamWIdeal.nD Cert.AdamWIdeal.τ).loc Cert.AdamWIdeal.main_arg4)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
          ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v0) = v0 c
          ∧ r.2.mem ((c.tc : Thread Cert.AdamWRefIdeal.nD Cert.AdamWRefIdeal.τ).loc Cert.AdamWRefIdeal.main_v24) = v1 c
          ∧ r.2.mem ((c.tc : Thread Cert.AdamWRefIdeal.nD Cert.AdamWRefIdeal.τ).loc Cert.AdamWRefIdeal.main_v5) = v2 c
          ∧ r.2.mem ((c.tc : Thread Cert.AdamWRefIdeal.nD Cert.AdamWRefIdeal.τ).loc Cert.AdamWRefIdeal.main_v11) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3)
          ∧ r.2.mem ((c.tc : Thread Cert.AdamWRefIdeal.nD Cert.AdamWRefIdeal.τ).loc Cert.AdamWRefIdeal.main_arg4) = m' ((c.tc : Thread Cert.AdamWRefIdeal.nD Cert.AdamWRefIdeal.τ).loc Cert.AdamWRefIdeal.main_arg4))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)
      ∧ m' ((c.tc : Thread Cert.AdamWInRefIdeal.nD Cert.AdamWInRefIdeal.τ).loc Cert.AdamWInRefIdeal.main_arg4) = m ((c.tc : Thread Cert.AdamWInIdeal.nD Cert.AdamWInIdeal.τ).loc Cert.AdamWInIdeal.main_arg4)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3)
          ∧ r.2.mem ((c.tc : Thread Cert.AdamWInIdeal.nD Cert.AdamWInIdeal.τ).loc Cert.AdamWInIdeal.main_arg4) = m ((c.tc : Thread Cert.AdamWInIdeal.nD Cert.AdamWInIdeal.τ).loc Cert.AdamWInIdeal.main_arg4))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v0) = v0 c
          ∧ r.2.mem ((c.tc : Thread Cert.AdamWInRefIdeal.nD Cert.AdamWInRefIdeal.τ).loc Cert.AdamWInRefIdeal.main_v24) = v1 c
          ∧ r.2.mem ((c.tc : Thread Cert.AdamWInRefIdeal.nD Cert.AdamWInRefIdeal.τ).loc Cert.AdamWInRefIdeal.main_v5) = v2 c
          ∧ r.2.mem ((c.tc : Thread Cert.AdamWInRefIdeal.nD Cert.AdamWInRefIdeal.τ).loc Cert.AdamWInRefIdeal.main_v11) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3)
          ∧ r.2.mem ((c.tc : Thread Cert.AdamWInRefIdeal.nD Cert.AdamWInRefIdeal.τ).loc Cert.AdamWInRefIdeal.main_arg4) = m' ((c.tc : Thread Cert.AdamWInRefIdeal.nD Cert.AdamWInRefIdeal.τ).loc Cert.AdamWInRefIdeal.main_arg4))

def preserves_AdamWSquare_AdamWSquareIdeal : Prop :=
  True

def algebraic_AdamWSquareIdeal_AdamWSquareRefIdeal [hAdamWSquareIdeal : Cert.AdamWSquareIdeal.Facts] [hAdamWSquareRefIdeal : Cert.AdamWSquareRefIdeal.Facts] : Prop :=
  ∀ (m : (ℓ : Loc Cert.AdamWSquareIdeal.nD Cert.AdamWSquareIdeal.τ Cert.AdamWSquareIdeal.sig) → Buf (Elt Ideal) ℓ) (g : Dev Cert.AdamWSquareIdeal.nD → PrngReg)
    (m' : (ℓ : Loc Cert.AdamWSquareRefIdeal.nD Cert.AdamWSquareRefIdeal.τ Cert.AdamWSquareRefIdeal.sig) → Buf (Elt Ideal) ℓ) (g' : Dev Cert.AdamWSquareRefIdeal.nD → PrngReg), Pre_AdamWSquareIdeal m →
    (∀ c : Dev Cert.AdamWSquareIdeal.nD,
      m' ((c.tc : Thread Cert.AdamWSquareRefIdeal.nD Cert.AdamWSquareRefIdeal.τ).loc Cert.AdamWSquareRefIdeal.main_arg0) = m ((c.tc : Thread Cert.AdamWSquareIdeal.nD Cert.AdamWSquareIdeal.τ).loc Cert.AdamWSquareIdeal.main_arg0)
      ∧ m' ((c.tc : Thread Cert.AdamWSquareRefIdeal.nD Cert.AdamWSquareRefIdeal.τ).loc Cert.AdamWSquareRefIdeal.main_arg1) = m ((c.tc : Thread Cert.AdamWSquareIdeal.nD Cert.AdamWSquareIdeal.τ).loc Cert.AdamWSquareIdeal.main_arg1)
      ∧ m' ((c.tc : Thread Cert.AdamWSquareRefIdeal.nD Cert.AdamWSquareRefIdeal.τ).loc Cert.AdamWSquareRefIdeal.main_arg2) = m ((c.tc : Thread Cert.AdamWSquareIdeal.nD Cert.AdamWSquareIdeal.τ).loc Cert.AdamWSquareIdeal.main_arg2)
      ∧ m' ((c.tc : Thread Cert.AdamWSquareRefIdeal.nD Cert.AdamWSquareRefIdeal.τ).loc Cert.AdamWSquareRefIdeal.main_arg3) = m ((c.tc : Thread Cert.AdamWSquareIdeal.nD Cert.AdamWSquareIdeal.τ).loc Cert.AdamWSquareIdeal.main_arg3)
      ∧ m' ((c.tc : Thread Cert.AdamWSquareRefIdeal.nD Cert.AdamWSquareRefIdeal.τ).loc Cert.AdamWSquareRefIdeal.main_arg4) = m ((c.tc : Thread Cert.AdamWSquareIdeal.nD Cert.AdamWSquareIdeal.τ).loc Cert.AdamWSquareIdeal.main_arg4)) →
    ∃ (v0 : (c : Dev Cert.AdamWSquareIdeal.nD) → Buf (Elt Ideal) ((c.tc : Thread Cert.AdamWSquareIdeal.nD Cert.AdamWSquareIdeal.τ).loc Cert.AdamWSquareIdeal.main_v0_0)) (v1 : (c : Dev Cert.AdamWSquareIdeal.nD) → Buf (Elt Ideal) ((c.tc : Thread Cert.AdamWSquareIdeal.nD Cert.AdamWSquareIdeal.τ).loc Cert.AdamWSquareIdeal.main_v0_1)) (v2 : (c : Dev Cert.AdamWSquareIdeal.nD) → Buf (Elt Ideal) ((c.tc : Thread Cert.AdamWSquareIdeal.nD Cert.AdamWSquareIdeal.τ).loc Cert.AdamWSquareIdeal.main_v0_2)) (v3 : (c : Dev Cert.AdamWSquareIdeal.nD) → Buf (Elt Ideal) ((c.tc : Thread Cert.AdamWSquareIdeal.nD Cert.AdamWSquareIdeal.τ).loc Cert.AdamWSquareIdeal.main_v0_3)),
      θ_run (Cert.AdamWSquareIdeal.defs (F := Ideal)) (onTc (τ := Cert.AdamWSquareIdeal.τ) (Cert.AdamWSquareIdeal.main (F := Ideal))) ⟨m, fun _ => 0, g⟩ (fun r => ∀ c : Dev Cert.AdamWSquareIdeal.nD,
          r.2.mem ((c.tc : Thread Cert.AdamWSquareIdeal.nD Cert.AdamWSquareIdeal.τ).loc Cert.AdamWSquareIdeal.main_v0_0) = v0 c
          ∧ r.2.mem ((c.tc : Thread Cert.AdamWSquareIdeal.nD Cert.AdamWSquareIdeal.τ).loc Cert.AdamWSquareIdeal.main_v0_1) = v1 c
          ∧ r.2.mem ((c.tc : Thread Cert.AdamWSquareIdeal.nD Cert.AdamWSquareIdeal.τ).loc Cert.AdamWSquareIdeal.main_v0_2) = v2 c
          ∧ r.2.mem ((c.tc : Thread Cert.AdamWSquareIdeal.nD Cert.AdamWSquareIdeal.τ).loc Cert.AdamWSquareIdeal.main_v0_3) = v3 c
          ∧ r.2.mem ((c.tc : Thread Cert.AdamWSquareIdeal.nD Cert.AdamWSquareIdeal.τ).loc Cert.AdamWSquareIdeal.main_arg0) = m ((c.tc : Thread Cert.AdamWSquareIdeal.nD Cert.AdamWSquareIdeal.τ).loc Cert.AdamWSquareIdeal.main_arg0)
          ∧ r.2.mem ((c.tc : Thread Cert.AdamWSquareIdeal.nD Cert.AdamWSquareIdeal.τ).loc Cert.AdamWSquareIdeal.main_arg1) = m ((c.tc : Thread Cert.AdamWSquareIdeal.nD Cert.AdamWSquareIdeal.τ).loc Cert.AdamWSquareIdeal.main_arg1)
          ∧ r.2.mem ((c.tc : Thread Cert.AdamWSquareIdeal.nD Cert.AdamWSquareIdeal.τ).loc Cert.AdamWSquareIdeal.main_arg2) = m ((c.tc : Thread Cert.AdamWSquareIdeal.nD Cert.AdamWSquareIdeal.τ).loc Cert.AdamWSquareIdeal.main_arg2)
          ∧ r.2.mem ((c.tc : Thread Cert.AdamWSquareIdeal.nD Cert.AdamWSquareIdeal.τ).loc Cert.AdamWSquareIdeal.main_arg3) = m ((c.tc : Thread Cert.AdamWSquareIdeal.nD Cert.AdamWSquareIdeal.τ).loc Cert.AdamWSquareIdeal.main_arg3)
          ∧ r.2.mem ((c.tc : Thread Cert.AdamWSquareIdeal.nD Cert.AdamWSquareIdeal.τ).loc Cert.AdamWSquareIdeal.main_arg4) = m ((c.tc : Thread Cert.AdamWSquareIdeal.nD Cert.AdamWSquareIdeal.τ).loc Cert.AdamWSquareIdeal.main_arg4))
      ∧ θ_run (Cert.AdamWSquareRefIdeal.defs (F := Ideal)) (onTc (τ := Cert.AdamWSquareRefIdeal.τ) (Cert.AdamWSquareRefIdeal.main (F := Ideal))) ⟨m', fun _ => 0, g'⟩ (fun r => ∀ c : Dev Cert.AdamWSquareRefIdeal.nD,
          r.2.mem ((c.tc : Thread Cert.AdamWSquareRefIdeal.nD Cert.AdamWSquareRefIdeal.τ).loc Cert.AdamWSquareRefIdeal.main_v0) = v0 c
          ∧ r.2.mem ((c.tc : Thread Cert.AdamWSquareRefIdeal.nD Cert.AdamWSquareRefIdeal.τ).loc Cert.AdamWSquareRefIdeal.main_v24) = v1 c
          ∧ r.2.mem ((c.tc : Thread Cert.AdamWSquareRefIdeal.nD Cert.AdamWSquareRefIdeal.τ).loc Cert.AdamWSquareRefIdeal.main_v5) = v2 c
          ∧ r.2.mem ((c.tc : Thread Cert.AdamWSquareRefIdeal.nD Cert.AdamWSquareRefIdeal.τ).loc Cert.AdamWSquareRefIdeal.main_v11) = v3 c
          ∧ r.2.mem ((c.tc : Thread Cert.AdamWSquareRefIdeal.nD Cert.AdamWSquareRefIdeal.τ).loc Cert.AdamWSquareRefIdeal.main_arg0) = m' ((c.tc : Thread Cert.AdamWSquareRefIdeal.nD Cert.AdamWSquareRefIdeal.τ).loc Cert.AdamWSquareRefIdeal.main_arg0)
          ∧ r.2.mem ((c.tc : Thread Cert.AdamWSquareRefIdeal.nD Cert.AdamWSquareRefIdeal.τ).loc Cert.AdamWSquareRefIdeal.main_arg1) = m' ((c.tc : Thread Cert.AdamWSquareRefIdeal.nD Cert.AdamWSquareRefIdeal.τ).loc Cert.AdamWSquareRefIdeal.main_arg1)
          ∧ r.2.mem ((c.tc : Thread Cert.AdamWSquareRefIdeal.nD Cert.AdamWSquareRefIdeal.τ).loc Cert.AdamWSquareRefIdeal.main_arg2) = m' ((c.tc : Thread Cert.AdamWSquareRefIdeal.nD Cert.AdamWSquareRefIdeal.τ).loc Cert.AdamWSquareRefIdeal.main_arg2)
          ∧ r.2.mem ((c.tc : Thread Cert.AdamWSquareRefIdeal.nD Cert.AdamWSquareRefIdeal.τ).loc Cert.AdamWSquareRefIdeal.main_arg3) = m' ((c.tc : Thread Cert.AdamWSquareRefIdeal.nD Cert.AdamWSquareRefIdeal.τ).loc Cert.AdamWSquareRefIdeal.main_arg3)
          ∧ r.2.mem ((c.tc : Thread Cert.AdamWSquareRefIdeal.nD Cert.AdamWSquareRefIdeal.τ).loc Cert.AdamWSquareRefIdeal.main_arg4) = m' ((c.tc : Thread Cert.AdamWSquareRefIdeal.nD Cert.AdamWSquareRefIdeal.τ).loc Cert.AdamWSquareRefIdeal.main_arg4))

def preserves_AdamWHalf_AdamWHalfIdeal : Prop :=
  True

def algebraic_AdamWHalfIdeal_AdamWHalfRefIdeal [hAdamWHalfIdeal : Cert.AdamWHalfIdeal.Facts] [hAdamWHalfRefIdeal : Cert.AdamWHalfRefIdeal.Facts] : Prop :=
  ∀ (m : (ℓ : Loc Cert.AdamWHalfIdeal.nD Cert.AdamWHalfIdeal.τ Cert.AdamWHalfIdeal.sig) → Buf (Elt Ideal) ℓ) (g : Dev Cert.AdamWHalfIdeal.nD → PrngReg)
    (m' : (ℓ : Loc Cert.AdamWHalfRefIdeal.nD Cert.AdamWHalfRefIdeal.τ Cert.AdamWHalfRefIdeal.sig) → Buf (Elt Ideal) ℓ) (g' : Dev Cert.AdamWHalfRefIdeal.nD → PrngReg), Pre_AdamWHalfIdeal m →
    (∀ c : Dev Cert.AdamWHalfIdeal.nD,
      m' ((c.tc : Thread Cert.AdamWHalfRefIdeal.nD Cert.AdamWHalfRefIdeal.τ).loc Cert.AdamWHalfRefIdeal.main_arg0) = m ((c.tc : Thread Cert.AdamWHalfIdeal.nD Cert.AdamWHalfIdeal.τ).loc Cert.AdamWHalfIdeal.main_arg0)
      ∧ m' ((c.tc : Thread Cert.AdamWHalfRefIdeal.nD Cert.AdamWHalfRefIdeal.τ).loc Cert.AdamWHalfRefIdeal.main_arg1) = m ((c.tc : Thread Cert.AdamWHalfIdeal.nD Cert.AdamWHalfIdeal.τ).loc Cert.AdamWHalfIdeal.main_arg1)
      ∧ m' ((c.tc : Thread Cert.AdamWHalfRefIdeal.nD Cert.AdamWHalfRefIdeal.τ).loc Cert.AdamWHalfRefIdeal.main_arg2) = m ((c.tc : Thread Cert.AdamWHalfIdeal.nD Cert.AdamWHalfIdeal.τ).loc Cert.AdamWHalfIdeal.main_arg2)
      ∧ m' ((c.tc : Thread Cert.AdamWHalfRefIdeal.nD Cert.AdamWHalfRefIdeal.τ).loc Cert.AdamWHalfRefIdeal.main_arg3) = m ((c.tc : Thread Cert.AdamWHalfIdeal.nD Cert.AdamWHalfIdeal.τ).loc Cert.AdamWHalfIdeal.main_arg3)
      ∧ m' ((c.tc : Thread Cert.AdamWHalfRefIdeal.nD Cert.AdamWHalfRefIdeal.τ).loc Cert.AdamWHalfRefIdeal.main_arg4) = m ((c.tc : Thread Cert.AdamWHalfIdeal.nD Cert.AdamWHalfIdeal.τ).loc Cert.AdamWHalfIdeal.main_arg4)) →
    ∃ (v0 : (c : Dev Cert.AdamWHalfIdeal.nD) → Buf (Elt Ideal) ((c.tc : Thread Cert.AdamWHalfIdeal.nD Cert.AdamWHalfIdeal.τ).loc Cert.AdamWHalfIdeal.main_v0_0)) (v1 : (c : Dev Cert.AdamWHalfIdeal.nD) → Buf (Elt Ideal) ((c.tc : Thread Cert.AdamWHalfIdeal.nD Cert.AdamWHalfIdeal.τ).loc Cert.AdamWHalfIdeal.main_v0_1)) (v2 : (c : Dev Cert.AdamWHalfIdeal.nD) → Buf (Elt Ideal) ((c.tc : Thread Cert.AdamWHalfIdeal.nD Cert.AdamWHalfIdeal.τ).loc Cert.AdamWHalfIdeal.main_v0_2)) (v3 : (c : Dev Cert.AdamWHalfIdeal.nD) → Buf (Elt Ideal) ((c.tc : Thread Cert.AdamWHalfIdeal.nD Cert.AdamWHalfIdeal.τ).loc Cert.AdamWHalfIdeal.main_v0_3)),
      θ_run (Cert.AdamWHalfIdeal.defs (F := Ideal)) (onTc (τ := Cert.AdamWHalfIdeal.τ) (Cert.AdamWHalfIdeal.main (F := Ideal))) ⟨m, fun _ => 0, g⟩ (fun r => ∀ c : Dev Cert.AdamWHalfIdeal.nD,
          r.2.mem ((c.tc : Thread Cert.AdamWHalfIdeal.nD Cert.AdamWHalfIdeal.τ).loc Cert.AdamWHalfIdeal.main_v0_0) = v0 c
          ∧ r.2.mem ((c.tc : Thread Cert.AdamWHalfIdeal.nD Cert.AdamWHalfIdeal.τ).loc Cert.AdamWHalfIdeal.main_v0_1) = v1 c
          ∧ r.2.mem ((c.tc : Thread Cert.AdamWHalfIdeal.nD Cert.AdamWHalfIdeal.τ).loc Cert.AdamWHalfIdeal.main_v0_2) = v2 c
          ∧ r.2.mem ((c.tc : Thread Cert.AdamWHalfIdeal.nD Cert.AdamWHalfIdeal.τ).loc Cert.AdamWHalfIdeal.main_v0_3) = v3 c
          ∧ r.2.mem ((c.tc : Thread Cert.AdamWHalfIdeal.nD Cert.AdamWHalfIdeal.τ).loc Cert.AdamWHalfIdeal.main_arg0) = m ((c.tc : Thread Cert.AdamWHalfIdeal.nD Cert.AdamWHalfIdeal.τ).loc Cert.AdamWHalfIdeal.main_arg0)
          ∧ r.2.mem ((c.tc : Thread Cert.AdamWHalfIdeal.nD Cert.AdamWHalfIdeal.τ).loc Cert.AdamWHalfIdeal.main_arg1) = m ((c.tc : Thread Cert.AdamWHalfIdeal.nD Cert.AdamWHalfIdeal.τ).loc Cert.AdamWHalfIdeal.main_arg1)
          ∧ r.2.mem ((c.tc : Thread Cert.AdamWHalfIdeal.nD Cert.AdamWHalfIdeal.τ).loc Cert.AdamWHalfIdeal.main_arg2) = m ((c.tc : Thread Cert.AdamWHalfIdeal.nD Cert.AdamWHalfIdeal.τ).loc Cert.AdamWHalfIdeal.main_arg2)
          ∧ r.2.mem ((c.tc : Thread Cert.AdamWHalfIdeal.nD Cert.AdamWHalfIdeal.τ).loc Cert.AdamWHalfIdeal.main_arg3) = m ((c.tc : Thread Cert.AdamWHalfIdeal.nD Cert.AdamWHalfIdeal.τ).loc Cert.AdamWHalfIdeal.main_arg3)
          ∧ r.2.mem ((c.tc : Thread Cert.AdamWHalfIdeal.nD Cert.AdamWHalfIdeal.τ).loc Cert.AdamWHalfIdeal.main_arg4) = m ((c.tc : Thread Cert.AdamWHalfIdeal.nD Cert.AdamWHalfIdeal.τ).loc Cert.AdamWHalfIdeal.main_arg4))
      ∧ θ_run (Cert.AdamWHalfRefIdeal.defs (F := Ideal)) (onTc (τ := Cert.AdamWHalfRefIdeal.τ) (Cert.AdamWHalfRefIdeal.main (F := Ideal))) ⟨m', fun _ => 0, g'⟩ (fun r => ∀ c : Dev Cert.AdamWHalfRefIdeal.nD,
          r.2.mem ((c.tc : Thread Cert.AdamWHalfRefIdeal.nD Cert.AdamWHalfRefIdeal.τ).loc Cert.AdamWHalfRefIdeal.main_v0) = v0 c
          ∧ r.2.mem ((c.tc : Thread Cert.AdamWHalfRefIdeal.nD Cert.AdamWHalfRefIdeal.τ).loc Cert.AdamWHalfRefIdeal.main_v24) = v1 c
          ∧ r.2.mem ((c.tc : Thread Cert.AdamWHalfRefIdeal.nD Cert.AdamWHalfRefIdeal.τ).loc Cert.AdamWHalfRefIdeal.main_v5) = v2 c
          ∧ r.2.mem ((c.tc : Thread Cert.AdamWHalfRefIdeal.nD Cert.AdamWHalfRefIdeal.τ).loc Cert.AdamWHalfRefIdeal.main_v11) = v3 c
          ∧ r.2.mem ((c.tc : Thread Cert.AdamWHalfRefIdeal.nD Cert.AdamWHalfRefIdeal.τ).loc Cert.AdamWHalfRefIdeal.main_arg0) = m' ((c.tc : Thread Cert.AdamWHalfRefIdeal.nD Cert.AdamWHalfRefIdeal.τ).loc Cert.AdamWHalfRefIdeal.main_arg0)
          ∧ r.2.mem ((c.tc : Thread Cert.AdamWHalfRefIdeal.nD Cert.AdamWHalfRefIdeal.τ).loc Cert.AdamWHalfRefIdeal.main_arg1) = m' ((c.tc : Thread Cert.AdamWHalfRefIdeal.nD Cert.AdamWHalfRefIdeal.τ).loc Cert.AdamWHalfRefIdeal.main_arg1)
          ∧ r.2.mem ((c.tc : Thread Cert.AdamWHalfRefIdeal.nD Cert.AdamWHalfRefIdeal.τ).loc Cert.AdamWHalfRefIdeal.main_arg2) = m' ((c.tc : Thread Cert.AdamWHalfRefIdeal.nD Cert.AdamWHalfRefIdeal.τ).loc Cert.AdamWHalfRefIdeal.main_arg2)
          ∧ r.2.mem ((c.tc : Thread Cert.AdamWHalfRefIdeal.nD Cert.AdamWHalfRefIdeal.τ).loc Cert.AdamWHalfRefIdeal.main_arg3) = m' ((c.tc : Thread Cert.AdamWHalfRefIdeal.nD Cert.AdamWHalfRefIdeal.τ).loc Cert.AdamWHalfRefIdeal.main_arg3)
          ∧ r.2.mem ((c.tc : Thread Cert.AdamWHalfRefIdeal.nD Cert.AdamWHalfRefIdeal.τ).loc Cert.AdamWHalfRefIdeal.main_arg4) = m' ((c.tc : Thread Cert.AdamWHalfRefIdeal.nD Cert.AdamWHalfRefIdeal.τ).loc Cert.AdamWHalfRefIdeal.main_arg4))

def preserves_AdamWSmall_AdamWSmallIdeal : Prop :=
  True

def algebraic_AdamWSmallIdeal_AdamWSmallRefIdeal [hAdamWSmallIdeal : Cert.AdamWSmallIdeal.Facts] [hAdamWSmallRefIdeal : Cert.AdamWSmallRefIdeal.Facts] : Prop :=
  ∀ (m : (ℓ : Loc Cert.AdamWSmallIdeal.nD Cert.AdamWSmallIdeal.τ Cert.AdamWSmallIdeal.sig) → Buf (Elt Ideal) ℓ) (g : Dev Cert.AdamWSmallIdeal.nD → PrngReg)
    (m' : (ℓ : Loc Cert.AdamWSmallRefIdeal.nD Cert.AdamWSmallRefIdeal.τ Cert.AdamWSmallRefIdeal.sig) → Buf (Elt Ideal) ℓ) (g' : Dev Cert.AdamWSmallRefIdeal.nD → PrngReg), Pre_AdamWSmallIdeal m →
    (∀ c : Dev Cert.AdamWSmallIdeal.nD,
      m' ((c.tc : Thread Cert.AdamWSmallRefIdeal.nD Cert.AdamWSmallRefIdeal.τ).loc Cert.AdamWSmallRefIdeal.main_arg0) = m ((c.tc : Thread Cert.AdamWSmallIdeal.nD Cert.AdamWSmallIdeal.τ).loc Cert.AdamWSmallIdeal.main_arg0)
      ∧ m' ((c.tc : Thread Cert.AdamWSmallRefIdeal.nD Cert.AdamWSmallRefIdeal.τ).loc Cert.AdamWSmallRefIdeal.main_arg1) = m ((c.tc : Thread Cert.AdamWSmallIdeal.nD Cert.AdamWSmallIdeal.τ).loc Cert.AdamWSmallIdeal.main_arg1)
      ∧ m' ((c.tc : Thread Cert.AdamWSmallRefIdeal.nD Cert.AdamWSmallRefIdeal.τ).loc Cert.AdamWSmallRefIdeal.main_arg2) = m ((c.tc : Thread Cert.AdamWSmallIdeal.nD Cert.AdamWSmallIdeal.τ).loc Cert.AdamWSmallIdeal.main_arg2)
      ∧ m' ((c.tc : Thread Cert.AdamWSmallRefIdeal.nD Cert.AdamWSmallRefIdeal.τ).loc Cert.AdamWSmallRefIdeal.main_arg3) = m ((c.tc : Thread Cert.AdamWSmallIdeal.nD Cert.AdamWSmallIdeal.τ).loc Cert.AdamWSmallIdeal.main_arg3)) →
    ∃ (v0 : (c : Dev Cert.AdamWSmallIdeal.nD) → Buf (Elt Ideal) ((c.tc : Thread Cert.AdamWSmallIdeal.nD Cert.AdamWSmallIdeal.τ).loc Cert.AdamWSmallIdeal.main_v0_0)) (v1 : (c : Dev Cert.AdamWSmallIdeal.nD) → Buf (Elt Ideal) ((c.tc : Thread Cert.AdamWSmallIdeal.nD Cert.AdamWSmallIdeal.τ).loc Cert.AdamWSmallIdeal.main_v0_1)) (v2 : (c : Dev Cert.AdamWSmallIdeal.nD) → Buf (Elt Ideal) ((c.tc : Thread Cert.AdamWSmallIdeal.nD Cert.AdamWSmallIdeal.τ).loc Cert.AdamWSmallIdeal.main_v0_2)) (v3 : (c : Dev Cert.AdamWSmallIdeal.nD) → Buf (Elt Ideal) ((c.tc : Thread Cert.AdamWSmallIdeal.nD Cert.AdamWSmallIdeal.τ).loc Cert.AdamWSmallIdeal.main_v0_3)),
      θ_run (Cert.AdamWSmallIdeal.defs (F := Ideal)) (onTc (τ := Cert.AdamWSmallIdeal.τ) (Cert.AdamWSmallIdeal.main (F := Ideal))) ⟨m, fun _ => 0, g⟩ (fun r => ∀ c : Dev Cert.AdamWSmallIdeal.nD,
          r.2.mem ((c.tc : Thread Cert.AdamWSmallIdeal.nD Cert.AdamWSmallIdeal.τ).loc Cert.AdamWSmallIdeal.main_v0_0) = v0 c
          ∧ r.2.mem ((c.tc : Thread Cert.AdamWSmallIdeal.nD Cert.AdamWSmallIdeal.τ).loc Cert.AdamWSmallIdeal.main_v0_1) = v1 c
          ∧ r.2.mem ((c.tc : Thread Cert.AdamWSmallIdeal.nD Cert.AdamWSmallIdeal.τ).loc Cert.AdamWSmallIdeal.main_v0_2) = v2 c
          ∧ r.2.mem ((c.tc : Thread Cert.AdamWSmallIdeal.nD Cert.AdamWSmallIdeal.τ).loc Cert.AdamWSmallIdeal.main_v0_3) = v3 c
          ∧ r.2.mem ((c.tc : Thread Cert.AdamWSmallIdeal.nD Cert.AdamWSmallIdeal.τ).loc Cert.AdamWSmallIdeal.main_arg0) = m ((c.tc : Thread Cert.AdamWSmallIdeal.nD Cert.AdamWSmallIdeal.τ).loc Cert.AdamWSmallIdeal.main_arg0)
          ∧ r.2.mem ((c.tc : Thread Cert.AdamWSmallIdeal.nD Cert.AdamWSmallIdeal.τ).loc Cert.AdamWSmallIdeal.main_arg1) = m ((c.tc : Thread Cert.AdamWSmallIdeal.nD Cert.AdamWSmallIdeal.τ).loc Cert.AdamWSmallIdeal.main_arg1)
          ∧ r.2.mem ((c.tc : Thread Cert.AdamWSmallIdeal.nD Cert.AdamWSmallIdeal.τ).loc Cert.AdamWSmallIdeal.main_arg2) = m ((c.tc : Thread Cert.AdamWSmallIdeal.nD Cert.AdamWSmallIdeal.τ).loc Cert.AdamWSmallIdeal.main_arg2)
          ∧ r.2.mem ((c.tc : Thread Cert.AdamWSmallIdeal.nD Cert.AdamWSmallIdeal.τ).loc Cert.AdamWSmallIdeal.main_arg3) = m ((c.tc : Thread Cert.AdamWSmallIdeal.nD Cert.AdamWSmallIdeal.τ).loc Cert.AdamWSmallIdeal.main_arg3))
      ∧ θ_run (Cert.AdamWSmallRefIdeal.defs (F := Ideal)) (onTc (τ := Cert.AdamWSmallRefIdeal.τ) (Cert.AdamWSmallRefIdeal.main (F := Ideal))) ⟨m', fun _ => 0, g'⟩ (fun r => ∀ c : Dev Cert.AdamWSmallRefIdeal.nD,
          r.2.mem ((c.tc : Thread Cert.AdamWSmallRefIdeal.nD Cert.AdamWSmallRefIdeal.τ).loc Cert.AdamWSmallRefIdeal.main_v0) = v0 c
          ∧ r.2.mem ((c.tc : Thread Cert.AdamWSmallRefIdeal.nD Cert.AdamWSmallRefIdeal.τ).loc Cert.AdamWSmallRefIdeal.main_v24) = v1 c
          ∧ r.2.mem ((c.tc : Thread Cert.AdamWSmallRefIdeal.nD Cert.AdamWSmallRefIdeal.τ).loc Cert.AdamWSmallRefIdeal.main_v5) = v2 c
          ∧ r.2.mem ((c.tc : Thread Cert.AdamWSmallRefIdeal.nD Cert.AdamWSmallRefIdeal.τ).loc Cert.AdamWSmallRefIdeal.main_v11) = v3 c
          ∧ r.2.mem ((c.tc : Thread Cert.AdamWSmallRefIdeal.nD Cert.AdamWSmallRefIdeal.τ).loc Cert.AdamWSmallRefIdeal.main_arg0) = m' ((c.tc : Thread Cert.AdamWSmallRefIdeal.nD Cert.AdamWSmallRefIdeal.τ).loc Cert.AdamWSmallRefIdeal.main_arg0)
          ∧ r.2.mem ((c.tc : Thread Cert.AdamWSmallRefIdeal.nD Cert.AdamWSmallRefIdeal.τ).loc Cert.AdamWSmallRefIdeal.main_arg1) = m' ((c.tc : Thread Cert.AdamWSmallRefIdeal.nD Cert.AdamWSmallRefIdeal.τ).loc Cert.AdamWSmallRefIdeal.main_arg1)
          ∧ r.2.mem ((c.tc : Thread Cert.AdamWSmallRefIdeal.nD Cert.AdamWSmallRefIdeal.τ).loc Cert.AdamWSmallRefIdeal.main_arg2) = m' ((c.tc : Thread Cert.AdamWSmallRefIdeal.nD Cert.AdamWSmallRefIdeal.τ).loc Cert.AdamWSmallRefIdeal.main_arg2)
          ∧ r.2.mem ((c.tc : Thread Cert.AdamWSmallRefIdeal.nD Cert.AdamWSmallRefIdeal.τ).loc Cert.AdamWSmallRefIdeal.main_arg3) = m' ((c.tc : Thread Cert.AdamWSmallRefIdeal.nD Cert.AdamWSmallRefIdeal.τ).loc Cert.AdamWSmallRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v33) = v0 c
          ∧ r.2.mem ((c.tc : Thread Cert.LossRefIdeal.nD Cert.LossRefIdeal.τ).loc Cert.LossRefIdeal.main_v32) = v1 c
          ∧ r.2.mem ((c.tc : Thread Cert.LossRefIdeal.nD Cert.LossRefIdeal.τ).loc Cert.LossRefIdeal.main_v36) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_FfnDx_FfnDxIdeal : Prop :=
  True

def algebraic_FfnDxIdeal_FfnDxRefIdeal [hFfnDxIdeal : Cert.FfnDxIdeal.Facts] [hFfnDxRefIdeal : Cert.FfnDxRefIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)
      ∧ m' ((c.tc : Thread Cert.FfnDxRefIdeal.nD Cert.FfnDxRefIdeal.τ).loc Cert.FfnDxRefIdeal.main_arg2) = m ((c.tc : Thread Cert.FfnDxIdeal.nD Cert.FfnDxIdeal.τ).loc Cert.FfnDxIdeal.main_arg2)
      ∧ m' ((c.tc : Thread Cert.FfnDxRefIdeal.nD Cert.FfnDxRefIdeal.τ).loc Cert.FfnDxRefIdeal.main_arg3) = m ((c.tc : Thread Cert.FfnDxIdeal.nD Cert.FfnDxIdeal.τ).loc Cert.FfnDxIdeal.main_arg3)
      ∧ m' ((c.tc : Thread Cert.FfnDxRefIdeal.nD Cert.FfnDxRefIdeal.τ).loc Cert.FfnDxRefIdeal.main_arg4) = m ((c.tc : Thread Cert.FfnDxIdeal.nD Cert.FfnDxIdeal.τ).loc Cert.FfnDxIdeal.main_arg4)
      ∧ m' ((c.tc : Thread Cert.FfnDxRefIdeal.nD Cert.FfnDxRefIdeal.τ).loc Cert.FfnDxRefIdeal.main_arg5) = m ((c.tc : Thread Cert.FfnDxIdeal.nD Cert.FfnDxIdeal.τ).loc Cert.FfnDxIdeal.main_arg5)
      ∧ m' ((c.tc : Thread Cert.FfnDxRefIdeal.nD Cert.FfnDxRefIdeal.τ).loc Cert.FfnDxRefIdeal.main_arg6) = m ((c.tc : Thread Cert.FfnDxIdeal.nD Cert.FfnDxIdeal.τ).loc Cert.FfnDxIdeal.main_arg6)) →
    ∃ (v0 : (c : Dev Cert.FfnDxIdeal.nD) → Buf (Elt Ideal) ((c.tc : Thread Cert.FfnDxIdeal.nD Cert.FfnDxIdeal.τ).loc Cert.FfnDxIdeal.main_v0_0)) (v1 : (c : Dev Cert.FfnDxIdeal.nD) → Buf (Elt Ideal) ((c.tc : Thread Cert.FfnDxIdeal.nD Cert.FfnDxIdeal.τ).loc Cert.FfnDxIdeal.main_v0_1)) (v2 : (c : Dev Cert.FfnDxIdeal.nD) → Buf (Elt Ideal) ((c.tc : Thread Cert.FfnDxIdeal.nD Cert.FfnDxIdeal.τ).loc Cert.FfnDxIdeal.main_v0_2)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v0_0) = v0 c
          ∧ r.2.mem ((c.tc : Thread Cert.FfnDxIdeal.nD Cert.FfnDxIdeal.τ).loc Cert.FfnDxIdeal.main_v0_1) = v1 c
          ∧ r.2.mem ((c.tc : Thread Cert.FfnDxIdeal.nD Cert.FfnDxIdeal.τ).loc Cert.FfnDxIdeal.main_v0_2) = v2 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
          ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4)
          ∧ r.2.mem ((c.tc : Thread Cert.FfnDxIdeal.nD Cert.FfnDxIdeal.τ).loc Cert.FfnDxIdeal.main_arg5) = m ((c.tc : Thread Cert.FfnDxIdeal.nD Cert.FfnDxIdeal.τ).loc Cert.FfnDxIdeal.main_arg5)
          ∧ r.2.mem ((c.tc : Thread Cert.FfnDxIdeal.nD Cert.FfnDxIdeal.τ).loc Cert.FfnDxIdeal.main_arg6) = m ((c.tc : Thread Cert.FfnDxIdeal.nD Cert.FfnDxIdeal.τ).loc Cert.FfnDxIdeal.main_arg6))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v32) = v0 c
          ∧ r.2.mem ((c.tc : Thread Cert.FfnDxRefIdeal.nD Cert.FfnDxRefIdeal.τ).loc Cert.FfnDxRefIdeal.main_v33) = v1 c
          ∧ r.2.mem ((c.tc : Thread Cert.FfnDxRefIdeal.nD Cert.FfnDxRefIdeal.τ).loc Cert.FfnDxRefIdeal.main_v31) = v2 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1)
          ∧ r.2.mem ((c.tc : Thread Cert.FfnDxRefIdeal.nD Cert.FfnDxRefIdeal.τ).loc Cert.FfnDxRefIdeal.main_arg2) = m' ((c.tc : Thread Cert.FfnDxRefIdeal.nD Cert.FfnDxRefIdeal.τ).loc Cert.FfnDxRefIdeal.main_arg2)
          ∧ r.2.mem ((c.tc : Thread Cert.FfnDxRefIdeal.nD Cert.FfnDxRefIdeal.τ).loc Cert.FfnDxRefIdeal.main_arg3) = m' ((c.tc : Thread Cert.FfnDxRefIdeal.nD Cert.FfnDxRefIdeal.τ).loc Cert.FfnDxRefIdeal.main_arg3)
          ∧ r.2.mem ((c.tc : Thread Cert.FfnDxRefIdeal.nD Cert.FfnDxRefIdeal.τ).loc Cert.FfnDxRefIdeal.main_arg4) = m' ((c.tc : Thread Cert.FfnDxRefIdeal.nD Cert.FfnDxRefIdeal.τ).loc Cert.FfnDxRefIdeal.main_arg4)
          ∧ r.2.mem ((c.tc : Thread Cert.FfnDxRefIdeal.nD Cert.FfnDxRefIdeal.τ).loc Cert.FfnDxRefIdeal.main_arg5) = m' ((c.tc : Thread Cert.FfnDxRefIdeal.nD Cert.FfnDxRefIdeal.τ).loc Cert.FfnDxRefIdeal.main_arg5)
          ∧ r.2.mem ((c.tc : Thread Cert.FfnDxRefIdeal.nD Cert.FfnDxRefIdeal.τ).loc Cert.FfnDxRefIdeal.main_arg6) = m' ((c.tc : Thread Cert.FfnDxRefIdeal.nD Cert.FfnDxRefIdeal.τ).loc Cert.FfnDxRefIdeal.main_arg6))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_v8) = v1 c
          ∧ r.2.mem ((c.tc : Thread Cert.FfnUpRefIdeal.nD Cert.FfnUpRefIdeal.τ).loc Cert.FfnUpRefIdeal.main_v11) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v0_0)) (v1 : (c : Dev Cert.FfnDownIdeal.nD) → Buf (Elt Ideal) ((c.tc : Thread Cert.FfnDownIdeal.nD Cert.FfnDownIdeal.τ).loc Cert.FfnDownIdeal.main_v0_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0_0) = v0 c
          ∧ r.2.mem ((c.tc : Thread Cert.FfnDownIdeal.nD Cert.FfnDownIdeal.τ).loc Cert.FfnDownIdeal.main_v0_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v5) = v0 c
          ∧ r.2.mem ((c.tc : Thread Cert.FfnDownRefIdeal.nD Cert.FfnDownRefIdeal.τ).loc Cert.FfnDownRefIdeal.main_v18) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_FfnDwUp_FfnDwUpIdeal : Prop :=
  True

def algebraic_FfnDwUpIdeal_FfnDwUpRefIdeal [hFfnDwUpIdeal : Cert.FfnDwUpIdeal.Facts] [hFfnDwUpRefIdeal : Cert.FfnDwUpRefIdeal.Facts] : Prop :=
  ∀ (m : (ℓ : Loc Cert.FfnDwUpIdeal.nD Cert.FfnDwUpIdeal.τ Cert.FfnDwUpIdeal.sig) → Buf (Elt Ideal) ℓ) (g : Dev Cert.FfnDwUpIdeal.nD → PrngReg)
    (m' : (ℓ : Loc Cert.FfnDwUpRefIdeal.nD Cert.FfnDwUpRefIdeal.τ Cert.FfnDwUpRefIdeal.sig) → Buf (Elt Ideal) ℓ) (g' : Dev Cert.FfnDwUpRefIdeal.nD → PrngReg), Pre_FfnDwUpIdeal m →
    (∀ c : Dev Cert.FfnDwUpIdeal.nD,
      m' ((c.tc : Thread Cert.FfnDwUpRefIdeal.nD Cert.FfnDwUpRefIdeal.τ).loc Cert.FfnDwUpRefIdeal.main_arg0) = m ((c.tc : Thread Cert.FfnDwUpIdeal.nD Cert.FfnDwUpIdeal.τ).loc Cert.FfnDwUpIdeal.main_arg0)
      ∧ m' ((c.tc : Thread Cert.FfnDwUpRefIdeal.nD Cert.FfnDwUpRefIdeal.τ).loc Cert.FfnDwUpRefIdeal.main_arg1) = m ((c.tc : Thread Cert.FfnDwUpIdeal.nD Cert.FfnDwUpIdeal.τ).loc Cert.FfnDwUpIdeal.main_arg1)) →
    ∃ (v0 : (c : Dev Cert.FfnDwUpIdeal.nD) → Buf (Elt Ideal) ((c.tc : Thread Cert.FfnDwUpIdeal.nD Cert.FfnDwUpIdeal.τ).loc Cert.FfnDwUpIdeal.main_v0)),
      θ_run (Cert.FfnDwUpIdeal.defs (F := Ideal)) (onTc (τ := Cert.FfnDwUpIdeal.τ) (Cert.FfnDwUpIdeal.main (F := Ideal))) ⟨m, fun _ => 0, g⟩ (fun r => ∀ c : Dev Cert.FfnDwUpIdeal.nD,
          r.2.mem ((c.tc : Thread Cert.FfnDwUpIdeal.nD Cert.FfnDwUpIdeal.τ).loc Cert.FfnDwUpIdeal.main_v0) = v0 c
          ∧ r.2.mem ((c.tc : Thread Cert.FfnDwUpIdeal.nD Cert.FfnDwUpIdeal.τ).loc Cert.FfnDwUpIdeal.main_arg0) = m ((c.tc : Thread Cert.FfnDwUpIdeal.nD Cert.FfnDwUpIdeal.τ).loc Cert.FfnDwUpIdeal.main_arg0)
          ∧ r.2.mem ((c.tc : Thread Cert.FfnDwUpIdeal.nD Cert.FfnDwUpIdeal.τ).loc Cert.FfnDwUpIdeal.main_arg1) = m ((c.tc : Thread Cert.FfnDwUpIdeal.nD Cert.FfnDwUpIdeal.τ).loc Cert.FfnDwUpIdeal.main_arg1))
      ∧ θ_run (Cert.FfnDwUpRefIdeal.defs (F := Ideal)) (onTc (τ := Cert.FfnDwUpRefIdeal.τ) (Cert.FfnDwUpRefIdeal.main (F := Ideal))) ⟨m', fun _ => 0, g'⟩ (fun r => ∀ c : Dev Cert.FfnDwUpRefIdeal.nD,
          r.2.mem ((c.tc : Thread Cert.FfnDwUpRefIdeal.nD Cert.FfnDwUpRefIdeal.τ).loc Cert.FfnDwUpRefIdeal.main_v4) = v0 c
          ∧ r.2.mem ((c.tc : Thread Cert.FfnDwUpRefIdeal.nD Cert.FfnDwUpRefIdeal.τ).loc Cert.FfnDwUpRefIdeal.main_arg0) = m' ((c.tc : Thread Cert.FfnDwUpRefIdeal.nD Cert.FfnDwUpRefIdeal.τ).loc Cert.FfnDwUpRefIdeal.main_arg0)
          ∧ r.2.mem ((c.tc : Thread Cert.FfnDwUpRefIdeal.nD Cert.FfnDwUpRefIdeal.τ).loc Cert.FfnDwUpRefIdeal.main_arg1) = m' ((c.tc : Thread Cert.FfnDwUpRefIdeal.nD Cert.FfnDwUpRefIdeal.τ).loc Cert.FfnDwUpRefIdeal.main_arg1))

def preserves_FfnDwDown_FfnDwDownIdeal : Prop :=
  True

def algebraic_FfnDwDownIdeal_FfnDwDownRefIdeal [hFfnDwDownIdeal : Cert.FfnDwDownIdeal.Facts] [hFfnDwDownRefIdeal : Cert.FfnDwDownRefIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg)
    (m' : (ℓ : Loc Cert.FfnDwDownRefIdeal.nD Cert.FfnDwDownRefIdeal.τ Cert.FfnDwDownRefIdeal.sig) → Buf (Elt Ideal) ℓ) (g' : Dev Cert.FfnDwDownRefIdeal.nD → PrngReg), Pre_FfnDwDownIdeal m →
    (∀ c : Dev Cert.FfnDwDownIdeal.nD,
      m' ((c.tc : Thread Cert.FfnDwDownRefIdeal.nD Cert.FfnDwDownRefIdeal.τ).loc Cert.FfnDwDownRefIdeal.main_arg0) = m ((c.tc : Thread Cert.FfnDwDownIdeal.nD Cert.FfnDwDownIdeal.τ).loc Cert.FfnDwDownIdeal.main_arg0)
      ∧ m' ((c.tc : Thread Cert.FfnDwDownRefIdeal.nD Cert.FfnDwDownRefIdeal.τ).loc Cert.FfnDwDownRefIdeal.main_arg1) = m ((c.tc : Thread Cert.FfnDwDownIdeal.nD Cert.FfnDwDownIdeal.τ).loc Cert.FfnDwDownIdeal.main_arg1)) →
    ∃ (v0 : (c : Dev Cert.FfnDwDownIdeal.nD) → Buf (Elt Ideal) ((c.tc : Thread Cert.FfnDwDownIdeal.nD Cert.FfnDwDownIdeal.τ).loc Cert.FfnDwDownIdeal.main_v0)),
      θ_run (Cert.FfnDwDownIdeal.defs (F := Ideal)) (onTc (τ := Cert.FfnDwDownIdeal.τ) (Cert.FfnDwDownIdeal.main (F := Ideal))) ⟨m, fun _ => 0, g⟩ (fun r => ∀ c : Dev Cert.FfnDwDownIdeal.nD,
          r.2.mem ((c.tc : Thread Cert.FfnDwDownIdeal.nD Cert.FfnDwDownIdeal.τ).loc Cert.FfnDwDownIdeal.main_v0) = v0 c
          ∧ r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
          ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1))
      ∧ θ_run (Cert.FfnDwDownRefIdeal.defs (F := Ideal)) (onTc (τ := Cert.FfnDwDownRefIdeal.τ) (Cert.FfnDwDownRefIdeal.main (F := Ideal))) ⟨m', fun _ => 0, g'⟩ (fun r => ∀ c : Dev Cert.FfnDwDownRefIdeal.nD,
          r.2.mem ((c.tc : Thread Cert.FfnDwDownRefIdeal.nD Cert.FfnDwDownRefIdeal.τ).loc Cert.FfnDwDownRefIdeal.main_v6) = v0 c
          ∧ r.2.mem ((c.tc : Thread Cert.FfnDwDownRefIdeal.nD Cert.FfnDwDownRefIdeal.τ).loc Cert.FfnDwDownRefIdeal.main_arg0) = m' ((c.tc : Thread Cert.FfnDwDownRefIdeal.nD Cert.FfnDwDownRefIdeal.τ).loc Cert.FfnDwDownRefIdeal.main_arg0)
          ∧ r.2.mem ((c.tc : Thread Cert.FfnDwDownRefIdeal.nD Cert.FfnDwDownRefIdeal.τ).loc Cert.FfnDwDownRefIdeal.main_arg1) = m' ((c.tc : Thread Cert.FfnDwDownRefIdeal.nD Cert.FfnDwDownRefIdeal.τ).loc Cert.FfnDwDownRefIdeal.main_arg1))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)
      ∧ m' ((c.tc : Thread Cert.FfnActRefIdeal.nD Cert.FfnActRefIdeal.τ).loc Cert.FfnActRefIdeal.main_arg4) = m ((c.tc : Thread Cert.FfnActIdeal.nD Cert.FfnActIdeal.τ).loc Cert.FfnActIdeal.main_arg4)) →
    ∃ (v0 : (c : Dev Cert.FfnActIdeal.nD) → Buf (Elt Ideal) ((c.tc : Thread Cert.FfnActIdeal.nD Cert.FfnActIdeal.τ).loc Cert.FfnActIdeal.main_v0_0)) (v1 : (c : Dev Cert.FfnActIdeal.nD) → Buf (Elt Ideal) ((c.tc : Thread Cert.FfnActIdeal.nD Cert.FfnActIdeal.τ).loc Cert.FfnActIdeal.main_v0_1)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v0_0) = v0 c
          ∧ r.2.mem ((c.tc : Thread Cert.FfnActIdeal.nD Cert.FfnActIdeal.τ).loc Cert.FfnActIdeal.main_v0_1) = v1 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
          ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v23) = v0 c
          ∧ r.2.mem ((c.tc : Thread Cert.FfnActRefIdeal.nD Cert.FfnActRefIdeal.τ).loc Cert.FfnActRefIdeal.main_v26) = v1 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3)
          ∧ r.2.mem ((c.tc : Thread Cert.FfnActRefIdeal.nD Cert.FfnActRefIdeal.τ).loc Cert.FfnActRefIdeal.main_arg4) = m' ((c.tc : Thread Cert.FfnActRefIdeal.nD Cert.FfnActRefIdeal.τ).loc Cert.FfnActRefIdeal.main_arg4))

def preserves_SumFfn_SumFfnIdeal : Prop :=
  True

def algebraic_SumFfnIdeal_SumFfnRefIdeal [hSumFfnIdeal : Cert.SumFfnIdeal.Facts] [hSumFfnRefIdeal : Cert.SumFfnRefIdeal.Facts] : Prop :=
  ∀ (m : (ℓ : Loc Cert.SumFfnIdeal.nD Cert.SumFfnIdeal.τ Cert.SumFfnIdeal.sig) → Buf (Elt Ideal) ℓ) (g : Dev Cert.SumFfnIdeal.nD → PrngReg)
    (m' : (ℓ : Loc Cert.SumFfnRefIdeal.nD Cert.SumFfnRefIdeal.τ Cert.SumFfnRefIdeal.sig) → Buf (Elt Ideal) ℓ) (g' : Dev Cert.SumFfnRefIdeal.nD → PrngReg), Pre_SumFfnIdeal m →
    (∀ c : Dev Cert.SumFfnIdeal.nD,
      m' ((c.tc : Thread Cert.SumFfnRefIdeal.nD Cert.SumFfnRefIdeal.τ).loc Cert.SumFfnRefIdeal.main_arg0) = m ((c.tc : Thread Cert.SumFfnIdeal.nD Cert.SumFfnIdeal.τ).loc Cert.SumFfnIdeal.main_arg0)
      ∧ m' ((c.tc : Thread Cert.SumFfnRefIdeal.nD Cert.SumFfnRefIdeal.τ).loc Cert.SumFfnRefIdeal.main_arg1) = m ((c.tc : Thread Cert.SumFfnIdeal.nD Cert.SumFfnIdeal.τ).loc Cert.SumFfnIdeal.main_arg1)
      ∧ m' ((c.tc : Thread Cert.SumFfnRefIdeal.nD Cert.SumFfnRefIdeal.τ).loc Cert.SumFfnRefIdeal.main_arg2) = m ((c.tc : Thread Cert.SumFfnIdeal.nD Cert.SumFfnIdeal.τ).loc Cert.SumFfnIdeal.main_arg2)
      ∧ m' ((c.tc : Thread Cert.SumFfnRefIdeal.nD Cert.SumFfnRefIdeal.τ).loc Cert.SumFfnRefIdeal.main_arg3) = m ((c.tc : Thread Cert.SumFfnIdeal.nD Cert.SumFfnIdeal.τ).loc Cert.SumFfnIdeal.main_arg3)) →
    ∃ (v0 : (c : Dev Cert.SumFfnIdeal.nD) → Buf (Elt Ideal) ((c.tc : Thread Cert.SumFfnIdeal.nD Cert.SumFfnIdeal.τ).loc Cert.SumFfnIdeal.main_v0)),
      θ_run (Cert.SumFfnIdeal.defs (F := Ideal)) (onTc (τ := Cert.SumFfnIdeal.τ) (Cert.SumFfnIdeal.main (F := Ideal))) ⟨m, fun _ => 0, g⟩ (fun r => ∀ c : Dev Cert.SumFfnIdeal.nD,
          r.2.mem ((c.tc : Thread Cert.SumFfnIdeal.nD Cert.SumFfnIdeal.τ).loc Cert.SumFfnIdeal.main_v0) = v0 c
          ∧ r.2.mem ((c.tc : Thread Cert.SumFfnIdeal.nD Cert.SumFfnIdeal.τ).loc Cert.SumFfnIdeal.main_arg0) = m ((c.tc : Thread Cert.SumFfnIdeal.nD Cert.SumFfnIdeal.τ).loc Cert.SumFfnIdeal.main_arg0)
          ∧ r.2.mem ((c.tc : Thread Cert.SumFfnIdeal.nD Cert.SumFfnIdeal.τ).loc Cert.SumFfnIdeal.main_arg1) = m ((c.tc : Thread Cert.SumFfnIdeal.nD Cert.SumFfnIdeal.τ).loc Cert.SumFfnIdeal.main_arg1)
          ∧ r.2.mem ((c.tc : Thread Cert.SumFfnIdeal.nD Cert.SumFfnIdeal.τ).loc Cert.SumFfnIdeal.main_arg2) = m ((c.tc : Thread Cert.SumFfnIdeal.nD Cert.SumFfnIdeal.τ).loc Cert.SumFfnIdeal.main_arg2)
          ∧ r.2.mem ((c.tc : Thread Cert.SumFfnIdeal.nD Cert.SumFfnIdeal.τ).loc Cert.SumFfnIdeal.main_arg3) = m ((c.tc : Thread Cert.SumFfnIdeal.nD Cert.SumFfnIdeal.τ).loc Cert.SumFfnIdeal.main_arg3))
      ∧ θ_run (Cert.SumFfnRefIdeal.defs (F := Ideal)) (onTc (τ := Cert.SumFfnRefIdeal.τ) (Cert.SumFfnRefIdeal.main (F := Ideal))) ⟨m', fun _ => 0, g'⟩ (fun r => ∀ c : Dev Cert.SumFfnRefIdeal.nD,
          r.2.mem ((c.tc : Thread Cert.SumFfnRefIdeal.nD Cert.SumFfnRefIdeal.τ).loc Cert.SumFfnRefIdeal.main_v8) = v0 c
          ∧ r.2.mem ((c.tc : Thread Cert.SumFfnRefIdeal.nD Cert.SumFfnRefIdeal.τ).loc Cert.SumFfnRefIdeal.main_arg0) = m' ((c.tc : Thread Cert.SumFfnRefIdeal.nD Cert.SumFfnRefIdeal.τ).loc Cert.SumFfnRefIdeal.main_arg0)
          ∧ r.2.mem ((c.tc : Thread Cert.SumFfnRefIdeal.nD Cert.SumFfnRefIdeal.τ).loc Cert.SumFfnRefIdeal.main_arg1) = m' ((c.tc : Thread Cert.SumFfnRefIdeal.nD Cert.SumFfnRefIdeal.τ).loc Cert.SumFfnRefIdeal.main_arg1)
          ∧ r.2.mem ((c.tc : Thread Cert.SumFfnRefIdeal.nD Cert.SumFfnRefIdeal.τ).loc Cert.SumFfnRefIdeal.main_arg2) = m' ((c.tc : Thread Cert.SumFfnRefIdeal.nD Cert.SumFfnRefIdeal.τ).loc Cert.SumFfnRefIdeal.main_arg2)
          ∧ r.2.mem ((c.tc : Thread Cert.SumFfnRefIdeal.nD Cert.SumFfnRefIdeal.τ).loc Cert.SumFfnRefIdeal.main_arg3) = m' ((c.tc : Thread Cert.SumFfnRefIdeal.nD Cert.SumFfnRefIdeal.τ).loc Cert.SumFfnRefIdeal.main_arg3))

def Claim : Prop :=
  ∃ (hScatter : Cert.Scatter.Facts) (hScatterIdeal : Cert.ScatterIdeal.Facts) (hScatterRefIdeal : Cert.ScatterRefIdeal.Facts) (hScatterRef : Cert.ScatterRef.Facts) (hGather : Cert.Gather.Facts) (hGatherIdeal : Cert.GatherIdeal.Facts) (hGatherRefIdeal : Cert.GatherRefIdeal.Facts) (hGatherRef : Cert.GatherRef.Facts) (hSibling : Cert.Sibling.Facts) (hSiblingIdeal : Cert.SiblingIdeal.Facts) (hSiblingRefIdeal : Cert.SiblingRefIdeal.Facts) (hSiblingRef : Cert.SiblingRef.Facts) (hScatterMix : Cert.ScatterMix.Facts) (hScatterMixIdeal : Cert.ScatterMixIdeal.Facts) (hScatterMixRefIdeal : Cert.ScatterMixRefIdeal.Facts) (hScatterMixRef : Cert.ScatterMixRef.Facts) (hSiblingMix : Cert.SiblingMix.Facts) (hSiblingMixIdeal : Cert.SiblingMixIdeal.Facts) (hSiblingMixRefIdeal : Cert.SiblingMixRefIdeal.Facts) (hSiblingMixRef : Cert.SiblingMixRef.Facts) (hGatherMix : Cert.GatherMix.Facts) (hGatherMixIdeal : Cert.GatherMixIdeal.Facts) (hGatherMixRefIdeal : Cert.GatherMixRefIdeal.Facts) (hGatherMixRef : Cert.GatherMixRef.Facts) (hGatherTwo : Cert.GatherTwo.Facts) (hGatherTwoIdeal : Cert.GatherTwoIdeal.Facts) (hGatherTwoRefIdeal : Cert.GatherTwoRefIdeal.Facts) (hGatherTwoRef : Cert.GatherTwoRef.Facts) (hGatherOne : Cert.GatherOne.Facts) (hGatherOneIdeal : Cert.GatherOneIdeal.Facts) (hGatherOneRefIdeal : Cert.GatherOneRefIdeal.Facts) (hGatherOneRef : Cert.GatherOneRef.Facts) (hEveryone : Cert.Everyone.Facts) (hEveryoneIdeal : Cert.EveryoneIdeal.Facts) (hEveryoneRefIdeal : Cert.EveryoneRefIdeal.Facts) (hEveryoneRef : Cert.EveryoneRef.Facts) (hAdamW : Cert.AdamW.Facts) (hAdamWIdeal : Cert.AdamWIdeal.Facts) (hAdamWRefIdeal : Cert.AdamWRefIdeal.Facts) (hAdamWIn : Cert.AdamWIn.Facts) (hAdamWInIdeal : Cert.AdamWInIdeal.Facts) (hAdamWInRefIdeal : Cert.AdamWInRefIdeal.Facts) (hAdamWSquare : Cert.AdamWSquare.Facts) (hAdamWSquareIdeal : Cert.AdamWSquareIdeal.Facts) (hAdamWSquareRefIdeal : Cert.AdamWSquareRefIdeal.Facts) (hAdamWHalf : Cert.AdamWHalf.Facts) (hAdamWHalfIdeal : Cert.AdamWHalfIdeal.Facts) (hAdamWHalfRefIdeal : Cert.AdamWHalfRefIdeal.Facts) (hAdamWSmall : Cert.AdamWSmall.Facts) (hAdamWSmallIdeal : Cert.AdamWSmallIdeal.Facts) (hAdamWSmallRefIdeal : Cert.AdamWSmallRefIdeal.Facts) (hLoss : Cert.Loss.Facts) (hLossIdeal : Cert.LossIdeal.Facts) (hLossRefIdeal : Cert.LossRefIdeal.Facts) (hFfnDx : Cert.FfnDx.Facts) (hFfnDxIdeal : Cert.FfnDxIdeal.Facts) (hFfnDxRefIdeal : Cert.FfnDxRefIdeal.Facts) (hNorm : Cert.Norm.Facts) (hNormIdeal : Cert.NormIdeal.Facts) (hNormRefIdeal : Cert.NormRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hFfnDwUp : Cert.FfnDwUp.Facts) (hFfnDwUpIdeal : Cert.FfnDwUpIdeal.Facts) (hFfnDwUpRefIdeal : Cert.FfnDwUpRefIdeal.Facts) (hFfnDwDown : Cert.FfnDwDown.Facts) (hFfnDwDownIdeal : Cert.FfnDwDownIdeal.Facts) (hFfnDwDownRefIdeal : Cert.FfnDwDownRefIdeal.Facts) (hFfnAct : Cert.FfnAct.Facts) (hFfnActIdeal : Cert.FfnActIdeal.Facts) (hFfnActRefIdeal : Cert.FfnActRefIdeal.Facts) (hSumFfn : Cert.SumFfn.Facts) (hSumFfnIdeal : Cert.SumFfnIdeal.Facts) (hSumFfnRefIdeal : Cert.SumFfnRefIdeal.Facts),
    quiescent_Scatter (hScatter := hScatter)
    ∧ quiescent_ScatterIdeal (hScatterIdeal := hScatterIdeal)
    ∧ quiescent_ScatterRefIdeal (hScatterRefIdeal := hScatterRefIdeal)
    ∧ quiescent_ScatterRef (hScatterRef := hScatterRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Sibling (hSibling := hSibling)
    ∧ quiescent_SiblingIdeal (hSiblingIdeal := hSiblingIdeal)
    ∧ quiescent_SiblingRefIdeal (hSiblingRefIdeal := hSiblingRefIdeal)
    ∧ quiescent_SiblingRef (hSiblingRef := hSiblingRef)
    ∧ quiescent_ScatterMix (hScatterMix := hScatterMix)
    ∧ quiescent_ScatterMixIdeal (hScatterMixIdeal := hScatterMixIdeal)
    ∧ quiescent_ScatterMixRefIdeal (hScatterMixRefIdeal := hScatterMixRefIdeal)
    ∧ quiescent_ScatterMixRef (hScatterMixRef := hScatterMixRef)
    ∧ quiescent_SiblingMix (hSiblingMix := hSiblingMix)
    ∧ quiescent_SiblingMixIdeal (hSiblingMixIdeal := hSiblingMixIdeal)
    ∧ quiescent_SiblingMixRefIdeal (hSiblingMixRefIdeal := hSiblingMixRefIdeal)
    ∧ quiescent_SiblingMixRef (hSiblingMixRef := hSiblingMixRef)
    ∧ quiescent_GatherMix (hGatherMix := hGatherMix)
    ∧ quiescent_GatherMixIdeal (hGatherMixIdeal := hGatherMixIdeal)
    ∧ quiescent_GatherMixRefIdeal (hGatherMixRefIdeal := hGatherMixRefIdeal)
    ∧ quiescent_GatherMixRef (hGatherMixRef := hGatherMixRef)
    ∧ quiescent_GatherTwo (hGatherTwo := hGatherTwo)
    ∧ quiescent_GatherTwoIdeal (hGatherTwoIdeal := hGatherTwoIdeal)
    ∧ quiescent_GatherTwoRefIdeal (hGatherTwoRefIdeal := hGatherTwoRefIdeal)
    ∧ quiescent_GatherTwoRef (hGatherTwoRef := hGatherTwoRef)
    ∧ quiescent_GatherOne (hGatherOne := hGatherOne)
    ∧ quiescent_GatherOneIdeal (hGatherOneIdeal := hGatherOneIdeal)
    ∧ quiescent_GatherOneRefIdeal (hGatherOneRefIdeal := hGatherOneRefIdeal)
    ∧ quiescent_GatherOneRef (hGatherOneRef := hGatherOneRef)
    ∧ quiescent_Everyone (hEveryone := hEveryone)
    ∧ quiescent_EveryoneIdeal (hEveryoneIdeal := hEveryoneIdeal)
    ∧ quiescent_EveryoneRefIdeal (hEveryoneRefIdeal := hEveryoneRefIdeal)
    ∧ quiescent_EveryoneRef (hEveryoneRef := hEveryoneRef)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWSquare (hAdamWSquare := hAdamWSquare)
    ∧ quiescent_AdamWSquareIdeal (hAdamWSquareIdeal := hAdamWSquareIdeal)
    ∧ quiescent_AdamWSquareRefIdeal (hAdamWSquareRefIdeal := hAdamWSquareRefIdeal)
    ∧ quiescent_AdamWHalf (hAdamWHalf := hAdamWHalf)
    ∧ quiescent_AdamWHalfIdeal (hAdamWHalfIdeal := hAdamWHalfIdeal)
    ∧ quiescent_AdamWHalfRefIdeal (hAdamWHalfRefIdeal := hAdamWHalfRefIdeal)
    ∧ quiescent_AdamWSmall (hAdamWSmall := hAdamWSmall)
    ∧ quiescent_AdamWSmallIdeal (hAdamWSmallIdeal := hAdamWSmallIdeal)
    ∧ quiescent_AdamWSmallRefIdeal (hAdamWSmallRefIdeal := hAdamWSmallRefIdeal)
    ∧ quiescent_Loss (hLoss := hLoss)
    ∧ quiescent_LossIdeal (hLossIdeal := hLossIdeal)
    ∧ quiescent_LossRefIdeal (hLossRefIdeal := hLossRefIdeal)
    ∧ quiescent_FfnDx (hFfnDx := hFfnDx)
    ∧ quiescent_FfnDxIdeal (hFfnDxIdeal := hFfnDxIdeal)
    ∧ quiescent_FfnDxRefIdeal (hFfnDxRefIdeal := hFfnDxRefIdeal)
    ∧ quiescent_Norm (hNorm := hNorm)
    ∧ quiescent_NormIdeal (hNormIdeal := hNormIdeal)
    ∧ quiescent_NormRefIdeal (hNormRefIdeal := hNormRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDwUp (hFfnDwUp := hFfnDwUp)
    ∧ quiescent_FfnDwUpIdeal (hFfnDwUpIdeal := hFfnDwUpIdeal)
    ∧ quiescent_FfnDwUpRefIdeal (hFfnDwUpRefIdeal := hFfnDwUpRefIdeal)
    ∧ quiescent_FfnDwDown (hFfnDwDown := hFfnDwDown)
    ∧ quiescent_FfnDwDownIdeal (hFfnDwDownIdeal := hFfnDwDownIdeal)
    ∧ quiescent_FfnDwDownRefIdeal (hFfnDwDownRefIdeal := hFfnDwDownRefIdeal)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_SumFfn (hSumFfn := hSumFfn)
    ∧ quiescent_SumFfnIdeal (hSumFfnIdeal := hSumFfnIdeal)
    ∧ quiescent_SumFfnRefIdeal (hSumFfnRefIdeal := hSumFfnRefIdeal)
    ∧ preserves_Scatter_ScatterIdeal
    ∧ algebraic_ScatterIdeal_ScatterRefIdeal (hScatterIdeal := hScatterIdeal) (hScatterRefIdeal := hScatterRefIdeal)
    ∧ bitexact_Scatter_ScatterRef (hScatter := hScatter) (hScatterRef := hScatterRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Sibling_SiblingIdeal
    ∧ algebraic_SiblingIdeal_SiblingRefIdeal (hSiblingIdeal := hSiblingIdeal) (hSiblingRefIdeal := hSiblingRefIdeal)
    ∧ bitexact_Sibling_SiblingRef (hSibling := hSibling) (hSiblingRef := hSiblingRef)
    ∧ preserves_ScatterMix_ScatterMixIdeal
    ∧ algebraic_ScatterMixIdeal_ScatterMixRefIdeal (hScatterMixIdeal := hScatterMixIdeal) (hScatterMixRefIdeal := hScatterMixRefIdeal)
    ∧ bitexact_ScatterMix_ScatterMixRef (hScatterMix := hScatterMix) (hScatterMixRef := hScatterMixRef)
    ∧ preserves_SiblingMix_SiblingMixIdeal
    ∧ algebraic_SiblingMixIdeal_SiblingMixRefIdeal (hSiblingMixIdeal := hSiblingMixIdeal) (hSiblingMixRefIdeal := hSiblingMixRefIdeal)
    ∧ bitexact_SiblingMix_SiblingMixRef (hSiblingMix := hSiblingMix) (hSiblingMixRef := hSiblingMixRef)
    ∧ preserves_GatherMix_GatherMixIdeal
    ∧ algebraic_GatherMixIdeal_GatherMixRefIdeal (hGatherMixIdeal := hGatherMixIdeal) (hGatherMixRefIdeal := hGatherMixRefIdeal)
    ∧ bitexact_GatherMix_GatherMixRef (hGatherMix := hGatherMix) (hGatherMixRef := hGatherMixRef)
    ∧ preserves_GatherTwo_GatherTwoIdeal
    ∧ algebraic_GatherTwoIdeal_GatherTwoRefIdeal (hGatherTwoIdeal := hGatherTwoIdeal) (hGatherTwoRefIdeal := hGatherTwoRefIdeal)
    ∧ bitexact_GatherTwo_GatherTwoRef (hGatherTwo := hGatherTwo) (hGatherTwoRef := hGatherTwoRef)
    ∧ preserves_GatherOne_GatherOneIdeal
    ∧ algebraic_GatherOneIdeal_GatherOneRefIdeal (hGatherOneIdeal := hGatherOneIdeal) (hGatherOneRefIdeal := hGatherOneRefIdeal)
    ∧ bitexact_GatherOne_GatherOneRef (hGatherOne := hGatherOne) (hGatherOneRef := hGatherOneRef)
    ∧ preserves_Everyone_EveryoneIdeal
    ∧ algebraic_EveryoneIdeal_EveryoneRefIdeal (hEveryoneIdeal := hEveryoneIdeal) (hEveryoneRefIdeal := hEveryoneRefIdeal)
    ∧ bitexact_Everyone_EveryoneRef (hEveryone := hEveryone) (hEveryoneRef := hEveryoneRef)
    ∧ preserves_AdamW_AdamWIdeal
    ∧ algebraic_AdamWIdeal_AdamWRefIdeal (hAdamWIdeal := hAdamWIdeal) (hAdamWRefIdeal := hAdamWRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamWSquare_AdamWSquareIdeal
    ∧ algebraic_AdamWSquareIdeal_AdamWSquareRefIdeal (hAdamWSquareIdeal := hAdamWSquareIdeal) (hAdamWSquareRefIdeal := hAdamWSquareRefIdeal)
    ∧ preserves_AdamWHalf_AdamWHalfIdeal
    ∧ algebraic_AdamWHalfIdeal_AdamWHalfRefIdeal (hAdamWHalfIdeal := hAdamWHalfIdeal) (hAdamWHalfRefIdeal := hAdamWHalfRefIdeal)
    ∧ preserves_AdamWSmall_AdamWSmallIdeal
    ∧ algebraic_AdamWSmallIdeal_AdamWSmallRefIdeal (hAdamWSmallIdeal := hAdamWSmallIdeal) (hAdamWSmallRefIdeal := hAdamWSmallRefIdeal)
    ∧ preserves_Loss_LossIdeal
    ∧ algebraic_LossIdeal_LossRefIdeal (hLossIdeal := hLossIdeal) (hLossRefIdeal := hLossRefIdeal)
    ∧ preserves_FfnDx_FfnDxIdeal
    ∧ algebraic_FfnDxIdeal_FfnDxRefIdeal (hFfnDxIdeal := hFfnDxIdeal) (hFfnDxRefIdeal := hFfnDxRefIdeal)
    ∧ preserves_Norm_NormIdeal
    ∧ algebraic_NormIdeal_NormRefIdeal (hNormIdeal := hNormIdeal) (hNormRefIdeal := hNormRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDwUp_FfnDwUpIdeal
    ∧ algebraic_FfnDwUpIdeal_FfnDwUpRefIdeal (hFfnDwUpIdeal := hFfnDwUpIdeal) (hFfnDwUpRefIdeal := hFfnDwUpRefIdeal)
    ∧ preserves_FfnDwDown_FfnDwDownIdeal
    ∧ algebraic_FfnDwDownIdeal_FfnDwDownRefIdeal (hFfnDwDownIdeal := hFfnDwDownIdeal) (hFfnDwDownRefIdeal := hFfnDwDownRefIdeal)
    ∧ preserves_FfnAct_FfnActIdeal
    ∧ algebraic_FfnActIdeal_FfnActRefIdeal (hFfnActIdeal := hFfnActIdeal) (hFfnActRefIdeal := hFfnActRefIdeal)
    ∧ preserves_SumFfn_SumFfnIdeal
    ∧ algebraic_SumFfnIdeal_SumFfnRefIdeal (hSumFfnIdeal := hSumFfnIdeal) (hSumFfnRefIdeal := hSumFfnRefIdeal)
-- ==== Scatter.lean ====
abbrev S4x704x1024 : Shape := ⟨3, ![4, 704, 1024]⟩
abbrev S9 : Shape := ⟨1, ![9]⟩
abbrev S3 : Shape := ⟨1, ![3]⟩
abbrev S8x128 : Shape := ⟨2, ![8, 128]⟩
abbrev S_ : Shape := ⟨0, ![]⟩
abbrev S1 : Shape := ⟨1, ![1]⟩
abbrev S1x704x1024 : Shape := ⟨3, ![1, 704, 1024]⟩
abbrev S704x1024 : Shape := ⟨2, ![704, 1024]⟩

abbrev nBuf : Space → Nat
  | .hbm => 10
  | .vmem => 1
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S4x704x1024, .bf16⟩
  | .hbm, ⟨3, _⟩ => ⟨S4x704x1024, .bf16⟩
  | .hbm, ⟨4, _⟩ => ⟨S4x704x1024, .bf16⟩
  | .hbm, ⟨5, _⟩ => ⟨S4x704x1024, .bf16⟩
  | .hbm, ⟨6, _⟩ => ⟨S4x704x1024, .bf16⟩
  | .hbm, ⟨7, _⟩ => ⟨S4x704x1024, .bf16⟩
  | .hbm, ⟨8, _⟩ => ⟨S4x704x1024, .bf16⟩
  | .hbm, ⟨9, _⟩ => ⟨S8x128, .f32⟩
  | .local _ .vmem, ⟨0, _⟩ => ⟨S8x128, .f32⟩
  | _, _ => ⟨S4x704x1024, .bf16⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_3 : Ref sig .tc := ⟨.hbm, 6, rfl⟩
abbrev main_v4_4 : Ref sig .tc := ⟨.hbm, 7, rfl⟩
abbrev main_v4_5 : Ref sig .tc := ⟨.hbm, 8, rfl⟩
abbrev main_v4_9 : Ref sig .tc := ⟨.hbm, 9, rfl⟩
abbrev cc0_stg0_0 : Ref sig .tc := ⟨.vmem, 0, rfl⟩
abbrev cc0_sem0_0 : DmaSem sig := 21
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_50 : BitVec 32 := 0#32
  let v56 : BitVec 32 := Dev.word d0
  let c4_i32_40 : BitVec 32 := 4#32
  let v57 : BitVec 32 := Scalar.divsi v56 c4_i32_40
  let c2_i32_39 : BitVec 32 := 2#32
  let v58 : BitVec 32 := Scalar.remsi v57 c2_i32_39
  let c1_i32_45 : BitVec 32 := 1#32
  let v66 : BitVec 32 := Scalar.xori v58 c1_i32_45
  let c4_i32_49 : BitVec 32 := 4#32
  let v69 : BitVec 32 := Scalar.muli v66 c4_i32_49
  let v70 : BitVec 32 := Scalar.addi c0_i32_50 v69
  let v59 : BitVec 32 := Dev.word d0
  let c2_i32_42 : BitVec 32 := 2#32
  let v60 : BitVec 32 := Scalar.divsi v59 c2_i32_42
  let c2_i32_41 : BitVec 32 := 2#32
  let v61 : BitVec 32 := Scalar.remsi v60 c2_i32_41
  let c0_i32_46 : BitVec 32 := 0#32
  let v67 : BitVec 32 := Scalar.xori v61 c0_i32_46
  let c2_i32_51 : BitVec 32 := 2#32
  let v71 : BitVec 32 := Scalar.muli v67 c2_i32_51
  let v72 : BitVec 32 := Scalar.addi v70 v71
  let v62 : BitVec 32 := Dev.word d0
  let c1_i32_44 : BitVec 32 := 1#32
  let v63 : BitVec 32 := Scalar.divsi v62 c1_i32_44
  let c2_i32_43 : BitVec 32 := 2#32
  let v64 : BitVec 32 := Scalar.remsi v63 c2_i32_43
  let c0_i32_47 : BitVec 32 := 0#32
  let v68 : BitVec 32 := Scalar.xori v64 c0_i32_47
  let c1_i32_52 : BitVec 32 := 1#32
  let v73 : BitVec 32 := Scalar.muli v68 c1_i32_52
  let v74 : BitVec 32 := Scalar.addi v72 v73
  v74.toNat
def k0_dev2 (d0 : Dev nD) : Nat :=
  let c0_i32_58 : BitVec 32 := 0#32
  let v56 : BitVec 32 := Dev.word d0
  let c4_i32_40 : BitVec 32 := 4#32
  let v57 : BitVec 32 := Scalar.divsi v56 c4_i32_40
  let c2_i32_39 : BitVec 32 := 2#32
  let v58 : BitVec 32 := Scalar.remsi v57 c2_i32_39
  let c0_i32_53 : BitVec 32 := 0#32
  let v75 : BitVec 32 := Scalar.xori v58 c0_i32_53
  let c4_i32_57 : BitVec 32 := 4#32
  let v78 : BitVec 32 := Scalar.muli v75 c4_i32_57
  let v79 : BitVec 32 := Scalar.addi c0_i32_58 v78
  let v59 : BitVec 32 := Dev.word d0
  let c2_i32_42 : BitVec 32 := 2#32
  let v60 : BitVec 32 := Scalar.divsi v59 c2_i32_42
  let c2_i32_41 : BitVec 32 := 2#32
  let v61 : BitVec 32 := Scalar.remsi v60 c2_i32_41
  let c1_i32_54 : BitVec 32 := 1#32
  let v76 : BitVec 32 := Scalar.xori v61 c1_i32_54
  let c2_i32_59 : BitVec 32 := 2#32
  let v80 : BitVec 32 := Scalar.muli v76 c2_i32_59
  let v81 : BitVec 32 := Scalar.addi v79 v80
  let v62 : BitVec 32 := Dev.word d0
  let c1_i32_44 : BitVec 32 := 1#32
  let v63 : BitVec 32 := Scalar.divsi v62 c1_i32_44
  let c2_i32_43 : BitVec 32 := 2#32
  let v64 : BitVec 32 := Scalar.remsi v63 c2_i32_43
  let c0_i32_55 : BitVec 32 := 0#32
  let v77 : BitVec 32 := Scalar.xori v64 c0_i32_55
  let c1_i32_60 : BitVec 32 := 1#32
  let v82 : BitVec 32 := Scalar.muli v77 c1_i32_60
  let v83 : BitVec 32 := Scalar.addi v81 v82
  v83.toNat
def k0_dev3 (d0 : Dev nD) : Nat :=
  let c0_i32_66 : BitVec 32 := 0#32
  let v56 : BitVec 32 := Dev.word d0
  let c4_i32_40 : BitVec 32 := 4#32
  let v57 : BitVec 32 := Scalar.divsi v56 c4_i32_40
  let c2_i32_39 : BitVec 32 := 2#32
  let v58 : BitVec 32 := Scalar.remsi v57 c2_i32_39
  let c1_i32_61 : BitVec 32 := 1#32
  let v84 : BitVec 32 := Scalar.xori v58 c1_i32_61
  let c4_i32_65 : BitVec 32 := 4#32
  let v87 : BitVec 32 := Scalar.muli v84 c4_i32_65
  let v88 : BitVec 32 := Scalar.addi c0_i32_66 v87
  let v59 : BitVec 32 := Dev.word d0
  let c2_i32_42 : BitVec 32 := 2#32
  let v60 : BitVec 32 := Scalar.divsi v59 c2_i32_42
  let c2_i32_41 : BitVec 32 := 2#32
  let v61 : BitVec 32 := Scalar.remsi v60 c2_i32_41
  let c1_i32_62 : BitVec 32 := 1#32
  let v85 : BitVec 32 := Scalar.xori v61 c1_i32_62
  let c2_i32_67 : BitVec 32 := 2#32
  let v89 : BitVec 32 := Scalar.muli v85 c2_i32_67
  let v90 : BitVec 32 := Scalar.addi v88 v89
  let v62 : BitVec 32 := Dev.word d0
  let c1_i32_44 : BitVec 32 := 1#32
  let v63 : BitVec 32 := Scalar.divsi v62 c1_i32_44
  let c2_i32_43 : BitVec 32 := 2#32
  let v64 : BitVec 32 := Scalar.remsi v63 c2_i32_43
  let c0_i32_63 : BitVec 32 := 0#32
  let v86 : BitVec 32 := Scalar.xori v64 c0_i32_63
  let c1_i32_68 : BitVec 32 := 1#32
  let v91 : BitVec 32 := Scalar.muli v86 c1_i32_68
  let v92 : BitVec 32 := Scalar.addi v90 v91
  v92.toNat
def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_75 : BitVec 32 := 0#32
  let c0_i32_76 : BitVec 32 := 0#32
  ![v10.toNat, 0, 0]
def k0_off2 (d0 : Dev nD) (c1_i32_4 : BitVec 32) (c0_i32 : BitVec 32) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.xori v2 c1_i32_4
  let v14 : BitVec 32 := Scalar.muli c2_i32_6 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.xori v5 c0_i32
  let v15 : BitVec 32 := Scalar.addi v14 v12
  let c0_i32_77 : BitVec 32 := 0#32
  let c0_i32_78 : BitVec 32 := 0#32
  ![v15.toNat, 0, 0]
def k0_off2_at (r : Fin 3) : BitVec 32 × BitVec 32 :=
  if r.val < 1 then
    (1#32, 0#32)
  else
    if r.val < 2 then
      (0#32, 1#32)
    else
      (1#32, 1#32)
def k0_dev4 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_4 : BitVec 32 := 1#32
  let v11 : BitVec 32 := Scalar.xori v2 c1_i32_4
  let c4_i32_71 : BitVec 32 := 4#32
  let v93 : BitVec 32 := Scalar.muli v11 c4_i32_71
  let v94 : BitVec 32 := Scalar.addi c0_i32_72 v93
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v12 : BitVec 32 := Scalar.xori v5 c0_i32
  let c2_i32_73 : BitVec 32 := 2#32
  let v95 : BitVec 32 := Scalar.muli v12 c2_i32_73
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_5 : BitVec 32 := 0#32
  let v13 : BitVec 32 := Scalar.xori v8 c0_i32_5
  let c1_i32_74 : BitVec 32 := 1#32
  let v97 : BitVec 32 := Scalar.muli v13 c1_i32_74
  let v98 : BitVec 32 := Scalar.addi v96 v97
  v98.toNat
def k0_dev5 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_81 : BitVec 32 := 4#32
  let v107 : BitVec 32 := Scalar.muli v16 c4_i32_81
  let v108 : BitVec 32 := Scalar.addi c0_i32_82 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_83 : BitVec 32 := 2#32
  let v109 : BitVec 32 := Scalar.muli v17 c2_i32_83
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_84 : BitVec 32 := 1#32
  let v111 : BitVec 32 := Scalar.muli v18 c1_i32_84
  let v112 : BitVec 32 := Scalar.addi v110 v111
  v112.toNat
def k0_dev6 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_11 : BitVec 32 := 1#32
  let v21 : BitVec 32 := Scalar.xori v2 c1_i32_11
  let c4_i32_91 : BitVec 32 := 4#32
  let v121 : BitVec 32 := Scalar.muli v21 c4_i32_91
  let v122 : BitVec 32 := Scalar.addi c0_i32_92 v121
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_12 : BitVec 32 := 1#32
  let v22 : BitVec 32 := Scalar.xori v5 c1_i32_12
  let c2_i32_93 : BitVec 32 := 2#32
  let v123 : BitVec 32 := Scalar.muli v22 c2_i32_93
  let v124 : BitVec 32 := Scalar.addi v122 v123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_13 : BitVec 32 := 0#32
  let v23 : BitVec 32 := Scalar.xori v8 c0_i32_13
  let c1_i32_94 : BitVec 32 := 1#32
  let v125 : BitVec 32 := Scalar.muli v23 c1_i32_94
  let v126 : BitVec 32 := Scalar.addi v124 v125
  v126.toNat
def k0_dev7 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_15 : BitVec 32 := 1#32
  let v26 : BitVec 32 := Scalar.xori v2 c1_i32_15
  let c4_i32_101 : BitVec 32 := 4#32
  let v135 : BitVec 32 := Scalar.muli v26 c4_i32_101
  let v136 : BitVec 32 := Scalar.addi c0_i32_102 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_16 : BitVec 32 := 0#32
  let v27 : BitVec 32 := Scalar.xori v5 c0_i32_16
  let c2_i32_103 : BitVec 32 := 2#32
  let v137 : BitVec 32 := Scalar.muli v27 c2_i32_103
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_17 : BitVec 32 := 0#32
  let v28 : BitVec 32 := Scalar.xori v8 c0_i32_17
  let c1_i32_104 : BitVec 32 := 1#32
  let v139 : BitVec 32 := Scalar.muli v28 c1_i32_104
  let v140 : BitVec 32 := Scalar.addi v138 v139
  v140.toNat
def k0_dev8 (d0 : Dev nD) : Nat :=
  let c0_i32_112 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_19 : BitVec 32 := 0#32
  let v31 : BitVec 32 := Scalar.xori v2 c0_i32_19
  let c4_i32_111 : BitVec 32 := 4#32
  let v149 : BitVec 32 := Scalar.muli v31 c4_i32_111
  let v150 : BitVec 32 := Scalar.addi c0_i32_112 v149
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v32 : BitVec 32 := Scalar.xori v5 c1_i32_20
  let c2_i32_113 : BitVec 32 := 2#32
  let v151 : BitVec 32 := Scalar.muli v32 c2_i32_113
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v33 : BitVec 32 := Scalar.xori v8 c0_i32_21
  let c1_i32_114 : BitVec 32 := 1#32
  let v153 : BitVec 32 := Scalar.muli v33 c1_i32_114
  let v154 : BitVec 32 := Scalar.addi v152 v153
  v154.toNat
def k0_dev9 (d0 : Dev nD) : Nat :=
  let c0_i32_121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_23 : BitVec 32 := 1#32
  let v36 : BitVec 32 := Scalar.xori v2 c1_i32_23
  let c4_i32_120 : BitVec 32 := 4#32
  let v163 : BitVec 32 := Scalar.muli v36 c4_i32_120
  let v164 : BitVec 32 := Scalar.addi c0_i32_121 v163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_24 : BitVec 32 := 1#32
  let v37 : BitVec 32 := Scalar.xori v5 c1_i32_24
  let c2_i32_122 : BitVec 32 := 2#32
  let v165 : BitVec 32 := Scalar.muli v37 c2_i32_122
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_25 : BitVec 32 := 0#32
  let v38 : BitVec 32 := Scalar.xori v8 c0_i32_25
  let c1_i32_123 : BitVec 32 := 1#32
  let v167 : BitVec 32 := Scalar.muli v38 c1_i32_123
  let v168 : BitVec 32 := Scalar.addi v166 v167
  v168.toNat
def k0_dev10 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_27 : BitVec 32 := 1#32
  let v41 : BitVec 32 := Scalar.xori v2 c1_i32_27
  let c4_i32_129 : BitVec 32 := 4#32
  let v177 : BitVec 32 := Scalar.muli v41 c4_i32_129
  let v178 : BitVec 32 := Scalar.addi c0_i32_130 v177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_28 : BitVec 32 := 0#32
  let v42 : BitVec 32 := Scalar.xori v5 c0_i32_28
  let c2_i32_131 : BitVec 32 := 2#32
  let v179 : BitVec 32 := Scalar.muli v42 c2_i32_131
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let v43 : BitVec 32 := Scalar.xori v8 c0_i32_29
  let c1_i32_132 : BitVec 32 := 1#32
  let v181 : BitVec 32 := Scalar.muli v43 c1_i32_132
  let v182 : BitVec 32 := Scalar.addi v180 v181
  v182.toNat
def k0_dev11 (d0 : Dev nD) : Nat :=
  let c0_i32_139 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_31 : BitVec 32 := 0#32
  let v46 : BitVec 32 := Scalar.xori v2 c0_i32_31
  let c4_i32_138 : BitVec 32 := 4#32
  let v191 : BitVec 32 := Scalar.muli v46 c4_i32_138
  let v192 : BitVec 32 := Scalar.addi c0_i32_139 v191
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_32 : BitVec 32 := 1#32
  let v47 : BitVec 32 := Scalar.xori v5 c1_i32_32
  let c2_i32_140 : BitVec 32 := 2#32
  let v193 : BitVec 32 := Scalar.muli v47 c2_i32_140
  let v194 : BitVec 32 := Scalar.addi v192 v193
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_33 : BitVec 32 := 0#32
  let v48 : BitVec 32 := Scalar.xori v8 c0_i32_33
  let c1_i32_141 : BitVec 32 := 1#32
  let v195 : BitVec 32 := Scalar.muli v48 c1_i32_141
  let v196 : BitVec 32 := Scalar.addi v194 v195
  v196.toNat
def k0_dev12 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_35 : BitVec 32 := 1#32
  let v51 : BitVec 32 := Scalar.xori v2 c1_i32_35
  let c4_i32_147 : BitVec 32 := 4#32
  let v205 : BitVec 32 := Scalar.muli v51 c4_i32_147
  let v206 : BitVec 32 := Scalar.addi c0_i32_148 v205
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_36 : BitVec 32 := 1#32
  let v52 : BitVec 32 := Scalar.xori v5 c1_i32_36
  let c2_i32_149 : BitVec 32 := 2#32
  let v207 : BitVec 32 := Scalar.muli v52 c2_i32_149
  let v208 : BitVec 32 := Scalar.addi v206 v207
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_37 : BitVec 32 := 0#32
  let v53 : BitVec 32 := Scalar.xori v8 c0_i32_37
  let c1_i32_150 : BitVec 32 := 1#32
  let v209 : BitVec 32 := Scalar.muli v53 c1_i32_150
  let v210 : BitVec 32 := Scalar.addi v208 v209
  v210.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) (c1_i32_4 : BitVec 32) (c0_i32 : BitVec 32) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.xori v2 c1_i32_4
  let v14 : BitVec 32 := Scalar.muli c2_i32_6 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.xori v5 c0_i32
  let v15 : BitVec 32 := Scalar.addi v14 v12
  let c0_i32_51 : BitVec 32 := 0#32
  let c0_i32_52 : BitVec 32 := 0#32
  ![v15.toNat, 0, 0]
def k1_off1_at (r : Fin 3) : BitVec 32 × BitVec 32 :=
  if r.val < 1 then
    (1#32, 0#32)
  else
    if r.val < 2 then
      (0#32, 1#32)
    else
      (1#32, 1#32)
def k1_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_53 : BitVec 32 := 0#32
  let c0_i32_54 : BitVec 32 := 0#32
  ![v10.toNat, 0, 0]
-- ==== ScatterRef.lean ====
abbrev S32x704x1024 : Shape := ⟨3, ![32, 704, 1024]⟩
abbrev S4x2x4x704x1024 : Shape := ⟨5, ![4, 2, 4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S32x704x1024, .bf16⟩
  | .hbm, ⟨1, _⟩ => ⟨S32x704x1024, .bf16⟩
  | .hbm, ⟨2, _⟩ => ⟨S32x704x1024, .bf16⟩
  | .hbm, ⟨3, _⟩ => ⟨S4x2x4x704x1024, .bf16⟩
  | .hbm, ⟨4, _⟩ => ⟨S4x2x4x704x1024, .bf16⟩
  | .hbm, ⟨5, _⟩ => ⟨S32x704x1024, .bf16⟩
  | .hbm, ⟨6, _⟩ => ⟨S4x2x4x704x1024, .bf16⟩
  | .hbm, ⟨7, _⟩ => ⟨S4x2x4x704x1024, .bf16⟩
  | .hbm, ⟨8, _⟩ => ⟨S32x704x1024, .bf16⟩
  | .hbm, ⟨9, _⟩ => ⟨S4x2x4x704x1024, .bf16⟩
  | .hbm, ⟨10, _⟩ => ⟨S4x2x4x704x1024, .bf16⟩
  | .hbm, ⟨11, _⟩ => ⟨S32x704x1024, .bf16⟩
  | _, _ => ⟨S32x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Gather.lean ====
abbrev S704x1024 : Shape := ⟨2, ![704, 1024]⟩
abbrev S4x704x1024 : Shape := ⟨3, ![4, 704, 1024]⟩
abbrev S9 : Shape := ⟨1, ![9]⟩
abbrev S3 : Shape := ⟨1, ![3]⟩
abbrev S8x128 : Shape := ⟨2, ![8, 128]⟩
abbrev S_ : Shape := ⟨0, ![]⟩
abbrev S1 : Shape := ⟨1, ![1]⟩
abbrev S1x704x1024 : Shape := ⟨3, ![1, 704, 1024]⟩

abbrev nBuf : Space → Nat
  | .hbm => 10
  | .vmem => 1
  | .smem => 0
  | _ => 0

abbrev bufTy : (tb : Table) → Fin (tcTables nBuf tb) → BufTy
  | .hbm, ⟨0, _⟩ => ⟨S704x1024, .bf16⟩
  | .hbm, ⟨1, _⟩ => ⟨S704x1024, .bf16⟩
  | .hbm, ⟨2, _⟩ => ⟨S704x1024, .bf16⟩
  | .hbm, ⟨3, _⟩ => ⟨S4x704x1024, .bf16⟩
  | .hbm, ⟨4, _⟩ => ⟨S4x704x1024, .bf16⟩
  | .hbm, ⟨5, _⟩ => ⟨S4x704x1024, .bf16⟩
  | .hbm, ⟨6, _⟩ => ⟨S704x1024, .bf16⟩
  | .hbm, ⟨7, _⟩ => ⟨S704x1024, .bf16⟩
  | .hbm, ⟨8, _⟩ => ⟨S704x1024, .bf16⟩
  | .hbm, ⟨9, _⟩ => ⟨S8x128, .f32⟩
  | .local _ .vmem, ⟨0, _⟩ => ⟨S8x128, .f32⟩
  | _, _ => ⟨S704x1024, .bf16⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_3 : Ref sig .tc := ⟨.hbm, 6, rfl⟩
abbrev main_v4_4 : Ref sig .tc := ⟨.hbm, 7, rfl⟩
abbrev main_v4_5 : Ref sig .tc := ⟨.hbm, 8, rfl⟩
abbrev main_v4_9 : Ref sig .tc := ⟨.hbm, 9, rfl⟩
abbrev cc0_stg0_0 : Ref sig .tc := ⟨.vmem, 0, rfl⟩
abbrev cc0_sem0_0 : DmaSem sig := 21
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_41 : BitVec 32 := 0#32
  let v38 : BitVec 32 := Dev.word d0
  let c4_i32_31 : BitVec 32 := 4#32
  let v39 : BitVec 32 := Scalar.divsi v38 c4_i32_31
  let c2_i32_30 : BitVec 32 := 2#32
  let v40 : BitVec 32 := Scalar.remsi v39 c2_i32_30
  let c1_i32_36 : BitVec 32 := 1#32
  let v48 : BitVec 32 := Scalar.xori v40 c1_i32_36
  let c4_i32_40 : BitVec 32 := 4#32
  let v51 : BitVec 32 := Scalar.muli v48 c4_i32_40
  let v52 : BitVec 32 := Scalar.addi c0_i32_41 v51
  let v41 : BitVec 32 := Dev.word d0
  let c2_i32_33 : BitVec 32 := 2#32
  let v42 : BitVec 32 := Scalar.divsi v41 c2_i32_33
  let c2_i32_32 : BitVec 32 := 2#32
  let v43 : BitVec 32 := Scalar.remsi v42 c2_i32_32
  let c0_i32_37 : BitVec 32 := 0#32
  let v49 : BitVec 32 := Scalar.xori v43 c0_i32_37
  let c2_i32_42 : BitVec 32 := 2#32
  let v53 : BitVec 32 := Scalar.muli v49 c2_i32_42
  let v54 : BitVec 32 := Scalar.addi v52 v53
  let v44 : BitVec 32 := Dev.word d0
  let c1_i32_35 : BitVec 32 := 1#32
  let v45 : BitVec 32 := Scalar.divsi v44 c1_i32_35
  let c2_i32_34 : BitVec 32 := 2#32
  let v46 : BitVec 32 := Scalar.remsi v45 c2_i32_34
  let c0_i32_38 : BitVec 32 := 0#32
  let v50 : BitVec 32 := Scalar.xori v46 c0_i32_38
  let c1_i32_43 : BitVec 32 := 1#32
  let v55 : BitVec 32 := Scalar.muli v50 c1_i32_43
  let v56 : BitVec 32 := Scalar.addi v54 v55
  v56.toNat
def k0_dev2 (d0 : Dev nD) : Nat :=
  let c0_i32_49 : BitVec 32 := 0#32
  let v38 : BitVec 32 := Dev.word d0
  let c4_i32_31 : BitVec 32 := 4#32
  let v39 : BitVec 32 := Scalar.divsi v38 c4_i32_31
  let c2_i32_30 : BitVec 32 := 2#32
  let v40 : BitVec 32 := Scalar.remsi v39 c2_i32_30
  let c0_i32_44 : BitVec 32 := 0#32
  let v57 : BitVec 32 := Scalar.xori v40 c0_i32_44
  let c4_i32_48 : BitVec 32 := 4#32
  let v60 : BitVec 32 := Scalar.muli v57 c4_i32_48
  let v61 : BitVec 32 := Scalar.addi c0_i32_49 v60
  let v41 : BitVec 32 := Dev.word d0
  let c2_i32_33 : BitVec 32 := 2#32
  let v42 : BitVec 32 := Scalar.divsi v41 c2_i32_33
  let c2_i32_32 : BitVec 32 := 2#32
  let v43 : BitVec 32 := Scalar.remsi v42 c2_i32_32
  let c1_i32_45 : BitVec 32 := 1#32
  let v58 : BitVec 32 := Scalar.xori v43 c1_i32_45
  let c2_i32_50 : BitVec 32 := 2#32
  let v62 : BitVec 32 := Scalar.muli v58 c2_i32_50
  let v63 : BitVec 32 := Scalar.addi v61 v62
  let v44 : BitVec 32 := Dev.word d0
  let c1_i32_35 : BitVec 32 := 1#32
  let v45 : BitVec 32 := Scalar.divsi v44 c1_i32_35
  let c2_i32_34 : BitVec 32 := 2#32
  let v46 : BitVec 32 := Scalar.remsi v45 c2_i32_34
  let c0_i32_46 : BitVec 32 := 0#32
  let v59 : BitVec 32 := Scalar.xori v46 c0_i32_46
  let c1_i32_51 : BitVec 32 := 1#32
  let v64 : BitVec 32 := Scalar.muli v59 c1_i32_51
  let v65 : BitVec 32 := Scalar.addi v63 v64
  v65.toNat
def k0_dev3 (d0 : Dev nD) : Nat :=
  let c0_i32_57 : BitVec 32 := 0#32
  let v38 : BitVec 32 := Dev.word d0
  let c4_i32_31 : BitVec 32 := 4#32
  let v39 : BitVec 32 := Scalar.divsi v38 c4_i32_31
  let c2_i32_30 : BitVec 32 := 2#32
  let v40 : BitVec 32 := Scalar.remsi v39 c2_i32_30
  let c1_i32_52 : BitVec 32 := 1#32
  let v66 : BitVec 32 := Scalar.xori v40 c1_i32_52
  let c4_i32_56 : BitVec 32 := 4#32
  let v69 : BitVec 32 := Scalar.muli v66 c4_i32_56
  let v70 : BitVec 32 := Scalar.addi c0_i32_57 v69
  let v41 : BitVec 32 := Dev.word d0
  let c2_i32_33 : BitVec 32 := 2#32
  let v42 : BitVec 32 := Scalar.divsi v41 c2_i32_33
  let c2_i32_32 : BitVec 32 := 2#32
  let v43 : BitVec 32 := Scalar.remsi v42 c2_i32_32
  let c1_i32_53 : BitVec 32 := 1#32
  let v67 : BitVec 32 := Scalar.xori v43 c1_i32_53
  let c2_i32_58 : BitVec 32 := 2#32
  let v71 : BitVec 32 := Scalar.muli v67 c2_i32_58
  let v72 : BitVec 32 := Scalar.addi v70 v71
  let v44 : BitVec 32 := Dev.word d0
  let c1_i32_35 : BitVec 32 := 1#32
  let v45 : BitVec 32 := Scalar.divsi v44 c1_i32_35
  let c2_i32_34 : BitVec 32 := 2#32
  let v46 : BitVec 32 := Scalar.remsi v45 c2_i32_34
  let c0_i32_54 : BitVec 32 := 0#32
  let v68 : BitVec 32 := Scalar.xori v46 c0_i32_54
  let c1_i32_59 : BitVec 32 := 1#32
  let v73 : BitVec 32 := Scalar.muli v68 c1_i32_59
  let v74 : BitVec 32 := Scalar.addi v72 v73
  v74.toNat
def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_66 : BitVec 32 := 0#32
  let c0_i32_67 : BitVec 32 := 0#32
  ![v10.toNat, 0, 0]
def k0_dev4 (d0 : Dev nD) : Nat :=
  let c0_i32_63 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_4 : BitVec 32 := 1#32
  let v11 : BitVec 32 := Scalar.xori v2 c1_i32_4
  let c4_i32_62 : BitVec 32 := 4#32
  let v75 : BitVec 32 := Scalar.muli v11 c4_i32_62
  let v76 : BitVec 32 := Scalar.addi c0_i32_63 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v12 : BitVec 32 := Scalar.xori v5 c0_i32
  let c2_i32_64 : BitVec 32 := 2#32
  let v77 : BitVec 32 := Scalar.muli v12 c2_i32_64
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_5 : BitVec 32 := 0#32
  let v13 : BitVec 32 := Scalar.xori v8 c0_i32_5
  let c1_i32_65 : BitVec 32 := 1#32
  let v79 : BitVec 32 := Scalar.muli v13 c1_i32_65
  let v80 : BitVec 32 := Scalar.addi v78 v79
  v80.toNat
def k0_dev5 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_6 : BitVec 32 := 0#32
  let v14 : BitVec 32 := Scalar.xori v2 c0_i32_6
  let c4_i32_70 : BitVec 32 := 4#32
  let v87 : BitVec 32 := Scalar.muli v14 c4_i32_70
  let v88 : BitVec 32 := Scalar.addi c0_i32_71 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_7 : BitVec 32 := 1#32
  let v15 : BitVec 32 := Scalar.xori v5 c1_i32_7
  let c2_i32_72 : BitVec 32 := 2#32
  let v89 : BitVec 32 := Scalar.muli v15 c2_i32_72
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_8 : BitVec 32 := 0#32
  let v16 : BitVec 32 := Scalar.xori v8 c0_i32_8
  let c1_i32_73 : BitVec 32 := 1#32
  let v91 : BitVec 32 := Scalar.muli v16 c1_i32_73
  let v92 : BitVec 32 := Scalar.addi v90 v91
  v92.toNat
def k0_dev6 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_9 : BitVec 32 := 1#32
  let v17 : BitVec 32 := Scalar.xori v2 c1_i32_9
  let c4_i32_78 : BitVec 32 := 4#32
  let v99 : BitVec 32 := Scalar.muli v17 c4_i32_78
  let v100 : BitVec 32 := Scalar.addi c0_i32_79 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v18 : BitVec 32 := Scalar.xori v5 c1_i32_10
  let c2_i32_80 : BitVec 32 := 2#32
  let v101 : BitVec 32 := Scalar.muli v18 c2_i32_80
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v19 : BitVec 32 := Scalar.xori v8 c0_i32_11
  let c1_i32_81 : BitVec 32 := 1#32
  let v103 : BitVec 32 := Scalar.muli v19 c1_i32_81
  let v104 : BitVec 32 := Scalar.addi v102 v103
  v104.toNat
def k0_dev7 (d0 : Dev nD) : Nat :=
  let c0_i32_87 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_12 : BitVec 32 := 1#32
  let v20 : BitVec 32 := Scalar.xori v2 c1_i32_12
  let c4_i32_86 : BitVec 32 := 4#32
  let v111 : BitVec 32 := Scalar.muli v20 c4_i32_86
  let v112 : BitVec 32 := Scalar.addi c0_i32_87 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_13 : BitVec 32 := 0#32
  let v21 : BitVec 32 := Scalar.xori v5 c0_i32_13
  let c2_i32_88 : BitVec 32 := 2#32
  let v113 : BitVec 32 := Scalar.muli v21 c2_i32_88
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_14 : BitVec 32 := 0#32
  let v22 : BitVec 32 := Scalar.xori v8 c0_i32_14
  let c1_i32_89 : BitVec 32 := 1#32
  let v115 : BitVec 32 := Scalar.muli v22 c1_i32_89
  let v116 : BitVec 32 := Scalar.addi v114 v115
  v116.toNat
def k0_dev8 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_15 : BitVec 32 := 0#32
  let v23 : BitVec 32 := Scalar.xori v2 c0_i32_15
  let c4_i32_94 : BitVec 32 := 4#32
  let v123 : BitVec 32 := Scalar.muli v23 c4_i32_94
  let v124 : BitVec 32 := Scalar.addi c0_i32_95 v123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_16 : BitVec 32 := 1#32
  let v24 : BitVec 32 := Scalar.xori v5 c1_i32_16
  let c2_i32_96 : BitVec 32 := 2#32
  let v125 : BitVec 32 := Scalar.muli v24 c2_i32_96
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_17 : BitVec 32 := 0#32
  let v25 : BitVec 32 := Scalar.xori v8 c0_i32_17
  let c1_i32_97 : BitVec 32 := 1#32
  let v127 : BitVec 32 := Scalar.muli v25 c1_i32_97
  let v128 : BitVec 32 := Scalar.addi v126 v127
  v128.toNat
def k0_dev9 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_18 : BitVec 32 := 1#32
  let v26 : BitVec 32 := Scalar.xori v2 c1_i32_18
  let c4_i32_101 : BitVec 32 := 4#32
  let v135 : BitVec 32 := Scalar.muli v26 c4_i32_101
  let v136 : BitVec 32 := Scalar.addi c0_i32_102 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_19 : BitVec 32 := 1#32
  let v27 : BitVec 32 := Scalar.xori v5 c1_i32_19
  let c2_i32_103 : BitVec 32 := 2#32
  let v137 : BitVec 32 := Scalar.muli v27 c2_i32_103
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_20 : BitVec 32 := 0#32
  let v28 : BitVec 32 := Scalar.xori v8 c0_i32_20
  let c1_i32_104 : BitVec 32 := 1#32
  let v139 : BitVec 32 := Scalar.muli v28 c1_i32_104
  let v140 : BitVec 32 := Scalar.addi v138 v139
  v140.toNat
def k0_dev10 (d0 : Dev nD) : Nat :=
  let c0_i32_109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_21 : BitVec 32 := 1#32
  let v29 : BitVec 32 := Scalar.xori v2 c1_i32_21
  let c4_i32_108 : BitVec 32 := 4#32
  let v147 : BitVec 32 := Scalar.muli v29 c4_i32_108
  let v148 : BitVec 32 := Scalar.addi c0_i32_109 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_22 : BitVec 32 := 0#32
  let v30 : BitVec 32 := Scalar.xori v5 c0_i32_22
  let c2_i32_110 : BitVec 32 := 2#32
  let v149 : BitVec 32 := Scalar.muli v30 c2_i32_110
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_23 : BitVec 32 := 0#32
  let v31 : BitVec 32 := Scalar.xori v8 c0_i32_23
  let c1_i32_111 : BitVec 32 := 1#32
  let v151 : BitVec 32 := Scalar.muli v31 c1_i32_111
  let v152 : BitVec 32 := Scalar.addi v150 v151
  v152.toNat
def k0_dev11 (d0 : Dev nD) : Nat :=
  let c0_i32_116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_24 : BitVec 32 := 0#32
  let v32 : BitVec 32 := Scalar.xori v2 c0_i32_24
  let c4_i32_115 : BitVec 32 := 4#32
  let v159 : BitVec 32 := Scalar.muli v32 c4_i32_115
  let v160 : BitVec 32 := Scalar.addi c0_i32_116 v159
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_25 : BitVec 32 := 1#32
  let v33 : BitVec 32 := Scalar.xori v5 c1_i32_25
  let c2_i32_117 : BitVec 32 := 2#32
  let v161 : BitVec 32 := Scalar.muli v33 c2_i32_117
  let v162 : BitVec 32 := Scalar.addi v160 v161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_26 : BitVec 32 := 0#32
  let v34 : BitVec 32 := Scalar.xori v8 c0_i32_26
  let c1_i32_118 : BitVec 32 := 1#32
  let v163 : BitVec 32 := Scalar.muli v34 c1_i32_118
  let v164 : BitVec 32 := Scalar.addi v162 v163
  v164.toNat
def k0_dev12 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_27 : BitVec 32 := 1#32
  let v35 : BitVec 32 := Scalar.xori v2 c1_i32_27
  let c4_i32_122 : BitVec 32 := 4#32
  let v171 : BitVec 32 := Scalar.muli v35 c4_i32_122
  let v172 : BitVec 32 := Scalar.addi c0_i32_123 v171
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_28 : BitVec 32 := 1#32
  let v36 : BitVec 32 := Scalar.xori v5 c1_i32_28
  let c2_i32_124 : BitVec 32 := 2#32
  let v173 : BitVec 32 := Scalar.muli v36 c2_i32_124
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let v37 : BitVec 32 := Scalar.xori v8 c0_i32_29
  let c1_i32_125 : BitVec 32 := 1#32
  let v175 : BitVec 32 := Scalar.muli v37 c1_i32_125
  let v176 : BitVec 32 := Scalar.addi v174 v175
  v176.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_42 : BitVec 32 := 0#32
  let c0_i32_43 : BitVec 32 := 0#32
  ![v10.toNat, 0, 0]
def k1_off2 (d0 : Dev nD) (c1_i32_4 : BitVec 32) (c0_i32 : BitVec 32) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.xori v2 c1_i32_4
  let v14 : BitVec 32 := Scalar.muli c2_i32_6 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.xori v5 c0_i32
  let v15 : BitVec 32 := Scalar.addi v14 v12
  let c0_i32_50 : BitVec 32 := 0#32
  let c0_i32_51 : BitVec 32 := 0#32
  ![v15.toNat, 0, 0]
def k1_off2_at (r : Fin 3) : BitVec 32 × BitVec 32 :=
  if r.val < 1 then
    (1#32, 0#32)
  else
    if r.val < 2 then
      (0#32, 1#32)
    else
      (1#32, 1#32)
-- ==== GatherRef.lean ====
abbrev S5632x1024 : Shape := ⟨2, ![5632, 1024]⟩
abbrev S4x2x704x1024 : Shape := ⟨4, ![4, 2, 704, 1024]⟩
abbrev S2x4x704x1024 : Shape := ⟨4, ![2, 4, 704, 1024]⟩
abbrev S1x2x4x704x1024 : Shape := ⟨5, ![1, 2, 4, 704, 1024]⟩
abbrev S4x2x4x704x1024 : Shape := ⟨5, ![4, 2, 4, 704, 1024]⟩
abbrev S32x704x1024 : Shape := ⟨3, ![32, 704, 1024]⟩

abbrev nBuf : Space → Nat
  | .hbm => 18
  | .vmem => 0
  | .smem => 0
  | _ => 0

abbrev bufTy : (tb : Table) → Fin (tcTables nBuf tb) → BufTy
  | .hbm, ⟨0, _⟩ => ⟨S5632x1024, .bf16⟩
  | .hbm, ⟨1, _⟩ => ⟨S5632x1024, .bf16⟩
  | .hbm, ⟨2, _⟩ => ⟨S5632x1024, .bf16⟩
  | .hbm, ⟨3, _⟩ => ⟨S4x2x704x1024, .bf16⟩
  | .hbm, ⟨4, _⟩ => ⟨S2x4x704x1024, .bf16⟩
  | .hbm, ⟨5, _⟩ => ⟨S1x2x4x704x1024, .bf16⟩
  | .hbm, ⟨6, _⟩ => ⟨S4x2x4x704x1024, .bf16⟩
  | .hbm, ⟨7, _⟩ => ⟨S32x704x1024, .bf16⟩
  | .hbm, ⟨8, _⟩ => ⟨S4x2x704x1024, .bf16⟩
  | .hbm, ⟨9, _⟩ => ⟨S2x4x704x1024, .bf16⟩
  | .hbm, ⟨10, _⟩ => ⟨S1x2x4x704x1024, .bf16⟩
  | .hbm, ⟨11, _⟩ => ⟨S4x2x4x704x1024, .bf16⟩
  | .hbm, ⟨12, _⟩ => ⟨S32x704x1024, .bf16⟩
  | .hbm, ⟨13, _⟩ => ⟨S4x2x704x1024, .bf16⟩
  | .hbm, ⟨14, _⟩ => ⟨S2x4x704x1024, .bf16⟩
  | .hbm, ⟨15, _⟩ => ⟨S1x2x4x704x1024, .bf16⟩
  | .hbm, ⟨16, _⟩ => ⟨S4x2x4x704x1024, .bf16⟩
  | .hbm, ⟨17, _⟩ => ⟨S32x704x1024, .bf16⟩
  | _, _ => ⟨S5632x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Sibling.lean ====
abbrev S2816x1024 : Shape := ⟨2, ![2816, 1024]⟩
abbrev S3 : Shape := ⟨1, ![3]⟩
abbrev S8x128 : Shape := ⟨2, ![8, 128]⟩
abbrev S_ : Shape := ⟨0, ![]⟩
abbrev S1 : Shape := ⟨1, ![1]⟩

abbrev nBuf : Space → Nat
  | .hbm => 10
  | .vmem => 1
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S8x128, .f32⟩
  | .local _ .vmem, ⟨0, _⟩ => ⟨S8x128, .f32⟩
  | _, _ => ⟨S2816x1024, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_2 : Ref sig .tc := ⟨.hbm, 6, rfl⟩
abbrev main_v4_3 : Ref sig .tc := ⟨.hbm, 7, rfl⟩
abbrev main_v4_4 : Ref sig .tc := ⟨.hbm, 8, rfl⟩
abbrev main_v4_8 : Ref sig .tc := ⟨.hbm, 9, rfl⟩
abbrev cc0_stg0_0 : Ref sig .tc := ⟨.vmem, 0, rfl⟩
abbrev cc0_sem0_0 : DmaSem sig := 6
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_22 : BitVec 32 := 0#32
  let v18 : BitVec 32 := Dev.word d0
  let c4_i32_12 : BitVec 32 := 4#32
  let v19 : BitVec 32 := Scalar.divsi v18 c4_i32_12
  let c2_i32_11 : BitVec 32 := 2#32
  let v20 : BitVec 32 := Scalar.remsi v19 c2_i32_11
  let c0_i32_17 : BitVec 32 := 0#32
  let v28 : BitVec 32 := Scalar.xori v20 c0_i32_17
  let c4_i32_21 : BitVec 32 := 4#32
  let v31 : BitVec 32 := Scalar.muli v28 c4_i32_21
  let v32 : BitVec 32 := Scalar.addi c0_i32_22 v31
  let v21 : BitVec 32 := Dev.word d0
  let c2_i32_14 : BitVec 32 := 2#32
  let v22 : BitVec 32 := Scalar.divsi v21 c2_i32_14
  let c2_i32_13 : BitVec 32 := 2#32
  let v23 : BitVec 32 := Scalar.remsi v22 c2_i32_13
  let c0_i32_18 : BitVec 32 := 0#32
  let v29 : BitVec 32 := Scalar.xori v23 c0_i32_18
  let c2_i32_23 : BitVec 32 := 2#32
  let v33 : BitVec 32 := Scalar.muli v29 c2_i32_23
  let v34 : BitVec 32 := Scalar.addi v32 v33
  let v24 : BitVec 32 := Dev.word d0
  let c1_i32_16 : BitVec 32 := 1#32
  let v25 : BitVec 32 := Scalar.divsi v24 c1_i32_16
  let c2_i32_15 : BitVec 32 := 2#32
  let v26 : BitVec 32 := Scalar.remsi v25 c2_i32_15
  let c1_i32_19 : BitVec 32 := 1#32
  let v30 : BitVec 32 := Scalar.xori v26 c1_i32_19
  let c1_i32_24 : BitVec 32 := 1#32
  let v35 : BitVec 32 := Scalar.muli v30 c1_i32_24
  let v36 : BitVec 32 := Scalar.addi v34 v35
  v36.toNat
def k0_dev2 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.xori v2 c0_i32
  let c4_i32_28 : BitVec 32 := 4#32
  let v37 : BitVec 32 := Scalar.muli v9 c4_i32_28
  let v38 : BitVec 32 := Scalar.addi c0_i32_29 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_3 : BitVec 32 := 0#32
  let v10 : BitVec 32 := Scalar.xori v5 c0_i32_3
  let c2_i32_30 : BitVec 32 := 2#32
  let v39 : BitVec 32 := Scalar.muli v10 c2_i32_30
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4 : BitVec 32 := 1#32
  let v11 : BitVec 32 := Scalar.xori v8 c1_i32_4
  let c1_i32_31 : BitVec 32 := 1#32
  let v41 : BitVec 32 := Scalar.muli v11 c1_i32_31
  let v42 : BitVec 32 := Scalar.addi v40 v41
  v42.toNat
def k0_dev3 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_5 : BitVec 32 := 0#32
  let v12 : BitVec 32 := Scalar.xori v2 c0_i32_5
  let c4_i32_34 : BitVec 32 := 4#32
  let v47 : BitVec 32 := Scalar.muli v12 c4_i32_34
  let v48 : BitVec 32 := Scalar.addi c0_i32_35 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_6 : BitVec 32 := 0#32
  let v13 : BitVec 32 := Scalar.xori v5 c0_i32_6
  let c2_i32_36 : BitVec 32 := 2#32
  let v49 : BitVec 32 := Scalar.muli v13 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v14 : BitVec 32 := Scalar.xori v8 c1_i32_7
  let c1_i32_37 : BitVec 32 := 1#32
  let v51 : BitVec 32 := Scalar.muli v14 c1_i32_37
  let v52 : BitVec 32 := Scalar.addi v50 v51
  v52.toNat
def k0_dev4 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_8 : BitVec 32 := 0#32
  let v15 : BitVec 32 := Scalar.xori v2 c0_i32_8
  let c4_i32_40 : BitVec 32 := 4#32
  let v57 : BitVec 32 := Scalar.muli v15 c4_i32_40
  let v58 : BitVec 32 := Scalar.addi c0_i32_41 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v16 : BitVec 32 := Scalar.xori v5 c0_i32_9
  let c2_i32_42 : BitVec 32 := 2#32
  let v59 : BitVec 32 := Scalar.muli v16 c2_i32_42
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v17 : BitVec 32 := Scalar.xori v8 c1_i32_10
  let c1_i32_43 : BitVec 32 := 1#32
  let v61 : BitVec 32 := Scalar.muli v17 c1_i32_43
  let v62 : BitVec 32 := Scalar.addi v60 v61
  v62.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none
-- ==== SiblingRef.lean ====
abbrev S22528x1024 : Shape := ⟨2, ![22528, 1024]⟩
abbrev S4x2x2816x1024 : Shape := ⟨4, ![4, 2, 2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S22528x1024, .f32⟩
  | .hbm, ⟨1, _⟩ => ⟨S22528x1024, .f32⟩
  | .hbm, ⟨2, _⟩ => ⟨S22528x1024, .f32⟩
  | .hbm, ⟨3, _⟩ => ⟨S4x2x2816x1024, .f32⟩
  | .hbm, ⟨4, _⟩ => ⟨S4x2x2816x1024, .f32⟩
  | .hbm, ⟨5, _⟩ => ⟨S22528x1024, .f32⟩
  | .hbm, ⟨6, _⟩ => ⟨S4x2x2816x1024, .f32⟩
  | .hbm, ⟨7, _⟩ => ⟨S4x2x2816x1024, .f32⟩
  | .hbm, ⟨8, _⟩ => ⟨S22528x1024, .f32⟩
  | .hbm, ⟨9, _⟩ => ⟨S4x2x2816x1024, .f32⟩
  | .hbm, ⟨10, _⟩ => ⟨S4x2x2816x1024, .f32⟩
  | .hbm, ⟨11, _⟩ => ⟨S22528x1024, .f32⟩
  | _, _ => ⟨S22528x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ScatterMix.lean ====
abbrev S4x1600x1024 : Shape := ⟨3, ![4, 1600, 1024]⟩
abbrev S4x256x512 : Shape := ⟨3, ![4, 256, 512]⟩
abbrev S4x256x1024 : Shape := ⟨3, ![4, 256, 1024]⟩
abbrev S18 : Shape := ⟨1, ![18]⟩
abbrev S6 : Shape := ⟨1, ![6]⟩
abbrev S8x128 : Shape := ⟨2, ![8, 128]⟩
abbrev S_ : Shape := ⟨0, ![]⟩
abbrev S1 : Shape := ⟨1, ![1]⟩
abbrev S1x1600x1024 : Shape := ⟨3, ![1, 1600, 1024]⟩
abbrev S1600x1024 : Shape := ⟨2, ![1600, 1024]⟩
abbrev S1x256x512 : Shape := ⟨3, ![1, 256, 512]⟩
abbrev S256x512 : Shape := ⟨2, ![256, 512]⟩
abbrev S1x256x1024 : Shape := ⟨3, ![1, 256, 1024]⟩
abbrev S256x1024 : Shape := ⟨2, ![256, 1024]⟩

abbrev nBuf : Space → Nat
  | .hbm => 19
  | .vmem => 1
  | .smem => 0
  | _ => 0

abbrev bufTy : (tb : Table) → Fin (tcTables nBuf tb) → BufTy
  | .hbm, ⟨0, _⟩ => ⟨S4x1600x1024, .bf16⟩
  | .hbm, ⟨1, _⟩ => ⟨S4x256x512, .bf16⟩
  | .hbm, ⟨2, _⟩ => ⟨S4x256x1024, .bf16⟩
  | .hbm, ⟨3, _⟩ => ⟨S4x256x1024, .bf16⟩
  | .hbm, ⟨4, _⟩ => ⟨S4x256x512, .bf16⟩
  | .hbm, ⟨5, _⟩ => ⟨S4x256x1024, .bf16⟩
  | .hbm, ⟨6, _⟩ => ⟨S4x1600x1024, .bf16⟩
  | .hbm, ⟨7, _⟩ => ⟨S4x256x512, .bf16⟩
  | .hbm, ⟨8, _⟩ => ⟨S4x256x1024, .bf16⟩
  | .hbm, ⟨9, _⟩ => ⟨S4x256x1024, .bf16⟩
  | .hbm, ⟨10, _⟩ => ⟨S4x256x512, .bf16⟩
  | .hbm, ⟨11, _⟩ => ⟨S4x256x1024, .bf16⟩
  | .hbm, ⟨12, _⟩ => ⟨S4x1600x1024, .bf16⟩
  | .hbm, ⟨13, _⟩ => ⟨S4x256x512, .bf16⟩
  | .hbm, ⟨14, _⟩ => ⟨S4x256x1024, .bf16⟩
  | .hbm, ⟨15, _⟩ => ⟨S4x256x1024, .bf16⟩
  | .hbm, ⟨16, _⟩ => ⟨S4x256x512, .bf16⟩
  | .hbm, ⟨17, _⟩ => ⟨S4x256x1024, .bf16⟩
  | .hbm, ⟨18, _⟩ => ⟨S8x128, .f32⟩
  | .local _ .vmem, ⟨0, _⟩ => ⟨S8x128, .f32⟩
  | _, _ => ⟨S4x1600x1024, .bf16⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 43 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_3 : Ref sig .tc := ⟨.hbm, 12, rfl⟩
abbrev main_v7_4 : Ref sig .tc := ⟨.hbm, 13, rfl⟩
abbrev main_v7_5 : Ref sig .tc := ⟨.hbm, 14, rfl⟩
abbrev main_v7_6 : Ref sig .tc := ⟨.hbm, 15, rfl⟩
abbrev main_v7_7 : Ref sig .tc := ⟨.hbm, 16, rfl⟩
abbrev main_v7_8 : Ref sig .tc := ⟨.hbm, 17, rfl⟩
abbrev main_v7_15 : Ref sig .tc := ⟨.hbm, 18, rfl⟩
abbrev cc0_stg0_0 : Ref sig .tc := ⟨.vmem, 0, rfl⟩
abbrev cc0_sem0_0 : DmaSem sig := 42
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_86 : BitVec 32 := 0#32
  let v101 : BitVec 32 := Dev.word d0
  let c4_i32_76 : BitVec 32 := 4#32
  let v102 : BitVec 32 := Scalar.divsi v101 c4_i32_76
  let c2_i32_75 : BitVec 32 := 2#32
  let v103 : BitVec 32 := Scalar.remsi v102 c2_i32_75
  let c1_i32_81 : BitVec 32 := 1#32
  let v111 : BitVec 32 := Scalar.xori v103 c1_i32_81
  let c4_i32_85 : BitVec 32 := 4#32
  let v114 : BitVec 32 := Scalar.muli v111 c4_i32_85
  let v115 : BitVec 32 := Scalar.addi c0_i32_86 v114
  let v104 : BitVec 32 := Dev.word d0
  let c2_i32_78 : BitVec 32 := 2#32
  let v105 : BitVec 32 := Scalar.divsi v104 c2_i32_78
  let c2_i32_77 : BitVec 32 := 2#32
  let v106 : BitVec 32 := Scalar.remsi v105 c2_i32_77
  let c0_i32_82 : BitVec 32 := 0#32
  let v112 : BitVec 32 := Scalar.xori v106 c0_i32_82
  let c2_i32_87 : BitVec 32 := 2#32
  let v116 : BitVec 32 := Scalar.muli v112 c2_i32_87
  let v117 : BitVec 32 := Scalar.addi v115 v116
  let v107 : BitVec 32 := Dev.word d0
  let c1_i32_80 : BitVec 32 := 1#32
  let v108 : BitVec 32 := Scalar.divsi v107 c1_i32_80
  let c2_i32_79 : BitVec 32 := 2#32
  let v109 : BitVec 32 := Scalar.remsi v108 c2_i32_79
  let c0_i32_83 : BitVec 32 := 0#32
  let v113 : BitVec 32 := Scalar.xori v109 c0_i32_83
  let c1_i32_88 : BitVec 32 := 1#32
  let v118 : BitVec 32 := Scalar.muli v113 c1_i32_88
  let v119 : BitVec 32 := Scalar.addi v117 v118
  v119.toNat
def k0_dev2 (d0 : Dev nD) : Nat :=
  let c0_i32_94 : BitVec 32 := 0#32
  let v101 : BitVec 32 := Dev.word d0
  let c4_i32_76 : BitVec 32 := 4#32
  let v102 : BitVec 32 := Scalar.divsi v101 c4_i32_76
  let c2_i32_75 : BitVec 32 := 2#32
  let v103 : BitVec 32 := Scalar.remsi v102 c2_i32_75
  let c0_i32_89 : BitVec 32 := 0#32
  let v120 : BitVec 32 := Scalar.xori v103 c0_i32_89
  let c4_i32_93 : BitVec 32 := 4#32
  let v123 : BitVec 32 := Scalar.muli v120 c4_i32_93
  let v124 : BitVec 32 := Scalar.addi c0_i32_94 v123
  let v104 : BitVec 32 := Dev.word d0
  let c2_i32_78 : BitVec 32 := 2#32
  let v105 : BitVec 32 := Scalar.divsi v104 c2_i32_78
  let c2_i32_77 : BitVec 32 := 2#32
  let v106 : BitVec 32 := Scalar.remsi v105 c2_i32_77
  let c1_i32_90 : BitVec 32 := 1#32
  let v121 : BitVec 32 := Scalar.xori v106 c1_i32_90
  let c2_i32_95 : BitVec 32 := 2#32
  let v125 : BitVec 32 := Scalar.muli v121 c2_i32_95
  let v126 : BitVec 32 := Scalar.addi v124 v125
  let v107 : BitVec 32 := Dev.word d0
  let c1_i32_80 : BitVec 32 := 1#32
  let v108 : BitVec 32 := Scalar.divsi v107 c1_i32_80
  let c2_i32_79 : BitVec 32 := 2#32
  let v109 : BitVec 32 := Scalar.remsi v108 c2_i32_79
  let c0_i32_91 : BitVec 32 := 0#32
  let v122 : BitVec 32 := Scalar.xori v109 c0_i32_91
  let c1_i32_96 : BitVec 32 := 1#32
  let v127 : BitVec 32 := Scalar.muli v122 c1_i32_96
  let v128 : BitVec 32 := Scalar.addi v126 v127
  v128.toNat
def k0_dev3 (d0 : Dev nD) : Nat :=
  let c0_i32_102 : BitVec 32 := 0#32
  let v101 : BitVec 32 := Dev.word d0
  let c4_i32_76 : BitVec 32 := 4#32
  let v102 : BitVec 32 := Scalar.divsi v101 c4_i32_76
  let c2_i32_75 : BitVec 32 := 2#32
  let v103 : BitVec 32 := Scalar.remsi v102 c2_i32_75
  let c1_i32_97 : BitVec 32 := 1#32
  let v129 : BitVec 32 := Scalar.xori v103 c1_i32_97
  let c4_i32_101 : BitVec 32 := 4#32
  let v132 : BitVec 32 := Scalar.muli v129 c4_i32_101
  let v133 : BitVec 32 := Scalar.addi c0_i32_102 v132
  let v104 : BitVec 32 := Dev.word d0
  let c2_i32_78 : BitVec 32 := 2#32
  let v105 : BitVec 32 := Scalar.divsi v104 c2_i32_78
  let c2_i32_77 : BitVec 32 := 2#32
  let v106 : BitVec 32 := Scalar.remsi v105 c2_i32_77
  let c1_i32_98 : BitVec 32 := 1#32
  let v130 : BitVec 32 := Scalar.xori v106 c1_i32_98
  let c2_i32_103 : BitVec 32 := 2#32
  let v134 : BitVec 32 := Scalar.muli v130 c2_i32_103
  let v135 : BitVec 32 := Scalar.addi v133 v134
  let v107 : BitVec 32 := Dev.word d0
  let c1_i32_80 : BitVec 32 := 1#32
  let v108 : BitVec 32 := Scalar.divsi v107 c1_i32_80
  let c2_i32_79 : BitVec 32 := 2#32
  let v109 : BitVec 32 := Scalar.remsi v108 c2_i32_79
  let c0_i32_99 : BitVec 32 := 0#32
  let v131 : BitVec 32 := Scalar.xori v109 c0_i32_99
  let c1_i32_104 : BitVec 32 := 1#32
  let v136 : BitVec 32 := Scalar.muli v131 c1_i32_104
  let v137 : BitVec 32 := Scalar.addi v135 v136
  v137.toNat
def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_111 : BitVec 32 := 0#32
  let c0_i32_112 : BitVec 32 := 0#32
  ![v10.toNat, 0, 0]
def k0_off2 (d0 : Dev nD) (c1_i32_4 : BitVec 32) (c0_i32 : BitVec 32) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.xori v2 c1_i32_4
  let v14 : BitVec 32 := Scalar.muli c2_i32_6 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.xori v5 c0_i32
  let v15 : BitVec 32 := Scalar.addi v14 v12
  let c0_i32_113 : BitVec 32 := 0#32
  let c0_i32_114 : BitVec 32 := 0#32
  ![v15.toNat, 0, 0]
def k0_off2_at (r : Fin 3) : BitVec 32 × BitVec 32 :=
  if r.val < 1 then
    (1#32, 0#32)
  else
    if r.val < 2 then
      (0#32, 1#32)
    else
      (1#32, 1#32)
def k0_dev4 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_4 : BitVec 32 := 1#32
  let v11 : BitVec 32 := Scalar.xori v2 c1_i32_4
  let c4_i32_107 : BitVec 32 := 4#32
  let v138 : BitVec 32 := Scalar.muli v11 c4_i32_107
  let v139 : BitVec 32 := Scalar.addi c0_i32_108 v138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v12 : BitVec 32 := Scalar.xori v5 c0_i32
  let c2_i32_109 : BitVec 32 := 2#32
  let v140 : BitVec 32 := Scalar.muli v12 c2_i32_109
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_5 : BitVec 32 := 0#32
  let v13 : BitVec 32 := Scalar.xori v8 c0_i32_5
  let c1_i32_110 : BitVec 32 := 1#32
  let v142 : BitVec 32 := Scalar.muli v13 c1_i32_110
  let v143 : BitVec 32 := Scalar.addi v141 v142
  v143.toNat
def k0_dev5 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_117 : BitVec 32 := 4#32
  let v152 : BitVec 32 := Scalar.muli v16 c4_i32_117
  let v153 : BitVec 32 := Scalar.addi c0_i32_118 v152
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_119 : BitVec 32 := 2#32
  let v154 : BitVec 32 := Scalar.muli v17 c2_i32_119
  let v155 : BitVec 32 := Scalar.addi v153 v154
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_120 : BitVec 32 := 1#32
  let v156 : BitVec 32 := Scalar.muli v18 c1_i32_120
  let v157 : BitVec 32 := Scalar.addi v155 v156
  v157.toNat
def k0_dev6 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_11 : BitVec 32 := 1#32
  let v21 : BitVec 32 := Scalar.xori v2 c1_i32_11
  let c4_i32_127 : BitVec 32 := 4#32
  let v166 : BitVec 32 := Scalar.muli v21 c4_i32_127
  let v167 : BitVec 32 := Scalar.addi c0_i32_128 v166
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_12 : BitVec 32 := 1#32
  let v22 : BitVec 32 := Scalar.xori v5 c1_i32_12
  let c2_i32_129 : BitVec 32 := 2#32
  let v168 : BitVec 32 := Scalar.muli v22 c2_i32_129
  let v169 : BitVec 32 := Scalar.addi v167 v168
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_13 : BitVec 32 := 0#32
  let v23 : BitVec 32 := Scalar.xori v8 c0_i32_13
  let c1_i32_130 : BitVec 32 := 1#32
  let v170 : BitVec 32 := Scalar.muli v23 c1_i32_130
  let v171 : BitVec 32 := Scalar.addi v169 v170
  v171.toNat
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_141 : BitVec 32 := 0#32
  let c0_i32_142 : BitVec 32 := 0#32
  ![v10.toNat, 0, 0]
def k0_off4 (d0 : Dev nD) (c1_i32_15 : BitVec 32) (c0_i32_16 : BitVec 32) : Fin 3 → Nat :=
  let c2_i32_18 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.xori v2 c1_i32_15
  let v29 : BitVec 32 := Scalar.muli c2_i32_18 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.xori v5 c0_i32_16
  let v30 : BitVec 32 := Scalar.addi v29 v27
  let c0_i32_143 : BitVec 32 := 0#32
  let c0_i32_144 : BitVec 32 := 0#32
  ![v30.toNat, 0, 0]
def k0_off4_at (r : Fin 3) : BitVec 32 × BitVec 32 :=
  if r.val < 1 then
    (1#32, 0#32)
  else
    if r.val < 2 then
      (0#32, 1#32)
    else
      (1#32, 1#32)
def k0_dev7 (d0 : Dev nD) : Nat :=
  let c0_i32_138 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_15 : BitVec 32 := 1#32
  let v26 : BitVec 32 := Scalar.xori v2 c1_i32_15
  let c4_i32_137 : BitVec 32 := 4#32
  let v180 : BitVec 32 := Scalar.muli v26 c4_i32_137
  let v181 : BitVec 32 := Scalar.addi c0_i32_138 v180
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_16 : BitVec 32 := 0#32
  let v27 : BitVec 32 := Scalar.xori v5 c0_i32_16
  let c2_i32_139 : BitVec 32 := 2#32
  let v182 : BitVec 32 := Scalar.muli v27 c2_i32_139
  let v183 : BitVec 32 := Scalar.addi v181 v182
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_17 : BitVec 32 := 0#32
  let v28 : BitVec 32 := Scalar.xori v8 c0_i32_17
  let c1_i32_140 : BitVec 32 := 1#32
  let v184 : BitVec 32 := Scalar.muli v28 c1_i32_140
  let v185 : BitVec 32 := Scalar.addi v183 v184
  v185.toNat
def k0_dev8 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_19 : BitVec 32 := 0#32
  let v31 : BitVec 32 := Scalar.xori v2 c0_i32_19
  let c4_i32_147 : BitVec 32 := 4#32
  let v194 : BitVec 32 := Scalar.muli v31 c4_i32_147
  let v195 : BitVec 32 := Scalar.addi c0_i32_148 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v32 : BitVec 32 := Scalar.xori v5 c1_i32_20
  let c2_i32_149 : BitVec 32 := 2#32
  let v196 : BitVec 32 := Scalar.muli v32 c2_i32_149
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v33 : BitVec 32 := Scalar.xori v8 c0_i32_21
  let c1_i32_150 : BitVec 32 := 1#32
  let v198 : BitVec 32 := Scalar.muli v33 c1_i32_150
  let v199 : BitVec 32 := Scalar.addi v197 v198
  v199.toNat
def k0_dev9 (d0 : Dev nD) : Nat :=
  let c0_i32_157 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_23 : BitVec 32 := 1#32
  let v36 : BitVec 32 := Scalar.xori v2 c1_i32_23
  let c4_i32_156 : BitVec 32 := 4#32
  let v208 : BitVec 32 := Scalar.muli v36 c4_i32_156
  let v209 : BitVec 32 := Scalar.addi c0_i32_157 v208
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_24 : BitVec 32 := 1#32
  let v37 : BitVec 32 := Scalar.xori v5 c1_i32_24
  let c2_i32_158 : BitVec 32 := 2#32
  let v210 : BitVec 32 := Scalar.muli v37 c2_i32_158
  let v211 : BitVec 32 := Scalar.addi v209 v210
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_25 : BitVec 32 := 0#32
  let v38 : BitVec 32 := Scalar.xori v8 c0_i32_25
  let c1_i32_159 : BitVec 32 := 1#32
  let v212 : BitVec 32 := Scalar.muli v38 c1_i32_159
  let v213 : BitVec 32 := Scalar.addi v211 v212
  v213.toNat
def k0_off5 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_169 : BitVec 32 := 0#32
  let c0_i32_170 : BitVec 32 := 0#32
  ![v10.toNat, 0, 0]
def k0_off6 (d0 : Dev nD) (c1_i32_27 : BitVec 32) (c0_i32_28 : BitVec 32) : Fin 3 → Nat :=
  let c2_i32_30 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.xori v2 c1_i32_27
  let v44 : BitVec 32 := Scalar.muli c2_i32_30 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v42 : BitVec 32 := Scalar.xori v5 c0_i32_28
  let v45 : BitVec 32 := Scalar.addi v44 v42
  let c0_i32_171 : BitVec 32 := 0#32
  let c0_i32_172 : BitVec 32 := 0#32
  ![v45.toNat, 0, 0]
def k0_off6_at (r : Fin 3) : BitVec 32 × BitVec 32 :=
  if r.val < 1 then
    (1#32, 0#32)
  else
    if r.val < 2 then
      (0#32, 1#32)
    else
      (1#32, 1#32)
def k0_dev10 (d0 : Dev nD) : Nat :=
  let c0_i32_166 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_27 : BitVec 32 := 1#32
  let v41 : BitVec 32 := Scalar.xori v2 c1_i32_27
  let c4_i32_165 : BitVec 32 := 4#32
  let v222 : BitVec 32 := Scalar.muli v41 c4_i32_165
  let v223 : BitVec 32 := Scalar.addi c0_i32_166 v222
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_28 : BitVec 32 := 0#32
  let v42 : BitVec 32 := Scalar.xori v5 c0_i32_28
  let c2_i32_167 : BitVec 32 := 2#32
  let v224 : BitVec 32 := Scalar.muli v42 c2_i32_167
  let v225 : BitVec 32 := Scalar.addi v223 v224
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let v43 : BitVec 32 := Scalar.xori v8 c0_i32_29
  let c1_i32_168 : BitVec 32 := 1#32
  let v226 : BitVec 32 := Scalar.muli v43 c1_i32_168
  let v227 : BitVec 32 := Scalar.addi v225 v226
  v227.toNat
def k0_dev11 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_31 : BitVec 32 := 0#32
  let v46 : BitVec 32 := Scalar.xori v2 c0_i32_31
  let c4_i32_174 : BitVec 32 := 4#32
  let v236 : BitVec 32 := Scalar.muli v46 c4_i32_174
  let v237 : BitVec 32 := Scalar.addi c0_i32_175 v236
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_32 : BitVec 32 := 1#32
  let v47 : BitVec 32 := Scalar.xori v5 c1_i32_32
  let c2_i32_176 : BitVec 32 := 2#32
  let v238 : BitVec 32 := Scalar.muli v47 c2_i32_176
  let v239 : BitVec 32 := Scalar.addi v237 v238
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_33 : BitVec 32 := 0#32
  let v48 : BitVec 32 := Scalar.xori v8 c0_i32_33
  let c1_i32_177 : BitVec 32 := 1#32
  let v240 : BitVec 32 := Scalar.muli v48 c1_i32_177
  let v241 : BitVec 32 := Scalar.addi v239 v240
  v241.toNat
def k0_dev12 (d0 : Dev nD) : Nat :=
  let c0_i32_184 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_35 : BitVec 32 := 1#32
  let v51 : BitVec 32 := Scalar.xori v2 c1_i32_35
  let c4_i32_183 : BitVec 32 := 4#32
  let v250 : BitVec 32 := Scalar.muli v51 c4_i32_183
  let v251 : BitVec 32 := Scalar.addi c0_i32_184 v250
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_36 : BitVec 32 := 1#32
  let v52 : BitVec 32 := Scalar.xori v5 c1_i32_36
  let c2_i32_185 : BitVec 32 := 2#32
  let v252 : BitVec 32 := Scalar.muli v52 c2_i32_185
  let v253 : BitVec 32 := Scalar.addi v251 v252
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_37 : BitVec 32 := 0#32
  let v53 : BitVec 32 := Scalar.xori v8 c0_i32_37
  let c1_i32_186 : BitVec 32 := 1#32
  let v254 : BitVec 32 := Scalar.muli v53 c1_i32_186
  let v255 : BitVec 32 := Scalar.addi v253 v254
  v255.toNat
def k0_dev13 (d0 : Dev nD) : Nat :=
  let c0_i32_193 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_39 : BitVec 32 := 1#32
  let v56 : BitVec 32 := Scalar.xori v2 c1_i32_39
  let c4_i32_192 : BitVec 32 := 4#32
  let v264 : BitVec 32 := Scalar.muli v56 c4_i32_192
  let v265 : BitVec 32 := Scalar.addi c0_i32_193 v264
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_40 : BitVec 32 := 0#32
  let v57 : BitVec 32 := Scalar.xori v5 c0_i32_40
  let c2_i32_194 : BitVec 32 := 2#32
  let v266 : BitVec 32 := Scalar.muli v57 c2_i32_194
  let v267 : BitVec 32 := Scalar.addi v265 v266
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_41 : BitVec 32 := 0#32
  let v58 : BitVec 32 := Scalar.xori v8 c0_i32_41
  let c1_i32_195 : BitVec 32 := 1#32
  let v268 : BitVec 32 := Scalar.muli v58 c1_i32_195
  let v269 : BitVec 32 := Scalar.addi v267 v268
  v269.toNat
def k0_dev14 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_43 : BitVec 32 := 0#32
  let v61 : BitVec 32 := Scalar.xori v2 c0_i32_43
  let c4_i32_201 : BitVec 32 := 4#32
  let v278 : BitVec 32 := Scalar.muli v61 c4_i32_201
  let v279 : BitVec 32 := Scalar.addi c0_i32_202 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_44 : BitVec 32 := 1#32
  let v62 : BitVec 32 := Scalar.xori v5 c1_i32_44
  let c2_i32_203 : BitVec 32 := 2#32
  let v280 : BitVec 32 := Scalar.muli v62 c2_i32_203
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_45 : BitVec 32 := 0#32
  let v63 : BitVec 32 := Scalar.xori v8 c0_i32_45
  let c1_i32_204 : BitVec 32 := 1#32
  let v282 : BitVec 32 := Scalar.muli v63 c1_i32_204
  let v283 : BitVec 32 := Scalar.addi v281 v282
  v283.toNat
def k0_dev15 (d0 : Dev nD) : Nat :=
  let c0_i32_211 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_47 : BitVec 32 := 1#32
  let v66 : BitVec 32 := Scalar.xori v2 c1_i32_47
  let c4_i32_210 : BitVec 32 := 4#32
  let v292 : BitVec 32 := Scalar.muli v66 c4_i32_210
  let v293 : BitVec 32 := Scalar.addi c0_i32_211 v292
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_48 : BitVec 32 := 1#32
  let v67 : BitVec 32 := Scalar.xori v5 c1_i32_48
  let c2_i32_212 : BitVec 32 := 2#32
  let v294 : BitVec 32 := Scalar.muli v67 c2_i32_212
  let v295 : BitVec 32 := Scalar.addi v293 v294
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_49 : BitVec 32 := 0#32
  let v68 : BitVec 32 := Scalar.xori v8 c0_i32_49
  let c1_i32_213 : BitVec 32 := 1#32
  let v296 : BitVec 32 := Scalar.muli v68 c1_i32_213
  let v297 : BitVec 32 := Scalar.addi v295 v296
  v297.toNat
def k0_dev16 (d0 : Dev nD) : Nat :=
  let c0_i32_220 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_51 : BitVec 32 := 1#32
  let v71 : BitVec 32 := Scalar.xori v2 c1_i32_51
  let c4_i32_219 : BitVec 32 := 4#32
  let v306 : BitVec 32 := Scalar.muli v71 c4_i32_219
  let v307 : BitVec 32 := Scalar.addi c0_i32_220 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_52 : BitVec 32 := 0#32
  let v72 : BitVec 32 := Scalar.xori v5 c0_i32_52
  let c2_i32_221 : BitVec 32 := 2#32
  let v308 : BitVec 32 := Scalar.muli v72 c2_i32_221
  let v309 : BitVec 32 := Scalar.addi v307 v308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_53 : BitVec 32 := 0#32
  let v73 : BitVec 32 := Scalar.xori v8 c0_i32_53
  let c1_i32_222 : BitVec 32 := 1#32
  let v310 : BitVec 32 := Scalar.muli v73 c1_i32_222
  let v311 : BitVec 32 := Scalar.addi v309 v310
  v311.toNat
def k0_dev17 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_55 : BitVec 32 := 0#32
  let v76 : BitVec 32 := Scalar.xori v2 c0_i32_55
  let c4_i32_228 : BitVec 32 := 4#32
  let v320 : BitVec 32 := Scalar.muli v76 c4_i32_228
  let v321 : BitVec 32 := Scalar.addi c0_i32_229 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_56 : BitVec 32 := 1#32
  let v77 : BitVec 32 := Scalar.xori v5 c1_i32_56
  let c2_i32_230 : BitVec 32 := 2#32
  let v322 : BitVec 32 := Scalar.muli v77 c2_i32_230
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_57 : BitVec 32 := 0#32
  let v78 : BitVec 32 := Scalar.xori v8 c0_i32_57
  let c1_i32_231 : BitVec 32 := 1#32
  let v324 : BitVec 32 := Scalar.muli v78 c1_i32_231
  let v325 : BitVec 32 := Scalar.addi v323 v324
  v325.toNat
def k0_dev18 (d0 : Dev nD) : Nat :=
  let c0_i32_238 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_59 : BitVec 32 := 1#32
  let v81 : BitVec 32 := Scalar.xori v2 c1_i32_59
  let c4_i32_237 : BitVec 32 := 4#32
  let v334 : BitVec 32 := Scalar.muli v81 c4_i32_237
  let v335 : BitVec 32 := Scalar.addi c0_i32_238 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_60 : BitVec 32 := 1#32
  let v82 : BitVec 32 := Scalar.xori v5 c1_i32_60
  let c2_i32_239 : BitVec 32 := 2#32
  let v336 : BitVec 32 := Scalar.muli v82 c2_i32_239
  let v337 : BitVec 32 := Scalar.addi v335 v336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_61 : BitVec 32 := 0#32
  let v83 : BitVec 32 := Scalar.xori v8 c0_i32_61
  let c1_i32_240 : BitVec 32 := 1#32
  let v338 : BitVec 32 := Scalar.muli v83 c1_i32_240
  let v339 : BitVec 32 := Scalar.addi v337 v338
  v339.toNat
def k0_dev19 (d0 : Dev nD) : Nat :=
  let c0_i32_247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_63 : BitVec 32 := 1#32
  let v86 : BitVec 32 := Scalar.xori v2 c1_i32_63
  let c4_i32_246 : BitVec 32 := 4#32
  let v348 : BitVec 32 := Scalar.muli v86 c4_i32_246
  let v349 : BitVec 32 := Scalar.addi c0_i32_247 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_64 : BitVec 32 := 0#32
  let v87 : BitVec 32 := Scalar.xori v5 c0_i32_64
  let c2_i32_248 : BitVec 32 := 2#32
  let v350 : BitVec 32 := Scalar.muli v87 c2_i32_248
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_65 : BitVec 32 := 0#32
  let v88 : BitVec 32 := Scalar.xori v8 c0_i32_65
  let c1_i32_249 : BitVec 32 := 1#32
  let v352 : BitVec 32 := Scalar.muli v88 c1_i32_249
  let v353 : BitVec 32 := Scalar.addi v351 v352
  v353.toNat
def k0_dev20 (d0 : Dev nD) : Nat :=
  let c0_i32_256 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_67 : BitVec 32 := 0#32
  let v91 : BitVec 32 := Scalar.xori v2 c0_i32_67
  let c4_i32_255 : BitVec 32 := 4#32
  let v362 : BitVec 32 := Scalar.muli v91 c4_i32_255
  let v363 : BitVec 32 := Scalar.addi c0_i32_256 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_68 : BitVec 32 := 1#32
  let v92 : BitVec 32 := Scalar.xori v5 c1_i32_68
  let c2_i32_257 : BitVec 32 := 2#32
  let v364 : BitVec 32 := Scalar.muli v92 c2_i32_257
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_69 : BitVec 32 := 0#32
  let v93 : BitVec 32 := Scalar.xori v8 c0_i32_69
  let c1_i32_258 : BitVec 32 := 1#32
  let v366 : BitVec 32 := Scalar.muli v93 c1_i32_258
  let v367 : BitVec 32 := Scalar.addi v365 v366
  v367.toNat
def k0_dev21 (d0 : Dev nD) : Nat :=
  let c0_i32_265 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_71 : BitVec 32 := 1#32
  let v96 : BitVec 32 := Scalar.xori v2 c1_i32_71
  let c4_i32_264 : BitVec 32 := 4#32
  let v376 : BitVec 32 := Scalar.muli v96 c4_i32_264
  let v377 : BitVec 32 := Scalar.addi c0_i32_265 v376
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_72 : BitVec 32 := 1#32
  let v97 : BitVec 32 := Scalar.xori v5 c1_i32_72
  let c2_i32_266 : BitVec 32 := 2#32
  let v378 : BitVec 32 := Scalar.muli v97 c2_i32_266
  let v379 : BitVec 32 := Scalar.addi v377 v378
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_73 : BitVec 32 := 0#32
  let v98 : BitVec 32 := Scalar.xori v8 c0_i32_73
  let c1_i32_267 : BitVec 32 := 1#32
  let v380 : BitVec 32 := Scalar.muli v98 c1_i32_267
  let v381 : BitVec 32 := Scalar.addi v379 v380
  v381.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) (c1_i32_4 : BitVec 32) (c0_i32 : BitVec 32) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.xori v2 c1_i32_4
  let v14 : BitVec 32 := Scalar.muli c2_i32_6 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.xori v5 c0_i32
  let v15 : BitVec 32 := Scalar.addi v14 v12
  let c0_i32_96 : BitVec 32 := 0#32
  let c0_i32_97 : BitVec 32 := 0#32
  ![v15.toNat, 0, 0]
def k1_off1_at (r : Fin 3) : BitVec 32 × BitVec 32 :=
  if r.val < 1 then
    (1#32, 0#32)
  else
    if r.val < 2 then
      (0#32, 1#32)
    else
      (1#32, 1#32)
def k1_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_98 : BitVec 32 := 0#32
  let c0_i32_99 : BitVec 32 := 0#32
  ![v10.toNat, 0, 0]
def k1_off3 (d0 : Dev nD) (c1_i32_18 : BitVec 32) (c0_i32_19 : BitVec 32) : Fin 3 → Nat :=
  let c2_i32_21 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v32 : BitVec 32 := Scalar.xori v2 c1_i32_18
  let v35 : BitVec 32 := Scalar.muli c2_i32_21 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.xori v5 c0_i32_19
  let v36 : BitVec 32 := Scalar.addi v35 v33
  let c0_i32_146 : BitVec 32 := 0#32
  let c0_i32_147 : BitVec 32 := 0#32
  ![v36.toNat, 0, 0]
def k1_off3_at (r : Fin 3) : BitVec 32 × BitVec 32 :=
  if r.val < 1 then
    (1#32, 0#32)
  else
    if r.val < 2 then
      (0#32, 1#32)
    else
      (1#32, 1#32)
def k1_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_148 : BitVec 32 := 0#32
  let c0_i32_149 : BitVec 32 := 0#32
  ![v10.toNat, 0, 0]
def k1_off5 (d0 : Dev nD) (c1_i32_33 : BitVec 32) (c0_i32_34 : BitVec 32) : Fin 3 → Nat :=
  let c2_i32_36 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.xori v2 c1_i32_33
  let v56 : BitVec 32 := Scalar.muli c2_i32_36 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.xori v5 c0_i32_34
  let v57 : BitVec 32 := Scalar.addi v56 v54
  let c0_i32_195 : BitVec 32 := 0#32
  let c0_i32_196 : BitVec 32 := 0#32
  ![v57.toNat, 0, 0]
def k1_off5_at (r : Fin 3) : BitVec 32 × BitVec 32 :=
  if r.val < 1 then
    (1#32, 0#32)
  else
    if r.val < 2 then
      (0#32, 1#32)
    else
      (1#32, 1#32)
def k1_off6 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_197 : BitVec 32 := 0#32
  let c0_i32_198 : BitVec 32 := 0#32
  ![v10.toNat, 0, 0]
-- ==== ScatterMixRef.lean ====
abbrev S32x1600x1024 : Shape := ⟨3, ![32, 1600, 1024]⟩
abbrev S32x256x512 : Shape := ⟨3, ![32, 256, 512]⟩
abbrev S32x256x1024 : Shape := ⟨3, ![32, 256, 1024]⟩
abbrev S4x2x4x1600x1024 : Shape := ⟨5, ![4, 2, 4, 1600, 1024]⟩
abbrev S4x2x4x256x512 : Shape := ⟨5, ![4, 2, 4, 256, 512]⟩
abbrev S4x2x4x256x1024 : Shape := ⟨5, ![4, 2, 4, 256, 1024]⟩

abbrev nBuf : Space → Nat
  | .hbm => 24
  | .vmem => 0
  | .smem => 0
  | _ => 0

abbrev bufTy : (tb : Table) → Fin (tcTables nBuf tb) → BufTy
  | .hbm, ⟨0, _⟩ => ⟨S32x1600x1024, .bf16⟩
  | .hbm, ⟨1, _⟩ => ⟨S32x256x512, .bf16⟩
  | .hbm, ⟨2, _⟩ => ⟨S32x256x1024, .bf16⟩
  | .hbm, ⟨3, _⟩ => ⟨S32x256x1024, .bf16⟩
  | .hbm, ⟨4, _⟩ => ⟨S32x256x512, .bf16⟩
  | .hbm, ⟨5, _⟩ => ⟨S32x256x1024, .bf16⟩
  | .hbm, ⟨6, _⟩ => ⟨S4x2x4x1600x1024, .bf16⟩
  | .hbm, ⟨7, _⟩ => ⟨S4x2x4x1600x1024, .bf16⟩
  | .hbm, ⟨8, _⟩ => ⟨S32x1600x1024, .bf16⟩
  | .hbm, ⟨9, _⟩ => ⟨S4x2x4x256x512, .bf16⟩
  | .hbm, ⟨10, _⟩ => ⟨S4x2x4x256x512, .bf16⟩
  | .hbm, ⟨11, _⟩ => ⟨S32x256x512, .bf16⟩
  | .hbm, ⟨12, _⟩ => ⟨S4x2x4x256x1024, .bf16⟩
  | .hbm, ⟨13, _⟩ => ⟨S4x2x4x256x1024, .bf16⟩
  | .hbm, ⟨14, _⟩ => ⟨S32x256x1024, .bf16⟩
  | .hbm, ⟨15, _⟩ => ⟨S4x2x4x256x1024, .bf16⟩
  | .hbm, ⟨16, _⟩ => ⟨S4x2x4x256x1024, .bf16⟩
  | .hbm, ⟨17, _⟩ => ⟨S32x256x1024, .bf16⟩
  | .hbm, ⟨18, _⟩ => ⟨S4x2x4x256x512, .bf16⟩
  | .hbm, ⟨19, _⟩ => ⟨S4x2x4x256x512, .bf16⟩
  | .hbm, ⟨20, _⟩ => ⟨S32x256x512, .bf16⟩
  | .hbm, ⟨21, _⟩ => ⟨S4x2x4x256x1024, .bf16⟩
  | .hbm, ⟨22, _⟩ => ⟨S4x2x4x256x1024, .bf16⟩
  | .hbm, ⟨23, _⟩ => ⟨S32x256x1024, .bf16⟩
  | _, _ => ⟨S32x1600x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== SiblingMix.lean ====
abbrev S6400x1024 : Shape := ⟨2, ![6400, 1024]⟩
abbrev S1024x512 : Shape := ⟨2, ![1024, 512]⟩
abbrev S1024x1024 : Shape := ⟨2, ![1024, 1024]⟩
abbrev S6 : Shape := ⟨1, ![6]⟩
abbrev S8x128 : Shape := ⟨2, ![8, 128]⟩
abbrev S_ : Shape := ⟨0, ![]⟩
abbrev S1 : Shape := ⟨1, ![1]⟩

abbrev nBuf : Space → Nat
  | .hbm => 19
  | .vmem => 1
  | .smem => 0
  | _ => 0

abbrev bufTy : (tb : Table) → Fin (tcTables nBuf tb) → BufTy
  | .hbm, ⟨0, _⟩ => ⟨S6400x1024, .f32⟩
  | .hbm, ⟨1, _⟩ => ⟨S1024x512, .f32⟩
  | .hbm, ⟨2, _⟩ => ⟨S1024x1024, .f32⟩
  | .hbm, ⟨3, _⟩ => ⟨S1024x1024, .f32⟩
  | .hbm, ⟨4, _⟩ => ⟨S1024x512, .f32⟩
  | .hbm, ⟨5, _⟩ => ⟨S1024x1024, .f32⟩
  | .hbm, ⟨6, _⟩ => ⟨S6400x1024, .f32⟩
  | .hbm, ⟨7, _⟩ => ⟨S1024x512, .f32⟩
  | .hbm, ⟨8, _⟩ => ⟨S1024x1024, .f32⟩
  | .hbm, ⟨9, _⟩ => ⟨S1024x1024, .f32⟩
  | .hbm, ⟨10, _⟩ => ⟨S1024x512, .f32⟩
  | .hbm, ⟨11, _⟩ => ⟨S1024x1024, .f32⟩
  | .hbm, ⟨12, _⟩ => ⟨S6400x1024, .f32⟩
  | .hbm, ⟨13, _⟩ => ⟨S1024x512, .f32⟩
  | .hbm, ⟨14, _⟩ => ⟨S1024x1024, .f32⟩
  | .hbm, ⟨15, _⟩ => ⟨S1024x1024, .f32⟩
  | .hbm, ⟨16, _⟩ => ⟨S1024x512, .f32⟩
  | .hbm, ⟨17, _⟩ => ⟨S1024x1024, .f32⟩
  | .hbm, ⟨18, _⟩ => ⟨S8x128, .f32⟩
  | .local _ .vmem, ⟨0, _⟩ => ⟨S8x128, .f32⟩
  | _, _ => ⟨S6400x1024, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_2 : Ref sig .tc := ⟨.hbm, 12, rfl⟩
abbrev main_v7_3 : Ref sig .tc := ⟨.hbm, 13, rfl⟩
abbrev main_v7_4 : Ref sig .tc := ⟨.hbm, 14, rfl⟩
abbrev main_v7_5 : Ref sig .tc := ⟨.hbm, 15, rfl⟩
abbrev main_v7_6 : Ref sig .tc := ⟨.hbm, 16, rfl⟩
abbrev main_v7_7 : Ref sig .tc := ⟨.hbm, 17, rfl⟩
abbrev main_v7_14 : Ref sig .tc := ⟨.hbm, 18, rfl⟩
abbrev cc0_stg0_0 : Ref sig .tc := ⟨.vmem, 0, rfl⟩
abbrev cc0_sem0_0 : DmaSem sig := 12
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_31 : BitVec 32 := 0#32
  let v27 : BitVec 32 := Dev.word d0
  let c4_i32_21 : BitVec 32 := 4#32
  let v28 : BitVec 32 := Scalar.divsi v27 c4_i32_21
  let c2_i32_20 : BitVec 32 := 2#32
  let v29 : BitVec 32 := Scalar.remsi v28 c2_i32_20
  let c0_i32_26 : BitVec 32 := 0#32
  let v37 : BitVec 32 := Scalar.xori v29 c0_i32_26
  let c4_i32_30 : BitVec 32 := 4#32
  let v40 : BitVec 32 := Scalar.muli v37 c4_i32_30
  let v41 : BitVec 32 := Scalar.addi c0_i32_31 v40
  let v30 : BitVec 32 := Dev.word d0
  let c2_i32_23 : BitVec 32 := 2#32
  let v31 : BitVec 32 := Scalar.divsi v30 c2_i32_23
  let c2_i32_22 : BitVec 32 := 2#32
  let v32 : BitVec 32 := Scalar.remsi v31 c2_i32_22
  let c0_i32_27 : BitVec 32 := 0#32
  let v38 : BitVec 32 := Scalar.xori v32 c0_i32_27
  let c2_i32_32 : BitVec 32 := 2#32
  let v42 : BitVec 32 := Scalar.muli v38 c2_i32_32
  let v43 : BitVec 32 := Scalar.addi v41 v42
  let v33 : BitVec 32 := Dev.word d0
  let c1_i32_25 : BitVec 32 := 1#32
  let v34 : BitVec 32 := Scalar.divsi v33 c1_i32_25
  let c2_i32_24 : BitVec 32 := 2#32
  let v35 : BitVec 32 := Scalar.remsi v34 c2_i32_24
  let c1_i32_28 : BitVec 32 := 1#32
  let v39 : BitVec 32 := Scalar.xori v35 c1_i32_28
  let c1_i32_33 : BitVec 32 := 1#32
  let v44 : BitVec 32 := Scalar.muli v39 c1_i32_33
  let v45 : BitVec 32 := Scalar.addi v43 v44
  v45.toNat
def k0_dev2 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.xori v2 c0_i32
  let c4_i32_37 : BitVec 32 := 4#32
  let v46 : BitVec 32 := Scalar.muli v9 c4_i32_37
  let v47 : BitVec 32 := Scalar.addi c0_i32_38 v46
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_3 : BitVec 32 := 0#32
  let v10 : BitVec 32 := Scalar.xori v5 c0_i32_3
  let c2_i32_39 : BitVec 32 := 2#32
  let v48 : BitVec 32 := Scalar.muli v10 c2_i32_39
  let v49 : BitVec 32 := Scalar.addi v47 v48
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4 : BitVec 32 := 1#32
  let v11 : BitVec 32 := Scalar.xori v8 c1_i32_4
  let c1_i32_40 : BitVec 32 := 1#32
  let v50 : BitVec 32 := Scalar.muli v11 c1_i32_40
  let v51 : BitVec 32 := Scalar.addi v49 v50
  v51.toNat
def k0_dev3 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_5 : BitVec 32 := 0#32
  let v12 : BitVec 32 := Scalar.xori v2 c0_i32_5
  let c4_i32_43 : BitVec 32 := 4#32
  let v56 : BitVec 32 := Scalar.muli v12 c4_i32_43
  let v57 : BitVec 32 := Scalar.addi c0_i32_44 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_6 : BitVec 32 := 0#32
  let v13 : BitVec 32 := Scalar.xori v5 c0_i32_6
  let c2_i32_45 : BitVec 32 := 2#32
  let v58 : BitVec 32 := Scalar.muli v13 c2_i32_45
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v14 : BitVec 32 := Scalar.xori v8 c1_i32_7
  let c1_i32_46 : BitVec 32 := 1#32
  let v60 : BitVec 32 := Scalar.muli v14 c1_i32_46
  let v61 : BitVec 32 := Scalar.addi v59 v60
  v61.toNat
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_8 : BitVec 32 := 0#32
  let v15 : BitVec 32 := Scalar.xori v2 c0_i32_8
  let c4_i32_49 : BitVec 32 := 4#32
  let v66 : BitVec 32 := Scalar.muli v15 c4_i32_49
  let v67 : BitVec 32 := Scalar.addi c0_i32_50 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v16 : BitVec 32 := Scalar.xori v5 c0_i32_9
  let c2_i32_51 : BitVec 32 := 2#32
  let v68 : BitVec 32 := Scalar.muli v16 c2_i32_51
  let v69 : BitVec 32 := Scalar.addi v67 v68
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v17 : BitVec 32 := Scalar.xori v8 c1_i32_10
  let c1_i32_52 : BitVec 32 := 1#32
  let v70 : BitVec 32 := Scalar.muli v17 c1_i32_52
  let v71 : BitVec 32 := Scalar.addi v69 v70
  v71.toNat
def k0_dev5 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_11 : BitVec 32 := 0#32
  let v18 : BitVec 32 := Scalar.xori v2 c0_i32_11
  let c4_i32_54 : BitVec 32 := 4#32
  let v76 : BitVec 32 := Scalar.muli v18 c4_i32_54
  let v77 : BitVec 32 := Scalar.addi c0_i32_55 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_12 : BitVec 32 := 0#32
  let v19 : BitVec 32 := Scalar.xori v5 c0_i32_12
  let c2_i32_56 : BitVec 32 := 2#32
  let v78 : BitVec 32 := Scalar.muli v19 c2_i32_56
  let v79 : BitVec 32 := Scalar.addi v77 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v20 : BitVec 32 := Scalar.xori v8 c1_i32_13
  let c1_i32_57 : BitVec 32 := 1#32
  let v80 : BitVec 32 := Scalar.muli v20 c1_i32_57
  let v81 : BitVec 32 := Scalar.addi v79 v80
  v81.toNat
def k0_dev6 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v21 : BitVec 32 := Scalar.xori v2 c0_i32_14
  let c4_i32_60 : BitVec 32 := 4#32
  let v86 : BitVec 32 := Scalar.muli v21 c4_i32_60
  let v87 : BitVec 32 := Scalar.addi c0_i32_61 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_15 : BitVec 32 := 0#32
  let v22 : BitVec 32 := Scalar.xori v5 c0_i32_15
  let c2_i32_62 : BitVec 32 := 2#32
  let v88 : BitVec 32 := Scalar.muli v22 c2_i32_62
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v23 : BitVec 32 := Scalar.xori v8 c1_i32_16
  let c1_i32_63 : BitVec 32 := 1#32
  let v90 : BitVec 32 := Scalar.muli v23 c1_i32_63
  let v91 : BitVec 32 := Scalar.addi v89 v90
  v91.toNat
def k0_dev7 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_17 : BitVec 32 := 0#32
  let v24 : BitVec 32 := Scalar.xori v2 c0_i32_17
  let c4_i32_65 : BitVec 32 := 4#32
  let v96 : BitVec 32 := Scalar.muli v24 c4_i32_65
  let v97 : BitVec 32 := Scalar.addi c0_i32_66 v96
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_18 : BitVec 32 := 0#32
  let v25 : BitVec 32 := Scalar.xori v5 c0_i32_18
  let c2_i32_67 : BitVec 32 := 2#32
  let v98 : BitVec 32 := Scalar.muli v25 c2_i32_67
  let v99 : BitVec 32 := Scalar.addi v97 v98
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v26 : BitVec 32 := Scalar.xori v8 c1_i32_19
  let c1_i32_68 : BitVec 32 := 1#32
  let v100 : BitVec 32 := Scalar.muli v26 c1_i32_68
  let v101 : BitVec 32 := Scalar.addi v99 v100
  v101.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none
-- ==== SiblingMixRef.lean ====
abbrev S51200x1024 : Shape := ⟨2, ![51200, 1024]⟩
abbrev S8192x512 : Shape := ⟨2, ![8192, 512]⟩
abbrev S8192x1024 : Shape := ⟨2, ![8192, 1024]⟩
abbrev S4x2x6400x1024 : Shape := ⟨4, ![4, 2, 6400, 1024]⟩
abbrev S4x2x1024x512 : Shape := ⟨4, ![4, 2, 1024, 512]⟩
abbrev S4x2x1024x1024 : Shape := ⟨4, ![4, 2, 1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S51200x1024, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S8192x512, .f32⟩
  | .hbm, ⟨5, _⟩ => ⟨S8192x1024, .f32⟩
  | .hbm, ⟨6, _⟩ => ⟨S4x2x6400x1024, .f32⟩
  | .hbm, ⟨7, _⟩ => ⟨S4x2x6400x1024, .f32⟩
  | .hbm, ⟨8, _⟩ => ⟨S51200x1024, .f32⟩
  | .hbm, ⟨9, _⟩ => ⟨S4x2x1024x512, .f32⟩
  | .hbm, ⟨10, _⟩ => ⟨S4x2x1024x512, .f32⟩
  | .hbm, ⟨11, _⟩ => ⟨S8192x512, .f32⟩
  | .hbm, ⟨12, _⟩ => ⟨S4x2x1024x1024, .f32⟩
  | .hbm, ⟨13, _⟩ => ⟨S4x2x1024x1024, .f32⟩
  | .hbm, ⟨14, _⟩ => ⟨S8192x1024, .f32⟩
  | .hbm, ⟨15, _⟩ => ⟨S4x2x1024x1024, .f32⟩
  | .hbm, ⟨16, _⟩ => ⟨S4x2x1024x1024, .f32⟩
  | .hbm, ⟨17, _⟩ => ⟨S8192x1024, .f32⟩
  | .hbm, ⟨18, _⟩ => ⟨S4x2x1024x512, .f32⟩
  | .hbm, ⟨19, _⟩ => ⟨S4x2x1024x512, .f32⟩
  | .hbm, ⟨20, _⟩ => ⟨S8192x512, .f32⟩
  | .hbm, ⟨21, _⟩ => ⟨S4x2x1024x1024, .f32⟩
  | .hbm, ⟨22, _⟩ => ⟨S4x2x1024x1024, .f32⟩
  | .hbm, ⟨23, _⟩ => ⟨S8192x1024, .f32⟩
  | _, _ => ⟨S51200x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== GatherMix.lean ====
abbrev S1600x1024 : Shape := ⟨2, ![1600, 1024]⟩
abbrev S256x512 : Shape := ⟨2, ![256, 512]⟩
abbrev S256x1024 : Shape := ⟨2, ![256, 1024]⟩
abbrev S4x256 : Shape := ⟨2, ![4, 256]⟩
abbrev S4x1600x1024 : Shape := ⟨3, ![4, 1600, 1024]⟩
abbrev S4x256x512 : Shape := ⟨3, ![4, 256, 512]⟩
abbrev S4x256x1024 : Shape := ⟨3, ![4, 256, 1024]⟩
abbrev S4x4x256 : Shape := ⟨3, ![4, 4, 256]⟩
abbrev S21 : Shape := ⟨1, ![21]⟩
abbrev S7 : Shape := ⟨1, ![7]⟩
abbrev S8x128 : Shape := ⟨2, ![8, 128]⟩
abbrev S_ : Shape := ⟨0, ![]⟩
abbrev S1 : Shape := ⟨1, ![1]⟩
abbrev S1x1600x1024 : Shape := ⟨3, ![1, 1600, 1024]⟩
abbrev S1x256x512 : Shape := ⟨3, ![1, 256, 512]⟩
abbrev S1x256x1024 : Shape := ⟨3, ![1, 256, 1024]⟩
abbrev S1x4x256 : Shape := ⟨3, ![1, 4, 256]⟩

abbrev nBuf : Space → Nat
  | .hbm => 22
  | .vmem => 1
  | .smem => 0
  | _ => 0

abbrev bufTy : (tb : Table) → Fin (tcTables nBuf tb) → BufTy
  | .hbm, ⟨0, _⟩ => ⟨S1600x1024, .bf16⟩
  | .hbm, ⟨1, _⟩ => ⟨S256x512, .bf16⟩
  | .hbm, ⟨2, _⟩ => ⟨S256x1024, .bf16⟩
  | .hbm, ⟨3, _⟩ => ⟨S256x1024, .bf16⟩
  | .hbm, ⟨4, _⟩ => ⟨S256x512, .bf16⟩
  | .hbm, ⟨5, _⟩ => ⟨S256x1024, .bf16⟩
  | .hbm, ⟨6, _⟩ => ⟨S4x256, .f32⟩
  | .hbm, ⟨7, _⟩ => ⟨S4x1600x1024, .bf16⟩
  | .hbm, ⟨8, _⟩ => ⟨S4x256x512, .bf16⟩
  | .hbm, ⟨9, _⟩ => ⟨S4x256x1024, .bf16⟩
  | .hbm, ⟨10, _⟩ => ⟨S4x256x1024, .bf16⟩
  | .hbm, ⟨11, _⟩ => ⟨S4x256x512, .bf16⟩
  | .hbm, ⟨12, _⟩ => ⟨S4x256x1024, .bf16⟩
  | .hbm, ⟨13, _⟩ => ⟨S4x4x256, .f32⟩
  | .hbm, ⟨14, _⟩ => ⟨S1600x1024, .bf16⟩
  | .hbm, ⟨15, _⟩ => ⟨S256x512, .bf16⟩
  | .hbm, ⟨16, _⟩ => ⟨S256x1024, .bf16⟩
  | .hbm, ⟨17, _⟩ => ⟨S256x1024, .bf16⟩
  | .hbm, ⟨18, _⟩ => ⟨S256x512, .bf16⟩
  | .hbm, ⟨19, _⟩ => ⟨S256x1024, .bf16⟩
  | .hbm, ⟨20, _⟩ => ⟨S4x256, .f32⟩
  | .hbm, ⟨21, _⟩ => ⟨S8x128, .f32⟩
  | .local _ .vmem, ⟨0, _⟩ => ⟨S8x128, .f32⟩
  | _, _ => ⟨S1600x1024, .bf16⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 50 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_3 : Ref sig .tc := ⟨.hbm, 14, rfl⟩
abbrev main_v8_4 : Ref sig .tc := ⟨.hbm, 15, rfl⟩
abbrev main_v8_5 : Ref sig .tc := ⟨.hbm, 16, rfl⟩
abbrev main_v8_6 : Ref sig .tc := ⟨.hbm, 17, rfl⟩
abbrev main_v8_7 : Ref sig .tc := ⟨.hbm, 18, rfl⟩
abbrev main_v8_8 : Ref sig .tc := ⟨.hbm, 19, rfl⟩
abbrev main_v8_9 : Ref sig .tc := ⟨.hbm, 20, rfl⟩
abbrev main_v8_17 : Ref sig .tc := ⟨.hbm, 21, rfl⟩
abbrev cc0_stg0_0 : Ref sig .tc := ⟨.vmem, 0, rfl⟩
abbrev cc0_sem0_0 : DmaSem sig := 49
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_77 : BitVec 32 := 0#32
  let v74 : BitVec 32 := Dev.word d0
  let c4_i32_67 : BitVec 32 := 4#32
  let v75 : BitVec 32 := Scalar.divsi v74 c4_i32_67
  let c2_i32_66 : BitVec 32 := 2#32
  let v76 : BitVec 32 := Scalar.remsi v75 c2_i32_66
  let c1_i32_72 : BitVec 32 := 1#32
  let v84 : BitVec 32 := Scalar.xori v76 c1_i32_72
  let c4_i32_76 : BitVec 32 := 4#32
  let v87 : BitVec 32 := Scalar.muli v84 c4_i32_76
  let v88 : BitVec 32 := Scalar.addi c0_i32_77 v87
  let v77 : BitVec 32 := Dev.word d0
  let c2_i32_69 : BitVec 32 := 2#32
  let v78 : BitVec 32 := Scalar.divsi v77 c2_i32_69
  let c2_i32_68 : BitVec 32 := 2#32
  let v79 : BitVec 32 := Scalar.remsi v78 c2_i32_68
  let c0_i32_73 : BitVec 32 := 0#32
  let v85 : BitVec 32 := Scalar.xori v79 c0_i32_73
  let c2_i32_78 : BitVec 32 := 2#32
  let v89 : BitVec 32 := Scalar.muli v85 c2_i32_78
  let v90 : BitVec 32 := Scalar.addi v88 v89
  let v80 : BitVec 32 := Dev.word d0
  let c1_i32_71 : BitVec 32 := 1#32
  let v81 : BitVec 32 := Scalar.divsi v80 c1_i32_71
  let c2_i32_70 : BitVec 32 := 2#32
  let v82 : BitVec 32 := Scalar.remsi v81 c2_i32_70
  let c0_i32_74 : BitVec 32 := 0#32
  let v86 : BitVec 32 := Scalar.xori v82 c0_i32_74
  let c1_i32_79 : BitVec 32 := 1#32
  let v91 : BitVec 32 := Scalar.muli v86 c1_i32_79
  let v92 : BitVec 32 := Scalar.addi v90 v91
  v92.toNat
def k0_dev2 (d0 : Dev nD) : Nat :=
  let c0_i32_85 : BitVec 32 := 0#32
  let v74 : BitVec 32 := Dev.word d0
  let c4_i32_67 : BitVec 32 := 4#32
  let v75 : BitVec 32 := Scalar.divsi v74 c4_i32_67
  let c2_i32_66 : BitVec 32 := 2#32
  let v76 : BitVec 32 := Scalar.remsi v75 c2_i32_66
  let c0_i32_80 : BitVec 32 := 0#32
  let v93 : BitVec 32 := Scalar.xori v76 c0_i32_80
  let c4_i32_84 : BitVec 32 := 4#32
  let v96 : BitVec 32 := Scalar.muli v93 c4_i32_84
  let v97 : BitVec 32 := Scalar.addi c0_i32_85 v96
  let v77 : BitVec 32 := Dev.word d0
  let c2_i32_69 : BitVec 32 := 2#32
  let v78 : BitVec 32 := Scalar.divsi v77 c2_i32_69
  let c2_i32_68 : BitVec 32 := 2#32
  let v79 : BitVec 32 := Scalar.remsi v78 c2_i32_68
  let c1_i32_81 : BitVec 32 := 1#32
  let v94 : BitVec 32 := Scalar.xori v79 c1_i32_81
  let c2_i32_86 : BitVec 32 := 2#32
  let v98 : BitVec 32 := Scalar.muli v94 c2_i32_86
  let v99 : BitVec 32 := Scalar.addi v97 v98
  let v80 : BitVec 32 := Dev.word d0
  let c1_i32_71 : BitVec 32 := 1#32
  let v81 : BitVec 32 := Scalar.divsi v80 c1_i32_71
  let c2_i32_70 : BitVec 32 := 2#32
  let v82 : BitVec 32 := Scalar.remsi v81 c2_i32_70
  let c0_i32_82 : BitVec 32 := 0#32
  let v95 : BitVec 32 := Scalar.xori v82 c0_i32_82
  let c1_i32_87 : BitVec 32 := 1#32
  let v100 : BitVec 32 := Scalar.muli v95 c1_i32_87
  let v101 : BitVec 32 := Scalar.addi v99 v100
  v101.toNat
def k0_dev3 (d0 : Dev nD) : Nat :=
  let c0_i32_93 : BitVec 32 := 0#32
  let v74 : BitVec 32 := Dev.word d0
  let c4_i32_67 : BitVec 32 := 4#32
  let v75 : BitVec 32 := Scalar.divsi v74 c4_i32_67
  let c2_i32_66 : BitVec 32 := 2#32
  let v76 : BitVec 32 := Scalar.remsi v75 c2_i32_66
  let c1_i32_88 : BitVec 32 := 1#32
  let v102 : BitVec 32 := Scalar.xori v76 c1_i32_88
  let c4_i32_92 : BitVec 32 := 4#32
  let v105 : BitVec 32 := Scalar.muli v102 c4_i32_92
  let v106 : BitVec 32 := Scalar.addi c0_i32_93 v105
  let v77 : BitVec 32 := Dev.word d0
  let c2_i32_69 : BitVec 32 := 2#32
  let v78 : BitVec 32 := Scalar.divsi v77 c2_i32_69
  let c2_i32_68 : BitVec 32 := 2#32
  let v79 : BitVec 32 := Scalar.remsi v78 c2_i32_68
  let c1_i32_89 : BitVec 32 := 1#32
  let v103 : BitVec 32 := Scalar.xori v79 c1_i32_89
  let c2_i32_94 : BitVec 32 := 2#32
  let v107 : BitVec 32 := Scalar.muli v103 c2_i32_94
  let v108 : BitVec 32 := Scalar.addi v106 v107
  let v80 : BitVec 32 := Dev.word d0
  let c1_i32_71 : BitVec 32 := 1#32
  let v81 : BitVec 32 := Scalar.divsi v80 c1_i32_71
  let c2_i32_70 : BitVec 32 := 2#32
  let v82 : BitVec 32 := Scalar.remsi v81 c2_i32_70
  let c0_i32_90 : BitVec 32 := 0#32
  let v104 : BitVec 32 := Scalar.xori v82 c0_i32_90
  let c1_i32_95 : BitVec 32 := 1#32
  let v109 : BitVec 32 := Scalar.muli v104 c1_i32_95
  let v110 : BitVec 32 := Scalar.addi v108 v109
  v110.toNat
def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_102 : BitVec 32 := 0#32
  let c0_i32_103 : BitVec 32 := 0#32
  ![v10.toNat, 0, 0]
def k0_dev4 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_4 : BitVec 32 := 1#32
  let v11 : BitVec 32 := Scalar.xori v2 c1_i32_4
  let c4_i32_98 : BitVec 32 := 4#32
  let v111 : BitVec 32 := Scalar.muli v11 c4_i32_98
  let v112 : BitVec 32 := Scalar.addi c0_i32_99 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v12 : BitVec 32 := Scalar.xori v5 c0_i32
  let c2_i32_100 : BitVec 32 := 2#32
  let v113 : BitVec 32 := Scalar.muli v12 c2_i32_100
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_5 : BitVec 32 := 0#32
  let v13 : BitVec 32 := Scalar.xori v8 c0_i32_5
  let c1_i32_101 : BitVec 32 := 1#32
  let v115 : BitVec 32 := Scalar.muli v13 c1_i32_101
  let v116 : BitVec 32 := Scalar.addi v114 v115
  v116.toNat
def k0_dev5 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_6 : BitVec 32 := 0#32
  let v14 : BitVec 32 := Scalar.xori v2 c0_i32_6
  let c4_i32_106 : BitVec 32 := 4#32
  let v123 : BitVec 32 := Scalar.muli v14 c4_i32_106
  let v124 : BitVec 32 := Scalar.addi c0_i32_107 v123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_7 : BitVec 32 := 1#32
  let v15 : BitVec 32 := Scalar.xori v5 c1_i32_7
  let c2_i32_108 : BitVec 32 := 2#32
  let v125 : BitVec 32 := Scalar.muli v15 c2_i32_108
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_8 : BitVec 32 := 0#32
  let v16 : BitVec 32 := Scalar.xori v8 c0_i32_8
  let c1_i32_109 : BitVec 32 := 1#32
  let v127 : BitVec 32 := Scalar.muli v16 c1_i32_109
  let v128 : BitVec 32 := Scalar.addi v126 v127
  v128.toNat
def k0_dev6 (d0 : Dev nD) : Nat :=
  let c0_i32_115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_9 : BitVec 32 := 1#32
  let v17 : BitVec 32 := Scalar.xori v2 c1_i32_9
  let c4_i32_114 : BitVec 32 := 4#32
  let v135 : BitVec 32 := Scalar.muli v17 c4_i32_114
  let v136 : BitVec 32 := Scalar.addi c0_i32_115 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v18 : BitVec 32 := Scalar.xori v5 c1_i32_10
  let c2_i32_116 : BitVec 32 := 2#32
  let v137 : BitVec 32 := Scalar.muli v18 c2_i32_116
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v19 : BitVec 32 := Scalar.xori v8 c0_i32_11
  let c1_i32_117 : BitVec 32 := 1#32
  let v139 : BitVec 32 := Scalar.muli v19 c1_i32_117
  let v140 : BitVec 32 := Scalar.addi v138 v139
  v140.toNat
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_126 : BitVec 32 := 0#32
  let c0_i32_127 : BitVec 32 := 0#32
  ![v10.toNat, 0, 0]
def k0_dev7 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_12 : BitVec 32 := 1#32
  let v20 : BitVec 32 := Scalar.xori v2 c1_i32_12
  let c4_i32_122 : BitVec 32 := 4#32
  let v147 : BitVec 32 := Scalar.muli v20 c4_i32_122
  let v148 : BitVec 32 := Scalar.addi c0_i32_123 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_13 : BitVec 32 := 0#32
  let v21 : BitVec 32 := Scalar.xori v5 c0_i32_13
  let c2_i32_124 : BitVec 32 := 2#32
  let v149 : BitVec 32 := Scalar.muli v21 c2_i32_124
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_14 : BitVec 32 := 0#32
  let v22 : BitVec 32 := Scalar.xori v8 c0_i32_14
  let c1_i32_125 : BitVec 32 := 1#32
  let v151 : BitVec 32 := Scalar.muli v22 c1_i32_125
  let v152 : BitVec 32 := Scalar.addi v150 v151
  v152.toNat
def k0_dev8 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_15 : BitVec 32 := 0#32
  let v23 : BitVec 32 := Scalar.xori v2 c0_i32_15
  let c4_i32_130 : BitVec 32 := 4#32
  let v159 : BitVec 32 := Scalar.muli v23 c4_i32_130
  let v160 : BitVec 32 := Scalar.addi c0_i32_131 v159
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_16 : BitVec 32 := 1#32
  let v24 : BitVec 32 := Scalar.xori v5 c1_i32_16
  let c2_i32_132 : BitVec 32 := 2#32
  let v161 : BitVec 32 := Scalar.muli v24 c2_i32_132
  let v162 : BitVec 32 := Scalar.addi v160 v161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_17 : BitVec 32 := 0#32
  let v25 : BitVec 32 := Scalar.xori v8 c0_i32_17
  let c1_i32_133 : BitVec 32 := 1#32
  let v163 : BitVec 32 := Scalar.muli v25 c1_i32_133
  let v164 : BitVec 32 := Scalar.addi v162 v163
  v164.toNat
def k0_dev9 (d0 : Dev nD) : Nat :=
  let c0_i32_138 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_18 : BitVec 32 := 1#32
  let v26 : BitVec 32 := Scalar.xori v2 c1_i32_18
  let c4_i32_137 : BitVec 32 := 4#32
  let v171 : BitVec 32 := Scalar.muli v26 c4_i32_137
  let v172 : BitVec 32 := Scalar.addi c0_i32_138 v171
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_19 : BitVec 32 := 1#32
  let v27 : BitVec 32 := Scalar.xori v5 c1_i32_19
  let c2_i32_139 : BitVec 32 := 2#32
  let v173 : BitVec 32 := Scalar.muli v27 c2_i32_139
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_20 : BitVec 32 := 0#32
  let v28 : BitVec 32 := Scalar.xori v8 c0_i32_20
  let c1_i32_140 : BitVec 32 := 1#32
  let v175 : BitVec 32 := Scalar.muli v28 c1_i32_140
  let v176 : BitVec 32 := Scalar.addi v174 v175
  v176.toNat
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_148 : BitVec 32 := 0#32
  let c0_i32_149 : BitVec 32 := 0#32
  ![v10.toNat, 0, 0]
def k0_dev10 (d0 : Dev nD) : Nat :=
  let c0_i32_145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_21 : BitVec 32 := 1#32
  let v29 : BitVec 32 := Scalar.xori v2 c1_i32_21
  let c4_i32_144 : BitVec 32 := 4#32
  let v183 : BitVec 32 := Scalar.muli v29 c4_i32_144
  let v184 : BitVec 32 := Scalar.addi c0_i32_145 v183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_22 : BitVec 32 := 0#32
  let v30 : BitVec 32 := Scalar.xori v5 c0_i32_22
  let c2_i32_146 : BitVec 32 := 2#32
  let v185 : BitVec 32 := Scalar.muli v30 c2_i32_146
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_23 : BitVec 32 := 0#32
  let v31 : BitVec 32 := Scalar.xori v8 c0_i32_23
  let c1_i32_147 : BitVec 32 := 1#32
  let v187 : BitVec 32 := Scalar.muli v31 c1_i32_147
  let v188 : BitVec 32 := Scalar.addi v186 v187
  v188.toNat
def k0_dev11 (d0 : Dev nD) : Nat :=
  let c0_i32_152 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_24 : BitVec 32 := 0#32
  let v32 : BitVec 32 := Scalar.xori v2 c0_i32_24
  let c4_i32_151 : BitVec 32 := 4#32
  let v195 : BitVec 32 := Scalar.muli v32 c4_i32_151
  let v196 : BitVec 32 := Scalar.addi c0_i32_152 v195
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_25 : BitVec 32 := 1#32
  let v33 : BitVec 32 := Scalar.xori v5 c1_i32_25
  let c2_i32_153 : BitVec 32 := 2#32
  let v197 : BitVec 32 := Scalar.muli v33 c2_i32_153
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_26 : BitVec 32 := 0#32
  let v34 : BitVec 32 := Scalar.xori v8 c0_i32_26
  let c1_i32_154 : BitVec 32 := 1#32
  let v199 : BitVec 32 := Scalar.muli v34 c1_i32_154
  let v200 : BitVec 32 := Scalar.addi v198 v199
  v200.toNat
def k0_dev12 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_27 : BitVec 32 := 1#32
  let v35 : BitVec 32 := Scalar.xori v2 c1_i32_27
  let c4_i32_158 : BitVec 32 := 4#32
  let v207 : BitVec 32 := Scalar.muli v35 c4_i32_158
  let v208 : BitVec 32 := Scalar.addi c0_i32_159 v207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_28 : BitVec 32 := 1#32
  let v36 : BitVec 32 := Scalar.xori v5 c1_i32_28
  let c2_i32_160 : BitVec 32 := 2#32
  let v209 : BitVec 32 := Scalar.muli v36 c2_i32_160
  let v210 : BitVec 32 := Scalar.addi v208 v209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let v37 : BitVec 32 := Scalar.xori v8 c0_i32_29
  let c1_i32_161 : BitVec 32 := 1#32
  let v211 : BitVec 32 := Scalar.muli v37 c1_i32_161
  let v212 : BitVec 32 := Scalar.addi v210 v211
  v212.toNat
def k0_dev13 (d0 : Dev nD) : Nat :=
  let c0_i32_166 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_30 : BitVec 32 := 1#32
  let v38 : BitVec 32 := Scalar.xori v2 c1_i32_30
  let c4_i32_165 : BitVec 32 := 4#32
  let v219 : BitVec 32 := Scalar.muli v38 c4_i32_165
  let v220 : BitVec 32 := Scalar.addi c0_i32_166 v219
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_31 : BitVec 32 := 0#32
  let v39 : BitVec 32 := Scalar.xori v5 c0_i32_31
  let c2_i32_167 : BitVec 32 := 2#32
  let v221 : BitVec 32 := Scalar.muli v39 c2_i32_167
  let v222 : BitVec 32 := Scalar.addi v220 v221
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_32 : BitVec 32 := 0#32
  let v40 : BitVec 32 := Scalar.xori v8 c0_i32_32
  let c1_i32_168 : BitVec 32 := 1#32
  let v223 : BitVec 32 := Scalar.muli v40 c1_i32_168
  let v224 : BitVec 32 := Scalar.addi v222 v223
  v224.toNat
def k0_dev14 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_33 : BitVec 32 := 0#32
  let v41 : BitVec 32 := Scalar.xori v2 c0_i32_33
  let c4_i32_172 : BitVec 32 := 4#32
  let v231 : BitVec 32 := Scalar.muli v41 c4_i32_172
  let v232 : BitVec 32 := Scalar.addi c0_i32_173 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v42 : BitVec 32 := Scalar.xori v5 c1_i32_34
  let c2_i32_174 : BitVec 32 := 2#32
  let v233 : BitVec 32 := Scalar.muli v42 c2_i32_174
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_35 : BitVec 32 := 0#32
  let v43 : BitVec 32 := Scalar.xori v8 c0_i32_35
  let c1_i32_175 : BitVec 32 := 1#32
  let v235 : BitVec 32 := Scalar.muli v43 c1_i32_175
  let v236 : BitVec 32 := Scalar.addi v234 v235
  v236.toNat
def k0_dev15 (d0 : Dev nD) : Nat :=
  let c0_i32_180 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_36 : BitVec 32 := 1#32
  let v44 : BitVec 32 := Scalar.xori v2 c1_i32_36
  let c4_i32_179 : BitVec 32 := 4#32
  let v243 : BitVec 32 := Scalar.muli v44 c4_i32_179
  let v244 : BitVec 32 := Scalar.addi c0_i32_180 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_37 : BitVec 32 := 1#32
  let v45 : BitVec 32 := Scalar.xori v5 c1_i32_37
  let c2_i32_181 : BitVec 32 := 2#32
  let v245 : BitVec 32 := Scalar.muli v45 c2_i32_181
  let v246 : BitVec 32 := Scalar.addi v244 v245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_38 : BitVec 32 := 0#32
  let v46 : BitVec 32 := Scalar.xori v8 c0_i32_38
  let c1_i32_182 : BitVec 32 := 1#32
  let v247 : BitVec 32 := Scalar.muli v46 c1_i32_182
  let v248 : BitVec 32 := Scalar.addi v246 v247
  v248.toNat
def k0_dev16 (d0 : Dev nD) : Nat :=
  let c0_i32_187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_39 : BitVec 32 := 1#32
  let v47 : BitVec 32 := Scalar.xori v2 c1_i32_39
  let c4_i32_186 : BitVec 32 := 4#32
  let v255 : BitVec 32 := Scalar.muli v47 c4_i32_186
  let v256 : BitVec 32 := Scalar.addi c0_i32_187 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_40 : BitVec 32 := 0#32
  let v48 : BitVec 32 := Scalar.xori v5 c0_i32_40
  let c2_i32_188 : BitVec 32 := 2#32
  let v257 : BitVec 32 := Scalar.muli v48 c2_i32_188
  let v258 : BitVec 32 := Scalar.addi v256 v257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_41 : BitVec 32 := 0#32
  let v49 : BitVec 32 := Scalar.xori v8 c0_i32_41
  let c1_i32_189 : BitVec 32 := 1#32
  let v259 : BitVec 32 := Scalar.muli v49 c1_i32_189
  let v260 : BitVec 32 := Scalar.addi v258 v259
  v260.toNat
def k0_dev17 (d0 : Dev nD) : Nat :=
  let c0_i32_194 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_42 : BitVec 32 := 0#32
  let v50 : BitVec 32 := Scalar.xori v2 c0_i32_42
  let c4_i32_193 : BitVec 32 := 4#32
  let v267 : BitVec 32 := Scalar.muli v50 c4_i32_193
  let v268 : BitVec 32 := Scalar.addi c0_i32_194 v267
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_43 : BitVec 32 := 1#32
  let v51 : BitVec 32 := Scalar.xori v5 c1_i32_43
  let c2_i32_195 : BitVec 32 := 2#32
  let v269 : BitVec 32 := Scalar.muli v51 c2_i32_195
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_44 : BitVec 32 := 0#32
  let v52 : BitVec 32 := Scalar.xori v8 c0_i32_44
  let c1_i32_196 : BitVec 32 := 1#32
  let v271 : BitVec 32 := Scalar.muli v52 c1_i32_196
  let v272 : BitVec 32 := Scalar.addi v270 v271
  v272.toNat
def k0_dev18 (d0 : Dev nD) : Nat :=
  let c0_i32_201 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_45 : BitVec 32 := 1#32
  let v53 : BitVec 32 := Scalar.xori v2 c1_i32_45
  let c4_i32_200 : BitVec 32 := 4#32
  let v279 : BitVec 32 := Scalar.muli v53 c4_i32_200
  let v280 : BitVec 32 := Scalar.addi c0_i32_201 v279
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_46 : BitVec 32 := 1#32
  let v54 : BitVec 32 := Scalar.xori v5 c1_i32_46
  let c2_i32_202 : BitVec 32 := 2#32
  let v281 : BitVec 32 := Scalar.muli v54 c2_i32_202
  let v282 : BitVec 32 := Scalar.addi v280 v281
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_47 : BitVec 32 := 0#32
  let v55 : BitVec 32 := Scalar.xori v8 c0_i32_47
  let c1_i32_203 : BitVec 32 := 1#32
  let v283 : BitVec 32 := Scalar.muli v55 c1_i32_203
  let v284 : BitVec 32 := Scalar.addi v282 v283
  v284.toNat
def k0_dev19 (d0 : Dev nD) : Nat :=
  let c0_i32_208 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_48 : BitVec 32 := 1#32
  let v56 : BitVec 32 := Scalar.xori v2 c1_i32_48
  let c4_i32_207 : BitVec 32 := 4#32
  let v291 : BitVec 32 := Scalar.muli v56 c4_i32_207
  let v292 : BitVec 32 := Scalar.addi c0_i32_208 v291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_49 : BitVec 32 := 0#32
  let v57 : BitVec 32 := Scalar.xori v5 c0_i32_49
  let c2_i32_209 : BitVec 32 := 2#32
  let v293 : BitVec 32 := Scalar.muli v57 c2_i32_209
  let v294 : BitVec 32 := Scalar.addi v292 v293
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_50 : BitVec 32 := 0#32
  let v58 : BitVec 32 := Scalar.xori v8 c0_i32_50
  let c1_i32_210 : BitVec 32 := 1#32
  let v295 : BitVec 32 := Scalar.muli v58 c1_i32_210
  let v296 : BitVec 32 := Scalar.addi v294 v295
  v296.toNat
def k0_dev20 (d0 : Dev nD) : Nat :=
  let c0_i32_215 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_51 : BitVec 32 := 0#32
  let v59 : BitVec 32 := Scalar.xori v2 c0_i32_51
  let c4_i32_214 : BitVec 32 := 4#32
  let v303 : BitVec 32 := Scalar.muli v59 c4_i32_214
  let v304 : BitVec 32 := Scalar.addi c0_i32_215 v303
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_52 : BitVec 32 := 1#32
  let v60 : BitVec 32 := Scalar.xori v5 c1_i32_52
  let c2_i32_216 : BitVec 32 := 2#32
  let v305 : BitVec 32 := Scalar.muli v60 c2_i32_216
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_53 : BitVec 32 := 0#32
  let v61 : BitVec 32 := Scalar.xori v8 c0_i32_53
  let c1_i32_217 : BitVec 32 := 1#32
  let v307 : BitVec 32 := Scalar.muli v61 c1_i32_217
  let v308 : BitVec 32 := Scalar.addi v306 v307
  v308.toNat
def k0_dev21 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_54 : BitVec 32 := 1#32
  let v62 : BitVec 32 := Scalar.xori v2 c1_i32_54
  let c4_i32_221 : BitVec 32 := 4#32
  let v315 : BitVec 32 := Scalar.muli v62 c4_i32_221
  let v316 : BitVec 32 := Scalar.addi c0_i32_222 v315
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_55 : BitVec 32 := 1#32
  let v63 : BitVec 32 := Scalar.xori v5 c1_i32_55
  let c2_i32_223 : BitVec 32 := 2#32
  let v317 : BitVec 32 := Scalar.muli v63 c2_i32_223
  let v318 : BitVec 32 := Scalar.addi v316 v317
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_56 : BitVec 32 := 0#32
  let v64 : BitVec 32 := Scalar.xori v8 c0_i32_56
  let c1_i32_224 : BitVec 32 := 1#32
  let v319 : BitVec 32 := Scalar.muli v64 c1_i32_224
  let v320 : BitVec 32 := Scalar.addi v318 v319
  v320.toNat
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_232 : BitVec 32 := 0#32
  let c0_i32_233 : BitVec 32 := 0#32
  ![v10.toNat, 0, 0]
def k0_dev22 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_57 : BitVec 32 := 1#32
  let v65 : BitVec 32 := Scalar.xori v2 c1_i32_57
  let c4_i32_228 : BitVec 32 := 4#32
  let v327 : BitVec 32 := Scalar.muli v65 c4_i32_228
  let v328 : BitVec 32 := Scalar.addi c0_i32_229 v327
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_58 : BitVec 32 := 0#32
  let v66 : BitVec 32 := Scalar.xori v5 c0_i32_58
  let c2_i32_230 : BitVec 32 := 2#32
  let v329 : BitVec 32 := Scalar.muli v66 c2_i32_230
  let v330 : BitVec 32 := Scalar.addi v328 v329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_59 : BitVec 32 := 0#32
  let v67 : BitVec 32 := Scalar.xori v8 c0_i32_59
  let c1_i32_231 : BitVec 32 := 1#32
  let v331 : BitVec 32 := Scalar.muli v67 c1_i32_231
  let v332 : BitVec 32 := Scalar.addi v330 v331
  v332.toNat
def k0_dev23 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_60 : BitVec 32 := 0#32
  let v68 : BitVec 32 := Scalar.xori v2 c0_i32_60
  let c4_i32_235 : BitVec 32 := 4#32
  let v339 : BitVec 32 := Scalar.muli v68 c4_i32_235
  let v340 : BitVec 32 := Scalar.addi c0_i32_236 v339
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_61 : BitVec 32 := 1#32
  let v69 : BitVec 32 := Scalar.xori v5 c1_i32_61
  let c2_i32_237 : BitVec 32 := 2#32
  let v341 : BitVec 32 := Scalar.muli v69 c2_i32_237
  let v342 : BitVec 32 := Scalar.addi v340 v341
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_62 : BitVec 32 := 0#32
  let v70 : BitVec 32 := Scalar.xori v8 c0_i32_62
  let c1_i32_238 : BitVec 32 := 1#32
  let v343 : BitVec 32 := Scalar.muli v70 c1_i32_238
  let v344 : BitVec 32 := Scalar.addi v342 v343
  v344.toNat
def k0_dev24 (d0 : Dev nD) : Nat :=
  let c0_i32_243 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_63 : BitVec 32 := 1#32
  let v71 : BitVec 32 := Scalar.xori v2 c1_i32_63
  let c4_i32_242 : BitVec 32 := 4#32
  let v351 : BitVec 32 := Scalar.muli v71 c4_i32_242
  let v352 : BitVec 32 := Scalar.addi c0_i32_243 v351
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_64 : BitVec 32 := 1#32
  let v72 : BitVec 32 := Scalar.xori v5 c1_i32_64
  let c2_i32_244 : BitVec 32 := 2#32
  let v353 : BitVec 32 := Scalar.muli v72 c2_i32_244
  let v354 : BitVec 32 := Scalar.addi v352 v353
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_65 : BitVec 32 := 0#32
  let v73 : BitVec 32 := Scalar.xori v8 c0_i32_65
  let c1_i32_245 : BitVec 32 := 1#32
  let v355 : BitVec 32 := Scalar.muli v73 c1_i32_245
  let v356 : BitVec 32 := Scalar.addi v354 v355
  v356.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_90 : BitVec 32 := 0#32
  let c0_i32_91 : BitVec 32 := 0#32
  ![v10.toNat, 0, 0]
def k1_off2 (d0 : Dev nD) (c1_i32_4 : BitVec 32) (c0_i32 : BitVec 32) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.xori v2 c1_i32_4
  let v14 : BitVec 32 := Scalar.muli c2_i32_6 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.xori v5 c0_i32
  let v15 : BitVec 32 := Scalar.addi v14 v12
  let c0_i32_98 : BitVec 32 := 0#32
  let c0_i32_99 : BitVec 32 := 0#32
  ![v15.toNat, 0, 0]
def k1_off2_at (r : Fin 3) : BitVec 32 × BitVec 32 :=
  if r.val < 1 then
    (1#32, 0#32)
  else
    if r.val < 2 then
      (0#32, 1#32)
    else
      (1#32, 1#32)
def k1_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_128 : BitVec 32 := 0#32
  let c0_i32_129 : BitVec 32 := 0#32
  ![v10.toNat, 0, 0]
def k1_off4 (d0 : Dev nD) (c1_i32_15 : BitVec 32) (c0_i32_16 : BitVec 32) : Fin 3 → Nat :=
  let c2_i32_18 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.xori v2 c1_i32_15
  let v29 : BitVec 32 := Scalar.muli c2_i32_18 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.xori v5 c0_i32_16
  let v30 : BitVec 32 := Scalar.addi v29 v27
  let c0_i32_136 : BitVec 32 := 0#32
  let c0_i32_137 : BitVec 32 := 0#32
  ![v30.toNat, 0, 0]
def k1_off4_at (r : Fin 3) : BitVec 32 × BitVec 32 :=
  if r.val < 1 then
    (1#32, 0#32)
  else
    if r.val < 2 then
      (0#32, 1#32)
    else
      (1#32, 1#32)
def k1_off5 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_165 : BitVec 32 := 0#32
  let c0_i32_166 : BitVec 32 := 0#32
  ![v10.toNat, 0, 0]
def k1_off6 (d0 : Dev nD) (c1_i32_27 : BitVec 32) (c0_i32_28 : BitVec 32) : Fin 3 → Nat :=
  let c2_i32_30 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.xori v2 c1_i32_27
  let v44 : BitVec 32 := Scalar.muli c2_i32_30 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v42 : BitVec 32 := Scalar.xori v5 c0_i32_28
  let v45 : BitVec 32 := Scalar.addi v44 v42
  let c0_i32_173 : BitVec 32 := 0#32
  let c0_i32_174 : BitVec 32 := 0#32
  ![v45.toNat, 0, 0]
def k1_off6_at (r : Fin 3) : BitVec 32 × BitVec 32 :=
  if r.val < 1 then
    (1#32, 0#32)
  else
    if r.val < 2 then
      (0#32, 1#32)
    else
      (1#32, 1#32)
def k1_off7 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_309 : BitVec 32 := 0#32
  let c0_i32_310 : BitVec 32 := 0#32
  ![v10.toNat, 0, 0]
def k1_off8 (d0 : Dev nD) (c1_i32_75 : BitVec 32) (c0_i32_76 : BitVec 32) : Fin 3 → Nat :=
  let c2_i32_78 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v101 : BitVec 32 := Scalar.xori v2 c1_i32_75
  let v104 : BitVec 32 := Scalar.muli c2_i32_78 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v102 : BitVec 32 := Scalar.xori v5 c0_i32_76
  let v105 : BitVec 32 := Scalar.addi v104 v102
  let c0_i32_317 : BitVec 32 := 0#32
  let c0_i32_318 : BitVec 32 := 0#32
  ![v105.toNat, 0, 0]
def k1_off8_at (r : Fin 3) : BitVec 32 × BitVec 32 :=
  if r.val < 1 then
    (1#32, 0#32)
  else
    if r.val < 2 then
      (0#32, 1#32)
    else
      (1#32, 1#32)
-- ==== GatherMixRef.lean ====
abbrev S12800x1024 : Shape := ⟨2, ![12800, 1024]⟩
abbrev S2048x512 : Shape := ⟨2, ![2048, 512]⟩
abbrev S2048x1024 : Shape := ⟨2, ![2048, 1024]⟩
abbrev S32x256 : Shape := ⟨2, ![32, 256]⟩
abbrev S4x2x1600x1024 : Shape := ⟨4, ![4, 2, 1600, 1024]⟩
abbrev S2x4x1600x1024 : Shape := ⟨4, ![2, 4, 1600, 1024]⟩
abbrev S1x2x4x1600x1024 : Shape := ⟨5, ![1, 2, 4, 1600, 1024]⟩
abbrev S4x2x4x1600x1024 : Shape := ⟨5, ![4, 2, 4, 1600, 1024]⟩
abbrev S32x1600x1024 : Shape := ⟨3, ![32, 1600, 1024]⟩
abbrev S4x2x256x512 : Shape := ⟨4, ![4, 2, 256, 512]⟩
abbrev S2x4x256x512 : Shape := ⟨4, ![2, 4, 256, 512]⟩
abbrev S1x2x4x256x512 : Shape := ⟨5, ![1, 2, 4, 256, 512]⟩
abbrev S4x2x4x256x512 : Shape := ⟨5, ![4, 2, 4, 256, 512]⟩
abbrev S32x256x512 : Shape := ⟨3, ![32, 256, 512]⟩
abbrev S4x2x256x1024 : Shape := ⟨4, ![4, 2, 256, 1024]⟩
abbrev S2x4x256x1024 : Shape := ⟨4, ![2, 4, 256, 1024]⟩
abbrev S1x2x4x256x1024 : Shape := ⟨5, ![1, 2, 4, 256, 1024]⟩
abbrev S4x2x4x256x1024 : Shape := ⟨5, ![4, 2, 4, 256, 1024]⟩
abbrev S32x256x1024 : Shape := ⟨3, ![32, 256, 1024]⟩
abbrev S4x2x4x256 : Shape := ⟨4, ![4, 2, 4, 256]⟩
abbrev S2x4x4x256 : Shape := ⟨4, ![2, 4, 4, 256]⟩
abbrev S1x2x4x4x256 : Shape := ⟨5, ![1, 2, 4, 4, 256]⟩
abbrev S4x2x4x4x256 : Shape := ⟨5, ![4, 2, 4, 4, 256]⟩
abbrev S32x4x256 : Shape := ⟨3, ![32, 4, 256]⟩

abbrev nBuf : Space → Nat
  | .hbm => 42
  | .vmem => 0
  | .smem => 0
  | _ => 0

abbrev bufTy : (tb : Table) → Fin (tcTables nBuf tb) → BufTy
  | .hbm, ⟨0, _⟩ => ⟨S12800x1024, .bf16⟩
  | .hbm, ⟨1, _⟩ => ⟨S2048x512, .bf16⟩
  | .hbm, ⟨2, _⟩ => ⟨S2048x1024, .bf16⟩
  | .hbm, ⟨3, _⟩ => ⟨S2048x1024, .bf16⟩
  | .hbm, ⟨4, _⟩ => ⟨S2048x512, .bf16⟩
  | .hbm, ⟨5, _⟩ => ⟨S2048x1024, .bf16⟩
  | .hbm, ⟨6, _⟩ => ⟨S32x256, .f32⟩
  | .hbm, ⟨7, _⟩ => ⟨S4x2x1600x1024, .bf16⟩
  | .hbm, ⟨8, _⟩ => ⟨S2x4x1600x1024, .bf16⟩
  | .hbm, ⟨9, _⟩ => ⟨S1x2x4x1600x1024, .bf16⟩
  | .hbm, ⟨10, _⟩ => ⟨S4x2x4x1600x1024, .bf16⟩
  | .hbm, ⟨11, _⟩ => ⟨S32x1600x1024, .bf16⟩
  | .hbm, ⟨12, _⟩ => ⟨S4x2x256x512, .bf16⟩
  | .hbm, ⟨13, _⟩ => ⟨S2x4x256x512, .bf16⟩
  | .hbm, ⟨14, _⟩ => ⟨S1x2x4x256x512, .bf16⟩
  | .hbm, ⟨15, _⟩ => ⟨S4x2x4x256x512, .bf16⟩
  | .hbm, ⟨16, _⟩ => ⟨S32x256x512, .bf16⟩
  | .hbm, ⟨17, _⟩ => ⟨S4x2x256x1024, .bf16⟩
  | .hbm, ⟨18, _⟩ => ⟨S2x4x256x1024, .bf16⟩
  | .hbm, ⟨19, _⟩ => ⟨S1x2x4x256x1024, .bf16⟩
  | .hbm, ⟨20, _⟩ => ⟨S4x2x4x256x1024, .bf16⟩
  | .hbm, ⟨21, _⟩ => ⟨S32x256x1024, .bf16⟩
  | .hbm, ⟨22, _⟩ => ⟨S4x2x256x1024, .bf16⟩
  | .hbm, ⟨23, _⟩ => ⟨S2x4x256x1024, .bf16⟩
  | .hbm, ⟨24, _⟩ => ⟨S1x2x4x256x1024, .bf16⟩
  | .hbm, ⟨25, _⟩ => ⟨S4x2x4x256x1024, .bf16⟩
  | .hbm, ⟨26, _⟩ => ⟨S32x256x1024, .bf16⟩
  | .hbm, ⟨27, _⟩ => ⟨S4x2x256x512, .bf16⟩
  | .hbm, ⟨28, _⟩ => ⟨S2x4x256x512, .bf16⟩
  | .hbm, ⟨29, _⟩ => ⟨S1x2x4x256x512, .bf16⟩
  | .hbm, ⟨30, _⟩ => ⟨S4x2x4x256x512, .bf16⟩
  | .hbm, ⟨31, _⟩ => ⟨S32x256x512, .bf16⟩
  | .hbm, ⟨32, _⟩ => ⟨S4x2x256x1024, .bf16⟩
  | .hbm, ⟨33, _⟩ => ⟨S2x4x256x1024, .bf16⟩
  | .hbm, ⟨34, _⟩ => ⟨S1x2x4x256x1024, .bf16⟩
  | .hbm, ⟨35, _⟩ => ⟨S4x2x4x256x1024, .bf16⟩
  | .hbm, ⟨36, _⟩ => ⟨S32x256x1024, .bf16⟩
  | .hbm, ⟨37, _⟩ => ⟨S4x2x4x256, .f32⟩
  | .hbm, ⟨38, _⟩ => ⟨S2x4x4x256, .f32⟩
  | .hbm, ⟨39, _⟩ => ⟨S1x2x4x4x256, .f32⟩
  | .hbm, ⟨40, _⟩ => ⟨S4x2x4x4x256, .f32⟩
  | .hbm, ⟨41, _⟩ => ⟨S32x4x256, .f32⟩
  | _, _ => ⟨S12800x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== GatherTwo.lean ====
abbrev S704x1024 : Shape := ⟨2, ![704, 1024]⟩
abbrev S4x704x1024 : Shape := ⟨3, ![4, 704, 1024]⟩
abbrev S6 : Shape := ⟨1, ![6]⟩
abbrev S2 : Shape := ⟨1, ![2]⟩
abbrev S8x128 : Shape := ⟨2, ![8, 128]⟩
abbrev S_ : Shape := ⟨0, ![]⟩
abbrev S1 : Shape := ⟨1, ![1]⟩
abbrev S1x704x1024 : Shape := ⟨3, ![1, 704, 1024]⟩

abbrev nBuf : Space → Nat
  | .hbm => 7
  | .vmem => 1
  | .smem => 0
  | _ => 0

abbrev bufTy : (tb : Table) → Fin (tcTables nBuf tb) → BufTy
  | .hbm, ⟨0, _⟩ => ⟨S704x1024, .bf16⟩
  | .hbm, ⟨1, _⟩ => ⟨S704x1024, .bf16⟩
  | .hbm, ⟨2, _⟩ => ⟨S4x704x1024, .bf16⟩
  | .hbm, ⟨3, _⟩ => ⟨S4x704x1024, .bf16⟩
  | .hbm, ⟨4, _⟩ => ⟨S704x1024, .bf16⟩
  | .hbm, ⟨5, _⟩ => ⟨S704x1024, .bf16⟩
  | .hbm, ⟨6, _⟩ => ⟨S8x128, .f32⟩
  | .local _ .vmem, ⟨0, _⟩ => ⟨S8x128, .f32⟩
  | _, _ => ⟨S704x1024, .bf16⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_3 : Ref sig .tc := ⟨.hbm, 4, rfl⟩
abbrev main_v3_4 : Ref sig .tc := ⟨.hbm, 5, rfl⟩
abbrev main_v3_7 : Ref sig .tc := ⟨.hbm, 6, rfl⟩
abbrev cc0_stg0_0 : Ref sig .tc := ⟨.vmem, 0, rfl⟩
abbrev cc0_sem0_0 : DmaSem sig := 14
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_32 : BitVec 32 := 0#32
  let v29 : BitVec 32 := Dev.word d0
  let c4_i32_22 : BitVec 32 := 4#32
  let v30 : BitVec 32 := Scalar.divsi v29 c4_i32_22
  let c2_i32_21 : BitVec 32 := 2#32
  let v31 : BitVec 32 := Scalar.remsi v30 c2_i32_21
  let c1_i32_27 : BitVec 32 := 1#32
  let v39 : BitVec 32 := Scalar.xori v31 c1_i32_27
  let c4_i32_31 : BitVec 32 := 4#32
  let v42 : BitVec 32 := Scalar.muli v39 c4_i32_31
  let v43 : BitVec 32 := Scalar.addi c0_i32_32 v42
  let v32 : BitVec 32 := Dev.word d0
  let c2_i32_24 : BitVec 32 := 2#32
  let v33 : BitVec 32 := Scalar.divsi v32 c2_i32_24
  let c2_i32_23 : BitVec 32 := 2#32
  let v34 : BitVec 32 := Scalar.remsi v33 c2_i32_23
  let c0_i32_28 : BitVec 32 := 0#32
  let v40 : BitVec 32 := Scalar.xori v34 c0_i32_28
  let c2_i32_33 : BitVec 32 := 2#32
  let v44 : BitVec 32 := Scalar.muli v40 c2_i32_33
  let v45 : BitVec 32 := Scalar.addi v43 v44
  let v35 : BitVec 32 := Dev.word d0
  let c1_i32_26 : BitVec 32 := 1#32
  let v36 : BitVec 32 := Scalar.divsi v35 c1_i32_26
  let c2_i32_25 : BitVec 32 := 2#32
  let v37 : BitVec 32 := Scalar.remsi v36 c2_i32_25
  let c0_i32_29 : BitVec 32 := 0#32
  let v41 : BitVec 32 := Scalar.xori v37 c0_i32_29
  let c1_i32_34 : BitVec 32 := 1#32
  let v46 : BitVec 32 := Scalar.muli v41 c1_i32_34
  let v47 : BitVec 32 := Scalar.addi v45 v46
  v47.toNat
def k0_dev2 (d0 : Dev nD) : Nat :=
  let c0_i32_40 : BitVec 32 := 0#32
  let v29 : BitVec 32 := Dev.word d0
  let c4_i32_22 : BitVec 32 := 4#32
  let v30 : BitVec 32 := Scalar.divsi v29 c4_i32_22
  let c2_i32_21 : BitVec 32 := 2#32
  let v31 : BitVec 32 := Scalar.remsi v30 c2_i32_21
  let c0_i32_35 : BitVec 32 := 0#32
  let v48 : BitVec 32 := Scalar.xori v31 c0_i32_35
  let c4_i32_39 : BitVec 32 := 4#32
  let v51 : BitVec 32 := Scalar.muli v48 c4_i32_39
  let v52 : BitVec 32 := Scalar.addi c0_i32_40 v51
  let v32 : BitVec 32 := Dev.word d0
  let c2_i32_24 : BitVec 32 := 2#32
  let v33 : BitVec 32 := Scalar.divsi v32 c2_i32_24
  let c2_i32_23 : BitVec 32 := 2#32
  let v34 : BitVec 32 := Scalar.remsi v33 c2_i32_23
  let c1_i32_36 : BitVec 32 := 1#32
  let v49 : BitVec 32 := Scalar.xori v34 c1_i32_36
  let c2_i32_41 : BitVec 32 := 2#32
  let v53 : BitVec 32 := Scalar.muli v49 c2_i32_41
  let v54 : BitVec 32 := Scalar.addi v52 v53
  let v35 : BitVec 32 := Dev.word d0
  let c1_i32_26 : BitVec 32 := 1#32
  let v36 : BitVec 32 := Scalar.divsi v35 c1_i32_26
  let c2_i32_25 : BitVec 32 := 2#32
  let v37 : BitVec 32 := Scalar.remsi v36 c2_i32_25
  let c0_i32_37 : BitVec 32 := 0#32
  let v50 : BitVec 32 := Scalar.xori v37 c0_i32_37
  let c1_i32_42 : BitVec 32 := 1#32
  let v55 : BitVec 32 := Scalar.muli v50 c1_i32_42
  let v56 : BitVec 32 := Scalar.addi v54 v55
  v56.toNat
def k0_dev3 (d0 : Dev nD) : Nat :=
  let c0_i32_48 : BitVec 32 := 0#32
  let v29 : BitVec 32 := Dev.word d0
  let c4_i32_22 : BitVec 32 := 4#32
  let v30 : BitVec 32 := Scalar.divsi v29 c4_i32_22
  let c2_i32_21 : BitVec 32 := 2#32
  let v31 : BitVec 32 := Scalar.remsi v30 c2_i32_21
  let c1_i32_43 : BitVec 32 := 1#32
  let v57 : BitVec 32 := Scalar.xori v31 c1_i32_43
  let c4_i32_47 : BitVec 32 := 4#32
  let v60 : BitVec 32 := Scalar.muli v57 c4_i32_47
  let v61 : BitVec 32 := Scalar.addi c0_i32_48 v60
  let v32 : BitVec 32 := Dev.word d0
  let c2_i32_24 : BitVec 32 := 2#32
  let v33 : BitVec 32 := Scalar.divsi v32 c2_i32_24
  let c2_i32_23 : BitVec 32 := 2#32
  let v34 : BitVec 32 := Scalar.remsi v33 c2_i32_23
  let c1_i32_44 : BitVec 32 := 1#32
  let v58 : BitVec 32 := Scalar.xori v34 c1_i32_44
  let c2_i32_49 : BitVec 32 := 2#32
  let v62 : BitVec 32 := Scalar.muli v58 c2_i32_49
  let v63 : BitVec 32 := Scalar.addi v61 v62
  let v35 : BitVec 32 := Dev.word d0
  let c1_i32_26 : BitVec 32 := 1#32
  let v36 : BitVec 32 := Scalar.divsi v35 c1_i32_26
  let c2_i32_25 : BitVec 32 := 2#32
  let v37 : BitVec 32 := Scalar.remsi v36 c2_i32_25
  let c0_i32_45 : BitVec 32 := 0#32
  let v59 : BitVec 32 := Scalar.xori v37 c0_i32_45
  let c1_i32_50 : BitVec 32 := 1#32
  let v64 : BitVec 32 := Scalar.muli v59 c1_i32_50
  let v65 : BitVec 32 := Scalar.addi v63 v64
  v65.toNat
def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_57 : BitVec 32 := 0#32
  let c0_i32_58 : BitVec 32 := 0#32
  ![v10.toNat, 0, 0]
def k0_dev4 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_4 : BitVec 32 := 1#32
  let v11 : BitVec 32 := Scalar.xori v2 c1_i32_4
  let c4_i32_53 : BitVec 32 := 4#32
  let v66 : BitVec 32 := Scalar.muli v11 c4_i32_53
  let v67 : BitVec 32 := Scalar.addi c0_i32_54 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v12 : BitVec 32 := Scalar.xori v5 c0_i32
  let c2_i32_55 : BitVec 32 := 2#32
  let v68 : BitVec 32 := Scalar.muli v12 c2_i32_55
  let v69 : BitVec 32 := Scalar.addi v67 v68
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_5 : BitVec 32 := 0#32
  let v13 : BitVec 32 := Scalar.xori v8 c0_i32_5
  let c1_i32_56 : BitVec 32 := 1#32
  let v70 : BitVec 32 := Scalar.muli v13 c1_i32_56
  let v71 : BitVec 32 := Scalar.addi v69 v70
  v71.toNat
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_6 : BitVec 32 := 0#32
  let v14 : BitVec 32 := Scalar.xori v2 c0_i32_6
  let c4_i32_61 : BitVec 32 := 4#32
  let v78 : BitVec 32 := Scalar.muli v14 c4_i32_61
  let v79 : BitVec 32 := Scalar.addi c0_i32_62 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_7 : BitVec 32 := 1#32
  let v15 : BitVec 32 := Scalar.xori v5 c1_i32_7
  let c2_i32_63 : BitVec 32 := 2#32
  let v80 : BitVec 32 := Scalar.muli v15 c2_i32_63
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_8 : BitVec 32 := 0#32
  let v16 : BitVec 32 := Scalar.xori v8 c0_i32_8
  let c1_i32_64 : BitVec 32 := 1#32
  let v82 : BitVec 32 := Scalar.muli v16 c1_i32_64
  let v83 : BitVec 32 := Scalar.addi v81 v82
  v83.toNat
def k0_dev6 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_9 : BitVec 32 := 1#32
  let v17 : BitVec 32 := Scalar.xori v2 c1_i32_9
  let c4_i32_69 : BitVec 32 := 4#32
  let v90 : BitVec 32 := Scalar.muli v17 c4_i32_69
  let v91 : BitVec 32 := Scalar.addi c0_i32_70 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v18 : BitVec 32 := Scalar.xori v5 c1_i32_10
  let c2_i32_71 : BitVec 32 := 2#32
  let v92 : BitVec 32 := Scalar.muli v18 c2_i32_71
  let v93 : BitVec 32 := Scalar.addi v91 v92
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v19 : BitVec 32 := Scalar.xori v8 c0_i32_11
  let c1_i32_72 : BitVec 32 := 1#32
  let v94 : BitVec 32 := Scalar.muli v19 c1_i32_72
  let v95 : BitVec 32 := Scalar.addi v93 v94
  v95.toNat
def k0_dev7 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_12 : BitVec 32 := 1#32
  let v20 : BitVec 32 := Scalar.xori v2 c1_i32_12
  let c4_i32_77 : BitVec 32 := 4#32
  let v102 : BitVec 32 := Scalar.muli v20 c4_i32_77
  let v103 : BitVec 32 := Scalar.addi c0_i32_78 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_13 : BitVec 32 := 0#32
  let v21 : BitVec 32 := Scalar.xori v5 c0_i32_13
  let c2_i32_79 : BitVec 32 := 2#32
  let v104 : BitVec 32 := Scalar.muli v21 c2_i32_79
  let v105 : BitVec 32 := Scalar.addi v103 v104
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_14 : BitVec 32 := 0#32
  let v22 : BitVec 32 := Scalar.xori v8 c0_i32_14
  let c1_i32_80 : BitVec 32 := 1#32
  let v106 : BitVec 32 := Scalar.muli v22 c1_i32_80
  let v107 : BitVec 32 := Scalar.addi v105 v106
  v107.toNat
def k0_dev8 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_15 : BitVec 32 := 0#32
  let v23 : BitVec 32 := Scalar.xori v2 c0_i32_15
  let c4_i32_85 : BitVec 32 := 4#32
  let v114 : BitVec 32 := Scalar.muli v23 c4_i32_85
  let v115 : BitVec 32 := Scalar.addi c0_i32_86 v114
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_16 : BitVec 32 := 1#32
  let v24 : BitVec 32 := Scalar.xori v5 c1_i32_16
  let c2_i32_87 : BitVec 32 := 2#32
  let v116 : BitVec 32 := Scalar.muli v24 c2_i32_87
  let v117 : BitVec 32 := Scalar.addi v115 v116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_17 : BitVec 32 := 0#32
  let v25 : BitVec 32 := Scalar.xori v8 c0_i32_17
  let c1_i32_88 : BitVec 32 := 1#32
  let v118 : BitVec 32 := Scalar.muli v25 c1_i32_88
  let v119 : BitVec 32 := Scalar.addi v117 v118
  v119.toNat
def k0_dev9 (d0 : Dev nD) : Nat :=
  let c0_i32_93 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_18 : BitVec 32 := 1#32
  let v26 : BitVec 32 := Scalar.xori v2 c1_i32_18
  let c4_i32_92 : BitVec 32 := 4#32
  let v126 : BitVec 32 := Scalar.muli v26 c4_i32_92
  let v127 : BitVec 32 := Scalar.addi c0_i32_93 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_19 : BitVec 32 := 1#32
  let v27 : BitVec 32 := Scalar.xori v5 c1_i32_19
  let c2_i32_94 : BitVec 32 := 2#32
  let v128 : BitVec 32 := Scalar.muli v27 c2_i32_94
  let v129 : BitVec 32 := Scalar.addi v127 v128
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_20 : BitVec 32 := 0#32
  let v28 : BitVec 32 := Scalar.xori v8 c0_i32_20
  let c1_i32_95 : BitVec 32 := 1#32
  let v130 : BitVec 32 := Scalar.muli v28 c1_i32_95
  let v131 : BitVec 32 := Scalar.addi v129 v130
  v131.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_30 : BitVec 32 := 0#32
  let c0_i32_31 : BitVec 32 := 0#32
  ![v10.toNat, 0, 0]
def k1_off2 (d0 : Dev nD) (c1_i32_4 : BitVec 32) (c0_i32 : BitVec 32) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.xori v2 c1_i32_4
  let v14 : BitVec 32 := Scalar.muli c2_i32_6 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.xori v5 c0_i32
  let v15 : BitVec 32 := Scalar.addi v14 v12
  let c0_i32_38 : BitVec 32 := 0#32
  let c0_i32_39 : BitVec 32 := 0#32
  ![v15.toNat, 0, 0]
def k1_off2_at (r : Fin 3) : BitVec 32 × BitVec 32 :=
  if r.val < 1 then
    (1#32, 0#32)
  else
    if r.val < 2 then
      (0#32, 1#32)
    else
      (1#32, 1#32)
-- ==== GatherTwoRef.lean ====
abbrev S5632x1024 : Shape := ⟨2, ![5632, 1024]⟩
abbrev S4x2x704x1024 : Shape := ⟨4, ![4, 2, 704, 1024]⟩
abbrev S2x4x704x1024 : Shape := ⟨4, ![2, 4, 704, 1024]⟩
abbrev S1x2x4x704x1024 : Shape := ⟨5, ![1, 2, 4, 704, 1024]⟩
abbrev S4x2x4x704x1024 : Shape := ⟨5, ![4, 2, 4, 704, 1024]⟩
abbrev S32x704x1024 : Shape := ⟨3, ![32, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S5632x1024, .bf16⟩
  | .hbm, ⟨1, _⟩ => ⟨S5632x1024, .bf16⟩
  | .hbm, ⟨2, _⟩ => ⟨S4x2x704x1024, .bf16⟩
  | .hbm, ⟨3, _⟩ => ⟨S2x4x704x1024, .bf16⟩
  | .hbm, ⟨4, _⟩ => ⟨S1x2x4x704x1024, .bf16⟩
  | .hbm, ⟨5, _⟩ => ⟨S4x2x4x704x1024, .bf16⟩
  | .hbm, ⟨6, _⟩ => ⟨S32x704x1024, .bf16⟩
  | .hbm, ⟨7, _⟩ => ⟨S4x2x704x1024, .bf16⟩
  | .hbm, ⟨8, _⟩ => ⟨S2x4x704x1024, .bf16⟩
  | .hbm, ⟨9, _⟩ => ⟨S1x2x4x704x1024, .bf16⟩
  | .hbm, ⟨10, _⟩ => ⟨S4x2x4x704x1024, .bf16⟩
  | .hbm, ⟨11, _⟩ => ⟨S32x704x1024, .bf16⟩
  | _, _ => ⟨S5632x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== GatherOne.lean ====
abbrev S704x1024 : Shape := ⟨2, ![704, 1024]⟩
abbrev S4x704x1024 : Shape := ⟨3, ![4, 704, 1024]⟩
abbrev S3 : Shape := ⟨1, ![3]⟩
abbrev S1 : Shape := ⟨1, ![1]⟩
abbrev S8x128 : Shape := ⟨2, ![8, 128]⟩
abbrev S_ : Shape := ⟨0, ![]⟩
abbrev S1x704x1024 : Shape := ⟨3, ![1, 704, 1024]⟩

abbrev nBuf : Space → Nat
  | .hbm => 4
  | .vmem => 1
  | .smem => 0
  | _ => 0

abbrev bufTy : (tb : Table) → Fin (tcTables nBuf tb) → BufTy
  | .hbm, ⟨0, _⟩ => ⟨S704x1024, .bf16⟩
  | .hbm, ⟨1, _⟩ => ⟨S4x704x1024, .bf16⟩
  | .hbm, ⟨2, _⟩ => ⟨S704x1024, .bf16⟩
  | .hbm, ⟨3, _⟩ => ⟨S8x128, .f32⟩
  | .local _ .vmem, ⟨0, _⟩ => ⟨S8x128, .f32⟩
  | _, _ => ⟨S704x1024, .bf16⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2_3 : Ref sig .tc := ⟨.hbm, 2, rfl⟩
abbrev main_v2_5 : Ref sig .tc := ⟨.hbm, 3, rfl⟩
abbrev cc0_stg0_0 : Ref sig .tc := ⟨.vmem, 0, rfl⟩
abbrev cc0_sem0_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_23 : BitVec 32 := 0#32
  let v20 : BitVec 32 := Dev.word d0
  let c4_i32_13 : BitVec 32 := 4#32
  let v21 : BitVec 32 := Scalar.divsi v20 c4_i32_13
  let c2_i32_12 : BitVec 32 := 2#32
  let v22 : BitVec 32 := Scalar.remsi v21 c2_i32_12
  let c1_i32_18 : BitVec 32 := 1#32
  let v30 : BitVec 32 := Scalar.xori v22 c1_i32_18
  let c4_i32_22 : BitVec 32 := 4#32
  let v33 : BitVec 32 := Scalar.muli v30 c4_i32_22
  let v34 : BitVec 32 := Scalar.addi c0_i32_23 v33
  let v23 : BitVec 32 := Dev.word d0
  let c2_i32_15 : BitVec 32 := 2#32
  let v24 : BitVec 32 := Scalar.divsi v23 c2_i32_15
  let c2_i32_14 : BitVec 32 := 2#32
  let v25 : BitVec 32 := Scalar.remsi v24 c2_i32_14
  let c0_i32_19 : BitVec 32 := 0#32
  let v31 : BitVec 32 := Scalar.xori v25 c0_i32_19
  let c2_i32_24 : BitVec 32 := 2#32
  let v35 : BitVec 32 := Scalar.muli v31 c2_i32_24
  let v36 : BitVec 32 := Scalar.addi v34 v35
  let v26 : BitVec 32 := Dev.word d0
  let c1_i32_17 : BitVec 32 := 1#32
  let v27 : BitVec 32 := Scalar.divsi v26 c1_i32_17
  let c2_i32_16 : BitVec 32 := 2#32
  let v28 : BitVec 32 := Scalar.remsi v27 c2_i32_16
  let c0_i32_20 : BitVec 32 := 0#32
  let v32 : BitVec 32 := Scalar.xori v28 c0_i32_20
  let c1_i32_25 : BitVec 32 := 1#32
  let v37 : BitVec 32 := Scalar.muli v32 c1_i32_25
  let v38 : BitVec 32 := Scalar.addi v36 v37
  v38.toNat
def k0_dev2 (d0 : Dev nD) : Nat :=
  let c0_i32_31 : BitVec 32 := 0#32
  let v20 : BitVec 32 := Dev.word d0
  let c4_i32_13 : BitVec 32 := 4#32
  let v21 : BitVec 32 := Scalar.divsi v20 c4_i32_13
  let c2_i32_12 : BitVec 32 := 2#32
  let v22 : BitVec 32 := Scalar.remsi v21 c2_i32_12
  let c0_i32_26 : BitVec 32 := 0#32
  let v39 : BitVec 32 := Scalar.xori v22 c0_i32_26
  let c4_i32_30 : BitVec 32 := 4#32
  let v42 : BitVec 32 := Scalar.muli v39 c4_i32_30
  let v43 : BitVec 32 := Scalar.addi c0_i32_31 v42
  let v23 : BitVec 32 := Dev.word d0
  let c2_i32_15 : BitVec 32 := 2#32
  let v24 : BitVec 32 := Scalar.divsi v23 c2_i32_15
  let c2_i32_14 : BitVec 32 := 2#32
  let v25 : BitVec 32 := Scalar.remsi v24 c2_i32_14
  let c1_i32_27 : BitVec 32 := 1#32
  let v40 : BitVec 32 := Scalar.xori v25 c1_i32_27
  let c2_i32_32 : BitVec 32 := 2#32
  let v44 : BitVec 32 := Scalar.muli v40 c2_i32_32
  let v45 : BitVec 32 := Scalar.addi v43 v44
  let v26 : BitVec 32 := Dev.word d0
  let c1_i32_17 : BitVec 32 := 1#32
  let v27 : BitVec 32 := Scalar.divsi v26 c1_i32_17
  let c2_i32_16 : BitVec 32 := 2#32
  let v28 : BitVec 32 := Scalar.remsi v27 c2_i32_16
  let c0_i32_28 : BitVec 32 := 0#32
  let v41 : BitVec 32 := Scalar.xori v28 c0_i32_28
  let c1_i32_33 : BitVec 32 := 1#32
  let v46 : BitVec 32 := Scalar.muli v41 c1_i32_33
  let v47 : BitVec 32 := Scalar.addi v45 v46
  v47.toNat
def k0_dev3 (d0 : Dev nD) : Nat :=
  let c0_i32_39 : BitVec 32 := 0#32
  let v20 : BitVec 32 := Dev.word d0
  let c4_i32_13 : BitVec 32 := 4#32
  let v21 : BitVec 32 := Scalar.divsi v20 c4_i32_13
  let c2_i32_12 : BitVec 32 := 2#32
  let v22 : BitVec 32 := Scalar.remsi v21 c2_i32_12
  let c1_i32_34 : BitVec 32 := 1#32
  let v48 : BitVec 32 := Scalar.xori v22 c1_i32_34
  let c4_i32_38 : BitVec 32 := 4#32
  let v51 : BitVec 32 := Scalar.muli v48 c4_i32_38
  let v52 : BitVec 32 := Scalar.addi c0_i32_39 v51
  let v23 : BitVec 32 := Dev.word d0
  let c2_i32_15 : BitVec 32 := 2#32
  let v24 : BitVec 32 := Scalar.divsi v23 c2_i32_15
  let c2_i32_14 : BitVec 32 := 2#32
  let v25 : BitVec 32 := Scalar.remsi v24 c2_i32_14
  let c1_i32_35 : BitVec 32 := 1#32
  let v49 : BitVec 32 := Scalar.xori v25 c1_i32_35
  let c2_i32_40 : BitVec 32 := 2#32
  let v53 : BitVec 32 := Scalar.muli v49 c2_i32_40
  let v54 : BitVec 32 := Scalar.addi v52 v53
  let v26 : BitVec 32 := Dev.word d0
  let c1_i32_17 : BitVec 32 := 1#32
  let v27 : BitVec 32 := Scalar.divsi v26 c1_i32_17
  let c2_i32_16 : BitVec 32 := 2#32
  let v28 : BitVec 32 := Scalar.remsi v27 c2_i32_16
  let c0_i32_36 : BitVec 32 := 0#32
  let v50 : BitVec 32 := Scalar.xori v28 c0_i32_36
  let c1_i32_41 : BitVec 32 := 1#32
  let v55 : BitVec 32 := Scalar.muli v50 c1_i32_41
  let v56 : BitVec 32 := Scalar.addi v54 v55
  v56.toNat
def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_48 : BitVec 32 := 0#32
  let c0_i32_49 : BitVec 32 := 0#32
  ![v10.toNat, 0, 0]
def k0_dev4 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_4 : BitVec 32 := 1#32
  let v11 : BitVec 32 := Scalar.xori v2 c1_i32_4
  let c4_i32_44 : BitVec 32 := 4#32
  let v57 : BitVec 32 := Scalar.muli v11 c4_i32_44
  let v58 : BitVec 32 := Scalar.addi c0_i32_45 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v12 : BitVec 32 := Scalar.xori v5 c0_i32
  let c2_i32_46 : BitVec 32 := 2#32
  let v59 : BitVec 32 := Scalar.muli v12 c2_i32_46
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_5 : BitVec 32 := 0#32
  let v13 : BitVec 32 := Scalar.xori v8 c0_i32_5
  let c1_i32_47 : BitVec 32 := 1#32
  let v61 : BitVec 32 := Scalar.muli v13 c1_i32_47
  let v62 : BitVec 32 := Scalar.addi v60 v61
  v62.toNat
def k0_dev5 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_6 : BitVec 32 := 0#32
  let v14 : BitVec 32 := Scalar.xori v2 c0_i32_6
  let c4_i32_52 : BitVec 32 := 4#32
  let v69 : BitVec 32 := Scalar.muli v14 c4_i32_52
  let v70 : BitVec 32 := Scalar.addi c0_i32_53 v69
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_7 : BitVec 32 := 1#32
  let v15 : BitVec 32 := Scalar.xori v5 c1_i32_7
  let c2_i32_54 : BitVec 32 := 2#32
  let v71 : BitVec 32 := Scalar.muli v15 c2_i32_54
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_8 : BitVec 32 := 0#32
  let v16 : BitVec 32 := Scalar.xori v8 c0_i32_8
  let c1_i32_55 : BitVec 32 := 1#32
  let v73 : BitVec 32 := Scalar.muli v16 c1_i32_55
  let v74 : BitVec 32 := Scalar.addi v72 v73
  v74.toNat
def k0_dev6 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_9 : BitVec 32 := 1#32
  let v17 : BitVec 32 := Scalar.xori v2 c1_i32_9
  let c4_i32_60 : BitVec 32 := 4#32
  let v81 : BitVec 32 := Scalar.muli v17 c4_i32_60
  let v82 : BitVec 32 := Scalar.addi c0_i32_61 v81
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v18 : BitVec 32 := Scalar.xori v5 c1_i32_10
  let c2_i32_62 : BitVec 32 := 2#32
  let v83 : BitVec 32 := Scalar.muli v18 c2_i32_62
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v19 : BitVec 32 := Scalar.xori v8 c0_i32_11
  let c1_i32_63 : BitVec 32 := 1#32
  let v85 : BitVec 32 := Scalar.muli v19 c1_i32_63
  let v86 : BitVec 32 := Scalar.addi v84 v85
  v86.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_18 : BitVec 32 := 0#32
  let c0_i32_19 : BitVec 32 := 0#32
  ![v10.toNat, 0, 0]
def k1_off2 (d0 : Dev nD) (c1_i32_4 : BitVec 32) (c0_i32 : BitVec 32) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.xori v2 c1_i32_4
  let v14 : BitVec 32 := Scalar.muli c2_i32_6 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.xori v5 c0_i32
  let v15 : BitVec 32 := Scalar.addi v14 v12
  let c0_i32_26 : BitVec 32 := 0#32
  let c0_i32_27 : BitVec 32 := 0#32
  ![v15.toNat, 0, 0]
def k1_off2_at (r : Fin 3) : BitVec 32 × BitVec 32 :=
  if r.val < 1 then
    (1#32, 0#32)
  else
    if r.val < 2 then
      (0#32, 1#32)
    else
      (1#32, 1#32)
-- ==== GatherOneRef.lean ====
abbrev S5632x1024 : Shape := ⟨2, ![5632, 1024]⟩
abbrev S4x2x704x1024 : Shape := ⟨4, ![4, 2, 704, 1024]⟩
abbrev S2x4x704x1024 : Shape := ⟨4, ![2, 4, 704, 1024]⟩
abbrev S1x2x4x704x1024 : Shape := ⟨5, ![1, 2, 4, 704, 1024]⟩
abbrev S4x2x4x704x1024 : Shape := ⟨5, ![4, 2, 4, 704, 1024]⟩
abbrev S32x704x1024 : Shape := ⟨3, ![32, 704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S5632x1024, .bf16⟩
  | .hbm, ⟨1, _⟩ => ⟨S4x2x704x1024, .bf16⟩
  | .hbm, ⟨2, _⟩ => ⟨S2x4x704x1024, .bf16⟩
  | .hbm, ⟨3, _⟩ => ⟨S1x2x4x704x1024, .bf16⟩
  | .hbm, ⟨4, _⟩ => ⟨S4x2x4x704x1024, .bf16⟩
  | .hbm, ⟨5, _⟩ => ⟨S32x704x1024, .bf16⟩
  | _, _ => ⟨S5632x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Everyone.lean ====
abbrev S624x1024 : Shape := ⟨2, ![624, 1024]⟩
abbrev S8x624x1024 : Shape := ⟨3, ![8, 624, 1024]⟩
abbrev S7 : Shape := ⟨1, ![7]⟩
abbrev S1 : Shape := ⟨1, ![1]⟩
abbrev S8x128 : Shape := ⟨2, ![8, 128]⟩
abbrev S_ : Shape := ⟨0, ![]⟩
abbrev S1x624x1024 : Shape := ⟨3, ![1, 624, 1024]⟩

abbrev nBuf : Space → Nat
  | .hbm => 4
  | .vmem => 1
  | .smem => 0
  | _ => 0

abbrev bufTy : (tb : Table) → Fin (tcTables nBuf tb) → BufTy
  | .hbm, ⟨0, _⟩ => ⟨S624x1024, .f32⟩
  | .hbm, ⟨1, _⟩ => ⟨S8x624x1024, .f32⟩
  | .hbm, ⟨2, _⟩ => ⟨S624x1024, .f32⟩
  | .hbm, ⟨3, _⟩ => ⟨S8x128, .f32⟩
  | .local _ .vmem, ⟨0, _⟩ => ⟨S8x128, .f32⟩
  | _, _ => ⟨S624x1024, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2_3 : Ref sig .tc := ⟨.hbm, 2, rfl⟩
abbrev main_v2_5 : Ref sig .tc := ⟨.hbm, 3, rfl⟩
abbrev cc0_stg0_0 : Ref sig .tc := ⟨.vmem, 0, rfl⟩
abbrev cc0_sem0_0 : DmaSem sig := 15
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_36 : BitVec 32 := 0#32
  let v34 : BitVec 32 := Dev.word d0
  let c4_i32_26 : BitVec 32 := 4#32
  let v35 : BitVec 32 := Scalar.divsi v34 c4_i32_26
  let c2_i32_25 : BitVec 32 := 2#32
  let v36 : BitVec 32 := Scalar.remsi v35 c2_i32_25
  let c0_i32_31 : BitVec 32 := 0#32
  let v44 : BitVec 32 := Scalar.xori v36 c0_i32_31
  let c4_i32_35 : BitVec 32 := 4#32
  let v47 : BitVec 32 := Scalar.muli v44 c4_i32_35
  let v48 : BitVec 32 := Scalar.addi c0_i32_36 v47
  let v37 : BitVec 32 := Dev.word d0
  let c2_i32_28 : BitVec 32 := 2#32
  let v38 : BitVec 32 := Scalar.divsi v37 c2_i32_28
  let c2_i32_27 : BitVec 32 := 2#32
  let v39 : BitVec 32 := Scalar.remsi v38 c2_i32_27
  let c0_i32_32 : BitVec 32 := 0#32
  let v45 : BitVec 32 := Scalar.xori v39 c0_i32_32
  let c2_i32_37 : BitVec 32 := 2#32
  let v49 : BitVec 32 := Scalar.muli v45 c2_i32_37
  let v50 : BitVec 32 := Scalar.addi v48 v49
  let v40 : BitVec 32 := Dev.word d0
  let c1_i32_30 : BitVec 32 := 1#32
  let v41 : BitVec 32 := Scalar.divsi v40 c1_i32_30
  let c2_i32_29 : BitVec 32 := 2#32
  let v42 : BitVec 32 := Scalar.remsi v41 c2_i32_29
  let c1_i32_33 : BitVec 32 := 1#32
  let v46 : BitVec 32 := Scalar.xori v42 c1_i32_33
  let c1_i32_38 : BitVec 32 := 1#32
  let v51 : BitVec 32 := Scalar.muli v46 c1_i32_38
  let v52 : BitVec 32 := Scalar.addi v50 v51
  v52.toNat
def k0_dev2 (d0 : Dev nD) : Nat :=
  let c0_i32_44 : BitVec 32 := 0#32
  let v34 : BitVec 32 := Dev.word d0
  let c4_i32_26 : BitVec 32 := 4#32
  let v35 : BitVec 32 := Scalar.divsi v34 c4_i32_26
  let c2_i32_25 : BitVec 32 := 2#32
  let v36 : BitVec 32 := Scalar.remsi v35 c2_i32_25
  let c0_i32_39 : BitVec 32 := 0#32
  let v53 : BitVec 32 := Scalar.xori v36 c0_i32_39
  let c4_i32_43 : BitVec 32 := 4#32
  let v56 : BitVec 32 := Scalar.muli v53 c4_i32_43
  let v57 : BitVec 32 := Scalar.addi c0_i32_44 v56
  let v37 : BitVec 32 := Dev.word d0
  let c2_i32_28 : BitVec 32 := 2#32
  let v38 : BitVec 32 := Scalar.divsi v37 c2_i32_28
  let c2_i32_27 : BitVec 32 := 2#32
  let v39 : BitVec 32 := Scalar.remsi v38 c2_i32_27
  let c1_i32_40 : BitVec 32 := 1#32
  let v54 : BitVec 32 := Scalar.xori v39 c1_i32_40
  let c2_i32_45 : BitVec 32 := 2#32
  let v58 : BitVec 32 := Scalar.muli v54 c2_i32_45
  let v59 : BitVec 32 := Scalar.addi v57 v58
  let v40 : BitVec 32 := Dev.word d0
  let c1_i32_30 : BitVec 32 := 1#32
  let v41 : BitVec 32 := Scalar.divsi v40 c1_i32_30
  let c2_i32_29 : BitVec 32 := 2#32
  let v42 : BitVec 32 := Scalar.remsi v41 c2_i32_29
  let c0_i32_41 : BitVec 32 := 0#32
  let v55 : BitVec 32 := Scalar.xori v42 c0_i32_41
  let c1_i32_46 : BitVec 32 := 1#32
  let v60 : BitVec 32 := Scalar.muli v55 c1_i32_46
  let v61 : BitVec 32 := Scalar.addi v59 v60
  v61.toNat
def k0_dev3 (d0 : Dev nD) : Nat :=
  let c0_i32_52 : BitVec 32 := 0#32
  let v34 : BitVec 32 := Dev.word d0
  let c4_i32_26 : BitVec 32 := 4#32
  let v35 : BitVec 32 := Scalar.divsi v34 c4_i32_26
  let c2_i32_25 : BitVec 32 := 2#32
  let v36 : BitVec 32 := Scalar.remsi v35 c2_i32_25
  let c0_i32_47 : BitVec 32 := 0#32
  let v62 : BitVec 32 := Scalar.xori v36 c0_i32_47
  let c4_i32_51 : BitVec 32 := 4#32
  let v65 : BitVec 32 := Scalar.muli v62 c4_i32_51
  let v66 : BitVec 32 := Scalar.addi c0_i32_52 v65
  let v37 : BitVec 32 := Dev.word d0
  let c2_i32_28 : BitVec 32 := 2#32
  let v38 : BitVec 32 := Scalar.divsi v37 c2_i32_28
  let c2_i32_27 : BitVec 32 := 2#32
  let v39 : BitVec 32 := Scalar.remsi v38 c2_i32_27
  let c1_i32_48 : BitVec 32 := 1#32
  let v63 : BitVec 32 := Scalar.xori v39 c1_i32_48
  let c2_i32_53 : BitVec 32 := 2#32
  let v67 : BitVec 32 := Scalar.muli v63 c2_i32_53
  let v68 : BitVec 32 := Scalar.addi v66 v67
  let v40 : BitVec 32 := Dev.word d0
  let c1_i32_30 : BitVec 32 := 1#32
  let v41 : BitVec 32 := Scalar.divsi v40 c1_i32_30
  let c2_i32_29 : BitVec 32 := 2#32
  let v42 : BitVec 32 := Scalar.remsi v41 c2_i32_29
  let c1_i32_49 : BitVec 32 := 1#32
  let v64 : BitVec 32 := Scalar.xori v42 c1_i32_49
  let c1_i32_54 : BitVec 32 := 1#32
  let v69 : BitVec 32 := Scalar.muli v64 c1_i32_54
  let v70 : BitVec 32 := Scalar.addi v68 v69
  v70.toNat
def k0_dev4 (d0 : Dev nD) : Nat :=
  let c0_i32_60 : BitVec 32 := 0#32
  let v34 : BitVec 32 := Dev.word d0
  let c4_i32_26 : BitVec 32 := 4#32
  let v35 : BitVec 32 := Scalar.divsi v34 c4_i32_26
  let c2_i32_25 : BitVec 32 := 2#32
  let v36 : BitVec 32 := Scalar.remsi v35 c2_i32_25
  let c1_i32_55 : BitVec 32 := 1#32
  let v71 : BitVec 32 := Scalar.xori v36 c1_i32_55
  let c4_i32_59 : BitVec 32 := 4#32
  let v74 : BitVec 32 := Scalar.muli v71 c4_i32_59
  let v75 : BitVec 32 := Scalar.addi c0_i32_60 v74
  let v37 : BitVec 32 := Dev.word d0
  let c2_i32_28 : BitVec 32 := 2#32
  let v38 : BitVec 32 := Scalar.divsi v37 c2_i32_28
  let c2_i32_27 : BitVec 32 := 2#32
  let v39 : BitVec 32 := Scalar.remsi v38 c2_i32_27
  let c0_i32_56 : BitVec 32 := 0#32
  let v72 : BitVec 32 := Scalar.xori v39 c0_i32_56
  let c2_i32_61 : BitVec 32 := 2#32
  let v76 : BitVec 32 := Scalar.muli v72 c2_i32_61
  let v77 : BitVec 32 := Scalar.addi v75 v76
  let v40 : BitVec 32 := Dev.word d0
  let c1_i32_30 : BitVec 32 := 1#32
  let v41 : BitVec 32 := Scalar.divsi v40 c1_i32_30
  let c2_i32_29 : BitVec 32 := 2#32
  let v42 : BitVec 32 := Scalar.remsi v41 c2_i32_29
  let c0_i32_57 : BitVec 32 := 0#32
  let v73 : BitVec 32 := Scalar.xori v42 c0_i32_57
  let c1_i32_62 : BitVec 32 := 1#32
  let v78 : BitVec 32 := Scalar.muli v73 c1_i32_62
  let v79 : BitVec 32 := Scalar.addi v77 v78
  v79.toNat
def k0_dev5 (d0 : Dev nD) : Nat :=
  let c0_i32_68 : BitVec 32 := 0#32
  let v34 : BitVec 32 := Dev.word d0
  let c4_i32_26 : BitVec 32 := 4#32
  let v35 : BitVec 32 := Scalar.divsi v34 c4_i32_26
  let c2_i32_25 : BitVec 32 := 2#32
  let v36 : BitVec 32 := Scalar.remsi v35 c2_i32_25
  let c1_i32_63 : BitVec 32 := 1#32
  let v80 : BitVec 32 := Scalar.xori v36 c1_i32_63
  let c4_i32_67 : BitVec 32 := 4#32
  let v83 : BitVec 32 := Scalar.muli v80 c4_i32_67
  let v84 : BitVec 32 := Scalar.addi c0_i32_68 v83
  let v37 : BitVec 32 := Dev.word d0
  let c2_i32_28 : BitVec 32 := 2#32
  let v38 : BitVec 32 := Scalar.divsi v37 c2_i32_28
  let c2_i32_27 : BitVec 32 := 2#32
  let v39 : BitVec 32 := Scalar.remsi v38 c2_i32_27
  let c0_i32_64 : BitVec 32 := 0#32
  let v81 : BitVec 32 := Scalar.xori v39 c0_i32_64
  let c2_i32_69 : BitVec 32 := 2#32
  let v85 : BitVec 32 := Scalar.muli v81 c2_i32_69
  let v86 : BitVec 32 := Scalar.addi v84 v85
  let v40 : BitVec 32 := Dev.word d0
  let c1_i32_30 : BitVec 32 := 1#32
  let v41 : BitVec 32 := Scalar.divsi v40 c1_i32_30
  let c2_i32_29 : BitVec 32 := 2#32
  let v42 : BitVec 32 := Scalar.remsi v41 c2_i32_29
  let c1_i32_65 : BitVec 32 := 1#32
  let v82 : BitVec 32 := Scalar.xori v42 c1_i32_65
  let c1_i32_70 : BitVec 32 := 1#32
  let v87 : BitVec 32 := Scalar.muli v82 c1_i32_70
  let v88 : BitVec 32 := Scalar.addi v86 v87
  v88.toNat
def k0_dev6 (d0 : Dev nD) : Nat :=
  let c0_i32_76 : BitVec 32 := 0#32
  let v34 : BitVec 32 := Dev.word d0
  let c4_i32_26 : BitVec 32 := 4#32
  let v35 : BitVec 32 := Scalar.divsi v34 c4_i32_26
  let c2_i32_25 : BitVec 32 := 2#32
  let v36 : BitVec 32 := Scalar.remsi v35 c2_i32_25
  let c1_i32_71 : BitVec 32 := 1#32
  let v89 : BitVec 32 := Scalar.xori v36 c1_i32_71
  let c4_i32_75 : BitVec 32 := 4#32
  let v92 : BitVec 32 := Scalar.muli v89 c4_i32_75
  let v93 : BitVec 32 := Scalar.addi c0_i32_76 v92
  let v37 : BitVec 32 := Dev.word d0
  let c2_i32_28 : BitVec 32 := 2#32
  let v38 : BitVec 32 := Scalar.divsi v37 c2_i32_28
  let c2_i32_27 : BitVec 32 := 2#32
  let v39 : BitVec 32 := Scalar.remsi v38 c2_i32_27
  let c1_i32_72 : BitVec 32 := 1#32
  let v90 : BitVec 32 := Scalar.xori v39 c1_i32_72
  let c2_i32_77 : BitVec 32 := 2#32
  let v94 : BitVec 32 := Scalar.muli v90 c2_i32_77
  let v95 : BitVec 32 := Scalar.addi v93 v94
  let v40 : BitVec 32 := Dev.word d0
  let c1_i32_30 : BitVec 32 := 1#32
  let v41 : BitVec 32 := Scalar.divsi v40 c1_i32_30
  let c2_i32_29 : BitVec 32 := 2#32
  let v42 : BitVec 32 := Scalar.remsi v41 c2_i32_29
  let c0_i32_73 : BitVec 32 := 0#32
  let v91 : BitVec 32 := Scalar.xori v42 c0_i32_73
  let c1_i32_78 : BitVec 32 := 1#32
  let v96 : BitVec 32 := Scalar.muli v91 c1_i32_78
  let v97 : BitVec 32 := Scalar.addi v95 v96
  v97.toNat
def k0_dev7 (d0 : Dev nD) : Nat :=
  let c0_i32_84 : BitVec 32 := 0#32
  let v34 : BitVec 32 := Dev.word d0
  let c4_i32_26 : BitVec 32 := 4#32
  let v35 : BitVec 32 := Scalar.divsi v34 c4_i32_26
  let c2_i32_25 : BitVec 32 := 2#32
  let v36 : BitVec 32 := Scalar.remsi v35 c2_i32_25
  let c1_i32_79 : BitVec 32 := 1#32
  let v98 : BitVec 32 := Scalar.xori v36 c1_i32_79
  let c4_i32_83 : BitVec 32 := 4#32
  let v101 : BitVec 32 := Scalar.muli v98 c4_i32_83
  let v102 : BitVec 32 := Scalar.addi c0_i32_84 v101
  let v37 : BitVec 32 := Dev.word d0
  let c2_i32_28 : BitVec 32 := 2#32
  let v38 : BitVec 32 := Scalar.divsi v37 c2_i32_28
  let c2_i32_27 : BitVec 32 := 2#32
  let v39 : BitVec 32 := Scalar.remsi v38 c2_i32_27
  let c1_i32_80 : BitVec 32 := 1#32
  let v99 : BitVec 32 := Scalar.xori v39 c1_i32_80
  let c2_i32_85 : BitVec 32 := 2#32
  let v103 : BitVec 32 := Scalar.muli v99 c2_i32_85
  let v104 : BitVec 32 := Scalar.addi v102 v103
  let v40 : BitVec 32 := Dev.word d0
  let c1_i32_30 : BitVec 32 := 1#32
  let v41 : BitVec 32 := Scalar.divsi v40 c1_i32_30
  let c2_i32_29 : BitVec 32 := 2#32
  let v42 : BitVec 32 := Scalar.remsi v41 c2_i32_29
  let c1_i32_81 : BitVec 32 := 1#32
  let v100 : BitVec 32 := Scalar.xori v42 c1_i32_81
  let c1_i32_86 : BitVec 32 := 1#32
  let v105 : BitVec 32 := Scalar.muli v100 c1_i32_86
  let v106 : BitVec 32 := Scalar.addi v104 v105
  v106.toNat
def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_93 : BitVec 32 := 0#32
  let c0_i32_94 : BitVec 32 := 0#32
  ![v12.toNat, 0, 0]
def k0_dev8 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_89 : BitVec 32 := 4#32
  let v107 : BitVec 32 := Scalar.muli v13 c4_i32_89
  let v108 : BitVec 32 := Scalar.addi c0_i32_90 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_91 : BitVec 32 := 2#32
  let v109 : BitVec 32 := Scalar.muli v14 c2_i32_91
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_92 : BitVec 32 := 1#32
  let v111 : BitVec 32 := Scalar.muli v15 c1_i32_92
  let v112 : BitVec 32 := Scalar.addi v110 v111
  v112.toNat
def k0_dev9 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_97 : BitVec 32 := 4#32
  let v119 : BitVec 32 := Scalar.muli v16 c4_i32_97
  let v120 : BitVec 32 := Scalar.addi c0_i32_98 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_99 : BitVec 32 := 2#32
  let v121 : BitVec 32 := Scalar.muli v17 c2_i32_99
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_100 : BitVec 32 := 1#32
  let v123 : BitVec 32 := Scalar.muli v18 c1_i32_100
  let v124 : BitVec 32 := Scalar.addi v122 v123
  v124.toNat
def k0_dev10 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_105 : BitVec 32 := 4#32
  let v131 : BitVec 32 := Scalar.muli v19 c4_i32_105
  let v132 : BitVec 32 := Scalar.addi c0_i32_106 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_107 : BitVec 32 := 2#32
  let v133 : BitVec 32 := Scalar.muli v20 c2_i32_107
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.xori v8 c1_i32_12
  let c1_i32_108 : BitVec 32 := 1#32
  let v135 : BitVec 32 := Scalar.muli v21 c1_i32_108
  let v136 : BitVec 32 := Scalar.addi v134 v135
  v136.toNat
def k0_dev11 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_112 : BitVec 32 := 4#32
  let v143 : BitVec 32 := Scalar.muli v22 c4_i32_112
  let v144 : BitVec 32 := Scalar.addi c0_i32_113 v143
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v23 : BitVec 32 := Scalar.xori v5 c0_i32_14
  let c2_i32_114 : BitVec 32 := 2#32
  let v145 : BitVec 32 := Scalar.muli v23 c2_i32_114
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_115 : BitVec 32 := 1#32
  let v147 : BitVec 32 := Scalar.muli v24 c1_i32_115
  let v148 : BitVec 32 := Scalar.addi v146 v147
  v148.toNat
def k0_dev12 (d0 : Dev nD) : Nat :=
  let c0_i32_121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_120 : BitVec 32 := 4#32
  let v155 : BitVec 32 := Scalar.muli v25 c4_i32_120
  let v156 : BitVec 32 := Scalar.addi c0_i32_121 v155
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_122 : BitVec 32 := 2#32
  let v157 : BitVec 32 := Scalar.muli v26 c2_i32_122
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_123 : BitVec 32 := 1#32
  let v159 : BitVec 32 := Scalar.muli v27 c1_i32_123
  let v160 : BitVec 32 := Scalar.addi v158 v159
  v160.toNat
def k0_dev13 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v28 : BitVec 32 := Scalar.xori v2 c1_i32_19
  let c4_i32_127 : BitVec 32 := 4#32
  let v167 : BitVec 32 := Scalar.muli v28 c4_i32_127
  let v168 : BitVec 32 := Scalar.addi c0_i32_128 v167
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_129 : BitVec 32 := 2#32
  let v169 : BitVec 32 := Scalar.muli v29 c2_i32_129
  let v170 : BitVec 32 := Scalar.addi v168 v169
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v30 : BitVec 32 := Scalar.xori v8 c0_i32_21
  let c1_i32_130 : BitVec 32 := 1#32
  let v171 : BitVec 32 := Scalar.muli v30 c1_i32_130
  let v172 : BitVec 32 := Scalar.addi v170 v171
  v172.toNat
def k0_dev14 (d0 : Dev nD) : Nat :=
  let c0_i32_135 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_134 : BitVec 32 := 4#32
  let v179 : BitVec 32 := Scalar.muli v31 c4_i32_134
  let v180 : BitVec 32 := Scalar.addi c0_i32_135 v179
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_136 : BitVec 32 := 2#32
  let v181 : BitVec 32 := Scalar.muli v32 c2_i32_136
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_137 : BitVec 32 := 1#32
  let v183 : BitVec 32 := Scalar.muli v33 c1_i32_137
  let v184 : BitVec 32 := Scalar.addi v182 v183
  v184.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_42 : BitVec 32 := 0#32
  let c0_i32_43 : BitVec 32 := 0#32
  ![v12.toNat, 0, 0]
def k1_off2 (d0 : Dev nD) (c0_i32 : BitVec 32) (c0_i32_5 : BitVec 32) (c1_i32_6 : BitVec 32) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.xori v8 c1_i32_6
  let v19 : BitVec 32 := Scalar.addi v18 v15
  let c0_i32_50 : BitVec 32 := 0#32
  let c0_i32_51 : BitVec 32 := 0#32
  ![v19.toNat, 0, 0]
def k1_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
-- ==== EveryoneRef.lean ====
abbrev S4992x1024 : Shape := ⟨2, ![4992, 1024]⟩
abbrev S8x624x1024 : Shape := ⟨3, ![8, 624, 1024]⟩
abbrev S1x8x624x1024 : Shape := ⟨4, ![1, 8, 624, 1024]⟩
abbrev S8x8x624x1024 : Shape := ⟨4, ![8, 8, 624, 1024]⟩
abbrev S64x624x1024 : Shape := ⟨3, ![64, 624, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4992x1024, .f32⟩
  | .hbm, ⟨1, _⟩ => ⟨S8x624x1024, .f32⟩
  | .hbm, ⟨2, _⟩ => ⟨S1x8x624x1024, .f32⟩
  | .hbm, ⟨3, _⟩ => ⟨S8x8x624x1024, .f32⟩
  | .hbm, ⟨4, _⟩ => ⟨S64x624x1024, .f32⟩
  | _, _ => ⟨S4992x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== AdamW.lean ====
abbrev S2816x1024 : Shape := ⟨2, ![2816, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWIdeal.lean ====
abbrev S2816x1024 : Shape := ⟨2, ![2816, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWRefIdeal.lean ====
abbrev S2816x1024 : Shape := ⟨2, ![2816, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S_, .f32⟩
  | .hbm, ⟨7, _⟩ => ⟨S2816x1024, .f32⟩
  | .hbm, ⟨8, _⟩ => ⟨S2816x1024, .f32⟩
  | .hbm, ⟨9, _⟩ => ⟨S_, .f32⟩
  | .hbm, ⟨10, _⟩ => ⟨S2816x1024, .f32⟩
  | .hbm, ⟨11, _⟩ => ⟨S2816x1024, .f32⟩
  | .hbm, ⟨12, _⟩ => ⟨S2816x1024, .f32⟩
  | .hbm, ⟨13, _⟩ => ⟨S_, .f32⟩
  | .hbm, ⟨14, _⟩ => ⟨S2816x1024, .f32⟩
  | .hbm, ⟨15, _⟩ => ⟨S2816x1024, .f32⟩
  | .hbm, ⟨16, _⟩ => ⟨S2816x1024, .f32⟩
  | .hbm, ⟨17, _⟩ => ⟨S_, .f32⟩
  | .hbm, ⟨18, _⟩ => ⟨S2816x1024, .f32⟩
  | .hbm, ⟨19, _⟩ => ⟨S2816x1024, .f32⟩
  | .hbm, ⟨20, _⟩ => ⟨S2816x1024, .f32⟩
  | .hbm, ⟨21, _⟩ => ⟨S_, .f32⟩
  | .hbm, ⟨22, _⟩ => ⟨S2816x1024, .f32⟩
  | .hbm, ⟨23, _⟩ => ⟨S2816x1024, .f32⟩
  | .hbm, ⟨24, _⟩ => ⟨S_, .f32⟩
  | .hbm, ⟨25, _⟩ => ⟨S2816x1024, .f32⟩
  | .hbm, ⟨26, _⟩ => ⟨S2816x1024, .f32⟩
  | .hbm, ⟨27, _⟩ => ⟨S2816x1024, .f32⟩
  | .hbm, ⟨28, _⟩ => ⟨S_, .f32⟩
  | .hbm, ⟨29, _⟩ => ⟨S2816x1024, .f32⟩
  | .hbm, ⟨30, _⟩ => ⟨S2816x1024, .f32⟩
  | .hbm, ⟨31, _⟩ => ⟨S2816x1024, .f32⟩
  | .hbm, ⟨32, _⟩ => ⟨S_, .f32⟩
  | .hbm, ⟨33, _⟩ => ⟨S2816x1024, .f32⟩
  | .hbm, ⟨34, _⟩ => ⟨S2816x1024, .f32⟩
  | .hbm, ⟨35, _⟩ => ⟨S2816x1024, .f32⟩
  | .hbm, ⟨36, _⟩ => ⟨S_, .f32⟩
  | .hbm, ⟨37, _⟩ => ⟨S2816x1024, .f32⟩
  | .hbm, ⟨38, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamWIn.lean ====
abbrev S6400x1024 : Shape := ⟨2, ![6400, 1024]⟩
abbrev S400x1024 : Shape := ⟨2, ![400, 1024]⟩

abbrev nBuf : Space → Nat
  | .hbm => 9
  | .vmem => 18
  | .smem => 0
  | _ => 0

abbrev bufTy : (tb : Table) → Fin (tcTables nBuf tb) → BufTy
  | .hbm, ⟨0, _⟩ => ⟨S6400x1024, .f32⟩
  | .hbm, ⟨1, _⟩ => ⟨S6400x1024, .f32⟩
  | .hbm, ⟨2, _⟩ => ⟨S6400x1024, .f32⟩
  | .hbm, ⟨3, _⟩ => ⟨S6400x1024, .f32⟩
  | .hbm, ⟨4, _⟩ => ⟨S6400x1024, .f32⟩
  | .hbm, ⟨5, _⟩ => ⟨S6400x1024, .f32⟩
  | .hbm, ⟨6, _⟩ => ⟨S6400x1024, .f32⟩
  | .hbm, ⟨7, _⟩ => ⟨S6400x1024, .f32⟩
  | .hbm, ⟨8, _⟩ => ⟨S6400x1024, .f32⟩
  | .local _ .vmem, ⟨0, _⟩ => ⟨S400x1024, .f32⟩
  | .local _ .vmem, ⟨1, _⟩ => ⟨S400x1024, .f32⟩
  | .local _ .vmem, ⟨2, _⟩ => ⟨S400x1024, .f32⟩
  | .local _ .vmem, ⟨3, _⟩ => ⟨S400x1024, .f32⟩
  | .local _ .vmem, ⟨4, _⟩ => ⟨S400x1024, .f32⟩
  | .local _ .vmem, ⟨5, _⟩ => ⟨S400x1024, .f32⟩
  | .local _ .vmem, ⟨6, _⟩ => ⟨S400x1024, .f32⟩
  | .local _ .vmem, ⟨7, _⟩ => ⟨S400x1024, .f32⟩
  | .local _ .vmem, ⟨8, _⟩ => ⟨S400x1024, .f32⟩
  | .local _ .vmem, ⟨9, _⟩ => ⟨S400x1024, .f32⟩
  | .local _ .vmem, ⟨10, _⟩ => ⟨S400x1024, .f32⟩
  | .local _ .vmem, ⟨11, _⟩ => ⟨S400x1024, .f32⟩
  | .local _ .vmem, ⟨12, _⟩ => ⟨S400x1024, .f32⟩
  | .local _ .vmem, ⟨13, _⟩ => ⟨S400x1024, .f32⟩
  | .local _ .vmem, ⟨14, _⟩ => ⟨S400x1024, .f32⟩
  | .local _ .vmem, ⟨15, _⟩ => ⟨S400x1024, .f32⟩
  | .local _ .vmem, ⟨16, _⟩ => ⟨S400x1024, .f32⟩
  | .local _ .vmem, ⟨17, _⟩ => ⟨S400x1024, .f32⟩
  | _, _ => ⟨S6400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWInIdeal.lean ====
abbrev S6400x1024 : Shape := ⟨2, ![6400, 1024]⟩
abbrev S400x1024 : Shape := ⟨2, ![400, 1024]⟩

abbrev nBuf : Space → Nat
  | .hbm => 9
  | .vmem => 18
  | .smem => 0
  | _ => 0

abbrev bufTy : (tb : Table) → Fin (tcTables nBuf tb) → BufTy
  | .hbm, ⟨0, _⟩ => ⟨S6400x1024, .f32⟩
  | .hbm, ⟨1, _⟩ => ⟨S6400x1024, .f32⟩
  | .hbm, ⟨2, _⟩ => ⟨S6400x1024, .f32⟩
  | .hbm, ⟨3, _⟩ => ⟨S6400x1024, .f32⟩
  | .hbm, ⟨4, _⟩ => ⟨S6400x1024, .f32⟩
  | .hbm, ⟨5, _⟩ => ⟨S6400x1024, .f32⟩
  | .hbm, ⟨6, _⟩ => ⟨S6400x1024, .f32⟩
  | .hbm, ⟨7, _⟩ => ⟨S6400x1024, .f32⟩
  | .hbm, ⟨8, _⟩ => ⟨S6400x1024, .f32⟩
  | .local _ .vmem, ⟨0, _⟩ => ⟨S400x1024, .f32⟩
  | .local _ .vmem, ⟨1, _⟩ => ⟨S400x1024, .f32⟩
  | .local _ .vmem, ⟨2, _⟩ => ⟨S400x1024, .f32⟩
  | .local _ .vmem, ⟨3, _⟩ => ⟨S400x1024, .f32⟩
  | .local _ .vmem, ⟨4, _⟩ => ⟨S400x1024, .f32⟩
  | .local _ .vmem, ⟨5, _⟩ => ⟨S400x1024, .f32⟩
  | .local _ .vmem, ⟨6, _⟩ => ⟨S400x1024, .f32⟩
  | .local _ .vmem, ⟨7, _⟩ => ⟨S400x1024, .f32⟩
  | .local _ .vmem, ⟨8, _⟩ => ⟨S400x1024, .f32⟩
  | .local _ .vmem, ⟨9, _⟩ => ⟨S400x1024, .f32⟩
  | .local _ .vmem, ⟨10, _⟩ => ⟨S400x1024, .f32⟩
  | .local _ .vmem, ⟨11, _⟩ => ⟨S400x1024, .f32⟩
  | .local _ .vmem, ⟨12, _⟩ => ⟨S400x1024, .f32⟩
  | .local _ .vmem, ⟨13, _⟩ => ⟨S400x1024, .f32⟩
  | .local _ .vmem, ⟨14, _⟩ => ⟨S400x1024, .f32⟩
  | .local _ .vmem, ⟨15, _⟩ => ⟨S400x1024, .f32⟩
  | .local _ .vmem, ⟨16, _⟩ => ⟨S400x1024, .f32⟩
  | .local _ .vmem, ⟨17, _⟩ => ⟨S400x1024, .f32⟩
  | _, _ => ⟨S6400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWInRefIdeal.lean ====
abbrev S6400x1024 : Shape := ⟨2, ![6400, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S6400x1024, .f32⟩
  | .hbm, ⟨1, _⟩ => ⟨S6400x1024, .f32⟩
  | .hbm, ⟨2, _⟩ => ⟨S6400x1024, .f32⟩
  | .hbm, ⟨3, _⟩ => ⟨S6400x1024, .f32⟩
  | .hbm, ⟨4, _⟩ => ⟨S6400x1024, .f32⟩
  | .hbm, ⟨5, _⟩ => ⟨S6400x1024, .f32⟩
  | .hbm, ⟨6, _⟩ => ⟨S_, .f32⟩
  | .hbm, ⟨7, _⟩ => ⟨S6400x1024, .f32⟩
  | .hbm, ⟨8, _⟩ => ⟨S6400x1024, .f32⟩
  | .hbm, ⟨9, _⟩ => ⟨S_, .f32⟩
  | .hbm, ⟨10, _⟩ => ⟨S6400x1024, .f32⟩
  | .hbm, ⟨11, _⟩ => ⟨S6400x1024, .f32⟩
  | .hbm, ⟨12, _⟩ => ⟨S6400x1024, .f32⟩
  | .hbm, ⟨13, _⟩ => ⟨S_, .f32⟩
  | .hbm, ⟨14, _⟩ => ⟨S6400x1024, .f32⟩
  | .hbm, ⟨15, _⟩ => ⟨S6400x1024, .f32⟩
  | .hbm, ⟨16, _⟩ => ⟨S6400x1024, .f32⟩
  | .hbm, ⟨17, _⟩ => ⟨S_, .f32⟩
  | .hbm, ⟨18, _⟩ => ⟨S6400x1024, .f32⟩
  | .hbm, ⟨19, _⟩ => ⟨S6400x1024, .f32⟩
  | .hbm, ⟨20, _⟩ => ⟨S6400x1024, .f32⟩
  | .hbm, ⟨21, _⟩ => ⟨S_, .f32⟩
  | .hbm, ⟨22, _⟩ => ⟨S6400x1024, .f32⟩
  | .hbm, ⟨23, _⟩ => ⟨S6400x1024, .f32⟩
  | .hbm, ⟨24, _⟩ => ⟨S_, .f32⟩
  | .hbm, ⟨25, _⟩ => ⟨S6400x1024, .f32⟩
  | .hbm, ⟨26, _⟩ => ⟨S6400x1024, .f32⟩
  | .hbm, ⟨27, _⟩ => ⟨S6400x1024, .f32⟩
  | .hbm, ⟨28, _⟩ => ⟨S_, .f32⟩
  | .hbm, ⟨29, _⟩ => ⟨S6400x1024, .f32⟩
  | .hbm, ⟨30, _⟩ => ⟨S6400x1024, .f32⟩
  | .hbm, ⟨31, _⟩ => ⟨S6400x1024, .f32⟩
  | .hbm, ⟨32, _⟩ => ⟨S_, .f32⟩
  | .hbm, ⟨33, _⟩ => ⟨S6400x1024, .f32⟩
  | .hbm, ⟨34, _⟩ => ⟨S6400x1024, .f32⟩
  | .hbm, ⟨35, _⟩ => ⟨S6400x1024, .f32⟩
  | .hbm, ⟨36, _⟩ => ⟨S_, .f32⟩
  | .hbm, ⟨37, _⟩ => ⟨S6400x1024, .f32⟩
  | .hbm, ⟨38, _⟩ => ⟨S6400x1024, .f32⟩
  | _, _ => ⟨S6400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamWSquare.lean ====
abbrev S1024x1024 : Shape := ⟨2, ![1024, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWSquareIdeal.lean ====
abbrev S1024x1024 : Shape := ⟨2, ![1024, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWSquareRefIdeal.lean ====
abbrev S1024x1024 : Shape := ⟨2, ![1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamWHalf.lean ====
abbrev S1024x512 : Shape := ⟨2, ![1024, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWHalfRefIdeal.lean ====
abbrev S1024x512 : Shape := ⟨2, ![1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamWSmall.lean ====
abbrev S624x1024 : Shape := ⟨2, ![624, 1024]⟩
abbrev S8x624x1024 : Shape := ⟨3, ![8, 624, 1024]⟩
abbrev S208x1024 : Shape := ⟨2, ![208, 1024]⟩
abbrev S8x208x1024 : Shape := ⟨3, ![8, 208, 1024]⟩
abbrev S1x208x1024 : Shape := ⟨3, ![1, 208, 1024]⟩

abbrev nBuf : Space → Nat
  | .hbm => 8
  | .vmem => 16
  | .smem => 0
  | _ => 0

abbrev bufTy : (tb : Table) → Fin (tcTables nBuf tb) → BufTy
  | .hbm, ⟨0, _⟩ => ⟨S624x1024, .f32⟩
  | .hbm, ⟨1, _⟩ => ⟨S8x624x1024, .f32⟩
  | .hbm, ⟨2, _⟩ => ⟨S624x1024, .f32⟩
  | .hbm, ⟨3, _⟩ => ⟨S624x1024, .f32⟩
  | .hbm, ⟨4, _⟩ => ⟨S624x1024, .f32⟩
  | .hbm, ⟨5, _⟩ => ⟨S624x1024, .f32⟩
  | .hbm, ⟨6, _⟩ => ⟨S624x1024, .f32⟩
  | .hbm, ⟨7, _⟩ => ⟨S624x1024, .f32⟩
  | .local _ .vmem, ⟨0, _⟩ => ⟨S208x1024, .f32⟩
  | .local _ .vmem, ⟨1, _⟩ => ⟨S208x1024, .f32⟩
  | .local _ .vmem, ⟨2, _⟩ => ⟨S208x1024, .f32⟩
  | .local _ .vmem, ⟨3, _⟩ => ⟨S208x1024, .f32⟩
  | .local _ .vmem, ⟨4, _⟩ => ⟨S208x1024, .f32⟩
  | .local _ .vmem, ⟨5, _⟩ => ⟨S208x1024, .f32⟩
  | .local _ .vmem, ⟨6, _⟩ => ⟨S8x208x1024, .f32⟩
  | .local _ .vmem, ⟨7, _⟩ => ⟨S8x208x1024, .f32⟩
  | .local _ .vmem, ⟨8, _⟩ => ⟨S208x1024, .f32⟩
  | .local _ .vmem, ⟨9, _⟩ => ⟨S208x1024, .f32⟩
  | .local _ .vmem, ⟨10, _⟩ => ⟨S208x1024, .f32⟩
  | .local _ .vmem, ⟨11, _⟩ => ⟨S208x1024, .f32⟩
  | .local _ .vmem, ⟨12, _⟩ => ⟨S208x1024, .f32⟩
  | .local _ .vmem, ⟨13, _⟩ => ⟨S208x1024, .f32⟩
  | .local _ .vmem, ⟨14, _⟩ => ⟨S208x1024, .f32⟩
  | .local _ .vmem, ⟨15, _⟩ => ⟨S208x1024, .f32⟩
  | _, _ => ⟨S624x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S208x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x208x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWSmallRefIdeal.lean ====
abbrev S624x1024 : Shape := ⟨2, ![624, 1024]⟩
abbrev S8x624x1024 : Shape := ⟨3, ![8, 624, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S624x1024, .f32⟩
  | .hbm, ⟨1, _⟩ => ⟨S8x624x1024, .f32⟩
  | .hbm, ⟨2, _⟩ => ⟨S624x1024, .f32⟩
  | .hbm, ⟨3, _⟩ => ⟨S624x1024, .f32⟩
  | .hbm, ⟨4, _⟩ => ⟨S_, .f32⟩
  | .hbm, ⟨5, _⟩ => ⟨S624x1024, .f32⟩
  | .hbm, ⟨6, _⟩ => ⟨S_, .f32⟩
  | .hbm, ⟨7, _⟩ => ⟨S624x1024, .f32⟩
  | .hbm, ⟨8, _⟩ => ⟨S624x1024, .f32⟩
  | .hbm, ⟨9, _⟩ => ⟨S_, .f32⟩
  | .hbm, ⟨10, _⟩ => ⟨S624x1024, .f32⟩
  | .hbm, ⟨11, _⟩ => ⟨S624x1024, .f32⟩
  | .hbm, ⟨12, _⟩ => ⟨S624x1024, .f32⟩
  | .hbm, ⟨13, _⟩ => ⟨S_, .f32⟩
  | .hbm, ⟨14, _⟩ => ⟨S624x1024, .f32⟩
  | .hbm, ⟨15, _⟩ => ⟨S624x1024, .f32⟩
  | .hbm, ⟨16, _⟩ => ⟨S624x1024, .f32⟩
  | .hbm, ⟨17, _⟩ => ⟨S_, .f32⟩
  | .hbm, ⟨18, _⟩ => ⟨S624x1024, .f32⟩
  | .hbm, ⟨19, _⟩ => ⟨S624x1024, .f32⟩
  | .hbm, ⟨20, _⟩ => ⟨S624x1024, .f32⟩
  | .hbm, ⟨21, _⟩ => ⟨S_, .f32⟩
  | .hbm, ⟨22, _⟩ => ⟨S624x1024, .f32⟩
  | .hbm, ⟨23, _⟩ => ⟨S624x1024, .f32⟩
  | .hbm, ⟨24, _⟩ => ⟨S_, .f32⟩
  | .hbm, ⟨25, _⟩ => ⟨S624x1024, .f32⟩
  | .hbm, ⟨26, _⟩ => ⟨S624x1024, .f32⟩
  | .hbm, ⟨27, _⟩ => ⟨S624x1024, .f32⟩
  | .hbm, ⟨28, _⟩ => ⟨S_, .f32⟩
  | .hbm, ⟨29, _⟩ => ⟨S624x1024, .f32⟩
  | .hbm, ⟨30, _⟩ => ⟨S624x1024, .f32⟩
  | .hbm, ⟨31, _⟩ => ⟨S624x1024, .f32⟩
  | .hbm, ⟨32, _⟩ => ⟨S_, .f32⟩
  | .hbm, ⟨33, _⟩ => ⟨S624x1024, .f32⟩
  | .hbm, ⟨34, _⟩ => ⟨S624x1024, .f32⟩
  | .hbm, ⟨35, _⟩ => ⟨S624x1024, .f32⟩
  | .hbm, ⟨36, _⟩ => ⟨S_, .f32⟩
  | .hbm, ⟨37, _⟩ => ⟨S624x1024, .f32⟩
  | .hbm, ⟨38, _⟩ => ⟨S624x1024, .f32⟩
  | _, _ => ⟨S624x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x128, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S1x128, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== FfnDx.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_24 : BitVec 32 := 0#32
  let v41 : BitVec 1 := Scalar.cmpi .ne v40 c0_i32_24
  v41

def k0_cond2 (i : grid0.Coords) : BitVec 1 :=
  let arg0 : BitVec 32 := BitVec.ofNat 32 (i 0).val
  let c0_i32_25 : BitVec 32 := 0#32
  let v42 : BitVec 1 := Scalar.cmpi .sgt arg0 c0_i32_25
  let v43 : BitVec 32 := Scalar.extui v42
  let c0_i32_26 : BitVec 32 := 0#32
  let v44 : BitVec 1 := Scalar.cmpi .ne v43 c0_i32_26
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnDxRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x2816, .f32⟩
  | .hbm, ⟨8, _⟩ => ⟨S2816x1024, .f32⟩
  | .hbm, ⟨9, _⟩ => ⟨S8192x1024, .f32⟩
  | .hbm, ⟨10, _⟩ => ⟨S8192x2816, .f32⟩
  | .hbm, ⟨11, _⟩ => ⟨S2816x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FfnUp.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S8192x2816, .f32⟩
  | .hbm, ⟨10, _⟩ => ⟨S8192x2816, .bf16⟩
  | .hbm, ⟨11, _⟩ => ⟨S8192x2816, .bf16⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnDownRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== FfnDwUp.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwUpRefIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S2816x8192, .f32⟩
  | .hbm, ⟨4, _⟩ => ⟨S8192x1024, .f32⟩
  | .hbm, ⟨5, _⟩ => ⟨S2816x1024, .f32⟩
  | .hbm, ⟨6, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnDwDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwDownRefIdeal.lean ====
abbrev S8192x2816 : Shape := ⟨2, ![8192, 2816]⟩
abbrev S8192x1024 : Shape := ⟨2, ![8192, 1024]⟩
abbrev S2816x8192 : Shape := ⟨2, ![2816, 8192]⟩
abbrev S_ : Shape := ⟨0, ![]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S2816x8192, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnAct.lean ====
abbrev S1 : Shape := ⟨1, ![1]⟩
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S384x1024 : Shape := ⟨2, ![384, 1024]⟩
abbrev S512x384 : Shape := ⟨2, ![512, 384]⟩
abbrev S128x1024 : Shape := ⟨2, ![128, 1024]⟩
abbrev S512x128 : Shape := ⟨2, ![512, 128]⟩

abbrev nBuf : Space → Nat
  | .hbm => 7
  | .vmem => 11
  | .smem => 1
  | _ => 0

abbrev bufTy : (tb : Table) → Fin (tcTables nBuf tb) → BufTy
  | .hbm, ⟨0, _⟩ => ⟨S1, .f32⟩
  | .hbm, ⟨1, _⟩ => ⟨S8192x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnActRefIdeal.lean ====
abbrev S1 : Shape := ⟨1, ![1]⟩
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S1024x2816 : Shape := ⟨2, ![1024, 2816]⟩

abbrev nBuf : Space → Nat
  | .hbm => 36
  | .vmem => 0
  | .smem => 0
  | _ => 0

abbrev bufTy : (tb : Table) → Fin (tcTables nBuf tb) → BufTy
  | .hbm, ⟨0, _⟩ => ⟨S1, .f32⟩
  | .hbm, ⟨1, _⟩ => ⟨S8192x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S2816x1024, .f32⟩
  | .hbm, ⟨10, _⟩ => ⟨S1024x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .bf16⟩
  | .hbm, ⟨33, _⟩ => ⟨S8192x2816, .f32⟩
  | .hbm, ⟨34, _⟩ => ⟨S8192x2816, .f32⟩
  | .hbm, ⟨35, _⟩ => ⟨S8192x2816, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== SumFfn.lean ====
abbrev S4x704x1024 : Shape := ⟨3, ![4, 704, 1024]⟩
abbrev S2816x1024 : Shape := ⟨2, ![2816, 1024]⟩
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S4x704x1024, .bf16⟩
  | .hbm, ⟨3, _⟩ => ⟨S4x704x1024, .bf16⟩
  | .hbm, ⟨4, _⟩ => ⟨S2816x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S4x352x1024, .bf16⟩
  | .local _ .vmem, ⟨3, _⟩ => ⟨S4x352x1024, .bf16⟩
  | .local _ .vmem, ⟨4, _⟩ => ⟨S4x352x1024, .bf16⟩
  | .local _ .vmem, ⟨5, _⟩ => ⟨S4x352x1024, .bf16⟩
  | .local _ .vmem, ⟨6, _⟩ => ⟨S4x352x1024, .bf16⟩
  | .local _ .vmem, ⟨7, _⟩ => ⟨S4x352x1024, .bf16⟩
  | .local _ .vmem, ⟨8, _⟩ => ⟨S352x1024, .f32⟩
  | .local _ .vmem, ⟨9, _⟩ => ⟨S352x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SumFfnRefIdeal.lean ====
abbrev S4x704x1024 : Shape := ⟨3, ![4, 704, 1024]⟩
abbrev S_ : Shape := ⟨0, ![]⟩
abbrev S704x1024 : Shape := ⟨2, ![704, 1024]⟩
abbrev S2816x1024 : Shape := ⟨2, ![2816, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S4x704x1024, .bf16⟩
  | .hbm, ⟨3, _⟩ => ⟨S4x704x1024, .bf16⟩
  | .hbm, ⟨4, _⟩ => ⟨S4x704x1024, .f32⟩
  | .hbm, ⟨5, _⟩ => ⟨S_, .f32⟩
  | .hbm, ⟨6, _⟩ => ⟨S704x1024, .f32⟩
  | .hbm, ⟨7, _⟩ => ⟨S4x704x1024, .f32⟩
  | .hbm, ⟨8, _⟩ => ⟨S_, .f32⟩
  | .hbm, ⟨9, _⟩ => ⟨S704x1024, .f32⟩
  | .hbm, ⟨10, _⟩ => ⟨S4x704x1024, .f32⟩
  | .hbm, ⟨11, _⟩ => ⟨S_, .f32⟩
  | .hbm, ⟨12, _⟩ => ⟨S704x1024, .f32⟩
  | .hbm, ⟨13, _⟩ => ⟨S4x704x1024, .f32⟩
  | .hbm, ⟨14, _⟩ => ⟨S_, .f32⟩
  | .hbm, ⟨15, _⟩ => ⟨S704x1024, .f32⟩
  | .hbm, ⟨16, _⟩ => ⟨S2816x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Proof.Plan.lean ====
/-
  A one-round protocol between the TensorCores of several devices, stated once for every exchange of this certificate.

  A `Plan` names the semaphores an exchange uses on every device (its CELLS, one per key `k : K` on each device) and the
  PAYMENTS made onto them (`p : P`): payment `p` of device `c` puts `amt p` units on the cell of key `key p` of device
  `tgt p c`, and hands that cell's owner the assertion `pay c p`. Each payment is made once by each device, and the owner of
  a cell waits once for all the units of its payments; it then holds what they hand over. Payments a device makes by
  signalling another or by copying into another's memory are OWED from the launch on (`owed`, in the order in which they
  are made): that is what lets the others count on them. Levels (`lev`) order the waits.

  What follows: the schedule, the rules for one signal, one copy, one send and one wait, and the set-up at launch.
-/
module

public import Idealize.ShloMosaic.Lib.Pipeline.Regions
public import Idealize.ShloMosaic.Lib.Pipeline.Kit
public import Idealize.ShloMosaic.Lib.Rounds
public import Idealize.ShloMosaic.Lib.Tactic

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {K P : Type} [DecidableEq K] [DecidableEq P] [Fintype K] [Fintype P]

/-- The ghost state: the pipelines' copy (left) and the exchange's (right). -/
abbrev UU (nD : Nat) (τ : Topo) (sig : RefSig) (P : Type) [DecidableEq P] : Type := UR sig nD τ × URounds (GSem nD τ sig) P

local notation "𝕄" => MT nD τ sig Unit Val ℕ (UU nD τ sig P) ℕ

abbrev EP : Emb (UR sig nD τ) (MT nD τ sig Unit Val ℕ (UU nD τ sig P) ℕ) := embL
abbrev ER : Emb (URounds (GSem nD τ sig) P) (MT nD τ sig Unit Val ℕ (UU nD τ sig P) ℕ) := embR

variable (nD τ sig Val K P) in
structure Plan where
  sm : K → SemLoc sig
  inj : Function.Injective sm
  key : P → K
  tgt : P → Dev nD ≃ Dev nD
  amt : P → ℕ
  pos : ∀ p, 0 < amt p
  pay : Dev nD → P → sProp (MT nD τ sig Unit Val ℕ (UU nD τ sig P) ℕ)
  st : ∀ c p, BI.Storable (upEmb : UEmb _ (MT nD τ sig Unit Val ℕ (UU nD τ sig P) ℕ)) (pay c p)
  lev : K → ℕ
  owed : List P

namespace Plan

variable (X : Plan nD τ sig Val K P)

/-- The cell of key `k` on device `c`. -/
abbrev cell (c : Dev nD) (k : K) : GSem nD τ sig := ((c : Thread nD τ), X.sm k)

theorem cell_inj {c d : Dev nD} {k l : K} (h : X.cell c k = X.cell d l) : c = d ∧ k = l :=
  ⟨congrArg (fun g : GSem nD τ sig => g.1.1) h, X.inj (congrArg Prod.snd h)⟩

/-- The payments onto the cell of key `k`. -/
abbrev onto (k : K) : Finset P := Finset.univ.filter fun p => X.key p = k

theorem mem_onto {k : K} {p : P} : p ∈ X.onto k ↔ X.key p = k :=
  ⟨fun h => (Finset.mem_filter.mp h).2, fun h => Finset.mem_filter.mpr ⟨Finset.mem_univ _, h⟩⟩

def sched : Schedule (GSem nD τ sig) P 𝕄 where
  duties g r := Finset.univ.filter fun p => r = 0 ∧ g.1.2 = .tc ∧ g.2 = X.sm (X.key p)
  amount _ _ p := X.amt p
  payload g _ p := X.pay ((X.tgt p).symm g.1.1) p
  amount_pos _ _ p _ := X.pos p

instance payload_storable (g : GSem nD τ sig) (r : ℕ) (p : P) : BI.Storable (upEmb : UEmb _ 𝕄) (X.sched.payload g r p) :=
  X.st _ p

theorem duties_later (g : GSem nD τ sig) : ∀ r, 1 ≤ r → X.sched.duties g r = ∅ := fun r hr => by
  dsimp only [sched]
  exact Finset.filter_eq_empty_iff.mpr fun p _ h => by omega

theorem duties_cell (c : Dev nD) (k : K) : X.sched.duties (X.cell c k) 0 = X.onto k := by
  dsimp only [sched, onto]
  refine Finset.filter_congr fun p _ => ⟨fun h => (X.inj h.2.2).symm, fun h => ⟨rfl, rfl, by rw [h]⟩⟩

theorem mem_duties (c : Dev nD) (p : P) : p ∈ X.sched.duties (X.cell c (X.key p)) 0 := by
  rw [duties_cell]; exact Finset.mem_filter.mpr ⟨Finset.mem_univ _, rfl⟩

/-- The units the owner of a cell of key `k` waits for. -/
def need (k : K) : ℕ := ∑ p ∈ X.onto k, X.amt p

theorem expect_cell (c : Dev nD) (k : K) : X.sched.expect (X.cell c k) 0 = X.need k := by
  unfold Schedule.expect Schedule.amountOf need
  rw [duties_cell]; rfl

/-- What the owner, device `c`, of a cell of key `k` holds after its wait. -/
def got (c : Dev nD) (k : K) : sProp 𝕄 := bigSep (X.onto k) fun p => X.pay ((X.tgt p).symm c) p

theorem rest_cell (c : Dev nD) (k : K) :
    bigSep (X.sched.duties (X.cell c k) 0 \ ∅) (fun p => X.sched.payload (X.cell c k) 0 p) = X.got c k := by
  rw [Finset.sdiff_empty, duties_cell]; rfl

theorem payload_to (c : Dev nD) (p : P) : X.sched.payload (X.cell (X.tgt p c) (X.key p)) 0 p = X.pay c p := by
  show X.pay ((X.tgt p).symm (X.tgt p c)) p = X.pay c p
  rw [Equiv.symm_apply_apply]

/-! ## What is owed, and the levels -/

/-- Payment `p` of device `c`, as what it owes. -/
abbrev tally (c : Dev nD) (p : P) : CellTallies nD τ sig Unit := tallyAt (X.cell (X.tgt p c) (X.key p)) () (X.amt p)

def due (c : Dev nD) : List P → CellTallies nD τ sig Unit
  | [] => 0
  | p :: ps => due c ps + X.tally c p

/-- What device `c` owes at launch. -/
def O₀ (c : Dev nD) : CellTallies nD τ sig Unit := X.due c X.owed

def L (g : GSem nD τ sig) : Finset Unit := if g.1.2 = .tc then {()} else ∅
def lv (g : GSem nD τ sig) (_ : Unit) : ℕ := ∑ k : K, if g.2 = X.sm k then X.lev k else 0

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (k : K) (u : Unit) : X.lv (X.cell c k) u = X.lev k := by
  unfold lv
  rw [Finset.sum_eq_single k (fun l _ hl => if_neg fun h => hl (X.inj h).symm) (fun h => absurd (Finset.mem_univ k) h), if_pos rfl]

theorem lv_other (c : Dev nD) (sm : SemLoc sig) (h : ∀ k, sm ≠ X.sm k) (u : Unit) : X.lv ((c : Thread nD τ), sm) u = 0 :=
  Finset.sum_eq_zero fun k _ => if_neg (h k)

/-- Everything owed is owed to a cell of the plan, at the key of one of the payments listed. -/
theorem due_pos {c : Dev nD} {ps : List P} {g : GSem nD τ sig} {u : Unit} (h : 0 < X.due c ps g u) :
    ∃ p ∈ ps, g = X.cell (X.tgt p c) (X.key p) := by
  induction ps with
  | nil => exact absurd h (Nat.lt_irrefl 0)
  | cons p ps ih =>
    have h' : 0 < X.due c ps g u + X.tally c p g u := h
    rcases Nat.add_pos_iff_pos_or_pos.mp h' with h' | h'
    · obtain ⟨q, hq, e⟩ := ih h'; exact ⟨q, List.mem_cons_of_mem _ hq, e⟩
    · exact ⟨p, List.mem_cons_self, (Pipeline.tallyAt_pos h').1⟩

/-- A device may wait on a cell below the level of everything it owes. -/
theorem mayWait (c : Dev nD) (sm : SemLoc sig) (ps : List P) (h : ∀ p ∈ ps, X.lv ((c : Thread nD τ), sm) () < X.lev (X.key p)) :
    (levAts L X.lv : sProp 𝕄) ⊢ MayWait (c : Thread nD τ) sm () (X.due c ps) :=
  MayOwe.of_cut (L := L) (lev := X.lv) (X.lv ((c : Thread nD τ), sm) ())
    (fun p hp => by rw [Finset.mem_singleton.mp hp, L_tc]; exact Finset.mem_singleton_self _)
    (fun g u hg => by obtain ⟨p, _, rfl⟩ := X.due_pos hg; rw [L_tc]; exact Finset.mem_singleton_self _)
    (fun p hp => by rw [Finset.mem_singleton.mp hp])
    (fun g u hg => by obtain ⟨p, hp, rfl⟩ := X.due_pos hg; rw [lv_cell]; exact h p hp)

/-! ## The records every device may consult -/

def records (N : Dev nD × K → ℕ) : sProp 𝕄 :=
  iprop((bigSep Finset.univ fun ck : Dev nD × K => cellInv ER X.sched (N ck) (X.cell ck.1 ck.2))
    ∗ bigSep Finset.univ fun ck : Dev nD × K => reached ER (X.cell ck.1 ck.2) 0)

instance records_persistent (N : Dev nD × K → ℕ) : BI.Persistent (X.records N) := by unfold records; infer_instance

theorem inv_at (N : Dev nD × K → ℕ) (c : Dev nD) (k : K) : X.records N ⊢ cellInv ER X.sched (N (c, k)) (X.cell c k) := by
  exact sep_elim_left.trans (bigSep_elim (Φ := fun ck : Dev nD × K => cellInv ER X.sched (N ck) (X.cell ck.1 ck.2)) (Finset.mem_univ (c, k)))

theorem reached_at (N : Dev nD × K → ℕ) (c : Dev nD) (k : K) : X.records N ⊢ reached ER (X.cell c k) 0 := by
  exact sep_elim_right.trans (bigSep_elim (Φ := fun ck : Dev nD × K => reached ER (X.cell ck.1 ck.2) 0) (Finset.mem_univ (c, k)))

/-- The token of payment `p` of device `c`. -/
abbrev tok (c : Dev nD) (p : P) : sProp 𝕄 := dutyTok ER (X.cell (X.tgt p c) (X.key p)) 0 p
/-- Device `c` has not waited on its cell of key `k` yet. -/
abbrev fresh (c : Dev nD) (k : K) : sProp 𝕄 := atPos ER (X.cell c k) 0 ∅ 0
/-- It has. -/
abbrev spent (c : Dev nD) (k : K) : sProp 𝕄 := atPos ER (X.cell c k) (0 + 1) ∅ 0
/-- The right to wait for all of the units of the cell of key `k`. -/
abbrev credit (c : Dev nD) (k : K) : sProp 𝕄 := cred (tallyAt (X.cell c k) () (X.need k))

/-- A cell past its round is closed, and its counter is zero. -/
theorem close (N : Dev nD × K → ℕ) (c : Dev nD) (k : K) :
    iprop(X.records N ∗ X.spent c k) ⊢ (|={Set.univ}=> semVal (X.cell c k) 0 : sProp 𝕄) :=
  (sep_mono_left (X.inv_at N c k)).trans (Rounds.cell_close ER X.sched (Set.mem_univ (N (c, k))) id (X.duties_later _))

theorem close_all (N : Dev nD × K → ℕ) (c : Dev nD) :
    iprop(X.records N ∗ bigSep Finset.univ (X.spent c)) ⊢ (|={Set.univ}=> bigSep Finset.univ fun k => semVal (X.cell c k) 0 : sProp 𝕄) :=
  ((sep_mono_left (BI.bigSep_of_persistent Finset.univ (X.records N))).trans (by rw [← bigSep_sep'])).trans
    ((bigSep_mono fun k _ => X.close N c k).trans (bigSep_fupd _ _))

/-! ## One step of each kind -/

section Steps

variable {Λ : Labels} {defs : Defs nD τ sig Val Λ} (𝒱 : Variants) (bd : Option 𝒱.V) (N : Dev nD × K → ℕ) (c : Dev nD)
variable {α : Type} {W : Waits sig Unit} {Q : α → sProp (MT nD τ sig Unit Val ℕ (UU nD τ sig P) ℕ)} {kont : PUnit → Prog (TpuEff nD τ sig Val Λ (c : Thread nD τ).2) α}

theorem signal_step (p : P) (ps : List P) (d : Dev nD) (hd : d = X.tgt p c) (sem : Sem sig) (hs : X.sm (X.key p) = .reg sem) (k' : ℕ)
    (hk : X.amt p = k') (hr : τ.routes (c : Thread nD τ) (d : Thread nD τ) = true) :
    iprop(X.records N ∗ owes (c : Thread nD τ) (X.due c (p :: ps)) W ∗ X.tok c p ∗ X.pay c p)
      ⊢ iprop((owes (c : Thread nD τ) (X.due c ps) W -∗ wp frame (wpE defs 𝒱 (c : Thread nD τ) bd) Set.univ (kont ⟨⟩) Q)
          -∗ wp frame (wpE defs 𝒱 (c : Thread nD τ) bd) Set.univ (.op (.semSignal (d : Thread nD τ) sem k') kont) Q) := by
  subst hd
  subst hk
  have hcell : X.cell (X.tgt p c) (X.key p) = ((X.tgt p c : Thread nD τ), .reg sem) := by show (_, _) = _; rw [hs]
  have key := Rounds.wp_signal (defs := defs) 𝒱 ER X.sched (c : Thread nD τ) bd (Γ := .empty) (dst := (X.tgt p c : Thread nD τ)) (sem := sem) (r := 0) (d := p)
    (k' := X.amt p) (k := kont) (Q := Q) (κ := N (X.tgt p c, X.key p)) (by rw [← hcell]; exact X.mem_duties _ p) rfl ()
    (O₀ := X.due c (p :: ps)) (X.due c ps) (by rw [← hcell]; rfl) (W := W) (Es := Set.univ) hr
  rw [← hcell, payload_to] at key
  iintro ⟨#HR, HO, Ht, Hp⟩ Hk
  iapply key $$ [HO Ht Hp] [Hk]
  rotate_left
  · iexact Hk
  isplitr; · iapply (X.inv_at N (X.tgt p c) (X.key p)); iexact HR
  isplitl [HO]; · iexact HO
  isplitl [Ht]; · iexact Ht
  isplitl [Hp]; · iexact Hp
  iapply (X.reached_at N (X.tgt p c) (X.key p)); iexact HR

theorem wait_step (k : K) (ps : List P) {w : TpuEff nD τ sig Val Λ (c : Thread nD τ).2 PUnit}
    (hw : ∀ J : PUnit → sProp 𝕄, wpE defs 𝒱 (c : Thread nD τ) bd Set.univ w J = waitSpec (c : Thread nD τ) Set.univ (X.sm k) (X.need k) J)
    (hl : ∀ p ∈ ps, X.lev k < X.lev (X.key p)) :
    iprop(X.records N ∗ levAts L X.lv ∗ X.credit c k ∗ owes (c : Thread nD τ) (X.due c ps) W ∗ X.fresh c k)
      ⊢ iprop(((owes (c : Thread nD τ) (X.due c ps) (insert (X.sm k, ()) W) ∗ X.spent c k ∗ X.got c k)
            -∗ wp frame (wpE defs 𝒱 (c : Thread nD τ) bd) Set.univ (kont ⟨⟩) Q)
          -∗ wp frame (wpE defs 𝒱 (c : Thread nD τ) bd) Set.univ (.op w kont) Q) := by
  iintro ⟨#HR, #Hla, Hc, HO, Hat⟩ Hk
  iapply (Rounds.wp_wait_rest_token 𝒱 ER X.sched (c : Thread nD τ) bd (κ := N (c, k)) hw (Set.mem_univ _) ()
    (O := X.due c ps) (W := W) (R := 0) (m := 0) (T := ∅) (by rw [expect_cell, Nat.zero_add])) $$ [Hc HO Hat]
  · isplitr; · iapply (X.inv_at N c k); iexact HR
    isplitl [Hc]; · iexact Hc
    isplitl [HO]; · iexact HO
    isplitr
    · iapply (X.mayWait c (X.sm k) ps fun p hp => by rw [lv_cell]; exact hl p hp); iexact Hla
    iexact Hat
  rw [rest_cell]
  iintro ⟨HO, Hat, -, Hp⟩
  iapply Hk
  isplitl [HO]; · iexact HO
  isplitl [Hat]; · iexact Hat
  iexact Hp

theorem copy_step {sp sp' : Space} {s : Shape} {e : EltTy} (p : P) (hto : X.tgt p c = c)
    (hown : X.onto (X.key p) = {p})
    {src : Memref sig (c : Thread nD τ).2.kind sp s e} {dst : Memref sig (c : Thread nD τ).2.kind sp' s e} {sem : SemLoc sig}
    (hs : X.sm (X.key p) = sem)
    {hsrc : src.view.WordExact} {hdst : dst.view.WordExact} {hsem : DmaTarget.Typed (nD := nD) sp sem (.here dst)}
    {q : PosShare TreeShare} {fs : Buf Val (src.view.loc (c : Thread nD τ))} {fd : Buf Val (dst.view.loc (c : Thread nD τ))}
    (hN : dst.view.amount sem = X.amt p)
    (hpay : iprop((dst.view.loc (c : Thread nD τ) ↦[dst.view.set]{fullShare} (dst.view.write Val fd (src.view.read Val fs) Finset.univ))
        ∗ (src.view.loc (c : Thread nD τ) ↦[src.view.set]{q} fs)) ⊢ X.pay c p) :
    iprop(X.records N ∗ (src.view.loc (c : Thread nD τ) ↦[src.view.set]{q} fs) ∗ (dst.view.loc (c : Thread nD τ) ↦[dst.view.set]{fullShare} fd)
        ∗ X.tok c p)
      ⊢ iprop((X.credit c (X.key p) -∗ wp frame (wpE defs 𝒱 (c : Thread nD τ) bd) Set.univ (kont ⟨⟩) Q)
          -∗ wp frame (wpE defs 𝒱 (c : Thread nD τ) bd) Set.univ (.op (.enqueueDma src (.here dst) sem hsrc hdst hsem) kont) Q) := by
  subst hs
  have hneed : X.need (X.key p) = X.amt p := by unfold need; rw [hown, Finset.sum_singleton]
  have hpl : X.sched.payload (X.cell c (X.key p)) 0 p = X.pay c p := by have h := X.payload_to c p; rwa [hto] at h
  have key := Rounds.wp_copy_pointsTo (defs := defs) 𝒱 ER X.sched (c : Thread nD τ) bd (Γ := .empty) (src := src) (dst := dst) (sem := X.sm (X.key p))
    (hsrc := hsrc) (hdst := hdst) (hsem := hsem) (k := kont) (Q := Q) (q := q) (fs := fs) (fd := fd) (r := 0) (d := p)
    (κ := N (c, X.key p)) (X.mem_duties c p) () (X.amt p) hN rfl (hpay.trans (Entails.of_eq hpl.symm)) (Es := Set.univ)
  unfold credit tok
  rw [hneed, hto]
  iintro ⟨#HR, Hs, Hd, Ht⟩ Hk
  iapply key $$ [Hs Hd Ht] [Hk]
  rotate_left
  · iexact Hk
  isplitr; · iapply (X.inv_at N c (X.key p)); iexact HR
  isplitl [Hs]; · iexact Hs
  isplitl [Hd]; · iexact Hd
  isplitl [Ht]; · iexact Ht
  iapply (X.reached_at N c (X.key p)); iexact HR

/-- A transfer to the device `d` at which payment `p₂` is made; its source side is payment `p₁`, the device's own. -/
theorem send_step {sp sp' : Space} {s : Shape} {e : EltTy} (p₁ p₂ : P) (ps : List P) (d : Dev nD) (hd : d = X.tgt p₂ c) (hto : X.tgt p₁ c = c)
    (hown : X.onto (X.key p₁) = {p₁})
    {src : Memref sig (c : Thread nD τ).2.kind sp s e} {dst : Memref sig .tc sp' s e}
    {hsc : dst.view.ref.isScScratch = false}
    {sS sem : SemLoc sig} (hs₁ : X.sm (X.key p₁) = sS) (hs₂ : X.sm (X.key p₂) = sem)
    {hsrc : src.view.WordExact} {hdst : dst.view.WordExact}
    {hsem : DmaTarget.Typed sp sem (.remote (d : Thread nD τ) dst sS hsc)}
    {q : PosShare TreeShare} {fs : Buf Val (src.view.loc (c : Thread nD τ))} {fd : Buf Val (dst.view.loc (X.tgt p₂ c : Thread nD τ))}
    (hN : dst.view.amount sem = X.amt p₁) (hamt : X.amt p₂ = X.amt p₁)
    (hpay₁ : (src.view.loc (c : Thread nD τ) ↦[src.view.set]{q} fs) ⊢ X.pay c p₁)
    (hpay₂ : (dst.view.loc (X.tgt p₂ c : Thread nD τ) ↦[dst.view.set]{fullShare} (dst.view.write Val fd (src.view.read Val fs) Finset.univ)) ⊢ X.pay c p₂)
    (hr : τ.routes (c : Thread nD τ) (d : Thread nD τ) = true) :
    iprop(X.records N ∗ (src.view.loc (c : Thread nD τ) ↦[src.view.set]{q} fs) ∗ (dst.view.loc (X.tgt p₂ c : Thread nD τ) ↦[dst.view.set]{fullShare} fd)
        ∗ owes (c : Thread nD τ) (X.due c (p₂ :: ps)) W ∗ X.tok c p₁ ∗ X.tok c p₂)
      ⊢ iprop(((X.credit c (X.key p₁) ∗ owes (c : Thread nD τ) (X.due c ps) W)
            -∗ wp frame (wpE defs 𝒱 (c : Thread nD τ) bd) Set.univ (kont ⟨⟩) Q)
          -∗ wp frame (wpE defs 𝒱 (c : Thread nD τ) bd) Set.univ (.op (.enqueueDma src (.remote (d : Thread nD τ) dst sS hsc) sem hsrc hdst hsem) kont) Q) := by
  subst hd
  subst hs₁
  subst hs₂
  have hneed : X.need (X.key p₁) = X.amt p₁ := by unfold need; rw [hown, Finset.sum_singleton]
  have hpl₁ : X.sched.payload (X.cell c (X.key p₁)) 0 p₁ = X.pay c p₁ := by have h := X.payload_to c p₁; rwa [hto] at h
  have key := Rounds.wp_send_pointsTo (defs := defs) 𝒱 ER X.sched (c : Thread nD τ) bd (Γ := .empty) (c' := (X.tgt p₂ c : Thread nD τ)) (src := src) (dst := dst) (hsc := hsc)
    (sS := X.sm (X.key p₁)) (sem := X.sm (X.key p₂))
    (hsrc := hsrc) (hdst := hdst) (hsem := hsem) (k := kont) (Q := Q) (q := q) (fs := fs) (fd := fd) (r₁ := 0) (r₂ := 0) (d₁ := p₁) (d₂ := p₂)
    (κ₁ := N (c, X.key p₁)) (κ₂ := N (X.tgt p₂ c, X.key p₂)) (X.mem_duties c p₁) (X.mem_duties _ p₂) () () (X.amt p₁) hN rfl hamt
    (O₀ := X.due c (p₂ :: ps)) (X.due c ps) (by rw [← hamt]; rfl) (W := W)
    (hpay₁.trans (Entails.of_eq hpl₁.symm)) (hpay₂.trans (Entails.of_eq (X.payload_to c p₂).symm)) (Es := Set.univ) hr
  unfold credit tok
  rw [hneed, hto]
  iintro ⟨#HR, Hs, Hd, HO, Ht₁, Ht₂⟩ Hk
  iapply key $$ [Hs Hd HO Ht₁ Ht₂] [Hk]
  rotate_left
  · iexact Hk
  isplitr; · iapply (X.inv_at N c (X.key p₁)); iexact HR
  isplitr; · iapply (X.inv_at N (X.tgt p₂ c) (X.key p₂)); iexact HR
  isplitl [Hs]; · iexact Hs
  isplitl [Hd]; · iexact Hd
  isplitl [HO]; · iexact HO
  isplitl [Ht₁]; · iexact Ht₁
  isplitr; · iapply (X.reached_at N c (X.key p₁)); iexact HR
  isplitl [Ht₂]; · iexact Ht₂
  iapply (X.reached_at N (X.tgt p₂ c) (X.key p₂)); iexact HR

end Steps

/-! ## The launch -/

/-- The cells and the tokens of the whole machine, and the element funding them. -/
def allCells : Finset (GSem nD τ sig) :=
  Finset.univ.map ⟨fun ck : Dev nD × K => X.cell ck.1 ck.2, fun a b h => Prod.ext (X.cell_inj h).1 (X.cell_inj h).2⟩
def allToks : Finset (GSem nD τ sig × ℕ × P) :=
  Finset.univ.map ⟨fun cp : Dev nD × P => (X.cell cp.1 (X.key cp.2), 0, cp.2), fun a b h =>
    Prod.ext (X.cell_inj (congrArg Prod.fst h)).1 (congrArg (fun x : GSem nD τ sig × ℕ × P => x.2.2) h)⟩

/-- What the funding gives device `c`: of its cells, the round states, positions and marks; the tokens its cells accept. -/
def G (c : Dev nD) : sProp 𝕄 :=
  iprop((bigSep Finset.univ fun k => roundState ER X.sched (X.cell c k) 0)
    ∗ (bigSep Finset.univ fun k => iprop(X.fresh c k ∗ reached ER (X.cell c k) 0))
    ∗ bigSep Finset.univ fun p => dutyTok ER (X.cell c (X.key p)) 0 p)

theorem fund : BI.own (ER (initOf X.allCells X.allToks)) ⊢ (|==> bigSep Finset.univ X.G : sProp 𝕄) := by
  refine (Rounds.fund ER X.sched X.allCells X.allToks).trans (BI.bupd_mono ?_)
  unfold allCells allToks G
  rw [bigSep_map, bigSep_map, bigSep_map, bigSep_map, bigSep_univ_prod, bigSep_univ_prod, bigSep_univ_prod, bigSep_univ_prod,
    bigSep_sep', bigSep_sep', bigSep_congr (s := Finset.univ) (fun (c : Dev nD) _ => bigSep_sep' Finset.univ (X.fresh c) (fun k => reached ER (X.cell c k) 0)), bigSep_sep']
  exact (show ∀ A B C D : sProp 𝕄, iprop(A ∗ B ∗ C ∗ D) ⊢ iprop(A ∗ (C ∗ B) ∗ D) from fun A B C D => by
    iintro ⟨H1, H2, H3, H4⟩
    isplitl [H1]; · iexact H1
    isplitl [H2 H3]
    · isplitl [H3]; · iexact H3
      iexact H2
    iexact H4) _ _ _ _

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What device `c` owes at one cell, summed over the devices that owe it: the units of the payments owed of that key. -/
theorem due_sum (c : Dev nD) (k : K) (ps : List P) :
    (∑ d : Dev nD, X.due d ps (X.cell c k) ()) = ((ps.filter fun p => X.key p = k).map X.amt).sum := by
  induction ps with
  | nil => exact Finset.sum_eq_zero fun _ _ => rfl
  | cons p ps ih =>
    have hone : (∑ d : Dev nD, X.tally d p (X.cell c k) ()) = if X.key p = k then X.amt p else 0 := by
      by_cases h : X.key p = k
      · rw [if_pos h, Finset.sum_eq_single ((X.tgt p).symm c)]
        · rw [tallyAt_apply, if_pos ⟨by rw [Equiv.apply_symm_apply, h], rfl⟩]
        · intro d _ hd
          rw [tallyAt_apply, if_neg fun h' => hd ?_]
          rw [(X.cell_inj h'.1).1, Equiv.symm_apply_apply]
        · exact fun h' => absurd (Finset.mem_univ _) h'
      · rw [if_neg h]
        refine Finset.sum_eq_zero fun d _ => ?_
        rw [tallyAt_apply, if_neg fun h' => h (X.cell_inj h'.1).2.symm]
    have hsplit : (∑ d : Dev nD, X.due d (p :: ps) (X.cell c k) ()) = (∑ d : Dev nD, X.due d ps (X.cell c k) ()) + ∑ d : Dev nD, X.tally d p (X.cell c k) () := by
      rw [← Finset.sum_add_distrib]; rfl
    rw [hsplit, ih, hone]
    by_cases h : X.key p = k
    · rw [if_pos h, List.filter_cons_of_pos (by simpa using h), List.map_cons, List.sum_cons, Nat.add_comm]
    · rw [if_neg h, List.filter_cons_of_neg (by simpa using h), Nat.add_zero]

/-- A key all of whose payments are owed, each once. -/
abbrev Covered (k : K) : Prop := ((X.owed.filter fun p => X.key p = k).map X.amt).sum = X.need k

theorem launch_credit (c : Dev nD) (k : K) (h : X.Covered k) :
    tallyOn (X.cell c k) (launchCredit (Pipeline.owing X.O₀) 0 (X.cell c k)) = (tallyAt (X.cell c k) () (X.need k) : CellTallies nD τ sig Unit) := by
  unfold tallyAt
  refine congrArg _ (Finsupp.ext fun u => ?_)
  cases u
  rw [Pipeline.launchCredit_owing, Finsupp.single_eq_same]
  exact (X.due_sum c k X.owed).trans h

theorem creds (c : Dev nD) (S : Finset K) (h : ∀ k ∈ S, X.Covered k) :
    (Pipeline.launchCred X.O₀ c : sProp 𝕄) ⊢ bigSep S (X.credit c) := by
  unfold Pipeline.launchCred
  refine (bigSep_subset (Finset.subset_univ (S.map ⟨X.sm, X.inj⟩))).trans ?_
  rw [bigSep_map]
  exact bigSep_mono fun k hk => Entails.of_eq (congrArg cred (X.launch_credit c k (h k hk)))

/-- What each device starts from, beside its buffers: the records, its cells unwaited, the tokens of its own payments,
    the right to wait on the cells of `S` (those others pay), and the level facts. -/
def start (S : Finset K) (c : Dev nD) : sProp 𝕄 :=
  iprop(∃ N, X.records N ∗ levAts L X.lv ∗ bigSep Finset.univ (X.fresh c) ∗ bigSep Finset.univ (X.tok c) ∗ bigSep S (X.credit c))

/-- On one device: the invariants of its cells allocated, from their counters at zero and their round states. -/
theorem alloc (c : Dev nD) :
    iprop((bigSep Finset.univ fun k => semVal (X.cell c k) 0) ∗ X.G c)
      ⊢ (|={Set.univ}=> iprop((bigSep Finset.univ fun k => iprop(∃ κ : ℕ, cellInv ER X.sched κ (X.cell c k)))
          ∗ (bigSep Finset.univ fun k => iprop(X.fresh c k ∗ reached ER (X.cell c k) 0))
          ∗ bigSep Finset.univ fun p => dutyTok ER (X.cell c (X.key p)) 0 p) : sProp 𝕄) := by
  unfold G
  iintro ⟨Hv, Hst, Hat, Htok⟩
  imod (show iprop((bigSep Finset.univ fun k => semVal (X.cell c k) 0) ∗ bigSep Finset.univ fun k => roundState ER X.sched (X.cell c k) 0)
      ⊢ (|={Set.univ}=> bigSep Finset.univ fun k => iprop(∃ κ : ℕ, cellInv ER X.sched κ (X.cell c k)) : sProp 𝕄) from by
        rw [← bigSep_sep']
        exact (bigSep_mono fun k _ => (Rounds.body_intro ER X.sched (X.cell c k)).trans inv_alloc).trans (bigSep_fupd _ _)) $$ [Hv Hst] with Hinv
  · isplitl [Hv] <;> iassumption
  imodintro
  isplitl [Hinv]; · iexact Hinv
  isplitl [Hat]; · iexact Hat
  iexact Htok

/-- Each payment's token goes from the cell it pays to the device that makes it. -/
theorem toks_dealt :
    (bigSep Finset.univ fun c : Dev nD => bigSep Finset.univ fun p => (dutyTok ER (X.cell c (X.key p)) 0 p : sProp 𝕄))
      = bigSep Finset.univ fun c : Dev nD => bigSep Finset.univ fun p => X.tok c p := by
  rw [bigSep_univ_comm, bigSep_univ_comm (fun (c : Dev nD) (p : P) => (X.tok c p : sProp 𝕄))]
  exact bigSep_congr fun p _ => bigSep_univ_equiv (X.tgt p) fun c : Dev nD => (dutyTok ER (X.cell c (X.key p)) 0 p : sProp 𝕄)

/-- One map of names for all the cells; the records are everybody's. -/
theorem regroup :
    (bigSep Finset.univ fun c : Dev nD => iprop((bigSep Finset.univ fun k => iprop(∃ κ : ℕ, cellInv ER X.sched κ (X.cell c k)))
          ∗ (bigSep Finset.univ fun k => iprop(X.fresh c k ∗ reached ER (X.cell c k) 0))
          ∗ bigSep Finset.univ fun p => dutyTok ER (X.cell c (X.key p)) 0 p) : sProp 𝕄)
      ⊢ iprop(∃ N, X.records N ∗ bigSep Finset.univ fun c : Dev nD => iprop(bigSep Finset.univ (X.fresh c) ∗ bigSep Finset.univ (X.tok c))) := by
  rw [bigSep_sep', bigSep_sep', toks_dealt, ← bigSep_univ_prod (fun ck : Dev nD × K => iprop(∃ κ : ℕ, cellInv ER X.sched κ (X.cell ck.1 ck.2))),
    bigSep_congr (s := Finset.univ) (fun (c : Dev nD) _ => bigSep_sep' Finset.univ (X.fresh c) (fun k => reached ER (X.cell c k) 0)),
    bigSep_sep', ← bigSep_univ_prod (fun ck : Dev nD × K => (reached ER (X.cell ck.1 ck.2) 0 : sProp 𝕄))]
  iintro ⟨HI, ⟨Hat, #HR⟩, Htok⟩
  ihave HN := (BI.bigSep_exists_pi Finset.univ (fun (ck : Dev nD × K) (κ : ℕ) => (cellInv ER X.sched κ (X.cell ck.1 ck.2) : sProp 𝕄))) $$ HI
  icases HN with ⟨%N, #HI⟩
  iexists N
  isplitr
  · unfold records
    isplitl
    · iexact HI
    iexact HR
  rw [bigSep_sep']
  isplitl [Hat] <;> iassumption

/-- From the launch to what each device starts with, its buffers `A c` riding along. -/
theorem init (S : Finset K) (hS : ∀ k ∈ S, X.Covered k) (hK : ∀ k, ¬ (X.sm k).isScoped .tc) (ρ : Dev nD → PrngReg) (A : Dev nD → sProp 𝕄) :
    iprop((bigSep Finset.univ fun c : Dev nD => iprop(A c ∗ unscopedSems0 c ∗ owes (c : Thread nD τ) (X.O₀ c) ∅
          ∗ Pipeline.launchCred X.O₀ c ∗ prngReg c (ρ c) ∗ X.G c)) ∗ levAts L X.lv)
      ⊢ (|={Set.univ}=> bigSep Finset.univ fun c : Dev nD => iprop(A c ∗ X.start S c ∗ owes (c : Thread nD τ) (X.O₀ c) ∅) : sProp 𝕄) := by
  have hsem (c : Dev nD) : (unscopedSems0 c : sProp 𝕄) ⊢ bigSep Finset.univ fun k => semVal (X.cell c k) 0 := by
    unfold unscopedSems0
    refine (bigSep_subset (s := _) (t := Finset.univ.map ⟨X.sm, X.inj⟩) fun s hs => ?_).trans ?_
    · obtain ⟨k, -, rfl⟩ := Finset.mem_map.mp hs
      exact Finset.mem_filter.mpr ⟨Finset.mem_univ _, hK k⟩
    · rw [bigSep_map]; exact BI.Entails.refl _
  have hcore (c : Dev nD) : iprop(A c ∗ unscopedSems0 c ∗ owes (c : Thread nD τ) (X.O₀ c) ∅
        ∗ Pipeline.launchCred X.O₀ c ∗ prngReg c (ρ c) ∗ X.G c)
      ⊢ (|={Set.univ}=> iprop(iprop((bigSep Finset.univ fun k => iprop(∃ κ : ℕ, cellInv ER X.sched κ (X.cell c k)))
            ∗ (bigSep Finset.univ fun k => iprop(X.fresh c k ∗ reached ER (X.cell c k) 0))
            ∗ bigSep Finset.univ fun p => dutyTok ER (X.cell c (X.key p)) 0 p)
          ∗ iprop(A c ∗ bigSep S (X.credit c) ∗ owes (c : Thread nD τ) (X.O₀ c) ∅)) : sProp 𝕄) := by
    iintro ⟨HA, Hus, HO, Hcr, -, HG⟩
    ihave Hc := (X.creds c S hS) $$ Hcr
    ihave Hv := (hsem c) $$ Hus
    imod (X.alloc c) $$ [Hv HG] with HB
    · isplitl [Hv] <;> iassumption
    imodintro
    isplitl [HB]; · iexact HB
    isplitl [HA]; · iexact HA
    isplitl [Hc] <;> iassumption
  have halloc : (bigSep Finset.univ fun c : Dev nD => iprop(A c ∗ unscopedSems0 c ∗ owes (c : Thread nD τ) (X.O₀ c) ∅
        ∗ Pipeline.launchCred X.O₀ c ∗ prngReg c (ρ c) ∗ X.G c))
      ⊢ (|={Set.univ}=> iprop((bigSep Finset.univ fun c : Dev nD => iprop((bigSep Finset.univ fun k => iprop(∃ κ : ℕ, cellInv ER X.sched κ (X.cell c k)))
            ∗ (bigSep Finset.univ fun k => iprop(X.fresh c k ∗ reached ER (X.cell c k) 0))
            ∗ bigSep Finset.univ fun p => dutyTok ER (X.cell c (X.key p)) 0 p))
          ∗ bigSep Finset.univ fun c : Dev nD => iprop(A c ∗ bigSep S (X.credit c) ∗ owes (c : Thread nD τ) (X.O₀ c) ∅)) : sProp 𝕄) :=
    ((bigSep_mono fun c _ => hcore c).trans (bigSep_fupd _ _)).trans (BI.fupd_mono (Entails.of_eq (bigSep_sep' _ _ _)))
  iintro ⟨H, #Hla⟩
  imod halloc $$ H with ⟨HA, HB⟩
  ihave HG := X.regroup $$ HA
  icases HG with ⟨%N, #HR, HG⟩
  imodintro
  iapply (bigSep_with (R := iprop(X.records N ∗ levAts L X.lv)) (Φ := fun c : Dev nD => iprop((bigSep Finset.univ (X.fresh c) ∗ bigSep Finset.univ (X.tok c))
    ∗ (A c ∗ bigSep S (X.credit c) ∗ owes (c : Thread nD τ) (X.O₀ c) ∅))) fun c _ => by
      iintro ⟨⟨#HR, #Hla⟩, ⟨Hf, Ht⟩, HA, Hc, HO⟩
      isplitl [HA]; · iexact HA
      isplitr [HO]
      · unfold start
        iexists N
        isplitr; · iexact HR
        isplitr; · iexact Hla
        isplitl [Hf]; · iexact Hf
        isplitl [Ht]; · iexact Ht
        iexact Hc
      iexact HO)
  isplitr
  · isplitl
    · iexact HR
    iexact Hla
  iapply (Entails.of_eq (bigSep_sep' Finset.univ (fun c : Dev nD => iprop(bigSep Finset.univ (X.fresh c) ∗ bigSep Finset.univ (X.tok c)))
    (fun c : Dev nD => iprop(A c ∗ bigSep S (X.credit c) ∗ owes (c : Thread nD τ) (X.O₀ c) ∅))).symm)
  isplitl [HG] <;> iassumption

end Plan

end Cert.Exchange

end
-- ==== Proof.Exchange.lean ====
/-
  The exchanges of this certificate, as instances of the one-round protocol of `Plan`.

  An exchange is a pair of kernels, start and wait. Every device `c` has the same peers `flip i c` (`i : I`; each `flip i` is
  its own inverse) and the same arrays `a : A`; transfer `(a, i)` goes from `c`'s source view `src c (a, i)` into the view
  `dst c (a, i)` of the LANDING buffer of the peer `flip i c`. An exchange may also copy within a device (`b : B`).

  The protocol, semaphore by semaphore:
    * `bar` (a counter). Start kernel: device `c` first signals one unit to each peer, and with that unit hands the peer the
      places of `c`'s own landing buffers that this peer will write, whatever they hold. Then it waits for the units of all
      its peers, and so holds the places it will write on each of them before any transfer starts.
    * `send (a, i)`. Credited by `c`'s own transfer when its source has been read; hands back the source view, unchanged.
      `c` waits for it in the wait kernel.
    * `recv (a, i)`. Credited by the transfer of the peer `flip i c`; hands over the place it wrote in `c`'s landing buffer,
      at the contents `landed` (the sender's source contents). `c` waits for it in the wait kernel.
    * `loc b`. Credited by `c`'s own local copy; hands over the written place and the source. Waited for in the wait kernel.
  Levels: while waiting on `bar` a device still owes its peers the receive credits, so `bar` is below `recv`.
-/
module

public import proofs.«01_k».proof.Proof.Plan
public import Idealize.ShloMosaic.Lib.Pipeline.BigSepL

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The keys of an exchange's semaphores. -/
inductive Key (A I B : Type) where
  | bar
  | send (t : A × I)
  | recv (t : A × I)
  | loc (b : B)
deriving DecidableEq

/-- Its payments. -/
inductive Pay (A I B : Type) where
  | sig (i : I)
  | send (t : A × I)
  | recv (t : A × I)
  | loc (b : B)
deriving DecidableEq

def Key.equiv (A I B : Type) : (Unit ⊕ (A × I)) ⊕ ((A × I) ⊕ B) ≃ Key A I B where
  toFun x := match x with
    | .inl (.inl _) => .bar
    | .inl (.inr t) => .send t
    | .inr (.inl t) => .recv t
    | .inr (.inr b) => .loc b
  invFun k := match k with
    | .bar => .inl (.inl ())
    | .send t => .inl (.inr t)
    | .recv t => .inr (.inl t)
    | .loc b => .inr (.inr b)
  left_inv x := by rcases x with (x | x) | (x | x) <;> rfl
  right_inv k := by cases k <;> rfl

def Pay.equiv (A I B : Type) : (I ⊕ (A × I)) ⊕ ((A × I) ⊕ B) ≃ Pay A I B where
  toFun x := match x with
    | .inl (.inl i) => .sig i
    | .inl (.inr t) => .send t
    | .inr (.inl t) => .recv t
    | .inr (.inr b) => .loc b
  invFun k := match k with
    | .sig i => .inl (.inl i)
    | .send t => .inl (.inr t)
    | .recv t => .inr (.inl t)
    | .loc b => .inr (.inr b)
  left_inv x := by rcases x with (x | x) | (x | x) <;> rfl
  right_inv k := by cases k <;> rfl

instance {A I B : Type} [Fintype A] [Fintype I] [Fintype B] : Fintype (Key A I B) := Fintype.ofEquiv _ (Key.equiv A I B)
instance {A I B : Type} [Fintype A] [Fintype I] [Fintype B] : Fintype (Pay A I B) := Fintype.ofEquiv _ (Pay.equiv A I B)

variable {nD : Nat} {τ : Topo} {sig : RefSig} {Val : EltTy → Type}
variable {A I B : Type} [DecidableEq A] [DecidableEq I] [DecidableEq B] [Fintype A] [Fintype I] [Fintype B]

local notation "𝕄" => MT nD τ sig Unit Val ℕ (UU nD τ sig (Pay A I B)) ℕ

omit [DecidableEq A] [DecidableEq I] [DecidableEq B] in
/-- A family over the keys, kind by kind. -/
theorem bigSep_key {M : Type _} [URA M] (Φ : Key A I B → sProp M) : bigSep Finset.univ Φ
    = iprop((Φ .bar ∗ bigSep Finset.univ fun t => Φ (.send t)) ∗ (bigSep Finset.univ fun t => Φ (.recv t)) ∗ bigSep Finset.univ fun b => Φ (.loc b)) := by
  refine (bigSep_univ_equiv (Key.equiv A I B) Φ).trans ?_
  rw [bigSep_univ_sum, bigSep_univ_sum, bigSep_univ_sum, show (Finset.univ : Finset Unit) = {()} from rfl, bigSep_singleton]
  rfl

omit [DecidableEq A] [DecidableEq I] [DecidableEq B] in
theorem bigSep_pay {M : Type _} [URA M] (Φ : Pay A I B → sProp M) : bigSep Finset.univ Φ
    = iprop(((bigSep Finset.univ fun i => Φ (.sig i)) ∗ bigSep Finset.univ fun t => Φ (.send t))
        ∗ (bigSep Finset.univ fun t => Φ (.recv t)) ∗ bigSep Finset.univ fun b => Φ (.loc b)) := by
  refine (bigSep_univ_equiv (Pay.equiv A I B) Φ).trans ?_
  rw [bigSep_univ_sum, bigSep_univ_sum, bigSep_univ_sum]
  rfl

/-- The semaphore of each cell. -/
def semOf {sig : RefSig} {A I B : Type} (bar : Sem sig) (send recv : A × I → DmaSem sig) (loc : B → DmaSem sig) : Key A I B → SemLoc sig
  | .bar => .reg bar
  | .send t => .dma (send t)
  | .recv t => .dma (recv t)
  | .loc b => .dma (loc b)

variable (nD τ sig Val A I B) in
structure Exch where
  bar : Sem sig
  send : A × I → DmaSem sig
  recv : A × I → DmaSem sig
  loc : B → DmaSem sig
  send_inj : Function.Injective send
  recv_inj : Function.Injective recv
  loc_inj : Function.Injective loc
  send_recv : ∀ s t, send s ≠ recv t
  send_loc : ∀ s b, send s ≠ loc b
  recv_loc : ∀ s b, recv s ≠ loc b
  flip : I → Dev nD ≃ Dev nD
  flip_flip : ∀ i c, flip i (flip i c) = c
  sh : A → Shape
  el : A → EltTy
  bsh : B → Shape
  bel : B → EltTy
  src : Dev nD → (t : A × I) → Memref sig .tc .hbm (sh t.1) (el t.1)
  dst : Dev nD → (t : A × I) → Memref sig .tc .hbm (sh t.1) (el t.1)
  lsrc : Dev nD → (b : B) → Memref sig .tc .hbm (bsh b) (bel b)
  ldst : Dev nD → (b : B) → Memref sig .tc .hbm (bsh b) (bel b)
  q : A × I → PosShare TreeShare
  ql : B → PosShare TreeShare
  fs : ∀ (c : Dev nD) (t : A × I), Buf Val ((src c t).view.loc (c : Thread nD τ))
  fl : ∀ (c : Dev nD) (b : B), Buf Val ((lsrc c b).view.loc (c : Thread nD τ))
  landed : ∀ (c : Dev nD) (t : A × I) (p : Dev nD), Buf Val ((dst c t).view.loc (p : Thread nD τ))
  llanded : ∀ (c : Dev nD) (b : B), Buf Val ((ldst c b).view.loc (c : Thread nD τ))
  amt : A → ℕ
  lamt : B → ℕ
  amt_pos : ∀ a, 0 < amt a
  lamt_pos : ∀ b, 0 < lamt b
  hamt : ∀ c t, (dst c t).view.dmaCredit = amt t.1
  hlamt : ∀ c b, (ldst c b).view.dmaCredit = lamt b
  hland : ∀ c t (fd : Buf Val ((dst c t).view.loc (flip t.2 c : Thread nD τ))), ∀ x ∈ (dst c t).view.set,
    (dst c t).view.write Val fd ((src c t).view.read Val (fs c t)) Finset.univ x = landed c t (flip t.2 c) x
  hlland : ∀ c b (fd : Buf Val ((ldst c b).view.loc (c : Thread nD τ))), ∀ x ∈ (ldst c b).view.set,
    (ldst c b).view.write Val fd ((lsrc c b).view.read Val (fl c b)) Finset.univ x = llanded c b x
  is : List I
  ts : List (A × I)
  bs : List B
  is_nodup : is.Nodup
  ts_nodup : ts.Nodup
  bs_nodup : bs.Nodup
  is_all : Finset.univ = is.toFinset
  ts_all : Finset.univ = ts.toFinset
  bs_all : Finset.univ = bs.toFinset
  is_ne : is ≠ []

namespace Exch

variable (E : Exch nD τ sig Val A I B)

def sm : Key A I B → SemLoc sig := semOf E.bar E.send E.recv E.loc

theorem sm_inj : Function.Injective E.sm := by
  intro k l h
  cases k <;> cases l <;> simp only [sm, semOf, SemLoc.dma.injEq, reduceCtorEq] at h
  · rfl
  · rw [E.send_inj h]
  · exact absurd h (E.send_recv _ _)
  · exact absurd h (E.send_loc _ _)
  · exact absurd h.symm (E.send_recv _ _)
  · rw [E.recv_inj h]
  · exact absurd h (E.recv_loc _ _)
  · exact absurd h.symm (E.send_loc _ _)
  · exact absurd h.symm (E.recv_loc _ _)
  · rw [E.loc_inj h]

/-- The place that transfer `t` of device `c` writes, were it on device `p`. -/
abbrev placeAt (p c : Dev nD) (t : A × I) (f : Buf Val ((E.dst c t).view.loc (p : Thread nD τ))) : sProp 𝕄 :=
  (E.dst c t).view.loc (p : Thread nD τ) ↦[(E.dst c t).view.set]{fullShare} f
/-- The place transfer `t` of device `c` writes, at contents `f`. -/
abbrev place (c : Dev nD) (t : A × I) (f : Buf Val ((E.dst c t).view.loc (E.flip t.2 c : Thread nD τ))) : sProp 𝕄 :=
  (E.dst c t).view.loc (E.flip t.2 c : Thread nD τ) ↦[(E.dst c t).view.set]{fullShare} f
/-- The same, at any contents. -/
abbrev room (c : Dev nD) (t : A × I) : sProp 𝕄 := iprop(∃ f, E.place c t f)
/-- The place in `c`'s own landing buffer that its peer's transfer `t` will write, at any contents; -/
abbrev spare (c : Dev nD) (t : A × I) : sProp 𝕄 := iprop(∃ f, E.placeAt c (E.flip t.2 c) t f)
/-- and once it has been written. -/
abbrev arrived (c : Dev nD) (t : A × I) : sProp 𝕄 := E.placeAt c (E.flip t.2 c) t (E.landed (E.flip t.2 c) t c)
theorem spare_eq (c : Dev nD) (t : A × I) : E.spare c t = E.room (E.flip t.2 c) t :=
  congrArg (fun p => iprop(∃ f, E.placeAt p (E.flip t.2 c) t f)) (E.flip_flip t.2 c).symm
/-- What transfer `t` of device `c` reads. -/
abbrev source (c : Dev nD) (t : A × I) : sProp 𝕄 := (E.src c t).view.loc (c : Thread nD τ) ↦[(E.src c t).view.set]{E.q t} E.fs c t
abbrev lplace (c : Dev nD) (b : B) (f : Buf Val ((E.ldst c b).view.loc (c : Thread nD τ))) : sProp 𝕄 :=
  (E.ldst c b).view.loc (c : Thread nD τ) ↦[(E.ldst c b).view.set]{fullShare} f
abbrev lroom (c : Dev nD) (b : B) : sProp 𝕄 := iprop(∃ f, E.lplace c b f)
abbrev lsource (c : Dev nD) (b : B) : sProp 𝕄 := (E.lsrc c b).view.loc (c : Thread nD τ) ↦[(E.lsrc c b).view.set]{E.ql b} E.fl c b

def pay (c : Dev nD) : Pay A I B → sProp 𝕄
  | .sig i => bigSep Finset.univ fun a => E.room (E.flip i c) (a, i)
  | .send t => E.source c t
  | .recv t => E.place c t (E.landed c t (E.flip t.2 c))
  | .loc b => iprop(E.lplace c b (E.llanded c b) ∗ E.lsource c b)

def plan : Plan nD τ sig Val (Key A I B) (Pay A I B) where
  sm := E.sm
  inj := E.sm_inj
  key p := match p with
    | .sig _ => .bar
    | .send t => .send t
    | .recv t => .recv t
    | .loc b => .loc b
  tgt p := match p with
    | .sig i => E.flip i
    | .send _ => Equiv.refl _
    | .recv t => E.flip t.2
    | .loc _ => Equiv.refl _
  amt p := match p with
    | .sig _ => 1
    | .send t => E.amt t.1
    | .recv t => E.amt t.1
    | .loc b => E.lamt b
  pos p := by
    cases p
    · exact Nat.one_pos
    · exact E.amt_pos _
    · exact E.amt_pos _
    · exact E.lamt_pos _
  pay := E.pay
  st c p := by cases p <;> (unfold pay; infer_instance)
  lev k := match k with
    | .bar => 1
    | .recv _ => 2
    | _ => 0
  owed := E.is.map .sig ++ E.ts.map .recv

theorem flip_symm (i : I) (c : Dev nD) : (E.flip i).symm c = E.flip i c := by
  rw [Equiv.symm_apply_eq, E.flip_flip]

/-! ## Who pays which cell -/

theorem onto_send (t : A × I) : E.plan.onto (.send t) = {.send t} := by
  ext p; rw [E.plan.mem_onto, Finset.mem_singleton]; cases p <;> simp [plan]
theorem onto_recv (t : A × I) : E.plan.onto (.recv t) = {.recv t} := by
  ext p; rw [E.plan.mem_onto, Finset.mem_singleton]; cases p <;> simp [plan]
theorem onto_loc (b : B) : E.plan.onto (.loc b) = {.loc b} := by
  ext p; rw [E.plan.mem_onto, Finset.mem_singleton]; cases p <;> simp [plan]
theorem onto_bar : E.plan.onto .bar = Finset.univ.map ⟨Pay.sig, fun _ _ h => Pay.sig.inj h⟩ := by
  ext p; rw [E.plan.mem_onto, Finset.mem_map]
  cases p <;> simp only [plan, Function.Embedding.coeFn_mk, Finset.mem_univ, true_and, reduceCtorEq, exists_false]
  exact ⟨fun _ => ⟨_, rfl⟩, fun _ => trivial⟩

theorem need_send (t : A × I) : E.plan.need (.send t) = E.amt t.1 := by unfold Plan.need; rw [onto_send, Finset.sum_singleton]; rfl
theorem need_recv (t : A × I) : E.plan.need (.recv t) = E.amt t.1 := by unfold Plan.need; rw [onto_recv, Finset.sum_singleton]; rfl
theorem need_loc (b : B) : E.plan.need (.loc b) = E.lamt b := by unfold Plan.need; rw [onto_loc, Finset.sum_singleton]; rfl
theorem need_bar : E.plan.need .bar = Fintype.card I := by
  unfold Plan.need; rw [onto_bar, Finset.sum_map]
  show (∑ _ : I, 1) = _
  rw [Finset.sum_const, Finset.card_univ, smul_eq_mul, mul_one]

theorem got_send (c : Dev nD) (t : A × I) : E.plan.got c (.send t) = E.source c t := by unfold Plan.got; rw [onto_send, bigSep_singleton]; rfl
theorem got_recv (c : Dev nD) (t : A × I) : E.plan.got c (.recv t) = E.arrived c t := by
  unfold Plan.got; rw [onto_recv, bigSep_singleton]
  show E.place ((E.flip t.2).symm c) t (E.landed ((E.flip t.2).symm c) t (E.flip t.2 ((E.flip t.2).symm c))) = _
  rw [flip_symm]
  exact congrArg (fun p => E.placeAt p (E.flip t.2 c) t (E.landed (E.flip t.2 c) t p)) (E.flip_flip t.2 c)
theorem got_loc (c : Dev nD) (b : B) : E.plan.got c (.loc b) = iprop(E.lplace c b (E.llanded c b) ∗ E.lsource c b) := by
  unfold Plan.got; rw [onto_loc, bigSep_singleton]; rfl
/-- The units of all the peers: device `c` holds every place it will write. -/
theorem got_bar (c : Dev nD) : E.plan.got c .bar = bigSep Finset.univ (E.room c) := by
  unfold Plan.got; rw [onto_bar, bigSep_map, bigSep_univ_prod, bigSep_univ_comm]
  refine bigSep_congr fun i _ => ?_
  show bigSep Finset.univ (fun a => E.room (E.flip i ((E.flip i).symm c)) (a, i)) = _
  rw [Equiv.apply_symm_apply]

/-- What a device hands its peers as it signals them. -/
theorem spares (c : Dev nD) : bigSep Finset.univ (E.spare c) = bigSep Finset.univ fun i => E.plan.pay c (.sig i) := by
  rw [bigSep_congr fun t _ => E.spare_eq c t, bigSep_univ_prod, bigSep_univ_comm]; rfl

/-! ## The payments owed cover the cells others pay -/

theorem count_is (i : I) : E.is.count i = 1 :=
  List.count_eq_one_of_mem E.is_nodup (List.mem_toFinset.mp (E.is_all ▸ Finset.mem_univ i))

theorem covered_bar : E.plan.Covered .bar := by
  show (((E.is.map Pay.sig ++ E.ts.map Pay.recv).filter fun p => E.plan.key p = Key.bar).map E.plan.amt).sum = _
  have h1 : ((E.is.map (Pay.sig : I → Pay A I B)).filter fun p => E.plan.key p = Key.bar) = E.is.map Pay.sig :=
    List.filter_eq_self.mpr fun p hp => by obtain ⟨i, -, rfl⟩ := List.mem_map.mp hp; exact decide_eq_true rfl
  have h2 : ((E.ts.map (Pay.recv : A × I → Pay A I B)).filter fun p => E.plan.key p = Key.bar) = [] :=
    List.filter_eq_nil_iff.mpr fun p hp => by
      obtain ⟨t, -, rfl⟩ := List.mem_map.mp hp; intro h; exact absurd (of_decide_eq_true h) (by intro h'; cases h')
  rw [List.filter_append, h1, h2, List.append_nil, List.map_map, need_bar, ← Finset.card_univ, E.is_all, List.toFinset_card_of_nodup E.is_nodup]
  generalize E.is = l
  induction l with
  | nil => rfl
  | cons i l ih => rw [List.map_cons, List.sum_cons, ih, List.length_cons, Nat.add_comm]; rfl

theorem covered_recv (t : A × I) : E.plan.Covered (.recv t) := by
  show (((E.is.map Pay.sig ++ E.ts.map Pay.recv).filter fun p => E.plan.key p = Key.recv t).map E.plan.amt).sum = _
  have h1 : ((E.is.map (Pay.sig : I → Pay A I B)).filter fun p => E.plan.key p = Key.recv t) = [] :=
    List.filter_eq_nil_iff.mpr fun p hp => by
      obtain ⟨i, -, rfl⟩ := List.mem_map.mp hp; intro h; exact absurd (of_decide_eq_true h) (by intro h'; cases h')
  have h2 : ∀ l : List (A × I), l.Nodup → t ∈ l → ((l.map (Pay.recv : A × I → Pay A I B)).filter fun p => E.plan.key p = Key.recv t) = [Pay.recv t] := by
    intro l hl ht
    rw [List.filter_map, show ((fun p : Pay A I B => decide (E.plan.key p = Key.recv t)) ∘ Pay.recv) = fun s => s == t from
      funext fun s => by
        show decide (Key.recv s = Key.recv t) = (s == t)
        simp only [Key.recv.injEq]; exact (Bool.beq_eq_decide_eq s t).symm]
    rw [List.filter_beq, List.count_eq_one_of_mem hl ht]; rfl
  rw [List.filter_append, h1, h2 _ E.ts_nodup (List.mem_toFinset.mp (E.ts_all ▸ Finset.mem_univ t)), List.nil_append, need_recv]
  exact Nat.add_zero _

/-- The cells whose units others pay. -/
def others : Finset (Key A I B) := insert .bar (Finset.univ.map ⟨Key.recv, fun _ _ h => Key.recv.inj h⟩)

theorem covered : ∀ k ∈ (others : Finset (Key A I B)), E.plan.Covered k := fun k hk => by
  rcases Finset.mem_insert.mp hk with rfl | hk
  · exact E.covered_bar
  · obtain ⟨t, -, rfl⟩ := Finset.mem_map.mp hk; exact E.covered_recv t

theorem bigSep_others (Φ : Key A I B → sProp 𝕄) : bigSep others Φ = iprop(Φ .bar ∗ bigSep Finset.univ fun t => Φ (.recv t)) := by
  unfold others
  rw [bigSep_insert (by simp), bigSep_map]; rfl

/-! ## Programs that run through a list of effects -/

/-- The effects `op i`, for the `i` of a list in order, and then `k`. -/
def run {Λ : Labels} {ι : Type} {p : Proc τ} (l : List ι) (op : ι → TpuEff nD τ sig Val Λ p PUnit) (k : Prog (TpuEff nD τ sig Val Λ p) PUnit) :
    Prog (TpuEff nD τ sig Val Λ p) PUnit := l.foldr (fun i r => .op (op i) fun _ => r) k

section Walk

variable {Λ : Labels} {defs : Defs nD τ sig Val Λ} (𝒱 : Variants) (bd : Option 𝒱.V) (c : Dev nD)
variable {Q : PUnit → sProp (MT nD τ sig Unit Val ℕ (UU nD τ sig (Pay A I B)) ℕ)}

local notation "wp'" => wp frame (wpE defs 𝒱 (c : Thread nD τ) bd) Set.univ

/-- A list of steps, each of which turns `pre i` into `post i` and moves the invariant one element on. -/
theorem steps_walk {ι : Type} (pre post : ι → sProp 𝕄) (inv : List ι → sProp 𝕄)
    (step : ι → Prog (TpuEff nD τ sig Val Λ (c : Thread nD τ).2) PUnit → Prog (TpuEff nD τ sig Val Λ (c : Thread nD τ).2) PUnit)
    (k : Prog (TpuEff nD τ sig Val Λ (c : Thread nD τ).2) PUnit)
    (hstep : ∀ i l r, iprop(pre i ∗ inv (i :: l)) ⊢ iprop(((post i ∗ inv l) -∗ wp' r Q) -∗ wp' (step i r) Q)) :
    ∀ l : List ι, iprop(bigSepL l pre ∗ inv l) ⊢ iprop(((bigSepL l post ∗ inv []) -∗ wp' k Q) -∗ wp' (l.foldr step k) Q)
  | [] => by
      iintro ⟨H, HI⟩ Hk
      iapply Hk
      isplitl [H]
      · iexact H
      iexact HI
  | i :: l => by
      have ih := steps_walk pre post inv step k hstep l
      rw [bigSepL_cons', bigSepL_cons']
      iintro ⟨⟨Hi, H⟩, HI⟩ Hk
      iapply (hstep i l (l.foldr step k)) $$ [Hi HI]
      · isplitl [Hi]; · iexact Hi
        iexact HI
      iintro ⟨Hi, HI⟩
      iapply ih $$ [H HI]
      · isplitl [H]; · iexact H
        iexact HI
      iintro ⟨H, HI⟩
      iapply Hk
      isplitr [HI]
      · isplitl [Hi]; · iexact Hi
        iexact H
      iexact HI

/-- What every step consults, and what the device still owes. -/
def base (N : Dev nD × Key A I B → ℕ) (ps : List (Pay A I B)) : sProp 𝕄 :=
  iprop((E.plan.records N ∗ levAts Plan.L E.plan.lv) ∗ ∃ W, owes (c : Thread nD τ) (E.plan.due c ps) W)

variable (N : Dev nD × Key A I B → ℕ)

theorem signals_walk (op : I → TpuEff nD τ sig Val Λ (c : Thread nD τ).2 PUnit)
    (hop : ∀ i, ∃ d : Dev nD, d = E.flip i c ∧ op i = .semSignal (d : Thread nD τ) E.bar ((1 : ℕ) : ℤ))
    (ps : List (Pay A I B)) (k : Prog (TpuEff nD τ sig Val Λ (c : Thread nD τ).2) PUnit) :
    iprop((bigSep Finset.univ fun i => iprop(E.plan.tok c (.sig i) ∗ E.plan.pay c (.sig i))) ∗ E.base c N (E.is.map .sig ++ ps))
      ⊢ iprop((E.base c N ps -∗ wp' k Q) -∗ wp' (run E.is op k) Q) := by
  rw [bigSep_univ_eq_bigSepL E.is E.is_all E.is_nodup]
  have key := steps_walk (defs := defs) 𝒱 bd c (Q := Q) (fun i => iprop(E.plan.tok c (.sig i) ∗ E.plan.pay c (.sig i))) (fun _ => iprop(emp))
    (fun l => E.base c N (l.map .sig ++ ps)) (fun i r => .op (op i) fun _ => r) k (fun i l r => by
      obtain ⟨d, hd, ho⟩ := hop i
      rw [ho]
      unfold base
      iintro ⟨⟨Ht, Hp⟩, ⟨#HR, #Hl⟩, %W, HO⟩ Hk
      iapply (E.plan.signal_step 𝒱 bd N c (.sig i) (l.map .sig ++ ps) d hd E.bar rfl 1 rfl (Topo.routes_tc _ _)) $$ [HO Ht Hp]
      · isplitr; · iexact HR
        isplitl [HO]; · iexact HO
        isplitl [Ht]; · iexact Ht
        iexact Hp
      iintro HO
      iapply Hk
      isplitr
      · iempintro
      isplitr
      · isplitl; · iexact HR
        iexact Hl
      iexists W; iexact HO) E.is
  iintro ⟨H, HB⟩ Hk
  iapply key $$ [H HB]
  · isplitl [H]; · iexact H
    iexact HB
  iintro ⟨-, HB⟩
  iapply Hk
  iexact HB

theorem sends_walk (op : A × I → TpuEff nD τ sig Val Λ (c : Thread nD τ).2 PUnit)
    (hop : ∀ t, ∃ (d : Dev nD) (_ : d = E.flip t.2 c) (hsc : _) (hsrc : _) (hdst : _) (hsem : _),
      op t = .enqueueDma (E.src c t) (.remote (d : Thread nD τ) (E.dst c t) (.dma (E.send t)) hsc) (.dma (E.recv t)) hsrc hdst hsem)
    (ps : List (Pay A I B)) (k : Prog (TpuEff nD τ sig Val Λ (c : Thread nD τ).2) PUnit) :
    iprop((bigSep Finset.univ fun t => iprop((E.source c t ∗ E.room c t) ∗ E.plan.tok c (.send t) ∗ E.plan.tok c (.recv t)))
        ∗ E.base c N (E.ts.map .recv ++ ps))
      ⊢ iprop((((bigSep Finset.univ fun t => E.plan.credit c (.send t)) ∗ E.base c N ps) -∗ wp' k Q) -∗ wp' (run E.ts op k) Q) := by
  rw [bigSep_univ_eq_bigSepL E.ts E.ts_all E.ts_nodup, bigSep_univ_eq_bigSepL E.ts E.ts_all E.ts_nodup]
  have key := steps_walk (defs := defs) 𝒱 bd c (Q := Q) (fun t => iprop((E.source c t ∗ E.room c t) ∗ E.plan.tok c (.send t) ∗ E.plan.tok c (.recv t)))
    (fun t => E.plan.credit c (.send t)) (fun l => E.base c N (l.map .recv ++ ps)) (fun i r => .op (op i) fun _ => r) k (fun t l r => by
      obtain ⟨d, hd, hsc, hsrc, hdst, hsem, ho⟩ := hop t
      rw [ho]
      unfold base
      iintro ⟨⟨⟨Hs, %f, Hd⟩, Ht₁, Ht₂⟩, ⟨#HR, #Hl⟩, %W, HO⟩ Hk
      have hp₁ : E.source c t ⊢ E.plan.pay c (.send t) := BI.Entails.refl _
      have hp₂ : E.place c t ((E.dst c t).view.write Val f ((E.src c t).view.read Val (E.fs c t)) Finset.univ) ⊢ E.plan.pay c (.recv t) :=
        Entails.of_eq (pointsTo_congr (E.hland c t f))
      iapply (E.plan.send_step (defs := defs) (Q := Q) (W := W) 𝒱 bd N c (.send t) (.recv t) (l.map .recv ++ ps) d hd rfl (E.onto_send t) (src := E.src c t) (dst := E.dst c t)
        (hsc := hsc) (sS := .dma (E.send t)) (sem := .dma (E.recv t)) rfl rfl (hsrc := hsrc) (hdst := hdst) (hsem := hsem)
        (q := E.q t) (fs := E.fs c t) (fd := f) (E.hamt c t) rfl hp₁ hp₂ (Topo.routes_tc _ _)) $$ [Hs Hd HO Ht₁ Ht₂]
      · isplitr; · iexact HR
        isplitl [Hs]; · iexact Hs
        isplitl [Hd]; · iexact Hd
        isplitl [HO]; · iexact HO
        isplitl [Ht₁]; · iexact Ht₁
        iexact Ht₂
      iintro ⟨Hc, HO⟩
      iapply Hk
      isplitl [Hc]; · iexact Hc
      isplitr
      · isplitl; · iexact HR
        iexact Hl
      iexists W; iexact HO) E.ts
  exact key

theorem locals_walk (op : B → TpuEff nD τ sig Val Λ (c : Thread nD τ).2 PUnit)
    (hop : ∀ b, ∃ (hsrc : _) (hdst : _) (hsem : _), op b = .enqueueDma (E.lsrc c b) (.here (E.ldst c b)) (.dma (E.loc b)) hsrc hdst hsem)
    (ps : List (Pay A I B)) (k : Prog (TpuEff nD τ sig Val Λ (c : Thread nD τ).2) PUnit) :
    iprop((bigSep Finset.univ fun b => iprop((E.lroom c b ∗ E.lsource c b) ∗ E.plan.tok c (.loc b))) ∗ E.base c N ps)
      ⊢ iprop((((bigSep Finset.univ fun b => E.plan.credit c (.loc b)) ∗ E.base c N ps) -∗ wp' k Q) -∗ wp' (run E.bs op k) Q) := by
  rw [bigSep_univ_eq_bigSepL E.bs E.bs_all E.bs_nodup, bigSep_univ_eq_bigSepL E.bs E.bs_all E.bs_nodup]
  have key := steps_walk (defs := defs) 𝒱 bd c (Q := Q) (fun b => iprop((E.lroom c b ∗ E.lsource c b) ∗ E.plan.tok c (.loc b)))
    (fun b => E.plan.credit c (.loc b)) (fun _ => E.base c N ps) (fun i r => .op (op i) fun _ => r) k (fun b l r => by
      obtain ⟨hsrc, hdst, hsem, ho⟩ := hop b
      rw [ho]
      unfold base
      iintro ⟨⟨⟨⟨%f, Hd⟩, Hs⟩, Ht⟩, ⟨#HR, #Hl⟩, HO⟩ Hk
      have hp : iprop(E.lplace c b ((E.ldst c b).view.write Val f ((E.lsrc c b).view.read Val (E.fl c b)) Finset.univ) ∗ E.lsource c b) ⊢ E.plan.pay c (.loc b) :=
        sep_mono_left (Entails.of_eq (pointsTo_congr (E.hlland c b f)))
      iapply (E.plan.copy_step (defs := defs) (Q := Q) 𝒱 bd N c (.loc b) rfl (E.onto_loc b) (src := E.lsrc c b) (dst := E.ldst c b) (sem := .dma (E.loc b)) rfl
        (hsrc := hsrc) (hdst := hdst) (hsem := hsem) (q := E.ql b) (fs := E.fl c b) (fd := f) (E.hlamt c b) hp) $$ [Hs Hd Ht]
      · isplitr; · iexact HR
        isplitl [Hs]; · iexact Hs
        isplitl [Hd]; · iexact Hd
        iexact Ht
      iintro Hc
      iapply Hk
      isplitl [Hc]; · iexact Hc
      isplitr
      · isplitl; · iexact HR
        iexact Hl
      iexact HO) E.bs
  exact key

/-- Between the start kernel and the wait kernel: the barrier is behind, and every transfer may be waited for. -/
def mid : sProp 𝕄 :=
  iprop(∃ N, (E.plan.records N ∗ levAts Plan.L E.plan.lv) ∗ E.plan.spent c .bar
    ∗ (bigSep Finset.univ fun t => iprop((E.plan.credit c (.send t) ∗ E.plan.fresh c (.send t)) ∗ E.plan.credit c (.recv t) ∗ E.plan.fresh c (.recv t)))
    ∗ bigSep Finset.univ fun b => iprop(E.plan.credit c (.loc b) ∗ E.plan.fresh c (.loc b)))

/-- What the device owes once the start kernel is done: nothing. -/
abbrev clear : sProp 𝕄 := iprop(∃ W, owes (c : Thread nD τ) 0 W)

/-- The buffers the start kernel takes: the places in the device's own landing buffers for each peer to write, its sources,
    and both ends of its local copies. -/
def takes : sProp 𝕄 :=
  iprop((bigSep Finset.univ (E.spare c))
    ∗ (bigSep Finset.univ (E.source c)) ∗ bigSep Finset.univ fun b => iprop(E.lroom c b ∗ E.lsource c b))

/-- The buffers the wait kernel gives back. -/
def returns : sProp 𝕄 :=
  iprop((bigSep Finset.univ (E.arrived c))
    ∗ (bigSep Finset.univ (E.source c)) ∗ bigSep Finset.univ fun b => iprop(E.lplace c b (E.llanded c b) ∗ E.lsource c b))

theorem start_walk (sop : I → TpuEff nD τ sig Val Λ (c : Thread nD τ).2 PUnit)
    (hsop : ∀ i, ∃ d : Dev nD, d = E.flip i c ∧ sop i = .semSignal (d : Thread nD τ) E.bar ((1 : ℕ) : ℤ))
    (wop : TpuEff nD τ sig Val Λ (c : Thread nD τ).2 PUnit) (hwop : wop = .semWait E.bar (Fintype.card I))
    (top : A × I → TpuEff nD τ sig Val Λ (c : Thread nD τ).2 PUnit)
    (htop : ∀ t, ∃ (d : Dev nD) (_ : d = E.flip t.2 c) (hsc : _) (hsrc : _) (hdst : _) (hsem : _),
      top t = .enqueueDma (E.src c t) (.remote (d : Thread nD τ) (E.dst c t) (.dma (E.send t)) hsc) (.dma (E.recv t)) hsrc hdst hsem)
    (lop : B → TpuEff nD τ sig Val Λ (c : Thread nD τ).2 PUnit)
    (hlop : ∀ b, ∃ (hsrc : _) (hdst : _) (hsem : _), lop b = .enqueueDma (E.lsrc c b) (.here (E.ldst c b)) (.dma (E.loc b)) hsrc hdst hsem)
    (k : Prog (TpuEff nD τ sig Val Λ (c : Thread nD τ).2) PUnit) :
    iprop(E.plan.start others c ∗ E.takes c ∗ ∃ W, owes (c : Thread nD τ) (E.plan.O₀ c) W)
      ⊢ iprop(((E.mid c ∗ clear c) -∗ wp' k Q) -∗ wp' (run E.is sop (.op wop fun _ => run E.ts top (run E.bs lop k))) Q) := by
  subst hwop
  unfold Plan.start takes
  iintro ⟨⟨%N, #HR, #Hl, Hf, Ht, Hcr⟩, ⟨Hpl, Hsrc, Hlo⟩, HO⟩ Hk
  ihave Hpl := (Entails.of_eq (E.spares c)) $$ Hpl
  ihave Hcr := (Entails.of_eq (bigSep_others (E.plan.credit c))) $$ Hcr
  icases Hcr with ⟨Hcb, Hcr⟩
  ihave Hf := (Entails.of_eq (bigSep_key (E.plan.fresh c))) $$ Hf
  icases Hf with ⟨⟨Hfb, Hfs⟩, Hfr, Hfl⟩
  ihave Ht := (Entails.of_eq (bigSep_pay (E.plan.tok c))) $$ Ht
  icases Ht with ⟨⟨Htg, Hts⟩, Htr, Htl⟩
  iapply (E.signals_walk 𝒱 bd c N sop hsop (E.ts.map .recv) _) $$ [Htg Hpl HO]
  · isplitr [HO]
    · iapply (Entails.of_eq (bigSep_sep' Finset.univ (fun i => E.plan.tok c (.sig i)) (fun i => E.plan.pay c (.sig i))).symm)
      isplitl [Htg]; · iexact Htg
      iexact Hpl
    unfold base
    isplitr
    · isplitl; · iexact HR
      iexact Hl
    iexact HO
  unfold base
  iintro ⟨-, %W, HO⟩
  iapply (E.plan.wait_step 𝒱 bd N c .bar (E.ts.map .recv) (fun J => by
      rw [need_bar]; exact wpE_semWait_eq 𝒱 (c : Thread nD τ) bd Set.univ J) (fun p hp => by
      obtain ⟨t, -, rfl⟩ := List.mem_map.mp hp; exact Nat.lt_succ_self 1)) $$ [Hcb HO Hfb]
  · isplitr; · iexact HR
    isplitr; · iexact Hl
    isplitl [Hcb]; · iexact Hcb
    isplitl [HO]; · iexact HO
    iexact Hfb
  iintro ⟨HO, Hsb, Hroom⟩
  ihave Hroom := (Entails.of_eq (E.got_bar c)) $$ Hroom
  iapply (E.sends_walk 𝒱 bd c N top htop [] _) $$ [Hsrc Hroom Hts Htr HO]
  · isplitr [HO]
    · iapply (Entails.of_eq (bigSep_sep' Finset.univ (fun t => iprop(E.source c t ∗ E.room c t)) (fun t => iprop(E.plan.tok c (.send t) ∗ E.plan.tok c (.recv t)))).symm)
      isplitl [Hsrc Hroom]
      · iapply (Entails.of_eq (bigSep_sep' Finset.univ (E.source c) (E.room c)).symm)
        isplitl [Hsrc]; · iexact Hsrc
        iexact Hroom
      · iapply (Entails.of_eq (bigSep_sep' Finset.univ (fun t => E.plan.tok c (.send t)) (fun t => E.plan.tok c (.recv t))).symm)
        isplitl [Hts]; · iexact Hts
        iexact Htr
    unfold base
    rw [List.append_nil]
    isplitr
    · isplitl; · iexact HR
      iexact Hl
    iexists _; iexact HO
  iintro ⟨Hcs, HB⟩
  iapply (E.locals_walk 𝒱 bd c N lop hlop [] k) $$ [Hlo Htl HB]
  · isplitr [HB]
    · iapply (Entails.of_eq (bigSep_sep' Finset.univ (fun b => iprop(E.lroom c b ∗ E.lsource c b)) (fun b => E.plan.tok c (.loc b))).symm)
      isplitl [Hlo]; · iexact Hlo
      iexact Htl
    iexact HB
  unfold base
  iintro ⟨Hcl, -, HO⟩
  iapply Hk
  isplitr [HO]
  · unfold mid
    iexists N
    isplitr
    · isplitl; · iexact HR
      iexact Hl
    isplitl [Hsb]; · iexact Hsb
    isplitr [Hcl Hfl]
    · iapply (Entails.of_eq (bigSep_sep' Finset.univ (fun t => iprop(E.plan.credit c (.send t) ∗ E.plan.fresh c (.send t))) (fun t => iprop(E.plan.credit c (.recv t) ∗ E.plan.fresh c (.recv t)))).symm)
      isplitl [Hcs Hfs]
      · iapply (Entails.of_eq (bigSep_sep' Finset.univ (fun t => E.plan.credit c (.send t)) (fun t => E.plan.fresh c (.send t))).symm)
        isplitl [Hcs]; · iexact Hcs
        iexact Hfs
      · iapply (Entails.of_eq (bigSep_sep' Finset.univ (fun t => E.plan.credit c (.recv t)) (fun t => E.plan.fresh c (.recv t))).symm)
        isplitl [Hcr]; · iexact Hcr
        iexact Hfr
    · iapply (Entails.of_eq (bigSep_sep' Finset.univ (fun b => E.plan.credit c (.loc b)) (fun b => E.plan.fresh c (.loc b))).symm)
      isplitl [Hcl]; · iexact Hcl
      iexact Hfl
  iexact HO

/-- The wait kernel: each transfer's send cell and receive cell in turn, then the local copies. At its end the cells are
    closed, with their counters at zero. -/
theorem wait_walk (sop rop : A × I → TpuEff nD τ sig Val Λ (c : Thread nD τ).2 PUnit)
    (hsop : ∀ t (J : PUnit → sProp 𝕄), wpE defs 𝒱 (c : Thread nD τ) bd Set.univ (sop t) J = waitSpec (c : Thread nD τ) Set.univ (.dma (E.send t)) (E.amt t.1) J)
    (hrop : ∀ t (J : PUnit → sProp 𝕄), wpE defs 𝒱 (c : Thread nD τ) bd Set.univ (rop t) J = waitSpec (c : Thread nD τ) Set.univ (.dma (E.recv t)) (E.amt t.1) J)
    (lop : B → TpuEff nD τ sig Val Λ (c : Thread nD τ).2 PUnit)
    (hlop : ∀ b (J : PUnit → sProp 𝕄), wpE defs 𝒱 (c : Thread nD τ) bd Set.univ (lop b) J = waitSpec (c : Thread nD τ) Set.univ (.dma (E.loc b)) (E.lamt b) J)
    (k : Prog (TpuEff nD τ sig Val Λ (c : Thread nD τ).2) PUnit) :
    iprop(E.mid c ∗ clear c)
      ⊢ iprop((((bigSep Finset.univ fun k => semVal (E.plan.cell c k) 0) ∗ E.returns c ∗ clear c) -∗ wp' k Q)
          -∗ wp' (E.ts.foldr (fun t r => .op (sop t) fun _ => .op (rop t) fun _ => r) (run E.bs lop k)) Q) := by
  have hone (N : Dev nD × Key A I B → ℕ) (k : Key A I B) (w : TpuEff nD τ sig Val Λ (c : Thread nD τ).2 PUnit)
      (hw : ∀ J : PUnit → sProp 𝕄, wpE defs 𝒱 (c : Thread nD τ) bd Set.univ w J = waitSpec (c : Thread nD τ) Set.univ (E.plan.sm k) (E.plan.need k) J)
      (r : Prog (TpuEff nD τ sig Val Λ (c : Thread nD τ).2) PUnit) :
      iprop((E.plan.credit c k ∗ E.plan.fresh c k) ∗ E.base c N [])
        ⊢ iprop((((E.plan.spent c k ∗ E.plan.got c k) ∗ E.base c N []) -∗ wp' r Q) -∗ wp' (.op w fun _ => r) Q) := by
    unfold base
    iintro ⟨⟨Hc, Hf⟩, ⟨#HR, #Hl⟩, %W, HO⟩ Hk
    iapply (E.plan.wait_step 𝒱 bd N c k [] hw (fun p hp => absurd hp List.not_mem_nil)) $$ [Hc Hf HO]
    · isplitr; · iexact HR
      isplitr; · iexact Hl
      isplitl [Hc]; · iexact Hc
      isplitl [HO]; · iexact HO
      iexact Hf
    iintro ⟨HO, Hs, Hg⟩
    iapply Hk
    isplitl [Hs Hg]
    · isplitl [Hs]; · iexact Hs
      iexact Hg
    isplitr
    · isplitl; · iexact HR
      iexact Hl
    iexists _; iexact HO
  unfold mid
  iintro ⟨⟨%N, #⟨HR, Hl⟩, Hsb, Ht, Hb⟩, HO⟩ Hk
  have h1 := steps_walk (defs := defs) 𝒱 bd c (Q := Q)
    (fun t => iprop((E.plan.credit c (.send t) ∗ E.plan.fresh c (.send t)) ∗ E.plan.credit c (.recv t) ∗ E.plan.fresh c (.recv t)))
    (fun t => iprop((E.plan.spent c (.send t) ∗ E.plan.got c (.send t)) ∗ E.plan.spent c (.recv t) ∗ E.plan.got c (.recv t)))
    (fun _ => E.base c N []) (fun t r => .op (sop t) fun _ => .op (rop t) fun _ => r) (run E.bs lop k) (fun t l r => by
      iintro ⟨⟨Hs, Hr⟩, HB⟩ Hk
      iapply (hone N (.send t) (sop t) (fun J => by rw [need_send]; exact hsop t J) _) $$ [Hs HB]
      · isplitl [Hs]; · iexact Hs
        iexact HB
      iintro ⟨Hs, HB⟩
      iapply (hone N (.recv t) (rop t) (fun J => by rw [need_recv]; exact hrop t J) r) $$ [Hr HB]
      · isplitl [Hr]; · iexact Hr
        iexact HB
      iintro ⟨Hr, HB⟩
      iapply Hk
      isplitl [Hs Hr]
      · isplitl [Hs]; · iexact Hs
        iexact Hr
      iexact HB) E.ts
  have h2 := steps_walk (defs := defs) 𝒱 bd c (Q := Q) (fun b => iprop(E.plan.credit c (.loc b) ∗ E.plan.fresh c (.loc b)))
    (fun b => iprop(E.plan.spent c (.loc b) ∗ E.plan.got c (.loc b)))
    (fun _ => E.base c N []) (fun b r => .op (lop b) fun _ => r) k
    (fun b l r => hone N (.loc b) (lop b) (fun J => by rw [need_loc]; exact hlop b J) r) E.bs
  rw [← bigSep_univ_eq_bigSepL E.ts E.ts_all E.ts_nodup, ← bigSep_univ_eq_bigSepL E.ts E.ts_all E.ts_nodup] at h1
  rw [← bigSep_univ_eq_bigSepL E.bs E.bs_all E.bs_nodup, ← bigSep_univ_eq_bigSepL E.bs E.bs_all E.bs_nodup] at h2
  iapply h1 $$ [Ht HO]
  · isplitl [Ht]; · iexact Ht
    unfold base
    isplitr
    · isplitl; · iexact HR
      iexact Hl
    iexact HO
  iintro ⟨Ht, HB⟩
  iapply h2 $$ [Hb HB]
  · isplitl [Hb]; · iexact Hb
    iexact HB
  iintro ⟨Hb, HB⟩
  unfold base
  icases HB with ⟨-, HO⟩
  ihave Ht := (Entails.of_eq (bigSep_sep' Finset.univ (fun t => iprop(E.plan.spent c (.send t) ∗ E.plan.got c (.send t))) (fun t => iprop(E.plan.spent c (.recv t) ∗ E.plan.got c (.recv t))))) $$ Ht
  icases Ht with ⟨Hs, Hr⟩
  ihave Hs := (Entails.of_eq (bigSep_sep' Finset.univ (fun t => E.plan.spent c (.send t)) (fun t => E.plan.got c (.send t)))) $$ Hs
  icases Hs with ⟨Hs, Hsg⟩
  ihave Hr := (Entails.of_eq (bigSep_sep' Finset.univ (fun t => E.plan.spent c (.recv t)) (fun t => E.plan.got c (.recv t)))) $$ Hr
  icases Hr with ⟨Hr, Hrg⟩
  ihave Hb := (Entails.of_eq (bigSep_sep' Finset.univ (fun b => E.plan.spent c (.loc b)) (fun b => E.plan.got c (.loc b)))) $$ Hb
  icases Hb with ⟨Hb, Hbg⟩
  ihave Hsg := (Entails.of_eq (bigSep_congr fun t _ => E.got_send c t)) $$ Hsg
  ihave Hrg := (Entails.of_eq (bigSep_congr fun t _ => E.got_recv c t)) $$ Hrg
  ihave Hbg := (Entails.of_eq (bigSep_congr fun b _ => E.got_loc c b)) $$ Hbg
  iapply (fupd_wp (Idealize.ShloMosaic.frame) (wpE defs 𝒱 (c : Thread nD τ) bd) Set.univ k Q)
  imod (E.plan.close_all N c) $$ [Hsb Hs Hr Hb] with Hz
  · isplitr; · iexact HR
    iapply (Entails.of_eq (bigSep_key (E.plan.spent c)).symm)
    isplitl [Hsb Hs]
    · isplitl [Hsb]; · iexact Hsb
      iexact Hs
    isplitl [Hr]; · iexact Hr
    iexact Hb
  imodintro
  iapply Hk
  isplitl [Hz]; · iexact Hz
  isplitr [HO]
  · unfold returns
    isplitl [Hrg]; · iexact Hrg
    isplitl [Hsg]; · iexact Hsg
    iexact Hbg
  iexact HO

end Walk

end Exch

end Cert.Exchange

end
-- ==== Proof.Mesh.lean ====
/-
  The mesh and the slots. Eight devices, device `4 x + 2 y + c` at mesh position `(x, y, c)`; the CHIP of a device is
  `2 x + y`, its core `c`. A landing buffer has one SLOT per chip, or one per device.
-/
module

public import proofs.«01_k».proof.Proof.Exchange
public import Idealize.ShloMosaic.Lib.Pipeline.ValueKit.Geometry

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Devices -/

/-- The device whose position differs in the bits of `m`. -/
def flipDev (m : Fin 8) (c : Dev 8) : Dev 8 := ⟨c.val ^^^ m.val, by revert m c; decide⟩

theorem flipDev_flipDev : ∀ (m : Fin 8) (c : Dev 8), flipDev m (flipDev m c) = c := by decide

def flipBy (m : Fin 8) : Dev 8 ≃ Dev 8 := ⟨flipDev m, flipDev m, flipDev_flipDev m, flipDev_flipDev m⟩

theorem flipBy_flipBy (m : Fin 8) (c : Dev 8) : flipBy m (flipBy m c) = c := flipDev_flipDev m c

def chip (c : Dev 8) : Fin 4 := ⟨c.val / 2, by revert c; decide⟩
/-- The device on chip `k` of the same core as `c`. -/
def onChip (k : Fin 4) (c : Dev 8) : Dev 8 := ⟨2 * k.val + c.val % 2, by revert k c; decide⟩

/-- The three neighbours of a device that share its core, by the bits they differ in. -/
def bits3 : Fin 3 → Fin 8 := ![4, 2, 6]
/-- The other core of the same chip. -/
def bits1 : Fin 1 → Fin 8 := ![1]

theorem onChip_chip : ∀ (i : Fin 3) (c : Dev 8), onChip (chip c) (flipBy (bits3 i) c) = c := by decide
theorem onChip_self : ∀ c : Dev 8, onChip (chip c) c = c := by decide
/-- The chips of the three neighbours and of the device itself are the four chips. -/
theorem chips_bijective : ∀ c : Dev 8, Function.Bijective (Sum.elim (fun i => chip (flipBy (bits3 i) c)) fun _ => chip c : Fin 3 ⊕ Unit → Fin 4) := by
  decide

/-- The seven other devices, by the bits they differ in. -/
def bits7 : Fin 7 → Fin 8 := Fin.succ

theorem devs_bijective : ∀ c : Dev 8, Function.Bijective (Sum.elim (fun i => flipBy (bits7 i) c) fun _ => c : Fin 7 ⊕ Unit → Dev 8) := by
  decide

/-- A group of devices that exchange with one another, each with a place of its own among `n`: a device's peers, by the bits
    they differ in. -/
structure Group (I : Type) [DecidableEq I] [Fintype I] (n : ℕ) where
  bits : I → Fin 8
  place : Dev 8 → Fin n
  bij : ∀ c : Dev 8, Function.Bijective (Sum.elim (fun i => place (flipBy (bits i) c)) fun _ => place c : I ⊕ Unit → Fin n)
  peers : List I
  nodup : peers.Nodup
  all : Finset.univ = peers.toFinset
  ne : peers ≠ []

/-- The chips' devices of one core; and all the devices. -/
abbrev chips : Group (Fin 3) 4 := ⟨bits3, chip, chips_bijective, [0, 1, 2], by decide, by decide, by decide⟩
abbrev devs : Group (Fin 7) 8 := ⟨bits7, fun c => c, devs_bijective, [0, 1, 2, 3, 4, 5, 6], by decide, by decide, by decide⟩

/-! ## Slots of a buffer of leading extent `n` -/

section Slots

variable {n R C : ℕ}

/-- The slot shape and the buffer shape. -/
abbrev ShN (n R C : ℕ) : Shape := ⟨3, ![n, R, C]⟩
abbrev Sh4 (R C : ℕ) : Shape := ShN 4 R C
abbrev Sh1 (R C : ℕ) : Shape := ⟨3, ![1, R, C]⟩

theorem mem_slot {off : Fin 3 → ℕ} {inb} (k : Fin n) (h : off = ![k.val, 0, 0]) (x : (ShN n R C).Idx) :
    x ∈ (Rect.unit (s := ShN n R C) off (Sh1 R C).size inb).set ↔ x (0 : Fin 3) = k := by
  subst h
  rw [Rect.mem_set_unit]
  constructor
  · intro hx
    have h0 := hx (0 : Fin 3)
    have h1 : k.val ≤ (x (0 : Fin 3)).val := h0.1
    have h2 : (x (0 : Fin 3)).val < k.val + 1 := h0.2
    exact Fin.ext (by omega)
  · rintro rfl a
    match a with
    | (0 : Fin 3) => exact ⟨le_refl _, Nat.lt_succ_self _⟩
    | (1 : Fin 3) => exact ⟨Nat.zero_le _, by have := (x (1 : Fin 3)).isLt; exact (Nat.zero_add R).symm ▸ this⟩
    | (2 : Fin 3) => exact ⟨Nat.zero_le _, by have := (x (2 : Fin 3)).isLt; exact (Nat.zero_add C).symm ▸ this⟩

/-- An element of a slot, by its place in the slot: the leading coordinate is the slot's. -/
theorem slot_emb {off : Fin 3 → ℕ} {inb} (k : Fin n) (h : off = ![k.val, 0, 0]) (y : (Sh1 R C).Idx) :
    ((Rect.unit (s := ShN n R C) off (Sh1 R C).size inb).emb y (0 : Fin 3) : Fin n) = k
      ∧ ((Rect.unit (s := ShN n R C) off (Sh1 R C).size inb).emb y (1 : Fin 3) : Fin R) = y (1 : Fin 3)
      ∧ ((Rect.unit (s := ShN n R C) off (Sh1 R C).size inb).emb y (2 : Fin 3) : Fin C) = y (2 : Fin 3) := by
  subst h
  refine ⟨Fin.ext ?_, Fin.ext ?_, Fin.ext ?_⟩
  · rw [ValueKit.rect_emb_unit_val]
    have : (y (0 : Fin 3)).val < 1 := (y (0 : Fin 3)).isLt
    show k.val + (y (0 : Fin 3)).val = k.val
    omega
  · rw [ValueKit.rect_emb_unit_val]; exact Nat.zero_add _
  · rw [ValueKit.rect_emb_unit_val]; exact Nat.zero_add _

/-- A memref of leading extent `n` falls into its slots: one for each `i : I`, and one more. -/
theorem slots_split {nD : ℕ} {τ : Topo} {sig : RefSig} {Val : EltTy → Type} {P : Type} [DecidableEq P] {sp : Space} {e : EltTy}
    (M : Memref sig .tc sp (ShN n R C) e) {I : Type} [Fintype I] [DecidableEq I] {kI : I → Fin n} {k0 : Fin n}
    (hb : Function.Bijective (Sum.elim kI fun _ => k0 : I ⊕ Unit → Fin n))
    {offI : I → Fin 3 → ℕ} {off0 : Fin 3 → ℕ} (hI : ∀ i, offI i = ![(kI i).val, 0, 0]) (h0 : off0 = ![k0.val, 0, 0])
    {inbI : ∀ i, ∀ a, offI i a + (Sh1 R C).size a ≤ (ShN n R C).size a} {inb0 : ∀ a, off0 a + (Sh1 R C).size a ≤ (ShN n R C).size a}
    (c : Dev nD) (K : I → Finset (Idx (M.view.loc (c : Thread nD τ)))) (K0 : Finset (Idx (M.view.loc (c : Thread nD τ))))
    (hK : ∀ i, K i = (Rect.unit (s := ShN n R C) (offI i) (Sh1 R C).size (inbI i)).set.map M.view.emb)
    (hK0 : K0 = (Rect.unit (s := ShN n R C) off0 (Sh1 R C).size inb0).set.map M.view.emb)
    (q : PosShare TreeShare) (f : Buf Val (M.view.loc (c : Thread nD τ))) :
    (M.view.loc (c : Thread nD τ) ↦[M.view.set]{q} f : sProp (MT nD τ sig Unit Val ℕ (UU nD τ sig P) ℕ))
      = iprop((bigSep Finset.univ fun i => M.view.loc (c : Thread nD τ) ↦[K i]{q} f) ∗ (M.view.loc (c : Thread nD τ) ↦[K0]{q} f)) := by
  classical
  have hj (j : I ⊕ Unit) (x : (ShN n R C).Idx) (k : Fin n) (h : Sum.elim kI (fun _ => k0) j = k) :
      M.view.emb x ∈ Sum.elim K (fun _ => K0) j ↔ x (0 : Fin 3) = k := by
    subst h
    cases j with
    | inl i =>
      show M.view.emb x ∈ K i ↔ _
      rw [hK, Finset.mem_map' M.view.emb, mem_slot (kI i) (hI i)]; rfl
    | inr u =>
      show M.view.emb x ∈ K0 ↔ _
      rw [hK0, Finset.mem_map' M.view.emb, mem_slot k0 h0]; rfl
  have hsub (j : I ⊕ Unit) : ∀ z ∈ Sum.elim K (fun _ => K0) j, ∃ x, M.view.emb x = z := by
    intro z hz
    cases j with
    | inl i => rw [show Sum.elim K (fun _ => K0) (Sum.inl i) = K i from rfl, hK] at hz; obtain ⟨x, -, h⟩ := Finset.mem_map.mp hz; exact ⟨x, h⟩
    | inr u => rw [show Sum.elim K (fun _ => K0) (Sum.inr u) = K0 from rfl, hK0] at hz; obtain ⟨x, -, h⟩ := Finset.mem_map.mp hz; exact ⟨x, h⟩
  have hset : M.view.set = (Finset.univ : Finset (I ⊕ Unit)).biUnion (Sum.elim K fun _ => K0) := by
    ext z
    rw [Finset.mem_biUnion]
    constructor
    · intro hz
      obtain ⟨x, -, rfl⟩ := Finset.mem_map.mp hz
      obtain ⟨j, h⟩ := hb.2 (x (0 : Fin 3))
      exact ⟨j, Finset.mem_univ _, (hj j x _ h).mpr rfl⟩
    · rintro ⟨j, -, hz⟩
      obtain ⟨x, rfl⟩ := hsub j z hz
      exact Finset.mem_map_of_mem _ (Finset.mem_univ _)
  rw [hset, pointsTo_biUnion, bigSep_univ_sum, show (Finset.univ : Finset Unit) = {()} from rfl, bigSep_singleton]
  · rfl
  · intro j _ j' _ hne
    rw [Finset.disjoint_left]
    intro z hz hz'
    obtain ⟨x, rfl⟩ := hsub j z hz
    exact hne (hb.1 (((hj j x _ rfl).mp hz).symm.trans ((hj j' x _ rfl).mp hz')))

/-- An index, moved to slot `k`. -/
def inSlot (k : Fin 4) (x : (Sh4 R C).Idx) : (Sh4 R C).Idx := fun a =>
  match a with
  | (0 : Fin 3) => k
  | (1 : Fin 3) => x (1 : Fin 3)
  | (2 : Fin 3) => x (2 : Fin 3)

/-- What device `p` holds once every chip has written its slot: the slot of chip `k` is the slot of `p`'s chip of device
    `onChip k p`. -/
def scattered {α : Type} (X : Dev 8 → (Sh4 R C).Idx → α) (p : Dev 8) (x : (Sh4 R C).Idx) : α :=
  X (onChip (x (0 : Fin 3)) p) (inSlot (chip p) x)

/-- Device `c`'s slot of `p`'s chip, and `p`'s slot of `c`'s chip. -/
theorem slot_scattered {α : Type} (X : Dev 8 → (Sh4 R C).Idx → α) (c p : Dev 8) (hp : onChip (chip c) p = c) {off off' : Fin 3 → ℕ} {inb inb'}
    (h : off = ![(chip c).val, 0, 0]) (h' : off' = ![(chip p).val, 0, 0]) (y : (Sh1 R C).Idx) :
    X c ((Rect.unit (s := Sh4 R C) off' (Sh1 R C).size inb').emb y) = scattered X p ((Rect.unit (s := Sh4 R C) off (Sh1 R C).size inb).emb y) := by
  obtain ⟨h0, h1, h2⟩ := slot_emb (inb := inb) (chip c) h y
  obtain ⟨g0, g1, g2⟩ := slot_emb (inb := inb') (chip p) h' y
  have hi : (Rect.unit (s := Sh4 R C) off' (Sh1 R C).size inb').emb y
      = inSlot (chip p) ((Rect.unit (s := Sh4 R C) off (Sh1 R C).size inb).emb y) := by
    funext a
    match a with
    | (0 : Fin 3) => exact g0
    | (1 : Fin 3) => exact g1.trans h1.symm
    | (2 : Fin 3) => exact g2.trans h2.symm
  unfold scattered
  rw [← hi]
  exact congrFun (congrArg X (hp.symm.trans (congrArg (onChip · p) h0.symm))) _

end Slots

/-- Writing what was read: the target holds, element by element, what `L` says, if `L` says what the source holds. -/
theorem land_eq {sig : RefSig} {Val : EltTy → Type} {κ κ' : Kind} {sp sp' : Space} {s : Shape} {e : EltTy} (src : View sig κ sp s e) (dst : View sig κ' sp' s e)
    (fs : src.ty.Contents Val) (fd L : dst.ty.Contents Val)
    (h : ∀ j, _root_.cast (congrArg Val dst.elt_eq.symm) (src.read Val fs j) = L (dst.emb j)) :
    ∀ x ∈ dst.set, dst.write Val fd (src.read Val fs) Finset.univ x = L x := fun x hx => by
  obtain ⟨j, -, rfl⟩ := Finset.mem_map.mp hx
  rw [View.write_emb_of_mem fd _ (Finset.mem_univ j)]; exact h j

end Cert.Exchange

end
-- ==== Proof.Four.lean ====
/-
  Exchanges within a group: every device exchanges with its peers, and each landing buffer has one slot per place of the
  group. Device `c` writes the slot of its own place in the landing buffers of its peers, and of its own by a local copy; so
  at the end each slot has been written once. `Four` is such an exchange over the four chips, with the neighbours of the same
  core.
-/
module

public import proofs.«01_k».proof.Proof.Mesh
public import Idealize.ShloMosaic.Lib.ShareLeaves

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- A slot, without its leading dimension. -/
abbrev Sh2 (R C : ℕ) : Shape := ⟨2, ![R, C]⟩

section Gather

variable {n R C : ℕ}

/-- An index's place in its slot. -/
def inner (x : (ShN n R C).Idx) : (Sh2 R C).Idx := fun
  | (0 : Fin 2) => x (1 : Fin 3)
  | (1 : Fin 2) => x (2 : Fin 3)

/-- The slots of a landing buffer, each with the array of one device: the slot of place `k` is what device `who k` has. -/
def slotted {α : Type} (who : Fin n → Dev 8) (X : Dev 8 → (Sh2 R C).Idx → α) (x : (ShN n R C).Idx) : α := X (who (x (0 : Fin 3))) (inner x)

/-- What device `p` holds once every chip has written all it has: the slot of chip `k` is what device `onChip k p` has. -/
abbrev gathered {α : Type} (X : Dev 8 → (Sh2 R C).Idx → α) (p : Dev 8) : (Sh4 R C).Idx → α := slotted (onChip · p) X

/-- The index of a slot at a place in it. -/
def atZero (j : (Sh2 R C).Idx) : (Sh1 R C).Idx := fun
  | (0 : Fin 3) => (⟨0, Nat.one_pos⟩ : Fin 1)
  | (1 : Fin 3) => j (0 : Fin 2)
  | (2 : Fin 3) => j (1 : Fin 2)

theorem reshape_slot (h : (Sh2 R C).numel = (Sh1 R C).numel) (j : (Sh2 R C).Idx) : Shape.reshapeEquiv h j = atZero j := by
  refine (Sh1 R C).rowMajor.injective (Fin.ext ?_)
  rw [Shape.rowMajor_reshapeEquiv, Shape.rowMajor_val_two, Shape.rowMajor_val_three]
  show (j (0 : Fin 2)).val * C + (j (1 : Fin 2)).val = (0 * R + (j (0 : Fin 2)).val) * C + (j (1 : Fin 2)).val
  rw [Nat.zero_mul, Nat.zero_add]

/-- What device `c` has, and the slot of its place `k`. -/
theorem slot_slotted {α : Type} (who : Fin n → Dev 8) (X : Dev 8 → (Sh2 R C).Idx → α) (c : Dev 8) (k : Fin n) (hk : who k = c) {off : Fin 3 → ℕ} {inb}
    (h : off = ![k.val, 0, 0]) (hn : (Sh2 R C).numel = (Sh1 R C).numel) (j : (Sh2 R C).Idx) :
    X c j = slotted who X ((Rect.unit (s := ShN n R C) off (Sh1 R C).size inb).emb (Shape.reshapeEquiv hn j)) := by
  rw [reshape_slot]
  obtain ⟨h0, h1, h2⟩ := slot_emb (inb := inb) k h (atZero j)
  have hi : j = inner ((Rect.unit (s := ShN n R C) off (Sh1 R C).size inb).emb (atZero j)) := by
    funext a
    match a with
    | (0 : Fin 2) => exact h1.symm
    | (1 : Fin 2) => exact h2.symm
  unfold slotted
  rw [← hi]
  exact congrFun (congrArg X (hk.symm.trans (congrArg who h0.symm))) _

/-- What device `c` has, and `p`'s slot of `c`'s chip. -/
theorem slot_gathered {α : Type} (X : Dev 8 → (Sh2 R C).Idx → α) (c p : Dev 8) (hp : onChip (chip c) p = c) {off : Fin 3 → ℕ} {inb}
    (h : off = ![(chip c).val, 0, 0]) (hn : (Sh2 R C).numel = (Sh1 R C).numel) (j : (Sh2 R C).Idx) :
    X c j = gathered X p ((Rect.unit (s := Sh4 R C) off (Sh1 R C).size inb).emb (Shape.reshapeEquiv hn j)) :=
  slot_slotted (onChip · p) X c (chip c) hp h hn j

/-- The readers of a source: the transfers and the local copy; each has one of the equal parts of it. -/
abbrev partOf {I : Type} {k : ℕ} (e : I ⊕ Fin 1 ≃ Fin (2 ^ k)) (i : I ⊕ Fin 1) : PosShare TreeShare := ShareLeaves.leaf k fullShare (e i)

theorem parts_split {nD : ℕ} {τ : Topo} {sig : RefSig} {Val : EltTy → Type} {P : Type} [DecidableEq P] {I : Type} [Fintype I] [DecidableEq I] {k : ℕ}
    (e : I ⊕ Fin 1 ≃ Fin (2 ^ k)) {ℓ : Loc nD τ sig} (S : Finset (Idx ℓ)) (f : Buf Val ℓ) :
    (ℓ ↦[S]{fullShare} f : sProp (MT nD τ sig Unit Val ℕ (UU nD τ sig P) ℕ))
      = iprop((bigSep Finset.univ fun i => ℓ ↦[S]{partOf e (Sum.inl i)} f) ∗ (ℓ ↦[S]{partOf e (Sum.inr 0)} f)) := by
  rw [ShareLeaves.pointsTo_leaves S f k fullShare,
    bigSep_univ_equiv e (fun i : Fin (2 ^ k) => (ℓ ↦[S]{ShareLeaves.leaf k fullShare i} f : sProp (MT nD τ sig Unit Val ℕ (UU nD τ sig P) ℕ))),
    bigSep_univ_sum, bigSep_univ_of_subsingleton (0 : Fin 1)]
  rfl

/-- The four readers of a source: the three transfers and the local copy. -/
def readers : Fin 3 ⊕ Fin 1 ≃ Fin (2 ^ 2) := (finSumFinEquiv : Fin 3 ⊕ Fin 1 ≃ Fin (3 + 1))
abbrev peerShare (i : Fin 3) : PosShare TreeShare := partOf readers (Sum.inl i)
abbrev ownShare : PosShare TreeShare := partOf readers (Sum.inr 0)

theorem shares_split {nD : ℕ} {τ : Topo} {sig : RefSig} {Val : EltTy → Type} {P : Type} [DecidableEq P] {ℓ : Loc nD τ sig} (S : Finset (Idx ℓ)) (f : Buf Val ℓ) :
    (ℓ ↦[S]{fullShare} f : sProp (MT nD τ sig Unit Val ℕ (UU nD τ sig P) ℕ))
      = iprop((bigSep Finset.univ fun i => ℓ ↦[S]{peerShare i} f) ∗ (ℓ ↦[S]{ownShare} f)) :=
  parts_split readers S f

end Gather

/-- An exchange within a group: its arrays `a : A` with landing buffers `lM a`, its sources and what they hold, its
    semaphores, and `out p a`, what device `p`'s landing buffer `a` holds at the end. -/
structure Within {I : Type} [DecidableEq I] [Fintype I] {n : ℕ} (U : Group I n) (τ : Topo) (sig : RefSig) (Val : EltTy → Type) (A : Type) where
  R : A → ℕ
  C : A → ℕ
  el : A → EltTy
  lM : (a : A) → Memref sig .tc .hbm (ShN n (R a) (C a)) (el a)
  off : A → Dev 8 → Fin 3 → ℕ
  hoff : ∀ a c, off a c = ![(U.place c).val, 0, 0]
  inb : ∀ a c x, off a c x + (Sh1 (R a) (C a)).size x ≤ (ShN n (R a) (C a)).size x
  sq : ∀ a, (Sh1 (R a) (C a)).Squeezes (Sh2 (R a) (C a))
  src : Dev 8 → (t : A × I) → Memref sig .tc .hbm (Sh2 (R t.1) (C t.1)) (el t.1)
  lsrc : Dev 8 → (a : A) → Memref sig .tc .hbm (Sh2 (R a) (C a)) (el a)
  q : A × I → PosShare TreeShare
  ql : A → PosShare TreeShare
  fs : ∀ (c : Dev 8) (t : A × I), Buf Val ((src c t).view.loc (c : Thread 8 τ))
  fl : ∀ (c : Dev 8) (a : A), Buf Val ((lsrc c a).view.loc (c : Thread 8 τ))
  out : ∀ (p : Dev 8) (a : A), Buf Val ((lM a).view.loc (p : Thread 8 τ))
  hmove : ∀ (c : Dev 8) (t : A × I) (j : (Sh2 (R t.1) (C t.1)).Idx),
    _root_.cast (congrArg Val (lM t.1).view.elt_eq.symm) ((src c t).view.read Val (fs c t) j) = out (flipBy (U.bits t.2) c) t.1
      ((((lM t.1).slice (Rect.unit (s := ShN n (R t.1) (C t.1)) (off t.1 c) (Sh1 (R t.1) (C t.1)).size (inb t.1 c)) fun _ => rfl).squeeze _ (sq t.1)).view.emb j)
  hlmove : ∀ (c : Dev 8) (a : A) (j : (Sh2 (R a) (C a)).Idx),
    _root_.cast (congrArg Val (lM a).view.elt_eq.symm) ((lsrc c a).view.read Val (fl c a) j) = out c a
      ((((lM a).slice (Rect.unit (s := ShN n (R a) (C a)) (off a c) (Sh1 (R a) (C a)).size (inb a c)) fun _ => rfl).squeeze _ (sq a)).view.emb j)
  amt : A → ℕ
  amt_pos : ∀ a, 0 < amt a
  hamt : ∀ a c, (((lM a).slice (Rect.unit (s := ShN n (R a) (C a)) (off a c) (Sh1 (R a) (C a)).size (inb a c)) fun _ => rfl).squeeze _ (sq a)).view.dmaCredit = amt a
  bar : Sem sig
  send : A × I → DmaSem sig
  recv : A × I → DmaSem sig
  loc : A → DmaSem sig
  send_inj : Function.Injective send
  recv_inj : Function.Injective recv
  loc_inj : Function.Injective loc
  send_recv : ∀ s t, send s ≠ recv t
  send_loc : ∀ s b, send s ≠ loc b
  recv_loc : ∀ s b, recv s ≠ loc b
  arrs : List A
  arrs_nodup : arrs.Nodup
  arrs_all : ∀ a, a ∈ arrs

/-- An exchange over the four chips. -/
abbrev Four (τ : Topo) (sig : RefSig) (Val : EltTy → Type) (A : Type) := Within chips τ sig Val A

namespace Within

variable {τ : Topo} {sig : RefSig} {Val : EltTy → Type} {A : Type} [DecidableEq A] [Fintype A] {I : Type} [DecidableEq I] [Fintype I] {n : ℕ} {U : Group I n}
  (G : Within U τ sig Val A)

/-- Slot of the place of `c` of landing buffer `a`. -/
abbrev slot (c : Dev 8) (a : A) : Memref sig .tc .hbm (Sh2 (G.R a) (G.C a)) (G.el a) :=
  ((G.lM a).slice (Rect.unit (s := ShN n (G.R a) (G.C a)) (G.off a c) (Sh1 (G.R a) (G.C a)).size (G.inb a c)) fun _ => rfl).squeeze _ (G.sq a)

def toExch : Exch 8 τ sig Val A I A where
  bar := G.bar
  send := G.send
  recv := G.recv
  loc := G.loc
  send_inj := G.send_inj
  recv_inj := G.recv_inj
  loc_inj := G.loc_inj
  send_recv := G.send_recv
  send_loc := G.send_loc
  recv_loc := G.recv_loc
  flip i := flipBy (U.bits i)
  flip_flip i := flipBy_flipBy (U.bits i)
  sh a := Sh2 (G.R a) (G.C a)
  el := G.el
  bsh a := Sh2 (G.R a) (G.C a)
  bel := G.el
  src := G.src
  dst c t := G.slot c t.1
  lsrc := G.lsrc
  ldst := G.slot
  q := G.q
  ql := G.ql
  fs := G.fs
  fl := G.fl
  landed _ t p := G.out p t.1
  llanded := G.out
  amt := G.amt
  lamt := G.amt
  amt_pos := G.amt_pos
  lamt_pos := G.amt_pos
  hamt c t := G.hamt t.1 c
  hlamt c a := G.hamt a c
  hland c t fd := land_eq (G.src c t).view (G.slot c t.1).view (G.fs c t) fd (G.out (flipBy (U.bits t.2) c) t.1) (G.hmove c t)
  hlland c a fd := land_eq (G.lsrc c a).view (G.slot c a).view (G.fl c a) fd (G.out c a) (G.hlmove c a)
  is := U.peers
  ts := G.arrs.flatMap fun a => U.peers.map fun i => (a, i)
  bs := G.arrs
  is_nodup := U.nodup
  ts_nodup := by
    refine List.nodup_flatMap.mpr ⟨fun a _ => U.nodup.map fun _ _ h => congrArg Prod.snd h, G.arrs_nodup.imp fun {a b} h => ?_⟩
    intro t h1 h2
    obtain ⟨_, _, rfl⟩ := List.mem_map.mp h1
    obtain ⟨_, _, e⟩ := List.mem_map.mp h2
    exact h (congrArg Prod.fst e).symm
  bs_nodup := G.arrs_nodup
  is_all := U.all
  ts_all := by
    ext ⟨a, i⟩
    simp only [Finset.mem_univ, true_iff, List.mem_toFinset, List.mem_flatMap]
    exact ⟨a, G.arrs_all a, List.mem_map.mpr ⟨i, List.mem_toFinset.mp (U.all ▸ Finset.mem_univ i), rfl⟩⟩
  bs_all := by
    ext a
    simp only [Finset.mem_univ, true_iff, List.mem_toFinset]; exact G.arrs_all a
  is_ne := U.ne

local notation "𝕄" => MT 8 τ sig Unit Val ℕ (UU 8 τ sig (Pay A I A)) ℕ

/-- A landing buffer falls into the slots its device's peers write and the slot it writes itself. -/
theorem landing_split (c : Dev 8) (a : A) (f : Buf Val ((G.lM a).view.loc (c : Thread 8 τ))) :
    ((G.lM a).view.loc (c : Thread 8 τ) ↦[(G.lM a).view.set]{fullShare} f : sProp 𝕄)
      = iprop((bigSep Finset.univ fun i => G.toExch.placeAt c (flipBy (U.bits i) c) (a, i) f) ∗ G.toExch.lplace c a f) :=
  slots_split (G.lM a) (U.bij c) (fun i => G.hoff a (flipBy (U.bits i) c)) (G.hoff a c) c _ _
    (fun i => (View.set_reshape _ _).trans (View.set_slice (G.lM a).view _))
    ((View.set_reshape _ _).trans (View.set_slice (G.lM a).view _)) fullShare f

/-- At the start: landing buffers at any contents give the places for the transfers. -/
theorem rooms (c : Dev 8) :
    (bigSep Finset.univ fun a => (iprop(∃ f, (G.lM a).view.loc (c : Thread 8 τ) ↦[(G.lM a).view.set]{fullShare} f) : sProp 𝕄))
      ⊢ iprop((bigSep Finset.univ (G.toExch.spare c)) ∗ bigSep Finset.univ fun a => G.toExch.lroom c a) := by
  have h (a : A) : iprop(∃ f, (G.lM a).view.loc (c : Thread 8 τ) ↦[(G.lM a).view.set]{fullShare} f)
      ⊢ (iprop((bigSep Finset.univ fun i => G.toExch.spare c (a, i)) ∗ G.toExch.lroom c a) : sProp 𝕄) := by
    iintro ⟨%f, H⟩
    ihave H := (Entails.of_eq (G.landing_split c a f)) $$ H
    icases H with ⟨H, Hl⟩
    isplitl [H]
    · have hi (i : I) : G.toExch.placeAt c (flipBy (U.bits i) c) (a, i) f ⊢ G.toExch.spare c (a, i) := by
        iintro H; iexists f; iexact H
      have hall : (bigSep Finset.univ fun i => G.toExch.placeAt c (flipBy (U.bits i) c) (a, i) f) ⊢ bigSep Finset.univ fun i => G.toExch.spare c (a, i) :=
        bigSep_mono fun i _ => hi i
      iapply hall; iexact H
    iexists f; iexact Hl
  rw [bigSep_univ_prod, ← bigSep_sep']
  exact bigSep_mono fun a _ => h a

/-- At the end: the written places make up the landing buffers. -/
theorem joined (c : Dev 8) :
    iprop((bigSep Finset.univ (G.toExch.arrived c)) ∗ bigSep Finset.univ fun a => G.toExch.lplace c a (G.out c a))
      ⊢ (bigSep Finset.univ fun a => ((G.lM a).view.loc (c : Thread 8 τ) ↦[(G.lM a).view.set]{fullShare} G.out c a : sProp 𝕄)) := by
  rw [bigSep_univ_prod, ← bigSep_sep']
  exact bigSep_mono fun a _ => Entails.of_eq (G.landing_split c a (G.out c a)).symm

/-- `rooms`, of landing buffers that are whole. -/
theorem rooms_whole (h : ∀ a, (G.lM a).IsWhole) (c : Dev 8) :
    (bigSep Finset.univ fun a => (iprop(∃ f, (G.lM a).view.loc (c : Thread 8 τ) ↦{fullShare} f) : sProp 𝕄))
      ⊢ iprop((bigSep Finset.univ (G.toExch.spare c)) ∗ bigSep Finset.univ fun a => G.toExch.lroom c a) :=
  (Entails.of_eq (bigSep_congr fun a _ => by rw [(h a).set_eq_univ])).trans (G.rooms c)

/-- `joined`, of landing buffers that are whole. -/
theorem joined_whole (h : ∀ a, (G.lM a).IsWhole) (c : Dev 8) :
    iprop((bigSep Finset.univ (G.toExch.arrived c)) ∗ bigSep Finset.univ fun a => G.toExch.lplace c a (G.out c a))
      ⊢ (bigSep Finset.univ fun a => ((G.lM a).view.loc (c : Thread 8 τ) ↦{fullShare} G.out c a : sProp 𝕄)) :=
  (G.joined c).trans (Entails.of_eq (bigSep_congr fun a _ => by rw [(h a).set_eq_univ]))

end Within

end Cert.Exchange

end
-- ==== Proof.One.lean ====
/-
  Exchanges between the two cores of a chip: every device sends each of its arrays whole to the device of the other core,
  which keeps it in its landing buffer.
-/
module

public import proofs.«01_k».proof.Proof.Four

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The device of the other core. -/
abbrev sib (c : Dev 8) : Dev 8 := flipBy (bits1 0) c

/-- An exchange between the cores: its arrays `a : A` with source buffers `sM a` and landing buffers `lM a`, what the
    sources hold, its semaphores, and `out p a`, what device `p`'s landing buffer `a` holds at the end. -/
structure One (τ : Topo) (sig : RefSig) (Val : EltTy → Type) (A : Type) where
  sh : A → Shape
  el : A → EltTy
  sM : (a : A) → Memref sig .tc .hbm (sh a) (el a)
  lM : (a : A) → Memref sig .tc .hbm (sh a) (el a)
  s_whole : ∀ a, (sM a).IsWhole
  l_whole : ∀ a, (lM a).IsWhole
  fs : ∀ (c : Dev 8) (a : A), Buf Val ((sM a).view.loc (c : Thread 8 τ))
  out : ∀ (p : Dev 8) (a : A), Buf Val ((lM a).view.loc (p : Thread 8 τ))
  hmove : ∀ (c : Dev 8) (a : A) (j : (sh a).Idx),
    _root_.cast (congrArg Val (lM a).view.elt_eq.symm) ((sM a).view.read Val (fs c a) j) = out (sib c) a ((lM a).view.emb j)
  amt_pos : ∀ a, 0 < (lM a).view.dmaCredit
  bar : Sem sig
  send : A × Fin 1 → DmaSem sig
  recv : A × Fin 1 → DmaSem sig
  send_inj : Function.Injective send
  recv_inj : Function.Injective recv
  send_recv : ∀ s t, send s ≠ recv t
  arrs : List A
  arrs_nodup : arrs.Nodup
  arrs_all : ∀ a, a ∈ arrs

namespace One

variable {τ : Topo} {sig : RefSig} {Val : EltTy → Type} {A : Type} [DecidableEq A] [Fintype A] (G : One τ sig Val A)

def toExch : Exch 8 τ sig Val A (Fin 1) (Fin 0) where
  bar := G.bar
  send := G.send
  recv := G.recv
  loc b := b.elim0
  send_inj := G.send_inj
  recv_inj := G.recv_inj
  loc_inj b := b.elim0
  send_recv := G.send_recv
  send_loc _ b := b.elim0
  recv_loc _ b := b.elim0
  flip i := flipBy (bits1 i)
  flip_flip i := flipBy_flipBy (bits1 i)
  sh := G.sh
  el := G.el
  bsh b := b.elim0
  bel b := b.elim0
  src _ t := G.sM t.1
  dst _ t := G.lM t.1
  lsrc _ b := b.elim0
  ldst _ b := b.elim0
  q _ := fullShare
  ql b := b.elim0
  fs c t := G.fs c t.1
  fl _ b := b.elim0
  landed _ t p := G.out p t.1
  llanded _ b := b.elim0
  amt a := (G.lM a).view.dmaCredit
  lamt b := b.elim0
  amt_pos := G.amt_pos
  lamt_pos b := b.elim0
  hamt _ _ := rfl
  hlamt _ b := b.elim0
  hland c t fd := match t with
    | (a, 0) => land_eq (G.sM a).view (G.lM a).view (G.fs c a) fd (G.out (sib c) a) (G.hmove c a)
  hlland _ b := b.elim0
  is := [0]
  ts := G.arrs.map fun a => (a, 0)
  bs := []
  is_nodup := by decide
  ts_nodup := G.arrs_nodup.map fun _ _ h => congrArg Prod.fst h
  bs_nodup := List.nodup_nil
  is_all := by decide
  ts_all := by
    ext ⟨a, i⟩
    simp only [Finset.mem_univ, true_iff, List.mem_toFinset, List.mem_map]
    exact ⟨a, G.arrs_all a, Prod.ext rfl (Subsingleton.elim _ _)⟩
  bs_all := by decide
  is_ne := by decide

local notation "𝕄" => MT 8 τ sig Unit Val ℕ (UU 8 τ sig (Pay A (Fin 1) (Fin 0))) ℕ

theorem no_local (Φ : Fin 0 → sProp 𝕄) : bigSep Finset.univ Φ = BI.emp := bigSep_empty

/-- The transfers, array by array. -/
theorem by_array (Φ : A × Fin 1 → sProp 𝕄) : bigSep Finset.univ Φ = bigSep Finset.univ fun a => Φ (a, 0) := by
  rw [bigSep_univ_prod]
  exact bigSep_congr fun a _ => bigSep_univ_of_subsingleton (0 : Fin 1)

/-- At the start: the sources are what the transfers read. -/
theorem sources (c : Dev 8) : (bigSep Finset.univ fun a => (G.sM a).view.loc (c : Thread 8 τ) ↦{fullShare} G.fs c a : sProp 𝕄)
    ⊢ iprop((bigSep Finset.univ (G.toExch.source c)) ∗ bigSep Finset.univ (G.toExch.lsource c)) := by
  rw [by_array, no_local]
  have h : (bigSep Finset.univ fun a => (G.sM a).view.loc (c : Thread 8 τ) ↦{fullShare} G.fs c a : sProp 𝕄) = bigSep Finset.univ fun a => G.toExch.source c (a, 0) :=
    bigSep_congr fun a _ => (congrArg (fun S => ((G.sM a).view.loc (c : Thread 8 τ) ↦[S]{fullShare} G.fs c a : sProp 𝕄)) (G.s_whole a).set_eq_univ).symm
  rw [h]
  iintro H
  isplitl [H]; · iexact H
  iempintro

/-- At the start: landing buffers at any contents give the places for the transfers. -/
theorem rooms (c : Dev 8) : (bigSep Finset.univ fun a => (iprop(∃ f, (G.lM a).view.loc (c : Thread 8 τ) ↦{fullShare} f) : sProp 𝕄))
    ⊢ iprop((bigSep Finset.univ (G.toExch.spare c)) ∗ bigSep Finset.univ fun b => G.toExch.lroom c b) := by
  rw [by_array, no_local]
  have h (a : A) : (iprop(∃ f, (G.lM a).view.loc (c : Thread 8 τ) ↦{fullShare} f) : sProp 𝕄) ⊢ G.toExch.spare c (a, 0) := by
    iintro ⟨%f, H⟩
    iexists f
    iapply (Entails.of_eq (congrArg (fun S => ((G.lM a).view.loc (c : Thread 8 τ) ↦[S]{fullShare} f : sProp 𝕄)) (G.l_whole a).set_eq_univ).symm)
    iexact H
  have hall : (bigSep Finset.univ fun a => (iprop(∃ f, (G.lM a).view.loc (c : Thread 8 τ) ↦{fullShare} f) : sProp 𝕄)) ⊢ bigSep Finset.univ fun a => G.toExch.spare c (a, 0) :=
    bigSep_mono fun a _ => h a
  iintro H
  isplitl [H]; · iapply hall; iexact H
  iempintro

/-- At the end: the written places are the landing buffers. -/
theorem joined (c : Dev 8) : iprop((bigSep Finset.univ (G.toExch.arrived c)) ∗ bigSep Finset.univ fun b => G.toExch.lplace c b (G.toExch.llanded c b))
    ⊢ (bigSep Finset.univ fun a => ((G.lM a).view.loc (c : Thread 8 τ) ↦{fullShare} G.out c a : sProp 𝕄)) := by
  rw [by_array, no_local]
  have h : (bigSep Finset.univ fun a => ((G.lM a).view.loc (c : Thread 8 τ) ↦{fullShare} G.out c a : sProp 𝕄)) = bigSep Finset.univ fun a => G.toExch.arrived c (a, 0) :=
    bigSep_congr fun a _ => (congrArg (fun S => ((G.lM a).view.loc (c : Thread 8 τ) ↦[S]{fullShare} G.out c a : sProp 𝕄)) (G.l_whole a).set_eq_univ).symm
  rw [h]
  iintro ⟨H, -⟩
  iexact H

end One

end Cert.Exchange

end
-- ==== Proof.Pair.lean ====
/-
  A whole program that is one exchange: it allocates the landing buffers, copies the sources, runs the start kernel and then
  the wait kernel. Stated once for every exchange of this certificate.

  A `Pair` names what such a program consists of: the exchange, the two kernels, the buffers the copies read and write, the
  landing buffers, and what rides along untouched. From a proof that the two kernels' bodies are the exchange's two walks
  follows, by the segments below and the launch, a run of the whole program on all devices.
-/
module

public import proofs.«01_k».proof.Proof.One
public import Idealize.ShloMosaic.Lib.Quiescent

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {nD : Nat} {τ : Topo} {sig : RefSig} {Val : EltTy → Type} {Λ₀ : Labels}
variable {A I B : Type} [DecidableEq A] [DecidableEq I] [DecidableEq B] [Fintype A] [Fintype I] [Fintype B]

local notation "𝕄" => MT nD τ sig Unit Val ℕ (UU nD τ sig (Pay A I B)) ℕ

/-- No kernel of these programs calls another. -/
abbrev 𝒱₀ : Variants := Variants.none

/-! ## Reading a memory, and the kernels' token -/

/-- Buffers held whole tell of the memory. -/
theorem read_bufs {ι : Type} [Fintype ι] [DecidableEq ι] (l : ι → Loc nD τ sig) (f : (i : ι) → Buf Val (l i)) (s : Phys nD τ sig Val) :
    iprop(SI s ∗ bigSep Finset.univ fun i => l i ↦{fullShare} f i) ⊢ (⌜∀ i, s.mem.mem (l i) = f i⌝ : sProp 𝕄) := by
  have one (i : ι) : iprop(SI s ∗ bigSep Finset.univ fun i => l i ↦{fullShare} f i) ⊢ (⌜s.mem.mem (l i) = f i⌝ : sProp 𝕄) := by
    have h : (bigSep Finset.univ fun i => l i ↦{fullShare} f i : sProp 𝕄) ⊢ (l i ↦{fullShare} f i) := bigSep_elim (Finset.mem_univ i)
    iintro ⟨HSI, Hz⟩
    ihave Hz := h $$ Hz
    icombine HSI Hz gives %hz
    ipureintro
    exact Buf.eq_of_forall_mem_univ hz
  exact (BI.Laws.forall_intro one).trans BI.Laws.pure_forall.2

/-- The program's buffers by name: arguments, sources, landing buffers, and the windows' arrays. -/
def names {W : Type} (arg src land : A → Ref sig .tc) (tok : W → Ref sig .tc) : (A ⊕ A) ⊕ (A ⊕ W) → Ref sig .tc :=
  Sum.elim (Sum.elim arg src) (Sum.elim land tok)

theorem unscoped_split {W : Type} [Fintype W] [DecidableEq W] (arg src land : A → Ref sig .tc) (tok : W → Ref sig .tc)
    (inj : Function.Injective (names arg src land tok)) (all : (Finset.univ.filter fun b : Ref sig .tc => ¬ b.isScoped) = Finset.univ.map ⟨_, inj⟩)
    (c : Dev nD) (V : (b : Ref sig .tc) → Buf Val ((c : Thread nD τ).loc b)) :
    (unscopedBufs c V : sProp 𝕄)
      = iprop(((bigSep Finset.univ fun a => (c : Thread nD τ).loc (arg a) ↦{fullShare} V (arg a)) ∗ bigSep Finset.univ fun a => (c : Thread nD τ).loc (src a) ↦{fullShare} V (src a))
        ∗ (bigSep Finset.univ fun a => (c : Thread nD τ).loc (land a) ↦{fullShare} V (land a)) ∗ bigSep Finset.univ fun w => (c : Thread nD τ).loc (tok w) ↦{fullShare} V (tok w)) := by
  unfold unscopedBufs
  rw [all, bigSep_map, bigSep_univ_sum, bigSep_univ_sum, bigSep_univ_sum]; rfl

/-- The buffers the copies touch. -/
abbrev touched (arg src : A → Ref sig .tc) (inj : Function.Injective fun j => (Proc.devRef .tc (Sum.elim arg src j) : DevRef τ sig)) : Finset (DevRef τ sig) :=
  Finset.univ.map ⟨_, inj⟩

theorem held_split (arg src : A → Ref sig .tc) (inj) (c : Dev nD) (V : Valuation τ sig Val) :
    (StableHlo.held (c : Thread nD τ) (touched arg src inj) V : sProp 𝕄)
      = iprop((bigSep Finset.univ fun a => (c : Thread nD τ).loc (arg a) ↦{fullShare} V (Proc.devRef .tc (arg a)))
        ∗ bigSep Finset.univ fun a => (c : Thread nD τ).loc (src a) ↦{fullShare} V (Proc.devRef .tc (src a))) := by
  unfold StableHlo.held touched
  rw [bigSep_map, bigSep_univ_sum]; rfl

/-- A block at the origin of the whole shape is the shape itself. -/
theorem emb_origin {s : Shape} {off : Fin s.rank → ℕ} (h : ∀ a, off a = 0) (inb) (y : s.Idx) :
    (Rect.unit (s := s) off s.size inb).emb y = y := funext fun a => Fin.ext (by rw [ValueKit.rect_emb_unit_val, h a, Nat.zero_add])

/-- A kernel's last lines: a buffer is loaded and stored whole. -/
theorem stamp_walk (c : Dev nD) {s : Shape} {e : EltTy} (M : Memref sig .tc .vmem s e) {off : Fin s.rank → ℕ} (h0 : ∀ a, off a = 0)
    {inb : ∀ a, off a + s.size a ≤ s.size a} {defs : Defs nD τ sig Val Λ₀} (w X : s.Idx → Val e) {hl} {hx} {hm} (Q : sProp 𝕄) :
    (owns (c : Thread nD τ) M fullShare X : sProp 𝕄)
      ⊢ iprop((owns (c : Thread nD τ) M fullShare w -∗ Q)
        -∗ wp frame (wpE defs 𝒱₀ (c : Thread nD τ) none) Set.univ
            (.op (.load M (Rect.unit (s := s) off s.size inb).toLoadRect hl) fun _ =>
              .op (.store M (Rect.unit (s := s) off s.size inb) w Finset.univ hx hm) fun _ => .ret PUnit.unit) fun _ => Q) := by
  unfold owns
  iintro ⟨%f, -, H⟩ Hk
  iapply (wp_load 𝒱₀ (c : Thread nD τ) none Set.univ (m := M) (S := M.view.set) (fun x hx => Finset.map_subset_map.mpr (Finset.subset_univ _) hx)) $$ H; iintro H
  iapply (wp_store 𝒱₀ (c : Thread nD τ) none Set.univ (m := M) (r := Rect.unit (s := s) off s.size inb) (Mk := Finset.univ) (View.set_slice_subset _ _)) $$ H; iintro H
  rw [wp_ret]; imodintro
  iapply Hk
  iexists _
  isplitr
  rotate_left
  · iexact H
  ipureintro
  funext y
  have h := View.read_slice_write_emb (v := M.view) (Rect.unit (s := s) off s.size inb) f w (Finset.mem_univ y)
  rw [emb_origin h0 inb y] at h
  exact h

variable (nD τ sig Val Λ₀ A I B) in
structure Pair where
  E : Exch nD τ sig Val A I B
  cfgs : Fin 2 → Pipeline.Cfg sig Λ₀
  defs₀ : Defs nD τ sig Val Λ₀
  N0 : (cfgs 0).N = 1
  N1 : (cfgs 1).N = 1
  W1 : (cfgs 1).W = 0
  inj : Function.Injective (Pipeline.cellOf (nD := nD) (τ := τ) cfgs)
  win0 : Pipeline.WinFacts (cfgs 0).spec
  win1 : Pipeline.WinFacts (cfgs 1).spec
  block0 : ∀ w : Fin (cfgs 0).W, 0 < ((cfgs 0).spec w).block.numel
  stage0 : ∀ (w : Fin (cfgs 0).W) (s : Fin ((cfgs 0).spec w).nbuf), (((cfgs 0).spec w).stage s).IsWhole
  A₀ : ∀ (c : Dev nD) (w : Fin (cfgs 0).W), Buf Val (((cfgs 0).win w).arr.view.loc (c : Thread nD τ))
  after₀ : ∀ (w : Fin (cfgs 0).W), Fin (cfgs 0).N → ((cfgs 0).win w).block.Idx → Val ((cfgs 0).win w).elt
  /-- The staging buffers' semaphores are none of the exchange's. -/
  apart : ∀ (w : Fin (cfgs 0).W) (s : Fin ((cfgs 0).win w).nbuf) k, SemLoc.dma (((cfgs 0).win w).sem s) ≠ E.sm k
  cells : ∀ sm : SemLoc sig, sm.isScoped .tc = false → ∃ k, sm = E.sm k
  unscoped : ∀ k, ¬ (E.sm k).isScoped .tc
  land : A → Ref sig .tc
  land_ok : ∀ a, (land a).space ≠ .host ∧ (Proc.devRef .tc (land a) : DevRef τ sig).isScoped = false
  lands : List A
  /-- The buffers the copies touch, the copies, what the buffers hold before them. -/
  bufs : Finset (DevRef τ sig)
  ops : List (HloOp τ sig Val)
  ops_sub : ∀ op ∈ ops, op.bufs ⊆ bufs
  ops_fresh : ∀ op ∈ ops, op.fresh = ∅
  V₀ : Dev nD → Valuation τ sig Val
  /-- What the kernels do not touch. -/
  keep : Dev nD → sProp (MT nD τ sig Unit Val ℕ (UU nD τ sig (Pay A I B)) ℕ)

namespace Pair

variable (X : Pair nD τ sig Val Λ₀ A I B)

/-- The wait kernel has no window. -/
theorem no1 (w : Fin (X.cfgs 1).W) : False := by obtain ⟨w, h⟩ := w; rw [X.W1] at h; exact Nat.not_lt_zero _ h

abbrev pcs : Fin 2 → Pipeline.PCfg sig Λ₀ Val := fun p => (X.cfgs p).toPCfg
abbrev adm : (p : Fin 2) → (X.pcs p).Adm := fun p => (X.cfgs p).toPCfg_adm

/-- The exchange's cells at zero. -/
def zeros (c : Dev nD) : sProp 𝕄 := bigSep Finset.univ fun k => semVal (X.E.plan.cell c k) 0

abbrev rest (p : Fin 2) (c : Dev nD) : sProp 𝕄 := Pipeline.scopedRest (X.cfgs p).spec c

/-- The start kernel: the exchange's start before its one point, `mid` after; owing the exchange's dues before, nothing
    after. -/
def dat0 (c : Dev nD) : Dat τ Val Unit ℕ (UU nD τ sig (Pay A I B)) ℕ (X.cfgs 0) c where
  A := X.A₀ c
  after := X.after₀
  Φ t := if t.val = 0 then iprop((X.E.plan.start Exch.others c ∗ X.E.takes c) ∗ X.rest 0 c) else iprop(X.E.mid c ∗ X.rest 0 c)
  q _ := fullShare
  owed t := if t.val = 0 then X.E.plan.O₀ c else 0

/-- The wait kernel: `mid` before, the buffers returned and the cells at zero after; owing nothing. -/
def dat1 (c : Dev nD) : Dat τ Val Unit ℕ (UU nD τ sig (Pay A I B)) ℕ (X.cfgs 1) c where
  A w := (X.no1 w).elim
  after w := (X.no1 w).elim
  Φ t := if t.val = 0 then iprop(X.E.mid c ∗ X.rest 1 c) else iprop((X.E.returns c ∗ X.zeros c) ∗ X.rest 1 c)
  q _ := fullShare
  owed _ := 0

def pdats : (p : Fin 2) → (c : Dev nD) → Dat τ Val Unit ℕ (UU nD τ sig (Pay A I B)) ℕ (Pipeline.pin X.pcs X.adm p) c
  | 0 => X.dat0
  | 1 => X.dat1

theorem arrays1 (c : Dev nD) (Fa) : ((X.pdats 1 c).arrays Fa : sProp 𝕄) = BI.emp := by
  unfold Dat.arrays
  haveI : IsEmpty (Fin (Pipeline.pin X.pcs X.adm 1).W) := ⟨X.no1⟩
  rw [Finset.univ_eq_empty, bigSep_empty]

theorem prefHeld_emp (p : Fin 2) (c : Dev nD) (q) (pf) :
    (Pipeline.prefHeld (Ix := Unit) (Name := ℕ) (U := UU nD τ sig (Pay A I B)) (Lvl := ℕ) (Val := Val) (X.pcs p).pre c q pf : sProp 𝕄) = BI.emp :=
  haveI : IsEmpty (Fin (X.pcs p).pre.K) := ⟨fun k => k.elim0⟩
  by unfold Pipeline.prefHeld; rw [Finset.univ_eq_empty, bigSep_empty]

theorem first0 (t : Fin (X.cfgs 0).N) : t.castSucc.val = 0 := by have := t.2; have := X.N0; simp only [Fin.val_castSucc]; omega
theorem later0 (t : Fin (X.cfgs 0).N) : t.succ.val ≠ 0 := by simp
theorem last0 : (Fin.last (X.cfgs 0).N).val ≠ 0 := by rw [Fin.val_last, X.N0]; decide
theorem first1 (t : Fin (X.cfgs 1).N) : t.castSucc.val = 0 := by have := t.2; have := X.N1; simp only [Fin.val_castSucc]; omega
theorem later1 (t : Fin (X.cfgs 1).N) : t.succ.val ≠ 0 := by simp
theorem last1 : (Fin.last (X.cfgs 1).N).val ≠ 0 := by rw [Fin.val_last, X.N1]; decide

/-- What a device owes, as a point of a kernel has it and back. -/
theorem owesAt_intro {cfg : Pipeline.Cfg sig Λ₀} {c : Dev nD} (dat : Dat τ Val Unit ℕ (UU nD τ sig (Pay A I B)) ℕ cfg c) (t : Fin (cfg.N + 1))
    (O : CellTallies nD τ sig Unit) (h0 : dat.owed t = O) (hr : dat.recorded t = Set.univ) :
    (iprop(∃ W, owes (c : Thread nD τ) O W) : sProp 𝕄) ⊢ (dat.owesAt () t : sProp 𝕄) := by
  unfold Dat.owesAt Pipeline.owesWithin Dat.bound; rw [h0, hr]
  iintro ⟨%W, HO⟩; iexists W
  isplitr; · ipureintro; exact fun _ _ => Or.inl trivial
  iexact HO

theorem owesAt_elim {cfg : Pipeline.Cfg sig Λ₀} {c : Dev nD} (dat : Dat τ Val Unit ℕ (UU nD τ sig (Pay A I B)) ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

/-- The windows of the start kernel, before and after its body. -/
abbrev found (c : Dev nD) (t : Fin (X.cfgs 0).N) : sProp 𝕄 :=
  bigSep Finset.univ fun w : Fin (X.cfgs 0).W =>
    iprop(∃ d, owns (c : Thread nD τ) (((X.cfgs 0).win w).stage ((X.cfgs 0).slots t w)) fullShare ((X.dat0 c).before w t d))

/-- What the start kernel's body does. -/
def StartBody : Prop := ∀ (c : Dev nD) (t : Fin (X.cfgs 0).N) (Q : sProp 𝕄),
  iprop((X.E.plan.start Exch.others c ∗ X.E.takes c ∗ ∃ W, owes (c : Thread nD τ) (X.E.plan.O₀ c) W)
      ∗ X.found c t)
    ⊢ iprop(((X.E.mid c ∗ Exch.clear c)
        ∗ (bigSep Finset.univ fun w : Fin (X.cfgs 0).W => owns (c : Thread nD τ) (((X.cfgs 0).win w).stage ((X.cfgs 0).slots t w)) fullShare (X.after₀ w t))
        -∗ Q) -∗ wp frame (wpE X.defs₀ 𝒱₀ (c : Thread nD τ) none) Set.univ (X.defs₀ .tc (X.cfgs 0).body ((X.cfgs 0).bodyArgs t ((X.cfgs 0).slots t))) fun _ => Q)

/-- What the wait kernel's body does. -/
def WaitBody : Prop := ∀ (c : Dev nD) (t : Fin (X.cfgs 1).N) (Q : sProp 𝕄),
  iprop(X.E.mid c ∗ Exch.clear c)
    ⊢ iprop((((X.zeros c) ∗ X.E.returns c ∗ Exch.clear c) -∗ Q)
      -∗ wp frame (wpE X.defs₀ 𝒱₀ (c : Thread nD τ) none) Set.univ (X.defs₀ .tc (X.cfgs 1).body ((X.cfgs 1).bodyArgs t ((X.cfgs 1).slots t))) fun _ => Q)

theorem body0 (hidle : ∀ w g, (X.cfgs 0).idle w g = false) (h : X.StartBody) (c : Dev nD) :
    BodyObligation (X.dat0 c) X.defs₀ 𝒱₀ () Set.univ := fun t => by
  have e0 : (X.dat0 c).Φ t.castSucc = iprop((X.E.plan.start Exch.others c ∗ X.E.takes c) ∗ X.rest 0 c) := if_pos (X.first0 t)
  have e1 : (X.dat0 c).Φ t.succ = iprop(X.E.mid c ∗ X.rest 0 c) := by dsimp only [dat0]; exact if_neg (X.later0 t)
  have o0 : (X.dat0 c).owed t.castSucc = X.E.plan.O₀ c := if_pos (X.first0 t)
  have o1 : (X.dat0 c).owed t.succ = 0 := by dsimp only [dat0]; exact if_neg (X.later0 t)
  simp only [hidle]
  rw [e0, e1]
  iintro ⟨⟨⟨Hst, Htk⟩, Hr⟩, HO, Hw⟩
  ihave HO := (owesAt_elim (X.dat0 c) _ _ o0) $$ HO
  iapply (h c t _) $$ [Hst Htk HO Hw]
  · isplitr [Hw]
    · isplitl [Hst]; · iexact Hst
      isplitl [Htk]; · iexact Htk
      iexact HO
    iexact Hw
  iintro ⟨⟨Hm, HO⟩, Hw⟩
  isplitl [Hm Hr]
  · isplitl [Hm]; · iexact Hm
    iexact Hr
  isplitl [HO]; · iapply (owesAt_intro (X.dat0 c) _ _ o1 rfl); iexact HO
  iexact Hw

theorem body1 (h : X.WaitBody) (c : Dev nD) : BodyObligation (X.dat1 c) X.defs₀ 𝒱₀ () Set.univ := fun t => by
  have e0 : (X.dat1 c).Φ t.castSucc = iprop(X.E.mid c ∗ X.rest 1 c) := if_pos (X.first1 t)
  have e1 : (X.dat1 c).Φ t.succ = iprop((X.E.returns c ∗ X.zeros c) ∗ X.rest 1 c) := by dsimp only [dat1]; exact if_neg (X.later1 t)
  haveI : IsEmpty (Fin (X.cfgs 1).W) := ⟨X.no1⟩
  rw [e0, e1, Finset.univ_eq_empty, bigSep_empty, bigSep_empty]
  iintro ⟨⟨Hm, Hr⟩, HO, -⟩
  ihave HO := (owesAt_elim (X.dat1 c) _ 0 rfl) $$ HO
  iapply (h c t _) $$ [Hm HO]
  · isplitl [Hm]; · iexact Hm
    iexact HO
  iintro ⟨Hz, Hret, HO⟩
  isplitr [HO]
  · isplitr [Hr]
    · isplitl [Hret] <;> iassumption
    iexact Hr
  isplitl [HO]; · iapply (owesAt_intro (X.dat1 c) _ 0 rfl rfl); iexact HO
  iempintro

/-! ## The segments -/

local notation "ℍ" => Pipeline.HostSeg (Name := ℕ) (U := UU nD τ sig (Pay A I B)) X.pcs X.defs₀ 𝒱₀ Plan.L X.E.plan.lv
local notation "ℝ𝕊" => Pipeline.RegionSeg X.pcs X.adm X.pdats () X.defs₀ 𝒱₀ Plan.L X.E.plan.lv

/-- A buffer at the full share, at some contents. -/
abbrev some_ (c : Dev nD) (b : Ref sig .tc) : sProp 𝕄 :=
  iprop(∃ r : (Proc.devRef .tc b : DevRef τ sig).ty.Contents Val, ((c : Thread nD τ).1, Proc.devRef .tc b) ↦{fullShare} r)

/-- The landing buffers, whatever they hold. -/
abbrev landing (c : Dev nD) : sProp 𝕄 := bigSep Finset.univ fun a => some_ c (X.land a)

/-- What a device holds at the beginning, beside the landing buffers. -/
abbrev beside (c : Dev nD) : sProp 𝕄 :=
  iprop(StableHlo.held (c : Thread nD τ) X.bufs (X.V₀ c) ∗ (X.pdats 0 c).arrays ((X.pdats 0 c).arrAt · 0)
    ∗ X.E.plan.start Exch.others c ∗ owes (c : Thread nD τ) (X.E.plan.O₀ c) ∅ ∗ X.keep c)

abbrev T₀ (c : Dev nD) : sProp 𝕄 := iprop(X.landing c ∗ X.beside c)

/-- The allocation of one landing buffer: it is one of those held, and is given back at whatever it then holds. -/
def alloc (a : A) : ℍ where
  prog := hlo rfl (StableHlo.allocateBuffer (τ := τ) (Val := Val) (X.land a) (X.land_ok a)) fun _ => .ret ⟨⟩
  pre := X.T₀
  post := X.T₀
  run c {β} k K := by
    have hsplit : X.landing c = iprop(some_ c (X.land a) ∗ bigSep (Finset.univ.erase a) fun a => some_ c (X.land a)) :=
      bigSep_univ_at _ a
    rw [show X.T₀ c = iprop(X.landing c ∗ X.beside c) from rfl, hsplit]
    iintro ⟨Hk, Hbd, ⟨⟨⟨%r, Hy⟩, Hothers⟩, HR⟩, Hl⟩
    have key := (Pipeline.HostSeg.alloc X.pcs X.defs₀ 𝒱₀ Plan.L X.E.plan.lv (X.land a) (X.land_ok a)
      (fun c => Function.update (X.V₀ c) (Proc.devRef .tc (X.land a)) r)
      (fun c => iprop((bigSep (Finset.univ.erase a) fun a => some_ c (X.land a)) ∗ X.beside c))).run c k K
    dsimp only [Pipeline.HostSeg.alloc] at key
    iapply key
    isplitl [Hk]
    · iintro ⟨Hbd, Hy, Ho, HR⟩
      iapply Hk
      isplitl [Hbd]; · iexact Hbd
      isplitr [HR]
      · isplitl [Hy] <;> iassumption
      iexact HR
    isplitl [Hbd]; · iexact Hbd
    isplitr [Hl]
    · isplitl [Hy]
      · rw [Function.update_self]; iexact Hy
      isplitl [Hothers] <;> iassumption
    iexact Hl

/-- The copies of the sources. -/
def copies : ℍ :=
  Pipeline.HostSeg.ofOps _ _ _ _ _ X.bufs X.ops X.ops_sub X.ops_fresh X.V₀
    fun c => iprop(X.landing c ∗ (X.pdats 0 c).arrays ((X.pdats 0 c).arrAt · 0)
      ∗ X.E.plan.start Exch.others c ∗ owes (c : Thread nD τ) (X.E.plan.O₀ c) ∅ ∗ X.keep c)

/-- What the buffers of the copies hold after them. -/
abbrev V₁ (c : Dev nD) : Valuation τ sig Val := StableHlo.after X.ops (X.V₀ c)

/-- The buffers sorted for the start kernel, `Z` staying behind. -/
def Sorted (Z : Dev nD → sProp 𝕄) : Prop := ∀ c : Dev nD,
  iprop(StableHlo.held (c : Thread nD τ) X.bufs (X.V₁ c) ∗ X.landing c ∗ X.keep c) ⊢ iprop(X.E.takes c ∗ Z c)

variable {X} {Z : Dev nD → sProp (MT nD τ sig Unit Val ℕ (UU nD τ sig (Pay A I B)) ℕ)}

theorem owed_lev (p : Pay A I B) (hp : p ∈ X.E.plan.owed) : 0 < X.E.plan.lev (X.E.plan.key p) := by
  rcases List.mem_append.mp hp with hp | hp <;> obtain ⟨i, -, rfl⟩ := List.mem_map.mp hp
  · exact Nat.one_pos
  · exact Nat.two_pos

def reg0 (hidle : ∀ w g, (X.cfgs 0).idle w g = false) (hb : X.StartBody) (hs : X.Sorted Z) : ℝ𝕊 0 where
  win := X.win0.to₀
  block_pos := X.block0
  stage_whole := X.stage0
  K := PEmpty
  osem k := k.elim
  ho := Pipeline.OwnSemFacts.none _
  hbody c := (X.body0 hidle hb c).loose
  hwaits c := Pipeline.cellsWaits_intro _ X.pdats () 0 c fun w s t => by
    show (levAts Plan.L X.E.plan.lv : sProp 𝕄) ⊢ MayWait (c : Thread nD τ) (.dma (((X.cfgs 0).win w).sem s)) () ((X.dat0 c).owed t)
    have h := X.E.plan.mayWait c (.dma (((X.cfgs 0).win w).sem s))
    rw [X.E.plan.lv_other c _ (X.apart w s)] at h
    dsimp only [dat0]
    split
    · exact h X.E.plan.owed fun p hp => owed_lev p hp
    · exact h [] fun p hp => absurd hp (List.not_mem_nil)
  pre c := iprop(StableHlo.held (c : Thread nD τ) X.bufs (X.V₁ c) ∗ X.landing c ∗ (X.pdats 0 c).arrays ((X.pdats 0 c).arrAt · 0)
      ∗ X.E.plan.start Exch.others c ∗ owes (c : Thread nD τ) (X.E.plan.O₀ c) ∅ ∗ X.keep c)
  post c := iprop(X.E.mid c ∗ Exch.clear c ∗ Z c)
  X c := iprop(X.E.plan.start Exch.others c ∗ X.E.takes c)
  Y := X.E.mid
  Z := Z
  hentry c := by
    have hs := hs c
    rw [Pipeline.ownSems0_none, X.prefHeld_emp]
    iintro ⟨⟨Hh, Hl, Ha, Hst, HO, Hk⟩, -, -⟩
    ihave H := hs $$ [Hh Hl Hk]
    · isplitl [Hh]; · iexact Hh
      isplitl [Hl] <;> iassumption
    icases H with ⟨Htk, HZ⟩
    imodintro
    isplitl [Ha]; · iexact Ha
    isplitr; · iempintro
    isplitl [HO]
    · iapply (owesAt_intro (X.pdats 0 c) 0 (X.E.plan.O₀ c) (by show (X.dat0 c).owed 0 = _; dsimp only [dat0]; exact if_pos rfl) rfl)
      iexists _; iexact HO
    isplitr [HZ]
    · isplitl [Hst] <;> iassumption
    iexact HZ
  hin c := by
    rw [show (X.pdats 0 c).Φ 0 = iprop((X.E.plan.start Exch.others c ∗ X.E.takes c) ∗ X.rest 0 c) from by
      show (X.dat0 c).Φ 0 = _; dsimp only [dat0]; exact if_pos rfl]
    iintro ⟨HX, -, Hr⟩
    isplitl [HX]; · iexact HX
    iexact Hr
  hout c := by
    rw [show (X.pdats 0 c).Φ (Fin.last _) = iprop(X.E.mid c ∗ X.rest 0 c) from by
      show (X.dat0 c).Φ (Fin.last _) = _; dsimp only [dat0]; exact if_neg X.last0, Pipeline.ownSems0_none]
    iintro ⟨Hm, Hr⟩
    isplitl [Hm]; · iexact Hm
    isplitr; · iempintro
    iexact Hr
  hexit c := by
    iintro ⟨-, HO, HY, HZ⟩
    imodintro
    isplitl [HY]; · iexact HY
    isplitl [HO]
    · iapply (owesAt_elim (X.pdats 0 c) _ 0 (by show (X.dat0 c).owed (Fin.last _) = _; dsimp only [dat0]; exact if_neg X.last0)); iexact HO
    iexact HZ

def reg1 (hb : X.WaitBody) : ℝ𝕊 1 where
  win := X.win1.to₀
  block_pos w := (X.no1 w).elim
  stage_whole w := (X.no1 w).elim
  K := PEmpty
  osem k := k.elim
  ho := Pipeline.OwnSemFacts.none _
  hbody c := (X.body1 hb c).loose
  hwaits := Pipeline.hwaits_of_owed_zero _ _ _ _ Plan.L X.E.plan.lv 1 fun _ _ => rfl
  pre c := iprop(X.E.mid c ∗ Exch.clear c ∗ Z c)
  post c := iprop((X.E.returns c ∗ X.zeros c ∗ Z c) ∗ Exch.clear c)
  X := X.E.mid
  Y c := iprop(X.E.returns c ∗ X.zeros c)
  Z := Z
  hentry c := by
    rw [Pipeline.ownSems0_none, X.arrays1, X.prefHeld_emp]
    iintro ⟨⟨HY, HO, HZ⟩, -, -⟩
    imodintro
    isplitr; · iempintro
    isplitr; · iempintro
    isplitl [HO]; · iapply (owesAt_intro (X.pdats 1 c) 0 0 rfl rfl); iexact HO
    isplitl [HY] <;> iassumption
  hin c := by
    rw [show (X.pdats 1 c).Φ 0 = iprop(X.E.mid c ∗ X.rest 1 c) from by
      show (X.dat1 c).Φ 0 = _; dsimp only [dat1]; exact if_pos rfl]
    iintro ⟨HX, -, Hr⟩
    isplitl [HX]; · iexact HX
    iexact Hr
  hout c := by
    rw [show (X.pdats 1 c).Φ (Fin.last _) = iprop((X.E.returns c ∗ X.zeros c) ∗ X.rest 1 c) from by
      show (X.dat1 c).Φ (Fin.last _) = _; dsimp only [dat1]; exact if_neg X.last1, Pipeline.ownSems0_none]
    iintro ⟨Hm, Hr⟩
    isplitl [Hm]; · iexact Hm
    isplitr; · iempintro
    iexact Hr
  hexit c := by
    iintro ⟨-, HO, ⟨Hr, Hz⟩, HZ⟩
    imodintro
    isplitr [HO]
    · isplitl [Hr]; · iexact Hr
      isplitl [Hz] <;> iassumption
    iapply (owesAt_elim (X.pdats 1 c) _ 0 rfl); iexact HO

/-- The two kernels after the copies; -/
def kernels (hidle : ∀ w g, (X.cfgs 0).idle w g = false) (hb : X.StartBody) (hb' : X.WaitBody) (hs : X.Sorted Z) :
    List (Pipeline.Seg X.pcs X.adm X.pdats () X.defs₀ 𝒱₀ Plan.L X.E.plan.lv) :=
  [.host X.copies, .region (reg0 hidle hb hs), .region (reg1 (Z := Z) hb')]

/-- the whole program. -/
def segs (hidle : ∀ w g, (X.cfgs 0).idle w g = false) (hb : X.StartBody) (hb' : X.WaitBody) (hs : X.Sorted Z) :
    List (Pipeline.Seg X.pcs X.adm X.pdats () X.defs₀ 𝒱₀ Plan.L X.E.plan.lv) :=
  X.lands.map (fun a => .host (X.alloc a)) ++ kernels hidle hb hb' hs

theorem pipes_segs (hidle : ∀ w g, (X.cfgs 0).idle w g = false) (hb : X.StartBody) (hb' : X.WaitBody) (hs : X.Sorted Z) :
    Pipeline.Seg.pipes (segs hidle hb hb' hs) = [0, 1] := by
  unfold segs
  induction X.lands with
  | nil => rfl
  | cons a l ih => rw [List.map_cons, List.cons_append, Pipeline.Seg.pipes_host, ih]

abbrev Tₙ (X : Pair nD τ sig Val Λ₀ A I B) (Z : Dev nD → sProp 𝕄) (c : Dev nD) : sProp 𝕄 := iprop(X.E.returns c ∗ X.zeros c ∗ Z c)

theorem chains (hidle : ∀ w g, (X.cfgs 0).idle w g = false) (hb : X.StartBody) (hb' : X.WaitBody) (hs : X.Sorted Z) :
    Pipeline.Seg.Chains X.T₀ (segs hidle hb hb' hs) fun c => iprop(X.Tₙ Z c ∗ ∃ W, owes (c : Thread nD τ) (0 : CellTallies nD τ sig Unit) W) := by
  unfold segs
  induction X.lands with
  | nil =>
    refine ⟨fun c => ?_, fun c => .rfl, fun c => .rfl, fun c => .rfl⟩
    show iprop(X.landing c ∗ X.beside c) ⊢ iprop(StableHlo.held (c : Thread nD τ) X.bufs (X.V₀ c) ∗ X.landing c ∗ (X.pdats 0 c).arrays ((X.pdats 0 c).arrAt · 0)
      ∗ X.E.plan.start Exch.others c ∗ owes (c : Thread nD τ) (X.E.plan.O₀ c) ∅ ∗ X.keep c)
    iintro ⟨Hl, Hh, Hr⟩
    isplitl [Hh]; · iexact Hh
    isplitl [Hl] <;> iassumption
  | cons a l ih => exact ⟨fun c => .rfl, ih⟩

/-- The launch element: the pipelines' at the staging cells, the exchange's at its own with every payment's token. -/
def u₀ (X : Pair nD τ sig Val Λ₀ A I B) : UU nD τ sig (Pay A I B) :=
  (initOf (Pipeline.cells (Pipeline.pin X.pcs X.adm) X.inj) (Pipeline.launchToks (Pipeline.pin X.pcs X.adm) X.inj),
    initOf X.E.plan.allCells X.E.plan.allToks)

/-- The counters read off `zeros`. -/
theorem read_zeros (c : Dev nD) (s : Phys nD τ sig Val) :
    iprop(SI s ∗ X.zeros c) ⊢ (⌜∀ k, s.mem.sem (X.E.plan.cell c k) = 0⌝ : sProp 𝕄) := by
  have one (k : Key A I B) : iprop(SI s ∗ X.zeros c) ⊢ (⌜s.mem.sem (X.E.plan.cell c k) = 0⌝ : sProp 𝕄) := by
    have h : (X.zeros c : sProp 𝕄) ⊢ semVal (X.E.plan.cell c k) 0 := bigSep_elim (Finset.mem_univ k)
    iintro ⟨HSI, Hz⟩
    ihave Hz := h $$ Hz
    icombine HSI Hz gives %hz
    ipureintro
    simpa using hz
  exact (BI.Laws.forall_intro one).trans BI.Laws.pure_forall.2

-- the launch theorem's implicit arguments are found by unifying its conclusion with this one, which takes unfolding
-- plain definitions in a metavariable's type
set_option backward.isDefEq.respectTransparency.types false in
/-- THE RUN. From any memory with the counters at zero every execution of the program on all devices ends, with the counters
    back at zero and what `returns` and `Z` tell of the memory. -/
theorem run_main [∀ e, Nonempty (Val e)] (hidle : ∀ w g, (X.cfgs 0).idle w g = false) (hb : X.StartBody) (hb' : X.WaitBody) (hs : X.Sorted Z)
    (m : (ℓ : Loc nD τ sig) → Buf Val ℓ) (ρ : Dev nD → PrngReg)
    (main : Dev nD → Prog (TpuEff nD τ sig Val (Pipeline.Sig Λ₀ (Fin 2) fun p => (X.pcs p).Adm) .tc) PUnit)
    (hmain : ∀ c, main c = Pipeline.Seg.run (segs hidle hb hb' hs))
    (hT : ∀ c : Dev nD, (unscopedBufs c (fun b => m ((c : Thread nD τ).loc b)) : sProp 𝕄)
      ⊢ iprop(X.landing c ∗ StableHlo.held (c : Thread nD τ) X.bufs (X.V₀ c) ∗ (X.pdats 0 c).arrays ((X.pdats 0 c).arrAt · 0) ∗ X.keep c))
    (R : Dev nD → MemSt nD τ sig Val → Prop)
    (hread : ∀ (c : Dev nD) (s : Phys nD τ sig Val), iprop((X.E.returns c ∗ Z c) ∗ SI s) ⊢ (|={Set.univ}=> iprop(⌜R c s.mem⌝ ∗ SI s) : sProp 𝕄)) :
    θ_run (Pipeline.defs X.pcs X.defs₀) (onTc (τ := τ) main) ⟨m, fun _ => 0, ρ⟩
      (fun r => (∀ c : Dev nD, R c r.2) ∧ r.2.sem = fun _ => 0) :=
  Pipeline.θ_run_regions_kit_sems X.pcs X.adm X.pdats () X.inj EP X.defs₀ 𝒱₀ Plan.L X.E.plan.lv m ρ main (segs hidle hb hb' hs)
    (fun c Q => by rw [hmain c])
    (by rw [pipes_segs]; decide)
    (O₀ := X.E.plan.O₀) (hL := Plan.L_of_ne) (G := X.E.plan.G) (u₀ := X.u₀)
    (hu₀ := by
      unfold u₀
      iintro Hu
      ihave H := (ownU_pair _ _) $$ Hu
      icases H with ⟨HP, HX⟩
      imod (X.E.plan.fund) $$ HX with HG
      imodintro
      isplitl [HP]; · iexact HP
      iexact HG)
    (T₀ := X.T₀) (Tₙ := X.Tₙ Z)
    (hch := chains hidle hb hb' hs)
    (hinit := by
      have key := X.E.plan.init Exch.others X.E.covered X.unscoped ρ (fun c => (unscopedBufs c (fun b => m ((c : Thread nD τ).loc b)) : sProp 𝕄))
      have each (c : Dev nD) : iprop(unscopedBufs c (fun b => m ((c : Thread nD τ).loc b)) ∗ X.E.plan.start Exch.others c
          ∗ owes (c : Thread nD τ) (X.E.plan.O₀ c) ∅) ⊢ X.T₀ c := by
        have h := hT c
        iintro ⟨Hb, Hst, HO⟩
        ihave H := h $$ Hb
        icases H with ⟨Hl, Hh, Ha, Hk⟩
        isplitl [Hl]; · iexact Hl
        isplitl [Hh]; · iexact Hh
        isplitl [Ha]; · iexact Ha
        isplitl [Hst]; · iexact Hst
        isplitl [HO] <;> iassumption
      exact key.trans (BI.fupd_mono (bigSep_mono fun c _ => each c)))
    (QY := fun c s => R c s ∧ ∀ k, s.sem (X.E.plan.cell c k) = 0)
    (hfin := fun c s' => by
      have h := hread c s'
      have hz : iprop(SI s' ∗ X.zeros c) ⊢ iprop(⌜∀ k, s'.mem.sem (X.E.plan.cell c k) = 0⌝ ∗ SI s' ∗ X.zeros c) :=
        BI.Laws.persistent_entails_right (read_zeros c s')
      iintro ⟨⟨Hr, Hz, HZ⟩, HSI⟩
      ihave Hsz := hz $$ [HSI Hz]
      · isplitl [HSI] <;> iassumption
      icases Hsz with ⟨%hzz, HSI, -⟩
      imod h $$ [Hr HZ HSI] with ⟨%hR, HSI⟩
      · isplitr [HSI]
        · isplitl [Hr] <;> iassumption
        iexact HSI
      imodintro
      isplitr
      · ipureintro; exact ⟨hR, hzz⟩
      iexact HSI)
    (hQ := fun s h hs => ⟨fun c => (h c).1, sem_eq_zero hs fun c sm hsm => by
      obtain ⟨k, rfl⟩ := X.cells sm hsm
      exact (h c).2 k⟩)

end Pair

end Cert.Exchange

end
-- ==== Proof.Moves.lean ====
/-
  The buffers of a whole exchange. A program copies each argument into a source buffer, the two kernels move the sources
  into the landing buffers, and the landing buffers are the results. `Moves` says how a program's buffers are cut up for its
  exchange; from it follows the program's run, with what the results hold at the end.
-/
module

public import proofs.«01_k».proof.Proof.Pair

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ₀ : Labels}
variable {A I B : Type} [DecidableEq A] [DecidableEq I] [DecidableEq B] [Fintype A] [Fintype I] [Fintype B]

local notation "𝕄" => MT nD τ sig Unit Val ℕ (UU nD τ sig (Pay A I B)) ℕ

namespace Pair

variable (X : Pair nD τ sig Val Λ₀ A I B)

/-! ## The two kernels' bodies -/

/-- A start kernel that signals, waits, copies and then stores its token does what a start kernel should. -/
theorem start_of {s : Shape} {e : EltTy} (M : Fin (X.cfgs 0).N → Memref sig .tc .vmem s e) (w : s.Idx → Val e) {off : Fin s.rank → ℕ} (h0 : ∀ a, off a = 0)
    {inb : ∀ a, off a + s.size a ≤ s.size a} {hl : ∀ t, (M t).view.LoadsAt (Rect.unit (s := s) off s.size inb).toLoadRect}
    {hx : ∀ t, ((M t).access (Rect.unit (s := s) off s.size inb)).Stores Finset.univ}
    {hm : ∀ _ : Fin (X.cfgs 0).N, (Finset.univ : Finset (Rect.unit (s := s) off s.size inb).shape.Idx) = Finset.univ ∨ ∀ a, (Rect.unit (s := s) off s.size inb).stride a = 1}
    {D : Type} (bef : (c : Dev nD) → Fin (X.cfgs 0).N → D → s.Idx → Val e)
    (hf : ∀ c t, X.found c t = iprop(∃ d : D, owns (c : Thread nD τ) (M t) fullShare (bef c t d)))
    (hw : ∀ (c : Dev nD) t, (bigSep Finset.univ fun v : Fin (X.cfgs 0).W => owns (c : Thread nD τ) (((X.cfgs 0).win v).stage ((X.cfgs 0).slots t v)) fullShare (X.after₀ v t) : sProp 𝕄)
      = owns (c : Thread nD τ) (M t) fullShare w)
    (sop : Dev nD → I → TpuEff nD τ sig Val Λ₀ .tc PUnit) (hsop : ∀ c i, ∃ d : Dev nD, d = X.E.flip i c ∧ sop c i = .semSignal (d : Thread nD τ) X.E.bar ((1 : ℕ) : ℤ))
    (top : Dev nD → A × I → TpuEff nD τ sig Val Λ₀ .tc PUnit)
    (htop : ∀ c t, ∃ (d : Dev nD) (_ : d = X.E.flip t.2 c) (hsc : _) (hsrc : _) (hdst : _) (hsem : _),
      top c t = .enqueueDma (X.E.src c t) (.remote (d : Thread nD τ) (X.E.dst c t) (.dma (X.E.send t)) hsc) (.dma (X.E.recv t)) hsrc hdst hsem)
    (lop : Dev nD → B → TpuEff nD τ sig Val Λ₀ .tc PUnit)
    (hlop : ∀ c b, ∃ (hsrc : _) (hdst : _) (hsem : _), lop c b = .enqueueDma (X.E.lsrc c b) (.here (X.E.ldst c b)) (.dma (X.E.loc b)) hsrc hdst hsem)
    (heq : ∀ (c : Dev nD) t (Q : sProp 𝕄), wp frame (wpE X.defs₀ 𝒱₀ (c : Thread nD τ) none) Set.univ (X.defs₀ .tc (X.cfgs 0).body ((X.cfgs 0).bodyArgs t ((X.cfgs 0).slots t))) (fun _ => Q)
      = wp frame (wpE X.defs₀ 𝒱₀ (c : Thread nD τ) none) Set.univ (.op .deviceId fun d => Exch.run X.E.is (sop d) (.op (.semWait X.E.bar (Fintype.card I)) fun _ =>
          Exch.run X.E.ts (top d) (Exch.run X.E.bs (lop d) (.op (.load (M t) (Rect.unit (s := s) off s.size inb).toLoadRect (hl t)) fun _ =>
            .op (.store (M t) (Rect.unit (s := s) off s.size inb) w Finset.univ (hx t) (hm t)) fun _ => .ret PUnit.unit)))) fun _ => Q) :
    X.StartBody := fun c t Q => by
  rw [heq c t, wp_deviceId, hw, hf]
  have walk := X.E.start_walk (defs := X.defs₀) (Q := fun _ => Q) 𝒱₀ none c (sop c) (hsop c) (.semWait X.E.bar (Fintype.card I)) rfl (top c) (htop c) (lop c) (hlop c)
    (.op (.load (M t) (Rect.unit (s := s) off s.size inb).toLoadRect (hl t)) fun _ =>
            .op (.store (M t) (Rect.unit (s := s) off s.size inb) w Finset.univ (hx t) (hm t)) fun _ => .ret PUnit.unit)
  have last (Y) := stamp_walk (Val := Val) (A := A) (I := I) (B := B) (defs := X.defs₀) c (M t) h0 (inb := inb) w Y (hl := hl t) (hx := hx t) (hm := hm t) Q
  iintro ⟨H, %d, Hw⟩ Hk
  iapply walk $$ H
  iintro H
  iapply (last _) $$ Hw
  iintro Hw
  iapply Hk
  isplitl [H]; · iexact H
  iexact Hw

/-- A wait kernel that waits for every copy does what a wait kernel should. -/
theorem wait_of (sop rop : Dev nD → A × I → TpuEff nD τ sig Val Λ₀ .tc PUnit) (lop : Dev nD → B → TpuEff nD τ sig Val Λ₀ .tc PUnit)
    (hsop : ∀ (c : Dev nD) t (J : PUnit → sProp 𝕄), wpE X.defs₀ 𝒱₀ (c : Thread nD τ) none Set.univ (sop c t) J = waitSpec (c : Thread nD τ) Set.univ (.dma (X.E.send t)) (X.E.amt t.1) J)
    (hrop : ∀ (c : Dev nD) t (J : PUnit → sProp 𝕄), wpE X.defs₀ 𝒱₀ (c : Thread nD τ) none Set.univ (rop c t) J = waitSpec (c : Thread nD τ) Set.univ (.dma (X.E.recv t)) (X.E.amt t.1) J)
    (hlop : ∀ (c : Dev nD) b (J : PUnit → sProp 𝕄), wpE X.defs₀ 𝒱₀ (c : Thread nD τ) none Set.univ (lop c b) J = waitSpec (c : Thread nD τ) Set.univ (.dma (X.E.loc b)) (X.E.lamt b) J)
    (heq : ∀ (c : Dev nD) t (Q : sProp 𝕄), wp frame (wpE X.defs₀ 𝒱₀ (c : Thread nD τ) none) Set.univ (X.defs₀ .tc (X.cfgs 1).body ((X.cfgs 1).bodyArgs t ((X.cfgs 1).slots t))) (fun _ => Q)
      = wp frame (wpE X.defs₀ 𝒱₀ (c : Thread nD τ) none) Set.univ
          (.op .deviceId fun d => X.E.ts.foldr (fun t r => .op (sop d t) fun _ => .op (rop d t) fun _ => r) (Exch.run X.E.bs (lop d) (.ret PUnit.unit))) fun _ => Q) :
    X.WaitBody := fun c t Q => by
  rw [heq c t, wp_deviceId]
  have walk := X.E.wait_walk (defs := X.defs₀) (Q := fun _ => Q) 𝒱₀ none c (sop c) (rop c) (hsop c) (hrop c) (lop c) (hlop c) (.ret ⟨⟩)
  iintro H Hk
  iapply walk $$ H
  iintro H
  rw [wp_ret]; imodintro
  iapply Hk
  iexact H

/-! ## The buffers -/

/-- How a program's buffers are cut up for its exchange: sources into what each transfer reads, landing buffers into what each
    transfer writes; and what the sources hold, and the landing buffers at the end. -/
structure Moves (m : (ℓ : Loc nD τ sig) → Buf Val ℓ) where
  arg : A → Ref sig .tc
  src : A → Ref sig .tc
  tok : Fin 1 → Ref sig .tc
  names_inj : Function.Injective (names arg src X.land tok)
  names_all : (Finset.univ.filter fun b : Ref sig .tc => ¬ b.isScoped) = Finset.univ.map ⟨_, names_inj⟩
  touched_inj : Function.Injective fun j => (Proc.devRef .tc (Sum.elim arg src j) : DevRef τ sig)
  bufs_eq : X.bufs = touched arg src touched_inj
  keep_eq : X.keep = fun _ => BI.emp
  V₀_eq : X.V₀ = fun (c : Dev nD) b => m ((c : Thread nD τ).1, b)
  srcX : (c : Dev nD) → (a : A) → Buf Val ((c : Thread nD τ).loc (src a))
  landX : (c : Dev nD) → (a : A) → Buf Val ((c : Thread nD τ).loc (X.land a))
  after_arg : ∀ (c : Dev nD) a, X.V₁ c (Proc.devRef .tc (arg a)) = m ((c : Thread nD τ).loc (arg a))
  after_src : ∀ (c : Dev nD) a, X.V₁ c (Proc.devRef .tc (src a)) = srcX c a
  arrays_eq : ∀ c : Dev nD, ((X.pdats 0 c).arrays ((X.pdats 0 c).arrAt · 0) : sProp 𝕄)
    = bigSep Finset.univ fun w : Fin 1 => (c : Thread nD τ).loc (tok w) ↦{fullShare} m ((c : Thread nD τ).loc (tok w))
  split : ∀ c : Dev nD, (bigSep Finset.univ fun a => (c : Thread nD τ).loc (src a) ↦{fullShare} srcX c a : sProp 𝕄)
    ⊢ iprop((bigSep Finset.univ (X.E.source c)) ∗ bigSep Finset.univ (X.E.lsource c))
  room : ∀ c : Dev nD, (bigSep Finset.univ fun a => iprop(∃ f, (c : Thread nD τ).loc (X.land a) ↦{fullShare} f) : sProp 𝕄)
    ⊢ iprop((bigSep Finset.univ (X.E.spare c)) ∗ bigSep Finset.univ (X.E.lroom c))
  join : ∀ c : Dev nD, iprop((bigSep Finset.univ (X.E.arrived c)) ∗ bigSep Finset.univ fun b => X.E.lplace c b (X.E.llanded c b))
    ⊢ (bigSep Finset.univ fun a => (c : Thread nD τ).loc (X.land a) ↦{fullShare} landX c a : sProp 𝕄)

namespace Moves

variable {X} {m : (ℓ : Loc nD τ sig) → Buf Val ℓ} (V : X.Moves m)

/-- The arguments, at what they hold. -/
abbrev args (V : X.Moves m) (c : Dev nD) : sProp 𝕄 := bigSep Finset.univ fun a => (c : Thread nD τ).loc (V.arg a) ↦{fullShare} m ((c : Thread nD τ).loc (V.arg a))

include V

/-- After the copies the arguments are as they were, and each source buffer holds what its argument does. -/
theorem held_after (c : Dev nD) :
    (StableHlo.held (c : Thread nD τ) X.bufs (X.V₁ c) : sProp 𝕄)
      = iprop(V.args c ∗ bigSep Finset.univ fun a => (c : Thread nD τ).loc (V.src a) ↦{fullShare} V.srcX c a) := by
  rw [V.bufs_eq]
  exact (held_split V.arg V.src V.touched_inj c _).trans (congrArg₂ (fun P Q => iprop(P ∗ Q)) (bigSep_congr fun a _ => by rw [V.after_arg]) (bigSep_congr fun a _ => by rw [V.after_src]))

/-- The start kernel's buffers: the sources and the landing buffers, cut up. -/
theorem sorted : X.Sorted V.args := fun c => by
  have hr : X.landing c ⊢ _ := V.room c
  have hs := V.split c
  rw [V.held_after]
  unfold Exch.takes
  rw [bigSep_sep']
  iintro ⟨⟨Ha, Hs⟩, Hl, -⟩
  ihave Hl := hr $$ Hl
  icases Hl with ⟨Hl, Hll⟩
  ihave Hs := hs $$ Hs
  icases Hs with ⟨Hs, Hls⟩
  isplitr [Ha]
  · isplitl [Hl]; · iexact Hl
    isplitl [Hs]; · iexact Hs
    isplitl [Hll]; · iexact Hll
    iexact Hls
  iexact Ha

/-- A device's buffers at the launch. -/
theorem launched (c : Dev nD) : (unscopedBufs c (fun b => m ((c : Thread nD τ).loc b)) : sProp 𝕄)
    ⊢ iprop(X.landing c ∗ StableHlo.held (c : Thread nD τ) X.bufs (X.V₀ c) ∗ (X.pdats 0 c).arrays ((X.pdats 0 c).arrAt · 0) ∗ X.keep c) := by
  have hl (a : A) : ((c : Thread nD τ).loc (X.land a) ↦{fullShare} m ((c : Thread nD τ).loc (X.land a)) : sProp 𝕄) ⊢ some_ c (X.land a) := by
    iintro H; iexists _; iexact H
  have hlall : (bigSep Finset.univ fun a => (c : Thread nD τ).loc (X.land a) ↦{fullShare} m ((c : Thread nD τ).loc (X.land a)) : sProp 𝕄) ⊢ X.landing c :=
    bigSep_mono fun a _ => hl a
  rw [unscoped_split V.arg V.src X.land V.tok V.names_inj V.names_all, V.arrays_eq, V.bufs_eq, V.keep_eq, V.V₀_eq, held_split V.arg V.src V.touched_inj]
  iintro ⟨Hh, Hl, Ht⟩
  ihave Hl := hlall $$ Hl
  isplitl [Hl]; · iexact Hl
  isplitl [Hh]; · iexact Hh
  isplitl [Ht]; · iexact Ht
  iempintro

/-- THE RUN: every device's results hold what the exchange leaves there, and its arguments are as they were. -/
theorem run_main [∀ e, Nonempty (Val e)] (hidle : ∀ w g, (X.cfgs 0).idle w g = false) (hb : X.StartBody) (hb' : X.WaitBody) (ρ : Dev nD → PrngReg)
    (main : Dev nD → Prog (TpuEff nD τ sig Val (Pipeline.Sig Λ₀ (Fin 2) fun p => (X.pcs p).Adm) .tc) PUnit)
    (hmain : ∀ c, main c = Pipeline.Seg.run (segs hidle hb hb' V.sorted)) :
    θ_run (Pipeline.defs X.pcs X.defs₀) (onTc (τ := τ) main) ⟨m, fun _ => 0, ρ⟩
      (fun r => (∀ c : Dev nD, (∀ a, r.2.mem ((c : Thread nD τ).loc (X.land a)) = V.landX c a)
          ∧ ∀ a, r.2.mem ((c : Thread nD τ).loc (V.arg a)) = m ((c : Thread nD τ).loc (V.arg a)))
        ∧ r.2.sem = fun _ => 0) :=
  Pair.run_main (X := X) hidle hb hb' V.sorted m ρ main hmain V.launched
    (fun c s => (∀ a, s.mem ((c : Thread nD τ).loc (X.land a)) = V.landX c a)
          ∧ ∀ a, s.mem ((c : Thread nD τ).loc (V.arg a)) = m ((c : Thread nD τ).loc (V.arg a)))
    (fun c s => by
      have hj := V.join c
      have r1 := BI.Laws.persistent_entails_right (read_bufs (A := A) (I := I) (B := B) (fun a => (c : Thread nD τ).loc (X.land a)) (V.landX c) s)
      have r2 := BI.Laws.persistent_entails_right (read_bufs (A := A) (I := I) (B := B) (fun a => (c : Thread nD τ).loc (V.arg a)) (fun a => m ((c : Thread nD τ).loc (V.arg a))) s)
      unfold Exch.returns
      rw [bigSep_sep']
      iintro ⟨⟨⟨Hr, -, Hl, -⟩, Ha⟩, HSI⟩
      ihave Hl := hj $$ [Hr Hl]
      · isplitl [Hr]; · iexact Hr
        iexact Hl
      ihave H := r1 $$ [HSI Hl]
      · isplitl [HSI] <;> iassumption
      icases H with ⟨%h1, HSI, -⟩
      ihave H := r2 $$ [HSI Ha]
      · isplitl [HSI] <;> iassumption
      icases H with ⟨%h2, HSI, -⟩
      imodintro
      isplitr
      · ipureintro; exact ⟨h1, h2⟩
      iexact HSI)

end Moves

end Pair

end Cert.Exchange

end
-- ==== Proof.Values.lean ====
/-
  The exchanges' references as plain array operations, block by block: what a device holds at the end of an exchange is its
  block of the reference's array.
-/
module

public import proofs.«01_k».proof.Proof.Moves
public import Idealize.ShloMosaic.Lib.Layout
public import Idealize.ShloMosaic.Lib.Pipeline.Value

@[expose] public section

noncomputable section

namespace Cert.Exchange

open Idealize.ShloMosaic

variable {α : Type} {R C : ℕ}

abbrev Sh32 (R C : ℕ) : Shape := ⟨3, ![32, R, C]⟩
abbrev ShCells (R C : ℕ) : Shape := ⟨5, ![4, 2, 4, R, C]⟩

/-- The chips' slots exchanged: of the blocks as chips by cores by slots, chips and slots change places. -/
def exchanged (h1 : (Sh32 R C).ShapeCasts (ShCells R C)) (h2 : (ShCells R C).Transposes [2, 1, 0, 3, 4] (ShCells R C))
    (h3 : (ShCells R C).ShapeCasts (Sh32 R C)) (x : (Sh32 R C).Idx → α) : (Sh32 R C).Idx → α :=
  shapeCast (Sh32 R C) (transpose (ShCells R C) [2, 1, 0, 3, 4] (shapeCast (ShCells R C) x h1) h2) h3

/-- An index of the cells. -/
def cell (a : Fin 4) (b : Fin 2) (k : Fin 4) (r : Fin R) (l : Fin C) : (ShCells R C).Idx := fun
  | (0 : Fin 5) => a | (1 : Fin 5) => b | (2 : Fin 5) => k | (3 : Fin 5) => r | (4 : Fin 5) => l

theorem block_exchanged (h1 h2 h3) (x : (Sh32 R C).Idx → α) (ht : Layout.Tiles (Sh4 R C) (Sh32 R C) 0 8) (c : Dev 8) :
    Layout.block (Sh4 R C) (Sh32 R C) 0 8 c (exchanged h1 h2 h3 x) ht = scattered (fun p => Layout.block (Sh4 R C) (Sh32 R C) 0 8 p x ht) c := by
  funext i
  have e0 (p : Fin 8) (j : (Sh4 R C).Idx) : (ht.idx p j (0 : Fin 3)).val = p.val * 4 + (j (0 : Fin 3)).val := ht.idx_val p j (0 : Fin 3)
  have e1 (p : Fin 8) (j : (Sh4 R C).Idx) : (ht.idx p j (1 : Fin 3)).val = (j (1 : Fin 3)).val := ht.idx_val p j (1 : Fin 3)
  have e2 (p : Fin 8) (j : (Sh4 R C).Idx) : (ht.idx p j (2 : Fin 3)).val = (j (2 : Fin 3)).val := ht.idx_val p j (2 : Fin 3)
  rw [Layout.block_apply]
  unfold exchanged scattered
  have hc := c.isLt
  let b : Fin 2 := ⟨c.val % 2, Nat.mod_lt _ (by decide)⟩
  let k : Fin 4 := i (0 : Fin 3)
  let r : Fin R := i (1 : Fin 3)
  let l : Fin C := i (2 : Fin 3)
  refine (shapeCast_apply _ h3 _ (cell (chip c) b k r l) ?_).trans ((transpose_apply [2, 1, 0, 3, 4] _ h2 (cell (chip c) b k r l) (cell k b (chip c) r l)
    (fun a => match a with
      | (0 : Fin 5) => rfl | (1 : Fin 5) => rfl | (2 : Fin 5) => rfl | (3 : Fin 5) => rfl | (4 : Fin 5) => rfl)).trans
    (shapeCast_apply x h1 _ (ht.idx (onChip k c) (inSlot (chip c) i)) ?_))
  · rw [Shape.rowMajor_val_three, Shape.rowMajor_val_five, e0, e1, e2]
    show (((c.val / 2 * 2 + c.val % 2) * 4 + k.val) * R + r.val) * C + l.val = ((c.val * 4 + k.val) * R + r.val) * C + l.val
    rw [show c.val / 2 * 2 + c.val % 2 = c.val by omega]
  · rw [Shape.rowMajor_val_three, Shape.rowMajor_val_five, e0, e1, e2]
    show (((2 * k.val + c.val % 2) * 4 + (chip c).val) * R + r.val) * C + l.val = (((k.val * 2 + c.val % 2) * 4 + (chip c).val) * R + r.val) * C + l.val
    rw [Nat.mul_comm 2]

/-- What a device ends with, when the devices hold the blocks of one array. -/
theorem scattered_block (h1 h2 h3) (X : Dev 8 → (Sh4 R C).Idx → α) (x : (Sh32 R C).Idx → α) (ht : Layout.Tiles (Sh4 R C) (Sh32 R C) 0 8)
    (h : ∀ c, X c = Layout.block (Sh4 R C) (Sh32 R C) 0 8 c x ht) (c : Dev 8) :
    scattered X c = Layout.block (Sh4 R C) (Sh32 R C) 0 8 c (exchanged h1 h2 h3 x) ht := by
  rw [block_exchanged, ← funext h]

/-! ## The gather -/

/-- The chips' arrays gathered: of the arrays as chips by cores, every chip keeps those of all the chips. -/
def collected {N : ℕ} (h1 : (⟨2, ![N, C]⟩ : Shape).ShapeCasts ⟨4, ![4, 2, R, C]⟩)
    (h2 : (⟨4, ![4, 2, R, C]⟩ : Shape).Transposes [1, 0, 2, 3] ⟨4, ![2, 4, R, C]⟩)
    (h3 : (⟨4, ![2, 4, R, C]⟩ : Shape).BroadcastsInDim ⟨5, ![1, 2, 4, R, C]⟩ ![1, 2, 3, 4])
    (h4 : (⟨5, ![1, 2, 4, R, C]⟩ : Shape).BroadcastsInDim (ShCells R C) ![0, 1, 2, 3, 4])
    (h5 : (ShCells R C).ShapeCasts (Sh32 R C)) (x : (⟨2, ![N, C]⟩ : Shape).Idx → α) : (Sh32 R C).Idx → α :=
  shapeCast (Sh32 R C) (broadcastInDim (ShCells R C) ![0, 1, 2, 3, 4] h4 (broadcastInDim ⟨5, ![1, 2, 4, R, C]⟩ ![1, 2, 3, 4] h3
    (transpose ⟨4, ![2, 4, R, C]⟩ [1, 0, 2, 3] (shapeCast ⟨4, ![4, 2, R, C]⟩ x h1) h2))) h5

/-- An index of the arrays as two axes of blocks. -/
def duo {A B : ℕ} (a : Fin A) (b : Fin B) (r : Fin R) (l : Fin C) : (⟨4, ![A, B, R, C]⟩ : Shape).Idx := fun
  | (0 : Fin 4) => a | (1 : Fin 4) => b | (2 : Fin 4) => r | (3 : Fin 4) => l

/-- An index of the cores' arrays, with a first axis of one. -/
def mono (b : Fin 2) (k : Fin 4) (r : Fin R) (l : Fin C) : (⟨5, ![1, 2, 4, R, C]⟩ : Shape).Idx := fun
  | (0 : Fin 5) => (0 : Fin 1) | (1 : Fin 5) => b | (2 : Fin 5) => k | (3 : Fin 5) => r | (4 : Fin 5) => l

theorem one_or {n : ℕ} (a : Fin n) : a.val = if n = 1 then 0 else a.val := by
  split
  · have := a.isLt; omega
  · rfl

theorem block_collected {N : ℕ} (h1 h2 h3 h4 h5) (x : (⟨2, ![N, C]⟩ : Shape).Idx → α) (ht : Layout.Tiles (Sh4 R C) (Sh32 R C) 0 8)
    (hs : Layout.Tiles (Sh2 R C) ⟨2, ![N, C]⟩ 0 8) (c : Dev 8) :
    Layout.block (Sh4 R C) (Sh32 R C) 0 8 c (collected h1 h2 h3 h4 h5 x) ht = gathered (fun p => Layout.block (Sh2 R C) ⟨2, ![N, C]⟩ 0 8 p x hs) c := by
  funext i
  have e0 : (ht.idx c i (0 : Fin 3)).val = c.val * 4 + (i (0 : Fin 3)).val := ht.idx_val c i (0 : Fin 3)
  have e1 : (ht.idx c i (1 : Fin 3)).val = (i (1 : Fin 3)).val := ht.idx_val c i (1 : Fin 3)
  have e2 : (ht.idx c i (2 : Fin 3)).val = (i (2 : Fin 3)).val := ht.idx_val c i (2 : Fin 3)
  have f0 (p : Fin 8) (j : (Sh2 R C).Idx) : (hs.idx p j (0 : Fin 2)).val = p.val * R + (j (0 : Fin 2)).val := hs.idx_val p j (0 : Fin 2)
  have f1 (p : Fin 8) (j : (Sh2 R C).Idx) : (hs.idx p j (1 : Fin 2)).val = (j (1 : Fin 2)).val := hs.idx_val p j (1 : Fin 2)
  rw [Layout.block_apply]
  unfold collected gathered
  have hc := c.isLt
  let b : Fin 2 := ⟨c.val % 2, Nat.mod_lt _ (by decide)⟩
  let k : Fin 4 := i (0 : Fin 3)
  let r : Fin R := i (1 : Fin 3)
  let l : Fin C := i (2 : Fin 3)
  refine (shapeCast_apply _ h5 _ (cell (chip c) b k r l) ?_).trans ((broadcastInDim_apply (![0, 1, 2, 3, 4] : Fin 5 → Fin 5) h4 _ (cell (chip c) b k r l) (mono b k r l)
    (by
      intro a
      match a with
      | (0 : Fin 5) => rfl | (1 : Fin 5) => rfl | (2 : Fin 5) => rfl | (3 : Fin 5) => exact one_or r | (4 : Fin 5) => exact one_or l)).trans
    ((broadcastInDim_apply (![1, 2, 3, 4] : Fin 4 → Fin 5) h3 _ (mono b k r l) (duo b k r l)
    (by
      intro a
      match a with
      | (0 : Fin 4) => rfl | (1 : Fin 4) => rfl | (2 : Fin 4) => exact one_or r | (3 : Fin 4) => exact one_or l)).trans
    ((transpose_apply [1, 0, 2, 3] _ h2 (duo b k r l) (duo k b r l) (fun a => match a with
      | (0 : Fin 4) => rfl | (1 : Fin 4) => rfl | (2 : Fin 4) => rfl | (3 : Fin 4) => rfl)).trans
    (shapeCast_apply x h1 (duo k b r l) (hs.idx (onChip k c) (inner i)) ?_))))
  · rw [Shape.rowMajor_val_three, Shape.rowMajor_val_five, e0, e1, e2]
    show (((c.val / 2 * 2 + c.val % 2) * 4 + k.val) * R + r.val) * C + l.val = ((c.val * 4 + k.val) * R + r.val) * C + l.val
    rw [show c.val / 2 * 2 + c.val % 2 = c.val by omega]
  · rw [Shape.rowMajor_val_two, Shape.rowMajor_val_four, f0, f1]
    show ((2 * k.val + c.val % 2) * R + r.val) * C + l.val = ((k.val * 2 + c.val % 2) * R + r.val) * C + l.val
    rw [Nat.mul_comm 2]

/-- What a device ends with, when the devices hold the blocks of one array. -/
theorem gathered_block {N : ℕ} (h1 h2 h3 h4 h5) (X : Dev 8 → (Sh2 R C).Idx → α) (x : (⟨2, ![N, C]⟩ : Shape).Idx → α)
    (ht : Layout.Tiles (Sh4 R C) (Sh32 R C) 0 8) (hs : Layout.Tiles (Sh2 R C) ⟨2, ![N, C]⟩ 0 8)
    (h : ∀ c, X c = Layout.block (Sh2 R C) ⟨2, ![N, C]⟩ 0 8 c x hs) (c : Dev 8) :
    gathered X c = Layout.block (Sh4 R C) (Sh32 R C) 0 8 c (collected h1 h2 h3 h4 h5 x) ht := by
  rw [block_collected _ _ _ _ _ x ht hs, ← funext h]

/-! ## The cores' exchange -/

/-- The cores' arrays swapped: of the arrays as chips by cores, the cores in reverse order. -/
def swapped {N : ℕ} (h1 : (⟨2, ![N, C]⟩ : Shape).ShapeCasts ⟨4, ![4, 2, R, C]⟩)
    (h2 : (⟨4, ![4, 2, R, C]⟩ : Shape).ShapeCasts ⟨2, ![N, C]⟩) (x : (⟨2, ![N, C]⟩ : Shape).Idx → α) : (⟨2, ![N, C]⟩ : Shape).Idx → α :=
  shapeCast ⟨2, ![N, C]⟩ (Host.reverse (s := ⟨4, ![4, 2, R, C]⟩) [1] (shapeCast ⟨4, ![4, 2, R, C]⟩ x h1)) h2

theorem sib_val : ∀ c : Fin 8, (sib c).val = c.val / 2 * 2 + (1 - c.val % 2) := by decide

theorem block_swapped {N : ℕ} (h1 h2) (x : (⟨2, ![N, C]⟩ : Shape).Idx → α) (hs : Layout.Tiles (Sh2 R C) ⟨2, ![N, C]⟩ 0 8) (c : Dev 8) :
    Layout.block (Sh2 R C) ⟨2, ![N, C]⟩ 0 8 c (swapped (R := R) h1 h2 x) hs = Layout.block (Sh2 R C) ⟨2, ![N, C]⟩ 0 8 (sib c) x hs := by
  funext i
  have f0 (p : Fin 8) (j : (Sh2 R C).Idx) : (hs.idx p j (0 : Fin 2)).val = p.val * R + (j (0 : Fin 2)).val := hs.idx_val p j (0 : Fin 2)
  have f1 (p : Fin 8) (j : (Sh2 R C).Idx) : (hs.idx p j (1 : Fin 2)).val = (j (1 : Fin 2)).val := hs.idx_val p j (1 : Fin 2)
  rw [Layout.block_apply, Layout.block_apply]
  unfold swapped
  have hc := c.isLt
  let b : Fin 2 := ⟨c.val % 2, Nat.mod_lt _ (by decide)⟩
  let r : Fin R := i (0 : Fin 2)
  let l : Fin C := i (1 : Fin 2)
  refine (shapeCast_apply _ h2 _ (duo (chip c) b r l) ?_).trans
    ((congrArg (shapeCast ⟨4, ![4, 2, R, C]⟩ x h1) (show (fun a => if a ∈ [(1 : Fin 4)] then (duo (chip c) b r l a).rev else duo (chip c) b r l a)
      = duo (chip c) b.rev r l from funext fun a => match a with
        | (0 : Fin 4) => rfl | (1 : Fin 4) => rfl | (2 : Fin 4) => rfl | (3 : Fin 4) => rfl)).trans
    (shapeCast_apply x h1 (duo (chip c) b.rev r l) (hs.idx (sib c) i) ?_))
  · rw [Shape.rowMajor_val_two, Shape.rowMajor_val_four, f0, f1]
    show ((c.val / 2 * 2 + c.val % 2) * R + r.val) * C + l.val = (c.val * R + r.val) * C + l.val
    rw [show c.val / 2 * 2 + c.val % 2 = c.val by omega]
  · rw [Shape.rowMajor_val_two, Shape.rowMajor_val_four, f0, f1, sib_val]
    show ((c.val / 2 * 2 + (1 - c.val % 2)) * R + r.val) * C + l.val = ((c.val / 2 * 2 + b.rev.val) * R + r.val) * C + l.val
    rw [show b.rev.val = 1 - c.val % 2 by rw [Fin.val_rev]; show 2 - (c.val % 2 + 1) = _; omega]

/-- What a device ends with, when the devices hold the blocks of one array. -/
theorem sibling_block {N : ℕ} (h1 h2) (X : Dev 8 → (Sh2 R C).Idx → α) (x : (⟨2, ![N, C]⟩ : Shape).Idx → α)
    (hs : Layout.Tiles (Sh2 R C) ⟨2, ![N, C]⟩ 0 8) (h : ∀ c, X c = Layout.block (Sh2 R C) ⟨2, ![N, C]⟩ 0 8 c x hs) (c : Dev 8) :
    X (sib c) = Layout.block (Sh2 R C) ⟨2, ![N, C]⟩ 0 8 c (swapped (R := R) h1 h2 x) hs := by
  rw [block_swapped]; exact h _

/-! ## The exchange of all the devices -/

abbrev Sh64 (R C : ℕ) : Shape := ⟨3, ![64, R, C]⟩

/-- Every device's array on every device. -/
def repeated {N : ℕ} (h1 : (⟨2, ![N, C]⟩ : Shape).ShapeCasts (ShN 8 R C)) (h2 : (ShN 8 R C).BroadcastsInDim ⟨4, ![1, 8, R, C]⟩ ![1, 2, 3])
    (h3 : (⟨4, ![1, 8, R, C]⟩ : Shape).BroadcastsInDim ⟨4, ![8, 8, R, C]⟩ ![0, 1, 2, 3])
    (h4 : (⟨4, ![8, 8, R, C]⟩ : Shape).ShapeCasts (Sh64 R C)) (x : (⟨2, ![N, C]⟩ : Shape).Idx → α) : (Sh64 R C).Idx → α :=
  shapeCast (Sh64 R C) (broadcastInDim ⟨4, ![8, 8, R, C]⟩ ![0, 1, 2, 3] h3 (broadcastInDim ⟨4, ![1, 8, R, C]⟩ ![1, 2, 3] h2 (shapeCast (ShN 8 R C) x h1))) h4

/-- An index of the devices' arrays. -/
def trio (k : Fin 8) (r : Fin R) (l : Fin C) : (ShN 8 R C).Idx := fun a => match a with
  | (0 : Fin 3) => k
  | (1 : Fin 3) => r
  | (2 : Fin 3) => l

theorem repeated_apply {N : ℕ} (h1 h2 h3 h4) (x : (⟨2, ![N, C]⟩ : Shape).Idx → α) (a k : Fin 8) (r : Fin R) (l : Fin C) (z : (Sh64 R C).Idx) (w : (⟨2, ![N, C]⟩ : Shape).Idx)
    (hz : ((Sh64 R C).rowMajor z).val = ((a.val * 8 + k.val) * R + r.val) * C + l.val)
    (hw : ((⟨2, ![N, C]⟩ : Shape).rowMajor w).val = (k.val * R + r.val) * C + l.val) :
    repeated (R := R) h1 h2 h3 h4 x z = x w := by
  have s4 (y : (⟨4, ![8, 8, R, C]⟩ : Shape).Idx → α) : shapeCast (Sh64 R C) y h4 z = y (duo a k r l) :=
    shapeCast_apply y h4 z (duo a k r l) (by rw [Shape.rowMajor_val_four]; exact hz.symm)
  have s3 (y : (⟨4, ![1, 8, R, C]⟩ : Shape).Idx → α) : broadcastInDim ⟨4, ![8, 8, R, C]⟩ ![0, 1, 2, 3] h3 y (duo a k r l) = y (duo (0 : Fin 1) k r l) :=
    broadcastInDim_apply (![0, 1, 2, 3] : Fin 4 → Fin 4) h3 y (duo a k r l) (duo (0 : Fin 1) k r l) (by
      intro b
      match b with
      | (0 : Fin 4) => rfl | (1 : Fin 4) => rfl | (2 : Fin 4) => exact one_or r | (3 : Fin 4) => exact one_or l)
  have s2 (y : (ShN 8 R C).Idx → α) : broadcastInDim ⟨4, ![1, 8, R, C]⟩ ![1, 2, 3] h2 y (duo (0 : Fin 1) k r l) = y (trio k r l) :=
    broadcastInDim_apply (![1, 2, 3] : Fin 3 → Fin 4) h2 y (duo (0 : Fin 1) k r l) (trio k r l) (by
      intro b
      match b with
      | (0 : Fin 3) => rfl | (1 : Fin 3) => exact one_or r | (2 : Fin 3) => exact one_or l)
  have s1 : shapeCast (ShN 8 R C) x h1 (trio k r l) = x w :=
    shapeCast_apply x h1 (trio k r l) w (by rw [Shape.rowMajor_val_three]; exact hw)
  unfold repeated
  exact (s4 _).trans ((s3 _).trans ((s2 _).trans s1))

/-- What a device ends with, when the devices hold the blocks of one array. -/
theorem repeated_block {N : ℕ} (h1 h2 h3 h4) (X : Dev 8 → (Sh2 R C).Idx → α) (x : (⟨2, ![N, C]⟩ : Shape).Idx → α)
    (ht : Layout.Tiles (ShN 8 R C) (Sh64 R C) 0 8) (hs : Layout.Tiles (Sh2 R C) ⟨2, ![N, C]⟩ 0 8)
    (h : ∀ c, X c = Layout.block (Sh2 R C) ⟨2, ![N, C]⟩ 0 8 c x hs) (c : Dev 8) :
    slotted (id : Fin 8 → Dev 8) X = Layout.block (ShN 8 R C) (Sh64 R C) 0 8 c (repeated h1 h2 h3 h4 x) ht := by
  funext i
  have e0 : (ht.idx c i (0 : Fin 3)).val = c.val * 8 + (i (0 : Fin 3)).val := ht.idx_val c i (0 : Fin 3)
  have e1 : (ht.idx c i (1 : Fin 3)).val = (i (1 : Fin 3)).val := ht.idx_val c i (1 : Fin 3)
  have e2 : (ht.idx c i (2 : Fin 3)).val = (i (2 : Fin 3)).val := ht.idx_val c i (2 : Fin 3)
  have f0 (p : Fin 8) (j : (Sh2 R C).Idx) : (hs.idx p j (0 : Fin 2)).val = p.val * R + (j (0 : Fin 2)).val := hs.idx_val p j (0 : Fin 2)
  have f1 (p : Fin 8) (j : (Sh2 R C).Idx) : (hs.idx p j (1 : Fin 2)).val = (j (1 : Fin 2)).val := hs.idx_val p j (1 : Fin 2)
  rw [Layout.block_apply]
  let k : Fin 8 := i (0 : Fin 3)
  let r : Fin R := i (1 : Fin 3)
  let l : Fin C := i (2 : Fin 3)
  have hk : X k (inner i) = x (hs.idx k (inner i)) := by rw [h k, Layout.block_apply]
  refine Eq.trans hk (Eq.symm (repeated_apply h1 h2 h3 h4 x c k r l (ht.idx c i) (hs.idx k (inner i)) ?_ ?_))
  · rw [Shape.rowMajor_val_three, e0, e1, e2]; rfl
  · rw [Shape.rowMajor_val_two, f0, f1]; rfl

end Cert.Exchange

end
-- ==== Proof.Scatter.lean ====
/-
  The reduce-scatter's exchange, `Cert.ScatterIdeal`: a start kernel and a wait kernel over three arrays. Each array's
  buffer has one slot per chip; a device sends slot `k` to chip `k` (of its own core), which keeps it in the slot of the
  sender's chip. Here: the exchange's plan, and its two kernels' bodies as runs through that plan.
-/
module

public import proofs.«01_k».proof.Proof.Moves
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points
public import Idealize.ShloMosaic.Lib.Pipeline.Regions
public import Idealize.ShloMosaic.Lib.Pipeline.Kit
public import Idealize.ShloMosaic.Lib.Tactic

@[expose] public section

noncomputable section

namespace Cert.ScatterProof

open Cert.ScatterIdeal Cert.ScatterIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The plan -/

/-- The source buffers and the landing buffers. -/
abbrev srcM : Fin 3 → Memref sig .tc .hbm S4x704x1024 .bf16 := fun
  | 0 => Memref.whole main_v4_3 | 1 => Memref.whole main_v4_4 | 2 => Memref.whole main_v4_5
abbrev landM : Fin 3 → Memref sig .tc .hbm S4x704x1024 .bf16 := fun
  | 0 => Memref.whole main_v1 | 1 => Memref.whole main_v2 | 2 => Memref.whole main_v3

theorem off_own : ∀ c : Dev 8, k0_off1 c = ![(chip c).val, 0, 0] := by decide +kernel
theorem off_peer : ∀ (i : Fin 3) (c : Dev 8), k0_off2 c (k0_off2_at i).1 (k0_off2_at i).2 = ![(chip (flipBy (bits3 i) c)).val, 0, 0] := by decide +kernel

variable (m : (ℓ : Loc nD τ sig) → Buf (Elt F) ℓ)

/-- What a device's argument `a` holds. -/
def X : (a : Fin 3) → Dev 8 → S4x704x1024.Idx → Elt F .bf16 := fun
  | 0 => fun c => m ((c : Thread nD τ).loc main_arg0)
  | 1 => fun c => m ((c : Thread nD τ).loc main_arg1)
  | 2 => fun c => m ((c : Thread nD τ).loc main_arg2)

/-- What the source buffers hold, and what the landing buffers hold at the end. -/
def srcX (c : Dev 8) : (a : Fin 3) → Buf (Elt F) ((srcM a).view.loc (c : Thread nD τ)) := fun
  | 0 => X m 0 c | 1 => X m 1 c | 2 => X m 2 c
def landX (c : Dev 8) : (a : Fin 3) → Buf (Elt F) ((landM a).view.loc (c : Thread nD τ)) := fun
  | 0 => scattered (X m 0) c | 1 => scattered (X m 1) c | 2 => scattered (X m 2) c

def sendS (t : Fin 3 × Fin 3) : DmaSem sig := ⟨3 * t.1.val + t.2.val, by revert t; decide⟩
def recvS (t : Fin 3 × Fin 3) : DmaSem sig := ⟨9 + (3 * t.1.val + t.2.val), by revert t; decide⟩
def locS (a : Fin 3) : DmaSem sig := ⟨18 + a.val, by revert a; decide⟩

def four : Four τ sig (Elt F) (Fin 3) where
  R _ := 704
  C _ := 1024
  el _ := .bf16
  lM := landM
  off _ := k0_off1
  hoff _ := off_own
  inb _ c := k0_off1_inb c
  sq _ := squeezes_S1x704x1024_S704x1024
  src c t := ((srcM t.1).slice (Rect.unit (s := S4x704x1024) (k0_off2 c (k0_off2_at t.2).1 (k0_off2_at t.2).2) S1x704x1024.size (k0_off2_inb c t.2)) fun _ => rfl).squeeze _ squeezes_S1x704x1024_S704x1024
  lsrc c a := ((srcM a).slice (Rect.unit (s := S4x704x1024) (k0_off1 c) S1x704x1024.size (k0_off1_inb c)) fun _ => rfl).squeeze _ squeezes_S1x704x1024_S704x1024
  q _ := fullShare
  ql _ := fullShare
  fs c t := srcX m c t.1
  fl c a := srcX m c a
  out p a := landX m p a
  hmove c t j := match t with
    | (0, i) => slot_scattered (X m 0) c _ (onChip_chip i c) (off_own c) (off_peer i c) _
    | (1, i) => slot_scattered (X m 1) c _ (onChip_chip i c) (off_own c) (off_peer i c) _
    | (2, i) => slot_scattered (X m 2) c _ (onChip_chip i c) (off_own c) (off_peer i c) _
  hlmove c a j := match a with
    | 0 => slot_scattered (X m 0) c _ (onChip_self c) (off_own c) (off_own c) _
    | 1 => slot_scattered (X m 1) c _ (onChip_self c) (off_own c) (off_own c) _
    | 2 => slot_scattered (X m 2) c _ (onChip_self c) (off_own c) (off_own c) _
  amt a := (((landM a).slice (Rect.unit (s := S4x704x1024) (k0_off1 0) S1x704x1024.size (k0_off1_inb 0)) fun _ => rfl).squeeze S704x1024 squeezes_S1x704x1024_S704x1024).view.dmaCredit
  amt_pos a := View.dmaCredit_pos _ (by decide)
  hamt a c := rfl
  bar := barrier0
  send := sendS
  recv := recvS
  loc := locS
  send_inj := by decide
  recv_inj := by decide
  loc_inj := by decide
  send_recv := by decide
  send_loc := by decide
  recv_loc := by decide
  arrs := [0, 1, 2]
  arrs_nodup := by decide
  arrs_all := by decide

abbrev exch : Exch nD τ sig (Elt F) (Fin 3) (Fin 3) (Fin 3) := (four m).toExch

/-! ## The bodies -/

theorem src_whole : ∀ a, (srcM a).IsWhole := fun
  | 0 => Memref.isWhole_whole _ | 1 => Memref.isWhole_whole _ | 2 => Memref.isWhole_whole _
theorem land_whole : ∀ a, (landM a).IsWhole := fun
  | 0 => Memref.isWhole_whole _ | 1 => Memref.isWhole_whole _ | 2 => Memref.isWhole_whole _

/-- The device a signal goes to, and the device a copy goes to, as the start kernel computes them. -/
def sigDev (d : Dev nD) : Fin 3 → Dev nD := fun
  | 0 => ⟨k0_dev1 d, k0_dev1_lt d⟩ | 1 => ⟨k0_dev2 d, k0_dev2_lt d⟩ | 2 => ⟨k0_dev3 d, k0_dev3_lt d⟩
def copyDev (d : Dev nD) : Fin 3 × Fin 3 → Dev nD := fun
  | (0, 0) => ⟨k0_dev4 d, k0_dev4_lt d⟩ | (0, 1) => ⟨k0_dev5 d, k0_dev5_lt d⟩ | (0, 2) => ⟨k0_dev6 d, k0_dev6_lt d⟩
  | (1, 0) => ⟨k0_dev7 d, k0_dev7_lt d⟩ | (1, 1) => ⟨k0_dev8 d, k0_dev8_lt d⟩ | (1, 2) => ⟨k0_dev9 d, k0_dev9_lt d⟩
  | (2, 0) => ⟨k0_dev10 d, k0_dev10_lt d⟩ | (2, 1) => ⟨k0_dev11 d, k0_dev11_lt d⟩ | (2, 2) => ⟨k0_dev12 d, k0_dev12_lt d⟩

theorem sigDev_eq : ∀ (d : Dev nD) (i : Fin 3), sigDev d i = flipBy (bits3 i) d := by decide +kernel
theorem copyDev_eq : ∀ (d : Dev nD) (t : Fin 3 × Fin 3), copyDev d t = flipBy (bits3 t.2) d := by decide +kernel

variable (F) in
abbrev Op := TpuEff nD τ sig (Elt F) Λ₀ .tc PUnit

def sop (d : Dev nD) (i : Fin 3) : Op F := .semSignal (Dev.tc (sigDev d i)) barrier0 ((1 : ℕ) : ℤ)

def top (d : Dev nD) (t : Fin 3 × Fin 3) : Op F :=
  .enqueueDma (((four (F := F) m).toExch).src d t) (.remote (Dev.tc (copyDev d t)) ((four (F := F) m).toExch.dst d t) (.dma (sendS t))) (.dma (recvS t))
    (((src_whole t.1).wordExact_slice rfl _ (k0_off2_wordsbf16 d t.2)).reshape _ _)
    (((land_whole t.1).wordExact_slice rfl _ (k0_off1_wordsbf16 d)).reshape _ _)
    ⟨⟨rfl, Or.inl rfl⟩, trivial⟩

def lop (d : Dev nD) (a : Fin 3) : Op F :=
  .enqueueDma (((four (F := F) m).toExch).lsrc d a) (.here ((four (F := F) m).toExch.ldst d a)) (.dma (locS a))
    (((src_whole a).wordExact_slice rfl _ (k0_off1_wordsbf16 d)).reshape _ _)
    (((land_whole a).wordExact_slice rfl _ (k0_off1_wordsbf16 d)).reshape _ _)
    ⟨Or.inl rfl, trivial⟩

/-- The end of the start kernel: a token is written, for the result that says the copies are under way. -/
abbrev stamp (M : Memref sig .tc .vmem S8x128 .f32) : Prog (TpuEff nD τ sig (Elt F) Λ₀ .tc) PUnit :=
  .op (.load M (Rect.unit (s := S8x128) ![0, 0] S8x128.size inb_S8x128_S8x128_0_0).toLoadRect (View.loadsAt_vmem h_S8x128)) fun _ =>
  .op (.store M (Rect.unit (s := S8x128) ![0, 0] S8x128.size inb_S8x128_S8x128_0_0) k0_pay1 Finset.univ (View.stores_vmem_bits_univ h_S8x128 rfl) (.inl rfl)) fun _ => .ret ⟨⟩

set_option maxRecDepth 65536 in
theorem start_eq (t : Fin cfg0.N) :
    (bodyAt0 t : Prog (TpuEff nD τ sig (Elt F) Λ₀ .tc) PUnit)
      = .op .deviceId fun d => Exch.run (exch m).is (sop d) (.op (.semWait barrier0 (Fintype.card (Fin 3))) fun _ =>
          Exch.run (exch m).ts (top m d) (Exch.run (exch m).bs (lop m d) (stamp (st0_0 t)))) := by
  chain_rfl

/-- The wait kernel's waits name the two slots of the array again, at the device's own chip or at a neighbour's. -/
abbrev ownSlot (M : Memref sig .tc .hbm S4x704x1024 .bf16) (d : Dev nD) : Memref sig .tc .hbm S704x1024 .bf16 :=
  (M.slice (Rect.unit (s := S4x704x1024) (k1_off2 d) S1x704x1024.size (k1_off2_inb d)) fun _ => rfl).squeeze _ squeezes_S1x704x1024_S704x1024
abbrev peerSlot (M : Memref sig .tc .hbm S4x704x1024 .bf16) (d : Dev nD) (i : Fin 3) : Memref sig .tc .hbm S704x1024 .bf16 :=
  (M.slice (Rect.unit (s := S4x704x1024) (k1_off1 d (k1_off1_at i).1 (k1_off1_at i).2) S1x704x1024.size (k1_off1_inb d i)) fun _ => rfl).squeeze _ squeezes_S1x704x1024_S704x1024

variable (F) in
def sentOp (d : Dev nD) (t : Fin 3 × Fin 3) : Op F :=
  .waitDma2 (sendS t) (ownSlot (landM t.1) d) (peerSlot (srcM t.1) d t.2)
    (((land_whole t.1).wordExact_slice rfl _ (k1_off2_wordsbf16 d)).reshape _ _)
    (((src_whole t.1).wordExact_slice rfl _ (k1_off1_wordsbf16 d t.2)).reshape _ _)
variable (F) in
def gotOp (d : Dev nD) (t : Fin 3 × Fin 3) : Op F :=
  .waitDma2 (recvS t) (ownSlot (srcM t.1) d) (peerSlot (landM t.1) d t.2)
    (((src_whole t.1).wordExact_slice rfl _ (k1_off2_wordsbf16 d)).reshape _ _)
    (((land_whole t.1).wordExact_slice rfl _ (k1_off1_wordsbf16 d t.2)).reshape _ _)
variable (F) in
def ownOp (d : Dev nD) (a : Fin 3) : Op F :=
  .waitDma2 (locS a) (ownSlot (srcM a) d) (ownSlot (landM a) d)
    (((src_whole a).wordExact_slice rfl _ (k1_off2_wordsbf16 d)).reshape _ _)
    (((land_whole a).wordExact_slice rfl _ (k1_off2_wordsbf16 d)).reshape _ _)

set_option maxRecDepth 65536 in
theorem wait_eq (t : Fin cfg1.N) :
    (bodyAt1 t : Prog (TpuEff nD τ sig (Elt F) Λ₀ .tc) PUnit)
      = .op .deviceId fun d => (exch m).ts.foldr (fun t r => .op (sentOp F d t) fun _ => .op (gotOp F d t) fun _ => r) (Exch.run (exch m).bs (ownOp F d) (.ret ⟨⟩)) := by
  chain_rfl

/-! ## The program -/

abbrev argR : Fin 3 → Ref sig .tc := fun
  | 0 => main_arg0 | 1 => main_arg1 | 2 => main_arg2

theorem stage_apart : ∀ k : Key (Fin 3) (Fin 3) (Fin 3), SemLoc.dma cc0_sem0_0 ≠ semOf barrier0 sendS recvS locS k := by decide
theorem cells_all : ∀ sm : SemLoc sig, sm.isScoped .tc = false → ∃ k : Key (Fin 3) (Fin 3) (Fin 3), sm = semOf barrier0 sendS recvS locS k := by decide
theorem cells_unscoped : ∀ k : Key (Fin 3) (Fin 3) (Fin 3), ¬ (semOf barrier0 sendS recvS locS k).isScoped .tc := by decide

abbrev srcR : Fin 3 → Ref sig .tc := fun a => (srcM a).view.ref
abbrev landR : Fin 3 → Ref sig .tc := fun a => (landM a).view.ref
abbrev tokR : Fin 1 → Ref sig .tc := fun _ => main_v4_9

theorem names_inj : Function.Injective (names argR srcR landR tokR) := by decide
theorem names_all : (Finset.univ.filter fun b : Ref sig .tc => ¬ b.isScoped) = Finset.univ.map ⟨_, names_inj⟩ := by decide
theorem touched_inj : Function.Injective fun j => (Proc.devRef .tc (Sum.elim argR srcR j) : DevRef τ sig) := by decide

abbrev pair : Pair nD τ sig (Elt F) Λ₀ (Fin 3) (Fin 3) (Fin 3) where
  E := exch m
  cfgs := cfgs
  defs₀ := defs₀
  N0 := N_0
  N1 := N_1
  W1 := rfl
  inj := cellOf_inj
  win0 := winFacts0
  win1 := winFacts1
  block0 := block_pos0
  stage0 := stage_whole0
  A₀ c w := match w with
    | ⟨0, _⟩ => m ((c : Thread nD τ).loc main_v4_9)
  after₀ w _ := match w with
    | ⟨0, _⟩ => k0_pay1
  apart w s k h := match w with
    | ⟨0, _⟩ => (stage_apart k) h
  cells := cells_all
  unscoped := cells_unscoped
  land := landR
  land_ok := by decide
  lands := [0, 1, 2]
  bufs := touched argR srcR touched_inj
  ops := hostOps0_3
  ops_sub := by
    intro op h
    simp only [List.mem_cons, List.mem_nil_iff, _root_.or_false] at h
    rcases h with rfl | rfl | rfl
    · show ({Proc.devRef .tc main_arg0, Proc.devRef .tc main_v4_3} : Finset (DevRef τ sig)) ⊆ _; decide
    · show ({Proc.devRef .tc main_arg1, Proc.devRef .tc main_v4_4} : Finset (DevRef τ sig)) ⊆ _; decide
    · show ({Proc.devRef .tc main_arg2, Proc.devRef .tc main_v4_5} : Finset (DevRef τ sig)) ⊆ _; decide
  ops_fresh := by
    intro op h
    simp only [List.mem_cons, List.mem_nil_iff, _root_.or_false] at h
    rcases h with rfl | rfl | rfl <;> rfl
  V₀ c b := m ((c : Thread nD τ).1, b)
  keep _ := BI.emp

theorem start_body : (pair m).StartBody :=
  (pair m).start_of (fun t => st0_0 t) k0_pay1 (off := ![0, 0]) (by decide) (fun c t => ((pair m).dat0 c).before (0 : Fin 1) t) (fun _ _ => bigSep_W0 _) (fun _ _ => bigSep_W0 _)
    sop (fun c i => ⟨sigDev c i, sigDev_eq c i, rfl⟩) (top m) (fun c t => ⟨copyDev c t, copyDev_eq c t, _, _, _, _, rfl⟩) (lop m) (fun _ _ => ⟨_, _, _, rfl⟩)
    (fun c t Q => congrArg (fun p => wp frame (wpE defs₀ 𝒱₀ (c : Thread nD τ) none) Set.univ p fun _ => Q) (start_eq m t))

theorem wait_body : (pair m).WaitBody :=
  (pair m).wait_of (sentOp F) (gotOp F) (ownOp F) (fun _ _ _ => rfl) (fun _ _ _ => rfl) (fun _ _ _ => rfl)
    (fun c t Q => congrArg (fun p => wp frame (wpE defs₀ 𝒱₀ (c : Thread nD τ) none) Set.univ p fun _ => Q) (wait_eq m t))

/-! ## The buffers -/

local notation "𝕄" => MT nD τ sig Unit (Elt F) ℕ (UU nD τ sig (Pay (Fin 3) (Fin 3) (Fin 3))) ℕ

/-- A source buffer falls into the slots sent to the neighbours and the slot that stays. -/
theorem src_split (c : Dev nD) (a : Fin 3) : ((c : Thread nD τ).loc (srcR a) ↦{fullShare} srcX m c a : sProp 𝕄)
    = iprop((bigSep Finset.univ fun i => (exch m).source c (a, i)) ∗ (exch m).lsource c a) :=
  (congrArg (fun S => ((c : Thread nD τ).loc (srcR a) ↦[S]{fullShare} srcX m c a : sProp 𝕄)) (src_whole a).set_eq_univ.symm).trans
    (slots_split (srcM a) (chips_bijective c) (fun i => off_peer i c) (off_own c) c _ _
      (fun i => (View.set_reshape _ _).trans (View.set_slice (srcM a).view _))
      ((View.set_reshape _ _).trans (View.set_slice (srcM a).view _)) fullShare (srcX m c a))

abbrev moves : (pair m).Moves m where
  arg := argR
  src := srcR
  tok := tokR
  names_inj := names_inj
  names_all := names_all
  touched_inj := touched_inj
  bufs_eq := rfl
  keep_eq := rfl
  V₀_eq := rfl
  srcX := srcX m
  landX := landX m
  after_arg c a := match a with
    | 0 => by show StableHlo.after hostOps0_3 _ _ = _; after_results
    | 1 => by show StableHlo.after hostOps0_3 _ _ = _; after_results
    | 2 => by show StableHlo.after hostOps0_3 _ _ = _; after_results
  after_src c a := match a with
    | 0 => by show StableHlo.after hostOps0_3 _ _ = _; after_results; rfl
    | 1 => by show StableHlo.after hostOps0_3 _ _ = _; after_results; rfl
    | 2 => by show StableHlo.after hostOps0_3 _ _ = _; after_results; rfl
  arrays_eq c := (bigSep_W0 _).trans ((congrArg (fun S => ((c : Thread nD τ).loc main_v4_9 ↦[S]{fullShare} m ((c : Thread nD τ).loc main_v4_9) : sProp 𝕄)) (arr_whole0 0).set_eq_univ).trans
    (bigSep_W0 fun w => ((c : Thread nD τ).loc (tokR w) ↦{fullShare} m ((c : Thread nD τ).loc (tokR w)) : sProp 𝕄)).symm)
  split c := Entails.of_eq (by rw [bigSep_congr fun a _ => src_split m c a, bigSep_sep', bigSep_univ_prod])
  room := (four m).rooms_whole land_whole
  join := (four m).joined_whole land_whole

theorem idle (w g) : ((pair m).cfgs 0).idle w g = false := match w with
  | ⟨0, _⟩ => rfl

/-- THE RUN, over any float values: every device's results are the slots its chips sent it, its arguments are as they were. -/
theorem run_main [∀ e, Nonempty (Elt F e)] (ρ : Dev nD → PrngReg) :
    θ_run (defs (F := F)) (onTc (τ := τ) (main (F := F))) ⟨m, fun _ => 0, ρ⟩
      (fun r => (∀ c : Dev nD, (∀ a, r.2.mem ((landM a).view.loc (c : Thread nD τ)) = landX m c a)
          ∧ ∀ a, r.2.mem ((c : Thread nD τ).loc (argR a)) = m ((c : Thread nD τ).loc (argR a)))
        ∧ r.2.sem = fun _ => 0) :=
  (moves m).run_main (idle m) (start_body m) (wait_body m) ρ main
    (fun c => (main_chain c).trans (Eq.trans (by rfl) (Pipeline.Seg.run_eq_chain _).symm))

end Cert.ScatterProof

end
-- ==== Proof.ScatterValue.lean ====
/-
  The reduce-scatter's exchange against its reference: the claims about the two.
-/
module

public import proofs.«01_k».proof.Proof.Values
public import proofs.«01_k».proof.Defs
public import proofs.«01_k».proof.Proof.Scatter
public import proofs.«01_k».proof.Proof.Gen.Scatter
public import proofs.«01_k».proof.Proof.Gen.ScatterRef
public import proofs.«01_k».proof.Proof.Gen.ScatterRefIdeal.Run

@[expose] public section

noncomputable section

namespace Cert.ScatterProof

open Idealize.ShloMosaic Idealize.ShloMosaic.TcCoe Idealize.SL.Sem Cert.Exchange

variable {F : FTy → Type} [FloatOps F]

/-- The reference's function of one array. -/
abbrev refOut (_ : Fin 3) : ((Sh32 704 1024).Idx → Elt F .bf16) → (Sh32 704 1024).Idx → Elt F .bf16 :=
  exchanged Cert.ScatterRefIdeal.Gen.shapeCasts_S32x704x1024_S4x2x4x704x1024 Cert.ScatterRefIdeal.Gen.transposes_S4x2x4x704x1024_S4x2x4x704x1024_2_1_0_3_4 Cert.ScatterRefIdeal.Gen.shapeCasts_S4x2x4x704x1024_S32x704x1024

open Cert.ScatterIdeal Cert.ScatterIdeal.Gen

theorem frame [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0 :=
  (θ_run defs _ _).mono (fun _ h => ⟨fun c => ⟨(h.1 c).2 0, (h.1 c).2 1, (h.1 c).2 2⟩, h.2⟩) (run_main m ρ)

/-- On devices that hold the blocks of the arrays, each ends with its blocks of the reference's arrays. -/
theorem value [∀ e, Nonempty (Elt F e)] (m : (ℓ : Loc nD τ sig) → Buf (Elt F) ℓ) (ρ : Dev nD → PrngReg) (x : (a : Fin 3) → (Sh32 704 1024).Idx → Elt F .bf16)
    (h : ∀ c : Dev nD, m ((c : Thread nD τ).loc main_arg0) = Layout.block (Sh4 704 1024) (Sh32 704 1024) 0 8 c (x 0)
      ∧ m ((c : Thread nD τ).loc main_arg1) = Layout.block (Sh4 704 1024) (Sh32 704 1024) 0 8 c (x 1)
      ∧ m ((c : Thread nD τ).loc main_arg2) = Layout.block (Sh4 704 1024) (Sh32 704 1024) 0 8 c (x 2)) :
    θ_run (defs (F := F)) (onTc (τ := τ) (main (F := F))) ⟨m, fun _ => 0, ρ⟩ fun r => ∀ c : Dev nD,
      r.2.mem ((c : Thread nD τ).loc main_v1) = Layout.block (Sh4 704 1024) (Sh32 704 1024) 0 8 c (refOut 0 (x 0))
        ∧ r.2.mem ((c : Thread nD τ).loc main_v2) = Layout.block (Sh4 704 1024) (Sh32 704 1024) 0 8 c (refOut 1 (x 1))
        ∧ r.2.mem ((c : Thread nD τ).loc main_v3) = Layout.block (Sh4 704 1024) (Sh32 704 1024) 0 8 c (refOut 2 (x 2))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2) :=
  (θ_run defs _ _).mono (fun _ k c => ⟨((k.1 c).1 0).trans (scattered_block _ _ _ (X m 0) (x 0) _ (fun c => (h c).1) c),
    ((k.1 c).1 1).trans (scattered_block _ _ _ (X m 1) (x 1) _ (fun c => (h c).2.1) c),
    ((k.1 c).1 2).trans (scattered_block _ _ _ (X m 2) (x 2) _ (fun c => (h c).2.2) c),
    (k.1 c).2 0, (k.1 c).2 1, (k.1 c).2 2⟩) (run_main m ρ)

/-! ## The claims -/

/-- The two printings are one program. -/
theorem defs_same : Cert.Scatter.defs (F := F) = defs (F := F) := by chain_rfl
theorem run_same (s : MemSt nD τ sig (Elt F)) (Q) :
    θ_run (Cert.Scatter.defs (F := F)) (onTc (τ := τ) (Cert.Scatter.main (F := F))) s Q = θ_run (defs (F := F)) (onTc (τ := τ) (main (F := F))) s Q := by
  rw [defs_same]; rfl

theorem quiescent_kernel : quiescent_Scatter := fun m g _ => (run_same _ _).mpr (frame (F := Bits) m g)
theorem quiescent_ideal : quiescent_ScatterIdeal := fun m g _ => frame m g
theorem quiescent_ref : quiescent_ScatterRef := fun m g _ =>
  (θ_run Cert.ScatterRef.defs _ _).mono (fun _ h => ⟨fun c => (h c).2.2.2, funext fun ⟨_, s⟩ => ((show ∀ _ : SemLoc Cert.ScatterRef.sig, False by decide) s).elim⟩)
    (Cert.ScatterRefIdeal.Value.run (F := Bits) m g)
theorem quiescent_refIdeal : quiescent_ScatterRefIdeal := fun m g _ =>
  (θ_run Cert.ScatterRefIdeal.defs _ _).mono (fun _ h => ⟨fun c => (h c).2.2.2, funext fun ⟨_, s⟩ => ((show ∀ _ : SemLoc Cert.ScatterRefIdeal.sig, False by decide) s).elim⟩)
    (Cert.ScatterRefIdeal.Value.run m g)

/-- The reference's arguments, as arrays. -/
abbrev args (m' : (ℓ : Loc Cert.ScatterRefIdeal.nD Cert.ScatterRefIdeal.τ Cert.ScatterRefIdeal.sig) → Buf (Elt F) ℓ) : (a : Fin 3) → (Sh32 704 1024).Idx → Elt F .bf16 := fun
  | 0 => m' (((0 : Dev Cert.ScatterRefIdeal.nD) : Thread Cert.ScatterRefIdeal.nD Cert.ScatterRefIdeal.τ).loc Cert.ScatterRefIdeal.main_arg0)
  | 1 => m' (((0 : Dev Cert.ScatterRefIdeal.nD) : Thread Cert.ScatterRefIdeal.nD Cert.ScatterRefIdeal.τ).loc Cert.ScatterRefIdeal.main_arg1)
  | 2 => m' (((0 : Dev Cert.ScatterRefIdeal.nD) : Thread Cert.ScatterRefIdeal.nD Cert.ScatterRefIdeal.τ).loc Cert.ScatterRefIdeal.main_arg2)

theorem algebraic : algebraic_ScatterIdeal_ScatterRefIdeal := fun m g m' g' _ h =>
  ⟨_, _, _, value m g (args m') h, (θ_run Cert.ScatterRefIdeal.defs _ _).mono (fun _ h => h 0) (Cert.ScatterRefIdeal.Value.run m' g')⟩

theorem bitexact : bitexact_Scatter_ScatterRef := fun m g m' g' _ h =>
  ⟨_, _, _, (run_same _ _).mpr (value (F := Bits) m g (args m') h),
    (θ_run Cert.ScatterRef.defs _ _).mono (fun _ h => h 0) (Cert.ScatterRefIdeal.Value.run (F := Bits) m' g')⟩

end Cert.ScatterProof

end
-- ==== Proof.Gather.lean ====
/-
  The gather's exchange, `Cert.GatherIdeal`: a start kernel and a wait kernel over three arrays. Each landing buffer has one
  slot per chip; a device sends all of its array to the other chips (of its own core), which keep it in the slot of the
  sender's chip. Here: the exchange's plan, its two kernels' bodies as runs through that plan, and the program's run.
-/
module

public import proofs.«01_k».proof.Proof.Scatter
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points

@[expose] public section

noncomputable section

namespace Cert.GatherProof

open Cert.GatherIdeal Cert.GatherIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The plan -/

/-- The source buffers and the landing buffers. -/
abbrev srcM : Fin 3 → Memref sig .tc .hbm S704x1024 .bf16 := fun
  | 0 => Memref.whole main_v4_3 | 1 => Memref.whole main_v4_4 | 2 => Memref.whole main_v4_5
abbrev landM : Fin 3 → Memref sig .tc .hbm S4x704x1024 .bf16 := fun
  | 0 => Memref.whole main_v1 | 1 => Memref.whole main_v2 | 2 => Memref.whole main_v3

theorem src_whole : ∀ a, (srcM a).IsWhole := fun
  | 0 => Memref.isWhole_whole _ | 1 => Memref.isWhole_whole _ | 2 => Memref.isWhole_whole _
theorem land_whole : ∀ a, (landM a).IsWhole := fun
  | 0 => Memref.isWhole_whole _ | 1 => Memref.isWhole_whole _ | 2 => Memref.isWhole_whole _

theorem off_own : ∀ c : Dev 8, k0_off1 c = ![(chip c).val, 0, 0] := by decide +kernel

variable (m : (ℓ : Loc nD τ sig) → Buf (Elt F) ℓ)

/-- What a device's argument `a` holds. -/
def X : (a : Fin 3) → Dev 8 → S704x1024.Idx → Elt F .bf16 := fun
  | 0 => fun c => m ((c : Thread nD τ).loc main_arg0)
  | 1 => fun c => m ((c : Thread nD τ).loc main_arg1)
  | 2 => fun c => m ((c : Thread nD τ).loc main_arg2)

/-- What the source buffers hold, and what the landing buffers hold at the end. -/
def srcX (c : Dev 8) : (a : Fin 3) → Buf (Elt F) ((srcM a).view.loc (c : Thread nD τ)) := fun
  | 0 => X m 0 c | 1 => X m 1 c | 2 => X m 2 c
def landX (c : Dev 8) : (a : Fin 3) → Buf (Elt F) ((landM a).view.loc (c : Thread nD τ)) := fun
  | 0 => gathered (X m 0) c | 1 => gathered (X m 1) c | 2 => gathered (X m 2) c

def sendS (t : Fin 3 × Fin 3) : DmaSem sig := ⟨3 * t.1.val + t.2.val, by revert t; decide⟩
def recvS (t : Fin 3 × Fin 3) : DmaSem sig := ⟨9 + (3 * t.1.val + t.2.val), by revert t; decide⟩
def locS (a : Fin 3) : DmaSem sig := ⟨18 + a.val, by revert a; decide⟩

def four : Four τ sig (Elt F) (Fin 3) where
  R _ := 704
  C _ := 1024
  el _ := .bf16
  lM := landM
  off _ := k0_off1
  hoff _ := off_own
  inb _ c := k0_off1_inb c
  sq _ := squeezes_S1x704x1024_S704x1024
  src _ t := srcM t.1
  lsrc _ := srcM
  q t := peerShare t.2
  ql _ := ownShare
  fs c t := srcX m c t.1
  fl c a := srcX m c a
  out p a := landX m p a
  hmove c t j := match t with
    | (0, i) => slot_gathered (X m 0) c _ (onChip_chip i c) (off_own c) _ j
    | (1, i) => slot_gathered (X m 1) c _ (onChip_chip i c) (off_own c) _ j
    | (2, i) => slot_gathered (X m 2) c _ (onChip_chip i c) (off_own c) _ j
  hlmove c a j := match a with
    | 0 => slot_gathered (X m 0) c _ (onChip_self c) (off_own c) _ j
    | 1 => slot_gathered (X m 1) c _ (onChip_self c) (off_own c) _ j
    | 2 => slot_gathered (X m 2) c _ (onChip_self c) (off_own c) _ j
  amt a := (((landM a).slice (Rect.unit (s := S4x704x1024) (k0_off1 0) S1x704x1024.size (k0_off1_inb 0)) fun _ => rfl).squeeze S704x1024 squeezes_S1x704x1024_S704x1024).view.dmaCredit
  amt_pos a := View.dmaCredit_pos _ (by decide)
  hamt a c := rfl
  bar := barrier0
  send := sendS
  recv := recvS
  loc := locS
  send_inj := by decide
  recv_inj := by decide
  loc_inj := by decide
  send_recv := by decide
  send_loc := by decide
  recv_loc := by decide
  arrs := [0, 1, 2]
  arrs_nodup := by decide
  arrs_all := by decide

abbrev exch : Exch nD τ sig (Elt F) (Fin 3) (Fin 3) (Fin 3) := (four m).toExch

/-! ## The bodies -/

/-- The device a signal goes to, and the device a copy goes to, as the start kernel computes them. -/
def sigDev (d : Dev nD) : Fin 3 → Dev nD := fun
  | 0 => ⟨k0_dev1 d, k0_dev1_lt d⟩ | 1 => ⟨k0_dev2 d, k0_dev2_lt d⟩ | 2 => ⟨k0_dev3 d, k0_dev3_lt d⟩
def copyDev (d : Dev nD) : Fin 3 × Fin 3 → Dev nD := fun
  | (0, 0) => ⟨k0_dev4 d, k0_dev4_lt d⟩ | (0, 1) => ⟨k0_dev5 d, k0_dev5_lt d⟩ | (0, 2) => ⟨k0_dev6 d, k0_dev6_lt d⟩
  | (1, 0) => ⟨k0_dev7 d, k0_dev7_lt d⟩ | (1, 1) => ⟨k0_dev8 d, k0_dev8_lt d⟩ | (1, 2) => ⟨k0_dev9 d, k0_dev9_lt d⟩
  | (2, 0) => ⟨k0_dev10 d, k0_dev10_lt d⟩ | (2, 1) => ⟨k0_dev11 d, k0_dev11_lt d⟩ | (2, 2) => ⟨k0_dev12 d, k0_dev12_lt d⟩

theorem sigDev_eq : ∀ (d : Dev nD) (i : Fin 3), sigDev d i = flipBy (bits3 i) d := by decide +kernel
theorem copyDev_eq : ∀ (d : Dev nD) (t : Fin 3 × Fin 3), copyDev d t = flipBy (bits3 t.2) d := by decide +kernel

variable (F) in
abbrev Op := TpuEff nD τ sig (Elt F) Λ₀ .tc PUnit

def sop (d : Dev nD) (i : Fin 3) : Op F := .semSignal (Dev.tc (sigDev d i)) barrier0 ((1 : ℕ) : ℤ)

def top (d : Dev nD) (t : Fin 3 × Fin 3) : Op F :=
  .enqueueDma (((four (F := F) m).toExch).src d t) (.remote (Dev.tc (copyDev d t)) ((four (F := F) m).toExch.dst d t) (.dma (sendS t))) (.dma (recvS t))
    (src_whole t.1).wordExact (((land_whole t.1).wordExact_slice rfl _ (k0_off1_wordsbf16 d)).reshape _ _) ⟨⟨rfl, Or.inl rfl⟩, trivial⟩

def lop (d : Dev nD) (a : Fin 3) : Op F :=
  .enqueueDma (((four (F := F) m).toExch).lsrc d a) (.here ((four (F := F) m).toExch.ldst d a)) (.dma (locS a))
    (src_whole a).wordExact (((land_whole a).wordExact_slice rfl _ (k0_off1_wordsbf16 d)).reshape _ _) ⟨Or.inl rfl, trivial⟩

variable (F) in
/-- The token's contents. -/
abbrev token : Vec F S8x128 .f32 := k0_pay1 (Scalar.ofBits .f32 0x00000000#32)

/-- The end of the start kernel: a token is written, for the result that says the copies are under way. -/
abbrev stamp (M : Memref sig .tc .vmem S8x128 .f32) : Prog (TpuEff nD τ sig (Elt F) Λ₀ .tc) PUnit :=
  .op (.load M (Rect.unit (s := S8x128) ![0, 0] S8x128.size inb_S8x128_S8x128_0_0).toLoadRect (View.loadsAt_vmem h_S8x128)) fun _ =>
  .op (.store M (Rect.unit (s := S8x128) ![0, 0] S8x128.size inb_S8x128_S8x128_0_0) (token F) Finset.univ (View.stores_vmem_bits_univ h_S8x128 rfl) (.inl rfl)) fun _ => .ret ⟨⟩

set_option maxRecDepth 65536 in
theorem start_eq (t : Fin cfg0.N) :
    (bodyAt0 t : Prog (TpuEff nD τ sig (Elt F) Λ₀ .tc) PUnit)
      = .op .deviceId fun d => Exch.run (exch m).is (sop d) (.op (.semWait barrier0 (Fintype.card (Fin 3))) fun _ =>
          Exch.run (exch m).ts (top m d) (Exch.run (exch m).bs (lop m d) (stamp (st0_0 t)))) := by
  chain_rfl

/-- The wait kernel's waits name the slots of the landing buffers again, of the device's own chip or of a neighbour's. -/
abbrev ownSlot (a : Fin 3) (d : Dev nD) : Memref sig .tc .hbm S704x1024 .bf16 :=
  ((landM a).slice (Rect.unit (s := S4x704x1024) (k1_off1 d) S1x704x1024.size (k1_off1_inb d)) fun _ => rfl).squeeze _ squeezes_S1x704x1024_S704x1024
abbrev peerSlot (a : Fin 3) (d : Dev nD) (i : Fin 3) : Memref sig .tc .hbm S704x1024 .bf16 :=
  ((landM a).slice (Rect.unit (s := S4x704x1024) (k1_off2 d (k1_off2_at i).1 (k1_off2_at i).2) S1x704x1024.size (k1_off2_inb d i)) fun _ => rfl).squeeze _ squeezes_S1x704x1024_S704x1024

variable (F) in
def sentOp (d : Dev nD) (t : Fin 3 × Fin 3) : Op F :=
  .waitDma2 (sendS t) (ownSlot t.1 d) (srcM t.1) (((land_whole t.1).wordExact_slice rfl _ (k1_off1_wordsbf16 d)).reshape _ _) (src_whole t.1).wordExact
variable (F) in
def gotOp (d : Dev nD) (t : Fin 3 × Fin 3) : Op F :=
  .waitDma2 (recvS t) (srcM t.1) (peerSlot t.1 d t.2) (src_whole t.1).wordExact (((land_whole t.1).wordExact_slice rfl _ (k1_off2_wordsbf16 d t.2)).reshape _ _)
variable (F) in
def ownOp (d : Dev nD) (a : Fin 3) : Op F :=
  .waitDma2 (locS a) (srcM a) (ownSlot a d) (src_whole a).wordExact (((land_whole a).wordExact_slice rfl _ (k1_off1_wordsbf16 d)).reshape _ _)

set_option maxRecDepth 65536 in
theorem wait_eq (t : Fin cfg1.N) :
    (bodyAt1 t : Prog (TpuEff nD τ sig (Elt F) Λ₀ .tc) PUnit)
      = .op .deviceId fun d => (exch m).ts.foldr (fun t r => .op (sentOp F d t) fun _ => .op (gotOp F d t) fun _ => r) (Exch.run (exch m).bs (ownOp F d) (.ret ⟨⟩)) := by
  chain_rfl

/-! ## The program -/

abbrev argR : Fin 3 → Ref sig .tc := fun
  | 0 => main_arg0 | 1 => main_arg1 | 2 => main_arg2

theorem stage_apart : ∀ k : Key (Fin 3) (Fin 3) (Fin 3), SemLoc.dma cc0_sem0_0 ≠ semOf barrier0 sendS recvS locS k := by decide
theorem cells_all : ∀ sm : SemLoc sig, sm.isScoped .tc = false → ∃ k : Key (Fin 3) (Fin 3) (Fin 3), sm = semOf barrier0 sendS recvS locS k := by decide
theorem cells_unscoped : ∀ k : Key (Fin 3) (Fin 3) (Fin 3), ¬ (semOf barrier0 sendS recvS locS k).isScoped .tc := by decide

abbrev srcR : Fin 3 → Ref sig .tc := fun a => (srcM a).view.ref
abbrev landR : Fin 3 → Ref sig .tc := fun a => (landM a).view.ref
abbrev tokR : Fin 1 → Ref sig .tc := fun _ => main_v4_9

theorem names_inj : Function.Injective (names argR srcR landR tokR) := by decide
theorem names_all : (Finset.univ.filter fun b : Ref sig .tc => ¬ b.isScoped) = Finset.univ.map ⟨_, names_inj⟩ := by decide
theorem touched_inj : Function.Injective fun j => (Proc.devRef .tc (Sum.elim argR srcR j) : DevRef τ sig) := by decide

abbrev pair : Pair nD τ sig (Elt F) Λ₀ (Fin 3) (Fin 3) (Fin 3) where
  E := exch m
  cfgs := cfgs
  defs₀ := defs₀
  N0 := N_0
  N1 := N_1
  W1 := rfl
  inj := cellOf_inj
  win0 := winFacts0
  win1 := winFacts1
  block0 := block_pos0
  stage0 := stage_whole0
  A₀ c w := match w with
    | ⟨0, _⟩ => m ((c : Thread nD τ).loc main_v4_9)
  after₀ w _ := match w with
    | ⟨0, _⟩ => token F
  apart w s k h := match w with
    | ⟨0, _⟩ => (stage_apart k) h
  cells := cells_all
  unscoped := cells_unscoped
  land := landR
  land_ok := by decide
  lands := [0, 1, 2]
  bufs := touched argR srcR touched_inj
  ops := hostOps0_3
  ops_sub := by
    intro op h
    simp only [List.mem_cons, List.mem_nil_iff, _root_.or_false] at h
    rcases h with rfl | rfl | rfl
    · show ({Proc.devRef .tc main_arg0, Proc.devRef .tc main_v4_3} : Finset (DevRef τ sig)) ⊆ _; decide
    · show ({Proc.devRef .tc main_arg1, Proc.devRef .tc main_v4_4} : Finset (DevRef τ sig)) ⊆ _; decide
    · show ({Proc.devRef .tc main_arg2, Proc.devRef .tc main_v4_5} : Finset (DevRef τ sig)) ⊆ _; decide
  ops_fresh := by
    intro op h
    simp only [List.mem_cons, List.mem_nil_iff, _root_.or_false] at h
    rcases h with rfl | rfl | rfl <;> rfl
  V₀ c b := m ((c : Thread nD τ).1, b)
  keep _ := BI.emp

theorem start_body : (pair m).StartBody :=
  (pair m).start_of (fun t => st0_0 t) (token F) (off := ![0, 0]) (by decide) (fun c t => ((pair m).dat0 c).before (0 : Fin 1) t) (fun _ _ => bigSep_W0 _) (fun _ _ => bigSep_W0 _)
    sop (fun c i => ⟨sigDev c i, sigDev_eq c i, rfl⟩) (top m) (fun c t => ⟨copyDev c t, copyDev_eq c t, _, _, _, _, rfl⟩) (lop m) (fun _ _ => ⟨_, _, _, rfl⟩)
    (fun c t Q => congrArg (fun p => wp frame (wpE defs₀ 𝒱₀ (c : Thread nD τ) none) Set.univ p fun _ => Q) (start_eq m t))

theorem wait_body : (pair m).WaitBody :=
  (pair m).wait_of (sentOp F) (gotOp F) (ownOp F) (fun _ _ _ => rfl) (fun _ _ _ => rfl) (fun _ _ _ => rfl)
    (fun c t Q => congrArg (fun p => wp frame (wpE defs₀ 𝒱₀ (c : Thread nD τ) none) Set.univ p fun _ => Q) (wait_eq m t))

/-! ## The buffers -/

local notation "𝕄" => MT nD τ sig Unit (Elt F) ℕ (UU nD τ sig (Pay (Fin 3) (Fin 3) (Fin 3))) ℕ

/-- A source buffer, shared among its readers. -/
theorem src_split (c : Dev nD) (a : Fin 3) : ((c : Thread nD τ).loc (srcR a) ↦{fullShare} srcX m c a : sProp 𝕄)
    = iprop((bigSep Finset.univ fun i => (exch m).source c (a, i)) ∗ (exch m).lsource c a) :=
  (congrArg (fun S => ((c : Thread nD τ).loc (srcR a) ↦[S]{fullShare} srcX m c a : sProp 𝕄)) (src_whole a).set_eq_univ.symm).trans
    (shares_split _ (srcX m c a))

abbrev moves : (pair m).Moves m where
  arg := argR
  src := srcR
  tok := tokR
  names_inj := names_inj
  names_all := names_all
  touched_inj := touched_inj
  bufs_eq := rfl
  keep_eq := rfl
  V₀_eq := rfl
  srcX := srcX m
  landX := landX m
  after_arg c a := match a with
    | 0 => by show StableHlo.after hostOps0_3 _ _ = _; after_results
    | 1 => by show StableHlo.after hostOps0_3 _ _ = _; after_results
    | 2 => by show StableHlo.after hostOps0_3 _ _ = _; after_results
  after_src c a := match a with
    | 0 => by show StableHlo.after hostOps0_3 _ _ = _; after_results; rfl
    | 1 => by show StableHlo.after hostOps0_3 _ _ = _; after_results; rfl
    | 2 => by show StableHlo.after hostOps0_3 _ _ = _; after_results; rfl
  arrays_eq c := (bigSep_W0 _).trans ((congrArg (fun S => ((c : Thread nD τ).loc main_v4_9 ↦[S]{fullShare} m ((c : Thread nD τ).loc main_v4_9) : sProp 𝕄)) (arr_whole0 0).set_eq_univ).trans
    (bigSep_W0 fun w => ((c : Thread nD τ).loc (tokR w) ↦{fullShare} m ((c : Thread nD τ).loc (tokR w)) : sProp 𝕄)).symm)
  split c := Entails.of_eq (by rw [bigSep_congr fun a _ => src_split m c a, bigSep_sep', bigSep_univ_prod])
  room := (four m).rooms_whole land_whole
  join := (four m).joined_whole land_whole

theorem idle (w g) : ((pair m).cfgs 0).idle w g = false := match w with
  | ⟨0, _⟩ => rfl

/-- THE RUN, over any float values: every device's results are the arrays of the chips, its arguments are as they were. -/
theorem run_main [∀ e, Nonempty (Elt F e)] (ρ : Dev nD → PrngReg) :
    θ_run (defs (F := F)) (onTc (τ := τ) (main (F := F))) ⟨m, fun _ => 0, ρ⟩
      (fun r => (∀ c : Dev nD, (∀ a, r.2.mem ((landM a).view.loc (c : Thread nD τ)) = landX m c a)
          ∧ ∀ a, r.2.mem ((c : Thread nD τ).loc (argR a)) = m ((c : Thread nD τ).loc (argR a)))
        ∧ r.2.sem = fun _ => 0) :=
  (moves m).run_main (idle m) (start_body m) (wait_body m) ρ main
    (fun c => (main_chain c).trans (Eq.trans (by rfl) (Pipeline.Seg.run_eq_chain _).symm))

end Cert.GatherProof

end
-- ==== Proof.GatherValue.lean ====
/-
  The gather's exchange against its reference: the claims about the two.
-/
module

public import proofs.«01_k».proof.Proof.Values
public import proofs.«01_k».proof.Defs
public import proofs.«01_k».proof.Proof.Gather
public import proofs.«01_k».proof.Proof.Gen.Gather
public import proofs.«01_k».proof.Proof.Gen.GatherRef
public import proofs.«01_k».proof.Proof.Gen.GatherRefIdeal.Run

@[expose] public section

noncomputable section

namespace Cert.GatherProof

open Idealize.ShloMosaic Idealize.ShloMosaic.TcCoe Idealize.SL.Sem Cert.Exchange

variable {F : FTy → Type} [FloatOps F]

/-- The reference's function of one array. -/
abbrev refOut (_ : Fin 3) : ((Sh2 5632 1024).Idx → Elt F .bf16) → (Sh32 704 1024).Idx → Elt F .bf16 :=
  collected Cert.GatherRefIdeal.Gen.shapeCasts_S5632x1024_S4x2x704x1024 Cert.GatherRefIdeal.Gen.transposes_S4x2x704x1024_S2x4x704x1024_1_0_2_3 Cert.GatherRefIdeal.Gen.bcast_S2x4x704x1024_S1x2x4x704x1024_1_2_3_4
      Cert.GatherRefIdeal.Gen.bcast_S1x2x4x704x1024_S4x2x4x704x1024_0_1_2_3_4 Cert.GatherRefIdeal.Gen.shapeCasts_S4x2x4x704x1024_S32x704x1024

open Cert.GatherIdeal Cert.GatherIdeal.Gen

theorem frame [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0 :=
  (θ_run defs _ _).mono (fun _ h => ⟨fun c => ⟨(h.1 c).2 0, (h.1 c).2 1, (h.1 c).2 2⟩, h.2⟩) (run_main m ρ)

/-- On devices that hold the blocks of the arrays, each ends with its blocks of the reference's arrays. -/
theorem value [∀ e, Nonempty (Elt F e)] (m : (ℓ : Loc nD τ sig) → Buf (Elt F) ℓ) (ρ : Dev nD → PrngReg) (x : (a : Fin 3) → (Sh2 5632 1024).Idx → Elt F .bf16)
    (h : ∀ c : Dev nD, m ((c : Thread nD τ).loc main_arg0) = Layout.block (Sh2 704 1024) (Sh2 5632 1024) 0 8 c (x 0)
      ∧ m ((c : Thread nD τ).loc main_arg1) = Layout.block (Sh2 704 1024) (Sh2 5632 1024) 0 8 c (x 1)
      ∧ m ((c : Thread nD τ).loc main_arg2) = Layout.block (Sh2 704 1024) (Sh2 5632 1024) 0 8 c (x 2)) :
    θ_run (defs (F := F)) (onTc (τ := τ) (main (F := F))) ⟨m, fun _ => 0, ρ⟩ fun r => ∀ c : Dev nD,
      r.2.mem ((c : Thread nD τ).loc main_v1) = Layout.block (Sh4 704 1024) (Sh32 704 1024) 0 8 c (refOut 0 (x 0))
        ∧ r.2.mem ((c : Thread nD τ).loc main_v2) = Layout.block (Sh4 704 1024) (Sh32 704 1024) 0 8 c (refOut 1 (x 1))
        ∧ r.2.mem ((c : Thread nD τ).loc main_v3) = Layout.block (Sh4 704 1024) (Sh32 704 1024) 0 8 c (refOut 2 (x 2))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2) :=
  (θ_run defs _ _).mono (fun _ k c => ⟨((k.1 c).1 0).trans (gathered_block _ _ _ _ _ (X m 0) (x 0) _ _ (fun c => (h c).1) c),
    ((k.1 c).1 1).trans (gathered_block _ _ _ _ _ (X m 1) (x 1) _ _ (fun c => (h c).2.1) c),
    ((k.1 c).1 2).trans (gathered_block _ _ _ _ _ (X m 2) (x 2) _ _ (fun c => (h c).2.2) c),
    (k.1 c).2 0, (k.1 c).2 1, (k.1 c).2 2⟩) (run_main m ρ)

/-! ## The claims -/

/-- The two printings are one program. -/
theorem defs_same : Cert.Gather.defs (F := F) = defs (F := F) := by chain_rfl
theorem run_same (s : MemSt nD τ sig (Elt F)) (Q) :
    θ_run (Cert.Gather.defs (F := F)) (onTc (τ := τ) (Cert.Gather.main (F := F))) s Q = θ_run (defs (F := F)) (onTc (τ := τ) (main (F := F))) s Q := by
  rw [defs_same]; rfl

theorem quiescent_kernel : quiescent_Gather := fun m g _ => (run_same _ _).mpr (frame (F := Bits) m g)
theorem quiescent_ideal : quiescent_GatherIdeal := fun m g _ => frame m g
theorem quiescent_ref : quiescent_GatherRef := fun m g _ =>
  (θ_run Cert.GatherRef.defs _ _).mono (fun _ h => ⟨fun c => (h c).2.2.2, funext fun ⟨_, s⟩ => ((show ∀ _ : SemLoc Cert.GatherRef.sig, False by decide) s).elim⟩)
    (Cert.GatherRefIdeal.Value.run (F := Bits) m g)
theorem quiescent_refIdeal : quiescent_GatherRefIdeal := fun m g _ =>
  (θ_run Cert.GatherRefIdeal.defs _ _).mono (fun _ h => ⟨fun c => (h c).2.2.2, funext fun ⟨_, s⟩ => ((show ∀ _ : SemLoc Cert.GatherRefIdeal.sig, False by decide) s).elim⟩)
    (Cert.GatherRefIdeal.Value.run m g)

/-- The reference's arguments, as arrays. -/
abbrev args (m' : (ℓ : Loc Cert.GatherRefIdeal.nD Cert.GatherRefIdeal.τ Cert.GatherRefIdeal.sig) → Buf (Elt F) ℓ) : (a : Fin 3) → (Sh2 5632 1024).Idx → Elt F .bf16 := fun
  | 0 => m' (((0 : Dev Cert.GatherRefIdeal.nD) : Thread Cert.GatherRefIdeal.nD Cert.GatherRefIdeal.τ).loc Cert.GatherRefIdeal.main_arg0)
  | 1 => m' (((0 : Dev Cert.GatherRefIdeal.nD) : Thread Cert.GatherRefIdeal.nD Cert.GatherRefIdeal.τ).loc Cert.GatherRefIdeal.main_arg1)
  | 2 => m' (((0 : Dev Cert.GatherRefIdeal.nD) : Thread Cert.GatherRefIdeal.nD Cert.GatherRefIdeal.τ).loc Cert.GatherRefIdeal.main_arg2)

theorem algebraic : algebraic_GatherIdeal_GatherRefIdeal := fun m g m' g' _ h =>
  ⟨_, _, _, value m g (args m') h, (θ_run Cert.GatherRefIdeal.defs _ _).mono (fun _ h => h 0) (Cert.GatherRefIdeal.Value.run m' g')⟩

theorem bitexact : bitexact_Gather_GatherRef := fun m g m' g' _ h =>
  ⟨_, _, _, (run_same _ _).mpr (value (F := Bits) m g (args m') h),
    (θ_run Cert.GatherRef.defs _ _).mono (fun _ h => h 0) (Cert.GatherRefIdeal.Value.run (F := Bits) m' g')⟩

end Cert.GatherProof

end
-- ==== Proof.Sibling.lean ====
/-
  The cores' exchange, `Cert.SiblingIdeal`: a start kernel and a wait kernel over three arrays, each sent whole to the device
  of the other core. Here: the exchange's plan, its two kernels' bodies as runs through that plan, and the program's run.
-/
module

public import proofs.«01_k».proof.Proof.Gather
public import proofs.«01_k».proof.Proof.Gen.SiblingIdeal
public import proofs.«01_k».proof.Proof.Gen.SiblingIdeal.Skeleton
public import proofs.«01_k».proof.Proof.Gen.SiblingIdeal.Launch
public import proofs.«01_k».proof.Proof.Gen.SiblingIdeal.Points

@[expose] public section

noncomputable section

namespace Cert.SiblingProof

open Cert.SiblingIdeal Cert.SiblingIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The plan -/

/-- The source buffers and the landing buffers. -/
abbrev srcM : Fin 3 → Memref sig .tc .hbm S2816x1024 .f32 := fun
  | 0 => Memref.whole main_v4_2 | 1 => Memref.whole main_v4_3 | 2 => Memref.whole main_v4_4
abbrev landM : Fin 3 → Memref sig .tc .hbm S2816x1024 .f32 := fun
  | 0 => Memref.whole main_v1 | 1 => Memref.whole main_v2 | 2 => Memref.whole main_v3

theorem src_whole : ∀ a, (srcM a).IsWhole := fun
  | 0 => Memref.isWhole_whole _ | 1 => Memref.isWhole_whole _ | 2 => Memref.isWhole_whole _
theorem land_whole : ∀ a, (landM a).IsWhole := fun
  | 0 => Memref.isWhole_whole _ | 1 => Memref.isWhole_whole _ | 2 => Memref.isWhole_whole _

variable (m : (ℓ : Loc nD τ sig) → Buf (Elt F) ℓ)

/-- What a device's argument `a` holds. -/
def X : (a : Fin 3) → Dev 8 → S2816x1024.Idx → Elt F .f32 := fun
  | 0 => fun c => m ((c : Thread nD τ).loc main_arg0)
  | 1 => fun c => m ((c : Thread nD τ).loc main_arg1)
  | 2 => fun c => m ((c : Thread nD τ).loc main_arg2)

/-- What the source buffers hold, and what the landing buffers hold at the end. -/
def srcX (c : Dev 8) : (a : Fin 3) → Buf (Elt F) ((srcM a).view.loc (c : Thread nD τ)) := fun
  | 0 => X m 0 c | 1 => X m 1 c | 2 => X m 2 c
def landX (c : Dev 8) : (a : Fin 3) → Buf (Elt F) ((landM a).view.loc (c : Thread nD τ)) := fun
  | 0 => X m 0 (sib c) | 1 => X m 1 (sib c) | 2 => X m 2 (sib c)

def sendS (t : Fin 3 × Fin 1) : DmaSem sig := ⟨t.1.val + t.2.val, by revert t; decide⟩
def recvS (t : Fin 3 × Fin 1) : DmaSem sig := ⟨3 + (t.1.val + t.2.val), by revert t; decide⟩
def locS (b : Fin 0) : DmaSem sig := b.elim0

def one : One τ sig (Elt F) (Fin 3) where
  sh _ := S2816x1024
  el _ := .f32
  sM := srcM
  lM := landM
  s_whole := src_whole
  l_whole := land_whole
  fs c a := srcX m c a
  out p a := landX m p a
  hmove c a j := match a with
    | 0 => congrFun (congrArg (X m 0) (flipBy_flipBy (bits1 0) c).symm) j
    | 1 => congrFun (congrArg (X m 1) (flipBy_flipBy (bits1 0) c).symm) j
    | 2 => congrFun (congrArg (X m 2) (flipBy_flipBy (bits1 0) c).symm) j
  amt_pos a := View.dmaCredit_pos _ (by decide)
  bar := barrier0
  send := sendS
  recv := recvS
  send_inj := by decide
  recv_inj := by decide
  send_recv := by decide
  arrs := [0, 1, 2]
  arrs_nodup := by decide
  arrs_all := by decide

abbrev exch : Exch nD τ sig (Elt F) (Fin 3) (Fin 1) (Fin 0) := (one m).toExch

/-! ## The bodies -/

/-- The device the signal goes to, and the device a copy goes to, as the start kernel computes them. -/
def sigDev (d : Dev nD) (_ : Fin 1) : Dev nD := ⟨k0_dev1 d, k0_dev1_lt d⟩
def copyDev (d : Dev nD) : Fin 3 × Fin 1 → Dev nD := fun
  | (0, _) => ⟨k0_dev2 d, k0_dev2_lt d⟩ | (1, _) => ⟨k0_dev3 d, k0_dev3_lt d⟩ | (2, _) => ⟨k0_dev4 d, k0_dev4_lt d⟩

theorem sigDev_eq : ∀ (d : Dev nD) (i : Fin 1), sigDev d i = flipBy (bits1 i) d := by decide +kernel
theorem copyDev_eq : ∀ (d : Dev nD) (t : Fin 3 × Fin 1), copyDev d t = flipBy (bits1 t.2) d := by decide +kernel

variable (F) in
abbrev Op := TpuEff nD τ sig (Elt F) Λ₀ .tc PUnit

def sop (d : Dev nD) (i : Fin 1) : Op F := .semSignal (Dev.tc (sigDev d i)) barrier0 ((1 : ℕ) : ℤ)

variable (F) in
def top (d : Dev nD) (t : Fin 3 × Fin 1) : Op F :=
  .enqueueDma (srcM t.1) (.remote (Dev.tc (copyDev d t)) (landM t.1) (.dma (sendS t))) (.dma (recvS t))
    (src_whole t.1).wordExact (land_whole t.1).wordExact ⟨⟨rfl, Or.inl rfl⟩, trivial⟩

variable (F) in
def lop (_ : Dev nD) (b : Fin 0) : Op F := b.elim0

/-- The end of the start kernel: a token is written, for the result that says the copies are under way. -/
abbrev stamp (M : Memref sig .tc .vmem S8x128 .f32) : Prog (TpuEff nD τ sig (Elt F) Λ₀ .tc) PUnit :=
  .op (.load M (Rect.unit (s := S8x128) ![0, 0] S8x128.size inb_S8x128_S8x128_0_0).toLoadRect (View.loadsAt_vmem h_S8x128)) fun _ =>
  .op (.store M (Rect.unit (s := S8x128) ![0, 0] S8x128.size inb_S8x128_S8x128_0_0) k0_pay1 Finset.univ (View.stores_vmem_bits_univ h_S8x128 rfl) (.inl rfl)) fun _ => .ret ⟨⟩

set_option maxRecDepth 65536 in
theorem start_eq (t : Fin cfg0.N) :
    (bodyAt0 t : Prog (TpuEff nD τ sig (Elt F) Λ₀ .tc) PUnit)
      = .op .deviceId fun d => Exch.run (exch m).is (sop d) (.op (.semWait barrier0 (Fintype.card (Fin 1))) fun _ =>
          Exch.run (exch m).ts (top F d) (Exch.run (exch m).bs (lop F d) (stamp (st0_0 t)))) := by
  chain_rfl

variable (F) in
def sentOp (_ : Dev nD) (t : Fin 3 × Fin 1) : Op F := .waitDma2 (sendS t) (landM t.1) (srcM t.1) (land_whole t.1).wordExact (src_whole t.1).wordExact
variable (F) in
def gotOp (_ : Dev nD) (t : Fin 3 × Fin 1) : Op F := .waitDma2 (recvS t) (srcM t.1) (landM t.1) (src_whole t.1).wordExact (land_whole t.1).wordExact

set_option maxRecDepth 65536 in
theorem wait_eq (t : Fin cfg1.N) :
    (bodyAt1 t : Prog (TpuEff nD τ sig (Elt F) Λ₀ .tc) PUnit)
      = .op .deviceId fun d => (exch m).ts.foldr (fun t r => .op (sentOp F d t) fun _ => .op (gotOp F d t) fun _ => r) (Exch.run (exch m).bs (lop F d) (.ret ⟨⟩)) := by
  chain_rfl

/-! ## The program -/

abbrev argR : Fin 3 → Ref sig .tc := fun
  | 0 => main_arg0 | 1 => main_arg1 | 2 => main_arg2

theorem stage_apart : ∀ k : Key (Fin 3) (Fin 1) (Fin 0), SemLoc.dma cc0_sem0_0 ≠ semOf barrier0 sendS recvS locS k := by decide
theorem cells_all : ∀ sm : SemLoc sig, sm.isScoped .tc = false → ∃ k : Key (Fin 3) (Fin 1) (Fin 0), sm = semOf barrier0 sendS recvS locS k := by decide
theorem cells_unscoped : ∀ k : Key (Fin 3) (Fin 1) (Fin 0), ¬ (semOf barrier0 sendS recvS locS k).isScoped .tc := by decide

abbrev srcR : Fin 3 → Ref sig .tc := fun a => (srcM a).view.ref
abbrev landR : Fin 3 → Ref sig .tc := fun a => (landM a).view.ref
abbrev tokR : Fin 1 → Ref sig .tc := fun _ => main_v4_8

theorem names_inj : Function.Injective (names argR srcR landR tokR) := by decide
theorem names_all : (Finset.univ.filter fun b : Ref sig .tc => ¬ b.isScoped) = Finset.univ.map ⟨_, names_inj⟩ := by decide
theorem touched_inj : Function.Injective fun j => (Proc.devRef .tc (Sum.elim argR srcR j) : DevRef τ sig) := by decide

abbrev pair : Pair nD τ sig (Elt F) Λ₀ (Fin 3) (Fin 1) (Fin 0) where
  E := exch m
  cfgs := cfgs
  defs₀ := defs₀
  N0 := N_0
  N1 := N_1
  W1 := rfl
  inj := cellOf_inj
  win0 := winFacts0
  win1 := winFacts1
  block0 := block_pos0
  stage0 := stage_whole0
  A₀ c w := match w with
    | ⟨0, _⟩ => m ((c : Thread nD τ).loc main_v4_8)
  after₀ w _ := match w with
    | ⟨0, _⟩ => k0_pay1
  apart w s k h := match w with
    | ⟨0, _⟩ => (stage_apart k) h
  cells := cells_all
  unscoped := cells_unscoped
  land := landR
  land_ok := by decide
  lands := [0, 1, 2]
  bufs := touched argR srcR touched_inj
  ops := hostOps0_3
  ops_sub := by
    intro op h
    simp only [List.mem_cons, List.mem_nil_iff, _root_.or_false] at h
    rcases h with rfl | rfl | rfl
    · show ({Proc.devRef .tc main_arg0, Proc.devRef .tc main_v4_2} : Finset (DevRef τ sig)) ⊆ _; decide
    · show ({Proc.devRef .tc main_arg1, Proc.devRef .tc main_v4_3} : Finset (DevRef τ sig)) ⊆ _; decide
    · show ({Proc.devRef .tc main_arg2, Proc.devRef .tc main_v4_4} : Finset (DevRef τ sig)) ⊆ _; decide
  ops_fresh := by
    intro op h
    simp only [List.mem_cons, List.mem_nil_iff, _root_.or_false] at h
    rcases h with rfl | rfl | rfl <;> rfl
  V₀ c b := m ((c : Thread nD τ).1, b)
  keep _ := BI.emp

theorem start_body : (pair m).StartBody :=
  (pair m).start_of (fun t => st0_0 t) k0_pay1 (off := ![0, 0]) (by decide) (fun c t => ((pair m).dat0 c).before (0 : Fin 1) t) (fun _ _ => bigSep_W0 _) (fun _ _ => bigSep_W0 _)
    sop (fun c i => ⟨sigDev c i, sigDev_eq c i, rfl⟩) (top F) (fun c t => ⟨copyDev c t, copyDev_eq c t, _, _, _, _, rfl⟩) (lop F) (fun _ b => b.elim0)
    (fun c t Q => congrArg (fun p => wp frame (wpE defs₀ 𝒱₀ (c : Thread nD τ) none) Set.univ p fun _ => Q) (start_eq m t))

theorem wait_body : (pair m).WaitBody :=
  (pair m).wait_of (sentOp F) (gotOp F) (lop F) (fun _ _ _ => rfl) (fun _ _ _ => rfl) (fun _ b => b.elim0)
    (fun c t Q => congrArg (fun p => wp frame (wpE defs₀ 𝒱₀ (c : Thread nD τ) none) Set.univ p fun _ => Q) (wait_eq m t))

/-! ## The buffers -/

local notation "𝕄" => MT nD τ sig Unit (Elt F) ℕ (UU nD τ sig (Pay (Fin 3) (Fin 1) (Fin 0))) ℕ

abbrev moves : (pair m).Moves m where
  arg := argR
  src := srcR
  tok := tokR
  names_inj := names_inj
  names_all := names_all
  touched_inj := touched_inj
  bufs_eq := rfl
  keep_eq := rfl
  V₀_eq := rfl
  srcX := srcX m
  landX := landX m
  after_arg c a := match a with
    | 0 => by show StableHlo.after hostOps0_3 _ _ = _; after_results
    | 1 => by show StableHlo.after hostOps0_3 _ _ = _; after_results
    | 2 => by show StableHlo.after hostOps0_3 _ _ = _; after_results
  after_src c a := match a with
    | 0 => by show StableHlo.after hostOps0_3 _ _ = _; after_results; rfl
    | 1 => by show StableHlo.after hostOps0_3 _ _ = _; after_results; rfl
    | 2 => by show StableHlo.after hostOps0_3 _ _ = _; after_results; rfl
  arrays_eq c := (bigSep_W0 _).trans ((congrArg (fun S => ((c : Thread nD τ).loc main_v4_8 ↦[S]{fullShare} m ((c : Thread nD τ).loc main_v4_8) : sProp 𝕄)) (arr_whole0 0).set_eq_univ).trans
    (bigSep_W0 fun w => ((c : Thread nD τ).loc (tokR w) ↦{fullShare} m ((c : Thread nD τ).loc (tokR w)) : sProp 𝕄)).symm)
  split := (one m).sources
  room := (one m).rooms
  join := (one m).joined

theorem idle (w g) : ((pair m).cfgs 0).idle w g = false := match w with
  | ⟨0, _⟩ => rfl

/-- THE RUN, over any float values: every device's results are the arrays of the other core, its arguments are as they were. -/
theorem run_main [∀ e, Nonempty (Elt F e)] (ρ : Dev nD → PrngReg) :
    θ_run (defs (F := F)) (onTc (τ := τ) (main (F := F))) ⟨m, fun _ => 0, ρ⟩
      (fun r => (∀ c : Dev nD, (∀ a, r.2.mem ((landM a).view.loc (c : Thread nD τ)) = landX m c a)
          ∧ ∀ a, r.2.mem ((c : Thread nD τ).loc (argR a)) = m ((c : Thread nD τ).loc (argR a)))
        ∧ r.2.sem = fun _ => 0) :=
  (moves m).run_main (idle m) (start_body m) (wait_body m) ρ main
    (fun c => (main_chain c).trans (Eq.trans (by rfl) (Pipeline.Seg.run_eq_chain _).symm))

end Cert.SiblingProof

end
-- ==== Proof.SiblingValue.lean ====
/-
  The cores' exchange against its reference: the claims about the two.
-/
module

public import proofs.«01_k».proof.Proof.Values
public import proofs.«01_k».proof.Defs
public import proofs.«01_k».proof.Proof.Sibling
public import proofs.«01_k».proof.Proof.Gen.Sibling
public import proofs.«01_k».proof.Proof.Gen.SiblingRef
public import proofs.«01_k».proof.Proof.Gen.SiblingRefIdeal.Run

@[expose] public section

noncomputable section

namespace Cert.SiblingProof

open Idealize.ShloMosaic Idealize.ShloMosaic.TcCoe Idealize.SL.Sem Cert.Exchange

variable {F : FTy → Type} [FloatOps F]

/-- The reference's function of one array. -/
abbrev refOut (_ : Fin 3) : ((Sh2 22528 1024).Idx → Elt F .f32) → (Sh2 22528 1024).Idx → Elt F .f32 :=
  swapped Cert.SiblingRefIdeal.Gen.shapeCasts_S22528x1024_S4x2x2816x1024 Cert.SiblingRefIdeal.Gen.shapeCasts_S4x2x2816x1024_S22528x1024

open Cert.SiblingIdeal Cert.SiblingIdeal.Gen

theorem frame [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0 :=
  (θ_run defs _ _).mono (fun _ h => ⟨fun c => ⟨(h.1 c).2 0, (h.1 c).2 1, (h.1 c).2 2⟩, h.2⟩) (run_main m ρ)

/-- On devices that hold the blocks of the arrays, each ends with its blocks of the reference's arrays. -/
theorem value [∀ e, Nonempty (Elt F e)] (m : (ℓ : Loc nD τ sig) → Buf (Elt F) ℓ) (ρ : Dev nD → PrngReg) (x : (a : Fin 3) → (Sh2 22528 1024).Idx → Elt F .f32)
    (h : ∀ c : Dev nD, m ((c : Thread nD τ).loc main_arg0) = Layout.block (Sh2 2816 1024) (Sh2 22528 1024) 0 8 c (x 0)
      ∧ m ((c : Thread nD τ).loc main_arg1) = Layout.block (Sh2 2816 1024) (Sh2 22528 1024) 0 8 c (x 1)
      ∧ m ((c : Thread nD τ).loc main_arg2) = Layout.block (Sh2 2816 1024) (Sh2 22528 1024) 0 8 c (x 2)) :
    θ_run (defs (F := F)) (onTc (τ := τ) (main (F := F))) ⟨m, fun _ => 0, ρ⟩ fun r => ∀ c : Dev nD,
      r.2.mem ((c : Thread nD τ).loc main_v1) = Layout.block (Sh2 2816 1024) (Sh2 22528 1024) 0 8 c (refOut 0 (x 0))
        ∧ r.2.mem ((c : Thread nD τ).loc main_v2) = Layout.block (Sh2 2816 1024) (Sh2 22528 1024) 0 8 c (refOut 1 (x 1))
        ∧ r.2.mem ((c : Thread nD τ).loc main_v3) = Layout.block (Sh2 2816 1024) (Sh2 22528 1024) 0 8 c (refOut 2 (x 2))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2) :=
  (θ_run defs _ _).mono (fun _ k c => ⟨((k.1 c).1 0).trans (sibling_block _ _ (X m 0) (x 0) _ (fun c => (h c).1) c),
    ((k.1 c).1 1).trans (sibling_block _ _ (X m 1) (x 1) _ (fun c => (h c).2.1) c),
    ((k.1 c).1 2).trans (sibling_block _ _ (X m 2) (x 2) _ (fun c => (h c).2.2) c),
    (k.1 c).2 0, (k.1 c).2 1, (k.1 c).2 2⟩) (run_main m ρ)

/-! ## The claims -/

/-- The two printings are one program. -/
theorem defs_same : Cert.Sibling.defs (F := F) = defs (F := F) := by chain_rfl
theorem run_same (s : MemSt nD τ sig (Elt F)) (Q) :
    θ_run (Cert.Sibling.defs (F := F)) (onTc (τ := τ) (Cert.Sibling.main (F := F))) s Q = θ_run (defs (F := F)) (onTc (τ := τ) (main (F := F))) s Q := by
  rw [defs_same]; rfl

theorem quiescent_kernel : quiescent_Sibling := fun m g _ => (run_same _ _).mpr (frame (F := Bits) m g)
theorem quiescent_ideal : quiescent_SiblingIdeal := fun m g _ => frame m g
theorem quiescent_ref : quiescent_SiblingRef := fun m g _ =>
  (θ_run Cert.SiblingRef.defs _ _).mono (fun _ h => ⟨fun c => (h c).2.2.2, funext fun ⟨_, s⟩ => ((show ∀ _ : SemLoc Cert.SiblingRef.sig, False by decide) s).elim⟩)
    (Cert.SiblingRefIdeal.Value.run (F := Bits) m g)
theorem quiescent_refIdeal : quiescent_SiblingRefIdeal := fun m g _ =>
  (θ_run Cert.SiblingRefIdeal.defs _ _).mono (fun _ h => ⟨fun c => (h c).2.2.2, funext fun ⟨_, s⟩ => ((show ∀ _ : SemLoc Cert.SiblingRefIdeal.sig, False by decide) s).elim⟩)
    (Cert.SiblingRefIdeal.Value.run m g)

/-- The reference's arguments, as arrays. -/
abbrev args (m' : (ℓ : Loc Cert.SiblingRefIdeal.nD Cert.SiblingRefIdeal.τ Cert.SiblingRefIdeal.sig) → Buf (Elt F) ℓ) : (a : Fin 3) → (Sh2 22528 1024).Idx → Elt F .f32 := fun
  | 0 => m' (((0 : Dev Cert.SiblingRefIdeal.nD) : Thread Cert.SiblingRefIdeal.nD Cert.SiblingRefIdeal.τ).loc Cert.SiblingRefIdeal.main_arg0)
  | 1 => m' (((0 : Dev Cert.SiblingRefIdeal.nD) : Thread Cert.SiblingRefIdeal.nD Cert.SiblingRefIdeal.τ).loc Cert.SiblingRefIdeal.main_arg1)
  | 2 => m' (((0 : Dev Cert.SiblingRefIdeal.nD) : Thread Cert.SiblingRefIdeal.nD Cert.SiblingRefIdeal.τ).loc Cert.SiblingRefIdeal.main_arg2)

theorem algebraic : algebraic_SiblingIdeal_SiblingRefIdeal := fun m g m' g' _ h =>
  ⟨_, _, _, value m g (args m') h, (θ_run Cert.SiblingRefIdeal.defs _ _).mono (fun _ h => h 0) (Cert.SiblingRefIdeal.Value.run m' g')⟩

theorem bitexact : bitexact_Sibling_SiblingRef := fun m g m' g' _ h =>
  ⟨_, _, _, (run_same _ _).mpr (value (F := Bits) m g (args m') h),
    (θ_run Cert.SiblingRef.defs _ _).mono (fun _ h => h 0) (Cert.SiblingRefIdeal.Value.run (F := Bits) m' g')⟩

end Cert.SiblingProof

end
-- ==== Proof.SiblingMix.lean ====
/-
  The cores' exchange of the mixing stage, `Cert.SiblingMixIdeal`: a start kernel and a wait kernel over six arrays of three shapes, each sent whole to the device
  of the other core. Here: the exchange's plan, its two kernels' bodies as runs through that plan, and the program's run.
-/
module

public import proofs.«01_k».proof.Proof.Sibling
public import proofs.«01_k».proof.Proof.Gen.SiblingMixIdeal
public import proofs.«01_k».proof.Proof.Gen.SiblingMixIdeal.Skeleton
public import proofs.«01_k».proof.Proof.Gen.SiblingMixIdeal.Launch
public import proofs.«01_k».proof.Proof.Gen.SiblingMixIdeal.Points

@[expose] public section

noncomputable section

namespace Cert.SiblingMixProof

open Cert.SiblingMixIdeal Cert.SiblingMixIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The plan -/

/-- The arrays' shapes. -/
abbrev sh : Fin 6 → Shape := fun
  | 0 => S6400x1024 | 1 => S1024x512 | 2 => S1024x1024 | 3 => S1024x1024 | 4 => S1024x512 | 5 => S1024x1024

/-- The source buffers and the landing buffers. -/
abbrev srcM : (a : Fin 6) → Memref sig .tc .hbm (sh a) .f32 := fun
  | 0 => Memref.whole main_v7_2 | 1 => Memref.whole main_v7_3 | 2 => Memref.whole main_v7_4 | 3 => Memref.whole main_v7_5 | 4 => Memref.whole main_v7_6 | 5 => Memref.whole main_v7_7
abbrev landM : (a : Fin 6) → Memref sig .tc .hbm (sh a) .f32 := fun
  | 0 => Memref.whole main_v1 | 1 => Memref.whole main_v2 | 2 => Memref.whole main_v3 | 3 => Memref.whole main_v4 | 4 => Memref.whole main_v5 | 5 => Memref.whole main_v6

theorem src_whole : ∀ a, (srcM a).IsWhole := fun
  | 0 => Memref.isWhole_whole _ | 1 => Memref.isWhole_whole _ | 2 => Memref.isWhole_whole _ | 3 => Memref.isWhole_whole _ | 4 => Memref.isWhole_whole _ | 5 => Memref.isWhole_whole _
theorem land_whole : ∀ a, (landM a).IsWhole := fun
  | 0 => Memref.isWhole_whole _ | 1 => Memref.isWhole_whole _ | 2 => Memref.isWhole_whole _ | 3 => Memref.isWhole_whole _ | 4 => Memref.isWhole_whole _ | 5 => Memref.isWhole_whole _

variable (m : (ℓ : Loc nD τ sig) → Buf (Elt F) ℓ)

/-- What a device's argument `a` holds. -/
def X : (a : Fin 6) → Dev 8 → (sh a).Idx → Elt F .f32 := fun
  | 0 => fun c => m ((c : Thread nD τ).loc main_arg0)
  | 1 => fun c => m ((c : Thread nD τ).loc main_arg1)
  | 2 => fun c => m ((c : Thread nD τ).loc main_arg2)
  | 3 => fun c => m ((c : Thread nD τ).loc main_arg3)
  | 4 => fun c => m ((c : Thread nD τ).loc main_arg4)
  | 5 => fun c => m ((c : Thread nD τ).loc main_arg5)

/-- What the source buffers hold, and what the landing buffers hold at the end. -/
def srcX (c : Dev 8) : (a : Fin 6) → Buf (Elt F) ((srcM a).view.loc (c : Thread nD τ)) := fun
  | 0 => X m 0 c | 1 => X m 1 c | 2 => X m 2 c | 3 => X m 3 c | 4 => X m 4 c | 5 => X m 5 c
def landX (c : Dev 8) : (a : Fin 6) → Buf (Elt F) ((landM a).view.loc (c : Thread nD τ)) := fun
  | 0 => X m 0 (sib c) | 1 => X m 1 (sib c) | 2 => X m 2 (sib c) | 3 => X m 3 (sib c) | 4 => X m 4 (sib c) | 5 => X m 5 (sib c)

def sendS (t : Fin 6 × Fin 1) : DmaSem sig := ⟨t.1.val + t.2.val, by revert t; decide⟩
def recvS (t : Fin 6 × Fin 1) : DmaSem sig := ⟨6 + (t.1.val + t.2.val), by revert t; decide⟩
def locS (b : Fin 0) : DmaSem sig := b.elim0

def one : One τ sig (Elt F) (Fin 6) where
  sh := sh
  el _ := .f32
  sM := srcM
  lM := landM
  s_whole := src_whole
  l_whole := land_whole
  fs c a := srcX m c a
  out p a := landX m p a
  hmove c a j := match a with
    | 0 => congrFun (congrArg (X m 0) (flipBy_flipBy (bits1 0) c).symm) j
    | 1 => congrFun (congrArg (X m 1) (flipBy_flipBy (bits1 0) c).symm) j
    | 2 => congrFun (congrArg (X m 2) (flipBy_flipBy (bits1 0) c).symm) j
    | 3 => congrFun (congrArg (X m 3) (flipBy_flipBy (bits1 0) c).symm) j
    | 4 => congrFun (congrArg (X m 4) (flipBy_flipBy (bits1 0) c).symm) j
    | 5 => congrFun (congrArg (X m 5) (flipBy_flipBy (bits1 0) c).symm) j
  amt_pos a := match a with
    | 0 => View.dmaCredit_pos _ (by decide) | 1 => View.dmaCredit_pos _ (by decide) | 2 => View.dmaCredit_pos _ (by decide) | 3 => View.dmaCredit_pos _ (by decide) | 4 => View.dmaCredit_pos _ (by decide) | 5 => View.dmaCredit_pos _ (by decide)
  bar := barrier0
  send := sendS
  recv := recvS
  send_inj := by decide
  recv_inj := by decide
  send_recv := by decide
  arrs := [0, 1, 2, 3, 4, 5]
  arrs_nodup := by decide
  arrs_all := by decide

abbrev exch : Exch nD τ sig (Elt F) (Fin 6) (Fin 1) (Fin 0) := (one m).toExch

/-! ## The bodies -/

/-- The device the signal goes to, and the device a copy goes to, as the start kernel computes them. -/
def sigDev (d : Dev nD) (_ : Fin 1) : Dev nD := ⟨k0_dev1 d, k0_dev1_lt d⟩
def copyDev (d : Dev nD) : Fin 6 × Fin 1 → Dev nD := fun
  | (0, _) => ⟨k0_dev2 d, k0_dev2_lt d⟩ | (1, _) => ⟨k0_dev3 d, k0_dev3_lt d⟩ | (2, _) => ⟨k0_dev4 d, k0_dev4_lt d⟩ | (3, _) => ⟨k0_dev5 d, k0_dev5_lt d⟩ | (4, _) => ⟨k0_dev6 d, k0_dev6_lt d⟩ | (5, _) => ⟨k0_dev7 d, k0_dev7_lt d⟩

theorem sigDev_eq : ∀ (d : Dev nD) (i : Fin 1), sigDev d i = flipBy (bits1 i) d := by decide +kernel
theorem copyDev_eq : ∀ (d : Dev nD) (t : Fin 6 × Fin 1), copyDev d t = flipBy (bits1 t.2) d := by decide +kernel

variable (F) in
abbrev Op := TpuEff nD τ sig (Elt F) Λ₀ .tc PUnit

def sop (d : Dev nD) (i : Fin 1) : Op F := .semSignal (Dev.tc (sigDev d i)) barrier0 ((1 : ℕ) : ℤ)

variable (F) in
def top (d : Dev nD) (t : Fin 6 × Fin 1) : Op F :=
  .enqueueDma (srcM t.1) (.remote (Dev.tc (copyDev d t)) (landM t.1) (.dma (sendS t))) (.dma (recvS t))
    (src_whole t.1).wordExact (land_whole t.1).wordExact ⟨⟨rfl, Or.inl rfl⟩, trivial⟩

variable (F) in
def lop (_ : Dev nD) (b : Fin 0) : Op F := b.elim0

/-- The end of the start kernel: a token is written, for the result that says the copies are under way. -/
abbrev stamp (M : Memref sig .tc .vmem S8x128 .f32) : Prog (TpuEff nD τ sig (Elt F) Λ₀ .tc) PUnit :=
  .op (.load M (Rect.unit (s := S8x128) ![0, 0] S8x128.size inb_S8x128_S8x128_0_0).toLoadRect (View.loadsAt_vmem h_S8x128)) fun _ =>
  .op (.store M (Rect.unit (s := S8x128) ![0, 0] S8x128.size inb_S8x128_S8x128_0_0) k0_pay1 Finset.univ (View.stores_vmem_bits_univ h_S8x128 rfl) (.inl rfl)) fun _ => .ret ⟨⟩

set_option maxRecDepth 65536 in
theorem start_eq (t : Fin cfg0.N) :
    (bodyAt0 t : Prog (TpuEff nD τ sig (Elt F) Λ₀ .tc) PUnit)
      = .op .deviceId fun d => Exch.run (exch m).is (sop d) (.op (.semWait barrier0 (Fintype.card (Fin 1))) fun _ =>
          Exch.run (exch m).ts (top F d) (Exch.run (exch m).bs (lop F d) (stamp (st0_0 t)))) := by
  chain_rfl

variable (F) in
def sentOp (_ : Dev nD) (t : Fin 6 × Fin 1) : Op F := .waitDma2 (sendS t) (landM t.1) (srcM t.1) (land_whole t.1).wordExact (src_whole t.1).wordExact
variable (F) in
def gotOp (_ : Dev nD) (t : Fin 6 × Fin 1) : Op F := .waitDma2 (recvS t) (srcM t.1) (landM t.1) (src_whole t.1).wordExact (land_whole t.1).wordExact

set_option maxRecDepth 65536 in
theorem wait_eq (t : Fin cfg1.N) :
    (bodyAt1 t : Prog (TpuEff nD τ sig (Elt F) Λ₀ .tc) PUnit)
      = .op .deviceId fun d => (exch m).ts.foldr (fun t r => .op (sentOp F d t) fun _ => .op (gotOp F d t) fun _ => r) (Exch.run (exch m).bs (lop F d) (.ret ⟨⟩)) := by
  chain_rfl

/-! ## The program -/

abbrev argR : Fin 6 → Ref sig .tc := fun
  | 0 => main_arg0 | 1 => main_arg1 | 2 => main_arg2 | 3 => main_arg3 | 4 => main_arg4 | 5 => main_arg5

theorem stage_apart : ∀ k : Key (Fin 6) (Fin 1) (Fin 0), SemLoc.dma cc0_sem0_0 ≠ semOf barrier0 sendS recvS locS k := by decide
theorem cells_all : ∀ sm : SemLoc sig, sm.isScoped .tc = false → ∃ k : Key (Fin 6) (Fin 1) (Fin 0), sm = semOf barrier0 sendS recvS locS k := by decide
theorem cells_unscoped : ∀ k : Key (Fin 6) (Fin 1) (Fin 0), ¬ (semOf barrier0 sendS recvS locS k).isScoped .tc := by decide

abbrev srcR : Fin 6 → Ref sig .tc := fun a => (srcM a).view.ref
abbrev landR : Fin 6 → Ref sig .tc := fun a => (landM a).view.ref
abbrev tokR : Fin 1 → Ref sig .tc := fun _ => main_v7_14

theorem names_inj : Function.Injective (names argR srcR landR tokR) := by decide
theorem names_all : (Finset.univ.filter fun b : Ref sig .tc => ¬ b.isScoped) = Finset.univ.map ⟨_, names_inj⟩ := by decide
theorem touched_inj : Function.Injective fun j => (Proc.devRef .tc (Sum.elim argR srcR j) : DevRef τ sig) := by decide

abbrev pair : Pair nD τ sig (Elt F) Λ₀ (Fin 6) (Fin 1) (Fin 0) where
  E := exch m
  cfgs := cfgs
  defs₀ := defs₀
  N0 := N_0
  N1 := N_1
  W1 := rfl
  inj := cellOf_inj
  win0 := winFacts0
  win1 := winFacts1
  block0 := block_pos0
  stage0 := stage_whole0
  A₀ c w := match w with
    | ⟨0, _⟩ => m ((c : Thread nD τ).loc main_v7_14)
  after₀ w _ := match w with
    | ⟨0, _⟩ => k0_pay1
  apart w s k h := match w with
    | ⟨0, _⟩ => (stage_apart k) h
  cells := cells_all
  unscoped := cells_unscoped
  land := landR
  land_ok := by decide
  lands := [0, 1, 2, 3, 4, 5]
  bufs := touched argR srcR touched_inj
  ops := hostOps0_6
  ops_sub := by
    intro op h
    simp only [List.mem_cons, List.mem_nil_iff, _root_.or_false] at h
    rcases h with rfl | rfl | rfl | rfl | rfl | rfl
    · show ({Proc.devRef .tc main_arg0, Proc.devRef .tc main_v7_2} : Finset (DevRef τ sig)) ⊆ _; decide
    · show ({Proc.devRef .tc main_arg1, Proc.devRef .tc main_v7_3} : Finset (DevRef τ sig)) ⊆ _; decide
    · show ({Proc.devRef .tc main_arg2, Proc.devRef .tc main_v7_4} : Finset (DevRef τ sig)) ⊆ _; decide
    · show ({Proc.devRef .tc main_arg3, Proc.devRef .tc main_v7_5} : Finset (DevRef τ sig)) ⊆ _; decide
    · show ({Proc.devRef .tc main_arg4, Proc.devRef .tc main_v7_6} : Finset (DevRef τ sig)) ⊆ _; decide
    · show ({Proc.devRef .tc main_arg5, Proc.devRef .tc main_v7_7} : Finset (DevRef τ sig)) ⊆ _; decide
  ops_fresh := by
    intro op h
    simp only [List.mem_cons, List.mem_nil_iff, _root_.or_false] at h
    rcases h with rfl | rfl | rfl | rfl | rfl | rfl <;> rfl
  V₀ c b := m ((c : Thread nD τ).1, b)
  keep _ := BI.emp

theorem start_body : (pair m).StartBody :=
  (pair m).start_of (fun t => st0_0 t) k0_pay1 (off := ![0, 0]) (by decide) (fun c t => ((pair m).dat0 c).before (0 : Fin 1) t) (fun _ _ => bigSep_W0 _) (fun _ _ => bigSep_W0 _)
    sop (fun c i => ⟨sigDev c i, sigDev_eq c i, rfl⟩) (top F) (fun c t => ⟨copyDev c t, copyDev_eq c t, _, _, _, _, rfl⟩) (lop F) (fun _ b => b.elim0)
    (fun c t Q => congrArg (fun p => wp frame (wpE defs₀ 𝒱₀ (c : Thread nD τ) none) Set.univ p fun _ => Q) (start_eq m t))

theorem wait_body : (pair m).WaitBody :=
  (pair m).wait_of (sentOp F) (gotOp F) (lop F) (fun _ _ _ => rfl) (fun _ _ _ => rfl) (fun _ b => b.elim0)
    (fun c t Q => congrArg (fun p => wp frame (wpE defs₀ 𝒱₀ (c : Thread nD τ) none) Set.univ p fun _ => Q) (wait_eq m t))

/-! ## The buffers -/

local notation "𝕄" => MT nD τ sig Unit (Elt F) ℕ (UU nD τ sig (Pay (Fin 6) (Fin 1) (Fin 0))) ℕ

abbrev moves : (pair m).Moves m where
  arg := argR
  src := srcR
  tok := tokR
  names_inj := names_inj
  names_all := names_all
  touched_inj := touched_inj
  bufs_eq := rfl
  keep_eq := rfl
  V₀_eq := rfl
  srcX := srcX m
  landX := landX m
  after_arg c a := match a with
    | 0 => by show StableHlo.after hostOps0_6 _ _ = _; after_results
    | 1 => by show StableHlo.after hostOps0_6 _ _ = _; after_results
    | 2 => by show StableHlo.after hostOps0_6 _ _ = _; after_results
    | 3 => by show StableHlo.after hostOps0_6 _ _ = _; after_results
    | 4 => by show StableHlo.after hostOps0_6 _ _ = _; after_results
    | 5 => by show StableHlo.after hostOps0_6 _ _ = _; after_results
  after_src c a := match a with
    | 0 => by show StableHlo.after hostOps0_6 _ _ = _; after_results; rfl
    | 1 => by show StableHlo.after hostOps0_6 _ _ = _; after_results; rfl
    | 2 => by show StableHlo.after hostOps0_6 _ _ = _; after_results; rfl
    | 3 => by show StableHlo.after hostOps0_6 _ _ = _; after_results; rfl
    | 4 => by show StableHlo.after hostOps0_6 _ _ = _; after_results; rfl
    | 5 => by show StableHlo.after hostOps0_6 _ _ = _; after_results; rfl
  arrays_eq c := (bigSep_W0 _).trans ((congrArg (fun S => ((c : Thread nD τ).loc main_v7_14 ↦[S]{fullShare} m ((c : Thread nD τ).loc main_v7_14) : sProp 𝕄)) (arr_whole0 0).set_eq_univ).trans
    (bigSep_W0 fun w => ((c : Thread nD τ).loc (tokR w) ↦{fullShare} m ((c : Thread nD τ).loc (tokR w)) : sProp 𝕄)).symm)
  split := (one m).sources
  room := (one m).rooms
  join := (one m).joined

theorem idle (w g) : ((pair m).cfgs 0).idle w g = false := match w with
  | ⟨0, _⟩ => rfl

/-- THE RUN, over any float values: every device's results are the arrays of the other core, its arguments are as they were. -/
theorem run_main [∀ e, Nonempty (Elt F e)] (ρ : Dev nD → PrngReg) :
    θ_run (defs (F := F)) (onTc (τ := τ) (main (F := F))) ⟨m, fun _ => 0, ρ⟩
      (fun r => (∀ c : Dev nD, (∀ a, r.2.mem ((landM a).view.loc (c : Thread nD τ)) = landX m c a)
          ∧ ∀ a, r.2.mem ((c : Thread nD τ).loc (argR a)) = m ((c : Thread nD τ).loc (argR a)))
        ∧ r.2.sem = fun _ => 0) :=
  (moves m).run_main (idle m) (start_body m) (wait_body m) ρ main
    (fun c => (main_chain c).trans (Eq.trans (by rfl) (Pipeline.Seg.run_eq_chain _).symm))

end Cert.SiblingMixProof

end
-- ==== Proof.ScatterMix.lean ====
/-
  The reduce-scatter's exchange of the mixing stage, `Cert.ScatterMixIdeal`: a start kernel and a wait kernel over six arrays
  of three shapes. Each array has one slot per chip; a device sends each slot to the chip it belongs to (to its own core), and
  keeps its own. Here: the exchange's plan, its two kernels' bodies as runs through that plan, and the program's run.
-/
module

public import proofs.«01_k».proof.Proof.SiblingMix
public import proofs.«01_k».proof.Proof.Gen.ScatterMixIdeal
public import proofs.«01_k».proof.Proof.Gen.ScatterMixIdeal.Skeleton
public import proofs.«01_k».proof.Proof.Gen.ScatterMixIdeal.Launch
public import proofs.«01_k».proof.Proof.Gen.ScatterMixIdeal.Points
public import Idealize.ShloMosaic.Lib.Pipeline.Regions
public import Idealize.ShloMosaic.Lib.Pipeline.Kit
public import Idealize.ShloMosaic.Lib.Tactic

@[expose] public section

noncomputable section

namespace Cert.ScatterMixProof

open Cert.ScatterMixIdeal Cert.ScatterMixIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The plan -/

/-- The arrays' rows and columns. -/
abbrev rows : Fin 6 → ℕ := fun
  | 0 => 1600 | 1 => 256 | 2 => 256 | 3 => 256 | 4 => 256 | 5 => 256
abbrev cols : Fin 6 → ℕ := fun
  | 0 => 1024 | 1 => 512 | 2 => 1024 | 3 => 1024 | 4 => 512 | 5 => 1024

/-- The source buffers and the landing buffers. -/
abbrev srcM : (a : Fin 6) → Memref sig .tc .hbm (Sh4 (rows a) (cols a)) .bf16 := fun
  | 0 => Memref.whole main_v7_3 | 1 => Memref.whole main_v7_4 | 2 => Memref.whole main_v7_5 | 3 => Memref.whole main_v7_6 | 4 => Memref.whole main_v7_7 | 5 => Memref.whole main_v7_8
abbrev landM : (a : Fin 6) → Memref sig .tc .hbm (Sh4 (rows a) (cols a)) .bf16 := fun
  | 0 => Memref.whole main_v1 | 1 => Memref.whole main_v2 | 2 => Memref.whole main_v3 | 3 => Memref.whole main_v4 | 4 => Memref.whole main_v5 | 5 => Memref.whole main_v6

/-- The slots' places, as the start kernel computes them: a device's own, and a neighbour's. -/
abbrev ownOff : Fin 6 → Dev 8 → Fin 3 → ℕ := fun
  | 0 => k0_off1 | 1 => k0_off3 | 2 => k0_off5 | 3 => k0_off5 | 4 => k0_off3 | 5 => k0_off5
abbrev peerOff : Fin 6 → Fin 3 → Dev 8 → Fin 3 → ℕ := fun
  | 0 => fun i c => k0_off2 c (k0_off2_at i).1 (k0_off2_at i).2
  | 1 => fun i c => k0_off4 c (k0_off4_at i).1 (k0_off4_at i).2
  | 2 => fun i c => k0_off6 c (k0_off6_at i).1 (k0_off6_at i).2
  | 3 => fun i c => k0_off6 c (k0_off6_at i).1 (k0_off6_at i).2
  | 4 => fun i c => k0_off4 c (k0_off4_at i).1 (k0_off4_at i).2
  | 5 => fun i c => k0_off6 c (k0_off6_at i).1 (k0_off6_at i).2

theorem off_own : ∀ (a : Fin 6) (c : Dev 8), ownOff a c = ![(chip c).val, 0, 0] := by decide +kernel
theorem off_peer : ∀ (a : Fin 6) (i : Fin 3) (c : Dev 8), peerOff a i c = ![(chip (flipBy (bits3 i) c)).val, 0, 0] := by decide +kernel

theorem own_inb : ∀ (a : Fin 6) (c : Dev 8) (x : Fin 3), ownOff a c x + (Sh1 (rows a) (cols a)).size x ≤ (Sh4 (rows a) (cols a)).size x := fun
  | 0 => k0_off1_inb | 1 => k0_off3_inb | 2 => k0_off5_inb | 3 => k0_off5_inb | 4 => k0_off3_inb | 5 => k0_off5_inb
theorem peer_inb : ∀ (a : Fin 6) (i : Fin 3) (c : Dev 8) (x : Fin 3), peerOff a i c x + (Sh1 (rows a) (cols a)).size x ≤ (Sh4 (rows a) (cols a)).size x := fun
  | 0 => fun i c => k0_off2_inb c i | 1 => fun i c => k0_off4_inb c i | 2 => fun i c => k0_off6_inb c i | 3 => fun i c => k0_off6_inb c i | 4 => fun i c => k0_off4_inb c i | 5 => fun i c => k0_off6_inb c i

/-- The slots, as parts of an array. -/
abbrev ownRect (a : Fin 6) (c : Dev 8) : Rect (Sh4 (rows a) (cols a)) := Rect.unit (s := Sh4 (rows a) (cols a)) (ownOff a c) (Sh1 (rows a) (cols a)).size (own_inb a c)
abbrev peerRect (a : Fin 6) (i : Fin 3) (c : Dev 8) : Rect (Sh4 (rows a) (cols a)) := Rect.unit (s := Sh4 (rows a) (cols a)) (peerOff a i c) (Sh1 (rows a) (cols a)).size (peer_inb a i c)

theorem own_words : ∀ (a : Fin 6) (c : Dev 8), (ownRect a c).WholeWords (EltTy.packing .bf16) := fun
  | 0 => k0_off1_wordsbf16 | 1 => k0_off3_wordsbf16 | 2 => k0_off5_wordsbf16 | 3 => k0_off5_wordsbf16 | 4 => k0_off3_wordsbf16 | 5 => k0_off5_wordsbf16
theorem peer_words : ∀ (a : Fin 6) (i : Fin 3) (c : Dev 8), (peerRect a i c).WholeWords (EltTy.packing .bf16) := fun
  | 0 => fun i c => k0_off2_wordsbf16 c i | 1 => fun i c => k0_off4_wordsbf16 c i | 2 => fun i c => k0_off6_wordsbf16 c i | 3 => fun i c => k0_off6_wordsbf16 c i | 4 => fun i c => k0_off4_wordsbf16 c i | 5 => fun i c => k0_off6_wordsbf16 c i

theorem sqz : ∀ a : Fin 6, (Sh1 (rows a) (cols a)).Squeezes (Sh2 (rows a) (cols a)) := fun
  | 0 => squeezes_S1x1600x1024_S1600x1024 | 1 => squeezes_S1x256x512_S256x512 | 2 => squeezes_S1x256x1024_S256x1024 | 3 => squeezes_S1x256x1024_S256x1024 | 4 => squeezes_S1x256x512_S256x512 | 5 => squeezes_S1x256x1024_S256x1024

variable (m : (ℓ : Loc nD τ sig) → Buf (Elt F) ℓ)

/-- What a device's argument `a` holds. -/
def X : (a : Fin 6) → Dev 8 → (Sh4 (rows a) (cols a)).Idx → Elt F .bf16 := fun
  | 0 => fun c => m ((c : Thread nD τ).loc main_arg0)
  | 1 => fun c => m ((c : Thread nD τ).loc main_arg1)
  | 2 => fun c => m ((c : Thread nD τ).loc main_arg2)
  | 3 => fun c => m ((c : Thread nD τ).loc main_arg3)
  | 4 => fun c => m ((c : Thread nD τ).loc main_arg4)
  | 5 => fun c => m ((c : Thread nD τ).loc main_arg5)

/-- What the source buffers hold, and what the landing buffers hold at the end. -/
def srcX (c : Dev 8) : (a : Fin 6) → Buf (Elt F) ((srcM a).view.loc (c : Thread nD τ)) := fun
  | 0 => X m 0 c | 1 => X m 1 c | 2 => X m 2 c | 3 => X m 3 c | 4 => X m 4 c | 5 => X m 5 c
def landX (c : Dev 8) : (a : Fin 6) → Buf (Elt F) ((landM a).view.loc (c : Thread nD τ)) := fun
  | 0 => scattered (X m 0) c | 1 => scattered (X m 1) c | 2 => scattered (X m 2) c | 3 => scattered (X m 3) c | 4 => scattered (X m 4) c | 5 => scattered (X m 5) c

def sendS (t : Fin 6 × Fin 3) : DmaSem sig := ⟨3 * t.1.val + t.2.val, by revert t; decide⟩
def recvS (t : Fin 6 × Fin 3) : DmaSem sig := ⟨18 + (3 * t.1.val + t.2.val), by revert t; decide⟩
def locS (a : Fin 6) : DmaSem sig := ⟨36 + a.val, by revert a; decide⟩

def four : Four τ sig (Elt F) (Fin 6) where
  R := rows
  C := cols
  el _ := .bf16
  lM := landM
  off := ownOff
  hoff := off_own
  inb := own_inb
  sq := sqz
  src c t := ((srcM t.1).slice (peerRect t.1 t.2 c) fun _ => rfl).squeeze _ (sqz t.1)
  lsrc c a := ((srcM a).slice (ownRect a c) fun _ => rfl).squeeze _ (sqz a)
  q _ := fullShare
  ql _ := fullShare
  fs c t := srcX m c t.1
  fl c a := srcX m c a
  out p a := landX m p a
  hmove c t j := match t with
    | (0, i) => slot_scattered (X m 0) c _ (onChip_chip i c) (off_own 0 c) (off_peer 0 i c) _
    | (1, i) => slot_scattered (X m 1) c _ (onChip_chip i c) (off_own 1 c) (off_peer 1 i c) _
    | (2, i) => slot_scattered (X m 2) c _ (onChip_chip i c) (off_own 2 c) (off_peer 2 i c) _
    | (3, i) => slot_scattered (X m 3) c _ (onChip_chip i c) (off_own 3 c) (off_peer 3 i c) _
    | (4, i) => slot_scattered (X m 4) c _ (onChip_chip i c) (off_own 4 c) (off_peer 4 i c) _
    | (5, i) => slot_scattered (X m 5) c _ (onChip_chip i c) (off_own 5 c) (off_peer 5 i c) _
  hlmove c a j := match a with
    | 0 => slot_scattered (X m 0) c _ (onChip_self c) (off_own 0 c) (off_own 0 c) _
    | 1 => slot_scattered (X m 1) c _ (onChip_self c) (off_own 1 c) (off_own 1 c) _
    | 2 => slot_scattered (X m 2) c _ (onChip_self c) (off_own 2 c) (off_own 2 c) _
    | 3 => slot_scattered (X m 3) c _ (onChip_self c) (off_own 3 c) (off_own 3 c) _
    | 4 => slot_scattered (X m 4) c _ (onChip_self c) (off_own 4 c) (off_own 4 c) _
    | 5 => slot_scattered (X m 5) c _ (onChip_self c) (off_own 5 c) (off_own 5 c) _
  amt a := (((landM a).slice (ownRect a 0) fun _ => rfl).squeeze _ (sqz a)).view.dmaCredit
  amt_pos a := match a with
    | 0 => View.dmaCredit_pos _ (by decide) | 1 => View.dmaCredit_pos _ (by decide) | 2 => View.dmaCredit_pos _ (by decide) | 3 => View.dmaCredit_pos _ (by decide) | 4 => View.dmaCredit_pos _ (by decide) | 5 => View.dmaCredit_pos _ (by decide)
  hamt a c := rfl
  bar := barrier0
  send := sendS
  recv := recvS
  loc := locS
  send_inj := by decide
  recv_inj := by decide
  loc_inj := by decide
  send_recv := by decide
  send_loc := by decide
  recv_loc := by decide
  arrs := [0, 1, 2, 3, 4, 5]
  arrs_nodup := by decide
  arrs_all := by decide

abbrev exch : Exch nD τ sig (Elt F) (Fin 6) (Fin 3) (Fin 6) := (four m).toExch

/-! ## The bodies -/

theorem src_whole : ∀ a, (srcM a).IsWhole := fun
  | 0 => Memref.isWhole_whole _ | 1 => Memref.isWhole_whole _ | 2 => Memref.isWhole_whole _ | 3 => Memref.isWhole_whole _ | 4 => Memref.isWhole_whole _ | 5 => Memref.isWhole_whole _
theorem land_whole : ∀ a, (landM a).IsWhole := fun
  | 0 => Memref.isWhole_whole _ | 1 => Memref.isWhole_whole _ | 2 => Memref.isWhole_whole _ | 3 => Memref.isWhole_whole _ | 4 => Memref.isWhole_whole _ | 5 => Memref.isWhole_whole _

/-- The device a signal goes to, and the device a copy goes to, as the start kernel computes them. -/
def sigDev (d : Dev nD) : Fin 3 → Dev nD := fun
  | 0 => ⟨k0_dev1 d, k0_dev1_lt d⟩ | 1 => ⟨k0_dev2 d, k0_dev2_lt d⟩ | 2 => ⟨k0_dev3 d, k0_dev3_lt d⟩
def copyDev (d : Dev nD) : Fin 6 × Fin 3 → Dev nD := fun
  | (0, 0) => ⟨k0_dev4 d, k0_dev4_lt d⟩ | (0, 1) => ⟨k0_dev5 d, k0_dev5_lt d⟩ | (0, 2) => ⟨k0_dev6 d, k0_dev6_lt d⟩
  | (1, 0) => ⟨k0_dev7 d, k0_dev7_lt d⟩ | (1, 1) => ⟨k0_dev8 d, k0_dev8_lt d⟩ | (1, 2) => ⟨k0_dev9 d, k0_dev9_lt d⟩
  | (2, 0) => ⟨k0_dev10 d, k0_dev10_lt d⟩ | (2, 1) => ⟨k0_dev11 d, k0_dev11_lt d⟩ | (2, 2) => ⟨k0_dev12 d, k0_dev12_lt d⟩
  | (3, 0) => ⟨k0_dev13 d, k0_dev13_lt d⟩ | (3, 1) => ⟨k0_dev14 d, k0_dev14_lt d⟩ | (3, 2) => ⟨k0_dev15 d, k0_dev15_lt d⟩
  | (4, 0) => ⟨k0_dev16 d, k0_dev16_lt d⟩ | (4, 1) => ⟨k0_dev17 d, k0_dev17_lt d⟩ | (4, 2) => ⟨k0_dev18 d, k0_dev18_lt d⟩
  | (5, 0) => ⟨k0_dev19 d, k0_dev19_lt d⟩ | (5, 1) => ⟨k0_dev20 d, k0_dev20_lt d⟩ | (5, 2) => ⟨k0_dev21 d, k0_dev21_lt d⟩

theorem sigDev_eq : ∀ (d : Dev nD) (i : Fin 3), sigDev d i = flipBy (bits3 i) d := by decide +kernel
theorem copyDev_eq : ∀ (d : Dev nD) (t : Fin 6 × Fin 3), copyDev d t = flipBy (bits3 t.2) d := by decide +kernel

variable (F) in
abbrev Op := TpuEff nD τ sig (Elt F) Λ₀ .tc PUnit

def sop (d : Dev nD) (i : Fin 3) : Op F := .semSignal (Dev.tc (sigDev d i)) barrier0 ((1 : ℕ) : ℤ)

def top (d : Dev nD) (t : Fin 6 × Fin 3) : Op F :=
  .enqueueDma (((four (F := F) m).toExch).src d t) (.remote (Dev.tc (copyDev d t)) ((four (F := F) m).toExch.dst d t) (.dma (sendS t))) (.dma (recvS t))
    (((src_whole t.1).wordExact_slice rfl _ (peer_words t.1 t.2 d)).reshape _ _)
    (((land_whole t.1).wordExact_slice rfl _ (own_words t.1 d)).reshape _ _)
    ⟨⟨rfl, Or.inl rfl⟩, trivial⟩

def lop (d : Dev nD) (a : Fin 6) : Op F :=
  .enqueueDma (((four (F := F) m).toExch).lsrc d a) (.here ((four (F := F) m).toExch.ldst d a)) (.dma (locS a))
    (((src_whole a).wordExact_slice rfl _ (own_words a d)).reshape _ _)
    (((land_whole a).wordExact_slice rfl _ (own_words a d)).reshape _ _)
    ⟨Or.inl rfl, trivial⟩

/-- The end of the start kernel: a token is written, for the result that says the copies are under way. -/
abbrev stamp (M : Memref sig .tc .vmem S8x128 .f32) : Prog (TpuEff nD τ sig (Elt F) Λ₀ .tc) PUnit :=
  .op (.load M (Rect.unit (s := S8x128) ![0, 0] S8x128.size inb_S8x128_S8x128_0_0).toLoadRect (View.loadsAt_vmem h_S8x128)) fun _ =>
  .op (.store M (Rect.unit (s := S8x128) ![0, 0] S8x128.size inb_S8x128_S8x128_0_0) k0_pay1 Finset.univ (View.stores_vmem_bits_univ h_S8x128 rfl) (.inl rfl)) fun _ => .ret ⟨⟩

set_option maxRecDepth 65536 in
theorem start_eq (t : Fin cfg0.N) :
    (bodyAt0 t : Prog (TpuEff nD τ sig (Elt F) Λ₀ .tc) PUnit)
      = .op .deviceId fun d => Exch.run (exch m).is (sop d) (.op (.semWait barrier0 (Fintype.card (Fin 3))) fun _ =>
          Exch.run (exch m).ts (top m d) (Exch.run (exch m).bs (lop m d) (stamp (st0_0 t)))) := by
  chain_rfl

/-- The wait kernel's waits name the two slots of the array again, at the device's own chip or at a neighbour's. -/
abbrev waitOwn : Fin 6 → Dev 8 → Fin 3 → ℕ := fun
  | 0 => k1_off2 | 1 => k1_off4 | 2 => k1_off6 | 3 => k1_off6 | 4 => k1_off4 | 5 => k1_off6
abbrev waitPeer : Fin 6 → Fin 3 → Dev 8 → Fin 3 → ℕ := fun
  | 0 => fun i c => k1_off1 c (k1_off1_at i).1 (k1_off1_at i).2
  | 1 => fun i c => k1_off3 c (k1_off3_at i).1 (k1_off3_at i).2
  | 2 => fun i c => k1_off5 c (k1_off5_at i).1 (k1_off5_at i).2
  | 3 => fun i c => k1_off5 c (k1_off5_at i).1 (k1_off5_at i).2
  | 4 => fun i c => k1_off3 c (k1_off3_at i).1 (k1_off3_at i).2
  | 5 => fun i c => k1_off5 c (k1_off5_at i).1 (k1_off5_at i).2

theorem waitOwn_inb : ∀ (a : Fin 6) (c : Dev 8) (x : Fin 3), waitOwn a c x + (Sh1 (rows a) (cols a)).size x ≤ (Sh4 (rows a) (cols a)).size x := fun
  | 0 => k1_off2_inb | 1 => k1_off4_inb | 2 => k1_off6_inb | 3 => k1_off6_inb | 4 => k1_off4_inb | 5 => k1_off6_inb
theorem waitPeer_inb : ∀ (a : Fin 6) (i : Fin 3) (c : Dev 8) (x : Fin 3), waitPeer a i c x + (Sh1 (rows a) (cols a)).size x ≤ (Sh4 (rows a) (cols a)).size x := fun
  | 0 => fun i c => k1_off1_inb c i | 1 => fun i c => k1_off3_inb c i | 2 => fun i c => k1_off5_inb c i | 3 => fun i c => k1_off5_inb c i | 4 => fun i c => k1_off3_inb c i | 5 => fun i c => k1_off5_inb c i
abbrev waitOwnRect (a : Fin 6) (c : Dev 8) : Rect (Sh4 (rows a) (cols a)) := Rect.unit (s := Sh4 (rows a) (cols a)) (waitOwn a c) (Sh1 (rows a) (cols a)).size (waitOwn_inb a c)
abbrev waitPeerRect (a : Fin 6) (i : Fin 3) (c : Dev 8) : Rect (Sh4 (rows a) (cols a)) := Rect.unit (s := Sh4 (rows a) (cols a)) (waitPeer a i c) (Sh1 (rows a) (cols a)).size (waitPeer_inb a i c)
theorem waitOwn_words : ∀ (a : Fin 6) (c : Dev 8), (waitOwnRect a c).WholeWords (EltTy.packing .bf16) := fun
  | 0 => k1_off2_wordsbf16 | 1 => k1_off4_wordsbf16 | 2 => k1_off6_wordsbf16 | 3 => k1_off6_wordsbf16 | 4 => k1_off4_wordsbf16 | 5 => k1_off6_wordsbf16
theorem waitPeer_words : ∀ (a : Fin 6) (i : Fin 3) (c : Dev 8), (waitPeerRect a i c).WholeWords (EltTy.packing .bf16) := fun
  | 0 => fun i c => k1_off1_wordsbf16 c i | 1 => fun i c => k1_off3_wordsbf16 c i | 2 => fun i c => k1_off5_wordsbf16 c i | 3 => fun i c => k1_off5_wordsbf16 c i | 4 => fun i c => k1_off3_wordsbf16 c i | 5 => fun i c => k1_off5_wordsbf16 c i

abbrev ownSlot (a : Fin 6) (M : Memref sig .tc .hbm (Sh4 (rows a) (cols a)) .bf16) (d : Dev nD) : Memref sig .tc .hbm (Sh2 (rows a) (cols a)) .bf16 :=
  (M.slice (waitOwnRect a d) fun _ => rfl).squeeze _ (sqz a)
abbrev peerSlot (a : Fin 6) (M : Memref sig .tc .hbm (Sh4 (rows a) (cols a)) .bf16) (d : Dev nD) (i : Fin 3) : Memref sig .tc .hbm (Sh2 (rows a) (cols a)) .bf16 :=
  (M.slice (waitPeerRect a i d) fun _ => rfl).squeeze _ (sqz a)

variable (F) in
def sentOp (d : Dev nD) (t : Fin 6 × Fin 3) : Op F :=
  .waitDma2 (sendS t) (ownSlot t.1 (landM t.1) d) (peerSlot t.1 (srcM t.1) d t.2)
    (((land_whole t.1).wordExact_slice rfl _ (waitOwn_words t.1 d)).reshape _ _)
    (((src_whole t.1).wordExact_slice rfl _ (waitPeer_words t.1 t.2 d)).reshape _ _)
variable (F) in
def gotOp (d : Dev nD) (t : Fin 6 × Fin 3) : Op F :=
  .waitDma2 (recvS t) (ownSlot t.1 (srcM t.1) d) (peerSlot t.1 (landM t.1) d t.2)
    (((src_whole t.1).wordExact_slice rfl _ (waitOwn_words t.1 d)).reshape _ _)
    (((land_whole t.1).wordExact_slice rfl _ (waitPeer_words t.1 t.2 d)).reshape _ _)
variable (F) in
def ownOp (d : Dev nD) (a : Fin 6) : Op F :=
  .waitDma2 (locS a) (ownSlot a (srcM a) d) (ownSlot a (landM a) d)
    (((src_whole a).wordExact_slice rfl _ (waitOwn_words a d)).reshape _ _)
    (((land_whole a).wordExact_slice rfl _ (waitOwn_words a d)).reshape _ _)

set_option maxRecDepth 65536 in
theorem wait_eq (t : Fin cfg1.N) :
    (bodyAt1 t : Prog (TpuEff nD τ sig (Elt F) Λ₀ .tc) PUnit)
      = .op .deviceId fun d => (exch m).ts.foldr (fun t r => .op (sentOp F d t) fun _ => .op (gotOp F d t) fun _ => r) (Exch.run (exch m).bs (ownOp F d) (.ret ⟨⟩)) := by
  chain_rfl

/-! ## The program -/

abbrev argR : Fin 6 → Ref sig .tc := fun
  | 0 => main_arg0 | 1 => main_arg1 | 2 => main_arg2 | 3 => main_arg3 | 4 => main_arg4 | 5 => main_arg5

theorem stage_apart : ∀ k : Key (Fin 6) (Fin 3) (Fin 6), SemLoc.dma cc0_sem0_0 ≠ semOf barrier0 sendS recvS locS k := by decide
theorem cells_all : ∀ sm : SemLoc sig, sm.isScoped .tc = false → ∃ k : Key (Fin 6) (Fin 3) (Fin 6), sm = semOf barrier0 sendS recvS locS k := by decide
theorem cells_unscoped : ∀ k : Key (Fin 6) (Fin 3) (Fin 6), ¬ (semOf barrier0 sendS recvS locS k).isScoped .tc := by decide

abbrev srcR : Fin 6 → Ref sig .tc := fun a => (srcM a).view.ref
abbrev landR : Fin 6 → Ref sig .tc := fun a => (landM a).view.ref
abbrev tokR : Fin 1 → Ref sig .tc := fun _ => main_v7_15

theorem names_inj : Function.Injective (names argR srcR landR tokR) := by decide
theorem names_all : (Finset.univ.filter fun b : Ref sig .tc => ¬ b.isScoped) = Finset.univ.map ⟨_, names_inj⟩ := by decide
theorem touched_inj : Function.Injective fun j => (Proc.devRef .tc (Sum.elim argR srcR j) : DevRef τ sig) := by decide

abbrev pair : Pair nD τ sig (Elt F) Λ₀ (Fin 6) (Fin 3) (Fin 6) where
  E := exch m
  cfgs := cfgs
  defs₀ := defs₀
  N0 := N_0
  N1 := N_1
  W1 := rfl
  inj := cellOf_inj
  win0 := winFacts0
  win1 := winFacts1
  block0 := block_pos0
  stage0 := stage_whole0
  A₀ c w := match w with
    | ⟨0, _⟩ => m ((c : Thread nD τ).loc main_v7_15)
  after₀ w _ := match w with
    | ⟨0, _⟩ => k0_pay1
  apart w s k h := match w with
    | ⟨0, _⟩ => (stage_apart k) h
  cells := cells_all
  unscoped := cells_unscoped
  land := landR
  land_ok := by decide
  lands := [0, 1, 2, 3, 4, 5]
  bufs := touched argR srcR touched_inj
  ops := hostOps0_6
  ops_sub := by
    intro op h
    simp only [List.mem_cons, List.mem_nil_iff, _root_.or_false] at h
    rcases h with rfl | rfl | rfl | rfl | rfl | rfl
    · show ({Proc.devRef .tc main_arg0, Proc.devRef .tc main_v7_3} : Finset (DevRef τ sig)) ⊆ _; decide
    · show ({Proc.devRef .tc main_arg1, Proc.devRef .tc main_v7_4} : Finset (DevRef τ sig)) ⊆ _; decide
    · show ({Proc.devRef .tc main_arg2, Proc.devRef .tc main_v7_5} : Finset (DevRef τ sig)) ⊆ _; decide
    · show ({Proc.devRef .tc main_arg3, Proc.devRef .tc main_v7_6} : Finset (DevRef τ sig)) ⊆ _; decide
    · show ({Proc.devRef .tc main_arg4, Proc.devRef .tc main_v7_7} : Finset (DevRef τ sig)) ⊆ _; decide
    · show ({Proc.devRef .tc main_arg5, Proc.devRef .tc main_v7_8} : Finset (DevRef τ sig)) ⊆ _; decide
  ops_fresh := by
    intro op h
    simp only [List.mem_cons, List.mem_nil_iff, _root_.or_false] at h
    rcases h with rfl | rfl | rfl | rfl | rfl | rfl <;> rfl
  V₀ c b := m ((c : Thread nD τ).1, b)
  keep _ := BI.emp

theorem start_body : (pair m).StartBody :=
  (pair m).start_of (fun t => st0_0 t) k0_pay1 (off := ![0, 0]) (by decide) (fun c t => ((pair m).dat0 c).before (0 : Fin 1) t) (fun _ _ => bigSep_W0 _) (fun _ _ => bigSep_W0 _)
    sop (fun c i => ⟨sigDev c i, sigDev_eq c i, rfl⟩) (top m) (fun c t => ⟨copyDev c t, copyDev_eq c t, _, _, _, _, rfl⟩) (lop m) (fun _ _ => ⟨_, _, _, rfl⟩)
    (fun c t Q => congrArg (fun p => wp frame (wpE defs₀ 𝒱₀ (c : Thread nD τ) none) Set.univ p fun _ => Q) (start_eq m t))

theorem wait_body : (pair m).WaitBody :=
  (pair m).wait_of (sentOp F) (gotOp F) (ownOp F) (fun _ _ _ => rfl) (fun _ _ _ => rfl) (fun _ _ _ => rfl)
    (fun c t Q => congrArg (fun p => wp frame (wpE defs₀ 𝒱₀ (c : Thread nD τ) none) Set.univ p fun _ => Q) (wait_eq m t))

/-! ## The buffers -/

local notation "𝕄" => MT nD τ sig Unit (Elt F) ℕ (UU nD τ sig (Pay (Fin 6) (Fin 3) (Fin 6))) ℕ

/-- A source buffer falls into the slots sent to the neighbours and the slot that stays. -/
theorem src_split (c : Dev nD) (a : Fin 6) : ((c : Thread nD τ).loc (srcR a) ↦{fullShare} srcX m c a : sProp 𝕄)
    = iprop((bigSep Finset.univ fun i => (exch m).source c (a, i)) ∗ (exch m).lsource c a) :=
  (congrArg (fun S => ((c : Thread nD τ).loc (srcR a) ↦[S]{fullShare} srcX m c a : sProp 𝕄)) (src_whole a).set_eq_univ.symm).trans
    (slots_split (srcM a) (chips_bijective c) (fun i => off_peer a i c) (off_own a c) c _ _
      (fun i => (View.set_reshape _ _).trans (View.set_slice (srcM a).view _))
      ((View.set_reshape _ _).trans (View.set_slice (srcM a).view _)) fullShare (srcX m c a))

abbrev moves : (pair m).Moves m where
  arg := argR
  src := srcR
  tok := tokR
  names_inj := names_inj
  names_all := names_all
  touched_inj := touched_inj
  bufs_eq := rfl
  keep_eq := rfl
  V₀_eq := rfl
  srcX := srcX m
  landX := landX m
  after_arg c a := match a with
    | 0 => by show StableHlo.after hostOps0_6 _ _ = _; after_results
    | 1 => by show StableHlo.after hostOps0_6 _ _ = _; after_results
    | 2 => by show StableHlo.after hostOps0_6 _ _ = _; after_results
    | 3 => by show StableHlo.after hostOps0_6 _ _ = _; after_results
    | 4 => by show StableHlo.after hostOps0_6 _ _ = _; after_results
    | 5 => by show StableHlo.after hostOps0_6 _ _ = _; after_results
  after_src c a := match a with
    | 0 => by show StableHlo.after hostOps0_6 _ _ = _; after_results; rfl
    | 1 => by show StableHlo.after hostOps0_6 _ _ = _; after_results; rfl
    | 2 => by show StableHlo.after hostOps0_6 _ _ = _; after_results; rfl
    | 3 => by show StableHlo.after hostOps0_6 _ _ = _; after_results; rfl
    | 4 => by show StableHlo.after hostOps0_6 _ _ = _; after_results; rfl
    | 5 => by show StableHlo.after hostOps0_6 _ _ = _; after_results; rfl
  arrays_eq c := (bigSep_W0 _).trans ((congrArg (fun S => ((c : Thread nD τ).loc main_v7_15 ↦[S]{fullShare} m ((c : Thread nD τ).loc main_v7_15) : sProp 𝕄)) (arr_whole0 0).set_eq_univ).trans
    (bigSep_W0 fun w => ((c : Thread nD τ).loc (tokR w) ↦{fullShare} m ((c : Thread nD τ).loc (tokR w)) : sProp 𝕄)).symm)
  split c := Entails.of_eq (by rw [bigSep_congr fun a _ => src_split m c a, bigSep_sep', bigSep_univ_prod])
  room := (four m).rooms_whole land_whole
  join := (four m).joined_whole land_whole

theorem idle (w g) : ((pair m).cfgs 0).idle w g = false := match w with
  | ⟨0, _⟩ => rfl

/-- THE RUN, over any float values: every device's results are the slots its chips sent it, its arguments are as they were. -/
theorem run_main [∀ e, Nonempty (Elt F e)] (ρ : Dev nD → PrngReg) :
    θ_run (defs (F := F)) (onTc (τ := τ) (main (F := F))) ⟨m, fun _ => 0, ρ⟩
      (fun r => (∀ c : Dev nD, (∀ a, r.2.mem ((landM a).view.loc (c : Thread nD τ)) = landX m c a)
          ∧ ∀ a, r.2.mem ((c : Thread nD τ).loc (argR a)) = m ((c : Thread nD τ).loc (argR a)))
        ∧ r.2.sem = fun _ => 0) :=
  (moves m).run_main (idle m) (start_body m) (wait_body m) ρ main
    (fun c => (main_chain c).trans (Eq.trans (by rfl) (Pipeline.Seg.run_eq_chain _).symm))

end Cert.ScatterMixProof

end
-- ==== Proof.ScatterMixValue.lean ====
/-
  The reduce-scatter's exchange of the mixing stage against its reference: the claims about the two.
-/
module

public import proofs.«01_k».proof.Proof.Values
public import proofs.«01_k».proof.Defs
public import proofs.«01_k».proof.Proof.ScatterMix
public import proofs.«01_k».proof.Proof.Gen.ScatterMix
public import proofs.«01_k».proof.Proof.Gen.ScatterMixRef
public import proofs.«01_k».proof.Proof.Gen.ScatterMixRefIdeal.Run

@[expose] public section

noncomputable section

namespace Cert.ScatterMixProof

open Idealize.ShloMosaic Idealize.ShloMosaic.TcCoe Idealize.SL.Sem Cert.Exchange

variable {F : FTy → Type} [FloatOps F]

/-- The shapes of the reference's arguments. -/
abbrev refSh : Fin 6 → Shape := fun
  | 0 => Sh32 1600 1024 | 1 => Sh32 256 512 | 2 => Sh32 256 1024 | 3 => Sh32 256 1024 | 4 => Sh32 256 512 | 5 => Sh32 256 1024

/-- The reference's functions of its arguments. -/
abbrev refOut : (a : Fin 6) → ((refSh a).Idx → Elt F .bf16) → (refSh a).Idx → Elt F .bf16 := fun
  | 0 => exchanged Cert.ScatterMixRefIdeal.Gen.shapeCasts_S32x1600x1024_S4x2x4x1600x1024 Cert.ScatterMixRefIdeal.Gen.transposes_S4x2x4x1600x1024_S4x2x4x1600x1024_2_1_0_3_4 Cert.ScatterMixRefIdeal.Gen.shapeCasts_S4x2x4x1600x1024_S32x1600x1024
  | 1 => exchanged Cert.ScatterMixRefIdeal.Gen.shapeCasts_S32x256x512_S4x2x4x256x512 Cert.ScatterMixRefIdeal.Gen.transposes_S4x2x4x256x512_S4x2x4x256x512_2_1_0_3_4 Cert.ScatterMixRefIdeal.Gen.shapeCasts_S4x2x4x256x512_S32x256x512
  | 2 => exchanged Cert.ScatterMixRefIdeal.Gen.shapeCasts_S32x256x1024_S4x2x4x256x1024 Cert.ScatterMixRefIdeal.Gen.transposes_S4x2x4x256x1024_S4x2x4x256x1024_2_1_0_3_4 Cert.ScatterMixRefIdeal.Gen.shapeCasts_S4x2x4x256x1024_S32x256x1024
  | 3 => exchanged Cert.ScatterMixRefIdeal.Gen.shapeCasts_S32x256x1024_S4x2x4x256x1024 Cert.ScatterMixRefIdeal.Gen.transposes_S4x2x4x256x1024_S4x2x4x256x1024_2_1_0_3_4 Cert.ScatterMixRefIdeal.Gen.shapeCasts_S4x2x4x256x1024_S32x256x1024
  | 4 => exchanged Cert.ScatterMixRefIdeal.Gen.shapeCasts_S32x256x512_S4x2x4x256x512 Cert.ScatterMixRefIdeal.Gen.transposes_S4x2x4x256x512_S4x2x4x256x512_2_1_0_3_4 Cert.ScatterMixRefIdeal.Gen.shapeCasts_S4x2x4x256x512_S32x256x512
  | 5 => exchanged Cert.ScatterMixRefIdeal.Gen.shapeCasts_S32x256x1024_S4x2x4x256x1024 Cert.ScatterMixRefIdeal.Gen.transposes_S4x2x4x256x1024_S4x2x4x256x1024_2_1_0_3_4 Cert.ScatterMixRefIdeal.Gen.shapeCasts_S4x2x4x256x1024_S32x256x1024

open Cert.ScatterMixIdeal Cert.ScatterMixIdeal.Gen

theorem frame [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
      ∧ r.2.sem = fun _ => 0 :=
  (θ_run defs _ _).mono (fun _ h => ⟨fun c => ⟨(h.1 c).2 0, (h.1 c).2 1, (h.1 c).2 2, (h.1 c).2 3, (h.1 c).2 4, (h.1 c).2 5⟩, h.2⟩) (run_main m ρ)

/-- On devices that hold the blocks of the arrays, each ends with its blocks of the reference's arrays. -/
theorem value [∀ e, Nonempty (Elt F e)] (m : (ℓ : Loc nD τ sig) → Buf (Elt F) ℓ) (ρ : Dev nD → PrngReg) (x : (a : Fin 6) → (refSh a).Idx → Elt F .bf16)
    (h : ∀ c : Dev nD, m ((c : Thread nD τ).loc main_arg0) = Layout.block (Sh4 1600 1024) (Sh32 1600 1024) 0 8 c (x 0)
      ∧ m ((c : Thread nD τ).loc main_arg1) = Layout.block (Sh4 256 512) (Sh32 256 512) 0 8 c (x 1)
      ∧ m ((c : Thread nD τ).loc main_arg2) = Layout.block (Sh4 256 1024) (Sh32 256 1024) 0 8 c (x 2)
      ∧ m ((c : Thread nD τ).loc main_arg3) = Layout.block (Sh4 256 1024) (Sh32 256 1024) 0 8 c (x 3)
      ∧ m ((c : Thread nD τ).loc main_arg4) = Layout.block (Sh4 256 512) (Sh32 256 512) 0 8 c (x 4)
      ∧ m ((c : Thread nD τ).loc main_arg5) = Layout.block (Sh4 256 1024) (Sh32 256 1024) 0 8 c (x 5)) :
    θ_run (defs (F := F)) (onTc (τ := τ) (main (F := F))) ⟨m, fun _ => 0, ρ⟩ fun r => ∀ c : Dev nD,
      r.2.mem ((c : Thread nD τ).loc main_v1) = Layout.block (Sh4 1600 1024) (Sh32 1600 1024) 0 8 c (refOut 0 (x 0))
        ∧ r.2.mem ((c : Thread nD τ).loc main_v2) = Layout.block (Sh4 256 512) (Sh32 256 512) 0 8 c (refOut 1 (x 1))
        ∧ r.2.mem ((c : Thread nD τ).loc main_v3) = Layout.block (Sh4 256 1024) (Sh32 256 1024) 0 8 c (refOut 2 (x 2))
        ∧ r.2.mem ((c : Thread nD τ).loc main_v4) = Layout.block (Sh4 256 1024) (Sh32 256 1024) 0 8 c (refOut 3 (x 3))
        ∧ r.2.mem ((c : Thread nD τ).loc main_v5) = Layout.block (Sh4 256 512) (Sh32 256 512) 0 8 c (refOut 4 (x 4))
        ∧ r.2.mem ((c : Thread nD τ).loc main_v6) = Layout.block (Sh4 256 1024) (Sh32 256 1024) 0 8 c (refOut 5 (x 5))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5) :=
  (θ_run defs _ _).mono (fun _ k c => ⟨((k.1 c).1 0).trans (scattered_block _ _ _ (X m 0) (x 0) _ (fun c => (h c).1) c),
    ((k.1 c).1 1).trans (scattered_block _ _ _ (X m 1) (x 1) _ (fun c => (h c).2.1) c),
    ((k.1 c).1 2).trans (scattered_block _ _ _ (X m 2) (x 2) _ (fun c => (h c).2.2.1) c),
    ((k.1 c).1 3).trans (scattered_block _ _ _ (X m 3) (x 3) _ (fun c => (h c).2.2.2.1) c),
    ((k.1 c).1 4).trans (scattered_block _ _ _ (X m 4) (x 4) _ (fun c => (h c).2.2.2.2.1) c),
    ((k.1 c).1 5).trans (scattered_block _ _ _ (X m 5) (x 5) _ (fun c => (h c).2.2.2.2.2) c),
    (k.1 c).2 0, (k.1 c).2 1, (k.1 c).2 2, (k.1 c).2 3, (k.1 c).2 4, (k.1 c).2 5⟩) (run_main m ρ)

/-! ## The claims -/

/-- The two printings are one program. -/
theorem defs_same : Cert.ScatterMix.defs (F := F) = defs (F := F) := by chain_rfl
theorem run_same (s : MemSt nD τ sig (Elt F)) (Q) :
    θ_run (Cert.ScatterMix.defs (F := F)) (onTc (τ := τ) (Cert.ScatterMix.main (F := F))) s Q = θ_run (defs (F := F)) (onTc (τ := τ) (main (F := F))) s Q := by
  rw [defs_same]; rfl

theorem quiescent_kernel : quiescent_ScatterMix := fun m g _ => (run_same _ _).mpr (frame (F := Bits) m g)
theorem quiescent_ideal : quiescent_ScatterMixIdeal := fun m g _ => frame m g
theorem quiescent_ref : quiescent_ScatterMixRef := fun m g _ =>
  (θ_run Cert.ScatterMixRef.defs _ _).mono (fun _ h => ⟨fun c => (h c).2.2.2.2.2.2, funext fun ⟨_, s⟩ => ((show ∀ _ : SemLoc Cert.ScatterMixRef.sig, False by decide) s).elim⟩)
    (Cert.ScatterMixRefIdeal.Value.run (F := Bits) m g)
theorem quiescent_refIdeal : quiescent_ScatterMixRefIdeal := fun m g _ =>
  (θ_run Cert.ScatterMixRefIdeal.defs _ _).mono (fun _ h => ⟨fun c => (h c).2.2.2.2.2.2, funext fun ⟨_, s⟩ => ((show ∀ _ : SemLoc Cert.ScatterMixRefIdeal.sig, False by decide) s).elim⟩)
    (Cert.ScatterMixRefIdeal.Value.run m g)

/-- The reference's arguments, as arrays. -/
abbrev args (m' : (ℓ : Loc Cert.ScatterMixRefIdeal.nD Cert.ScatterMixRefIdeal.τ Cert.ScatterMixRefIdeal.sig) → Buf (Elt F) ℓ) : (a : Fin 6) → (refSh a).Idx → Elt F .bf16 := fun
  | 0 => m' (((0 : Dev Cert.ScatterMixRefIdeal.nD) : Thread Cert.ScatterMixRefIdeal.nD Cert.ScatterMixRefIdeal.τ).loc Cert.ScatterMixRefIdeal.main_arg0)
  | 1 => m' (((0 : Dev Cert.ScatterMixRefIdeal.nD) : Thread Cert.ScatterMixRefIdeal.nD Cert.ScatterMixRefIdeal.τ).loc Cert.ScatterMixRefIdeal.main_arg1)
  | 2 => m' (((0 : Dev Cert.ScatterMixRefIdeal.nD) : Thread Cert.ScatterMixRefIdeal.nD Cert.ScatterMixRefIdeal.τ).loc Cert.ScatterMixRefIdeal.main_arg2)
  | 3 => m' (((0 : Dev Cert.ScatterMixRefIdeal.nD) : Thread Cert.ScatterMixRefIdeal.nD Cert.ScatterMixRefIdeal.τ).loc Cert.ScatterMixRefIdeal.main_arg3)
  | 4 => m' (((0 : Dev Cert.ScatterMixRefIdeal.nD) : Thread Cert.ScatterMixRefIdeal.nD Cert.ScatterMixRefIdeal.τ).loc Cert.ScatterMixRefIdeal.main_arg4)
  | 5 => m' (((0 : Dev Cert.ScatterMixRefIdeal.nD) : Thread Cert.ScatterMixRefIdeal.nD Cert.ScatterMixRefIdeal.τ).loc Cert.ScatterMixRefIdeal.main_arg5)

theorem algebraic : algebraic_ScatterMixIdeal_ScatterMixRefIdeal := fun m g m' g' _ h =>
  ⟨_, _, _, _, _, _, value m g (args m') h, (θ_run Cert.ScatterMixRefIdeal.defs _ _).mono (fun _ h => h 0) (Cert.ScatterMixRefIdeal.Value.run m' g')⟩

theorem bitexact : bitexact_ScatterMix_ScatterMixRef := fun m g m' g' _ h =>
  ⟨_, _, _, _, _, _, (run_same _ _).mpr (value (F := Bits) m g (args m') h),
    (θ_run Cert.ScatterMixRef.defs _ _).mono (fun _ h => h 0) (Cert.ScatterMixRefIdeal.Value.run (F := Bits) m' g')⟩

end Cert.ScatterMixProof

end
-- ==== Proof.SiblingMixValue.lean ====
/-
  The cores' exchange of the mixing stage against its reference: the claims about the two.
-/
module

public import proofs.«01_k».proof.Proof.Values
public import proofs.«01_k».proof.Defs
public import proofs.«01_k».proof.Proof.SiblingMix
public import proofs.«01_k».proof.Proof.Gen.SiblingMix
public import proofs.«01_k».proof.Proof.Gen.SiblingMixRef
public import proofs.«01_k».proof.Proof.Gen.SiblingMixRefIdeal.Run

@[expose] public section

noncomputable section

namespace Cert.SiblingMixProof

open Idealize.ShloMosaic Idealize.ShloMosaic.TcCoe Idealize.SL.Sem Cert.Exchange

variable {F : FTy → Type} [FloatOps F]

/-- The shapes of the reference's arguments. -/
abbrev refSh : Fin 6 → Shape := fun
  | 0 => Sh2 51200 1024 | 1 => Sh2 8192 512 | 2 => Sh2 8192 1024 | 3 => Sh2 8192 1024 | 4 => Sh2 8192 512 | 5 => Sh2 8192 1024

/-- The reference's functions of its arguments. -/
abbrev refOut : (a : Fin 6) → ((refSh a).Idx → Elt F .f32) → (refSh a).Idx → Elt F .f32 := fun
  | 0 => swapped Cert.SiblingMixRefIdeal.Gen.shapeCasts_S51200x1024_S4x2x6400x1024 Cert.SiblingMixRefIdeal.Gen.shapeCasts_S4x2x6400x1024_S51200x1024
  | 1 => swapped Cert.SiblingMixRefIdeal.Gen.shapeCasts_S8192x512_S4x2x1024x512 Cert.SiblingMixRefIdeal.Gen.shapeCasts_S4x2x1024x512_S8192x512
  | 2 => swapped Cert.SiblingMixRefIdeal.Gen.shapeCasts_S8192x1024_S4x2x1024x1024 Cert.SiblingMixRefIdeal.Gen.shapeCasts_S4x2x1024x1024_S8192x1024
  | 3 => swapped Cert.SiblingMixRefIdeal.Gen.shapeCasts_S8192x1024_S4x2x1024x1024 Cert.SiblingMixRefIdeal.Gen.shapeCasts_S4x2x1024x1024_S8192x1024
  | 4 => swapped Cert.SiblingMixRefIdeal.Gen.shapeCasts_S8192x512_S4x2x1024x512 Cert.SiblingMixRefIdeal.Gen.shapeCasts_S4x2x1024x512_S8192x512
  | 5 => swapped Cert.SiblingMixRefIdeal.Gen.shapeCasts_S8192x1024_S4x2x1024x1024 Cert.SiblingMixRefIdeal.Gen.shapeCasts_S4x2x1024x1024_S8192x1024

open Cert.SiblingMixIdeal Cert.SiblingMixIdeal.Gen

theorem frame [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
      ∧ r.2.sem = fun _ => 0 :=
  (θ_run defs _ _).mono (fun _ h => ⟨fun c => ⟨(h.1 c).2 0, (h.1 c).2 1, (h.1 c).2 2, (h.1 c).2 3, (h.1 c).2 4, (h.1 c).2 5⟩, h.2⟩) (run_main m ρ)

/-- On devices that hold the blocks of the arrays, each ends with its blocks of the reference's arrays. -/
theorem value [∀ e, Nonempty (Elt F e)] (m : (ℓ : Loc nD τ sig) → Buf (Elt F) ℓ) (ρ : Dev nD → PrngReg) (x : (a : Fin 6) → (refSh a).Idx → Elt F .f32)
    (h : ∀ c : Dev nD, m ((c : Thread nD τ).loc main_arg0) = Layout.block (Sh2 6400 1024) (Sh2 51200 1024) 0 8 c (x 0)
      ∧ m ((c : Thread nD τ).loc main_arg1) = Layout.block (Sh2 1024 512) (Sh2 8192 512) 0 8 c (x 1)
      ∧ m ((c : Thread nD τ).loc main_arg2) = Layout.block (Sh2 1024 1024) (Sh2 8192 1024) 0 8 c (x 2)
      ∧ m ((c : Thread nD τ).loc main_arg3) = Layout.block (Sh2 1024 1024) (Sh2 8192 1024) 0 8 c (x 3)
      ∧ m ((c : Thread nD τ).loc main_arg4) = Layout.block (Sh2 1024 512) (Sh2 8192 512) 0 8 c (x 4)
      ∧ m ((c : Thread nD τ).loc main_arg5) = Layout.block (Sh2 1024 1024) (Sh2 8192 1024) 0 8 c (x 5)) :
    θ_run (defs (F := F)) (onTc (τ := τ) (main (F := F))) ⟨m, fun _ => 0, ρ⟩ fun r => ∀ c : Dev nD,
      r.2.mem ((c : Thread nD τ).loc main_v1) = Layout.block (Sh2 6400 1024) (Sh2 51200 1024) 0 8 c (refOut 0 (x 0))
        ∧ r.2.mem ((c : Thread nD τ).loc main_v2) = Layout.block (Sh2 1024 512) (Sh2 8192 512) 0 8 c (refOut 1 (x 1))
        ∧ r.2.mem ((c : Thread nD τ).loc main_v3) = Layout.block (Sh2 1024 1024) (Sh2 8192 1024) 0 8 c (refOut 2 (x 2))
        ∧ r.2.mem ((c : Thread nD τ).loc main_v4) = Layout.block (Sh2 1024 1024) (Sh2 8192 1024) 0 8 c (refOut 3 (x 3))
        ∧ r.2.mem ((c : Thread nD τ).loc main_v5) = Layout.block (Sh2 1024 512) (Sh2 8192 512) 0 8 c (refOut 4 (x 4))
        ∧ r.2.mem ((c : Thread nD τ).loc main_v6) = Layout.block (Sh2 1024 1024) (Sh2 8192 1024) 0 8 c (refOut 5 (x 5))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5) :=
  (θ_run defs _ _).mono (fun _ k c => ⟨((k.1 c).1 0).trans (sibling_block _ _ (X m 0) (x 0) _ (fun c => (h c).1) c),
    ((k.1 c).1 1).trans (sibling_block _ _ (X m 1) (x 1) _ (fun c => (h c).2.1) c),
    ((k.1 c).1 2).trans (sibling_block _ _ (X m 2) (x 2) _ (fun c => (h c).2.2.1) c),
    ((k.1 c).1 3).trans (sibling_block _ _ (X m 3) (x 3) _ (fun c => (h c).2.2.2.1) c),
    ((k.1 c).1 4).trans (sibling_block _ _ (X m 4) (x 4) _ (fun c => (h c).2.2.2.2.1) c),
    ((k.1 c).1 5).trans (sibling_block _ _ (X m 5) (x 5) _ (fun c => (h c).2.2.2.2.2) c),
    (k.1 c).2 0, (k.1 c).2 1, (k.1 c).2 2, (k.1 c).2 3, (k.1 c).2 4, (k.1 c).2 5⟩) (run_main m ρ)

/-! ## The claims -/

/-- The two printings are one program. -/
theorem defs_same : Cert.SiblingMix.defs (F := F) = defs (F := F) := by chain_rfl
theorem run_same (s : MemSt nD τ sig (Elt F)) (Q) :
    θ_run (Cert.SiblingMix.defs (F := F)) (onTc (τ := τ) (Cert.SiblingMix.main (F := F))) s Q = θ_run (defs (F := F)) (onTc (τ := τ) (main (F := F))) s Q := by
  rw [defs_same]; rfl

theorem quiescent_kernel : quiescent_SiblingMix := fun m g _ => (run_same _ _).mpr (frame (F := Bits) m g)
theorem quiescent_ideal : quiescent_SiblingMixIdeal := fun m g _ => frame m g
theorem quiescent_ref : quiescent_SiblingMixRef := fun m g _ =>
  (θ_run Cert.SiblingMixRef.defs _ _).mono (fun _ h => ⟨fun c => (h c).2.2.2.2.2.2, funext fun ⟨_, s⟩ => ((show ∀ _ : SemLoc Cert.SiblingMixRef.sig, False by decide) s).elim⟩)
    (Cert.SiblingMixRefIdeal.Value.run (F := Bits) m g)
theorem quiescent_refIdeal : quiescent_SiblingMixRefIdeal := fun m g _ =>
  (θ_run Cert.SiblingMixRefIdeal.defs _ _).mono (fun _ h => ⟨fun c => (h c).2.2.2.2.2.2, funext fun ⟨_, s⟩ => ((show ∀ _ : SemLoc Cert.SiblingMixRefIdeal.sig, False by decide) s).elim⟩)
    (Cert.SiblingMixRefIdeal.Value.run m g)

/-- The reference's arguments, as arrays. -/
abbrev args (m' : (ℓ : Loc Cert.SiblingMixRefIdeal.nD Cert.SiblingMixRefIdeal.τ Cert.SiblingMixRefIdeal.sig) → Buf (Elt F) ℓ) : (a : Fin 6) → (refSh a).Idx → Elt F .f32 := fun
  | 0 => m' (((0 : Dev Cert.SiblingMixRefIdeal.nD) : Thread Cert.SiblingMixRefIdeal.nD Cert.SiblingMixRefIdeal.τ).loc Cert.SiblingMixRefIdeal.main_arg0)
  | 1 => m' (((0 : Dev Cert.SiblingMixRefIdeal.nD) : Thread Cert.SiblingMixRefIdeal.nD Cert.SiblingMixRefIdeal.τ).loc Cert.SiblingMixRefIdeal.main_arg1)
  | 2 => m' (((0 : Dev Cert.SiblingMixRefIdeal.nD) : Thread Cert.SiblingMixRefIdeal.nD Cert.SiblingMixRefIdeal.τ).loc Cert.SiblingMixRefIdeal.main_arg2)
  | 3 => m' (((0 : Dev Cert.SiblingMixRefIdeal.nD) : Thread Cert.SiblingMixRefIdeal.nD Cert.SiblingMixRefIdeal.τ).loc Cert.SiblingMixRefIdeal.main_arg3)
  | 4 => m' (((0 : Dev Cert.SiblingMixRefIdeal.nD) : Thread Cert.SiblingMixRefIdeal.nD Cert.SiblingMixRefIdeal.τ).loc Cert.SiblingMixRefIdeal.main_arg4)
  | 5 => m' (((0 : Dev Cert.SiblingMixRefIdeal.nD) : Thread Cert.SiblingMixRefIdeal.nD Cert.SiblingMixRefIdeal.τ).loc Cert.SiblingMixRefIdeal.main_arg5)

theorem algebraic : algebraic_SiblingMixIdeal_SiblingMixRefIdeal := fun m g m' g' _ h =>
  ⟨_, _, _, _, _, _, value m g (args m') h, (θ_run Cert.SiblingMixRefIdeal.defs _ _).mono (fun _ h => h 0) (Cert.SiblingMixRefIdeal.Value.run m' g')⟩

theorem bitexact : bitexact_SiblingMix_SiblingMixRef := fun m g m' g' _ h =>
  ⟨_, _, _, _, _, _, (run_same _ _).mpr (value (F := Bits) m g (args m') h),
    (θ_run Cert.SiblingMixRef.defs _ _).mono (fun _ h => h 0) (Cert.SiblingMixRefIdeal.Value.run (F := Bits) m' g')⟩

end Cert.SiblingMixProof

end
-- ==== Proof.GatherMix.lean ====
/-
  The gather's exchange of the mixing stage, `Cert.GatherMixIdeal`: a start kernel and a wait kernel over seven arrays of
  four shapes, the last of them `f32`. Each landing buffer has one slot per chip; a device sends all of its array to the other
  chips (of its own core), which keep it in the slot of the sender's chip. Here: the exchange's plan, its two kernels' bodies
  as runs through that plan, and the program's run.
-/
module

public import proofs.«01_k».proof.Proof.ScatterMix
public import proofs.«01_k».proof.Proof.Gen.GatherMixIdeal
public import proofs.«01_k».proof.Proof.Gen.GatherMixIdeal.Skeleton
public import proofs.«01_k».proof.Proof.Gen.GatherMixIdeal.Launch
public import proofs.«01_k».proof.Proof.Gen.GatherMixIdeal.Points

@[expose] public section

noncomputable section

namespace Cert.GatherMixProof

open Cert.GatherMixIdeal Cert.GatherMixIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The plan -/

/-- The arrays' rows and columns, and their elements. -/
abbrev rows : Fin 7 → ℕ := fun
  | 0 => 1600 | 1 => 256 | 2 => 256 | 3 => 256 | 4 => 256 | 5 => 256 | 6 => 4
abbrev cols : Fin 7 → ℕ := fun
  | 0 => 1024 | 1 => 512 | 2 => 1024 | 3 => 1024 | 4 => 512 | 5 => 1024 | 6 => 256
abbrev elt : Fin 7 → EltTy := fun
  | 0 => .bf16 | 1 => .bf16 | 2 => .bf16 | 3 => .bf16 | 4 => .bf16 | 5 => .bf16 | 6 => .f32

/-- The source buffers and the landing buffers. -/
abbrev srcM : (a : Fin 7) → Memref sig .tc .hbm (Sh2 (rows a) (cols a)) (elt a) := fun
  | 0 => Memref.whole main_v8_3 | 1 => Memref.whole main_v8_4 | 2 => Memref.whole main_v8_5 | 3 => Memref.whole main_v8_6 | 4 => Memref.whole main_v8_7 | 5 => Memref.whole main_v8_8 | 6 => Memref.whole main_v8_9
abbrev landM : (a : Fin 7) → Memref sig .tc .hbm (Sh4 (rows a) (cols a)) (elt a) := fun
  | 0 => Memref.whole main_v1 | 1 => Memref.whole main_v2 | 2 => Memref.whole main_v3 | 3 => Memref.whole main_v4 | 4 => Memref.whole main_v5 | 5 => Memref.whole main_v6 | 6 => Memref.whole main_v7

theorem src_whole : ∀ a, (srcM a).IsWhole := fun
  | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _
theorem land_whole : ∀ a, (landM a).IsWhole := fun
  | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _

/-- The slots' places, as the start kernel computes them. -/
abbrev ownOff : Fin 7 → Dev 8 → Fin 3 → ℕ := fun
  | 0 => k0_off1 | 1 => k0_off2 | 2 => k0_off3 | 3 => k0_off3 | 4 => k0_off2 | 5 => k0_off3 | 6 => k0_off4

theorem off_own : ∀ (a : Fin 7) (c : Dev 8), ownOff a c = ![(chip c).val, 0, 0] := by decide +kernel
theorem own_inb : ∀ (a : Fin 7) (c : Dev 8) (x : Fin 3), ownOff a c x + (Sh1 (rows a) (cols a)).size x ≤ (Sh4 (rows a) (cols a)).size x := fun
  | 0 => k0_off1_inb | 1 => k0_off2_inb | 2 => k0_off3_inb | 3 => k0_off3_inb | 4 => k0_off2_inb | 5 => k0_off3_inb | 6 => k0_off4_inb
theorem sqz : ∀ a : Fin 7, (Sh1 (rows a) (cols a)).Squeezes (Sh2 (rows a) (cols a)) := fun
  | 0 => squeezes_S1x1600x1024_S1600x1024 | 1 => squeezes_S1x256x512_S256x512 | 2 => squeezes_S1x256x1024_S256x1024 | 3 => squeezes_S1x256x1024_S256x1024 | 4 => squeezes_S1x256x512_S256x512 | 5 => squeezes_S1x256x1024_S256x1024 | 6 => squeezes_S1x4x256_S4x256

/-- A device's own slot of its landing buffer, as the start kernel names it. -/
abbrev startSlot (a : Fin 7) (d : Dev nD) : Memref sig .tc .hbm (Sh2 (rows a) (cols a)) (elt a) :=
  ((landM a).slice (Rect.unit (s := Sh4 (rows a) (cols a)) (ownOff a d) (Sh1 (rows a) (cols a)).size (own_inb a d)) fun _ => rfl).squeeze _ (sqz a)

theorem start_exact : ∀ (a : Fin 7) (d : Dev nD), (startSlot a d).view.WordExact := fun
  | 0 => fun d => ((land_whole 0).wordExact_slice rfl _ (k0_off1_wordsbf16 d)).reshape _ _
  | 1 => fun d => ((land_whole 1).wordExact_slice rfl _ (k0_off2_wordsbf16 d)).reshape _ _
  | 2 => fun d => ((land_whole 2).wordExact_slice rfl _ (k0_off3_wordsbf16 d)).reshape _ _
  | 3 => fun d => ((land_whole 3).wordExact_slice rfl _ (k0_off3_wordsbf16 d)).reshape _ _
  | 4 => fun d => ((land_whole 4).wordExact_slice rfl _ (k0_off2_wordsbf16 d)).reshape _ _
  | 5 => fun d => ((land_whole 5).wordExact_slice rfl _ (k0_off3_wordsbf16 d)).reshape _ _
  | 6 => fun _ => (View.wordExact_bits rfl).reshape _ _

variable (m : (ℓ : Loc nD τ sig) → Buf (Elt F) ℓ)

/-- What a device's argument `a` holds. -/
def X : (a : Fin 7) → Dev 8 → (Sh2 (rows a) (cols a)).Idx → Elt F (elt a) := fun
  | 0 => fun c => m ((c : Thread nD τ).loc main_arg0)
  | 1 => fun c => m ((c : Thread nD τ).loc main_arg1)
  | 2 => fun c => m ((c : Thread nD τ).loc main_arg2)
  | 3 => fun c => m ((c : Thread nD τ).loc main_arg3)
  | 4 => fun c => m ((c : Thread nD τ).loc main_arg4)
  | 5 => fun c => m ((c : Thread nD τ).loc main_arg5)
  | 6 => fun c => m ((c : Thread nD τ).loc main_arg6)

/-- What the source buffers hold, and what the landing buffers hold at the end. -/
def srcX (c : Dev 8) : (a : Fin 7) → Buf (Elt F) ((srcM a).view.loc (c : Thread nD τ)) := fun
  | 0 => X m 0 c | 1 => X m 1 c | 2 => X m 2 c | 3 => X m 3 c | 4 => X m 4 c | 5 => X m 5 c | 6 => X m 6 c
def landX (c : Dev 8) : (a : Fin 7) → Buf (Elt F) ((landM a).view.loc (c : Thread nD τ)) := fun
  | 0 => gathered (X m 0) c | 1 => gathered (X m 1) c | 2 => gathered (X m 2) c | 3 => gathered (X m 3) c | 4 => gathered (X m 4) c | 5 => gathered (X m 5) c | 6 => gathered (X m 6) c

def sendS (t : Fin 7 × Fin 3) : DmaSem sig := ⟨3 * t.1.val + t.2.val, by revert t; decide⟩
def recvS (t : Fin 7 × Fin 3) : DmaSem sig := ⟨21 + (3 * t.1.val + t.2.val), by revert t; decide⟩
def locS (a : Fin 7) : DmaSem sig := ⟨42 + a.val, by revert a; decide⟩

def four : Four τ sig (Elt F) (Fin 7) where
  R := rows
  C := cols
  el := elt
  lM := landM
  off := ownOff
  hoff := off_own
  inb := own_inb
  sq := sqz
  src _ t := srcM t.1
  lsrc _ := srcM
  q t := peerShare t.2
  ql _ := ownShare
  fs c t := srcX m c t.1
  fl c a := srcX m c a
  out p a := landX m p a
  hmove c t j := match t with
    | (0, i) => slot_gathered (X m 0) c _ (onChip_chip i c) (off_own 0 c) _ j
    | (1, i) => slot_gathered (X m 1) c _ (onChip_chip i c) (off_own 1 c) _ j
    | (2, i) => slot_gathered (X m 2) c _ (onChip_chip i c) (off_own 2 c) _ j
    | (3, i) => slot_gathered (X m 3) c _ (onChip_chip i c) (off_own 3 c) _ j
    | (4, i) => slot_gathered (X m 4) c _ (onChip_chip i c) (off_own 4 c) _ j
    | (5, i) => slot_gathered (X m 5) c _ (onChip_chip i c) (off_own 5 c) _ j
    | (6, i) => slot_gathered (X m 6) c _ (onChip_chip i c) (off_own 6 c) _ j
  hlmove c a j := match a with
    | 0 => slot_gathered (X m 0) c _ (onChip_self c) (off_own 0 c) _ j
    | 1 => slot_gathered (X m 1) c _ (onChip_self c) (off_own 1 c) _ j
    | 2 => slot_gathered (X m 2) c _ (onChip_self c) (off_own 2 c) _ j
    | 3 => slot_gathered (X m 3) c _ (onChip_self c) (off_own 3 c) _ j
    | 4 => slot_gathered (X m 4) c _ (onChip_self c) (off_own 4 c) _ j
    | 5 => slot_gathered (X m 5) c _ (onChip_self c) (off_own 5 c) _ j
    | 6 => slot_gathered (X m 6) c _ (onChip_self c) (off_own 6 c) _ j
  amt a := (startSlot a 0).view.dmaCredit
  amt_pos a := match a with
    | 0 => View.dmaCredit_pos _ (by decide) | 1 => View.dmaCredit_pos _ (by decide) | 2 => View.dmaCredit_pos _ (by decide) | 3 => View.dmaCredit_pos _ (by decide) | 4 => View.dmaCredit_pos _ (by decide) | 5 => View.dmaCredit_pos _ (by decide) | 6 => View.dmaCredit_pos _ (by decide)
  hamt a c := rfl
  bar := barrier0
  send := sendS
  recv := recvS
  loc := locS
  send_inj := by decide
  recv_inj := by decide
  loc_inj := by decide
  send_recv := by decide
  send_loc := by decide
  recv_loc := by decide
  arrs := [0, 1, 2, 3, 4, 5, 6]
  arrs_nodup := by decide
  arrs_all := by decide

abbrev exch : Exch nD τ sig (Elt F) (Fin 7) (Fin 3) (Fin 7) := (four m).toExch

/-! ## The bodies -/

/-- The device a signal goes to, and the device a copy goes to, as the start kernel computes them. -/
def sigDev (d : Dev nD) : Fin 3 → Dev nD := fun
  | 0 => ⟨k0_dev1 d, k0_dev1_lt d⟩ | 1 => ⟨k0_dev2 d, k0_dev2_lt d⟩ | 2 => ⟨k0_dev3 d, k0_dev3_lt d⟩
def copyDev (d : Dev nD) : Fin 7 × Fin 3 → Dev nD := fun
  | (0, 0) => ⟨k0_dev4 d, k0_dev4_lt d⟩ | (0, 1) => ⟨k0_dev5 d, k0_dev5_lt d⟩ | (0, 2) => ⟨k0_dev6 d, k0_dev6_lt d⟩
  | (1, 0) => ⟨k0_dev7 d, k0_dev7_lt d⟩ | (1, 1) => ⟨k0_dev8 d, k0_dev8_lt d⟩ | (1, 2) => ⟨k0_dev9 d, k0_dev9_lt d⟩
  | (2, 0) => ⟨k0_dev10 d, k0_dev10_lt d⟩ | (2, 1) => ⟨k0_dev11 d, k0_dev11_lt d⟩ | (2, 2) => ⟨k0_dev12 d, k0_dev12_lt d⟩
  | (3, 0) => ⟨k0_dev13 d, k0_dev13_lt d⟩ | (3, 1) => ⟨k0_dev14 d, k0_dev14_lt d⟩ | (3, 2) => ⟨k0_dev15 d, k0_dev15_lt d⟩
  | (4, 0) => ⟨k0_dev16 d, k0_dev16_lt d⟩ | (4, 1) => ⟨k0_dev17 d, k0_dev17_lt d⟩ | (4, 2) => ⟨k0_dev18 d, k0_dev18_lt d⟩
  | (5, 0) => ⟨k0_dev19 d, k0_dev19_lt d⟩ | (5, 1) => ⟨k0_dev20 d, k0_dev20_lt d⟩ | (5, 2) => ⟨k0_dev21 d, k0_dev21_lt d⟩
  | (6, 0) => ⟨k0_dev22 d, k0_dev22_lt d⟩ | (6, 1) => ⟨k0_dev23 d, k0_dev23_lt d⟩ | (6, 2) => ⟨k0_dev24 d, k0_dev24_lt d⟩

theorem sigDev_eq : ∀ (d : Dev nD) (i : Fin 3), sigDev d i = flipBy (bits3 i) d := by decide +kernel
theorem copyDev_eq : ∀ (d : Dev nD) (t : Fin 7 × Fin 3), copyDev d t = flipBy (bits3 t.2) d := by decide +kernel

variable (F) in
abbrev Op := TpuEff nD τ sig (Elt F) Λ₀ .tc PUnit

def sop (d : Dev nD) (i : Fin 3) : Op F := .semSignal (Dev.tc (sigDev d i)) barrier0 ((1 : ℕ) : ℤ)

def top (d : Dev nD) (t : Fin 7 × Fin 3) : Op F :=
  .enqueueDma (((four (F := F) m).toExch).src d t) (.remote (Dev.tc (copyDev d t)) ((four (F := F) m).toExch.dst d t) (.dma (sendS t))) (.dma (recvS t))
    (src_whole t.1).wordExact (start_exact t.1 d) ⟨⟨rfl, Or.inl rfl⟩, trivial⟩

def lop (d : Dev nD) (a : Fin 7) : Op F :=
  .enqueueDma (((four (F := F) m).toExch).lsrc d a) (.here ((four (F := F) m).toExch.ldst d a)) (.dma (locS a))
    (src_whole a).wordExact (start_exact a d) ⟨Or.inl rfl, trivial⟩

variable (F) in
/-- The token's contents. -/
abbrev token : Vec F S8x128 .f32 := k0_pay1

/-- The end of the start kernel: a token is written, for the result that says the copies are under way. -/
abbrev stamp (M : Memref sig .tc .vmem S8x128 .f32) : Prog (TpuEff nD τ sig (Elt F) Λ₀ .tc) PUnit :=
  .op (.load M (Rect.unit (s := S8x128) ![0, 0] S8x128.size inb_S8x128_S8x128_0_0).toLoadRect (View.loadsAt_vmem h_S8x128)) fun _ =>
  .op (.store M (Rect.unit (s := S8x128) ![0, 0] S8x128.size inb_S8x128_S8x128_0_0) (token F) Finset.univ (View.stores_vmem_bits_univ h_S8x128 rfl) (.inl rfl)) fun _ => .ret ⟨⟩

set_option maxRecDepth 65536 in
theorem start_eq (t : Fin cfg0.N) :
    (bodyAt0 t : Prog (TpuEff nD τ sig (Elt F) Λ₀ .tc) PUnit)
      = .op .deviceId fun d => Exch.run (exch m).is (sop d) (.op (.semWait barrier0 (Fintype.card (Fin 3))) fun _ =>
          Exch.run (exch m).ts (top m d) (Exch.run (exch m).bs (lop m d) (stamp (st0_0 t)))) := by
  chain_rfl

/-- The wait kernel's waits name the slots of the landing buffers again, of the device's own chip or of a neighbour's. -/
abbrev waitOwn : Fin 7 → Dev 8 → Fin 3 → ℕ := fun
  | 0 => k1_off1 | 1 => k1_off3 | 2 => k1_off5 | 3 => k1_off5 | 4 => k1_off3 | 5 => k1_off5 | 6 => k1_off7
abbrev waitPeer : Fin 7 → Fin 3 → Dev 8 → Fin 3 → ℕ := fun
  | 0 => fun i c => k1_off2 c (k1_off2_at i).1 (k1_off2_at i).2
  | 1 => fun i c => k1_off4 c (k1_off4_at i).1 (k1_off4_at i).2
  | 2 => fun i c => k1_off6 c (k1_off6_at i).1 (k1_off6_at i).2
  | 3 => fun i c => k1_off6 c (k1_off6_at i).1 (k1_off6_at i).2
  | 4 => fun i c => k1_off4 c (k1_off4_at i).1 (k1_off4_at i).2
  | 5 => fun i c => k1_off6 c (k1_off6_at i).1 (k1_off6_at i).2
  | 6 => fun i c => k1_off8 c (k1_off8_at i).1 (k1_off8_at i).2

theorem waitOwn_inb : ∀ (a : Fin 7) (c : Dev 8) (x : Fin 3), waitOwn a c x + (Sh1 (rows a) (cols a)).size x ≤ (Sh4 (rows a) (cols a)).size x := fun
  | 0 => k1_off1_inb | 1 => k1_off3_inb | 2 => k1_off5_inb | 3 => k1_off5_inb | 4 => k1_off3_inb | 5 => k1_off5_inb | 6 => k1_off7_inb
theorem waitPeer_inb : ∀ (a : Fin 7) (i : Fin 3) (c : Dev 8) (x : Fin 3), waitPeer a i c x + (Sh1 (rows a) (cols a)).size x ≤ (Sh4 (rows a) (cols a)).size x := fun
  | 0 => fun i c => k1_off2_inb c i | 1 => fun i c => k1_off4_inb c i | 2 => fun i c => k1_off6_inb c i | 3 => fun i c => k1_off6_inb c i | 4 => fun i c => k1_off4_inb c i | 5 => fun i c => k1_off6_inb c i | 6 => fun i c => k1_off8_inb c i

abbrev ownSlot (a : Fin 7) (d : Dev nD) : Memref sig .tc .hbm (Sh2 (rows a) (cols a)) (elt a) :=
  ((landM a).slice (Rect.unit (s := Sh4 (rows a) (cols a)) (waitOwn a d) (Sh1 (rows a) (cols a)).size (waitOwn_inb a d)) fun _ => rfl).squeeze _ (sqz a)
abbrev peerSlot (a : Fin 7) (d : Dev nD) (i : Fin 3) : Memref sig .tc .hbm (Sh2 (rows a) (cols a)) (elt a) :=
  ((landM a).slice (Rect.unit (s := Sh4 (rows a) (cols a)) (waitPeer a i d) (Sh1 (rows a) (cols a)).size (waitPeer_inb a i d)) fun _ => rfl).squeeze _ (sqz a)

theorem own_exact : ∀ (a : Fin 7) (d : Dev nD), (ownSlot a d).view.WordExact := fun
  | 0 => fun d => ((land_whole 0).wordExact_slice rfl _ (k1_off1_wordsbf16 d)).reshape _ _
  | 1 => fun d => ((land_whole 1).wordExact_slice rfl _ (k1_off3_wordsbf16 d)).reshape _ _
  | 2 => fun d => ((land_whole 2).wordExact_slice rfl _ (k1_off5_wordsbf16 d)).reshape _ _
  | 3 => fun d => ((land_whole 3).wordExact_slice rfl _ (k1_off5_wordsbf16 d)).reshape _ _
  | 4 => fun d => ((land_whole 4).wordExact_slice rfl _ (k1_off3_wordsbf16 d)).reshape _ _
  | 5 => fun d => ((land_whole 5).wordExact_slice rfl _ (k1_off5_wordsbf16 d)).reshape _ _
  | 6 => fun _ => (View.wordExact_bits rfl).reshape _ _
theorem peer_exact : ∀ (a : Fin 7) (d : Dev nD) (i : Fin 3), (peerSlot a d i).view.WordExact := fun
  | 0 => fun d i => ((land_whole 0).wordExact_slice rfl _ (k1_off2_wordsbf16 d i)).reshape _ _
  | 1 => fun d i => ((land_whole 1).wordExact_slice rfl _ (k1_off4_wordsbf16 d i)).reshape _ _
  | 2 => fun d i => ((land_whole 2).wordExact_slice rfl _ (k1_off6_wordsbf16 d i)).reshape _ _
  | 3 => fun d i => ((land_whole 3).wordExact_slice rfl _ (k1_off6_wordsbf16 d i)).reshape _ _
  | 4 => fun d i => ((land_whole 4).wordExact_slice rfl _ (k1_off4_wordsbf16 d i)).reshape _ _
  | 5 => fun d i => ((land_whole 5).wordExact_slice rfl _ (k1_off6_wordsbf16 d i)).reshape _ _
  | 6 => fun _ _ => (View.wordExact_bits rfl).reshape _ _

variable (F) in
def sentOp (d : Dev nD) (t : Fin 7 × Fin 3) : Op F :=
  .waitDma2 (sendS t) (ownSlot t.1 d) (srcM t.1) (own_exact t.1 d) (src_whole t.1).wordExact
variable (F) in
def gotOp (d : Dev nD) (t : Fin 7 × Fin 3) : Op F :=
  .waitDma2 (recvS t) (srcM t.1) (peerSlot t.1 d t.2) (src_whole t.1).wordExact (peer_exact t.1 d t.2)
variable (F) in
def ownOp (d : Dev nD) (a : Fin 7) : Op F :=
  .waitDma2 (locS a) (srcM a) (ownSlot a d) (src_whole a).wordExact (own_exact a d)

set_option maxRecDepth 65536 in
theorem wait_eq (t : Fin cfg1.N) :
    (bodyAt1 t : Prog (TpuEff nD τ sig (Elt F) Λ₀ .tc) PUnit)
      = .op .deviceId fun d => (exch m).ts.foldr (fun t r => .op (sentOp F d t) fun _ => .op (gotOp F d t) fun _ => r) (Exch.run (exch m).bs (ownOp F d) (.ret ⟨⟩)) := by
  chain_rfl

/-! ## The program -/

abbrev argR : Fin 7 → Ref sig .tc := fun
  | 0 => main_arg0 | 1 => main_arg1 | 2 => main_arg2 | 3 => main_arg3 | 4 => main_arg4 | 5 => main_arg5 | 6 => main_arg6

theorem stage_apart : ∀ k : Key (Fin 7) (Fin 3) (Fin 7), SemLoc.dma cc0_sem0_0 ≠ semOf barrier0 sendS recvS locS k := by decide
theorem cells_all : ∀ sm : SemLoc sig, sm.isScoped .tc = false → ∃ k : Key (Fin 7) (Fin 3) (Fin 7), sm = semOf barrier0 sendS recvS locS k := by decide
theorem cells_unscoped : ∀ k : Key (Fin 7) (Fin 3) (Fin 7), ¬ (semOf barrier0 sendS recvS locS k).isScoped .tc := by decide

abbrev srcR : Fin 7 → Ref sig .tc := fun a => (srcM a).view.ref
abbrev landR : Fin 7 → Ref sig .tc := fun a => (landM a).view.ref
abbrev tokR : Fin 1 → Ref sig .tc := fun _ => main_v8_17

theorem names_inj : Function.Injective (names argR srcR landR tokR) := by decide
theorem names_all : (Finset.univ.filter fun b : Ref sig .tc => ¬ b.isScoped) = Finset.univ.map ⟨_, names_inj⟩ := by decide
theorem touched_inj : Function.Injective fun j => (Proc.devRef .tc (Sum.elim argR srcR j) : DevRef τ sig) := by decide

abbrev pair : Pair nD τ sig (Elt F) Λ₀ (Fin 7) (Fin 3) (Fin 7) where
  E := exch m
  cfgs := cfgs
  defs₀ := defs₀
  N0 := N_0
  N1 := N_1
  W1 := rfl
  inj := cellOf_inj
  win0 := winFacts0
  win1 := winFacts1
  block0 := block_pos0
  stage0 := stage_whole0
  A₀ c w := match w with
    | ⟨0, _⟩ => m ((c : Thread nD τ).loc main_v8_17)
  after₀ w _ := match w with
    | ⟨0, _⟩ => token F
  apart w s k h := match w with
    | ⟨0, _⟩ => (stage_apart k) h
  cells := cells_all
  unscoped := cells_unscoped
  land := landR
  land_ok := by decide
  lands := [0, 1, 2, 3, 4, 5, 6]
  bufs := touched argR srcR touched_inj
  ops := hostOps0_7
  ops_sub := by
    intro op h
    simp only [List.mem_cons, List.mem_nil_iff, _root_.or_false] at h
    rcases h with rfl | rfl | rfl | rfl | rfl | rfl | rfl
    · show ({Proc.devRef .tc main_arg0, Proc.devRef .tc main_v8_3} : Finset (DevRef τ sig)) ⊆ _; decide
    · show ({Proc.devRef .tc main_arg1, Proc.devRef .tc main_v8_4} : Finset (DevRef τ sig)) ⊆ _; decide
    · show ({Proc.devRef .tc main_arg2, Proc.devRef .tc main_v8_5} : Finset (DevRef τ sig)) ⊆ _; decide
    · show ({Proc.devRef .tc main_arg3, Proc.devRef .tc main_v8_6} : Finset (DevRef τ sig)) ⊆ _; decide
    · show ({Proc.devRef .tc main_arg4, Proc.devRef .tc main_v8_7} : Finset (DevRef τ sig)) ⊆ _; decide
    · show ({Proc.devRef .tc main_arg5, Proc.devRef .tc main_v8_8} : Finset (DevRef τ sig)) ⊆ _; decide
    · show ({Proc.devRef .tc main_arg6, Proc.devRef .tc main_v8_9} : Finset (DevRef τ sig)) ⊆ _; decide
  ops_fresh := by
    intro op h
    simp only [List.mem_cons, List.mem_nil_iff, _root_.or_false] at h
    rcases h with rfl | rfl | rfl | rfl | rfl | rfl | rfl <;> rfl
  V₀ c b := m ((c : Thread nD τ).1, b)
  keep _ := BI.emp

theorem start_body : (pair m).StartBody :=
  (pair m).start_of (fun t => st0_0 t) (token F) (off := ![0, 0]) (by decide) (fun c t => ((pair m).dat0 c).before (0 : Fin 1) t) (fun _ _ => bigSep_W0 _) (fun _ _ => bigSep_W0 _)
    sop (fun c i => ⟨sigDev c i, sigDev_eq c i, rfl⟩) (top m) (fun c t => ⟨copyDev c t, copyDev_eq c t, _, _, _, _, rfl⟩) (lop m) (fun _ _ => ⟨_, _, _, rfl⟩)
    (fun c t Q => congrArg (fun p => wp frame (wpE defs₀ 𝒱₀ (c : Thread nD τ) none) Set.univ p fun _ => Q) (start_eq m t))

theorem wait_body : (pair m).WaitBody :=
  (pair m).wait_of (sentOp F) (gotOp F) (ownOp F) (fun _ _ _ => rfl) (fun _ _ _ => rfl) (fun _ _ _ => rfl)
    (fun c t Q => congrArg (fun p => wp frame (wpE defs₀ 𝒱₀ (c : Thread nD τ) none) Set.univ p fun _ => Q) (wait_eq m t))

/-! ## The buffers -/

local notation "𝕄" => MT nD τ sig Unit (Elt F) ℕ (UU nD τ sig (Pay (Fin 7) (Fin 3) (Fin 7))) ℕ

/-- A source buffer, shared among its readers. -/
theorem src_split (c : Dev nD) (a : Fin 7) : ((c : Thread nD τ).loc (srcR a) ↦{fullShare} srcX m c a : sProp 𝕄)
    = iprop((bigSep Finset.univ fun i => (exch m).source c (a, i)) ∗ (exch m).lsource c a) :=
  (congrArg (fun S => ((c : Thread nD τ).loc (srcR a) ↦[S]{fullShare} srcX m c a : sProp 𝕄)) (src_whole a).set_eq_univ.symm).trans
    (shares_split _ (srcX m c a))

abbrev moves : (pair m).Moves m where
  arg := argR
  src := srcR
  tok := tokR
  names_inj := names_inj
  names_all := names_all
  touched_inj := touched_inj
  bufs_eq := rfl
  keep_eq := rfl
  V₀_eq := rfl
  srcX := srcX m
  landX := landX m
  after_arg c a := match a with
    | 0 => by show StableHlo.after hostOps0_7 _ _ = _; after_results
    | 1 => by show StableHlo.after hostOps0_7 _ _ = _; after_results
    | 2 => by show StableHlo.after hostOps0_7 _ _ = _; after_results
    | 3 => by show StableHlo.after hostOps0_7 _ _ = _; after_results
    | 4 => by show StableHlo.after hostOps0_7 _ _ = _; after_results
    | 5 => by show StableHlo.after hostOps0_7 _ _ = _; after_results
    | 6 => by show StableHlo.after hostOps0_7 _ _ = _; after_results
  after_src c a := match a with
    | 0 => by show StableHlo.after hostOps0_7 _ _ = _; after_results; rfl
    | 1 => by show StableHlo.after hostOps0_7 _ _ = _; after_results; rfl
    | 2 => by show StableHlo.after hostOps0_7 _ _ = _; after_results; rfl
    | 3 => by show StableHlo.after hostOps0_7 _ _ = _; after_results; rfl
    | 4 => by show StableHlo.after hostOps0_7 _ _ = _; after_results; rfl
    | 5 => by show StableHlo.after hostOps0_7 _ _ = _; after_results; rfl
    | 6 => by show StableHlo.after hostOps0_7 _ _ = _; after_results; rfl
  arrays_eq c := (bigSep_W0 _).trans ((congrArg (fun S => ((c : Thread nD τ).loc main_v8_17 ↦[S]{fullShare} m ((c : Thread nD τ).loc main_v8_17) : sProp 𝕄)) (arr_whole0 0).set_eq_univ).trans
    (bigSep_W0 fun w => ((c : Thread nD τ).loc (tokR w) ↦{fullShare} m ((c : Thread nD τ).loc (tokR w)) : sProp 𝕄)).symm)
  split c := Entails.of_eq (by rw [bigSep_congr fun a _ => src_split m c a, bigSep_sep', bigSep_univ_prod])
  room := (four m).rooms_whole land_whole
  join := (four m).joined_whole land_whole

theorem idle (w g) : ((pair m).cfgs 0).idle w g = false := match w with
  | ⟨0, _⟩ => rfl

/-- THE RUN, over any float values: every device's results are the arrays of the chips, its arguments are as they were. -/
theorem run_main [∀ e, Nonempty (Elt F e)] (ρ : Dev nD → PrngReg) :
    θ_run (defs (F := F)) (onTc (τ := τ) (main (F := F))) ⟨m, fun _ => 0, ρ⟩
      (fun r => (∀ c : Dev nD, (∀ a, r.2.mem ((landM a).view.loc (c : Thread nD τ)) = landX m c a)
          ∧ ∀ a, r.2.mem ((c : Thread nD τ).loc (argR a)) = m ((c : Thread nD τ).loc (argR a)))
        ∧ r.2.sem = fun _ => 0) :=
  (moves m).run_main (idle m) (start_body m) (wait_body m) ρ main
    (fun c => (main_chain c).trans (Eq.trans (by rfl) (Pipeline.Seg.run_eq_chain _).symm))

end Cert.GatherMixProof

end
-- ==== Proof.GatherMixValue.lean ====
/-
  The gather's exchange of the mixing stage against its reference: the claims about the two.
-/
module

public import proofs.«01_k».proof.Proof.Values
public import proofs.«01_k».proof.Defs
public import proofs.«01_k».proof.Proof.GatherMix
public import proofs.«01_k».proof.Proof.Gen.GatherMix
public import proofs.«01_k».proof.Proof.Gen.GatherMixRef
public import proofs.«01_k».proof.Proof.Gen.GatherMixRefIdeal.Run

@[expose] public section

noncomputable section

namespace Cert.GatherMixProof

open Idealize.ShloMosaic Idealize.ShloMosaic.TcCoe Idealize.SL.Sem Cert.Exchange

variable {F : FTy → Type} [FloatOps F]

/-- The shapes of the reference's arguments, and their elements. -/
abbrev refSh : Fin 7 → Shape := fun
  | 0 => Sh2 12800 1024 | 1 => Sh2 2048 512 | 2 => Sh2 2048 1024 | 3 => Sh2 2048 1024 | 4 => Sh2 2048 512 | 5 => Sh2 2048 1024 | 6 => Sh2 32 256
abbrev refEl : Fin 7 → EltTy := fun
  | 0 => .bf16 | 1 => .bf16 | 2 => .bf16 | 3 => .bf16 | 4 => .bf16 | 5 => .bf16 | 6 => .f32
abbrev refOutSh : Fin 7 → Shape := fun
  | 0 => Sh32 1600 1024 | 1 => Sh32 256 512 | 2 => Sh32 256 1024 | 3 => Sh32 256 1024 | 4 => Sh32 256 512 | 5 => Sh32 256 1024 | 6 => Sh32 4 256

/-- The reference's functions of its arguments. -/
abbrev refOut : (a : Fin 7) → ((refSh a).Idx → Elt F (refEl a)) → (refOutSh a).Idx → Elt F (refEl a) := fun
  | 0 => collected Cert.GatherMixRefIdeal.Gen.shapeCasts_S12800x1024_S4x2x1600x1024 Cert.GatherMixRefIdeal.Gen.transposes_S4x2x1600x1024_S2x4x1600x1024_1_0_2_3 Cert.GatherMixRefIdeal.Gen.bcast_S2x4x1600x1024_S1x2x4x1600x1024_1_2_3_4
      Cert.GatherMixRefIdeal.Gen.bcast_S1x2x4x1600x1024_S4x2x4x1600x1024_0_1_2_3_4 Cert.GatherMixRefIdeal.Gen.shapeCasts_S4x2x4x1600x1024_S32x1600x1024
  | 1 => collected Cert.GatherMixRefIdeal.Gen.shapeCasts_S2048x512_S4x2x256x512 Cert.GatherMixRefIdeal.Gen.transposes_S4x2x256x512_S2x4x256x512_1_0_2_3 Cert.GatherMixRefIdeal.Gen.bcast_S2x4x256x512_S1x2x4x256x512_1_2_3_4
      Cert.GatherMixRefIdeal.Gen.bcast_S1x2x4x256x512_S4x2x4x256x512_0_1_2_3_4 Cert.GatherMixRefIdeal.Gen.shapeCasts_S4x2x4x256x512_S32x256x512
  | 2 => collected Cert.GatherMixRefIdeal.Gen.shapeCasts_S2048x1024_S4x2x256x1024 Cert.GatherMixRefIdeal.Gen.transposes_S4x2x256x1024_S2x4x256x1024_1_0_2_3 Cert.GatherMixRefIdeal.Gen.bcast_S2x4x256x1024_S1x2x4x256x1024_1_2_3_4
      Cert.GatherMixRefIdeal.Gen.bcast_S1x2x4x256x1024_S4x2x4x256x1024_0_1_2_3_4 Cert.GatherMixRefIdeal.Gen.shapeCasts_S4x2x4x256x1024_S32x256x1024
  | 3 => collected Cert.GatherMixRefIdeal.Gen.shapeCasts_S2048x1024_S4x2x256x1024 Cert.GatherMixRefIdeal.Gen.transposes_S4x2x256x1024_S2x4x256x1024_1_0_2_3 Cert.GatherMixRefIdeal.Gen.bcast_S2x4x256x1024_S1x2x4x256x1024_1_2_3_4
      Cert.GatherMixRefIdeal.Gen.bcast_S1x2x4x256x1024_S4x2x4x256x1024_0_1_2_3_4 Cert.GatherMixRefIdeal.Gen.shapeCasts_S4x2x4x256x1024_S32x256x1024
  | 4 => collected Cert.GatherMixRefIdeal.Gen.shapeCasts_S2048x512_S4x2x256x512 Cert.GatherMixRefIdeal.Gen.transposes_S4x2x256x512_S2x4x256x512_1_0_2_3 Cert.GatherMixRefIdeal.Gen.bcast_S2x4x256x512_S1x2x4x256x512_1_2_3_4
      Cert.GatherMixRefIdeal.Gen.bcast_S1x2x4x256x512_S4x2x4x256x512_0_1_2_3_4 Cert.GatherMixRefIdeal.Gen.shapeCasts_S4x2x4x256x512_S32x256x512
  | 5 => collected Cert.GatherMixRefIdeal.Gen.shapeCasts_S2048x1024_S4x2x256x1024 Cert.GatherMixRefIdeal.Gen.transposes_S4x2x256x1024_S2x4x256x1024_1_0_2_3 Cert.GatherMixRefIdeal.Gen.bcast_S2x4x256x1024_S1x2x4x256x1024_1_2_3_4
      Cert.GatherMixRefIdeal.Gen.bcast_S1x2x4x256x1024_S4x2x4x256x1024_0_1_2_3_4 Cert.GatherMixRefIdeal.Gen.shapeCasts_S4x2x4x256x1024_S32x256x1024
  | 6 => collected Cert.GatherMixRefIdeal.Gen.shapeCasts_S32x256_S4x2x4x256 Cert.GatherMixRefIdeal.Gen.transposes_S4x2x4x256_S2x4x4x256_1_0_2_3 Cert.GatherMixRefIdeal.Gen.bcast_S2x4x4x256_S1x2x4x4x256_1_2_3_4
      Cert.GatherMixRefIdeal.Gen.bcast_S1x2x4x4x256_S4x2x4x4x256_0_1_2_3_4 Cert.GatherMixRefIdeal.Gen.shapeCasts_S4x2x4x4x256_S32x4x256

open Cert.GatherMixIdeal Cert.GatherMixIdeal.Gen

theorem frame [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6))
      ∧ r.2.sem = fun _ => 0 :=
  (θ_run defs _ _).mono (fun _ h => ⟨fun c => ⟨(h.1 c).2 0, (h.1 c).2 1, (h.1 c).2 2, (h.1 c).2 3, (h.1 c).2 4, (h.1 c).2 5, (h.1 c).2 6⟩, h.2⟩) (run_main m ρ)

/-- On devices that hold the blocks of the arrays, each ends with its blocks of the reference's arrays. -/
theorem value [∀ e, Nonempty (Elt F e)] (m : (ℓ : Loc nD τ sig) → Buf (Elt F) ℓ) (ρ : Dev nD → PrngReg) (x : (a : Fin 7) → (refSh a).Idx → Elt F (refEl a))
    (h : ∀ c : Dev nD, m ((c : Thread nD τ).loc main_arg0) = Layout.block (Sh2 1600 1024) (Sh2 12800 1024) 0 8 c (x 0)
      ∧ m ((c : Thread nD τ).loc main_arg1) = Layout.block (Sh2 256 512) (Sh2 2048 512) 0 8 c (x 1)
      ∧ m ((c : Thread nD τ).loc main_arg2) = Layout.block (Sh2 256 1024) (Sh2 2048 1024) 0 8 c (x 2)
      ∧ m ((c : Thread nD τ).loc main_arg3) = Layout.block (Sh2 256 1024) (Sh2 2048 1024) 0 8 c (x 3)
      ∧ m ((c : Thread nD τ).loc main_arg4) = Layout.block (Sh2 256 512) (Sh2 2048 512) 0 8 c (x 4)
      ∧ m ((c : Thread nD τ).loc main_arg5) = Layout.block (Sh2 256 1024) (Sh2 2048 1024) 0 8 c (x 5)
      ∧ m ((c : Thread nD τ).loc main_arg6) = Layout.block (Sh2 4 256) (Sh2 32 256) 0 8 c (x 6)) :
    θ_run (defs (F := F)) (onTc (τ := τ) (main (F := F))) ⟨m, fun _ => 0, ρ⟩ fun r => ∀ c : Dev nD,
      r.2.mem ((c : Thread nD τ).loc main_v1) = Layout.block (Sh4 1600 1024) (Sh32 1600 1024) 0 8 c (refOut 0 (x 0))
        ∧ r.2.mem ((c : Thread nD τ).loc main_v2) = Layout.block (Sh4 256 512) (Sh32 256 512) 0 8 c (refOut 1 (x 1))
        ∧ r.2.mem ((c : Thread nD τ).loc main_v3) = Layout.block (Sh4 256 1024) (Sh32 256 1024) 0 8 c (refOut 2 (x 2))
        ∧ r.2.mem ((c : Thread nD τ).loc main_v4) = Layout.block (Sh4 256 1024) (Sh32 256 1024) 0 8 c (refOut 3 (x 3))
        ∧ r.2.mem ((c : Thread nD τ).loc main_v5) = Layout.block (Sh4 256 512) (Sh32 256 512) 0 8 c (refOut 4 (x 4))
        ∧ r.2.mem ((c : Thread nD τ).loc main_v6) = Layout.block (Sh4 256 1024) (Sh32 256 1024) 0 8 c (refOut 5 (x 5))
        ∧ r.2.mem ((c : Thread nD τ).loc main_v7) = Layout.block (Sh4 4 256) (Sh32 4 256) 0 8 c (refOut 6 (x 6))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6) :=
  (θ_run defs _ _).mono (fun _ k c => ⟨((k.1 c).1 0).trans (gathered_block _ _ _ _ _ (X m 0) (x 0) _ _ (fun c => (h c).1) c),
    ((k.1 c).1 1).trans (gathered_block _ _ _ _ _ (X m 1) (x 1) _ _ (fun c => (h c).2.1) c),
    ((k.1 c).1 2).trans (gathered_block _ _ _ _ _ (X m 2) (x 2) _ _ (fun c => (h c).2.2.1) c),
    ((k.1 c).1 3).trans (gathered_block _ _ _ _ _ (X m 3) (x 3) _ _ (fun c => (h c).2.2.2.1) c),
    ((k.1 c).1 4).trans (gathered_block _ _ _ _ _ (X m 4) (x 4) _ _ (fun c => (h c).2.2.2.2.1) c),
    ((k.1 c).1 5).trans (gathered_block _ _ _ _ _ (X m 5) (x 5) _ _ (fun c => (h c).2.2.2.2.2.1) c),
    ((k.1 c).1 6).trans (gathered_block _ _ _ _ _ (X m 6) (x 6) _ _ (fun c => (h c).2.2.2.2.2.2) c),
    (k.1 c).2 0, (k.1 c).2 1, (k.1 c).2 2, (k.1 c).2 3, (k.1 c).2 4, (k.1 c).2 5, (k.1 c).2 6⟩) (run_main m ρ)

/-! ## The claims -/

/-- The two printings are one program. -/
theorem defs_same : Cert.GatherMix.defs (F := F) = defs (F := F) := by chain_rfl
theorem run_same (s : MemSt nD τ sig (Elt F)) (Q) :
    θ_run (Cert.GatherMix.defs (F := F)) (onTc (τ := τ) (Cert.GatherMix.main (F := F))) s Q = θ_run (defs (F := F)) (onTc (τ := τ) (main (F := F))) s Q := by
  rw [defs_same]; rfl

theorem quiescent_kernel : quiescent_GatherMix := fun m g _ => (run_same _ _).mpr (frame (F := Bits) m g)
theorem quiescent_ideal : quiescent_GatherMixIdeal := fun m g _ => frame m g
theorem quiescent_ref : quiescent_GatherMixRef := fun m g _ =>
  (θ_run Cert.GatherMixRef.defs _ _).mono (fun _ h => ⟨fun c => (h c).2.2.2.2.2.2.2, funext fun ⟨_, s⟩ => ((show ∀ _ : SemLoc Cert.GatherMixRef.sig, False by decide) s).elim⟩)
    (Cert.GatherMixRefIdeal.Value.run (F := Bits) m g)
theorem quiescent_refIdeal : quiescent_GatherMixRefIdeal := fun m g _ =>
  (θ_run Cert.GatherMixRefIdeal.defs _ _).mono (fun _ h => ⟨fun c => (h c).2.2.2.2.2.2.2, funext fun ⟨_, s⟩ => ((show ∀ _ : SemLoc Cert.GatherMixRefIdeal.sig, False by decide) s).elim⟩)
    (Cert.GatherMixRefIdeal.Value.run m g)

/-- The reference's arguments, as arrays. -/
abbrev args (m' : (ℓ : Loc Cert.GatherMixRefIdeal.nD Cert.GatherMixRefIdeal.τ Cert.GatherMixRefIdeal.sig) → Buf (Elt F) ℓ) : (a : Fin 7) → (refSh a).Idx → Elt F (refEl a) := fun
  | 0 => m' (((0 : Dev Cert.GatherMixRefIdeal.nD) : Thread Cert.GatherMixRefIdeal.nD Cert.GatherMixRefIdeal.τ).loc Cert.GatherMixRefIdeal.main_arg0)
  | 1 => m' (((0 : Dev Cert.GatherMixRefIdeal.nD) : Thread Cert.GatherMixRefIdeal.nD Cert.GatherMixRefIdeal.τ).loc Cert.GatherMixRefIdeal.main_arg1)
  | 2 => m' (((0 : Dev Cert.GatherMixRefIdeal.nD) : Thread Cert.GatherMixRefIdeal.nD Cert.GatherMixRefIdeal.τ).loc Cert.GatherMixRefIdeal.main_arg2)
  | 3 => m' (((0 : Dev Cert.GatherMixRefIdeal.nD) : Thread Cert.GatherMixRefIdeal.nD Cert.GatherMixRefIdeal.τ).loc Cert.GatherMixRefIdeal.main_arg3)
  | 4 => m' (((0 : Dev Cert.GatherMixRefIdeal.nD) : Thread Cert.GatherMixRefIdeal.nD Cert.GatherMixRefIdeal.τ).loc Cert.GatherMixRefIdeal.main_arg4)
  | 5 => m' (((0 : Dev Cert.GatherMixRefIdeal.nD) : Thread Cert.GatherMixRefIdeal.nD Cert.GatherMixRefIdeal.τ).loc Cert.GatherMixRefIdeal.main_arg5)
  | 6 => m' (((0 : Dev Cert.GatherMixRefIdeal.nD) : Thread Cert.GatherMixRefIdeal.nD Cert.GatherMixRefIdeal.τ).loc Cert.GatherMixRefIdeal.main_arg6)

theorem algebraic : algebraic_GatherMixIdeal_GatherMixRefIdeal := fun m g m' g' _ h =>
  ⟨_, _, _, _, _, _, _, value m g (args m') h, (θ_run Cert.GatherMixRefIdeal.defs _ _).mono (fun _ h => h 0) (Cert.GatherMixRefIdeal.Value.run m' g')⟩

theorem bitexact : bitexact_GatherMix_GatherMixRef := fun m g m' g' _ h =>
  ⟨_, _, _, _, _, _, _, (run_same _ _).mpr (value (F := Bits) m g (args m') h),
    (θ_run Cert.GatherMixRef.defs _ _).mono (fun _ h => h 0) (Cert.GatherMixRefIdeal.Value.run (F := Bits) m' g')⟩

end Cert.GatherMixProof

end
-- ==== Proof.GatherTwo.lean ====
/-
  The gather's exchange, of two arrays of the first layer, `Cert.GatherTwoIdeal`: a start kernel and a wait kernel. Each landing buffer
  has one slot per chip; a device sends all of its array to the other chips (of its own core), which keep it in the slot of
  the sender's chip. Here: the exchange's plan, its two kernels' bodies as runs through that plan, and the program's run.
-/
module

public import proofs.«01_k».proof.Proof.Scatter
public import proofs.«01_k».proof.Proof.Gen.GatherTwoIdeal
public import proofs.«01_k».proof.Proof.Gen.GatherTwoIdeal.Skeleton
public import proofs.«01_k».proof.Proof.Gen.GatherTwoIdeal.Launch
public import proofs.«01_k».proof.Proof.Gen.GatherTwoIdeal.Points

@[expose] public section

noncomputable section

namespace Cert.GatherTwoProof

open Cert.GatherTwoIdeal Cert.GatherTwoIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The plan -/

/-- The source buffers and the landing buffers. -/
abbrev srcM : Fin 2 → Memref sig .tc .hbm S704x1024 .bf16 := fun
  | 0 => Memref.whole main_v3_3 | 1 => Memref.whole main_v3_4
abbrev landM : Fin 2 → Memref sig .tc .hbm S4x704x1024 .bf16 := fun
  | 0 => Memref.whole main_v1 | 1 => Memref.whole main_v2

theorem src_whole : ∀ a, (srcM a).IsWhole := fun
  | 0 => Memref.isWhole_whole _ | 1 => Memref.isWhole_whole _
theorem land_whole : ∀ a, (landM a).IsWhole := fun
  | 0 => Memref.isWhole_whole _ | 1 => Memref.isWhole_whole _

theorem off_own : ∀ c : Dev 8, k0_off1 c = ![(chip c).val, 0, 0] := by decide +kernel

variable (m : (ℓ : Loc nD τ sig) → Buf (Elt F) ℓ)

/-- What a device's argument `a` holds. -/
def X : (a : Fin 2) → Dev 8 → S704x1024.Idx → Elt F .bf16 := fun
  | 0 => fun c => m ((c : Thread nD τ).loc main_arg0)
  | 1 => fun c => m ((c : Thread nD τ).loc main_arg1)

/-- What the source buffers hold, and what the landing buffers hold at the end. -/
def srcX (c : Dev 8) : (a : Fin 2) → Buf (Elt F) ((srcM a).view.loc (c : Thread nD τ)) := fun
  | 0 => X m 0 c | 1 => X m 1 c
def landX (c : Dev 8) : (a : Fin 2) → Buf (Elt F) ((landM a).view.loc (c : Thread nD τ)) := fun
  | 0 => gathered (X m 0) c | 1 => gathered (X m 1) c

def sendS (t : Fin 2 × Fin 3) : DmaSem sig := ⟨3 * t.1.val + t.2.val, by revert t; decide⟩
def recvS (t : Fin 2 × Fin 3) : DmaSem sig := ⟨6 + (3 * t.1.val + t.2.val), by revert t; decide⟩
def locS (a : Fin 2) : DmaSem sig := ⟨12 + a.val, by revert a; decide⟩

def four : Four τ sig (Elt F) (Fin 2) where
  R _ := 704
  C _ := 1024
  el _ := .bf16
  lM := landM
  off _ := k0_off1
  hoff _ := off_own
  inb _ c := k0_off1_inb c
  sq _ := squeezes_S1x704x1024_S704x1024
  src _ t := srcM t.1
  lsrc _ := srcM
  q t := peerShare t.2
  ql _ := ownShare
  fs c t := srcX m c t.1
  fl c a := srcX m c a
  out p a := landX m p a
  hmove c t j := match t with
    | (0, i) => slot_gathered (X m 0) c _ (onChip_chip i c) (off_own c) _ j
    | (1, i) => slot_gathered (X m 1) c _ (onChip_chip i c) (off_own c) _ j
  hlmove c a j := match a with
    | 0 => slot_gathered (X m 0) c _ (onChip_self c) (off_own c) _ j
    | 1 => slot_gathered (X m 1) c _ (onChip_self c) (off_own c) _ j
  amt a := (((landM a).slice (Rect.unit (s := S4x704x1024) (k0_off1 0) S1x704x1024.size (k0_off1_inb 0)) fun _ => rfl).squeeze S704x1024 squeezes_S1x704x1024_S704x1024).view.dmaCredit
  amt_pos a := View.dmaCredit_pos _ (by decide)
  hamt a c := rfl
  bar := barrier0
  send := sendS
  recv := recvS
  loc := locS
  send_inj := by decide
  recv_inj := by decide
  loc_inj := by decide
  send_recv := by decide
  send_loc := by decide
  recv_loc := by decide
  arrs := [0, 1]
  arrs_nodup := by decide
  arrs_all := by decide

abbrev exch : Exch nD τ sig (Elt F) (Fin 2) (Fin 3) (Fin 2) := (four m).toExch

/-! ## The bodies -/

/-- The device a signal goes to, and the device a copy goes to, as the start kernel computes them. -/
def sigDev (d : Dev nD) : Fin 3 → Dev nD := fun
  | 0 => ⟨k0_dev1 d, k0_dev1_lt d⟩ | 1 => ⟨k0_dev2 d, k0_dev2_lt d⟩ | 2 => ⟨k0_dev3 d, k0_dev3_lt d⟩
def copyDev (d : Dev nD) : Fin 2 × Fin 3 → Dev nD := fun
  | (0, 0) => ⟨k0_dev4 d, k0_dev4_lt d⟩ | (0, 1) => ⟨k0_dev5 d, k0_dev5_lt d⟩ | (0, 2) => ⟨k0_dev6 d, k0_dev6_lt d⟩
  | (1, 0) => ⟨k0_dev7 d, k0_dev7_lt d⟩ | (1, 1) => ⟨k0_dev8 d, k0_dev8_lt d⟩ | (1, 2) => ⟨k0_dev9 d, k0_dev9_lt d⟩

theorem sigDev_eq : ∀ (d : Dev nD) (i : Fin 3), sigDev d i = flipBy (bits3 i) d := by decide +kernel
theorem copyDev_eq : ∀ (d : Dev nD) (t : Fin 2 × Fin 3), copyDev d t = flipBy (bits3 t.2) d := by decide +kernel

variable (F) in
abbrev Op := TpuEff nD τ sig (Elt F) Λ₀ .tc PUnit

def sop (d : Dev nD) (i : Fin 3) : Op F := .semSignal (Dev.tc (sigDev d i)) barrier0 ((1 : ℕ) : ℤ)

def top (d : Dev nD) (t : Fin 2 × Fin 3) : Op F :=
  .enqueueDma (((four (F := F) m).toExch).src d t) (.remote (Dev.tc (copyDev d t)) ((four (F := F) m).toExch.dst d t) (.dma (sendS t))) (.dma (recvS t))
    (src_whole t.1).wordExact (((land_whole t.1).wordExact_slice rfl _ (k0_off1_wordsbf16 d)).reshape _ _) ⟨⟨rfl, Or.inl rfl⟩, trivial⟩

def lop (d : Dev nD) (a : Fin 2) : Op F :=
  .enqueueDma (((four (F := F) m).toExch).lsrc d a) (.here ((four (F := F) m).toExch.ldst d a)) (.dma (locS a))
    (src_whole a).wordExact (((land_whole a).wordExact_slice rfl _ (k0_off1_wordsbf16 d)).reshape _ _) ⟨Or.inl rfl, trivial⟩

variable (F) in
/-- The token's contents. -/
abbrev token : Vec F S8x128 .f32 := k0_pay1

/-- The end of the start kernel: a token is written, for the result that says the copies are under way. -/
abbrev stamp (M : Memref sig .tc .vmem S8x128 .f32) : Prog (TpuEff nD τ sig (Elt F) Λ₀ .tc) PUnit :=
  .op (.load M (Rect.unit (s := S8x128) ![0, 0] S8x128.size inb_S8x128_S8x128_0_0).toLoadRect (View.loadsAt_vmem h_S8x128)) fun _ =>
  .op (.store M (Rect.unit (s := S8x128) ![0, 0] S8x128.size inb_S8x128_S8x128_0_0) (token F) Finset.univ (View.stores_vmem_bits_univ h_S8x128 rfl) (.inl rfl)) fun _ => .ret ⟨⟩

set_option maxRecDepth 65536 in
theorem start_eq (t : Fin cfg0.N) :
    (bodyAt0 t : Prog (TpuEff nD τ sig (Elt F) Λ₀ .tc) PUnit)
      = .op .deviceId fun d => Exch.run (exch m).is (sop d) (.op (.semWait barrier0 (Fintype.card (Fin 3))) fun _ =>
          Exch.run (exch m).ts (top m d) (Exch.run (exch m).bs (lop m d) (stamp (st0_0 t)))) := by
  chain_rfl

/-- The wait kernel's waits name the slots of the landing buffers again, of the device's own chip or of a neighbour's. -/
abbrev ownSlot (a : Fin 2) (d : Dev nD) : Memref sig .tc .hbm S704x1024 .bf16 :=
  ((landM a).slice (Rect.unit (s := S4x704x1024) (k1_off1 d) S1x704x1024.size (k1_off1_inb d)) fun _ => rfl).squeeze _ squeezes_S1x704x1024_S704x1024
abbrev peerSlot (a : Fin 2) (d : Dev nD) (i : Fin 3) : Memref sig .tc .hbm S704x1024 .bf16 :=
  ((landM a).slice (Rect.unit (s := S4x704x1024) (k1_off2 d (k1_off2_at i).1 (k1_off2_at i).2) S1x704x1024.size (k1_off2_inb d i)) fun _ => rfl).squeeze _ squeezes_S1x704x1024_S704x1024

variable (F) in
def sentOp (d : Dev nD) (t : Fin 2 × Fin 3) : Op F :=
  .waitDma2 (sendS t) (ownSlot t.1 d) (srcM t.1) (((land_whole t.1).wordExact_slice rfl _ (k1_off1_wordsbf16 d)).reshape _ _) (src_whole t.1).wordExact
variable (F) in
def gotOp (d : Dev nD) (t : Fin 2 × Fin 3) : Op F :=
  .waitDma2 (recvS t) (srcM t.1) (peerSlot t.1 d t.2) (src_whole t.1).wordExact (((land_whole t.1).wordExact_slice rfl _ (k1_off2_wordsbf16 d t.2)).reshape _ _)
variable (F) in
def ownOp (d : Dev nD) (a : Fin 2) : Op F :=
  .waitDma2 (locS a) (srcM a) (ownSlot a d) (src_whole a).wordExact (((land_whole a).wordExact_slice rfl _ (k1_off1_wordsbf16 d)).reshape _ _)

set_option maxRecDepth 65536 in
theorem wait_eq (t : Fin cfg1.N) :
    (bodyAt1 t : Prog (TpuEff nD τ sig (Elt F) Λ₀ .tc) PUnit)
      = .op .deviceId fun d => (exch m).ts.foldr (fun t r => .op (sentOp F d t) fun _ => .op (gotOp F d t) fun _ => r) (Exch.run (exch m).bs (ownOp F d) (.ret ⟨⟩)) := by
  chain_rfl

/-! ## The program -/

abbrev argR : Fin 2 → Ref sig .tc := fun
  | 0 => main_arg0 | 1 => main_arg1

theorem stage_apart : ∀ k : Key (Fin 2) (Fin 3) (Fin 2), SemLoc.dma cc0_sem0_0 ≠ semOf barrier0 sendS recvS locS k := by decide
theorem cells_all : ∀ sm : SemLoc sig, sm.isScoped .tc = false → ∃ k : Key (Fin 2) (Fin 3) (Fin 2), sm = semOf barrier0 sendS recvS locS k := by decide
theorem cells_unscoped : ∀ k : Key (Fin 2) (Fin 3) (Fin 2), ¬ (semOf barrier0 sendS recvS locS k).isScoped .tc := by decide

abbrev srcR : Fin 2 → Ref sig .tc := fun a => (srcM a).view.ref
abbrev landR : Fin 2 → Ref sig .tc := fun a => (landM a).view.ref
abbrev tokR : Fin 1 → Ref sig .tc := fun _ => main_v3_7

theorem names_inj : Function.Injective (names argR srcR landR tokR) := by decide
theorem names_all : (Finset.univ.filter fun b : Ref sig .tc => ¬ b.isScoped) = Finset.univ.map ⟨_, names_inj⟩ := by decide
theorem touched_inj : Function.Injective fun j => (Proc.devRef .tc (Sum.elim argR srcR j) : DevRef τ sig) := by decide

abbrev pair : Pair nD τ sig (Elt F) Λ₀ (Fin 2) (Fin 3) (Fin 2) where
  E := exch m
  cfgs := cfgs
  defs₀ := defs₀
  N0 := N_0
  N1 := N_1
  W1 := rfl
  inj := cellOf_inj
  win0 := winFacts0
  win1 := winFacts1
  block0 := block_pos0
  stage0 := stage_whole0
  A₀ c w := match w with
    | ⟨0, _⟩ => m ((c : Thread nD τ).loc main_v3_7)
  after₀ w _ := match w with
    | ⟨0, _⟩ => token F
  apart w s k h := match w with
    | ⟨0, _⟩ => (stage_apart k) h
  cells := cells_all
  unscoped := cells_unscoped
  land := landR
  land_ok := by decide
  lands := [0, 1]
  bufs := touched argR srcR touched_inj
  ops := hostOps0_2
  ops_sub := by
    intro op h
    simp only [List.mem_cons, List.mem_nil_iff, _root_.or_false] at h
    rcases h with rfl | rfl
    · show ({Proc.devRef .tc main_arg0, Proc.devRef .tc main_v3_3} : Finset (DevRef τ sig)) ⊆ _; decide
    · show ({Proc.devRef .tc main_arg1, Proc.devRef .tc main_v3_4} : Finset (DevRef τ sig)) ⊆ _; decide
  ops_fresh := by
    intro op h
    simp only [List.mem_cons, List.mem_nil_iff, _root_.or_false] at h
    rcases h with rfl | rfl <;> rfl
  V₀ c b := m ((c : Thread nD τ).1, b)
  keep _ := BI.emp

theorem start_body : (pair m).StartBody :=
  (pair m).start_of (fun t => st0_0 t) (token F) (off := ![0, 0]) (by decide) (fun c t => ((pair m).dat0 c).before (0 : Fin 1) t) (fun _ _ => bigSep_W0 _) (fun _ _ => bigSep_W0 _)
    sop (fun c i => ⟨sigDev c i, sigDev_eq c i, rfl⟩) (top m) (fun c t => ⟨copyDev c t, copyDev_eq c t, _, _, _, _, rfl⟩) (lop m) (fun _ _ => ⟨_, _, _, rfl⟩)
    (fun c t Q => congrArg (fun p => wp frame (wpE defs₀ 𝒱₀ (c : Thread nD τ) none) Set.univ p fun _ => Q) (start_eq m t))

theorem wait_body : (pair m).WaitBody :=
  (pair m).wait_of (sentOp F) (gotOp F) (ownOp F) (fun _ _ _ => rfl) (fun _ _ _ => rfl) (fun _ _ _ => rfl)
    (fun c t Q => congrArg (fun p => wp frame (wpE defs₀ 𝒱₀ (c : Thread nD τ) none) Set.univ p fun _ => Q) (wait_eq m t))

/-! ## The buffers -/

local notation "𝕄" => MT nD τ sig Unit (Elt F) ℕ (UU nD τ sig (Pay (Fin 2) (Fin 3) (Fin 2))) ℕ

/-- A source buffer, shared among its readers. -/
theorem src_split (c : Dev nD) (a : Fin 2) : ((c : Thread nD τ).loc (srcR a) ↦{fullShare} srcX m c a : sProp 𝕄)
    = iprop((bigSep Finset.univ fun i => (exch m).source c (a, i)) ∗ (exch m).lsource c a) :=
  (congrArg (fun S => ((c : Thread nD τ).loc (srcR a) ↦[S]{fullShare} srcX m c a : sProp 𝕄)) (src_whole a).set_eq_univ.symm).trans
    (shares_split _ (srcX m c a))

abbrev moves : (pair m).Moves m where
  arg := argR
  src := srcR
  tok := tokR
  names_inj := names_inj
  names_all := names_all
  touched_inj := touched_inj
  bufs_eq := rfl
  keep_eq := rfl
  V₀_eq := rfl
  srcX := srcX m
  landX := landX m
  after_arg c a := match a with
    | 0 => by show StableHlo.after hostOps0_2 _ _ = _; after_results
    | 1 => by show StableHlo.after hostOps0_2 _ _ = _; after_results
  after_src c a := match a with
    | 0 => by show StableHlo.after hostOps0_2 _ _ = _; after_results; rfl
    | 1 => by show StableHlo.after hostOps0_2 _ _ = _; after_results; rfl
  arrays_eq c := (bigSep_W0 _).trans ((congrArg (fun S => ((c : Thread nD τ).loc main_v3_7 ↦[S]{fullShare} m ((c : Thread nD τ).loc main_v3_7) : sProp 𝕄)) (arr_whole0 0).set_eq_univ).trans
    (bigSep_W0 fun w => ((c : Thread nD τ).loc (tokR w) ↦{fullShare} m ((c : Thread nD τ).loc (tokR w)) : sProp 𝕄)).symm)
  split c := Entails.of_eq (by rw [bigSep_congr fun a _ => src_split m c a, bigSep_sep', bigSep_univ_prod])
  room := (four m).rooms_whole land_whole
  join := (four m).joined_whole land_whole

theorem idle (w g) : ((pair m).cfgs 0).idle w g = false := match w with
  | ⟨0, _⟩ => rfl

/-- THE RUN, over any float values: every device's results are the arrays of the chips, its arguments are as they were. -/
theorem run_main [∀ e, Nonempty (Elt F e)] (ρ : Dev nD → PrngReg) :
    θ_run (defs (F := F)) (onTc (τ := τ) (main (F := F))) ⟨m, fun _ => 0, ρ⟩
      (fun r => (∀ c : Dev nD, (∀ a, r.2.mem ((landM a).view.loc (c : Thread nD τ)) = landX m c a)
          ∧ ∀ a, r.2.mem ((c : Thread nD τ).loc (argR a)) = m ((c : Thread nD τ).loc (argR a)))
        ∧ r.2.sem = fun _ => 0) :=
  (moves m).run_main (idle m) (start_body m) (wait_body m) ρ main
    (fun c => (main_chain c).trans (Eq.trans (by rfl) (Pipeline.Seg.run_eq_chain _).symm))

end Cert.GatherTwoProof

end
-- ==== Proof.GatherTwoValue.lean ====
/-
  The gather's exchange of two arrays of the first layer against its reference: the claims about the two.
-/
module

public import proofs.«01_k».proof.Proof.Values
public import proofs.«01_k».proof.Defs
public import proofs.«01_k».proof.Proof.GatherTwo
public import proofs.«01_k».proof.Proof.Gen.GatherTwo
public import proofs.«01_k».proof.Proof.Gen.GatherTwoRef
public import proofs.«01_k».proof.Proof.Gen.GatherTwoRefIdeal.Run

@[expose] public section

noncomputable section

namespace Cert.GatherTwoProof

open Idealize.ShloMosaic Idealize.ShloMosaic.TcCoe Idealize.SL.Sem Cert.Exchange

variable {F : FTy → Type} [FloatOps F]

/-- The reference's function of one array. -/
abbrev refOut (_ : Fin 2) : ((Sh2 5632 1024).Idx → Elt F .bf16) → (Sh32 704 1024).Idx → Elt F .bf16 :=
  collected Cert.GatherTwoRefIdeal.Gen.shapeCasts_S5632x1024_S4x2x704x1024 Cert.GatherTwoRefIdeal.Gen.transposes_S4x2x704x1024_S2x4x704x1024_1_0_2_3 Cert.GatherTwoRefIdeal.Gen.bcast_S2x4x704x1024_S1x2x4x704x1024_1_2_3_4
      Cert.GatherTwoRefIdeal.Gen.bcast_S1x2x4x704x1024_S4x2x4x704x1024_0_1_2_3_4 Cert.GatherTwoRefIdeal.Gen.shapeCasts_S4x2x4x704x1024_S32x704x1024

open Cert.GatherTwoIdeal Cert.GatherTwoIdeal.Gen

theorem frame [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono (fun _ h => ⟨fun c => ⟨(h.1 c).2 0, (h.1 c).2 1⟩, h.2⟩) (run_main m ρ)

/-- On devices that hold the blocks of the arrays, each ends with its blocks of the reference's arrays. -/
theorem value [∀ e, Nonempty (Elt F e)] (m : (ℓ : Loc nD τ sig) → Buf (Elt F) ℓ) (ρ : Dev nD → PrngReg) (x : (a : Fin 2) → (Sh2 5632 1024).Idx → Elt F .bf16)
    (h : ∀ c : Dev nD, m ((c : Thread nD τ).loc main_arg0) = Layout.block (Sh2 704 1024) (Sh2 5632 1024) 0 8 c (x 0)
      ∧ m ((c : Thread nD τ).loc main_arg1) = Layout.block (Sh2 704 1024) (Sh2 5632 1024) 0 8 c (x 1)) :
    θ_run (defs (F := F)) (onTc (τ := τ) (main (F := F))) ⟨m, fun _ => 0, ρ⟩ fun r => ∀ c : Dev nD,
      r.2.mem ((c : Thread nD τ).loc main_v1) = Layout.block (Sh4 704 1024) (Sh32 704 1024) 0 8 c (refOut 0 (x 0))
        ∧ r.2.mem ((c : Thread nD τ).loc main_v2) = Layout.block (Sh4 704 1024) (Sh32 704 1024) 0 8 c (refOut 1 (x 1))
        ∧ r.2.mem ((c : Thread nD τ).loc main_arg0) = m ((c : Thread nD τ).loc main_arg0)
        ∧ r.2.mem ((c : Thread nD τ).loc main_arg1) = m ((c : Thread nD τ).loc main_arg1) :=
  (θ_run defs _ _).mono (fun _ k c => ⟨((k.1 c).1 0).trans (gathered_block _ _ _ _ _ (X m 0) (x 0) _ _ (fun c => (h c).1) c),
    ((k.1 c).1 1).trans (gathered_block _ _ _ _ _ (X m 1) (x 1) _ _ (fun c => (h c).2) c),
    (k.1 c).2 0, (k.1 c).2 1⟩) (run_main m ρ)

/-! ## The claims -/

/-- The two printings are one program. -/
theorem defs_same : Cert.GatherTwo.defs (F := F) = defs (F := F) := by chain_rfl
theorem run_same (s : MemSt nD τ sig (Elt F)) (Q) :
    θ_run (Cert.GatherTwo.defs (F := F)) (onTc (τ := τ) (Cert.GatherTwo.main (F := F))) s Q = θ_run (defs (F := F)) (onTc (τ := τ) (main (F := F))) s Q := by
  rw [defs_same]; rfl

theorem quiescent_kernel : quiescent_GatherTwo := fun m g _ => (run_same _ _).mpr (frame (F := Bits) m g)
theorem quiescent_ideal : quiescent_GatherTwoIdeal := fun m g _ => frame m g
theorem quiescent_ref : quiescent_GatherTwoRef := fun m g _ =>
  (θ_run Cert.GatherTwoRef.defs _ _).mono (fun _ h => ⟨fun c => (h c).2.2, funext fun ⟨_, s⟩ => ((show ∀ _ : SemLoc Cert.GatherTwoRef.sig, False by decide) s).elim⟩)
    (Cert.GatherTwoRefIdeal.Value.run (F := Bits) m g)
theorem quiescent_refIdeal : quiescent_GatherTwoRefIdeal := fun m g _ =>
  (θ_run Cert.GatherTwoRefIdeal.defs _ _).mono (fun _ h => ⟨fun c => (h c).2.2, funext fun ⟨_, s⟩ => ((show ∀ _ : SemLoc Cert.GatherTwoRefIdeal.sig, False by decide) s).elim⟩)
    (Cert.GatherTwoRefIdeal.Value.run m g)

/-- The reference's arguments, as arrays. -/
abbrev args (m' : (ℓ : Loc Cert.GatherTwoRefIdeal.nD Cert.GatherTwoRefIdeal.τ Cert.GatherTwoRefIdeal.sig) → Buf (Elt F) ℓ) : (a : Fin 2) → (Sh2 5632 1024).Idx → Elt F .bf16 := fun
  | 0 => m' (((0 : Dev Cert.GatherTwoRefIdeal.nD) : Thread Cert.GatherTwoRefIdeal.nD Cert.GatherTwoRefIdeal.τ).loc Cert.GatherTwoRefIdeal.main_arg0)
  | 1 => m' (((0 : Dev Cert.GatherTwoRefIdeal.nD) : Thread Cert.GatherTwoRefIdeal.nD Cert.GatherTwoRefIdeal.τ).loc Cert.GatherTwoRefIdeal.main_arg1)

theorem algebraic : algebraic_GatherTwoIdeal_GatherTwoRefIdeal := fun m g m' g' _ h =>
  ⟨_, _, value m g (args m') h, (θ_run Cert.GatherTwoRefIdeal.defs _ _).mono (fun _ h => h 0) (Cert.GatherTwoRefIdeal.Value.run m' g')⟩

theorem bitexact : bitexact_GatherTwo_GatherTwoRef := fun m g m' g' _ h =>
  ⟨_, _, (run_same _ _).mpr (value (F := Bits) m g (args m') h),
    (θ_run Cert.GatherTwoRef.defs _ _).mono (fun _ h => h 0) (Cert.GatherTwoRefIdeal.Value.run (F := Bits) m' g')⟩

end Cert.GatherTwoProof

end
-- ==== Proof.GatherOne.lean ====
/-
  The gather's exchange, of one array of the first layer, `Cert.GatherOneIdeal`: a start kernel and a wait kernel. Each landing buffer
  has one slot per chip; a device sends all of its array to the other chips (of its own core), which keep it in the slot of
  the sender's chip. Here: the exchange's plan, its two kernels' bodies as runs through that plan, and the program's run.
-/
module

public import proofs.«01_k».proof.Proof.Scatter
public import proofs.«01_k».proof.Proof.Gen.GatherOneIdeal
public import proofs.«01_k».proof.Proof.Gen.GatherOneIdeal.Skeleton
public import proofs.«01_k».proof.Proof.Gen.GatherOneIdeal.Launch
public import proofs.«01_k».proof.Proof.Gen.GatherOneIdeal.Points

@[expose] public section

noncomputable section

namespace Cert.GatherOneProof

open Cert.GatherOneIdeal Cert.GatherOneIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The plan -/

/-- The source buffers and the landing buffers. -/
abbrev srcM : Fin 1 → Memref sig .tc .hbm S704x1024 .bf16 := fun
  | 0 => Memref.whole main_v2_3
abbrev landM : Fin 1 → Memref sig .tc .hbm S4x704x1024 .bf16 := fun
  | 0 => Memref.whole main_v1

theorem src_whole : ∀ a, (srcM a).IsWhole := fun
  | 0 => Memref.isWhole_whole _
theorem land_whole : ∀ a, (landM a).IsWhole := fun
  | 0 => Memref.isWhole_whole _

theorem off_own : ∀ c : Dev 8, k0_off1 c = ![(chip c).val, 0, 0] := by decide +kernel

variable (m : (ℓ : Loc nD τ sig) → Buf (Elt F) ℓ)

/-- What a device's argument `a` holds. -/
def X : (a : Fin 1) → Dev 8 → S704x1024.Idx → Elt F .bf16 := fun
  | 0 => fun c => m ((c : Thread nD τ).loc main_arg0)

/-- What the source buffers hold, and what the landing buffers hold at the end. -/
def srcX (c : Dev 8) : (a : Fin 1) → Buf (Elt F) ((srcM a).view.loc (c : Thread nD τ)) := fun
  | 0 => X m 0 c
def landX (c : Dev 8) : (a : Fin 1) → Buf (Elt F) ((landM a).view.loc (c : Thread nD τ)) := fun
  | 0 => gathered (X m 0) c

def sendS (t : Fin 1 × Fin 3) : DmaSem sig := ⟨3 * t.1.val + t.2.val, by revert t; decide⟩
def recvS (t : Fin 1 × Fin 3) : DmaSem sig := ⟨3 + (3 * t.1.val + t.2.val), by revert t; decide⟩
def locS (a : Fin 1) : DmaSem sig := ⟨6 + a.val, by revert a; decide⟩

def four : Four τ sig (Elt F) (Fin 1) where
  R _ := 704
  C _ := 1024
  el _ := .bf16
  lM := landM
  off _ := k0_off1
  hoff _ := off_own
  inb _ c := k0_off1_inb c
  sq _ := squeezes_S1x704x1024_S704x1024
  src _ t := srcM t.1
  lsrc _ := srcM
  q t := peerShare t.2
  ql _ := ownShare
  fs c t := srcX m c t.1
  fl c a := srcX m c a
  out p a := landX m p a
  hmove c t j := match t with
    | (0, i) => slot_gathered (X m 0) c _ (onChip_chip i c) (off_own c) _ j
  hlmove c a j := match a with
    | 0 => slot_gathered (X m 0) c _ (onChip_self c) (off_own c) _ j
  amt a := (((landM a).slice (Rect.unit (s := S4x704x1024) (k0_off1 0) S1x704x1024.size (k0_off1_inb 0)) fun _ => rfl).squeeze S704x1024 squeezes_S1x704x1024_S704x1024).view.dmaCredit
  amt_pos a := View.dmaCredit_pos _ (by decide)
  hamt a c := rfl
  bar := barrier0
  send := sendS
  recv := recvS
  loc := locS
  send_inj := by decide
  recv_inj := by decide
  loc_inj := by decide
  send_recv := by decide
  send_loc := by decide
  recv_loc := by decide
  arrs := [0]
  arrs_nodup := by decide
  arrs_all := by decide

abbrev exch : Exch nD τ sig (Elt F) (Fin 1) (Fin 3) (Fin 1) := (four m).toExch

/-! ## The bodies -/

/-- The device a signal goes to, and the device a copy goes to, as the start kernel computes them. -/
def sigDev (d : Dev nD) : Fin 3 → Dev nD := fun
  | 0 => ⟨k0_dev1 d, k0_dev1_lt d⟩ | 1 => ⟨k0_dev2 d, k0_dev2_lt d⟩ | 2 => ⟨k0_dev3 d, k0_dev3_lt d⟩
def copyDev (d : Dev nD) : Fin 1 × Fin 3 → Dev nD := fun
  | (0, 0) => ⟨k0_dev4 d, k0_dev4_lt d⟩ | (0, 1) => ⟨k0_dev5 d, k0_dev5_lt d⟩ | (0, 2) => ⟨k0_dev6 d, k0_dev6_lt d⟩

theorem sigDev_eq : ∀ (d : Dev nD) (i : Fin 3), sigDev d i = flipBy (bits3 i) d := by decide +kernel
theorem copyDev_eq : ∀ (d : Dev nD) (t : Fin 1 × Fin 3), copyDev d t = flipBy (bits3 t.2) d := by decide +kernel

variable (F) in
abbrev Op := TpuEff nD τ sig (Elt F) Λ₀ .tc PUnit

def sop (d : Dev nD) (i : Fin 3) : Op F := .semSignal (Dev.tc (sigDev d i)) barrier0 ((1 : ℕ) : ℤ)

def top (d : Dev nD) (t : Fin 1 × Fin 3) : Op F :=
  .enqueueDma (((four (F := F) m).toExch).src d t) (.remote (Dev.tc (copyDev d t)) ((four (F := F) m).toExch.dst d t) (.dma (sendS t))) (.dma (recvS t))
    (src_whole t.1).wordExact (((land_whole t.1).wordExact_slice rfl _ (k0_off1_wordsbf16 d)).reshape _ _) ⟨⟨rfl, Or.inl rfl⟩, trivial⟩

def lop (d : Dev nD) (a : Fin 1) : Op F :=
  .enqueueDma (((four (F := F) m).toExch).lsrc d a) (.here ((four (F := F) m).toExch.ldst d a)) (.dma (locS a))
    (src_whole a).wordExact (((land_whole a).wordExact_slice rfl _ (k0_off1_wordsbf16 d)).reshape _ _) ⟨Or.inl rfl, trivial⟩

variable (F) in
/-- The token's contents. -/
abbrev token : Vec F S8x128 .f32 := k0_pay1

/-- The end of the start kernel: a token is written, for the result that says the copies are under way. -/
abbrev stamp (M : Memref sig .tc .vmem S8x128 .f32) : Prog (TpuEff nD τ sig (Elt F) Λ₀ .tc) PUnit :=
  .op (.load M (Rect.unit (s := S8x128) ![0, 0] S8x128.size inb_S8x128_S8x128_0_0).toLoadRect (View.loadsAt_vmem h_S8x128)) fun _ =>
  .op (.store M (Rect.unit (s := S8x128) ![0, 0] S8x128.size inb_S8x128_S8x128_0_0) (token F) Finset.univ (View.stores_vmem_bits_univ h_S8x128 rfl) (.inl rfl)) fun _ => .ret ⟨⟩

set_option maxRecDepth 65536 in
theorem start_eq (t : Fin cfg0.N) :
    (bodyAt0 t : Prog (TpuEff nD τ sig (Elt F) Λ₀ .tc) PUnit)
      = .op .deviceId fun d => Exch.run (exch m).is (sop d) (.op (.semWait barrier0 (Fintype.card (Fin 3))) fun _ =>
          Exch.run (exch m).ts (top m d) (Exch.run (exch m).bs (lop m d) (stamp (st0_0 t)))) := by
  chain_rfl

/-- The wait kernel's waits name the slots of the landing buffers again, of the device's own chip or of a neighbour's. -/
abbrev ownSlot (a : Fin 1) (d : Dev nD) : Memref sig .tc .hbm S704x1024 .bf16 :=
  ((landM a).slice (Rect.unit (s := S4x704x1024) (k1_off1 d) S1x704x1024.size (k1_off1_inb d)) fun _ => rfl).squeeze _ squeezes_S1x704x1024_S704x1024
abbrev peerSlot (a : Fin 1) (d : Dev nD) (i : Fin 3) : Memref sig .tc .hbm S704x1024 .bf16 :=
  ((landM a).slice (Rect.unit (s := S4x704x1024) (k1_off2 d (k1_off2_at i).1 (k1_off2_at i).2) S1x704x1024.size (k1_off2_inb d i)) fun _ => rfl).squeeze _ squeezes_S1x704x1024_S704x1024

variable (F) in
def sentOp (d : Dev nD) (t : Fin 1 × Fin 3) : Op F :=
  .waitDma2 (sendS t) (ownSlot t.1 d) (srcM t.1) (((land_whole t.1).wordExact_slice rfl _ (k1_off1_wordsbf16 d)).reshape _ _) (src_whole t.1).wordExact
variable (F) in
def gotOp (d : Dev nD) (t : Fin 1 × Fin 3) : Op F :=
  .waitDma2 (recvS t) (srcM t.1) (peerSlot t.1 d t.2) (src_whole t.1).wordExact (((land_whole t.1).wordExact_slice rfl _ (k1_off2_wordsbf16 d t.2)).reshape _ _)
variable (F) in
def ownOp (d : Dev nD) (a : Fin 1) : Op F :=
  .waitDma2 (locS a) (srcM a) (ownSlot a d) (src_whole a).wordExact (((land_whole a).wordExact_slice rfl _ (k1_off1_wordsbf16 d)).reshape _ _)

set_option maxRecDepth 65536 in
theorem wait_eq (t : Fin cfg1.N) :
    (bodyAt1 t : Prog (TpuEff nD τ sig (Elt F) Λ₀ .tc) PUnit)
      = .op .deviceId fun d => (exch m).ts.foldr (fun t r => .op (sentOp F d t) fun _ => .op (gotOp F d t) fun _ => r) (Exch.run (exch m).bs (ownOp F d) (.ret ⟨⟩)) := by
  chain_rfl

/-! ## The program -/

abbrev argR : Fin 1 → Ref sig .tc := fun
  | 0 => main_arg0

theorem stage_apart : ∀ k : Key (Fin 1) (Fin 3) (Fin 1), SemLoc.dma cc0_sem0_0 ≠ semOf barrier0 sendS recvS locS k := by decide
theorem cells_all : ∀ sm : SemLoc sig, sm.isScoped .tc = false → ∃ k : Key (Fin 1) (Fin 3) (Fin 1), sm = semOf barrier0 sendS recvS locS k := by decide
theorem cells_unscoped : ∀ k : Key (Fin 1) (Fin 3) (Fin 1), ¬ (semOf barrier0 sendS recvS locS k).isScoped .tc := by decide

abbrev srcR : Fin 1 → Ref sig .tc := fun a => (srcM a).view.ref
abbrev landR : Fin 1 → Ref sig .tc := fun a => (landM a).view.ref
abbrev tokR : Fin 1 → Ref sig .tc := fun _ => main_v2_5

theorem names_inj : Function.Injective (names argR srcR landR tokR) := by decide
theorem names_all : (Finset.univ.filter fun b : Ref sig .tc => ¬ b.isScoped) = Finset.univ.map ⟨_, names_inj⟩ := by decide
theorem touched_inj : Function.Injective fun j => (Proc.devRef .tc (Sum.elim argR srcR j) : DevRef τ sig) := by decide

abbrev pair : Pair nD τ sig (Elt F) Λ₀ (Fin 1) (Fin 3) (Fin 1) where
  E := exch m
  cfgs := cfgs
  defs₀ := defs₀
  N0 := N_0
  N1 := N_1
  W1 := rfl
  inj := cellOf_inj
  win0 := winFacts0
  win1 := winFacts1
  block0 := block_pos0
  stage0 := stage_whole0
  A₀ c w := match w with
    | ⟨0, _⟩ => m ((c : Thread nD τ).loc main_v2_5)
  after₀ w _ := match w with
    | ⟨0, _⟩ => token F
  apart w s k h := match w with
    | ⟨0, _⟩ => (stage_apart k) h
  cells := cells_all
  unscoped := cells_unscoped
  land := landR
  land_ok := by decide
  lands := [0]
  bufs := touched argR srcR touched_inj
  ops := hostOps0_1
  ops_sub := by
    intro op h
    simp only [List.mem_cons, List.mem_nil_iff, _root_.or_false] at h
    subst h
    show ({Proc.devRef .tc main_arg0, Proc.devRef .tc main_v2_3} : Finset (DevRef τ sig)) ⊆ _; decide
  ops_fresh := by
    intro op h
    simp only [List.mem_cons, List.mem_nil_iff, _root_.or_false] at h
    subst h; rfl
  V₀ c b := m ((c : Thread nD τ).1, b)
  keep _ := BI.emp

theorem start_body : (pair m).StartBody :=
  (pair m).start_of (fun t => st0_0 t) (token F) (off := ![0, 0]) (by decide) (fun c t => ((pair m).dat0 c).before (0 : Fin 1) t) (fun _ _ => bigSep_W0 _) (fun _ _ => bigSep_W0 _)
    sop (fun c i => ⟨sigDev c i, sigDev_eq c i, rfl⟩) (top m) (fun c t => ⟨copyDev c t, copyDev_eq c t, _, _, _, _, rfl⟩) (lop m) (fun _ _ => ⟨_, _, _, rfl⟩)
    (fun c t Q => congrArg (fun p => wp frame (wpE defs₀ 𝒱₀ (c : Thread nD τ) none) Set.univ p fun _ => Q) (start_eq m t))

theorem wait_body : (pair m).WaitBody :=
  (pair m).wait_of (sentOp F) (gotOp F) (ownOp F) (fun _ _ _ => rfl) (fun _ _ _ => rfl) (fun _ _ _ => rfl)
    (fun c t Q => congrArg (fun p => wp frame (wpE defs₀ 𝒱₀ (c : Thread nD τ) none) Set.univ p fun _ => Q) (wait_eq m t))

/-! ## The buffers -/

local notation "𝕄" => MT nD τ sig Unit (Elt F) ℕ (UU nD τ sig (Pay (Fin 1) (Fin 3) (Fin 1))) ℕ

/-- A source buffer, shared among its readers. -/
theorem src_split (c : Dev nD) (a : Fin 1) : ((c : Thread nD τ).loc (srcR a) ↦{fullShare} srcX m c a : sProp 𝕄)
    = iprop((bigSep Finset.univ fun i => (exch m).source c (a, i)) ∗ (exch m).lsource c a) :=
  (congrArg (fun S => ((c : Thread nD τ).loc (srcR a) ↦[S]{fullShare} srcX m c a : sProp 𝕄)) (src_whole a).set_eq_univ.symm).trans
    (shares_split _ (srcX m c a))

abbrev moves : (pair m).Moves m where
  arg := argR
  src := srcR
  tok := tokR
  names_inj := names_inj
  names_all := names_all
  touched_inj := touched_inj
  bufs_eq := rfl
  keep_eq := rfl
  V₀_eq := rfl
  srcX := srcX m
  landX := landX m
  after_arg c a := match a with
    | 0 => by show StableHlo.after hostOps0_1 _ _ = _; after_results
  after_src c a := match a with
    | 0 => by show StableHlo.after hostOps0_1 _ _ = _; after_results; rfl
  arrays_eq c := (bigSep_W0 _).trans ((congrArg (fun S => ((c : Thread nD τ).loc main_v2_5 ↦[S]{fullShare} m ((c : Thread nD τ).loc main_v2_5) : sProp 𝕄)) (arr_whole0 0).set_eq_univ).trans
    (bigSep_W0 fun w => ((c : Thread nD τ).loc (tokR w) ↦{fullShare} m ((c : Thread nD τ).loc (tokR w)) : sProp 𝕄)).symm)
  split c := Entails.of_eq (by rw [bigSep_congr fun a _ => src_split m c a, bigSep_sep', bigSep_univ_prod])
  room := (four m).rooms_whole land_whole
  join := (four m).joined_whole land_whole

theorem idle (w g) : ((pair m).cfgs 0).idle w g = false := match w with
  | ⟨0, _⟩ => rfl

/-- THE RUN, over any float values: every device's results are the arrays of the chips, its arguments are as they were. -/
theorem run_main [∀ e, Nonempty (Elt F e)] (ρ : Dev nD → PrngReg) :
    θ_run (defs (F := F)) (onTc (τ := τ) (main (F := F))) ⟨m, fun _ => 0, ρ⟩
      (fun r => (∀ c : Dev nD, (∀ a, r.2.mem ((landM a).view.loc (c : Thread nD τ)) = landX m c a)
          ∧ ∀ a, r.2.mem ((c : Thread nD τ).loc (argR a)) = m ((c : Thread nD τ).loc (argR a)))
        ∧ r.2.sem = fun _ => 0) :=
  (moves m).run_main (idle m) (start_body m) (wait_body m) ρ main
    (fun c => (main_chain c).trans (Eq.trans (by rfl) (Pipeline.Seg.run_eq_chain _).symm))

end Cert.GatherOneProof

end
-- ==== Proof.GatherOneValue.lean ====
/-
  The gather's exchange of one array of the first layer against its reference: the claims about the two.
-/
module

public import proofs.«01_k».proof.Proof.Values
public import proofs.«01_k».proof.Defs
public import proofs.«01_k».proof.Proof.GatherOne
public import proofs.«01_k».proof.Proof.Gen.GatherOne
public import proofs.«01_k».proof.Proof.Gen.GatherOneRef
public import proofs.«01_k».proof.Proof.Gen.GatherOneRefIdeal.Run

@[expose] public section

noncomputable section

namespace Cert.GatherOneProof

open Idealize.ShloMosaic Idealize.ShloMosaic.TcCoe Idealize.SL.Sem Cert.Exchange

variable {F : FTy → Type} [FloatOps F]

/-- The reference's function of one array. -/
abbrev refOut (_ : Fin 1) : ((Sh2 5632 1024).Idx → Elt F .bf16) → (Sh32 704 1024).Idx → Elt F .bf16 :=
  collected Cert.GatherOneRefIdeal.Gen.shapeCasts_S5632x1024_S4x2x704x1024 Cert.GatherOneRefIdeal.Gen.transposes_S4x2x704x1024_S2x4x704x1024_1_0_2_3 Cert.GatherOneRefIdeal.Gen.bcast_S2x4x704x1024_S1x2x4x704x1024_1_2_3_4
      Cert.GatherOneRefIdeal.Gen.bcast_S1x2x4x704x1024_S4x2x4x704x1024_0_1_2_3_4 Cert.GatherOneRefIdeal.Gen.shapeCasts_S4x2x4x704x1024_S32x704x1024

open Cert.GatherOneIdeal Cert.GatherOneIdeal.Gen

theorem frame [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0))
      ∧ r.2.sem = fun _ => 0 :=
  (θ_run defs _ _).mono (fun _ h => ⟨fun c => (h.1 c).2 0, h.2⟩) (run_main m ρ)

/-- On devices that hold the blocks of the arrays, each ends with its blocks of the reference's arrays. -/
theorem value [∀ e, Nonempty (Elt F e)] (m : (ℓ : Loc nD τ sig) → Buf (Elt F) ℓ) (ρ : Dev nD → PrngReg) (x : (a : Fin 1) → (Sh2 5632 1024).Idx → Elt F .bf16)
    (h : ∀ c : Dev nD, m ((c : Thread nD τ).loc main_arg0) = Layout.block (Sh2 704 1024) (Sh2 5632 1024) 0 8 c (x 0)) :
    θ_run (defs (F := F)) (onTc (τ := τ) (main (F := F))) ⟨m, fun _ => 0, ρ⟩ fun r => ∀ c : Dev nD,
      r.2.mem ((c : Thread nD τ).loc main_v1) = Layout.block (Sh4 704 1024) (Sh32 704 1024) 0 8 c (refOut 0 (x 0))
        ∧ r.2.mem ((c : Thread nD τ).loc main_arg0) = m ((c : Thread nD τ).loc main_arg0) :=
  (θ_run defs _ _).mono (fun _ k c => ⟨((k.1 c).1 0).trans (gathered_block _ _ _ _ _ (X m 0) (x 0) _ _ (fun c => (h c)) c),
    (k.1 c).2 0⟩) (run_main m ρ)

/-! ## The claims -/

/-- The two printings are one program. -/
theorem defs_same : Cert.GatherOne.defs (F := F) = defs (F := F) := by chain_rfl
theorem run_same (s : MemSt nD τ sig (Elt F)) (Q) :
    θ_run (Cert.GatherOne.defs (F := F)) (onTc (τ := τ) (Cert.GatherOne.main (F := F))) s Q = θ_run (defs (F := F)) (onTc (τ := τ) (main (F := F))) s Q := by
  rw [defs_same]; rfl

theorem quiescent_kernel : quiescent_GatherOne := fun m g _ => (run_same _ _).mpr (frame (F := Bits) m g)
theorem quiescent_ideal : quiescent_GatherOneIdeal := fun m g _ => frame m g
theorem quiescent_ref : quiescent_GatherOneRef := fun m g _ =>
  (θ_run Cert.GatherOneRef.defs _ _).mono (fun _ h => ⟨fun c => (h c).2, funext fun ⟨_, s⟩ => ((show ∀ _ : SemLoc Cert.GatherOneRef.sig, False by decide) s).elim⟩)
    (Cert.GatherOneRefIdeal.Value.run (F := Bits) m g)
theorem quiescent_refIdeal : quiescent_GatherOneRefIdeal := fun m g _ =>
  (θ_run Cert.GatherOneRefIdeal.defs _ _).mono (fun _ h => ⟨fun c => (h c).2, funext fun ⟨_, s⟩ => ((show ∀ _ : SemLoc Cert.GatherOneRefIdeal.sig, False by decide) s).elim⟩)
    (Cert.GatherOneRefIdeal.Value.run m g)

/-- The reference's arguments, as arrays. -/
abbrev args (m' : (ℓ : Loc Cert.GatherOneRefIdeal.nD Cert.GatherOneRefIdeal.τ Cert.GatherOneRefIdeal.sig) → Buf (Elt F) ℓ) : (a : Fin 1) → (Sh2 5632 1024).Idx → Elt F .bf16 := fun
  | 0 => m' (((0 : Dev Cert.GatherOneRefIdeal.nD) : Thread Cert.GatherOneRefIdeal.nD Cert.GatherOneRefIdeal.τ).loc Cert.GatherOneRefIdeal.main_arg0)

theorem algebraic : algebraic_GatherOneIdeal_GatherOneRefIdeal := fun m g m' g' _ h =>
  ⟨_, value m g (args m') h, (θ_run Cert.GatherOneRefIdeal.defs _ _).mono (fun _ h => h 0) (Cert.GatherOneRefIdeal.Value.run m' g')⟩

theorem bitexact : bitexact_GatherOne_GatherOneRef := fun m g m' g' _ h =>
  ⟨_, (run_same _ _).mpr (value (F := Bits) m g (args m') h),
    (θ_run Cert.GatherOneRef.defs _ _).mono (fun _ h => h 0) (Cert.GatherOneRefIdeal.Value.run (F := Bits) m' g')⟩

end Cert.GatherOneProof

end
-- ==== Proof.Everyone.lean ====
/-
  The exchange of all the devices, `Cert.EveryoneIdeal`: a start kernel and a wait kernel over one array. The landing buffer
  has one slot per device; a device sends all of its array to the seven others, which keep it in the sender's slot. Here: the
  exchange's plan, its two kernels' bodies as runs through that plan, and the program's run.
-/
module

public import proofs.«01_k».proof.Proof.Scatter
public import proofs.«01_k».proof.Proof.Gen.EveryoneIdeal
public import proofs.«01_k».proof.Proof.Gen.EveryoneIdeal.Skeleton
public import proofs.«01_k».proof.Proof.Gen.EveryoneIdeal.Launch
public import proofs.«01_k».proof.Proof.Gen.EveryoneIdeal.Points

@[expose] public section

noncomputable section

namespace Cert.EveryoneProof

open Cert.EveryoneIdeal Cert.EveryoneIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The plan -/

/-- The source buffers and the landing buffers. -/
abbrev srcM : Fin 1 → Memref sig .tc .hbm S624x1024 .f32 := fun
  | 0 => Memref.whole main_v2_3
abbrev landM : Fin 1 → Memref sig .tc .hbm S8x624x1024 .f32 := fun
  | 0 => Memref.whole main_v1

theorem src_whole : ∀ a, (srcM a).IsWhole := fun
  | 0 => Memref.isWhole_whole _
theorem land_whole : ∀ a, (landM a).IsWhole := fun
  | 0 => Memref.isWhole_whole _

theorem off_own : ∀ c : Dev 8, k0_off1 c = ![(c : Fin 8).val, 0, 0] := by decide +kernel

variable (m : (ℓ : Loc nD τ sig) → Buf (Elt F) ℓ)

/-- What a device's argument `a` holds. -/
def X : (a : Fin 1) → Dev 8 → S624x1024.Idx → Elt F .f32 := fun
  | 0 => fun c => m ((c : Thread nD τ).loc main_arg0)

/-- What a landing buffer holds at the end: in each device's slot that device's array. -/
abbrev everyones {α : Type} (Y : Dev 8 → S624x1024.Idx → α) : S8x624x1024.Idx → α := slotted (id : Fin 8 → Dev 8) Y

/-- What the source buffers hold, and what the landing buffers hold at the end. -/
def srcX (c : Dev 8) : (a : Fin 1) → Buf (Elt F) ((srcM a).view.loc (c : Thread nD τ)) := fun
  | 0 => X m 0 c
def landX (c : Dev 8) : (a : Fin 1) → Buf (Elt F) ((landM a).view.loc (c : Thread nD τ)) := fun
  | 0 => everyones (X m 0)

/-- The readers of a source: the seven transfers and the local copy. -/
def readers : Fin 7 ⊕ Fin 1 ≃ Fin (2 ^ 3) := (finSumFinEquiv : Fin 7 ⊕ Fin 1 ≃ Fin (7 + 1))

def sendS (t : Fin 1 × Fin 7) : DmaSem sig := ⟨7 * t.1.val + t.2.val, by revert t; decide⟩
def recvS (t : Fin 1 × Fin 7) : DmaSem sig := ⟨7 + (7 * t.1.val + t.2.val), by revert t; decide⟩
def locS (a : Fin 1) : DmaSem sig := ⟨14 + a.val, by revert a; decide⟩

def plan : Within devs τ sig (Elt F) (Fin 1) where
  R _ := 624
  C _ := 1024
  el _ := .f32
  lM := landM
  off _ := k0_off1
  hoff _ := off_own
  inb _ c := k0_off1_inb c
  sq _ := squeezes_S1x624x1024_S624x1024
  src _ t := srcM t.1
  lsrc _ := srcM
  q t := partOf readers (Sum.inl t.2)
  ql _ := partOf readers (Sum.inr 0)
  fs c t := srcX m c t.1
  fl c a := srcX m c a
  out p a := landX m p a
  hmove c t j := match t with
    | (0, _) => slot_slotted id (X m 0) c c rfl (off_own c) _ j
  hlmove c a j := match a with
    | 0 => slot_slotted id (X m 0) c c rfl (off_own c) _ j
  amt a := (((landM a).slice (Rect.unit (s := S8x624x1024) (k0_off1 0) S1x624x1024.size (k0_off1_inb 0)) fun _ => rfl).squeeze S624x1024 squeezes_S1x624x1024_S624x1024).view.dmaCredit
  amt_pos a := View.dmaCredit_pos _ (by decide)
  hamt a c := rfl
  bar := barrier0
  send := sendS
  recv := recvS
  loc := locS
  send_inj := by decide
  recv_inj := by decide
  loc_inj := by decide
  send_recv := by decide
  send_loc := by decide
  recv_loc := by decide
  arrs := [0]
  arrs_nodup := by decide
  arrs_all := by decide

abbrev exch : Exch nD τ sig (Elt F) (Fin 1) (Fin 7) (Fin 1) := (plan m).toExch

/-! ## The bodies -/

/-- The device a signal goes to, and the device a copy goes to, as the start kernel computes them. -/
def sigDev (d : Dev nD) : Fin 7 → Dev nD := fun
  | 0 => ⟨k0_dev1 d, k0_dev1_lt d⟩ | 1 => ⟨k0_dev2 d, k0_dev2_lt d⟩ | 2 => ⟨k0_dev3 d, k0_dev3_lt d⟩ | 3 => ⟨k0_dev4 d, k0_dev4_lt d⟩ | 4 => ⟨k0_dev5 d, k0_dev5_lt d⟩ | 5 => ⟨k0_dev6 d, k0_dev6_lt d⟩ | 6 => ⟨k0_dev7 d, k0_dev7_lt d⟩
def copyDev (d : Dev nD) : Fin 1 × Fin 7 → Dev nD := fun
  | (0, 0) => ⟨k0_dev8 d, k0_dev8_lt d⟩ | (0, 1) => ⟨k0_dev9 d, k0_dev9_lt d⟩ | (0, 2) => ⟨k0_dev10 d, k0_dev10_lt d⟩ | (0, 3) => ⟨k0_dev11 d, k0_dev11_lt d⟩ | (0, 4) => ⟨k0_dev12 d, k0_dev12_lt d⟩ | (0, 5) => ⟨k0_dev13 d, k0_dev13_lt d⟩ | (0, 6) => ⟨k0_dev14 d, k0_dev14_lt d⟩

theorem sigDev_eq : ∀ (d : Dev nD) (i : Fin 7), sigDev d i = flipBy (bits7 i) d := by decide +kernel
theorem copyDev_eq : ∀ (d : Dev nD) (t : Fin 1 × Fin 7), copyDev d t = flipBy (bits7 t.2) d := by decide +kernel

variable (F) in
abbrev Op := TpuEff nD τ sig (Elt F) Λ₀ .tc PUnit

def sop (d : Dev nD) (i : Fin 7) : Op F := .semSignal (Dev.tc (sigDev d i)) barrier0 ((1 : ℕ) : ℤ)

def top (d : Dev nD) (t : Fin 1 × Fin 7) : Op F :=
  .enqueueDma (((plan (F := F) m).toExch).src d t) (.remote (Dev.tc (copyDev d t)) ((plan (F := F) m).toExch.dst d t) (.dma (sendS t))) (.dma (recvS t))
    (src_whole t.1).wordExact ((View.wordExact_bits rfl).reshape _ _) ⟨⟨rfl, Or.inl rfl⟩, trivial⟩

def lop (d : Dev nD) (a : Fin 1) : Op F :=
  .enqueueDma (((plan (F := F) m).toExch).lsrc d a) (.here ((plan (F := F) m).toExch.ldst d a)) (.dma (locS a))
    (src_whole a).wordExact ((View.wordExact_bits rfl).reshape _ _) ⟨Or.inl rfl, trivial⟩

variable (F) in
/-- The token's contents. -/
abbrev token : Vec F S8x128 .f32 := k0_pay1

/-- The end of the start kernel: a token is written, for the result that says the copies are under way. -/
abbrev stamp (M : Memref sig .tc .vmem S8x128 .f32) : Prog (TpuEff nD τ sig (Elt F) Λ₀ .tc) PUnit :=
  .op (.load M (Rect.unit (s := S8x128) ![0, 0] S8x128.size inb_S8x128_S8x128_0_0).toLoadRect (View.loadsAt_vmem h_S8x128)) fun _ =>
  .op (.store M (Rect.unit (s := S8x128) ![0, 0] S8x128.size inb_S8x128_S8x128_0_0) (token F) Finset.univ (View.stores_vmem_bits_univ h_S8x128 rfl) (.inl rfl)) fun _ => .ret ⟨⟩

set_option maxRecDepth 65536 in
theorem start_eq (t : Fin cfg0.N) :
    (bodyAt0 t : Prog (TpuEff nD τ sig (Elt F) Λ₀ .tc) PUnit)
      = .op .deviceId fun d => Exch.run (exch m).is (sop d) (.op (.semWait barrier0 (Fintype.card (Fin 7))) fun _ =>
          Exch.run (exch m).ts (top m d) (Exch.run (exch m).bs (lop m d) (stamp (st0_0 t)))) := by
  chain_rfl

/-- The wait kernel's waits name the slots of the landing buffers again, the device's own or another's. -/
abbrev ownSlot (a : Fin 1) (d : Dev nD) : Memref sig .tc .hbm S624x1024 .f32 :=
  ((landM a).slice (Rect.unit (s := S8x624x1024) (k1_off1 d) S1x624x1024.size (k1_off1_inb d)) fun _ => rfl).squeeze _ squeezes_S1x624x1024_S624x1024
abbrev peerSlot (a : Fin 1) (d : Dev nD) (i : Fin 7) : Memref sig .tc .hbm S624x1024 .f32 :=
  ((landM a).slice (Rect.unit (s := S8x624x1024) (k1_off2 d (k1_off2_at i).1 (k1_off2_at i).2.1 (k1_off2_at i).2.2) S1x624x1024.size (k1_off2_inb d i)) fun _ => rfl).squeeze _ squeezes_S1x624x1024_S624x1024

variable (F) in
def sentOp (d : Dev nD) (t : Fin 1 × Fin 7) : Op F :=
  .waitDma2 (sendS t) (ownSlot t.1 d) (srcM t.1) ((View.wordExact_bits rfl).reshape _ _) (src_whole t.1).wordExact
variable (F) in
def gotOp (d : Dev nD) (t : Fin 1 × Fin 7) : Op F :=
  .waitDma2 (recvS t) (srcM t.1) (peerSlot t.1 d t.2) (src_whole t.1).wordExact ((View.wordExact_bits rfl).reshape _ _)
variable (F) in
def ownOp (d : Dev nD) (a : Fin 1) : Op F :=
  .waitDma2 (locS a) (srcM a) (ownSlot a d) (src_whole a).wordExact ((View.wordExact_bits rfl).reshape _ _)

set_option maxRecDepth 65536 in
theorem wait_eq (t : Fin cfg1.N) :
    (bodyAt1 t : Prog (TpuEff nD τ sig (Elt F) Λ₀ .tc) PUnit)
      = .op .deviceId fun d => (exch m).ts.foldr (fun t r => .op (sentOp F d t) fun _ => .op (gotOp F d t) fun _ => r) (Exch.run (exch m).bs (ownOp F d) (.ret ⟨⟩)) := by
  chain_rfl

/-! ## The program -/

abbrev argR : Fin 1 → Ref sig .tc := fun
  | 0 => main_arg0

theorem stage_apart : ∀ k : Key (Fin 1) (Fin 7) (Fin 1), SemLoc.dma cc0_sem0_0 ≠ semOf barrier0 sendS recvS locS k := by decide
theorem cells_all : ∀ sm : SemLoc sig, sm.isScoped .tc = false → ∃ k : Key (Fin 1) (Fin 7) (Fin 1), sm = semOf barrier0 sendS recvS locS k := by decide
theorem cells_unscoped : ∀ k : Key (Fin 1) (Fin 7) (Fin 1), ¬ (semOf barrier0 sendS recvS locS k).isScoped .tc := by decide

abbrev srcR : Fin 1 → Ref sig .tc := fun a => (srcM a).view.ref
abbrev landR : Fin 1 → Ref sig .tc := fun a => (landM a).view.ref
abbrev tokR : Fin 1 → Ref sig .tc := fun _ => main_v2_5

theorem names_inj : Function.Injective (names argR srcR landR tokR) := by decide
theorem names_all : (Finset.univ.filter fun b : Ref sig .tc => ¬ b.isScoped) = Finset.univ.map ⟨_, names_inj⟩ := by decide
theorem touched_inj : Function.Injective fun j => (Proc.devRef .tc (Sum.elim argR srcR j) : DevRef τ sig) := by decide

abbrev pair : Pair nD τ sig (Elt F) Λ₀ (Fin 1) (Fin 7) (Fin 1) where
  E := exch m
  cfgs := cfgs
  defs₀ := defs₀
  N0 := N_0
  N1 := N_1
  W1 := rfl
  inj := cellOf_inj
  win0 := winFacts0
  win1 := winFacts1
  block0 := block_pos0
  stage0 := stage_whole0
  A₀ c w := match w with
    | ⟨0, _⟩ => m ((c : Thread nD τ).loc main_v2_5)
  after₀ w _ := match w with
    | ⟨0, _⟩ => token F
  apart w s k h := match w with
    | ⟨0, _⟩ => (stage_apart k) h
  cells := cells_all
  unscoped := cells_unscoped
  land := landR
  land_ok := by decide
  lands := [0]
  bufs := touched argR srcR touched_inj
  ops := hostOps0_1
  ops_sub := by
    intro op h
    simp only [List.mem_cons, List.mem_nil_iff, _root_.or_false] at h
    subst h
    show ({Proc.devRef .tc main_arg0, Proc.devRef .tc main_v2_3} : Finset (DevRef τ sig)) ⊆ _; decide
  ops_fresh := by
    intro op h
    simp only [List.mem_cons, List.mem_nil_iff, _root_.or_false] at h
    subst h; rfl
  V₀ c b := m ((c : Thread nD τ).1, b)
  keep _ := BI.emp

theorem start_body : (pair m).StartBody :=
  (pair m).start_of (fun t => st0_0 t) (token F) (off := ![0, 0]) (by decide) (fun c t => ((pair m).dat0 c).before (0 : Fin 1) t) (fun _ _ => bigSep_W0 _) (fun _ _ => bigSep_W0 _)
    sop (fun c i => ⟨sigDev c i, sigDev_eq c i, rfl⟩) (top m) (fun c t => ⟨copyDev c t, copyDev_eq c t, _, _, _, _, rfl⟩) (lop m) (fun _ _ => ⟨_, _, _, rfl⟩)
    (fun c t Q => congrArg (fun p => wp frame (wpE defs₀ 𝒱₀ (c : Thread nD τ) none) Set.univ p fun _ => Q) (start_eq m t))

theorem wait_body : (pair m).WaitBody :=
  (pair m).wait_of (sentOp F) (gotOp F) (ownOp F) (fun _ _ _ => rfl) (fun _ _ _ => rfl) (fun _ _ _ => rfl)
    (fun c t Q => congrArg (fun p => wp frame (wpE defs₀ 𝒱₀ (c : Thread nD τ) none) Set.univ p fun _ => Q) (wait_eq m t))

/-! ## The buffers -/

local notation "𝕄" => MT nD τ sig Unit (Elt F) ℕ (UU nD τ sig (Pay (Fin 1) (Fin 7) (Fin 1))) ℕ

/-- A source buffer, shared among its readers. -/
theorem src_split (c : Dev nD) (a : Fin 1) : ((c : Thread nD τ).loc (srcR a) ↦{fullShare} srcX m c a : sProp 𝕄)
    = iprop((bigSep Finset.univ fun i => (exch m).source c (a, i)) ∗ (exch m).lsource c a) :=
  (congrArg (fun S => ((c : Thread nD τ).loc (srcR a) ↦[S]{fullShare} srcX m c a : sProp 𝕄)) (src_whole a).set_eq_univ.symm).trans
    (parts_split readers _ (srcX m c a))

abbrev moves : (pair m).Moves m where
  arg := argR
  src := srcR
  tok := tokR
  names_inj := names_inj
  names_all := names_all
  touched_inj := touched_inj
  bufs_eq := rfl
  keep_eq := rfl
  V₀_eq := rfl
  srcX := srcX m
  landX := landX m
  after_arg c a := match a with
    | 0 => by show StableHlo.after hostOps0_1 _ _ = _; after_results
  after_src c a := match a with
    | 0 => by show StableHlo.after hostOps0_1 _ _ = _; after_results; rfl
  arrays_eq c := (bigSep_W0 _).trans ((congrArg (fun S => ((c : Thread nD τ).loc main_v2_5 ↦[S]{fullShare} m ((c : Thread nD τ).loc main_v2_5) : sProp 𝕄)) (arr_whole0 0).set_eq_univ).trans
    (bigSep_W0 fun w => ((c : Thread nD τ).loc (tokR w) ↦{fullShare} m ((c : Thread nD τ).loc (tokR w)) : sProp 𝕄)).symm)
  split c := Entails.of_eq (by rw [bigSep_congr fun a _ => src_split m c a, bigSep_sep', bigSep_univ_prod])
  room := (plan m).rooms_whole land_whole
  join := (plan m).joined_whole land_whole

theorem idle (w g) : ((pair m).cfgs 0).idle w g = false := match w with
  | ⟨0, _⟩ => rfl

/-- THE RUN, over any float values: every device's result is the arrays of all the devices, its arguments are as they were. -/
theorem run_main [∀ e, Nonempty (Elt F e)] (ρ : Dev nD → PrngReg) :
    θ_run (defs (F := F)) (onTc (τ := τ) (main (F := F))) ⟨m, fun _ => 0, ρ⟩
      (fun r => (∀ c : Dev nD, (∀ a, r.2.mem ((landM a).view.loc (c : Thread nD τ)) = landX m c a)
          ∧ ∀ a, r.2.mem ((c : Thread nD τ).loc (argR a)) = m ((c : Thread nD τ).loc (argR a)))
        ∧ r.2.sem = fun _ => 0) :=
  (moves m).run_main (idle m) (start_body m) (wait_body m) ρ main
    (fun c => (main_chain c).trans (Eq.trans (by rfl) (Pipeline.Seg.run_eq_chain _).symm))

end Cert.EveryoneProof

end
-- ==== Proof.EveryoneValue.lean ====
/-
  The exchange of all the devices against its reference: the claims about the two.
-/
module

public import proofs.«01_k».proof.Proof.Values
public import proofs.«01_k».proof.Defs
public import proofs.«01_k».proof.Proof.Everyone
public import proofs.«01_k».proof.Proof.Gen.Everyone
public import proofs.«01_k».proof.Proof.Gen.EveryoneRef
public import proofs.«01_k».proof.Proof.Gen.EveryoneRefIdeal.Run

@[expose] public section

noncomputable section

namespace Cert.EveryoneProof

open Idealize.ShloMosaic Idealize.ShloMosaic.TcCoe Idealize.SL.Sem Cert.Exchange

variable {F : FTy → Type} [FloatOps F]

/-- The reference's function of one array. -/
abbrev refOut (_ : Fin 1) : ((Sh2 4992 1024).Idx → Elt F .f32) → (Sh64 624 1024).Idx → Elt F .f32 :=
  repeated Cert.EveryoneRefIdeal.Gen.shapeCasts_S4992x1024_S8x624x1024 Cert.EveryoneRefIdeal.Gen.bcast_S8x624x1024_S1x8x624x1024_1_2_3 Cert.EveryoneRefIdeal.Gen.bcast_S1x8x624x1024_S8x8x624x1024_0_1_2_3 Cert.EveryoneRefIdeal.Gen.shapeCasts_S8x8x624x1024_S64x624x1024

open Cert.EveryoneIdeal Cert.EveryoneIdeal.Gen

theorem frame [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0))
      ∧ r.2.sem = fun _ => 0 :=
  (θ_run defs _ _).mono (fun _ h => ⟨fun c => (h.1 c).2 0, h.2⟩) (run_main m ρ)

/-- On devices that hold the blocks of the arrays, each ends with its blocks of the reference's arrays. -/
theorem value [∀ e, Nonempty (Elt F e)] (m : (ℓ : Loc nD τ sig) → Buf (Elt F) ℓ) (ρ : Dev nD → PrngReg) (x : (a : Fin 1) → (Sh2 4992 1024).Idx → Elt F .f32)
    (h : ∀ c : Dev nD, m ((c : Thread nD τ).loc main_arg0) = Layout.block (Sh2 624 1024) (Sh2 4992 1024) 0 8 c (x 0)) :
    θ_run (defs (F := F)) (onTc (τ := τ) (main (F := F))) ⟨m, fun _ => 0, ρ⟩ fun r => ∀ c : Dev nD,
      r.2.mem ((c : Thread nD τ).loc main_v1) = Layout.block (ShN 8 624 1024) (Sh64 624 1024) 0 8 c (refOut 0 (x 0))
        ∧ r.2.mem ((c : Thread nD τ).loc main_arg0) = m ((c : Thread nD τ).loc main_arg0) :=
  (θ_run defs _ _).mono (fun _ k c => ⟨((k.1 c).1 0).trans (repeated_block _ _ _ _ (X m 0) (x 0) _ _ (fun c => (h c)) c),
    (k.1 c).2 0⟩) (run_main m ρ)

/-! ## The claims -/

/-- The two printings are one program. -/
theorem defs_same : Cert.Everyone.defs (F := F) = defs (F := F) := by chain_rfl
theorem run_same (s : MemSt nD τ sig (Elt F)) (Q) :
    θ_run (Cert.Everyone.defs (F := F)) (onTc (τ := τ) (Cert.Everyone.main (F := F))) s Q = θ_run (defs (F := F)) (onTc (τ := τ) (main (F := F))) s Q := by
  rw [defs_same]; rfl

theorem quiescent_kernel : quiescent_Everyone := fun m g _ => (run_same _ _).mpr (frame (F := Bits) m g)
theorem quiescent_ideal : quiescent_EveryoneIdeal := fun m g _ => frame m g
theorem quiescent_ref : quiescent_EveryoneRef := fun m g _ =>
  (θ_run Cert.EveryoneRef.defs _ _).mono (fun _ h => ⟨fun c => (h c).2, funext fun ⟨_, s⟩ => ((show ∀ _ : SemLoc Cert.EveryoneRef.sig, False by decide) s).elim⟩)
    (Cert.EveryoneRefIdeal.Value.run (F := Bits) m g)
theorem quiescent_refIdeal : quiescent_EveryoneRefIdeal := fun m g _ =>
  (θ_run Cert.EveryoneRefIdeal.defs _ _).mono (fun _ h => ⟨fun c => (h c).2, funext fun ⟨_, s⟩ => ((show ∀ _ : SemLoc Cert.EveryoneRefIdeal.sig, False by decide) s).elim⟩)
    (Cert.EveryoneRefIdeal.Value.run m g)

/-- The reference's arguments, as arrays. -/
abbrev args (m' : (ℓ : Loc Cert.EveryoneRefIdeal.nD Cert.EveryoneRefIdeal.τ Cert.EveryoneRefIdeal.sig) → Buf (Elt F) ℓ) : (a : Fin 1) → (Sh2 4992 1024).Idx → Elt F .f32 := fun
  | 0 => m' (((0 : Dev Cert.EveryoneRefIdeal.nD) : Thread Cert.EveryoneRefIdeal.nD Cert.EveryoneRefIdeal.τ).loc Cert.EveryoneRefIdeal.main_arg0)

theorem algebraic : algebraic_EveryoneIdeal_EveryoneRefIdeal := fun m g m' g' _ h =>
  ⟨_, value m g (args m') h, (θ_run Cert.EveryoneRefIdeal.defs _ _).mono (fun _ h => h 0) (Cert.EveryoneRefIdeal.Value.run m' g')⟩

theorem bitexact : bitexact_Everyone_EveryoneRef := fun m g m' g' _ h =>
  ⟨_, (run_same _ _).mpr (value (F := Bits) m g (args m') h),
    (θ_run Cert.EveryoneRef.defs _ _).mono (fun _ h => h 0) (Cert.EveryoneRefIdeal.Value.run (F := Bits) m' g')⟩

end Cert.EveryoneProof

end
-- ==== Proof.AdamWValue.lean ====
/-
  The optimiser's step on a feed-forward weight, `Cert.AdamWIdeal`, against its reference: the claims about the two.
-/
module

public import proofs.«01_k».proof.Defs
public import proofs.«01_k».proof.Proof.Gen.AdamW
public import proofs.«01_k».proof.Proof.Gen.AdamWIdeal.Value
public import proofs.«01_k».proof.Proof.Gen.AdamWRefIdeal.Run

@[expose] public section

noncomputable section

namespace Cert.AdamWProof

open Idealize.ShloMosaic Idealize.ShloMosaic.TcCoe Idealize.SL.Sem

variable {F : FTy → Type} [FloatOps F]

open Cert.AdamWIdeal

/-- The two printings are one program. -/
theorem defs_same : Cert.AdamW.defs (F := F) = defs (F := F) := by chain_rfl
theorem run_same (s : MemSt nD τ sig (Elt F)) (Q) :
    θ_run (Cert.AdamW.defs (F := F)) (onTc (τ := τ) (Cert.AdamW.main (F := F))) s Q = θ_run (defs (F := F)) (onTc (τ := τ) (main (F := F))) s Q := by
  rw [defs_same]; rfl

theorem quiescent_kernel : quiescent_AdamW := fun m g _ => (run_same _ _).mpr (Gen.frame (F := Bits) m g)
theorem quiescent_ideal : quiescent_AdamWIdeal := fun m g _ => Gen.frame m g
theorem quiescent_refIdeal : quiescent_AdamWRefIdeal := fun m g _ =>
  (θ_run Cert.AdamWRefIdeal.defs _ _).mono (fun _ h => ⟨fun c => (h c).2.2.2.2, funext fun ⟨_, s⟩ => ((show ∀ _ : SemLoc Cert.AdamWRefIdeal.sig, False by decide) s).elim⟩)
    (Cert.AdamWRefIdeal.Value.run m g)
theorem algebraic : algebraic_AdamWIdeal_AdamWRefIdeal := fun m g m' g' _ h =>
  ⟨_, _, _, _, Cert.AdamWIdeal.Value.run m g, (θ_run Cert.AdamWRefIdeal.defs _ _).mono (fun _ k c => by
    have k := k c
    obtain ⟨h0, h1, h2, h3, h4⟩ := h c
    rw [h0, h1, h2, h3, h4] at k ⊢
    exact k) (Cert.AdamWRefIdeal.Value.run m' g')⟩

end Cert.AdamWProof

end
-- ==== Proof.AdamWInValue.lean ====
/-
  The optimiser's step on the mixing stage's input weight, `Cert.AdamWInIdeal`, against its reference: the claims about the two.
-/
module

public import proofs.«01_k».proof.Defs
public import proofs.«01_k».proof.Proof.Gen.AdamWIn
public import proofs.«01_k».proof.Proof.Gen.AdamWInIdeal.Value
public import proofs.«01_k».proof.Proof.Gen.AdamWInRefIdeal.Run

@[expose] public section

noncomputable section

namespace Cert.AdamWInProof

open Idealize.ShloMosaic Idealize.ShloMosaic.TcCoe Idealize.SL.Sem

variable {F : FTy → Type} [FloatOps F]

open Cert.AdamWInIdeal

/-- The two printings are one program. -/
theorem defs_same : Cert.AdamWIn.defs (F := F) = defs (F := F) := by chain_rfl
theorem run_same (s : MemSt nD τ sig (Elt F)) (Q) :
    θ_run (Cert.AdamWIn.defs (F := F)) (onTc (τ := τ) (Cert.AdamWIn.main (F := F))) s Q = θ_run (defs (F := F)) (onTc (τ := τ) (main (F := F))) s Q := by
  rw [defs_same]; rfl

theorem quiescent_kernel : quiescent_AdamWIn := fun m g _ => (run_same _ _).mpr (Gen.frame (F := Bits) m g)
theorem quiescent_ideal : quiescent_AdamWInIdeal := fun m g _ => Gen.frame m g
theorem quiescent_refIdeal : quiescent_AdamWInRefIdeal := fun m g _ =>
  (θ_run Cert.AdamWInRefIdeal.defs _ _).mono (fun _ h => ⟨fun c => (h c).2.2.2.2, funext fun ⟨_, s⟩ => ((show ∀ _ : SemLoc Cert.AdamWInRefIdeal.sig, False by decide) s).elim⟩)
    (Cert.AdamWInRefIdeal.Value.run m g)
theorem algebraic : algebraic_AdamWInIdeal_AdamWInRefIdeal := fun m g m' g' _ h =>
  ⟨_, _, _, _, Cert.AdamWInIdeal.Value.run m g, (θ_run Cert.AdamWInRefIdeal.defs _ _).mono (fun _ k c => by
    have k := k c
    obtain ⟨h0, h1, h2, h3, h4⟩ := h c
    rw [h0, h1, h2, h3, h4] at k ⊢
    exact k) (Cert.AdamWInRefIdeal.Value.run m' g')⟩

end Cert.AdamWInProof

end
-- ==== Proof.AdamWSquareValue.lean ====
/-
  The optimiser's step on a square weight of the mixing stage, `Cert.AdamWSquareIdeal`, against its reference: the claims about the two.
-/
module

public import proofs.«01_k».proof.Defs
public import proofs.«01_k».proof.Proof.Gen.AdamWSquare
public import proofs.«01_k».proof.Proof.Gen.AdamWSquareIdeal.Value
public import proofs.«01_k».proof.Proof.Gen.AdamWSquareRefIdeal.Run

@[expose] public section

noncomputable section

namespace Cert.AdamWSquareProof

open Idealize.ShloMosaic Idealize.ShloMosaic.TcCoe Idealize.SL.Sem

variable {F : FTy → Type} [FloatOps F]

open Cert.AdamWSquareIdeal

/-- The two printings are one program. -/
theorem defs_same : Cert.AdamWSquare.defs (F := F) = defs (F := F) := by chain_rfl
theorem run_same (s : MemSt nD τ sig (Elt F)) (Q) :
    θ_run (Cert.AdamWSquare.defs (F := F)) (onTc (τ := τ) (Cert.AdamWSquare.main (F := F))) s Q = θ_run (defs (F := F)) (onTc (τ := τ) (main (F := F))) s Q := by
  rw [defs_same]; rfl

theorem quiescent_kernel : quiescent_AdamWSquare := fun m g _ => (run_same _ _).mpr (Gen.frame (F := Bits) m g)
theorem quiescent_ideal : quiescent_AdamWSquareIdeal := fun m g _ => Gen.frame m g
theorem quiescent_refIdeal : quiescent_AdamWSquareRefIdeal := fun m g _ =>
  (θ_run Cert.AdamWSquareRefIdeal.defs _ _).mono (fun _ h => ⟨fun c => (h c).2.2.2.2, funext fun ⟨_, s⟩ => ((show ∀ _ : SemLoc Cert.AdamWSquareRefIdeal.sig, False by decide) s).elim⟩)
    (Cert.AdamWSquareRefIdeal.Value.run m g)
theorem algebraic : algebraic_AdamWSquareIdeal_AdamWSquareRefIdeal := fun m g m' g' _ h =>
  ⟨_, _, _, _, Cert.AdamWSquareIdeal.Value.run m g, (θ_run Cert.AdamWSquareRefIdeal.defs _ _).mono (fun _ k c => by
    have k := k c
    obtain ⟨h0, h1, h2, h3, h4⟩ := h c
    rw [h0, h1, h2, h3, h4] at k ⊢
    exact k) (Cert.AdamWSquareRefIdeal.Value.run m' g')⟩

end Cert.AdamWSquareProof

end
-- ==== Proof.AdamWHalfValue.lean ====
/-
  The optimiser's step on a half-width weight of the mixing stage, `Cert.AdamWHalfIdeal`, against its reference: the claims about the two.
-/
module

public import proofs.«01_k».proof.Defs
public import proofs.«01_k».proof.Proof.Gen.AdamWHalf
public import proofs.«01_k».proof.Proof.Gen.AdamWHalfIdeal.Value
public import proofs.«01_k».proof.Proof.Gen.AdamWHalfRefIdeal.Run

@[expose] public section

noncomputable section

namespace Cert.AdamWHalfProof

open Idealize.ShloMosaic Idealize.ShloMosaic.TcCoe Idealize.SL.Sem

variable {F : FTy → Type} [FloatOps F]

open Cert.AdamWHalfIdeal

/-- The two printings are one program. -/
theorem defs_same : Cert.AdamWHalf.defs (F := F) = defs (F := F) := by chain_rfl
theorem run_same (s : MemSt nD τ sig (Elt F)) (Q) :
    θ_run (Cert.AdamWHalf.defs (F := F)) (onTc (τ := τ) (Cert.AdamWHalf.main (F := F))) s Q = θ_run (defs (F := F)) (onTc (τ := τ) (main (F := F))) s Q := by
  rw [defs_same]; rfl

theorem quiescent_kernel : quiescent_AdamWHalf := fun m g _ => (run_same _ _).mpr (Gen.frame (F := Bits) m g)
theorem quiescent_ideal : quiescent_AdamWHalfIdeal := fun m g _ => Gen.frame m g
theorem quiescent_refIdeal : quiescent_AdamWHalfRefIdeal := fun m g _ =>
  (θ_run Cert.AdamWHalfRefIdeal.defs _ _).mono (fun _ h => ⟨fun c => (h c).2.2.2.2, funext fun ⟨_, s⟩ => ((show ∀ _ : SemLoc Cert.AdamWHalfRefIdeal.sig, False by decide) s).elim⟩)
    (Cert.AdamWHalfRefIdeal.Value.run m g)
theorem algebraic : algebraic_AdamWHalfIdeal_AdamWHalfRefIdeal := fun m g m' g' _ h =>
  ⟨_, _, _, _, Cert.AdamWHalfIdeal.Value.run m g, (θ_run Cert.AdamWHalfRefIdeal.defs _ _).mono (fun _ k c => by
    have k := k c
    obtain ⟨h0, h1, h2, h3, h4⟩ := h c
    rw [h0, h1, h2, h3, h4] at k ⊢
    exact k) (Cert.AdamWHalfRefIdeal.Value.run m' g')⟩

end Cert.AdamWHalfProof

end
-- ==== Proof.AdamWSmallValue.lean ====
/-
  The optimiser's step on the small weights' packed array, `Cert.AdamWSmallIdeal`, whose gradient is the sum
  of the eight devices' arrays, against its reference: the claims about the two.
-/
module

public import Idealize.ShloMosaic.Lib.Pointwise.Reduce
public import Idealize.ShloMosaic.Lib.IdealHost
public import Idealize.ShloMosaic.Lib.Pipeline.Value
public import proofs.«01_k».proof.Defs
public import proofs.«01_k».proof.Proof.Gen.AdamWSmall
public import proofs.«01_k».proof.Proof.Gen.AdamWSmallIdeal.Value
public import proofs.«01_k».proof.Proof.Gen.AdamWSmallRefIdeal.Run

@[expose] public section

noncomputable section

namespace Cert.AdamWSmallProof

open Idealize.ShloMosaic Idealize.ShloMosaic.TcCoe Idealize.SL.Sem

variable {F : FTy → Type} [FloatOps F]

open Cert.AdamWSmallIdeal Cert.AdamWSmallIdeal.Gen

/-! ## The step on one element -/

/-- The gradient: the eight parts, added from the first on. -/
abbrev gradAt (p : Fin 8 → Elt F .f32) : Elt F .f32 :=
  FloatOps.addf (FloatOps.addf (FloatOps.addf (FloatOps.addf (FloatOps.addf (FloatOps.addf (FloatOps.addf (p 0) (p 1)) (p 2)) (p 3)) (p 4)) (p 5)) (p 6)) (p 7)
/-- The two moments and the change of the weight. -/
abbrev firstAt (g m : Elt F .f32) : Elt F .f32 :=
  FloatOps.addf (FloatOps.mulf (Scalar.ofBits .f32 0x3F666666#32) m) (FloatOps.mulf (Scalar.ofBits .f32 0x3DCCCCCD#32) g)
abbrev secondAt (g v : Elt F .f32) : Elt F .f32 :=
  FloatOps.addf (FloatOps.mulf (Scalar.ofBits .f32 0x3F7FBE77#32) v) (FloatOps.mulf (Scalar.ofBits .f32 0x3A83126F#32) (FloatOps.mulf g g))
abbrev deltaAt (w g m v : Elt F .f32) : Elt F .f32 :=
  FloatOps.mulf (Scalar.ofBits .f32 0xBA83126F#32) (FloatOps.addf
    (FloatOps.divf (FloatOps.divf (firstAt g m) (Scalar.ofBits .f32 0x3F26BD02#32))
      (FloatOps.addf (FloatOps.sqrt (FloatOps.divf (secondAt g v) (Scalar.ofBits .f32 0x3C231ACC#32))) (Scalar.ofBits .f32 0x322BCC77#32)))
    (FloatOps.mulf (Scalar.ofBits .f32 0x3C23D70A#32) w))

/-! ## The body on one block -/

theorem hz : (![0, 0] : Fin 2 → Nat) = fun _ => 0 := funext fun a => by fin_cases a <;> rfl

/-- Part `k` of a block, and of the array. -/
def inBlock (k : Fin 8) (y : S208x1024.Idx) : S8x208x1024.Idx := fun a => match a with | ⟨0, _⟩ => k | ⟨1, _⟩ => y 0 | ⟨2, _⟩ => y 1
def inArray (k : Fin 8) (i : S624x1024.Idx) : S8x624x1024.Idx := fun a => match a with | ⟨0, _⟩ => k | ⟨1, _⟩ => i 0 | ⟨2, _⟩ => i 1

theorem grad_block (x0 x1 x2 : Vec F S208x1024 .f32) (x3 : Vec F S8x208x1024 .f32) (y : S208x1024.Idx) :
    k0_pay6 x0 x1 x2 x3 y = gradAt fun k => x3 (inBlock k y) := by
  have h := Value.canon4_eq (View.ld x3 r0_0) (View.ld x3 r0_1) (View.ld x3 r0_2) (View.ld x3 r0_3) (View.ld x3 r0_4) (View.ld x3 r0_5)
    (View.ld x3 r0_6) (View.ld x3 r0_7) y
  rw [View.canon_unit_zero hz] at h
  refine h.trans ?_
  have e : ∀ (k : Fin 8) (i : S8x208x1024.Idx), (i 0).val = k.val → (i 1).val = (y 0).val → (i 2).val = (y 1).val → x3 i = x3 (inBlock k y) :=
    fun k i h0 h1 h2 => congrArg x3 (funext fun a => Fin.ext (match a with | ⟨0, _⟩ => h0 | ⟨1, _⟩ => h1 | ⟨2, _⟩ => h2))
  have z : ∀ n : ℕ, 0 + 1 * n = n := fun n => by omega
  exact congrArg₂ _ (congrArg₂ _ (congrArg₂ _ (congrArg₂ _ (congrArg₂ _ (congrArg₂ _ (congrArg₂ _ (e 0 _ rfl (z _) (z _)) (e 1 _ rfl (z _) (z _)))
    (e 2 _ rfl (z _) (z _))) (e 3 _ rfl (z _) (z _))) (e 4 _ rfl (z _) (z _))) (e 5 _ rfl (z _) (z _))) (e 6 _ rfl (z _) (z _))) (e 7 _ rfl (z _) (z _))

theorem out4 (x0 x1 x2 : Vec F S208x1024 .f32) (x3 : Vec F S8x208x1024 .f32) (y : S208x1024.Idx) :
    out0_4 x0 x1 x2 x3 y = gradAt fun k => x3 (inBlock k y) := by
  unfold out0_4; rw [View.canon_unit_zero hz]; exact grad_block x0 x1 x2 x3 y
theorem out5 (x0 x1 x2 : Vec F S208x1024 .f32) (x3 : Vec F S8x208x1024 .f32) (y : S208x1024.Idx) :
    out0_5 x0 x1 x2 x3 y = deltaAt (x0 y) (gradAt fun k => x3 (inBlock k y)) (x1 y) (x2 y) := by
  unfold out0_5 k0_pay7; rw [View.canon_unit_zero hz, ← grad_block x0 x1 x2 x3 y]; simp only [View.ld_unit_zero (S := S208x1024) hz]; rfl
theorem out6 (x0 x1 x2 : Vec F S208x1024 .f32) (x3 : Vec F S8x208x1024 .f32) (y : S208x1024.Idx) :
    out0_6 x0 x1 x2 x3 y = firstAt (gradAt fun k => x3 (inBlock k y)) (x1 y) := by
  unfold out0_6 k0_pay7; rw [View.canon_unit_zero hz, ← grad_block x0 x1 x2 x3 y]; simp only [View.ld_unit_zero (S := S208x1024) hz]; rfl
theorem out7 (x0 x1 x2 : Vec F S208x1024 .f32) (x3 : Vec F S8x208x1024 .f32) (y : S208x1024.Idx) :
    out0_7 x0 x1 x2 x3 y = secondAt (gradAt fun k => x3 (inBlock k y)) (x2 y) := by
  unfold out0_7; rw [View.canon_unit_zero hz, ← grad_block x0 x1 x2 x3 y]; simp only [View.ld_unit_zero (S := S208x1024) hz]; rfl

/-! ## The blocks in the arrays -/

variable (m : (ℓ : Loc nD τ sig) → Buf (Elt F) ℓ) (ρ : Dev nD → PrngReg)

/-- Where element `y` of block `t` lies. -/
def place (t : Fin cfg0.N) (y : S208x1024.Idx) : S624x1024.Idx := ((cfg0.win 4).blk t).view.emb y

theorem index_eq : ∀ t : Fin cfg0.N, win0_4.index t (0 : Fin 2) = t.val ∧ win0_4.index t (1 : Fin 2) = 0
    ∧ win0_3.index t (0 : Fin 3) = 0 ∧ win0_3.index t (1 : Fin 3) = t.val ∧ win0_3.index t (2 : Fin 3) = 0 :=
  (by decide +kernel : ∀ t : Fin grid0.N, _)

theorem parts_place (t : Fin cfg0.N) (k : Fin 8) (y : S208x1024.Idx) : ((cfg0.win 3).blk t).view.emb (inBlock k y) = inArray k (place t y) := by
  obtain ⟨e0, e1, e2, e3, e4⟩ := index_eq t
  funext a; apply Fin.ext
  match a with
  | ⟨0, _⟩ => show win0_3.index t (0 : Fin 3) * 8 + 1 * k.val = k.val; omega
  | ⟨1, _⟩ => show win0_3.index t (1 : Fin 3) * 208 + 1 * (y 0).val = win0_4.index t (0 : Fin 2) * 208 + 1 * (y 0).val; omega
  | ⟨2, _⟩ => show win0_3.index t (2 : Fin 3) * 1024 + 1 * (y 1).val = win0_4.index t (1 : Fin 2) * 1024 + 1 * (y 1).val; omega

theorem cover (i : S624x1024.Idx) : ∃ t : Fin cfg0.N, (cfg0.win 4).flush t = true ∧ i ∈ ((cfg0.win 4).blk t).view.set := by
  have h0 : (i 0).val < 624 := (i 0).isLt
  have h1 : (i 1).val < 1024 := (i 1).isLt
  let t : Fin cfg0.N := (⟨(i 0).val / 208, by omega⟩ : Fin 3)
  have ht : t.val = (i 0).val / 208 := rfl
  obtain ⟨e0, e1, -⟩ := index_eq t
  refine ⟨t, flush0_4 t, ?_⟩
  show i ∈ ((View.whole main_v0_0).slice (win0_4.rect t)).set
  rw [View.set_slice_whole, Rect.mem_set_unit]
  intro a
  match a with
  | ⟨0, _⟩ => show win0_4.index t (0 : Fin 2) * 208 ≤ (i 0).val ∧ (i 0).val < win0_4.index t (0 : Fin 2) * 208 + 208; omega
  | ⟨1, _⟩ => show win0_4.index t (1 : Fin 2) * 1024 ≤ (i 1).val ∧ (i 1).val < win0_4.index t (1 : Fin 2) * 1024 + 1024; omega

/-! ## The arrays at the end -/

/-- The gradient of the packed array. -/
def total (p : S8x624x1024.Idx → Elt F .f32) : S624x1024.Idx → Elt F .f32 := fun i => gradAt fun k => p (inArray k i)

theorem total_place (c : Dev nD) (t : Fin cfg0.N) (y : S208x1024.Idx) :
    (gradAt fun k => iblk m c 3 t (inBlock k y)) = total (V m c main_arg1) (place t y) :=
  congrArg gradAt (funext fun k => congrArg (V m c main_arg1) (parts_place t k y))

theorem final4 (c : Dev nD) : (dats m 0 c).arrAt 4 cfg0.N = total (V m c main_arg1) :=
  (dats m 0 c).arrAt_eq_of_cover 4 _ (fun t _ => (Value.flushed4 m c t).trans (funext fun y => (out4 _ _ _ _ y).trans (total_place m c t y))) cover
theorem final5 (c : Dev nD) : (dats m 0 c).arrAt 5 cfg0.N
    = fun i => deltaAt (V m c main_arg0 i) (total (V m c main_arg1) i) (V m c main_arg2 i) (V m c main_arg3 i) :=
  (dats m 0 c).arrAt_eq_of_cover 5 _ (fun t _ => (Value.flushed5 m c t).trans (funext fun y => (out5 _ _ _ _ y).trans
    (congrArg (fun g => deltaAt _ g _ _) (total_place m c t y)))) cover
theorem final6 (c : Dev nD) : (dats m 0 c).arrAt 6 cfg0.N = fun i => firstAt (total (V m c main_arg1) i) (V m c main_arg2 i) :=
  (dats m 0 c).arrAt_eq_of_cover 6 _ (fun t _ => (Value.flushed6 m c t).trans (funext fun y => (out6 _ _ _ _ y).trans
    (congrArg (fun g => firstAt g _) (total_place m c t y)))) cover
theorem final7 (c : Dev nD) : (dats m 0 c).arrAt 7 cfg0.N = fun i => secondAt (total (V m c main_arg1) i) (V m c main_arg3 i) :=
  (dats m 0 c).arrAt_eq_of_cover 7 _ (fun t _ => (Value.flushed7 m c t).trans (funext fun y => (out7 _ _ _ _ y).trans
    (congrArg (fun g => secondAt g _) (total_place m c t y)))) cover

/-! ## The claims -/

/-- The parts' sum, as the reference takes it. -/
theorem total_eq (p : S8x624x1024.Idx → Elt Ideal .f32) : total p
    = Host.reduceAdd (F := Ideal) (φ := .f32) p (constant Cert.AdamWSmallRefIdeal.S_ .f32 0x00000000#32) Cert.AdamWSmallRefIdeal.Gen.reducesTo_S8x624x1024_S624x1024_d0 Cert.AdamWSmallRefIdeal.Gen.h_S_ := by
  funext i
  have e : ∀ k : Fin 8, inArray k i = ValueIdx.ix3 k (i 0) (i 1) := fun k => funext fun a => match a with | ⟨0, _⟩ => rfl | ⟨1, _⟩ => rfl | ⟨2, _⟩ => rfl
  rw [ValueIdx.hostReduceAdd_apply, Ideal.hostReduceAdd_r3_a0, Fin.sum_univ_eight]
  show (gradAt fun k => p (inArray k i)) = Ideal.ofBits .f32 0x00000000#32 + _
  rw [Ideal.ofBits_zero_f32, zero_add]
  simp only [e]
  rfl

/-- The two printings are one program. -/
theorem defs_same : Cert.AdamWSmall.defs (F := F) = defs (F := F) := by chain_rfl
theorem run_same (s : MemSt nD τ sig (Elt F)) (Q) :
    θ_run (Cert.AdamWSmall.defs (F := F)) (onTc (τ := τ) (Cert.AdamWSmall.main (F := F))) s Q = θ_run (defs (F := F)) (onTc (τ := τ) (main (F := F))) s Q := by
  rw [defs_same]; rfl

theorem quiescent_kernel : quiescent_AdamWSmall := fun m g _ => (run_same _ _).mpr (Gen.frame (F := Bits) m g)
theorem quiescent_ideal : quiescent_AdamWSmallIdeal := fun m g _ => Gen.frame m g
theorem quiescent_refIdeal : quiescent_AdamWSmallRefIdeal := fun m g _ =>
  (θ_run Cert.AdamWSmallRefIdeal.defs _ _).mono (fun _ h => ⟨fun c => (h c).2.2.2.2, funext fun ⟨_, s⟩ => ((show ∀ _ : SemLoc Cert.AdamWSmallRefIdeal.sig, False by decide) s).elim⟩)
    (Cert.AdamWSmallRefIdeal.Value.run m g)

theorem value : θ_run defs (onTc (τ := τ) (main (F := F))) ⟨m, fun _ => 0, ρ⟩ fun r => ∀ c : Dev nD,
      r.2.mem ((c : Thread nD τ).loc main_v0_0) = total (V m c main_arg1)
      ∧ r.2.mem ((c : Thread nD τ).loc main_v0_1)
        = (fun i => deltaAt (V m c main_arg0 i) (total (V m c main_arg1) i) (V m c main_arg2 i) (V m c main_arg3 i))
      ∧ r.2.mem ((c : Thread nD τ).loc main_v0_2) = (fun i => firstAt (total (V m c main_arg1) i) (V m c main_arg2 i))
      ∧ r.2.mem ((c : Thread nD τ).loc main_v0_3) = (fun i => secondAt (total (V m c main_arg1) i) (V m c main_arg3 i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
    (h c).2.2.2.1.trans (final7 m c), (h c).2.2.2.2⟩) (Value.run_blocks m ρ)

theorem algebraic : algebraic_AdamWSmallIdeal_AdamWSmallRefIdeal := fun m g m' g' _ h =>
  ⟨_, _, _, _, value m g, (θ_run Cert.AdamWSmallRefIdeal.defs _ _).mono (fun _ k c => by
    have k := k c
    obtain ⟨h0, h1, h2, h3⟩ := h c
    rw [← total_eq] at k
    rw [h0, h1, h2, h3] at k ⊢
    exact k) (Cert.AdamWSmallRefIdeal.Value.run m' g')⟩

end Cert.AdamWSmallProof

end
-- ==== Proof.LossValue.lean ====
/-
  The head of the network, `Cert.LossIdeal`, against its reference: the loss of a device's rows, and the two
  derivatives of it, over the rows' sixteen blocks.
-/
module

public import Idealize.ShloMosaic.Lib.Pointwise
public import Idealize.ShloMosaic.Lib.Pointwise.Sums
public import Idealize.ShloMosaic.Lib.IdealHost
public import Idealize.ShloMosaic.Lib.Pipeline.Value
public import Idealize.ShloMosaic.Lib.Tactic
public import proofs.«01_k».proof.Defs
public import proofs.«01_k».proof.Proof.Gen.Loss
public import proofs.«01_k».proof.Proof.Gen.LossIdeal.Value
public import proofs.«01_k».proof.Proof.Gen.LossRefIdeal.Run

@[expose] public section

noncomputable section

namespace Cert.LossProof

open Idealize.ShloMosaic Idealize.ShloMosaic.TcCoe Idealize.SL.Sem

open Cert.LossIdeal Cert.LossIdeal.Gen

/-! ## What the body leaves at a point -/

section Body

variable {F : FTy → Type} [FloatOps F]

theorem hz : (![0, 0] : Fin 2 → Nat) = fun _ => 0 := funext fun a => by fin_cases a <;> rfl

variable (c : Dev nD) (i : grid0.Coords)
  (a1 : Memref sig .tc .vmem S512x1024 .f32) (h1 : a1.IsWhole) (a2 : Memref sig .tc .vmem S1x1024 .f32) (h2 : a2.IsWhole)
  (a3 : Memref sig .tc .vmem S512x1024 .f32) (h3 : a3.IsWhole) (a4 : Memref sig .tc .vmem S1x128 .f32) (h4 : a4.IsWhole)
  (a5 : Memref sig .tc .vmem S512x1024 .f32) (h5 : a5.IsWhole) (a6 : Memref sig .tc .vmem S1x1024 .f32) (h6 : a6.IsWhole)
  (x : Vec F S512x1024 .f32) (g : Vec F S1x1024 .f32) (t : Vec F S512x1024 .f32) (l : Vec F S1x128 .f32) (d : Vec F S1x1024 .f32)

theorem outB3 (hc : ¬cond0_0 i) : out0_B_3 c i a1 h1 a2 h2 a3 h3 a4 h4 a5 h5 a6 h6 hc x g t l d = k0_pay8 x g t l := by
  unfold out0_B_3
  rw [View.read_writes_eq_canon _ _ _ (cover0_B_3 c i a1 h1 a2 h2 a3 h3 a4 h4 a5 h5 a6 h6 hc x g t l d)]
  unfold kernelRun0_B
  dsimp only
  sl_unfold_words
  rw [View.canon_unit_zero hz]
  simp only [View.readAt_eq_ld, h1.read_unread, h2.read_unread, h3.read_unread, h4.read_unread, View.ld_unit_zero (S := S512x1024) hz,
    View.ld_unit_zero (S := S1x1024) hz, View.ld_unit_zero (S := S1x128) hz]

theorem outB4 (hc : ¬cond0_0 i) : out0_B_4 c i a1 h1 a2 h2 a3 h3 a4 h4 a5 h5 a6 h6 hc x g t l d
    = k0_pay2 g (k0_pay5 x) (k0_pay6 x) (k0_pay9 x g t) := by
  unfold out0_B_4
  rw [View.read_writes_eq_canon _ _ _ (cover0_B_4 c i a1 h1 a2 h2 a3 h3 a4 h4 a5 h5 a6 h6 hc x g t l d)]
  unfold kernelRun0_B
  dsimp only
  sl_unfold_words
  rw [View.canon_unit_zero hz]
  simp only [View.readAt_eq_ld, h1.read_unread, h2.read_unread, h3.read_unread, View.ld_unit_zero (S := S512x1024) hz,
    View.ld_unit_zero (S := S1x1024) hz]

theorem outB5 (hc : ¬cond0_0 i) : out0_B_5 c i a1 h1 a2 h2 a3 h3 a4 h4 a5 h5 a6 h6 hc x g t l d
    = k0_pay1 (k0_pay6 x) (k0_pay9 x g t) d := by
  unfold out0_B_5
  rw [View.read_writes_eq_canon _ _ _ (cover0_B_5 c i a1 h1 a2 h2 a3 h3 a4 h4 a5 h5 a6 h6 hc x g t l d)]
  unfold kernelRun0_B
  dsimp only
  sl_unfold_words
  rw [View.canon_unit_zero hz]
  simp only [View.readAt_eq_ld, h1.read_unread, h2.read_unread, h3.read_unread, h6.read_unread, View.ld_unit_zero (S := S512x1024) hz,
    View.ld_unit_zero (S := S1x1024) hz]

theorem outA3 (hc : cond0_0 i) : out0_A_3 c i a1 h1 a2 h2 a3 h3 a4 h4 a5 h5 a6 h6 hc x g t = k0_pay8 x g t k0_pay3 := by
  unfold out0_A_3
  rw [View.read_writes_eq_canon _ _ _ (cover0_A_3 c i a1 h1 a2 h2 a3 h3 a4 h4 a5 h5 a6 h6 hc x g t)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S512x1024) hz,
    View.ld_unit_zero (S := S1x1024) hz]

theorem outA4 (hc : cond0_0 i) : out0_A_4 c i a1 h1 a2 h2 a3 h3 a4 h4 a5 h5 a6 h6 hc x g t
    = k0_pay2 g (k0_pay5 x) (k0_pay6 x) (k0_pay9 x g t) := by
  unfold out0_A_4
  rw [View.read_writes_eq_canon _ _ _ (cover0_A_4 c i a1 h1 a2 h2 a3 h3 a4 h4 a5 h5 a6 h6 hc x g t)]
  unfold kernelRun0_A
  dsimp only
  sl_unfold_words
  rw [View.canon_unit_zero hz]
  simp only [View.readAt_eq_ld, h1.read_unread, h2.read_unread, h3.read_unread, View.ld_unit_zero (S := S512x1024) hz,
    View.ld_unit_zero (S := S1x1024) hz]

theorem outA5 (hc : cond0_0 i) : out0_A_5 c i a1 h1 a2 h2 a3 h3 a4 h4 a5 h5 a6 h6 hc x g t
    = k0_pay1 (k0_pay6 x) (k0_pay9 x g t) k0_pay4 := by
  unfold out0_A_5
  rw [View.read_writes_eq_canon _ _ _ (cover0_A_5 c i a1 h1 a2 h2 a3 h3 a4 h4 a5 h5 a6 h6 hc x g t)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, View.ld_unit_zero (S := S512x1024) hz,
    View.ld_unit_zero (S := S1x1024) hz]

end Body

/-! ## The mathematics of one row -/

/-- The width of a row, its inverse, the constant under the root, and a half. -/
abbrev width : EReal := Ideal.ofBits .f32 0x44800000#32
abbrev share : EReal := Ideal.ofBits .f32 0x3A800000#32
abbrev small : EReal := Ideal.ofBits .f32 0x358637BD#32
abbrev half : EReal := Ideal.ofBits .f32 0x3F000000#32

section Row

variable (x g t : Fin 1024 → EReal) (k : Fin 1024)

/-- The inverse root of the mean square, and the row times it. -/
def root : EReal := Ideal.rsqrt (Ideal.div (∑ k : Fin 1024, x k * x k) width + small)
def unitRow : EReal := x k * root x
/-- How far the scaled row is from its target, and the mean square of that. -/
def error : EReal := unitRow x k * g k - t k
def rowLoss : EReal := Ideal.div (∑ k : Fin 1024, error x g t k * error x g t k) width
/-- The derivatives of the row's loss to the scaled row, to the row, and its part of the one to the scales. -/
def slope : EReal := error x g t k * share
def slopeRow : EReal := root x * (slope x g t k * g k
  - unitRow x k * Ideal.div (∑ k : Fin 1024, slope x g t k * g k * unitRow x k) width)
def slopeScale : EReal := slope x g t k * unitRow x k

end Row

/-- Row `r` of an array. -/
def row {n : ℕ} (x : (⟨2, ![n, 1024]⟩ : Shape).Idx → EReal) (r : Fin n) : Fin 1024 → EReal := fun k => x (ix2 r k)

section Block

variable (x : FVec Ideal S512x1024 .f32) (g : FVec Ideal S1x1024 .f32) (t : FVec Ideal S512x1024 .f32)

theorem loss_block (l : FVec Ideal S1x128 .f32) (j : S1x128.Idx) :
    k0_pay8 x g t l j = l j + half * ∑ r : Fin 512, rowLoss (row x r) (row g 0) (row t r) := by
  pointwise [k0_pay8, k0_pay7, k0_pay6, k0_pay5, rowLoss, error, unitRow, root, row]

theorem rows_block (j : S512x1024.Idx) :
    k0_pay2 (F := Ideal) g (k0_pay5 x) (k0_pay6 x) (k0_pay9 x g t) j = slopeRow (row x (j 0)) (row g 0) (row t (j 0)) (j 1) := by
  pointwise [k0_pay2, k0_pay9, k0_pay7, k0_pay6, k0_pay5, slopeRow, slope, error, unitRow, root, row]

theorem scale_block (d : FVec Ideal S1x1024 .f32) (j : S1x1024.Idx) :
    k0_pay1 (k0_pay6 x) (k0_pay9 x g t) d j = d j + ∑ r : Fin 512, slopeScale (row x r) (row g 0) (row t r) (j 1) := by
  pointwise [k0_pay1, k0_pay9, k0_pay7, k0_pay6, k0_pay5, slopeScale, slope, error, unitRow, root, row]

end Block

/-! ## Over the blocks -/

/-- A mean is a product with the inverse of the width, and a half of a sum is the sum of the halves. -/
theorem div_width (x : EReal) : Ideal.div x width = x * share := by
  have e : width = ((1024 : ℝ) : EReal) := by simp [width, Ideal.ofBits, Ideal.ieee, -EReal.coe_mul]; norm_num
  have f : share = ((1 / 1024 : ℝ) : EReal) := by simp [share, Ideal.ofBits, Ideal.ieee, -EReal.coe_mul]; norm_num
  rw [e, f, Ideal.div_coe (by norm_num)]

theorem half_sum {n : ℕ} (f : Fin n → EReal) : half * ∑ i, f i = ∑ i, half * f i := by
  have e : half = ((1 / 2 : ℝ) : EReal) := by simp [half, Ideal.ofBits, Ideal.ieee, -EReal.coe_mul]; norm_num
  have add : ∀ a b : EReal, half * (a + b) = half * a + half * b := fun a b => by
    rw [e]; exact EReal.left_distrib_of_nonneg_of_ne_top (EReal.coe_nonneg.mpr (by norm_num)) (EReal.coe_ne_top _) a b
  exact map_sum (⟨⟨fun a => half * a, mul_zero _⟩, add⟩ : EReal →+ EReal) f Finset.univ

/-- Row `r` of block `s`, in the array. -/
def rowOf (s : Fin 16) (r : Fin 512) : Fin 8192 := ⟨s.val * 512 + r.val, by omega⟩

section Arrays

variable (x : S8192x1024.Idx → EReal) (g : S1x1024.Idx → EReal) (t : S8192x1024.Idx → EReal)

/-- The three results: the loss in every lane, the derivative to the rows, the derivative to the scales. -/
def lossAt (n : Fin 8192) : EReal := rowLoss (row x n) (row g 0) (row t n)
def scaleAt (k : Fin 1024) (n : Fin 8192) : EReal := slopeScale (row x n) (row g 0) (row t n) k
def lanes : S1x128.Idx → EReal := fun _ => half * ∑ n, lossAt x g t n
def rows : S8192x1024.Idx → EReal := fun i => slopeRow (row x (i 0)) (row g 0) (row t (i 0)) (i 1)
def scales : S1x1024.Idx → EReal := fun i => ∑ n, scaleAt x g t (i 1) n

end Arrays

variable (m : (ℓ : Loc nD τ sig) → Buf (Elt Ideal) ℓ) (ρ : Dev nD → PrngReg) (c : Dev nD)

theorem index_eq : ∀ t : Fin cfg0.N, win0_0.index t (0 : Fin 2) = t.val ∧ win0_0.index t (1 : Fin 2) = 0
    ∧ win0_2.index t (0 : Fin 2) = t.val ∧ win0_2.index t (1 : Fin 2) = 0
    ∧ win0_4.index t (0 : Fin 2) = t.val ∧ win0_4.index t (1 : Fin 2) = 0
    ∧ win0_1.index t (0 : Fin 2) = 0 ∧ win0_1.index t (1 : Fin 2) = 0 :=
  (by decide +kernel : ∀ t : Fin grid0.N, _)

theorem x_block (t : Fin cfg0.N) (r : Fin 512) : row (iblk m c 0 t) r = row (V m c main_arg0) (rowOf t r) := by
  obtain ⟨e0, e1, -⟩ := index_eq t
  funext k; refine congrArg (V m c main_arg0) (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * k.val = k.val; omega
theorem t_block (t : Fin cfg0.N) (r : Fin 512) : row (iblk m c 2 t) r = row (V m c main_arg2) (rowOf t r) := by
  obtain ⟨-, -, e0, e1, -⟩ := index_eq t
  funext k; refine congrArg (V m c main_arg2) (funext fun a => Fin.ext ?_)
  match a with
  | ⟨0, _⟩ => show win0_2.index t (0 : Fin 2) * 512 + 1 * r.val = t.val * 512 + r.val; omega
  | ⟨1, _⟩ => show win0_2.index t (1 : Fin 2) * 1024 + 1 * k.val = k.val; omega
theorem g_block (t : Fin cfg0.N) : row (iblk m c 1 t) 0 = row (V m c main_arg1) 0 := by
  obtain ⟨-, -, -, -, -, -, e0, e1⟩ := index_eq t
  funext k; refine congrArg (V m c main_arg1) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

/-- What block `s` adds to the loss and to the derivative to the scales. -/
def lossPart (s : Fin 16) : EReal := half * ∑ r, lossAt (V m c main_arg0) (V m c main_arg1) (V m c main_arg2) (rowOf s r)
def scalePart (k : Fin 1024) (s : Fin 16) : EReal := ∑ r, scaleAt (V m c main_arg0) (V m c main_arg1) (V m c main_arg2) k (rowOf s r)

theorem loss_step (t : Fin cfg0.N) (l : FVec Ideal S1x128 .f32) (j : S1x128.Idx) :
    k0_pay8 (iblk m c 0 t) (iblk m c 1 t) (iblk m c 2 t) l j = l j + lossPart m c t := by
  rw [loss_block]; unfold lossPart lossAt; simp only [x_block, t_block, g_block]
theorem scale_step (t : Fin cfg0.N) (d : FVec Ideal S1x1024 .f32) (j : S1x1024.Idx) :
    k0_pay1 (k0_pay6 (iblk m c 0 t)) (k0_pay9 (iblk m c 0 t) (iblk m c 1 t) (iblk m c 2 t)) d j = d j + scalePart m c (j 1) t := by
  rw [scale_block]; unfold scalePart scaleAt; simp only [x_block, t_block, g_block]

theorem rows_step (t : Fin cfg0.N) (j : S512x1024.Idx) :
    k0_pay2 (F := Ideal) (iblk m c 1 t) (k0_pay5 (iblk m c 0 t)) (k0_pay6 (iblk m c 0 t)) (k0_pay9 (iblk m c 0 t) (iblk m c 1 t) (iblk m c 2 t)) j
      = slopeRow (row (V m c main_arg0) (rowOf t (j 0))) (row (V m c main_arg1) 0) (row (V m c main_arg2) (rowOf t (j 0))) (j 1) := by
  have e : ∀ (r : Fin 512) (k : Fin 1024), slopeRow (row (iblk m c 0 t) r) (row (iblk m c 1 t) 0) (row (iblk m c 2 t) r) k
      = slopeRow (row (V m c main_arg0) (rowOf t r)) (row (V m c main_arg1) 0) (row (V m c main_arg2) (rowOf t r)) k := fun r k => by
    rw [x_block, t_block, g_block]
  exact (rows_block _ _ _ j).trans (e (j 0) (j 1))

theorem zero3 (j : S1x128.Idx) : k0_pay3 (F := Ideal) j = (0 : EReal) := Ideal.ofBits_zero_f32
theorem zero4 (j : S1x1024.Idx) : k0_pay4 (F := Ideal) j = (0 : EReal) := Ideal.ofBits_zero_f32

theorem sums (n : ℕ) : ∀ h : n < 16,
    (∀ j : S1x128.Idx, (outsAt0 m c n h).1 j = ∑ s : Fin (n + 1), lossPart m c ⟨s.val, by omega⟩)
    ∧ ∀ j : S1x1024.Idx, (outsAt0 m c n h).2.2 j = ∑ s : Fin (n + 1), scalePart m c (j 1) ⟨s.val, by omega⟩ := by
  induction n with
  | zero =>
    intro h
    have e := outsAt0_A m c ⟨0, h⟩ rfl
    constructor <;> intro j
    · rw [show outsAt0 m c 0 h = _ from e]; dsimp only; rw [outA3, loss_step, zero3, Fin.sum_univ_one, zero_add]; rfl
    · rw [show outsAt0 m c 0 h = _ from e]; dsimp only; rw [outA5, scale_step, zero4, Fin.sum_univ_one, zero_add]; rfl
  | succ n ih =>
    intro h
    have e := outsAt0_B m c ⟨n + 1, h⟩ (by dsimp only; omega)
    obtain ⟨i0, i1⟩ := ih (by omega)
    constructor <;> intro j
    · rw [show outsAt0 m c (n + 1) h = _ from e]; dsimp only; rw [outB3, loss_step, Fin.sum_univ_castSucc]
      exact congrArg (· + _) (i0 j)
    · rw [show outsAt0 m c (n + 1) h = _ from e]; dsimp only; rw [outB5, scale_step, Fin.sum_univ_castSucc]
      exact congrArg (· + _) (i1 j)

theorem lanes_eq (j : S1x128.Idx) (h : 15 < 16) : (outsAt0 m c 15 h).1 j = lanes (V m c main_arg0) (V m c main_arg1) (V m c main_arg2) j := by
  rw [(sums m c 15 h).1 j]; unfold lanes
  rw [Fin.sum_univ_tiles 16 512 rfl, half_sum]; rfl
theorem scales_eq (j : S1x1024.Idx) (h : 15 < 16) : (outsAt0 m c 15 h).2.2 j = scales (V m c main_arg0) (V m c main_arg1) (V m c main_arg2) j := by
  rw [(sums m c 15 h).2 j]; unfold scales
  rw [Fin.sum_univ_tiles 16 512 rfl]; rfl

/-! ## The arrays at the end -/

/-- The last point, whose block of the two sums is the whole array. -/
def last : Fin cfg0.N := (15 : Fin 16)
theorem last_only (t : Fin cfg0.N) (h : t.val % 16 = 15) : t = last := Fin.ext (by have : t.val < 16 := t.isLt; show t.val = 15; omega)

theorem final3 : (dats m 0 c).arrAt 3 cfg0.N = lanes (V m c main_arg0) (V m c main_arg1) (V m c main_arg2) := by
  refine (dats m 0 c).arrAt_eq_of_cover 3 _ (fun t hf => ?_) fun i => ⟨last, (flush0_3 last).mpr rfl, ?_⟩
  · obtain rfl := last_only t ((flush0_3 t).mp hf)
    rw [Value.flushed3]
    funext y
    exact lanes_eq m c _ _
  · show i ∈ ((View.whole main_v0_0).slice (win0_3.rect last)).set
    rw [View.set_slice_whole, Rect.mem_set_unit]
    intro a
    have h0 : (i 0).val < 1 := (i 0).isLt
    have h1 : (i 1).val < 128 := (i 1).isLt
    match a with
    | ⟨0, _⟩ => show 0 * 1 ≤ (i 0).val ∧ (i 0).val < 0 * 1 + 1; omega
    | ⟨1, _⟩ => show 0 * 128 ≤ (i 1).val ∧ (i 1).val < 0 * 128 + 128; omega

/-- The last point's block of the derivative to the scales is all of it. -/
theorem read_last (f : S1x1024.Idx → EReal) : ((cfg0.win 5).blk last).view.read (Elt Ideal) f = f :=
  funext fun y => congrArg f (funext fun a => Fin.ext (match a with
    | ⟨0, _⟩ => by show 0 * 1 + 1 * (y 0).val = (y 0).val; omega
    | ⟨1, _⟩ => by show 0 * 1024 + 1 * (y 1).val = (y 1).val; omega))

theorem final5 : (dats m 0 c).arrAt 5 cfg0.N = scales (V m c main_arg0) (V m c main_arg1) (V m c main_arg2) := by
  refine (dats m 0 c).arrAt_eq_of_cover 5 _ (fun t hf => ?_) fun i => ⟨last, (flush0_5 last).mpr rfl, ?_⟩
  · obtain rfl := last_only t ((flush0_5 t).mp hf)
    rw [Value.flushed5]
    funext y
    rw [read_last]
    exact scales_eq m c y (by decide)
  · show i ∈ ((View.whole main_v0_2).slice (win0_5.rect last)).set
    rw [View.set_slice_whole, Rect.mem_set_unit]
    intro a
    have h0 : (i 0).val < 1 := (i 0).isLt
    have h1 : (i 1).val < 1024 := (i 1).isLt
    match a with
    | ⟨0, _⟩ => show 0 * 1 ≤ (i 0).val ∧ (i 0).val < 0 * 1 + 1; omega
    | ⟨1, _⟩ => show 0 * 1024 ≤ (i 1).val ∧ (i 1).val < 0 * 1024 + 1024; omega

theorem read_rows (t : Fin cfg0.N) (f : Fin 8192 → Fin 1024 → EReal) (y : S512x1024.Idx) :
    ((cfg0.win 4).blk t).view.read (Elt Ideal) (fun i : S8192x1024.Idx => f (i 0) (i 1)) y = f (rowOf t (y 0)) (y 1) := by
  obtain ⟨-, -, -, -, e0, e1, -⟩ := index_eq t
  have p0 : ((cfg0.win 4).blk t).view.emb y 0 = rowOf t (y 0) := Fin.ext (by
    show win0_4.index t (0 : Fin 2) * 512 + 1 * (y 0).val = t.val * 512 + (y 0).val; omega)
  have p1 : ((cfg0.win 4).blk t).view.emb y 1 = y 1 := Fin.ext (by
    show win0_4.index t (1 : Fin 2) * 1024 + 1 * (y 1).val = (y 1).val; omega)
  exact congrArg₂ f p0 p1

theorem flushed_rows (t : Fin cfg0.N) : (dats m 0 c).flushed 4 t
    = ((cfg0.win 4).blk t).view.read (Elt Ideal) (rows (V m c main_arg0) (V m c main_arg1) (V m c main_arg2)) := by
  have e : (outsAt0 m c t.val t.isLt).2.1 = k0_pay2 (F := Ideal) (iblk m c 1 t) (k0_pay5 (iblk m c 0 t)) (k0_pay6 (iblk m c 0 t))
      (k0_pay9 (iblk m c 0 t) (iblk m c 1 t) (iblk m c 2 t)) := by
    by_cases h : t.val % 16 = 0
    · rw [outsAt0_A m c t h]; dsimp only; rw [outA4]
    · rw [outsAt0_B m c t h]; dsimp only; rw [outB4]
  rw [Value.flushed4, e]
  funext y
  exact (rows_step m c t y).trans (read_rows t (fun n => slopeRow (row (V m c main_arg0) n) (row (V m c main_arg1) 0) (row (V m c main_arg2) n)) y).symm

theorem final4 : (dats m 0 c).arrAt 4 cfg0.N = rows (V m c main_arg0) (V m c main_arg1) (V m c main_arg2) := by
  refine (dats m 0 c).arrAt_eq_of_cover 4 _ (fun t _ => flushed_rows m c t) fun i => ?_
  have h0 : (i 0).val < 8192 := (i 0).isLt
  have h1 : (i 1).val < 1024 := (i 1).isLt
  let t : Fin cfg0.N := (⟨(i 0).val / 512, by omega⟩ : Fin 16)
  have ht : t.val = (i 0).val / 512 := rfl
  obtain ⟨-, -, -, -, e0, e1, -⟩ := index_eq t
  refine ⟨t, flush0_4 t, ?_⟩
  show i ∈ ((View.whole main_v0_1).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-! ## The claims -/

theorem value : θ_run defs (onTc (τ := τ) (main (F := Ideal))) ⟨m, fun _ => 0, ρ⟩ fun r => ∀ c : Dev nD,
      r.2.mem ((c : Thread nD τ).loc main_v0_0) = lanes (V m c main_arg0) (V m c main_arg1) (V m c main_arg2)
      ∧ r.2.mem ((c : Thread nD τ).loc main_v0_1) = rows (V m c main_arg0) (V m c main_arg1) (V m c main_arg2)
      ∧ r.2.mem ((c : Thread nD τ).loc main_v0_2) = scales (V m c main_arg0) (V m c main_arg1) (V m c main_arg2)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2.1.trans (final5 m c),
    (h c).2.2.2⟩) (Value.run_blocks m ρ)

theorem reference (m : (ℓ : Loc Cert.LossRefIdeal.nD Cert.LossRefIdeal.τ Cert.LossRefIdeal.sig) → Buf (Elt Ideal) ℓ)
    (ρ : Dev Cert.LossRefIdeal.nD → PrngReg) :
    θ_run Cert.LossRefIdeal.defs (onTc (τ := Cert.LossRefIdeal.τ) (Cert.LossRefIdeal.main (F := Ideal))) ⟨m, fun _ => 0, ρ⟩ fun r => ∀ c : Dev Cert.LossRefIdeal.nD,
      r.2.mem ((c.tc : Thread Cert.LossRefIdeal.nD Cert.LossRefIdeal.τ).loc Cert.LossRefIdeal.main_v33)
        = lanes (m (c.tc.loc Cert.LossRefIdeal.main_arg0)) (m (c.tc.loc Cert.LossRefIdeal.main_arg1)) (m (c.tc.loc Cert.LossRefIdeal.main_arg2))
      ∧ r.2.mem ((c.tc : Thread Cert.LossRefIdeal.nD Cert.LossRefIdeal.τ).loc Cert.LossRefIdeal.main_v32)
        = rows (m (c.tc.loc Cert.LossRefIdeal.main_arg0)) (m (c.tc.loc Cert.LossRefIdeal.main_arg1)) (m (c.tc.loc Cert.LossRefIdeal.main_arg2))
      ∧ r.2.mem ((c.tc : Thread Cert.LossRefIdeal.nD Cert.LossRefIdeal.τ).loc Cert.LossRefIdeal.main_v36)
        = scales (m (c.tc.loc Cert.LossRefIdeal.main_arg0)) (m (c.tc.loc Cert.LossRefIdeal.main_arg1)) (m (c.tc.loc Cert.LossRefIdeal.main_arg2))
      ∧ r.2.mem ((c.tc : Thread Cert.LossRefIdeal.nD Cert.LossRefIdeal.τ).loc Cert.LossRefIdeal.main_arg0) = m (c.tc.loc Cert.LossRefIdeal.main_arg0)
      ∧ r.2.mem ((c.tc : Thread Cert.LossRefIdeal.nD Cert.LossRefIdeal.τ).loc Cert.LossRefIdeal.main_arg1) = m (c.tc.loc Cert.LossRefIdeal.main_arg1)
      ∧ r.2.mem ((c.tc : Thread Cert.LossRefIdeal.nD Cert.LossRefIdeal.τ).loc Cert.LossRefIdeal.main_arg2) = m (c.tc.loc Cert.LossRefIdeal.main_arg2) :=
  (θ_run Cert.LossRefIdeal.defs _ _).mono (fun _ h c => by
    replace h := h c
    refine ⟨h.1.trans ?_, h.2.1.trans ?_, h.2.2.1.trans ?_, h.2.2.2⟩ <;> clear h
    · funext j
      generalize m (c.tc.loc Cert.LossRefIdeal.main_arg0) = x
      generalize m (c.tc.loc Cert.LossRefIdeal.main_arg1) = g
      generalize m (c.tc.loc Cert.LossRefIdeal.main_arg2) = t
      pointwise [lanes, lossAt, rowLoss, error, unitRow, root, row]
    · funext j
      generalize m (c.tc.loc Cert.LossRefIdeal.main_arg0) = x
      generalize m (c.tc.loc Cert.LossRefIdeal.main_arg1) = g
      generalize m (c.tc.loc Cert.LossRefIdeal.main_arg2) = t
      pointwise [rows, slopeRow, slope, error, unitRow, root, row, ← div_width]
    · funext j
      generalize m (c.tc.loc Cert.LossRefIdeal.main_arg0) = x
      generalize m (c.tc.loc Cert.LossRefIdeal.main_arg1) = g
      generalize m (c.tc.loc Cert.LossRefIdeal.main_arg2) = t
      pointwise [scales, scaleAt, slopeScale, slope, error, unitRow, root, row, ← div_width]) (Cert.LossRefIdeal.Value.run m ρ)

/-- The two printings are one program. -/
theorem defs_same {F : FTy → Type} [FloatOps F] : Cert.Loss.defs (F := F) = defs (F := F) := by chain_rfl
theorem run_same {F : FTy → Type} [FloatOps F] (s : MemSt nD τ sig (Elt F)) (Q) :
    θ_run (Cert.Loss.defs (F := F)) (onTc (τ := τ) (Cert.Loss.main (F := F))) s Q = θ_run (defs (F := F)) (onTc (τ := τ) (main (F := F))) s Q := by
  rw [defs_same]; rfl

theorem quiescent_kernel : quiescent_Loss := fun m g _ => (run_same _ _).mpr (Gen.frame (F := Bits) m g)
theorem quiescent_ideal : quiescent_LossIdeal := fun m g _ => Gen.frame m g
theorem quiescent_refIdeal : quiescent_LossRefIdeal := fun m g _ =>
  (θ_run Cert.LossRefIdeal.defs _ _).mono (fun _ h => ⟨fun c => (h c).2.2.2, funext fun ⟨_, s⟩ => ((show ∀ _ : SemLoc Cert.LossRefIdeal.sig, False by decide) s).elim⟩)
    (Cert.LossRefIdeal.Value.run m g)

theorem algebraic : algebraic_LossIdeal_LossRefIdeal := fun m g m' g' _ h =>
  ⟨_, _, _, value m g, (θ_run Cert.LossRefIdeal.defs _ _).mono (fun _ k c => by
    have k := k c
    obtain ⟨h0, h1, h2⟩ := h c
    rw [h0, h1, h2] at k ⊢
    exact k) (reference m' g')⟩

end Cert.LossProof

end
-- ==== Proof.FfnDxValue.lean ====
/-
  The last step back through a feed-forward block, `Cert.FfnDxIdeal`, against its reference: from the derivatives to the
  block's two projections the derivative to its rows, and the one to its norm's scales, over the rows' sixteen blocks.
-/
module

public import proofs.«01_k».proof.Proof.LossValue
public import proofs.«01_k».proof.Proof.Gen.FfnDx
public import proofs.«01_k».proof.Proof.Gen.FfnDxIdeal.Value
public import proofs.«01_k».proof.Proof.Gen.FfnDxRefIdeal.Run

@[expose] public section

noncomputable section

namespace Cert.FfnDxProof

open Idealize.ShloMosaic Idealize.ShloMosaic.TcCoe Idealize.SL.Sem

open Cert.FfnDxIdeal Cert.FfnDxIdeal.Gen
open Cert.LossProof (hz root unitRow width row rowOf)

/-! ## What the body leaves at a point -/

section Body

variable {F : FTy → Type} [FloatOps F]

variable (c : Dev nD) (i : grid0.Coords)
  (a1 : Memref sig .tc .vmem S512x2816 .bf16) (h1 : a1.IsWhole) (a2 : Memref sig .tc .vmem S512x2816 .bf16) (h2 : a2.IsWhole)
  (a3 : Memref sig .tc .vmem S2816x1024 .bf16) (h3 : a3.IsWhole) (a4 : Memref sig .tc .vmem S2816x1024 .bf16) (h4 : a4.IsWhole)
  (a5 : Memref sig .tc .vmem S512x1024 .f32) (h5 : a5.IsWhole) (a6 : Memref sig .tc .vmem S1x1024 .f32) (h6 : a6.IsWhole)
  (a7 : Memref sig .tc .vmem S512x1024 .f32) (h7 : a7.IsWhole) (a8 : Memref sig .tc .vmem S512x1024 .f32) (h8 : a8.IsWhole)
  (a9 : Memref sig .tc .vmem S512x1024 .bf16) (h9 : a9.IsWhole) (a10 : Memref sig .tc .vmem S1x1024 .f32) (h10 : a10.IsWhole)
  (da : Vec F S512x2816 .bf16) (db : Vec F S512x2816 .bf16) (p : Vec F S2816x1024 .bf16) (q : Vec F S2816x1024 .bf16) (x : Vec F S512x1024 .f32) (g : Vec F S1x1024 .f32) (y : Vec F S512x1024 .f32)
  (d : Vec F S1x1024 .f32)

theorem outA7 (hc : cond0_0 i) (hd : ¬cond0_1 i) : out0_A_7 c i a1 h1 a2 h2 a3 h3 a4 h4 a5 h5 a6 h6 a7 h7 a8 h8 a9 h9 a10 h10 hc hd da db p q x g y
    = k0_pay6 p da q db x g y := by
  unfold out0_A_7
  rw [View.read_writes_eq_canon _ _ _ (cover0_A_7 c i a1 h1 a2 h2 a3 h3 a4 h4 a5 h5 a6 h6 a7 h7 a8 h8 a9 h9 a10 h10 hc hd da db p q x g y)]
  unfold kernelRun0_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S512x2816) hz, View.ld_unit_zero (S := S2816x1024) hz, View.ld_unit_zero (S := S512x1024) hz, View.ld_unit_zero (S := S1x1024) hz]

theorem outA8 (hc : cond0_0 i) (hd : ¬cond0_1 i) : out0_A_8 c i a1 h1 a2 h2 a3 h3 a4 h4 a5 h5 a6 h6 a7 h7 a8 h8 a9 h9 a10 h10 hc hd da db p q x g y
    = k0_pay7 p da q db x g y := by
  unfold out0_A_8
  rw [View.read_writes_eq_canon _ _ _ (cover0_A_8 c i a1 h1 a2 h2 a3 h3 a4 h4 a5 h5 a6 h6 a7 h7 a8 h8 a9 h9 a10 h10 hc hd da db p q x g y)]
  unfold kernelRun0_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S512x2816) hz, View.ld_unit_zero (S := S2816x1024) hz, View.ld_unit_zero (S := S512x1024) hz, View.ld_unit_zero (S := S1x1024) hz]

theorem outA9 (hc : cond0_0 i) (hd : ¬cond0_1 i) : out0_A_9 c i a1 h1 a2 h2 a3 h3 a4 h4 a5 h5 a6 h6 a7 h7 a8 h8 a9 h9 a10 h10 hc hd da db p q x g y
    = k0_pay1 (k0_pay3 p da q db) (k0_pay5 x) := by
  unfold out0_A_9
  rw [View.read_writes_eq_canon _ _ _ (cover0_A_9 c i a1 h1 a2 h2 a3 h3 a4 h4 a5 h5 a6 h6 a7 h7 a8 h8 a9 h9 a10 h10 hc hd da db p q x g y)]
  unfold kernelRun0_A
  dsimp only
  sl_unfold_words
  rw [View.canon_unit_zero hz]
  simp only [View.readAt_eq_ld, h1.read_unread, h2.read_unread, h3.read_unread, h4.read_unread, h5.read_unread, View.ld_unit_zero (S := S512x2816) hz, View.ld_unit_zero (S := S2816x1024) hz, View.ld_unit_zero (S := S512x1024) hz, View.ld_unit_zero (S := S1x1024) hz]

theorem outB7 (hc : ¬cond0_0 i) (hd : cond0_1 i) : out0_B_7 c i a1 h1 a2 h2 a3 h3 a4 h4 a5 h5 a6 h6 a7 h7 a8 h8 a9 h9 a10 h10 hc hd da db p q x g y d
    = k0_pay6 p da q db x g y := by
  unfold out0_B_7
  rw [View.read_writes_eq_canon _ _ _ (cover0_B_7 c i a1 h1 a2 h2 a3 h3 a4 h4 a5 h5 a6 h6 a7 h7 a8 h8 a9 h9 a10 h10 hc hd da db p q x g y d)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S512x2816) hz, View.ld_unit_zero (S := S2816x1024) hz, View.ld_unit_zero (S := S512x1024) hz, View.ld_unit_zero (S := S1x1024) hz]

theorem outB8 (hc : ¬cond0_0 i) (hd : cond0_1 i) : out0_B_8 c i a1 h1 a2 h2 a3 h3 a4 h4 a5 h5 a6 h6 a7 h7 a8 h8 a9 h9 a10 h10 hc hd da db p q x g y d
    = k0_pay7 p da q db x g y := by
  unfold out0_B_8
  rw [View.read_writes_eq_canon _ _ _ (cover0_B_8 c i a1 h1 a2 h2 a3 h3 a4 h4 a5 h5 a6 h6 a7 h7 a8 h8 a9 h9 a10 h10 hc hd da db p q x g y d)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S512x2816) hz, View.ld_unit_zero (S := S2816x1024) hz, View.ld_unit_zero (S := S512x1024) hz, View.ld_unit_zero (S := S1x1024) hz]

theorem outB9 (hc : ¬cond0_0 i) (hd : cond0_1 i) : out0_B_9 c i a1 h1 a2 h2 a3 h3 a4 h4 a5 h5 a6 h6 a7 h7 a8 h8 a9 h9 a10 h10 hc hd da db p q x g y d
    = k0_pay2 (k0_pay3 p da q db) (k0_pay5 x) d := by
  unfold out0_B_9
  rw [View.read_writes_eq_canon _ _ _ (cover0_B_9 c i a1 h1 a2 h2 a3 h3 a4 h4 a5 h5 a6 h6 a7 h7 a8 h8 a9 h9 a10 h10 hc hd da db p q x g y d)]
  unfold kernelRun0_B
  dsimp only
  sl_unfold_words
  rw [View.canon_unit_zero hz]
  simp only [View.readAt_eq_ld, h1.read_unread, h2.read_unread, h3.read_unread, h4.read_unread, h5.read_unread, h10.read_unread, View.ld_unit_zero (S := S512x2816) hz, View.ld_unit_zero (S := S2816x1024) hz, View.ld_unit_zero (S := S512x1024) hz, View.ld_unit_zero (S := S1x1024) hz]

end Body

/-! ## The mathematics of one row -/

section Row

variable (u x g y : Fin 1024 → EReal) (k : Fin 1024)

/-- Back through the norm, from the derivative `u` to the normed row: the derivative to the row, the one that is already
    there added, and the row's part of the one to the scales. -/
def back : EReal := y k + root x * (u k * g k - unitRow x k * Ideal.div (∑ k : Fin 1024, u k * g k * unitRow x k) width)
def backScale : EReal := u k * unitRow x k

end Row

/-- Back through the two projections: the derivative to the normed row. -/
def project (a b : Fin 2816 → EReal) (p q : S2816x1024.Idx → EReal) : Fin 1024 → EReal :=
  fun k => (∑ s, a s * p (ix2 s k)) + ∑ s, b s * q (ix2 s k)

/-- Row `r` of an array 2816 wide. -/
def wide {n : ℕ} (x : (⟨2, ![n, 2816]⟩ : Shape).Idx → EReal) (r : Fin n) : Fin 2816 → EReal := fun s => x (ix2 r s)

section Block

variable (da db : FVec Ideal S512x2816 .bf16) (p q : FVec Ideal S2816x1024 .bf16)
  (x : FVec Ideal S512x1024 .f32) (g : FVec Ideal S1x1024 .f32) (y : FVec Ideal S512x1024 .f32)

theorem rows_block (j : S512x1024.Idx) : k0_pay6 (F := Ideal) p da q db x g y j
    = back (project (wide da (j 0)) (wide db (j 0)) p q) (row x (j 0)) (row g 0) (row y (j 0)) (j 1) := by
  pointwise [k0_pay6, k0_pay5, k0_pay4, k0_pay3, back, project, wide, unitRow, root, row]

theorem low_block (j : S512x1024.Idx) : k0_pay7 (F := Ideal) p da q db x g y j
    = back (project (wide da (j 0)) (wide db (j 0)) p q) (row x (j 0)) (row g 0) (row y (j 0)) (j 1) := by
  pointwise [k0_pay7, k0_pay6, k0_pay5, k0_pay4, k0_pay3, back, project, wide, unitRow, root, row]

theorem scale_block (j : S1x1024.Idx) : k0_pay1 (F := Ideal) (k0_pay3 p da q db) (k0_pay5 x) j
    = ∑ r : Fin 512, backScale (project (wide da r) (wide db r) p q) (row x r) (j 1) := by
  pointwise [k0_pay1, k0_pay5, k0_pay4, k0_pay3, backScale, project, wide, unitRow, root, row]

theorem scale_add (d : FVec Ideal S1x1024 .f32) (j : S1x1024.Idx) : k0_pay2 (F := Ideal) (k0_pay3 p da q db) (k0_pay5 x) d j
    = d j + k0_pay1 (k0_pay3 p da q db) (k0_pay5 x) j := by
  pointwise [k0_pay2]

end Block

/-! ## Over the blocks -/

section Arrays

variable (da db : S8192x2816.Idx → EReal) (p q : S2816x1024.Idx → EReal)
  (x : S8192x1024.Idx → EReal) (g : S1x1024.Idx → EReal) (y : S8192x1024.Idx → EReal)

/-- The derivative to row `n`, and that row's part of the derivative to the scales. -/
def rowAt (n : Fin 8192) : Fin 1024 → EReal := back (project (wide da n) (wide db n) p q) (row x n) (row g 0) (row y n)
def scaleAt (k : Fin 1024) (n : Fin 8192) : EReal := backScale (project (wide da n) (wide db n) p q) (row x n) k
/-- The results: the derivative to the rows (twice, once in the smaller format) and to the scales. -/
def rows : S8192x1024.Idx → EReal := fun i => rowAt da db p q x g y (i 0) (i 1)
def scales : S1x1024.Idx → EReal := fun i => ∑ n, scaleAt da db p q x (i 1) n

end Arrays

variable (m : (ℓ : Loc nD τ sig) → Buf (Elt Ideal) ℓ) (ρ : Dev nD → PrngReg) (c : Dev nD)

/-- Which block of its array each window holds: of the rows the point's, of the weights and the scales the only one. -/
theorem index_eq : ∀ t : Fin cfg0.N, (win0_0.index t (0 : Fin 2) = t.val ∧ win0_0.index t (1 : Fin 2) = 0
    ∧ win0_1.index t (0 : Fin 2) = t.val ∧ win0_1.index t (1 : Fin 2) = 0)
    ∧ (win0_2.index t (0 : Fin 2) = 0 ∧ win0_2.index t (1 : Fin 2) = 0
    ∧ win0_3.index t (0 : Fin 2) = 0 ∧ win0_3.index t (1 : Fin 2) = 0
    ∧ win0_5.index t (0 : Fin 2) = 0 ∧ win0_5.index t (1 : Fin 2) = 0)
    ∧ win0_4.index t (0 : Fin 2) = t.val ∧ win0_4.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem da_block (t : Fin cfg0.N) (r : Fin 512) : wide (iblk m c 0 t) r = wide (V m c main_arg0) (rowOf t r) := by
  obtain ⟨⟨e0, e1, -⟩, -⟩ := index_eq t
  funext k; refine congrArg (V m c main_arg0) (funext fun a => Fin.ext ?_)
  match a with
  | ⟨0, _⟩ => show win0_0.index t (0 : Fin 2) * 512 + 1 * r.val = t.val * 512 + r.val; omega
  | ⟨1, _⟩ => show win0_0.index t (1 : Fin 2) * 2816 + 1 * k.val = k.val; omega
theorem db_block (t : Fin cfg0.N) (r : Fin 512) : wide (iblk m c 1 t) r = wide (V m c main_arg1) (rowOf t r) := by
  obtain ⟨⟨-, -, e0, e1⟩, -⟩ := index_eq t
  funext k; refine congrArg (V m c main_arg1) (funext fun a => Fin.ext ?_)
  match a with
  | ⟨0, _⟩ => show win0_1.index t (0 : Fin 2) * 512 + 1 * r.val = t.val * 512 + r.val; omega
  | ⟨1, _⟩ => show win0_1.index t (1 : Fin 2) * 2816 + 1 * k.val = k.val; omega
theorem x_block (t : Fin cfg0.N) (r : Fin 512) : row (iblk m c 4 t) r = row (V m c main_arg4) (rowOf t r) := by
  obtain ⟨-, -, e0, e1, -⟩ := index_eq t
  funext k; refine congrArg (V m c main_arg4) (funext fun a => Fin.ext ?_)
  match a with
  | ⟨0, _⟩ => show win0_4.index t (0 : Fin 2) * 512 + 1 * r.val = t.val * 512 + r.val; omega
  | ⟨1, _⟩ => show win0_4.index t (1 : Fin 2) * 1024 + 1 * k.val = k.val; omega
theorem y_block (t : Fin cfg0.N) (r : Fin 512) : row (iblk m c 6 t) r = row (V m c main_arg6) (rowOf t r) := by
  obtain ⟨-, -, -, -, e0, e1, -⟩ := index_eq t
  funext k; refine congrArg (V m c main_arg6) (funext fun a => Fin.ext ?_)
  match a with
  | ⟨0, _⟩ => show win0_6.index t (0 : Fin 2) * 512 + 1 * r.val = t.val * 512 + r.val; omega
  | ⟨1, _⟩ => show win0_6.index t (1 : Fin 2) * 1024 + 1 * k.val = k.val; omega
theorem p_block (t : Fin cfg0.N) : iblk m c 2 t = V m c main_arg2 := by
  obtain ⟨-, ⟨e0, e1, -⟩, -⟩ := index_eq t
  funext j; refine congrArg (V m c main_arg2) (funext fun a => Fin.ext ?_)
  match a with
  | ⟨0, _⟩ => show win0_2.index t (0 : Fin 2) * 2816 + 1 * (j 0).val = (j 0).val; omega
  | ⟨1, _⟩ => show win0_2.index t (1 : Fin 2) * 1024 + 1 * (j 1).val = (j 1).val; omega
theorem q_block (t : Fin cfg0.N) : iblk m c 3 t = V m c main_arg3 := by
  obtain ⟨-, ⟨-, -, e0, e1, -⟩, -⟩ := index_eq t
  funext j; refine congrArg (V m c main_arg3) (funext fun a => Fin.ext ?_)
  match a with
  | ⟨0, _⟩ => show win0_3.index t (0 : Fin 2) * 2816 + 1 * (j 0).val = (j 0).val; omega
  | ⟨1, _⟩ => show win0_3.index t (1 : Fin 2) * 1024 + 1 * (j 1).val = (j 1).val; omega
theorem g_block (t : Fin cfg0.N) : row (iblk m c 5 t) 0 = row (V m c main_arg5) 0 := by
  obtain ⟨-, ⟨-, -, -, -, e0, e1⟩, -⟩ := index_eq t
  funext k; refine congrArg (V m c main_arg5) (funext fun a => Fin.ext ?_)
  match a with
  | ⟨0, _⟩ => show win0_5.index t (0 : Fin 2) * 1 + 1 * 0 = 0; omega
  | ⟨1, _⟩ => show win0_5.index t (1 : Fin 2) * 1024 + 1 * k.val = k.val; omega

/-- What block `s` adds to the derivative to the scales. -/
def scalePart (k : Fin 1024) (s : Fin 16) : EReal :=
  ∑ r, scaleAt (V m c main_arg0) (V m c main_arg1) (V m c main_arg2) (V m c main_arg3) (V m c main_arg4) k (rowOf s r)

theorem scale_step (t : Fin cfg0.N) (j : S1x1024.Idx) :
    k0_pay1 (F := Ideal) (k0_pay3 (iblk m c 2 t) (iblk m c 0 t) (iblk m c 3 t) (iblk m c 1 t)) (k0_pay5 (iblk m c 4 t)) j = scalePart m c (j 1) t := by
  rw [scale_block]; unfold scalePart scaleAt; simp only [da_block, db_block, p_block, q_block, x_block]

theorem back_step (t : Fin cfg0.N) (r : Fin 512) :
    back (project (wide (iblk m c 0 t) r) (wide (iblk m c 1 t) r) (iblk m c 2 t) (iblk m c 3 t)) (row (iblk m c 4 t) r) (row (iblk m c 5 t) 0) (row (iblk m c 6 t) r)
      = rowAt (V m c main_arg0) (V m c main_arg1) (V m c main_arg2) (V m c main_arg3) (V m c main_arg4) (V m c main_arg5) (V m c main_arg6) (rowOf t r) := by
  rw [da_block, db_block, p_block, q_block, x_block, g_block, y_block]; rfl

theorem rows_step (t : Fin cfg0.N) (j : S512x1024.Idx) :
    k0_pay6 (F := Ideal) (iblk m c 2 t) (iblk m c 0 t) (iblk m c 3 t) (iblk m c 1 t) (iblk m c 4 t) (iblk m c 5 t) (iblk m c 6 t) j
      = rowAt (V m c main_arg0) (V m c main_arg1) (V m c main_arg2) (V m c main_arg3) (V m c main_arg4) (V m c main_arg5) (V m c main_arg6) (rowOf t (j 0)) (j 1) :=
  (rows_block _ _ _ _ _ _ _ j).trans (congrFun (back_step m c t (j 0)) (j 1))
theorem low_step (t : Fin cfg0.N) (j : S512x1024.Idx) :
    k0_pay7 (F := Ideal) (iblk m c 2 t) (iblk m c 0 t) (iblk m c 3 t) (iblk m c 1 t) (iblk m c 4 t) (iblk m c 5 t) (iblk m c 6 t) j
      = rowAt (V m c main_arg0) (V m c main_arg1) (V m c main_arg2) (V m c main_arg3) (V m c main_arg4) (V m c main_arg5) (V m c main_arg6) (rowOf t (j 0)) (j 1) :=
  (low_block _ _ _ _ _ _ _ j).trans (congrFun (back_step m c t (j 0)) (j 1))

theorem sums (n : ℕ) : ∀ h : n < 16, ∀ j : S1x1024.Idx,
    (outsAt0 m c n h).2.2 j = ∑ s : Fin (n + 1), scalePart m c (j 1) ⟨s.val, by omega⟩ := by
  induction n with
  | zero =>
    intro h j
    have e := outsAt0_A m c ⟨0, h⟩ rfl (by dsimp only; omega)
    rw [show outsAt0 m c 0 h = _ from e]; dsimp only; rw [outA9, scale_step, Fin.sum_univ_one]; rfl
  | succ n ih =>
    intro h j
    have e := outsAt0_B m c ⟨n + 1, h⟩ (by dsimp only; omega) (by dsimp only; omega)
    rw [show outsAt0 m c (n + 1) h = _ from e]; dsimp only; rw [outB9, scale_add, scale_step, Fin.sum_univ_castSucc]
    exact congrArg (· + _) (ih (by omega) j)

theorem scales_eq (j : S1x1024.Idx) (h : 15 < 16) : (outsAt0 m c 15 h).2.2 j = scales (V m c main_arg0) (V m c main_arg1) (V m c main_arg2) (V m c main_arg3) (V m c main_arg4) j := by
  rw [sums m c 15 h j]; unfold scales
  rw [Fin.sum_univ_tiles 16 512 rfl]; rfl

/-! ## The arrays at the end -/

/-- The last point, whose block of the scales' derivative is all of it. -/
def last : Fin cfg0.N := (15 : Fin 16)
theorem last_only (t : Fin cfg0.N) (h : t.val % 16 = 15) : t = last := Fin.ext (by have : t.val < 16 := t.isLt; show t.val = 15; omega)

theorem read_last (f : S1x1024.Idx → EReal) : ((cfg0.win 9).blk last).view.read (Elt Ideal) f = f :=
  funext fun y => congrArg f (funext fun a => Fin.ext (match a with
    | ⟨0, _⟩ => by show 0 * 1 + 1 * (y 0).val = (y 0).val; omega
    | ⟨1, _⟩ => by show 0 * 1024 + 1 * (y 1).val = (y 1).val; omega))

theorem final9 : (dats m 0 c).arrAt 9 cfg0.N = scales (V m c main_arg0) (V m c main_arg1) (V m c main_arg2) (V m c main_arg3) (V m c main_arg4) := by
  refine (dats m 0 c).arrAt_eq_of_cover 9 _ (fun t hf => ?_) fun i => ⟨last, (flush0_9 last).mpr rfl, ?_⟩
  · obtain rfl := last_only t ((flush0_9 t).mp hf)
    rw [Value.flushed9]
    funext y
    rw [read_last]
    exact scales_eq m c y (by decide)
  · show i ∈ ((View.whole main_v0_2).slice (win0_9.rect last)).set
    rw [View.set_slice_whole, Rect.mem_set_unit]
    intro a
    have h0 : (i 0).val < 1 := (i 0).isLt
    have h1 : (i 1).val < 1024 := (i 1).isLt
    match a with
    | ⟨0, _⟩ => show 0 * 1 ≤ (i 0).val ∧ (i 0).val < 0 * 1 + 1; omega
    | ⟨1, _⟩ => show 0 * 1024 ≤ (i 1).val ∧ (i 1).val < 0 * 1024 + 1024; omega

theorem read7 (t : Fin cfg0.N) (f : Fin 8192 → Fin 1024 → EReal) (y : S512x1024.Idx) :
    ((cfg0.win 7).blk t).view.read (Elt Ideal) (fun i : S8192x1024.Idx => f (i 0) (i 1)) y = f (rowOf t (y 0)) (y 1) := by
  obtain ⟨-, -, -, -, -, -, e0, e1, -⟩ := index_eq t
  have p0 : ((cfg0.win 7).blk t).view.emb y 0 = rowOf t (y 0) := Fin.ext (by
    show win0_7.index t (0 : Fin 2) * 512 + 1 * (y 0).val = t.val * 512 + (y 0).val; omega)
  have p1 : ((cfg0.win 7).blk t).view.emb y 1 = y 1 := Fin.ext (by
    show win0_7.index t (1 : Fin 2) * 1024 + 1 * (y 1).val = (y 1).val; omega)
  exact congrArg₂ f p0 p1

theorem flushed7 (t : Fin cfg0.N) : (dats m 0 c).flushed 7 t
    = ((cfg0.win 7).blk t).view.read (Elt Ideal) (rows (V m c main_arg0) (V m c main_arg1) (V m c main_arg2) (V m c main_arg3) (V m c main_arg4) (V m c main_arg5) (V m c main_arg6)) := by
  have e : (outsAt0 m c t.val t.isLt).1 = k0_pay6 (F := Ideal) (iblk m c 2 t) (iblk m c 0 t) (iblk m c 3 t) (iblk m c 1 t) (iblk m c 4 t) (iblk m c 5 t) (iblk m c 6 t) := by
    by_cases h : t.val % 16 = 0
    · rw [outsAt0_A m c t h (by have : t.val < 16 := t.isLt; omega)]; dsimp only; rw [outA7]
    · rw [outsAt0_B m c t h (by omega)]; dsimp only; rw [outB7]
  rw [Value.flushed7, e]
  funext y
  exact (rows_step m c t y).trans (read7 t (rowAt (V m c main_arg0) (V m c main_arg1) (V m c main_arg2) (V m c main_arg3) (V m c main_arg4) (V m c main_arg5) (V m c main_arg6)) y).symm

theorem final7 : (dats m 0 c).arrAt 7 cfg0.N = rows (V m c main_arg0) (V m c main_arg1) (V m c main_arg2) (V m c main_arg3) (V m c main_arg4) (V m c main_arg5) (V m c main_arg6) := by
  refine (dats m 0 c).arrAt_eq_of_cover 7 _ (fun t _ => flushed7 m c t) fun i => ?_
  have h0 : (i 0).val < 8192 := (i 0).isLt
  have h1 : (i 1).val < 1024 := (i 1).isLt
  let t : Fin cfg0.N := (⟨(i 0).val / 512, by omega⟩ : Fin 16)
  have ht : t.val = (i 0).val / 512 := rfl
  obtain ⟨-, -, -, -, -, -, e0, e1, -⟩ := index_eq t
  refine ⟨t, flush0_7 t, ?_⟩
  show i ∈ ((View.whole main_v0_0).slice (win0_7.rect t)).set
  rw [View.set_slice_whole, Rect.mem_set_unit]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

theorem read8 (t : Fin cfg0.N) (f : Fin 8192 → Fin 1024 → EReal) (y : S512x1024.Idx) :
    ((cfg0.win 8).blk t).view.read (Elt Ideal) (fun i : S8192x1024.Idx => f (i 0) (i 1)) y = f (rowOf t (y 0)) (y 1) := by
  obtain ⟨-, -, -, -, -, -, -, -, e0, e1⟩ := index_eq t
  have p0 : ((cfg0.win 8).blk t).view.emb y 0 = rowOf t (y 0) := Fin.ext (by
    show win0_8.index t (0 : Fin 2) * 512 + 1 * (y 0).val = t.val * 512 + (y 0).val; omega)
  have p1 : ((cfg0.win 8).blk t).view.emb y 1 = y 1 := Fin.ext (by
    show win0_8.index t (1 : Fin 2) * 1024 + 1 * (y 1).val = (y 1).val; omega)
  exact congrArg₂ f p0 p1

theorem flushed8 (t : Fin cfg0.N) : (dats m 0 c).flushed 8 t
    = ((cfg0.win 8).blk t).view.read (Elt Ideal) (rows (V m c main_arg0) (V m c main_arg1) (V m c main_arg2) (V m c main_arg3) (V m c main_arg4) (V m c main_arg5) (V m c main_arg6)) := by
  have e : (outsAt0 m c t.val t.isLt).2.1 = k0_pay7 (F := Ideal) (iblk m c 2 t) (iblk m c 0 t) (iblk m c 3 t) (iblk m c 1 t) (iblk m c 4 t) (iblk m c 5 t) (iblk m c 6 t) := by
    by_cases h : t.val % 16 = 0
    · rw [outsAt0_A m c t h (by have : t.val < 16 := t.isLt; omega)]; dsimp only; rw [outA8]
    · rw [outsAt0_B m c t h (by omega)]; dsimp only; rw [outB8]
  rw [Value.flushed8, e]
  funext y
  exact (low_step m c t y).trans (read8 t (rowAt (V m c main_arg0) (V m c main_arg1) (V m c main_arg2) (V m c main_arg3) (V m c main_arg4) (V m c main_arg5) (V m c main_arg6)) y).symm

theorem final8 : (dats m 0 c).arrAt 8 cfg0.N = rows (V m c main_arg0) (V m c main_arg1) (V m c main_arg2) (V m c main_arg3) (V m c main_arg4) (V m c main_arg5) (V m c main_arg6) := by
  refine (dats m 0 c).arrAt_eq_of_cover 8 _ (fun t _ => flushed8 m c t) fun i => ?_
  have h0 : (i 0).val < 8192 := (i 0).isLt
  have h1 : (i 1).val < 1024 := (i 1).isLt
  let t : Fin cfg0.N := (⟨(i 0).val / 512, by omega⟩ : Fin 16)
  have ht : t.val = (i 0).val / 512 := rfl
  obtain ⟨-, -, -, -, -, -, -, -, e0, e1⟩ := index_eq t
  refine ⟨t, flush0_8 t, ?_⟩
  show i ∈ ((View.whole main_v0_1).slice (win0_8.rect t)).set
  rw [View.set_slice_whole, Rect.mem_set_unit]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 1024 ≤ (i 1).val ∧ (i 1).val < win0_8.index t (1 : Fin 2) * 1024 + 1024; omega

/-! ## The claims -/

theorem value : θ_run defs (onTc (τ := τ) (main (F := Ideal))) ⟨m, fun _ => 0, ρ⟩ fun r => ∀ c : Dev nD,
      r.2.mem ((c : Thread nD τ).loc main_v0_0) = rows (V m c main_arg0) (V m c main_arg1) (V m c main_arg2) (V m c main_arg3) (V m c main_arg4) (V m c main_arg5) (V m c main_arg6)
      ∧ r.2.mem ((c : Thread nD τ).loc main_v0_1) = rows (V m c main_arg0) (V m c main_arg1) (V m c main_arg2) (V m c main_arg3) (V m c main_arg4) (V m c main_arg5) (V m c main_arg6)
      ∧ r.2.mem ((c : Thread nD τ).loc main_v0_2) = scales (V m c main_arg0) (V m c main_arg1) (V m c main_arg2) (V m c main_arg3) (V m c main_arg4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c), (h c).2.2.1.trans (final9 m c),
    (h c).2.2.2⟩) (Value.run_blocks m ρ)

theorem reference (m : (ℓ : Loc Cert.FfnDxRefIdeal.nD Cert.FfnDxRefIdeal.τ Cert.FfnDxRefIdeal.sig) → Buf (Elt Ideal) ℓ)
    (ρ : Dev Cert.FfnDxRefIdeal.nD → PrngReg) :
    θ_run Cert.FfnDxRefIdeal.defs (onTc (τ := Cert.FfnDxRefIdeal.τ) (Cert.FfnDxRefIdeal.main (F := Ideal))) ⟨m, fun _ => 0, ρ⟩ fun r => ∀ c : Dev Cert.FfnDxRefIdeal.nD,
      r.2.mem ((c.tc : Thread Cert.FfnDxRefIdeal.nD Cert.FfnDxRefIdeal.τ).loc Cert.FfnDxRefIdeal.main_v32)
        = rows (m (c.tc.loc Cert.FfnDxRefIdeal.main_arg0)) (m (c.tc.loc Cert.FfnDxRefIdeal.main_arg1)) (m (c.tc.loc Cert.FfnDxRefIdeal.main_arg2)) (m (c.tc.loc Cert.FfnDxRefIdeal.main_arg3)) (m (c.tc.loc Cert.FfnDxRefIdeal.main_arg4)) (m (c.tc.loc Cert.FfnDxRefIdeal.main_arg5)) (m (c.tc.loc Cert.FfnDxRefIdeal.main_arg6))
      ∧ r.2.mem ((c.tc : Thread Cert.FfnDxRefIdeal.nD Cert.FfnDxRefIdeal.τ).loc Cert.FfnDxRefIdeal.main_v33)
        = rows (m (c.tc.loc Cert.FfnDxRefIdeal.main_arg0)) (m (c.tc.loc Cert.FfnDxRefIdeal.main_arg1)) (m (c.tc.loc Cert.FfnDxRefIdeal.main_arg2)) (m (c.tc.loc Cert.FfnDxRefIdeal.main_arg3)) (m (c.tc.loc Cert.FfnDxRefIdeal.main_arg4)) (m (c.tc.loc Cert.FfnDxRefIdeal.main_arg5)) (m (c.tc.loc Cert.FfnDxRefIdeal.main_arg6))
      ∧ r.2.mem ((c.tc : Thread Cert.FfnDxRefIdeal.nD Cert.FfnDxRefIdeal.τ).loc Cert.FfnDxRefIdeal.main_v31)
        = scales (m (c.tc.loc Cert.FfnDxRefIdeal.main_arg0)) (m (c.tc.loc Cert.FfnDxRefIdeal.main_arg1)) (m (c.tc.loc Cert.FfnDxRefIdeal.main_arg2)) (m (c.tc.loc Cert.FfnDxRefIdeal.main_arg3)) (m (c.tc.loc Cert.FfnDxRefIdeal.main_arg4))
      ∧ r.2.mem ((c.tc : Thread Cert.FfnDxRefIdeal.nD Cert.FfnDxRefIdeal.τ).loc Cert.FfnDxRefIdeal.main_arg0) = m (c.tc.loc Cert.FfnDxRefIdeal.main_arg0)
      ∧ r.2.mem ((c.tc : Thread Cert.FfnDxRefIdeal.nD Cert.FfnDxRefIdeal.τ).loc Cert.FfnDxRefIdeal.main_arg1) = m (c.tc.loc Cert.FfnDxRefIdeal.main_arg1)
      ∧ r.2.mem ((c.tc : Thread Cert.FfnDxRefIdeal.nD Cert.FfnDxRefIdeal.τ).loc Cert.FfnDxRefIdeal.main_arg2) = m (c.tc.loc Cert.FfnDxRefIdeal.main_arg2)
      ∧ r.2.mem ((c.tc : Thread Cert.FfnDxRefIdeal.nD Cert.FfnDxRefIdeal.τ).loc Cert.FfnDxRefIdeal.main_arg3) = m (c.tc.loc Cert.FfnDxRefIdeal.main_arg3)
      ∧ r.2.mem ((c.tc : Thread Cert.FfnDxRefIdeal.nD Cert.FfnDxRefIdeal.τ).loc Cert.FfnDxRefIdeal.main_arg4) = m (c.tc.loc Cert.FfnDxRefIdeal.main_arg4)
      ∧ r.2.mem ((c.tc : Thread Cert.FfnDxRefIdeal.nD Cert.FfnDxRefIdeal.τ).loc Cert.FfnDxRefIdeal.main_arg5) = m (c.tc.loc Cert.FfnDxRefIdeal.main_arg5)
      ∧ r.2.mem ((c.tc : Thread Cert.FfnDxRefIdeal.nD Cert.FfnDxRefIdeal.τ).loc Cert.FfnDxRefIdeal.main_arg6) = m (c.tc.loc Cert.FfnDxRefIdeal.main_arg6) :=
  (θ_run Cert.FfnDxRefIdeal.defs _ _).mono (fun _ h c => by
    replace h := h c
    refine ⟨h.1.trans ?_, h.2.1.trans ?_, h.2.2.1.trans ?_, h.2.2.2⟩ <;> clear h
    · funext j
      generalize m (c.tc.loc Cert.FfnDxRefIdeal.main_arg0) = da
      generalize m (c.tc.loc Cert.FfnDxRefIdeal.main_arg1) = db
      generalize m (c.tc.loc Cert.FfnDxRefIdeal.main_arg2) = p
      generalize m (c.tc.loc Cert.FfnDxRefIdeal.main_arg3) = q
      generalize m (c.tc.loc Cert.FfnDxRefIdeal.main_arg4) = x
      generalize m (c.tc.loc Cert.FfnDxRefIdeal.main_arg5) = g
      generalize m (c.tc.loc Cert.FfnDxRefIdeal.main_arg6) = y
      pointwise [rows, rowAt, back, project, wide, unitRow, root, row]
    · funext j
      generalize m (c.tc.loc Cert.FfnDxRefIdeal.main_arg0) = da
      generalize m (c.tc.loc Cert.FfnDxRefIdeal.main_arg1) = db
      generalize m (c.tc.loc Cert.FfnDxRefIdeal.main_arg2) = p
      generalize m (c.tc.loc Cert.FfnDxRefIdeal.main_arg3) = q
      generalize m (c.tc.loc Cert.FfnDxRefIdeal.main_arg4) = x
      generalize m (c.tc.loc Cert.FfnDxRefIdeal.main_arg5) = g
      generalize m (c.tc.loc Cert.FfnDxRefIdeal.main_arg6) = y
      pointwise [rows, rowAt, back, project, wide, unitRow, root, row]
    · funext j
      generalize m (c.tc.loc Cert.FfnDxRefIdeal.main_arg0) = da
      generalize m (c.tc.loc Cert.FfnDxRefIdeal.main_arg1) = db
      generalize m (c.tc.loc Cert.FfnDxRefIdeal.main_arg2) = p
      generalize m (c.tc.loc Cert.FfnDxRefIdeal.main_arg3) = q
      generalize m (c.tc.loc Cert.FfnDxRefIdeal.main_arg4) = x
      pointwise [scales, scaleAt, backScale, project, wide, unitRow, root, row]) (Cert.FfnDxRefIdeal.Value.run m ρ)

/-- The two printings are one program. -/
theorem defs_same {F : FTy → Type} [FloatOps F] : Cert.FfnDx.defs (F := F) = defs (F := F) := by chain_rfl
theorem run_same {F : FTy → Type} [FloatOps F] (s : MemSt nD τ sig (Elt F)) (Q) :
    θ_run (Cert.FfnDx.defs (F := F)) (onTc (τ := τ) (Cert.FfnDx.main (F := F))) s Q = θ_run (defs (F := F)) (onTc (τ := τ) (main (F := F))) s Q := by
  rw [defs_same]; rfl

theorem quiescent_kernel : quiescent_FfnDx := fun m g _ => (run_same _ _).mpr (Gen.frame (F := Bits) m g)
theorem quiescent_ideal : quiescent_FfnDxIdeal := fun m g _ => Gen.frame m g
theorem quiescent_refIdeal : quiescent_FfnDxRefIdeal := fun m g _ =>
  (θ_run Cert.FfnDxRefIdeal.defs _ _).mono (fun _ h => ⟨fun c => (h c).2.2.2, funext fun ⟨_, s⟩ => ((show ∀ _ : SemLoc Cert.FfnDxRefIdeal.sig, False by decide) s).elim⟩)
    (Cert.FfnDxRefIdeal.Value.run m g)

theorem algebraic : algebraic_FfnDxIdeal_FfnDxRefIdeal := fun m g m' g' _ h =>
  ⟨_, _, _, value m g, (θ_run Cert.FfnDxRefIdeal.defs _ _).mono (fun _ k c => by
    have k := k c
    obtain ⟨h0, h1, h2, h3, h4, h5, h6⟩ := h c
    rw [h0, h1, h2, h3, h4, h5, h6] at k ⊢
    exact k) (reference m' g')⟩

end Cert.FfnDxProof

end
-- ==== Proof.NormValue.lean ====
/-
  The norm before a feed-forward block, `Cert.NormIdeal`, against its reference: every row over the root of its mean square,
  by the norm's scales, over the rows' sixteen blocks.
-/
module

public import proofs.«01_k».proof.Proof.LossValue
public import proofs.«01_k».proof.Proof.Gen.Norm
public import proofs.«01_k».proof.Proof.Gen.NormIdeal.Value
public import proofs.«01_k».proof.Proof.Gen.NormRefIdeal.Run

@[expose] public section

noncomputable section

namespace Cert.NormProof

open Idealize.ShloMosaic Idealize.ShloMosaic.TcCoe Idealize.SL.Sem

open Cert.NormIdeal Cert.NormIdeal.Gen
open Cert.LossProof (hz root unitRow row rowOf)

/-- What the body leaves in the result's block. -/
theorem out2 {F : FTy → Type} [FloatOps F] (x : Vec F S512x1024 .f32) (g : Vec F S1x1024 .f32) : out0_2 x g = k0_pay1 x g := by
  unfold out0_2
  rw [View.canon_unit_zero hz, View.ld_unit_zero (S := S512x1024) hz, View.ld_unit_zero (S := S1x1024) hz]

/-- A normed row: the row of unit mean square, by the scales. -/
def scaled (x g : Fin 1024 → EReal) : Fin 1024 → EReal := fun k => unitRow x k * g k

/-- The result. -/
def rows (x : S8192x1024.Idx → EReal) (g : S1x1024.Idx → EReal) : S8192x1024.Idx → EReal := fun i => scaled (row x (i 0)) (row g 0) (i 1)

theorem rows_block (x : FVec Ideal S512x1024 .f32) (g : FVec Ideal S1x1024 .f32) (j : S512x1024.Idx) :
    k0_pay1 (F := Ideal) x g j = scaled (row x (j 0)) (row g 0) (j 1) := by
  pointwise [k0_pay1, scaled, unitRow, root, row]

variable (m : (ℓ : Loc nD τ sig) → Buf (Elt Ideal) ℓ) (ρ : Dev nD → PrngReg) (c : Dev nD)

/-- Which block of its array each window holds: of the rows the point's, of the scales the only one. -/
theorem index_eq : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem x_block (t : Fin cfg0.N) (r : Fin 512) : row (iblk m c 0 t) r = row (V m c main_arg0) (rowOf t r) := by
  obtain ⟨e0, e1, -⟩ := index_eq t
  funext k; refine congrArg (V m c main_arg0) (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * k.val = k.val; omega
theorem g_block (t : Fin cfg0.N) : row (iblk m c 1 t) 0 = row (V m c main_arg1) 0 := by
  obtain ⟨-, -, e0, e1, -⟩ := index_eq t
  funext k; refine congrArg (V m c main_arg1) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

theorem rows_step (t : Fin cfg0.N) (j : S512x1024.Idx) : k0_pay1 (F := Ideal) (iblk m c 0 t) (iblk m c 1 t) j
    = scaled (row (V m c main_arg0) (rowOf t (j 0))) (row (V m c main_arg1) 0) (j 1) :=
  (rows_block _ _ j).trans (congrFun (congrArg₂ scaled (x_block m c t (j 0)) (g_block m c t)) (j 1))

theorem read2 (t : Fin cfg0.N) (f : Fin 8192 → Fin 1024 → EReal) (y : S512x1024.Idx) :
    ((cfg0.win 2).blk t).view.read (Elt Ideal) (fun i : S8192x1024.Idx => f (i 0) (i 1)) y = f (rowOf t (y 0)) (y 1) := by
  obtain ⟨-, -, -, -, e0, e1⟩ := index_eq t
  have p0 : ((cfg0.win 2).blk t).view.emb y 0 = rowOf t (y 0) := Fin.ext (by
    show win0_2.index t (0 : Fin 2) * 512 + 1 * (y 0).val = t.val * 512 + (y 0).val; omega)
  have p1 : ((cfg0.win 2).blk t).view.emb y 1 = y 1 := Fin.ext (by
    show win0_2.index t (1 : Fin 2) * 1024 + 1 * (y 1).val = (y 1).val; omega)
  exact congrArg₂ f p0 p1

theorem flushed2 (t : Fin cfg0.N) : (dats m 0 c).flushed 2 t
    = ((cfg0.win 2).blk t).view.read (Elt Ideal) (rows (V m c main_arg0) (V m c main_arg1)) := by
  rw [Value.flushed2, out2]
  funext y
  exact (rows_step m c t y).trans (read2 t (fun n => scaled (row (V m c main_arg0) n) (row (V m c main_arg1) 0)) y).symm

theorem final2 : (dats m 0 c).arrAt 2 cfg0.N = rows (V m c main_arg0) (V m c main_arg1) := by
  refine (dats m 0 c).arrAt_eq_of_cover 2 _ (fun t _ => flushed2 m c t) fun i => ?_
  have h0 : (i 0).val < 8192 := (i 0).isLt
  have h1 : (i 1).val < 1024 := (i 1).isLt
  let t : Fin cfg0.N := (⟨(i 0).val / 512, by omega⟩ : Fin 16)
  have ht : t.val = (i 0).val / 512 := rfl
  obtain ⟨-, -, -, -, e0, e1⟩ := index_eq t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-! ## The claims -/

theorem value : θ_run defs (onTc (τ := τ) (main (F := Ideal))) ⟨m, fun _ => 0, ρ⟩ fun r => ∀ c : Dev nD,
      r.2.mem ((c : Thread nD τ).loc main_v0) = rows (V m c main_arg0) (V m c main_arg1)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Value.run_blocks m ρ)

theorem reference (m : (ℓ : Loc Cert.NormRefIdeal.nD Cert.NormRefIdeal.τ Cert.NormRefIdeal.sig) → Buf (Elt Ideal) ℓ)
    (ρ : Dev Cert.NormRefIdeal.nD → PrngReg) :
    θ_run Cert.NormRefIdeal.defs (onTc (τ := Cert.NormRefIdeal.τ) (Cert.NormRefIdeal.main (F := Ideal))) ⟨m, fun _ => 0, ρ⟩ fun r => ∀ c : Dev Cert.NormRefIdeal.nD,
      r.2.mem ((c.tc : Thread Cert.NormRefIdeal.nD Cert.NormRefIdeal.τ).loc Cert.NormRefIdeal.main_v12)
        = rows (m (c.tc.loc Cert.NormRefIdeal.main_arg0)) (m (c.tc.loc Cert.NormRefIdeal.main_arg1))
      ∧ r.2.mem ((c.tc : Thread Cert.NormRefIdeal.nD Cert.NormRefIdeal.τ).loc Cert.NormRefIdeal.main_arg0) = m (c.tc.loc Cert.NormRefIdeal.main_arg0)
      ∧ r.2.mem ((c.tc : Thread Cert.NormRefIdeal.nD Cert.NormRefIdeal.τ).loc Cert.NormRefIdeal.main_arg1) = m (c.tc.loc Cert.NormRefIdeal.main_arg1) :=
  (θ_run Cert.NormRefIdeal.defs _ _).mono (fun _ h c => by
    replace h := h c
    refine ⟨h.1.trans ?_, h.2⟩
    clear h
    funext j
    generalize m (c.tc.loc Cert.NormRefIdeal.main_arg0) = x
    generalize m (c.tc.loc Cert.NormRefIdeal.main_arg1) = g
    pointwise [rows, scaled, unitRow, root, row])
    (Cert.NormRefIdeal.Value.run m ρ)

/-- The two printings are one program. -/
theorem defs_same {F : FTy → Type} [FloatOps F] : Cert.Norm.defs (F := F) = defs (F := F) := by chain_rfl
theorem run_same {F : FTy → Type} [FloatOps F] (s : MemSt nD τ sig (Elt F)) (Q) :
    θ_run (Cert.Norm.defs (F := F)) (onTc (τ := τ) (Cert.Norm.main (F := F))) s Q = θ_run (defs (F := F)) (onTc (τ := τ) (main (F := F))) s Q := by
  rw [defs_same]; rfl

theorem quiescent_kernel : quiescent_Norm := fun m g _ => (run_same _ _).mpr (Gen.frame (F := Bits) m g)
theorem quiescent_ideal : quiescent_NormIdeal := fun m g _ => Gen.frame m g
theorem quiescent_refIdeal : quiescent_NormRefIdeal := fun m g _ =>
  (θ_run Cert.NormRefIdeal.defs _ _).mono (fun _ h => ⟨fun c => (h c).2, funext fun ⟨_, s⟩ => ((show ∀ _ : SemLoc Cert.NormRefIdeal.sig, False by decide) s).elim⟩)
    (Cert.NormRefIdeal.Value.run m g)
theorem algebraic : algebraic_NormIdeal_NormRefIdeal := fun m g m' g' _ h =>
  ⟨_, value m g, (θ_run Cert.NormRefIdeal.defs _ _).mono (fun _ k c => by
    have k := k c
    obtain ⟨h0, h1⟩ := h c
    rw [h0, h1] at k ⊢
    exact k) (reference m' g')⟩

end Cert.NormProof

end
-- ==== Proof.FfnUpValue.lean ====
/-
  The projections into a feed-forward block, `Cert.FfnUpIdeal`, against their reference: the gate and the other half of a
  row's projection, and the gate by its sigmoid by the other half, over sixteen blocks of rows and two of columns. The kernel
  takes the sigmoid from the hyperbolic tangent, the reference from the exponential.
-/
module

public import proofs.«01_k».proof.Proof.LossValue
public import proofs.«01_k».proof.Proof.Gen.FfnUp
public import proofs.«01_k».proof.Proof.Gen.FfnUpIdeal.Value
public import proofs.«01_k».proof.Proof.Gen.FfnUpRefIdeal.Run

@[expose] public section

noncomputable section

namespace Cert.FfnUpProof

open Idealize.ShloMosaic Idealize.ShloMosaic.TcCoe Idealize.SL.Sem

open Cert.FfnUpIdeal Cert.FfnUpIdeal.Gen
open Cert.LossProof (hz row rowOf half)

/-! ## What the body leaves at a point -/

section Body

variable {F : FTy → Type} [FloatOps F] (x : Vec F S512x1024 .bf16) (p q : Vec F S1408x1024 .bf16)

theorem out3 : out0_3 x p q = k0_pay3 x p := by
  unfold out0_3
  rw [View.canon_unit_zero hz, View.ld_unit_zero (S := S512x1024) hz, View.ld_unit_zero (S := S1408x1024) hz]
theorem out4 : out0_4 x p q = k0_pay4 x q := by
  unfold out0_4
  rw [View.canon_unit_zero hz, View.ld_unit_zero (S := S512x1024) hz, View.ld_unit_zero (S := S1408x1024) hz]
theorem out5 : out0_5 x p q = k0_pay5 x p q := by
  unfold out0_5
  rw [View.canon_unit_zero hz, View.ld_unit_zero (S := S512x1024) hz, View.ld_unit_zero (S := S1408x1024) hz, View.ld_unit_zero (S := S1408x1024) hz]

end Body

/-! ## The sigmoid -/

abbrev one : EReal := Ideal.ofBits .f32 0x3F800000#32
def sigmoid (x : EReal) : EReal := Ideal.div one (one + Ideal.exp (-x))

theorem half_eq : half = ((1 / 2 : ℝ) : EReal) := by simp [half, Ideal.ofBits, Ideal.ieee, -EReal.coe_mul]; norm_num
theorem one_eq : one = 1 := by simp [one, Ideal.ofBits, Ideal.ieee, -EReal.coe_mul]; norm_num

theorem sigmoid_real (x : ℝ) : 1 / 2 * Real.tanh (1 / 2 * x) + 1 / 2 = (1 + Real.exp (-x))⁻¹ := by
  have e : Real.exp (-x) = Real.exp (-(1 / 2 * x)) * Real.exp (-(1 / 2 * x)) := by rw [← Real.exp_add]; congr 1; ring
  have p := Real.exp_pos (1 / 2 * x)
  rw [Real.tanh_eq_sinh_div_cosh, Real.sinh_eq, Real.cosh_eq, e, Real.exp_neg]
  field_simp
  ring

/-- The sigmoid from the hyperbolic tangent. -/
theorem tanh_sigmoid (x : EReal) : half * Ideal.tanh (half * x) + half = sigmoid x := by
  have e : sigmoid x = Ideal.logistic x := by rw [sigmoid, one_eq, Ideal.logistic]
  rw [e, half_eq]
  induction x using EReal.rec with
  | bot =>
    rw [EReal.coe_mul_bot_of_pos (by norm_num), Ideal.logistic_bot]
    show ((1 / 2 : ℝ) : EReal) * -1 + ((1 / 2 : ℝ) : EReal) = 0
    rw [mul_neg, mul_one, ← EReal.coe_neg, ← EReal.coe_add]; norm_num
  | top =>
    rw [EReal.coe_mul_top_of_pos (by norm_num), Ideal.logistic_top]
    show ((1 / 2 : ℝ) : EReal) * 1 + ((1 / 2 : ℝ) : EReal) = 1
    rw [mul_one, ← EReal.coe_add]; norm_num
  | coe x =>
    rw [← EReal.coe_mul, Ideal.logistic_coe, ← sigmoid_real]
    show ((1 / 2 : ℝ) : EReal) * ((Real.tanh (1 / 2 * x) : ℝ) : EReal) + ((1 / 2 : ℝ) : EReal) = _
    rw [← EReal.coe_mul, ← EReal.coe_add]

/-! ## The mathematics of one row -/

/-- A row against a row of weights. -/
def against (x w : Fin 1024 → EReal) : EReal := ∑ k, x k * w k
/-- The gate by its sigmoid, by the other half. -/
def gated (a b : EReal) : EReal := a * sigmoid a * b

section Block

variable (x : FVec Ideal S512x1024 .bf16) (p q : FVec Ideal S1408x1024 .bf16) (j : S512x1408.Idx)

theorem gate_block : k0_pay3 (F := Ideal) x p j = against (row x (j 0)) (row p (j 1)) := by
  pointwise [k0_pay3, k0_pay1, against, row]
theorem other_block : k0_pay4 (F := Ideal) x q j = against (row x (j 0)) (row q (j 1)) := by
  pointwise [k0_pay4, k0_pay2, against, row]
theorem gated_block : k0_pay5 (F := Ideal) x p q j = gated (against (row x (j 0)) (row p (j 1))) (against (row x (j 0)) (row q (j 1))) := by
  rw [gated, ← tanh_sigmoid]
  pointwise [k0_pay5, k0_pay2, k0_pay1, against, row]

end Block

/-! ## Over the blocks -/

/-- The results: a projection, and the gated product of two. -/
def proj (x : S8192x1024.Idx → EReal) (w : S2816x1024.Idx → EReal) : S8192x2816.Idx → EReal := fun i => against (row x (i 0)) (row w (i 1))
def gatedRows (x : S8192x1024.Idx → EReal) (p q : S2816x1024.Idx → EReal) : S8192x2816.Idx → EReal := fun i => gated (proj x p i) (proj x q i)

variable (m : (ℓ : Loc nD τ sig) → Buf (Elt Ideal) ℓ) (ρ : Dev nD → PrngReg) (c : Dev nD)

/-- The block of rows and the half of the columns of a point, and where its block's elements lie. -/
def rowsAt (t : Fin cfg0.N) : Fin 16 := ⟨t.val % 16, by omega⟩
def colOf (t : Fin cfg0.N) (s : Fin 1408) : Fin 2816 := ⟨t.val / 16 * 1408 + s.val, by have : t.val < 32 := t.isLt; omega⟩
def place (t : Fin cfg0.N) (y : S512x1408.Idx) : S8192x2816.Idx := ix2 (rowOf (rowsAt t) (y 0)) (colOf t (y 1))

theorem index_eq : ∀ t : Fin cfg0.N, win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = t.val / 16 :=
  (by decide +kernel : ∀ t : Fin grid0.N, _)

theorem x_block (t : Fin cfg0.N) (r : Fin 512) : row (iblk m c 0 t) r = row (V m c main_arg0) (rowOf (rowsAt t) r) := by
  obtain ⟨e0, e1, -⟩ := index_eq t
  funext k; refine congrArg (V m c main_arg0) (funext fun a => Fin.ext ?_)
  match a with
  | ⟨0, _⟩ => show win0_0.index t (0 : Fin 2) * 512 + 1 * r.val = t.val % 16 * 512 + r.val; omega
  | ⟨1, _⟩ => show win0_0.index t (1 : Fin 2) * 1024 + 1 * k.val = k.val; omega
theorem p_block (t : Fin cfg0.N) (s : Fin 1408) : row (iblk m c 1 t) s = row (V m c main_arg1) (colOf t s) := by
  obtain ⟨-, -, e0, e1, -⟩ := index_eq t
  funext k; refine congrArg (V m c main_arg1) (funext fun a => Fin.ext ?_)
  match a with
  | ⟨0, _⟩ => show win0_1.index t (0 : Fin 2) * 1408 + 1 * s.val = t.val / 16 * 1408 + s.val; omega
  | ⟨1, _⟩ => show win0_1.index t (1 : Fin 2) * 1024 + 1 * k.val = k.val; omega
theorem q_block (t : Fin cfg0.N) (s : Fin 1408) : row (iblk m c 2 t) s = row (V m c main_arg2) (colOf t s) := by
  obtain ⟨-, -, -, -, e0, e1, -⟩ := index_eq t
  funext k; refine congrArg (V m c main_arg2) (funext fun a => Fin.ext ?_)
  match a with
  | ⟨0, _⟩ => show win0_2.index t (0 : Fin 2) * 1408 + 1 * s.val = t.val / 16 * 1408 + s.val; omega
  | ⟨1, _⟩ => show win0_2.index t (1 : Fin 2) * 1024 + 1 * k.val = k.val; omega

theorem gate_step (t : Fin cfg0.N) (y : S512x1408.Idx) : k0_pay3 (F := Ideal) (iblk m c 0 t) (iblk m c 1 t) y
    = proj (V m c main_arg0) (V m c main_arg1) (place t y) :=
  (gate_block _ _ y).trans (congrArg₂ against (x_block m c t (y 0)) (p_block m c t (y 1)))
theorem other_step (t : Fin cfg0.N) (y : S512x1408.Idx) : k0_pay4 (F := Ideal) (iblk m c 0 t) (iblk m c 2 t) y
    = proj (V m c main_arg0) (V m c main_arg2) (place t y) :=
  (other_block _ _ y).trans (congrArg₂ against (x_block m c t (y 0)) (q_block m c t (y 1)))
theorem gated_step (t : Fin cfg0.N) (y : S512x1408.Idx) : k0_pay5 (F := Ideal) (iblk m c 0 t) (iblk m c 1 t) (iblk m c 2 t) y
    = gatedRows (V m c main_arg0) (V m c main_arg1) (V m c main_arg2) (place t y) :=
  (gated_block _ _ _ y).trans (congrArg₂ gated ((gate_block _ _ y).symm.trans (gate_step m c t y)) ((other_block _ _ y).symm.trans (other_step m c t y)))

/-- The three results' windows lie alike: where a block's element is in the array, and that every place is in a block. -/
theorem emb_eq (t : Fin cfg0.N) (y : S512x1408.Idx) : ((cfg0.win 3).blk t).view.emb y = place t y := by
  obtain ⟨-, -, -, -, -, -, e0, e1⟩ := index_eq t
  refine funext fun a => Fin.ext ?_
  match a with
  | ⟨0, _⟩ => show win0_3.index t (0 : Fin 2) * 512 + 1 * (y 0).val = t.val % 16 * 512 + (y 0).val; omega
  | ⟨1, _⟩ => show win0_3.index t (1 : Fin 2) * 1408 + 1 * (y 1).val = t.val / 16 * 1408 + (y 1).val; omega

theorem cover (i : S8192x2816.Idx) : ∃ t : Fin cfg0.N, ∀ a : Fin 2, win0_3.index t a * S512x1408.size a ≤ (i a).val
    ∧ (i a).val < win0_3.index t a * S512x1408.size a + S512x1408.size a := by
  have h0 : (i 0).val < 8192 := (i 0).isLt
  have h1 : (i 1).val < 2816 := (i 1).isLt
  let t : Fin cfg0.N := (⟨(i 1).val / 1408 * 16 + (i 0).val / 512, by omega⟩ : Fin 32)
  have ht : t.val = (i 1).val / 1408 * 16 + (i 0).val / 512 := rfl
  obtain ⟨-, -, -, -, -, -, e0, e1⟩ := index_eq t
  refine ⟨t, fun a => ?_⟩
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1408 ≤ (i 1).val ∧ (i 1).val < win0_3.index t (1 : Fin 2) * 1408 + 1408; omega

theorem final3 : (dats m 0 c).arrAt 3 cfg0.N = proj (V m c main_arg0) (V m c main_arg1) := by
  refine (dats m 0 c).arrAt_eq_of_cover 3 _ (fun t _ => ?_) fun i => ?_
  · rw [Value.flushed3, out3]
    funext y
    exact (gate_step m c t y).trans (congrArg _ (emb_eq t y).symm)
  · obtain ⟨t, h⟩ := cover i
    refine ⟨t, flush0_3 t, ?_⟩
    show i ∈ ((View.whole main_v0_0).slice (win0_3.rect t)).set
    rw [View.set_slice_whole, Rect.mem_set_unit]
    exact h

theorem final4 : (dats m 0 c).arrAt 4 cfg0.N = proj (V m c main_arg0) (V m c main_arg2) := by
  refine (dats m 0 c).arrAt_eq_of_cover 4 _ (fun t _ => ?_) fun i => ?_
  · rw [Value.flushed4, out4]
    funext y
    exact (other_step m c t y).trans (congrArg _ (emb_eq t y).symm)
  · obtain ⟨t, h⟩ := cover i
    refine ⟨t, flush0_4 t, ?_⟩
    show i ∈ ((View.whole main_v0_1).slice (win0_4.rect t)).set
    rw [View.set_slice_whole, Rect.mem_set_unit]
    exact h

theorem final5 : (dats m 0 c).arrAt 5 cfg0.N = gatedRows (V m c main_arg0) (V m c main_arg1) (V m c main_arg2) := by
  refine (dats m 0 c).arrAt_eq_of_cover 5 _ (fun t _ => ?_) fun i => ?_
  · rw [Value.flushed5, out5]
    funext y
    exact (gated_step m c t y).trans (congrArg _ (emb_eq t y).symm)
  · obtain ⟨t, h⟩ := cover i
    refine ⟨t, flush0_5 t, ?_⟩
    show i ∈ ((View.whole main_v0_2).slice (win0_5.rect t)).set
    rw [View.set_slice_whole, Rect.mem_set_unit]
    exact h

/-! ## The claims -/

theorem value : θ_run defs (onTc (τ := τ) (main (F := Ideal))) ⟨m, fun _ => 0, ρ⟩ fun r => ∀ c : Dev nD,
      r.2.mem ((c : Thread nD τ).loc main_v0_0) = proj (V m c main_arg0) (V m c main_arg1)
      ∧ r.2.mem ((c : Thread nD τ).loc main_v0_1) = proj (V m c main_arg0) (V m c main_arg2)
      ∧ r.2.mem ((c : Thread nD τ).loc main_v0_2) = gatedRows (V m c main_arg0) (V m c main_arg1) (V m c main_arg2)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2.1.trans (final5 m c), (h c).2.2.2⟩) (Value.run_blocks m ρ)

theorem reference (m : (ℓ : Loc Cert.FfnUpRefIdeal.nD Cert.FfnUpRefIdeal.τ Cert.FfnUpRefIdeal.sig) → Buf (Elt Ideal) ℓ)
    (ρ : Dev Cert.FfnUpRefIdeal.nD → PrngReg) :
    θ_run Cert.FfnUpRefIdeal.defs (onTc (τ := Cert.FfnUpRefIdeal.τ) (Cert.FfnUpRefIdeal.main (F := Ideal))) ⟨m, fun _ => 0, ρ⟩ fun r => ∀ c : Dev Cert.FfnUpRefIdeal.nD,
      r.2.mem ((c.tc : Thread Cert.FfnUpRefIdeal.nD Cert.FfnUpRefIdeal.τ).loc Cert.FfnUpRefIdeal.main_v7)
        = proj (m (c.tc.loc Cert.FfnUpRefIdeal.main_arg0)) (m (c.tc.loc Cert.FfnUpRefIdeal.main_arg1))
      ∧ r.2.mem ((c.tc : Thread Cert.FfnUpRefIdeal.nD Cert.FfnUpRefIdeal.τ).loc Cert.FfnUpRefIdeal.main_v8)
        = proj (m (c.tc.loc Cert.FfnUpRefIdeal.main_arg0)) (m (c.tc.loc Cert.FfnUpRefIdeal.main_arg2))
      ∧ r.2.mem ((c.tc : Thread Cert.FfnUpRefIdeal.nD Cert.FfnUpRefIdeal.τ).loc Cert.FfnUpRefIdeal.main_v11)
        = gatedRows (m (c.tc.loc Cert.FfnUpRefIdeal.main_arg0)) (m (c.tc.loc Cert.FfnUpRefIdeal.main_arg1)) (m (c.tc.loc Cert.FfnUpRefIdeal.main_arg2))
      ∧ r.2.mem ((c.tc : Thread Cert.FfnUpRefIdeal.nD Cert.FfnUpRefIdeal.τ).loc Cert.FfnUpRefIdeal.main_arg0) = m (c.tc.loc Cert.FfnUpRefIdeal.main_arg0)
      ∧ r.2.mem ((c.tc : Thread Cert.FfnUpRefIdeal.nD Cert.FfnUpRefIdeal.τ).loc Cert.FfnUpRefIdeal.main_arg1) = m (c.tc.loc Cert.FfnUpRefIdeal.main_arg1)
      ∧ r.2.mem ((c.tc : Thread Cert.FfnUpRefIdeal.nD Cert.FfnUpRefIdeal.τ).loc Cert.FfnUpRefIdeal.main_arg2) = m (c.tc.loc Cert.FfnUpRefIdeal.main_arg2) :=
  (θ_run Cert.FfnUpRefIdeal.defs _ _).mono (fun _ h c => by
    replace h := h c
    refine ⟨h.1.trans ?_, h.2.1.trans ?_, h.2.2.1.trans ?_, h.2.2.2⟩
    all_goals
      clear h
      funext j
      generalize m (c.tc.loc Cert.FfnUpRefIdeal.main_arg0) = x0
      generalize m (c.tc.loc Cert.FfnUpRefIdeal.main_arg1) = x1
      generalize m (c.tc.loc Cert.FfnUpRefIdeal.main_arg2) = x2
    all_goals pointwise [proj, gatedRows, gated, sigmoid, one, against, row])
    (Cert.FfnUpRefIdeal.Value.run m ρ)

/-- The two printings are one program. -/
theorem defs_same {F : FTy → Type} [FloatOps F] : Cert.FfnUp.defs (F := F) = defs (F := F) := by chain_rfl
theorem run_same {F : FTy → Type} [FloatOps F] (s : MemSt nD τ sig (Elt F)) (Q) :
    θ_run (Cert.FfnUp.defs (F := F)) (onTc (τ := τ) (Cert.FfnUp.main (F := F))) s Q = θ_run (defs (F := F)) (onTc (τ := τ) (main (F := F))) s Q := by
  rw [defs_same]; rfl

theorem quiescent_kernel : quiescent_FfnUp := fun m g _ => (run_same _ _).mpr (Gen.frame (F := Bits) m g)
theorem quiescent_ideal : quiescent_FfnUpIdeal := fun m g _ => Gen.frame m g
theorem quiescent_refIdeal : quiescent_FfnUpRefIdeal := fun m g _ =>
  (θ_run Cert.FfnUpRefIdeal.defs _ _).mono (fun _ h => ⟨fun c => (h c).2.2.2, funext fun ⟨_, s⟩ => ((show ∀ _ : SemLoc Cert.FfnUpRefIdeal.sig, False by decide) s).elim⟩)
    (Cert.FfnUpRefIdeal.Value.run m g)
theorem algebraic : algebraic_FfnUpIdeal_FfnUpRefIdeal := fun m g m' g' _ h =>
  ⟨_, _, _, value m g, (θ_run Cert.FfnUpRefIdeal.defs _ _).mono (fun _ k c => by
    have k := k c
    obtain ⟨h0, h1, h2⟩ := h c
    rw [h0, h1, h2] at k ⊢
    exact k) (reference m' g')⟩

end Cert.FfnUpProof

end
-- ==== Proof.FfnDownValue.lean ====
/-
  The projection out of a feed-forward block, `Cert.FfnDownIdeal`, against its reference: half of the projection added to the
  rows, and those rows normed, over the rows' sixteen blocks.
-/
module

public import proofs.«01_k».proof.Proof.NormValue
public import proofs.«01_k».proof.Proof.Gen.FfnDown
public import proofs.«01_k».proof.Proof.Gen.FfnDownIdeal.Value
public import proofs.«01_k».proof.Proof.Gen.FfnDownRefIdeal.Run

@[expose] public section

noncomputable section

namespace Cert.FfnDownProof

open Idealize.ShloMosaic Idealize.ShloMosaic.TcCoe Idealize.SL.Sem

open Cert.FfnDownIdeal Cert.FfnDownIdeal.Gen
open Cert.LossProof (hz root unitRow row rowOf half)
open Cert.NormProof (scaled)

/-! ## What the body leaves at a point -/

section Body

variable {F : FTy → Type} [FloatOps F] (h : Vec F S512x2816 .bf16) (w : Vec F S2816x1024 .bf16) (x : Vec F S512x1024 .f32) (g : Vec F S1x1024 .f32)

theorem out4 : out0_4 h w x g = k0_pay1 h w x := by
  unfold out0_4
  rw [View.canon_unit_zero hz, View.ld_unit_zero (S := S512x2816) hz, View.ld_unit_zero (S := S2816x1024) hz, View.ld_unit_zero (S := S512x1024) hz]
theorem out5 : out0_5 h w x g = k0_pay2 h w x g := by
  unfold out0_5
  rw [View.canon_unit_zero hz, View.ld_unit_zero (S := S512x2816) hz, View.ld_unit_zero (S := S2816x1024) hz, View.ld_unit_zero (S := S512x1024) hz, View.ld_unit_zero (S := S1x1024) hz]

end Body

/-! ## The mathematics of one row -/

/-- Row `r` of an array 2816 wide. -/
def wide {n : ℕ} (x : (⟨2, ![n, 2816]⟩ : Shape).Idx → EReal) (r : Fin n) : Fin 2816 → EReal := fun s => x (ix2 r s)

/-- Half of the projection of `h`, added to the row `x`. -/
def onto (h : Fin 2816 → EReal) (w : S2816x1024.Idx → EReal) (x : Fin 1024 → EReal) : Fin 1024 → EReal :=
  fun k => x k + half * ∑ s, h s * w (ix2 s k)

section Block

variable (h : FVec Ideal S512x2816 .bf16) (w : FVec Ideal S2816x1024 .bf16) (x : FVec Ideal S512x1024 .f32) (g : FVec Ideal S1x1024 .f32)
  (j : S512x1024.Idx)

theorem rows_block : k0_pay1 (F := Ideal) h w x j = onto (wide h (j 0)) w (row x (j 0)) (j 1) := by
  pointwise [k0_pay1, onto, wide, row]
theorem normed_block : k0_pay2 (F := Ideal) h w x g j = scaled (onto (wide h (j 0)) w (row x (j 0))) (row g 0) (j 1) := by
  pointwise [k0_pay2, k0_pay1, scaled, unitRow, root, onto, wide, row]

end Block

/-! ## Over the blocks -/

section Arrays

variable (h : S8192x2816.Idx → EReal) (w : S2816x1024.Idx → EReal) (x : S8192x1024.Idx → EReal) (g : S1x1024.Idx → EReal)

/-- The results: the rows, and the rows normed. -/
def rows : S8192x1024.Idx → EReal := fun i => onto (wide h (i 0)) w (row x (i 0)) (i 1)
def normed : S8192x1024.Idx → EReal := fun i => scaled (onto (wide h (i 0)) w (row x (i 0))) (row g 0) (i 1)

end Arrays

variable (m : (ℓ : Loc nD τ sig) → Buf (Elt Ideal) ℓ) (ρ : Dev nD → PrngReg) (c : Dev nD)

/-- Where the elements of a point's block of rows lie. -/
def place (t : Fin cfg0.N) (y : S512x1024.Idx) : S8192x1024.Idx := ix2 (rowOf t (y 0)) (y 1)

theorem index_eq : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem h_block (t : Fin cfg0.N) (r : Fin 512) : wide (iblk m c 0 t) r = wide (V m c main_arg0) (rowOf t r) := by
  obtain ⟨e0, e1, -⟩ := index_eq t
  funext k; refine congrArg (V m c main_arg0) (funext fun a => Fin.ext ?_)
  match a with
  | ⟨0, _⟩ => show win0_0.index t (0 : Fin 2) * 512 + 1 * r.val = t.val * 512 + r.val; omega
  | ⟨1, _⟩ => show win0_0.index t (1 : Fin 2) * 2816 + 1 * k.val = k.val; omega
theorem w_block (t : Fin cfg0.N) : iblk m c 1 t = V m c main_arg1 := by
  obtain ⟨-, -, e0, e1, -⟩ := index_eq t
  funext j; refine congrArg (V m c main_arg1) (funext fun a => Fin.ext ?_)
  match a with
  | ⟨0, _⟩ => show win0_1.index t (0 : Fin 2) * 2816 + 1 * (j 0).val = (j 0).val; omega
  | ⟨1, _⟩ => show win0_1.index t (1 : Fin 2) * 1024 + 1 * (j 1).val = (j 1).val; omega
theorem x_block (t : Fin cfg0.N) (r : Fin 512) : row (iblk m c 2 t) r = row (V m c main_arg2) (rowOf t r) := by
  obtain ⟨-, -, -, -, e0, e1, -⟩ := index_eq t
  funext k; refine congrArg (V m c main_arg2) (funext fun a => Fin.ext ?_)
  match a with
  | ⟨0, _⟩ => show win0_2.index t (0 : Fin 2) * 512 + 1 * r.val = t.val * 512 + r.val; omega
  | ⟨1, _⟩ => show win0_2.index t (1 : Fin 2) * 1024 + 1 * k.val = k.val; omega
theorem g_block (t : Fin cfg0.N) : row (iblk m c 3 t) 0 = row (V m c main_arg3) 0 := by
  obtain ⟨-, -, -, -, -, -, e0, e1, -⟩ := index_eq t
  funext k; refine congrArg (V m c main_arg3) (funext fun a => Fin.ext ?_)
  match a with
  | ⟨0, _⟩ => show win0_3.index t (0 : Fin 2) * 1 + 1 * 0 = 0; omega
  | ⟨1, _⟩ => show win0_3.index t (1 : Fin 2) * 1024 + 1 * k.val = k.val; omega

theorem onto_step (t : Fin cfg0.N) (r : Fin 512) : onto (wide (iblk m c 0 t) r) (iblk m c 1 t) (row (iblk m c 2 t) r)
    = onto (wide (V m c main_arg0) (rowOf t r)) (V m c main_arg1) (row (V m c main_arg2) (rowOf t r)) := by
  rw [h_block, w_block, x_block]
theorem rows_step (t : Fin cfg0.N) (y : S512x1024.Idx) : k0_pay1 (F := Ideal) (iblk m c 0 t) (iblk m c 1 t) (iblk m c 2 t) y
    = rows (V m c main_arg0) (V m c main_arg1) (V m c main_arg2) (place t y) :=
  (rows_block _ _ _ y).trans (congrFun (onto_step m c t (y 0)) (y 1))
theorem normed_step (t : Fin cfg0.N) (y : S512x1024.Idx) : k0_pay2 (F := Ideal) (iblk m c 0 t) (iblk m c 1 t) (iblk m c 2 t) (iblk m c 3 t) y
    = normed (V m c main_arg0) (V m c main_arg1) (V m c main_arg2) (V m c main_arg3) (place t y) :=
  (normed_block _ _ _ _ y).trans (congrFun (congrArg₂ scaled (onto_step m c t (y 0)) (g_block m c t)) (y 1))

/-- The two results' windows lie alike: where a block's element is in the array, and that every place is in a block. -/
theorem emb_eq (t : Fin cfg0.N) (y : S512x1024.Idx) : ((cfg0.win 4).blk t).view.emb y = place t y := by
  obtain ⟨-, -, -, -, -, -, -, -, e0, e1⟩ := index_eq t
  refine funext fun a => Fin.ext ?_
  match a with
  | ⟨0, _⟩ => show win0_4.index t (0 : Fin 2) * 512 + 1 * (y 0).val = t.val * 512 + (y 0).val; omega
  | ⟨1, _⟩ => show win0_4.index t (1 : Fin 2) * 1024 + 1 * (y 1).val = (y 1).val; omega

theorem cover (i : S8192x1024.Idx) : ∃ t : Fin cfg0.N, ∀ a : Fin 2, win0_4.index t a * S512x1024.size a ≤ (i a).val
    ∧ (i a).val < win0_4.index t a * S512x1024.size a + S512x1024.size a := by
  have h0 : (i 0).val < 8192 := (i 0).isLt
  have h1 : (i 1).val < 1024 := (i 1).isLt
  let t : Fin cfg0.N := (⟨(i 0).val / 512, by omega⟩ : Fin 16)
  have ht : t.val = (i 0).val / 512 := rfl
  obtain ⟨-, -, -, -, -, -, -, -, e0, e1⟩ := index_eq t
  refine ⟨t, fun a => ?_⟩
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

theorem final4 : (dats m 0 c).arrAt 4 cfg0.N = rows (V m c main_arg0) (V m c main_arg1) (V m c main_arg2) := by
  refine (dats m 0 c).arrAt_eq_of_cover 4 _ (fun t _ => ?_) fun i => ?_
  · rw [Value.flushed4, out4]
    funext y
    exact (rows_step m c t y).trans (congrArg _ (emb_eq t y).symm)
  · obtain ⟨t, h⟩ := cover i
    refine ⟨t, flush0_4 t, ?_⟩
    show i ∈ ((View.whole main_v0_0).slice (win0_4.rect t)).set
    rw [View.set_slice_whole, Rect.mem_set_unit]
    exact h

theorem final5 : (dats m 0 c).arrAt 5 cfg0.N = normed (V m c main_arg0) (V m c main_arg1) (V m c main_arg2) (V m c main_arg3) := by
  refine (dats m 0 c).arrAt_eq_of_cover 5 _ (fun t _ => ?_) fun i => ?_
  · rw [Value.flushed5, out5]
    funext y
    exact (normed_step m c t y).trans (congrArg _ (emb_eq t y).symm)
  · obtain ⟨t, h⟩ := cover i
    refine ⟨t, flush0_5 t, ?_⟩
    show i ∈ ((View.whole main_v0_1).slice (win0_5.rect t)).set
    rw [View.set_slice_whole, Rect.mem_set_unit]
    exact h

/-! ## The claims -/

theorem value : θ_run defs (onTc (τ := τ) (main (F := Ideal))) ⟨m, fun _ => 0, ρ⟩ fun r => ∀ c : Dev nD,
      r.2.mem ((c : Thread nD τ).loc main_v0_0) = rows (V m c main_arg0) (V m c main_arg1) (V m c main_arg2)
      ∧ r.2.mem ((c : Thread nD τ).loc main_v0_1) = normed (V m c main_arg0) (V m c main_arg1) (V m c main_arg2) (V m c main_arg3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

theorem reference (m : (ℓ : Loc Cert.FfnDownRefIdeal.nD Cert.FfnDownRefIdeal.τ Cert.FfnDownRefIdeal.sig) → Buf (Elt Ideal) ℓ)
    (ρ : Dev Cert.FfnDownRefIdeal.nD → PrngReg) :
    θ_run Cert.FfnDownRefIdeal.defs (onTc (τ := Cert.FfnDownRefIdeal.τ) (Cert.FfnDownRefIdeal.main (F := Ideal))) ⟨m, fun _ => 0, ρ⟩ fun r => ∀ c : Dev Cert.FfnDownRefIdeal.nD,
      r.2.mem ((c.tc : Thread Cert.FfnDownRefIdeal.nD Cert.FfnDownRefIdeal.τ).loc Cert.FfnDownRefIdeal.main_v5)
        = rows (m (c.tc.loc Cert.FfnDownRefIdeal.main_arg0)) (m (c.tc.loc Cert.FfnDownRefIdeal.main_arg1)) (m (c.tc.loc Cert.FfnDownRefIdeal.main_arg2))
      ∧ r.2.mem ((c.tc : Thread Cert.FfnDownRefIdeal.nD Cert.FfnDownRefIdeal.τ).loc Cert.FfnDownRefIdeal.main_v18)
        = normed (m (c.tc.loc Cert.FfnDownRefIdeal.main_arg0)) (m (c.tc.loc Cert.FfnDownRefIdeal.main_arg1)) (m (c.tc.loc Cert.FfnDownRefIdeal.main_arg2)) (m (c.tc.loc Cert.FfnDownRefIdeal.main_arg3))
      ∧ r.2.mem ((c.tc : Thread Cert.FfnDownRefIdeal.nD Cert.FfnDownRefIdeal.τ).loc Cert.FfnDownRefIdeal.main_arg0) = m (c.tc.loc Cert.FfnDownRefIdeal.main_arg0)
      ∧ r.2.mem ((c.tc : Thread Cert.FfnDownRefIdeal.nD Cert.FfnDownRefIdeal.τ).loc Cert.FfnDownRefIdeal.main_arg1) = m (c.tc.loc Cert.FfnDownRefIdeal.main_arg1)
      ∧ r.2.mem ((c.tc : Thread Cert.FfnDownRefIdeal.nD Cert.FfnDownRefIdeal.τ).loc Cert.FfnDownRefIdeal.main_arg2) = m (c.tc.loc Cert.FfnDownRefIdeal.main_arg2)
      ∧ r.2.mem ((c.tc : Thread Cert.FfnDownRefIdeal.nD Cert.FfnDownRefIdeal.τ).loc Cert.FfnDownRefIdeal.main_arg3) = m (c.tc.loc Cert.FfnDownRefIdeal.main_arg3) :=
  (θ_run Cert.FfnDownRefIdeal.defs _ _).mono (fun _ h c => by
    replace h := h c
    refine ⟨h.1.trans ?_, h.2.1.trans ?_, h.2.2⟩
    all_goals
      clear h
      funext j
      generalize m (c.tc.loc Cert.FfnDownRefIdeal.main_arg0) = x0
      generalize m (c.tc.loc Cert.FfnDownRefIdeal.main_arg1) = x1
      generalize m (c.tc.loc Cert.FfnDownRefIdeal.main_arg2) = x2
      generalize m (c.tc.loc Cert.FfnDownRefIdeal.main_arg3) = x3
    all_goals pointwise [rows, normed, scaled, unitRow, root, onto, wide, row])
    (Cert.FfnDownRefIdeal.Value.run m ρ)

/-- The two printings are one program. -/
theorem defs_same {F : FTy → Type} [FloatOps F] : Cert.FfnDown.defs (F := F) = defs (F := F) := by chain_rfl
theorem run_same {F : FTy → Type} [FloatOps F] (s : MemSt nD τ sig (Elt F)) (Q) :
    θ_run (Cert.FfnDown.defs (F := F)) (onTc (τ := τ) (Cert.FfnDown.main (F := F))) s Q = θ_run (defs (F := F)) (onTc (τ := τ) (main (F := F))) s Q := by
  rw [defs_same]; rfl

theorem quiescent_kernel : quiescent_FfnDown := fun m g _ => (run_same _ _).mpr (Gen.frame (F := Bits) m g)
theorem quiescent_ideal : quiescent_FfnDownIdeal := fun m g _ => Gen.frame m g
theorem quiescent_refIdeal : quiescent_FfnDownRefIdeal := fun m g _ =>
  (θ_run Cert.FfnDownRefIdeal.defs _ _).mono (fun _ h => ⟨fun c => (h c).2.2, funext fun ⟨_, s⟩ => ((show ∀ _ : SemLoc Cert.FfnDownRefIdeal.sig, False by decide) s).elim⟩)
    (Cert.FfnDownRefIdeal.Value.run m g)
theorem algebraic : algebraic_FfnDownIdeal_FfnDownRefIdeal := fun m g m' g' _ h =>
  ⟨_, _, value m g, (θ_run Cert.FfnDownRefIdeal.defs _ _).mono (fun _ k c => by
    have k := k c
    obtain ⟨h0, h1, h2, h3⟩ := h c
    rw [h0, h1, h2, h3] at k ⊢
    exact k) (reference m' g')⟩

end Cert.FfnDownProof

end
-- ==== Proof.FfnDwUpValue.lean ====
/-
  The derivative to a projection into a feed-forward block, `Cert.FfnDwUpIdeal`, against its reference: the columns of the
  derivatives against the columns of the rows, over two halves of the columns and, added up, four tiles of the rows.
-/
module

public import proofs.«01_k».proof.Proof.LossValue
public import proofs.«01_k».proof.Proof.Gen.FfnDwUp
public import proofs.«01_k».proof.Proof.Gen.FfnDwUpIdeal.Value
public import proofs.«01_k».proof.Proof.Gen.FfnDwUpRefIdeal.Run

@[expose] public section

noncomputable section

namespace Cert.FfnDwUpProof

open Idealize.ShloMosaic Idealize.ShloMosaic.TcCoe Idealize.SL.Sem

open Cert.FfnDwUpIdeal Cert.FfnDwUpIdeal.Gen
open Cert.LossProof (hz)

/-! ## What the body leaves at a point -/

section Body

variable {F : FTy → Type} [FloatOps F]

variable (c : Dev nD) (i : grid0.Coords)
  (a3 : Memref sig .tc .vmem S2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)
  (a : Vec F S2048x1408 .bf16) (b : Vec F S2048x1024 .bf16) (d : Vec F S1408x1024 .f32)

theorem heldA (hc : cond0_0 i) (hd : ¬cond0_1 i) (he : ¬cond0_2 i) : sout0_A_0 c i a3 h3 a4 h4 a5 h5 a6 h6 hc hd he a b = k0_pay2 b a := by
  unfold sout0_A_0
  rw [View.read_writes_eq_canon _ _ _ (scover0_A_0 c i a3 h3 a4 h4 a5 h5 a6 h6 hc hd he a b)]
  unfold kernelRun0_A
  dsimp only
  sl_unfold_words
  rw [View.canon_unit_zero hz]
  simp only [View.readAt_eq_ld, h3.read_unread, h4.read_unread, View.ld_unit_zero (S := S2048x1408) hz, View.ld_unit_zero (S := S2048x1024) hz]

theorem heldB (hc : ¬cond0_0 i) (hd : cond0_1 i) (he : ¬cond0_2 i) : sout0_B_0 c i a3 h3 a4 h4 a5 h5 a6 h6 hc hd he a b d = k0_pay3 b a d := by
  unfold sout0_B_0
  rw [View.read_writes_eq_canon _ _ _ (scover0_B_0 c i a3 h3 a4 h4 a5 h5 a6 h6 hc hd he a b d)]
  unfold kernelRun0_B
  dsimp only
  sl_unfold_words
  rw [View.canon_unit_zero hz]
  simp only [View.readAt_eq_ld, h3.read_unread, h4.read_unread, h6.read_unread, View.ld_unit_zero (S := S2048x1408) hz, View.ld_unit_zero (S := S2048x1024) hz, View.ld_unit_zero (S := S1408x1024) hz]

theorem heldC (hc : ¬cond0_0 i) (hd : cond0_1 i) (he : cond0_2 i) : sout0_C_0 c i a3 h3 a4 h4 a5 h5 a6 h6 hc hd he a b d = k0_pay3 b a d := by
  unfold sout0_C_0
  rw [View.read_writes_eq_canon _ _ _ (scover0_C_0 c i a3 h3 a4 h4 a5 h5 a6 h6 hc hd he a b d)]
  unfold kernelRun0_C
  dsimp only
  sl_unfold_words
  rw [View.canon_unit_zero hz]
  simp only [View.readAt_eq_ld, h3.read_unread, h4.read_unread, h6.read_unread, View.ld_unit_zero (S := S2048x1408) hz, View.ld_unit_zero (S := S2048x1024) hz, View.ld_unit_zero (S := S1408x1024) hz]

theorem outC (hc : ¬cond0_0 i) (hd : cond0_1 i) (he : cond0_2 i) : out0_C_2 c i a3 h3 a4 h4 a5 h5 a6 h6 hc hd he a b d = k0_pay4 (k0_pay3 b a d) := by
  unfold out0_C_2
  rw [View.read_writes_eq_canon _ _ _ (cover0_C_2 c i a3 h3 a4 h4 a5 h5 a6 h6 hc hd he a b d)]
  unfold kernelRun0_C
  dsimp only
  sl_unfold_words
  rw [View.canon_unit_zero hz]
  simp only [View.readCov_unit_zero (S := S1408x1024) _ hz, View.readAt_eq_ld, h3.read_unread, h4.read_unread, h6.read_unread, View.ld_unit_zero (S := S2048x1408) hz, View.ld_unit_zero (S := S2048x1024) hz, View.ld_unit_zero (S := S1408x1024) hz]

end Body

/-! ## The mathematics -/

/-- A result over all rows: each column of `a` against each column of `b`. -/
def columns (a : (⟨2, ![8192, 2816]⟩ : Shape).Idx → EReal) (b : (⟨2, ![8192, 1024]⟩ : Shape).Idx → EReal) :
    (⟨2, ![2816, 1024]⟩ : Shape).Idx → EReal :=
  fun i => ∑ n : Fin 8192, a (ix2 n (i 0)) * b (ix2 n (i 1))

/-- Where tile `s`'s row `r` and half `q`'s column `k` are. -/
def rowIn (s : Fin 4) (r : Fin 2048) : Fin 8192 := ⟨s.val * 2048 + r.val, by omega⟩
def colIn (q : Fin 2) (k : Fin 1408) : Fin 2816 := ⟨q.val * 1408 + k.val, by omega⟩

/-- What a tile of rows adds to a result. -/
def tile (a : (⟨2, ![8192, 2816]⟩ : Shape).Idx → EReal) (b : (⟨2, ![8192, 1024]⟩ : Shape).Idx → EReal) (i : Fin 2816) (k : Fin 1024) (s : Fin 4) : EReal :=
  ∑ r : Fin 2048, a (ix2 (rowIn s r) i) * b (ix2 (rowIn s r) k)

theorem columns_tiles (a : (⟨2, ![8192, 2816]⟩ : Shape).Idx → EReal) (b : (⟨2, ![8192, 1024]⟩ : Shape).Idx → EReal) (i : Fin 2816) (k : Fin 1024) :
    ∑ s : Fin 4, tile a b i k s = columns a b (ix2 i k) := by
  unfold columns
  rw [Fin.sum_univ_tiles 4 2048 rfl]; rfl

/-- What is begun with every fourth tile and added to by the others is, at the last of four, the four tiles' sum. -/
theorem four_tiles (o : (n : ℕ) → n < 8 → EReal) (p : ℕ → Fin 4 → EReal) (first : ∀ n h, n % 4 = 0 → o n h = p (n / 4) 0)
    (next : ∀ n (h : n + 1 < 8) (hn : (n + 1) % 4 ≠ 0), o (n + 1) h = o n (by omega) + p ((n + 1) / 4) ⟨(n + 1) % 4, by omega⟩)
    (n : ℕ) (h : n < 8) (hn : n % 4 = 3) : o n h = ∑ s : Fin 4, p (n / 4) s := by
  obtain ⟨q, rfl⟩ : ∃ q, n = q + 1 + 1 + 1 := ⟨n - 3, by omega⟩
  have e : ∀ r, r ≤ 3 → (q + r) / 4 = (q + 1 + 1 + 1) / 4 := fun r hr => by omega
  rw [next _ _ (by omega), next _ _ (by omega), next _ _ (by omega), first _ _ (by omega)]
  rw [show q / 4 = (q + 1 + 1 + 1) / 4 by omega, show (q + 1) / 4 = (q + 1 + 1 + 1) / 4 by omega, show (q + 1 + 1) / 4 = (q + 1 + 1 + 1) / 4 by omega]
  have e1 : (⟨(q + 1) % 4, by omega⟩ : Fin 4) = 1 := Fin.ext (by show (q + 1) % 4 = 1; omega)
  have e2 : (⟨(q + 1 + 1) % 4, by omega⟩ : Fin 4) = 2 := Fin.ext (by show (q + 1 + 1) % 4 = 2; omega)
  have e3 : (⟨(q + 1 + 1 + 1) % 4, by omega⟩ : Fin 4) = 3 := Fin.ext (by show (q + 1 + 1 + 1) % 4 = 3; omega)
  rw [e1, e2, e3, Fin.sum_univ_four]

section Block

variable (a : FVec Ideal S2048x1408 .bf16) (b : FVec Ideal S2048x1024 .bf16) (d : FVec Ideal S1408x1024 .f32) (j : S1408x1024.Idx)

theorem tile_block : k0_pay1 (F := Ideal) b a j = ∑ r : Fin 2048, a (ix2 r (j 0)) * b (ix2 r (j 1)) := by pointwise [k0_pay1]
theorem begin_block : k0_pay2 (F := Ideal) b a j = k0_pay1 (F := Ideal) b a j := by pointwise [k0_pay2]
theorem add_block : k0_pay3 (F := Ideal) b a d j = d j + k0_pay1 (F := Ideal) b a j := by pointwise [k0_pay3]
theorem low_block : k0_pay4 (F := Ideal) d j = d j := by pointwise [k0_pay4]

end Block

/-! ## Over the tiles -/

variable (m : (ℓ : Loc nD τ sig) → Buf (Elt Ideal) ℓ) (ρ : Dev nD → PrngReg) (c : Dev nD)

/-- The half of the columns and the tile of rows of a point. -/
def half_ (t : Fin cfg0.N) : Fin 2 := ⟨t.val / 4, by have : t.val < 8 := t.isLt; omega⟩
def tile_ (t : Fin cfg0.N) : Fin 4 := ⟨t.val % 4, by omega⟩

theorem index_eq : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

theorem a_block (t : Fin cfg0.N) (r : Fin 2048) (k : Fin 1408) : iblk m c 0 t (ix2 r k) = V m c main_arg0 (ix2 (rowIn (tile_ t) r) (colIn (half_ t) k)) := by
  obtain ⟨e0, e1, -⟩ := index_eq t
  refine congrArg (V m c main_arg0) (funext fun a => Fin.ext ?_)
  match a with
  | ⟨0, _⟩ => show win0_0.index t (0 : Fin 2) * 2048 + 1 * r.val = t.val % 4 * 2048 + r.val; omega
  | ⟨1, _⟩ => show win0_0.index t (1 : Fin 2) * 1408 + 1 * k.val = t.val / 4 * 1408 + k.val; omega
theorem b_block (t : Fin cfg0.N) (r : Fin 2048) (k : Fin 1024) : iblk m c 1 t (ix2 r k) = V m c main_arg1 (ix2 (rowIn (tile_ t) r) k) := by
  obtain ⟨-, -, e0, e1, -⟩ := index_eq t
  refine congrArg (V m c main_arg1) (funext fun a => Fin.ext ?_)
  match a with
  | ⟨0, _⟩ => show win0_1.index t (0 : Fin 2) * 2048 + 1 * r.val = t.val % 4 * 2048 + r.val; omega
  | ⟨1, _⟩ => show win0_1.index t (1 : Fin 2) * 1024 + 1 * k.val = k.val; omega

theorem tile_step (t : Fin cfg0.N) (j : S1408x1024.Idx) : k0_pay1 (F := Ideal) (iblk m c 1 t) (iblk m c 0 t) j
    = tile (V m c main_arg0) (V m c main_arg1) (colIn (half_ t) (j 0)) (j 1) (tile_ t) := by
  refine (tile_block (iblk m c 0 t) (iblk m c 1 t) j).trans (Finset.sum_congr rfl fun r _ => ?_)
  exact congrArg₂ (· * ·) (a_block m c t r (j 0)) (b_block m c t r (j 1))

/-- What half `q` of a result gets of a tile; of no account where there is no such half. -/
def part (j : S1408x1024.Idx) (q : ℕ) (s : Fin 4) : EReal :=
  if h : q < 2 then tile (V m c main_arg0) (V m c main_arg1) (colIn ⟨q, h⟩ (j 0)) (j 1) s else 0
theorem part_at (j : S1408x1024.Idx) (q : Fin 2) (s : Fin 4) : part m c j q.val s = tile (V m c main_arg0) (V m c main_arg1) (colIn q (j 0)) (j 1) s := dif_pos q.isLt
theorem part_eq (t : Fin cfg0.N) (j : S1408x1024.Idx) : k0_pay1 (F := Ideal) (iblk m c 1 t) (iblk m c 0 t) j = part m c j (t.val / 4) (tile_ t) :=
  (tile_step m c t j).trans (part_at m c j (half_ t) (tile_ t)).symm

/-- After the last tile of a half: the four tiles' sum. -/
theorem held (t : Fin cfg0.N) (ht : t.val % 4 = 3) (j : S1408x1024.Idx) :
    (outsAt0 m c t.val t.isLt).2 j = columns (V m c main_arg0) (V m c main_arg1) (ix2 (colIn (half_ t) (j 0)) (j 1)) := by
  refine Eq.trans ?_ (columns_tiles _ _ _ _)
  refine (four_tiles (fun n h => (outsAt0 m c n h).2 j) (part m c j) (fun n h hn => ?_) (fun n h hn => ?_) t.val t.isLt ht).trans ?_
  · have e := outsAt0_A m c ⟨n, h⟩ hn (by dsimp only; omega) (by dsimp only; omega)
    have z : tile_ ⟨n, h⟩ = 0 := Fin.ext hn
    dsimp only at e ⊢
    rw [e]; dsimp only
    rw [heldA, begin_block, part_eq, z]
  · by_cases h3 : (n + 1) % 4 = 3
    · have e := outsAt0_C m c ⟨n + 1, h⟩ hn (by dsimp only; omega) h3
      dsimp only at e ⊢
      rw [e]; dsimp only
      rw [heldC, add_block, part_eq]; rfl
    · have e := outsAt0_B m c ⟨n + 1, h⟩ hn (by dsimp only; omega) h3
      dsimp only at e ⊢
      rw [e]; dsimp only
      rw [heldB, add_block, part_eq]; rfl
  · exact Finset.sum_congr rfl fun s _ => part_at m c j (half_ t) s

theorem left (t : Fin cfg0.N) (ht : t.val % 4 = 3) (j : S1408x1024.Idx) :
    (outsAt0 m c t.val t.isLt).1 j = columns (V m c main_arg0) (V m c main_arg1) (ix2 (colIn (half_ t) (j 0)) (j 1)) := by
  rw [← held m c t ht, outsAt0_C m c t (by omega) (by omega) ht]; dsimp only
  rw [heldC, outC, low_block]

/-- Where a block's element is in the array. -/
theorem read2 (t : Fin cfg0.N) (f : S2816x1024.Idx → EReal) (y : S1408x1024.Idx) :
    ((cfg0.win 2).blk t).view.read (Elt Ideal) f y = f (ix2 (colIn (half_ t) (y 0)) (y 1)) := by
  obtain ⟨-, -, -, -, e0, e1⟩ := index_eq t
  refine congrArg f (funext fun a => Fin.ext ?_)
  match a with
  | ⟨0, _⟩ => show win0_2.index t (0 : Fin 2) * 1408 + 1 * (y 0).val = t.val / 4 * 1408 + (y 0).val; omega
  | ⟨1, _⟩ => show win0_2.index t (1 : Fin 2) * 1024 + 1 * (y 1).val = (y 1).val; omega

theorem final2 : (dats m 0 c).arrAt 2 cfg0.N = columns (V m c main_arg0) (V m c main_arg1) := by
  refine (dats m 0 c).arrAt_eq_of_cover 2 _ (fun t hf => ?_) fun i => ?_
  · rw [Value.flushed2]
    funext y
    exact (left m c t ((flush0_2 t).mp hf) y).trans (read2 t _ y).symm
  · have h0 : (i 0).val < 2816 := (i 0).isLt
    have h1 : (i 1).val < 1024 := (i 1).isLt
    let t : Fin cfg0.N := (⟨(i 0).val / 1408 * 4 + 3, by omega⟩ : Fin 8)
    have ht : t.val = (i 0).val / 1408 * 4 + 3 := rfl
    obtain ⟨-, -, -, -, e0, e1⟩ := index_eq t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t (0 : Fin 2) * 1408 ≤ (i 0).val ∧ (i 0).val < win0_2.index t (0 : Fin 2) * 1408 + 1408; omega
    | ⟨1, _⟩ => show win0_2.index t (1 : Fin 2) * 1024 ≤ (i 1).val ∧ (i 1).val < win0_2.index t (1 : Fin 2) * 1024 + 1024; omega

/-! ## The claims -/

theorem value : θ_run defs (onTc (τ := τ) (main (F := Ideal))) ⟨m, fun _ => 0, ρ⟩ fun r => ∀ c : Dev nD,
      r.2.mem ((c : Thread nD τ).loc main_v0) = columns (V m c main_arg0) (V m c main_arg1)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Value.run_blocks m ρ)

theorem reference (m : (ℓ : Loc Cert.FfnDwUpRefIdeal.nD Cert.FfnDwUpRefIdeal.τ Cert.FfnDwUpRefIdeal.sig) → Buf (Elt Ideal) ℓ)
    (ρ : Dev Cert.FfnDwUpRefIdeal.nD → PrngReg) :
    θ_run Cert.FfnDwUpRefIdeal.defs (onTc (τ := Cert.FfnDwUpRefIdeal.τ) (Cert.FfnDwUpRefIdeal.main (F := Ideal))) ⟨m, fun _ => 0, ρ⟩ fun r => ∀ c : Dev Cert.FfnDwUpRefIdeal.nD,
      r.2.mem ((c.tc : Thread Cert.FfnDwUpRefIdeal.nD Cert.FfnDwUpRefIdeal.τ).loc Cert.FfnDwUpRefIdeal.main_v4)
        = columns (m (c.tc.loc Cert.FfnDwUpRefIdeal.main_arg0)) (m (c.tc.loc Cert.FfnDwUpRefIdeal.main_arg1))
      ∧ r.2.mem ((c.tc : Thread Cert.FfnDwUpRefIdeal.nD Cert.FfnDwUpRefIdeal.τ).loc Cert.FfnDwUpRefIdeal.main_arg0) = m (c.tc.loc Cert.FfnDwUpRefIdeal.main_arg0)
      ∧ r.2.mem ((c.tc : Thread Cert.FfnDwUpRefIdeal.nD Cert.FfnDwUpRefIdeal.τ).loc Cert.FfnDwUpRefIdeal.main_arg1) = m (c.tc.loc Cert.FfnDwUpRefIdeal.main_arg1) :=
  (θ_run Cert.FfnDwUpRefIdeal.defs _ _).mono (fun _ h c => by
    replace h := h c
    refine ⟨h.1.trans ?_, h.2⟩
    all_goals
      clear h
      funext j
      generalize m (c.tc.loc Cert.FfnDwUpRefIdeal.main_arg0) = x0
      generalize m (c.tc.loc Cert.FfnDwUpRefIdeal.main_arg1) = x1
    all_goals pointwise [columns])
    (Cert.FfnDwUpRefIdeal.Value.run m ρ)

/-- The two printings are one program. -/
theorem defs_same {F : FTy → Type} [FloatOps F] : Cert.FfnDwUp.defs (F := F) = defs (F := F) := by chain_rfl
theorem run_same {F : FTy → Type} [FloatOps F] (s : MemSt nD τ sig (Elt F)) (Q) :
    θ_run (Cert.FfnDwUp.defs (F := F)) (onTc (τ := τ) (Cert.FfnDwUp.main (F := F))) s Q = θ_run (defs (F := F)) (onTc (τ := τ) (main (F := F))) s Q := by
  rw [defs_same]; rfl

theorem quiescent_kernel : quiescent_FfnDwUp := fun m g _ => (run_same _ _).mpr (Gen.frame (F := Bits) m g)
theorem quiescent_ideal : quiescent_FfnDwUpIdeal := fun m g _ => Gen.frame m g
theorem quiescent_refIdeal : quiescent_FfnDwUpRefIdeal := fun m g _ =>
  (θ_run Cert.FfnDwUpRefIdeal.defs _ _).mono (fun _ h => ⟨fun c => (h c).2, funext fun ⟨_, s⟩ => ((show ∀ _ : SemLoc Cert.FfnDwUpRefIdeal.sig, False by decide) s).elim⟩)
    (Cert.FfnDwUpRefIdeal.Value.run m g)
theorem algebraic : algebraic_FfnDwUpIdeal_FfnDwUpRefIdeal := fun m g m' g' _ h =>
  ⟨_, value m g, (θ_run Cert.FfnDwUpRefIdeal.defs _ _).mono (fun _ k c => by
    have k := k c
    obtain ⟨h0, h1⟩ := h c
    rw [h0, h1] at k ⊢
    exact k) (reference m' g')⟩

end Cert.FfnDwUpProof

end
-- ==== Proof.FfnDwDownValue.lean ====
/-
  The derivative to the projection out of a feed-forward block, `Cert.FfnDwDownIdeal`, against its reference: the columns of
  the gated rows against the columns of half of the derivatives, in the tiles of the other projections'.
-/
module

public import proofs.«01_k».proof.Proof.FfnDwUpValue
public import proofs.«01_k».proof.Proof.Gen.FfnDwDown
public import proofs.«01_k».proof.Proof.Gen.FfnDwDownIdeal.Value
public import proofs.«01_k».proof.Proof.Gen.FfnDwDownRefIdeal.Run

@[expose] public section

noncomputable section

namespace Cert.FfnDwDownProof

open Idealize.ShloMosaic Idealize.ShloMosaic.TcCoe Idealize.SL.Sem

open Cert.FfnDwDownIdeal Cert.FfnDwDownIdeal.Gen
open Cert.LossProof (hz half)
open Cert.FfnDwUpProof (columns columns_tiles tile rowIn colIn four_tiles)

/-! ## What the body leaves at a point -/

section Body

variable {F : FTy → Type} [FloatOps F]

variable (c : Dev nD) (i : grid0.Coords)
  (a3 : Memref sig .tc .vmem S2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)
  (a : Vec F S2048x1408 .bf16) (b : Vec F S2048x1024 .bf16) (d : Vec F S1408x1024 .f32)

theorem heldA (hc : cond0_0 i) (hd : ¬cond0_1 i) (he : ¬cond0_2 i) : sout0_A_0 c i a3 h3 a4 h4 a5 h5 a6 h6 hc hd he a b = k0_pay2 b a := by
  unfold sout0_A_0
  rw [View.read_writes_eq_canon _ _ _ (scover0_A_0 c i a3 h3 a4 h4 a5 h5 a6 h6 hc hd he a b)]
  unfold kernelRun0_A
  dsimp only
  sl_unfold_words
  rw [View.canon_unit_zero hz]
  simp only [View.readAt_eq_ld, h3.read_unread, h4.read_unread, View.ld_unit_zero (S := S2048x1408) hz, View.ld_unit_zero (S := S2048x1024) hz]

theorem heldB (hc : ¬cond0_0 i) (hd : cond0_1 i) (he : ¬cond0_2 i) : sout0_B_0 c i a3 h3 a4 h4 a5 h5 a6 h6 hc hd he a b d = k0_pay3 b a d := by
  unfold sout0_B_0
  rw [View.read_writes_eq_canon _ _ _ (scover0_B_0 c i a3 h3 a4 h4 a5 h5 a6 h6 hc hd he a b d)]
  unfold kernelRun0_B
  dsimp only
  sl_unfold_words
  rw [View.canon_unit_zero hz]
  simp only [View.readAt_eq_ld, h3.read_unread, h4.read_unread, h6.read_unread, View.ld_unit_zero (S := S2048x1408) hz, View.ld_unit_zero (S := S2048x1024) hz, View.ld_unit_zero (S := S1408x1024) hz]

theorem heldC (hc : ¬cond0_0 i) (hd : cond0_1 i) (he : cond0_2 i) : sout0_C_0 c i a3 h3 a4 h4 a5 h5 a6 h6 hc hd he a b d = k0_pay3 b a d := by
  unfold sout0_C_0
  rw [View.read_writes_eq_canon _ _ _ (scover0_C_0 c i a3 h3 a4 h4 a5 h5 a6 h6 hc hd he a b d)]
  unfold kernelRun0_C
  dsimp only
  sl_unfold_words
  rw [View.canon_unit_zero hz]
  simp only [View.readAt_eq_ld, h3.read_unread, h4.read_unread, h6.read_unread, View.ld_unit_zero (S := S2048x1408) hz, View.ld_unit_zero (S := S2048x1024) hz, View.ld_unit_zero (S := S1408x1024) hz]

theorem outC (hc : ¬cond0_0 i) (hd : cond0_1 i) (he : cond0_2 i) : out0_C_2 c i a3 h3 a4 h4 a5 h5 a6 h6 hc hd he a b d = k0_pay4 (k0_pay3 b a d) := by
  unfold out0_C_2
  rw [View.read_writes_eq_canon _ _ _ (cover0_C_2 c i a3 h3 a4 h4 a5 h5 a6 h6 hc hd he a b d)]
  unfold kernelRun0_C
  dsimp only
  sl_unfold_words
  rw [View.canon_unit_zero hz]
  simp only [View.readCov_unit_zero (S := S1408x1024) _ hz, View.readAt_eq_ld, h3.read_unread, h4.read_unread, h6.read_unread, View.ld_unit_zero (S := S2048x1408) hz, View.ld_unit_zero (S := S2048x1024) hz, View.ld_unit_zero (S := S1408x1024) hz]

end Body

/-- Half of the derivatives. -/
def halved (b : S8192x1024.Idx → EReal) : S8192x1024.Idx → EReal := fun i => half * b i

section Block

variable (a : FVec Ideal S2048x1408 .bf16) (b : FVec Ideal S2048x1024 .bf16) (d : FVec Ideal S1408x1024 .f32) (j : S1408x1024.Idx)

/-- The half of the smaller format is a half. -/
theorem half_low : Ideal.ofBits .bf16 0x3F00#16 = half := by
  simp [half, Ideal.ofBits, Ideal.ieee, -EReal.coe_mul]; norm_num
theorem tile_block : k0_pay1 (F := Ideal) b a j = ∑ r : Fin 2048, a (ix2 r (j 0)) * (half * b (ix2 r (j 1))) := by
  rw [← half_low]
  pointwise [k0_pay1]
theorem begin_block : k0_pay2 (F := Ideal) b a j = k0_pay1 (F := Ideal) b a j := by pointwise [k0_pay2]
theorem add_block : k0_pay3 (F := Ideal) b a d j = d j + k0_pay1 (F := Ideal) b a j := by pointwise [k0_pay3]
theorem low_block : k0_pay4 (F := Ideal) d j = d j := by pointwise [k0_pay4]

end Block

/-! ## Over the tiles -/

variable (m : (ℓ : Loc nD τ sig) → Buf (Elt Ideal) ℓ) (ρ : Dev nD → PrngReg) (c : Dev nD)

/-- The half of the columns and the tile of rows of a point. -/
def half_ (t : Fin cfg0.N) : Fin 2 := ⟨t.val / 4, by have : t.val < 8 := t.isLt; omega⟩
def tile_ (t : Fin cfg0.N) : Fin 4 := ⟨t.val % 4, by omega⟩

theorem index_eq : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

theorem a_block (t : Fin cfg0.N) (r : Fin 2048) (k : Fin 1408) : iblk m c 0 t (ix2 r k) = V m c main_arg0 (ix2 (rowIn (tile_ t) r) (colIn (half_ t) k)) := by
  obtain ⟨e0, e1, -⟩ := index_eq t
  refine congrArg (V m c main_arg0) (funext fun a => Fin.ext ?_)
  match a with
  | ⟨0, _⟩ => show win0_0.index t (0 : Fin 2) * 2048 + 1 * r.val = t.val % 4 * 2048 + r.val; omega
  | ⟨1, _⟩ => show win0_0.index t (1 : Fin 2) * 1408 + 1 * k.val = t.val / 4 * 1408 + k.val; omega
theorem b_block (t : Fin cfg0.N) (r : Fin 2048) (k : Fin 1024) : iblk m c 1 t (ix2 r k) = V m c main_arg1 (ix2 (rowIn (tile_ t) r) k) := by
  obtain ⟨-, -, e0, e1, -⟩ := index_eq t
  refine congrArg (V m c main_arg1) (funext fun a => Fin.ext ?_)
  match a with
  | ⟨0, _⟩ => show win0_1.index t (0 : Fin 2) * 2048 + 1 * r.val = t.val % 4 * 2048 + r.val; omega
  | ⟨1, _⟩ => show win0_1.index t (1 : Fin 2) * 1024 + 1 * k.val = k.val; omega

theorem tile_step (t : Fin cfg0.N) (j : S1408x1024.Idx) : k0_pay1 (F := Ideal) (iblk m c 1 t) (iblk m c 0 t) j
    = tile (V m c main_arg0) (halved (V m c main_arg1)) (colIn (half_ t) (j 0)) (j 1) (tile_ t) := by
  refine (tile_block (iblk m c 0 t) (iblk m c 1 t) j).trans (Finset.sum_congr rfl fun r _ => ?_)
  exact congrArg₂ (· * ·) (a_block m c t r (j 0)) (congrArg (half * ·) (b_block m c t r (j 1)))

/-- What half `q` of a result gets of a tile; of no account where there is no such half. -/
def part (j : S1408x1024.Idx) (q : ℕ) (s : Fin 4) : EReal :=
  if h : q < 2 then tile (V m c main_arg0) (halved (V m c main_arg1)) (colIn ⟨q, h⟩ (j 0)) (j 1) s else 0
theorem part_at (j : S1408x1024.Idx) (q : Fin 2) (s : Fin 4) : part m c j q.val s = tile (V m c main_arg0) (halved (V m c main_arg1)) (colIn q (j 0)) (j 1) s := dif_pos q.isLt
theorem part_eq (t : Fin cfg0.N) (j : S1408x1024.Idx) : k0_pay1 (F := Ideal) (iblk m c 1 t) (iblk m c 0 t) j = part m c j (t.val / 4) (tile_ t) :=
  (tile_step m c t j).trans (part_at m c j (half_ t) (tile_ t)).symm

/-- After the last tile of a half: the four tiles' sum. -/
theorem held (t : Fin cfg0.N) (ht : t.val % 4 = 3) (j : S1408x1024.Idx) :
    (outsAt0 m c t.val t.isLt).2 j = columns (V m c main_arg0) (halved (V m c main_arg1)) (ix2 (colIn (half_ t) (j 0)) (j 1)) := by
  refine Eq.trans ?_ (columns_tiles _ _ _ _)
  refine (four_tiles (fun n h => (outsAt0 m c n h).2 j) (part m c j) (fun n h hn => ?_) (fun n h hn => ?_) t.val t.isLt ht).trans ?_
  · have e := outsAt0_A m c ⟨n, h⟩ hn (by dsimp only; omega) (by dsimp only; omega)
    have z : tile_ ⟨n, h⟩ = 0 := Fin.ext hn
    dsimp only at e ⊢
    rw [e]; dsimp only
    rw [heldA, begin_block, part_eq, z]
  · by_cases h3 : (n + 1) % 4 = 3
    · have e := outsAt0_C m c ⟨n + 1, h⟩ hn (by dsimp only; omega) h3
      dsimp only at e ⊢
      rw [e]; dsimp only
      rw [heldC, add_block, part_eq]; rfl
    · have e := outsAt0_B m c ⟨n + 1, h⟩ hn (by dsimp only; omega) h3
      dsimp only at e ⊢
      rw [e]; dsimp only
      rw [heldB, add_block, part_eq]; rfl
  · exact Finset.sum_congr rfl fun s _ => part_at m c j (half_ t) s

theorem left (t : Fin cfg0.N) (ht : t.val % 4 = 3) (j : S1408x1024.Idx) :
    (outsAt0 m c t.val t.isLt).1 j = columns (V m c main_arg0) (halved (V m c main_arg1)) (ix2 (colIn (half_ t) (j 0)) (j 1)) := by
  rw [← held m c t ht, outsAt0_C m c t (by omega) (by omega) ht]; dsimp only
  rw [heldC, outC, low_block]

/-- Where a block's element is in the array. -/
theorem read2 (t : Fin cfg0.N) (f : S2816x1024.Idx → EReal) (y : S1408x1024.Idx) :
    ((cfg0.win 2).blk t).view.read (Elt Ideal) f y = f (ix2 (colIn (half_ t) (y 0)) (y 1)) := by
  obtain ⟨-, -, -, -, e0, e1⟩ := index_eq t
  refine congrArg f (funext fun a => Fin.ext ?_)
  match a with
  | ⟨0, _⟩ => show win0_2.index t (0 : Fin 2) * 1408 + 1 * (y 0).val = t.val / 4 * 1408 + (y 0).val; omega
  | ⟨1, _⟩ => show win0_2.index t (1 : Fin 2) * 1024 + 1 * (y 1).val = (y 1).val; omega

theorem final2 : (dats m 0 c).arrAt 2 cfg0.N = columns (V m c main_arg0) (halved (V m c main_arg1)) := by
  refine (dats m 0 c).arrAt_eq_of_cover 2 _ (fun t hf => ?_) fun i => ?_
  · rw [Value.flushed2]
    funext y
    exact (left m c t ((flush0_2 t).mp hf) y).trans (read2 t _ y).symm
  · have h0 : (i 0).val < 2816 := (i 0).isLt
    have h1 : (i 1).val < 1024 := (i 1).isLt
    let t : Fin cfg0.N := (⟨(i 0).val / 1408 * 4 + 3, by omega⟩ : Fin 8)
    have ht : t.val = (i 0).val / 1408 * 4 + 3 := rfl
    obtain ⟨-, -, -, -, e0, e1⟩ := index_eq t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t (0 : Fin 2) * 1408 ≤ (i 0).val ∧ (i 0).val < win0_2.index t (0 : Fin 2) * 1408 + 1408; omega
    | ⟨1, _⟩ => show win0_2.index t (1 : Fin 2) * 1024 ≤ (i 1).val ∧ (i 1).val < win0_2.index t (1 : Fin 2) * 1024 + 1024; omega

/-! ## The claims -/

theorem value : θ_run defs (onTc (τ := τ) (main (F := Ideal))) ⟨m, fun _ => 0, ρ⟩ fun r => ∀ c : Dev nD,
      r.2.mem ((c : Thread nD τ).loc main_v0) = columns (V m c main_arg0) (halved (V m c main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Value.run_blocks m ρ)

theorem reference (m : (ℓ : Loc Cert.FfnDwDownRefIdeal.nD Cert.FfnDwDownRefIdeal.τ Cert.FfnDwDownRefIdeal.sig) → Buf (Elt Ideal) ℓ)
    (ρ : Dev Cert.FfnDwDownRefIdeal.nD → PrngReg) :
    θ_run Cert.FfnDwDownRefIdeal.defs (onTc (τ := Cert.FfnDwDownRefIdeal.τ) (Cert.FfnDwDownRefIdeal.main (F := Ideal))) ⟨m, fun _ => 0, ρ⟩ fun r => ∀ c : Dev Cert.FfnDwDownRefIdeal.nD,
      r.2.mem ((c.tc : Thread Cert.FfnDwDownRefIdeal.nD Cert.FfnDwDownRefIdeal.τ).loc Cert.FfnDwDownRefIdeal.main_v6)
        = columns (m (c.tc.loc Cert.FfnDwDownRefIdeal.main_arg0)) (halved (m (c.tc.loc Cert.FfnDwDownRefIdeal.main_arg1)))
      ∧ r.2.mem ((c.tc : Thread Cert.FfnDwDownRefIdeal.nD Cert.FfnDwDownRefIdeal.τ).loc Cert.FfnDwDownRefIdeal.main_arg0) = m (c.tc.loc Cert.FfnDwDownRefIdeal.main_arg0)
      ∧ r.2.mem ((c.tc : Thread Cert.FfnDwDownRefIdeal.nD Cert.FfnDwDownRefIdeal.τ).loc Cert.FfnDwDownRefIdeal.main_arg1) = m (c.tc.loc Cert.FfnDwDownRefIdeal.main_arg1) :=
  (θ_run Cert.FfnDwDownRefIdeal.defs _ _).mono (fun _ h c => by
    replace h := h c
    refine ⟨h.1.trans ?_, h.2⟩
    all_goals
      clear h
      funext j
      generalize m (c.tc.loc Cert.FfnDwDownRefIdeal.main_arg0) = x0
      generalize m (c.tc.loc Cert.FfnDwDownRefIdeal.main_arg1) = x1
    all_goals pointwise [columns, halved])
    (Cert.FfnDwDownRefIdeal.Value.run m ρ)

/-- The two printings are one program. -/
theorem defs_same {F : FTy → Type} [FloatOps F] : Cert.FfnDwDown.defs (F := F) = defs (F := F) := by chain_rfl
theorem run_same {F : FTy → Type} [FloatOps F] (s : MemSt nD τ sig (Elt F)) (Q) :
    θ_run (Cert.FfnDwDown.defs (F := F)) (onTc (τ := τ) (Cert.FfnDwDown.main (F := F))) s Q = θ_run (defs (F := F)) (onTc (τ := τ) (main (F := F))) s Q := by
  rw [defs_same]; rfl

theorem quiescent_kernel : quiescent_FfnDwDown := fun m g _ => (run_same _ _).mpr (Gen.frame (F := Bits) m g)
theorem quiescent_ideal : quiescent_FfnDwDownIdeal := fun m g _ => Gen.frame m g
theorem quiescent_refIdeal : quiescent_FfnDwDownRefIdeal := fun m g _ =>
  (θ_run Cert.FfnDwDownRefIdeal.defs _ _).mono (fun _ h => ⟨fun c => (h c).2, funext fun ⟨_, s⟩ => ((show ∀ _ : SemLoc Cert.FfnDwDownRefIdeal.sig, False by decide) s).elim⟩)
    (Cert.FfnDwDownRefIdeal.Value.run m g)
theorem algebraic : algebraic_FfnDwDownIdeal_FfnDwDownRefIdeal := fun m g m' g' _ h =>
  ⟨_, value m g, (θ_run Cert.FfnDwDownRefIdeal.defs _ _).mono (fun _ k c => by
    have k := k c
    obtain ⟨h0, h1⟩ := h c
    rw [h0, h1] at k ⊢
    exact k) (reference m' g')⟩

end Cert.FfnDwDownProof

end
-- ==== Proof.FfnActValue.lean ====
/-
  The step back through the gate of a feed-forward block, `Cert.FfnActIdeal`, against its reference: from the derivative to
  the block's output those to the two projections, over sixteen blocks of rows. The kernel leaves a block's columns in eight
  pieces, seven of 384 and one of 128, and takes the sigmoid from the hyperbolic tangent.
-/
module

public import proofs.«01_k».proof.Proof.FfnUpValue
public import proofs.«01_k».proof.Proof.Gen.FfnAct
public import proofs.«01_k».proof.Proof.Gen.FfnActIdeal.Value
public import proofs.«01_k».proof.Proof.Gen.FfnActRefIdeal.Run

@[expose] public section

noncomputable section

namespace Cert.FfnActProof

open Idealize.ShloMosaic Idealize.ShloMosaic.TcCoe Idealize.SL.Sem

open Cert.FfnActIdeal Cert.FfnActIdeal.Gen
open Cert.LossProof (hz row rowOf half)
open Cert.FfnUpProof (sigmoid one against tanh_sigmoid)

/-! ## The mathematics of one element -/

/-- The derivative to the gated product: a row of the scaled derivative to the output against a row of weights. -/
def inner (h : EReal) (d w : Fin 1024 → EReal) : EReal := against (fun k => h * d k) w
/-- The sigmoid as the kernel takes it. -/
def sg (g : EReal) : EReal := half * Ideal.tanh (half * g) + half
/-- The derivative to the other half, and to the gate. -/
def toOther (a g : EReal) : EReal := a * (g * sg g)
def toGate (a g u : EReal) : EReal := a * u * (sg g * (one + g * (one - sg g)))

theorem sg_eq (g : EReal) : sg g = sigmoid g := tanh_sigmoid g

/-! ## What the body leaves at a point -/

section Body

variable (s : EReal) (d : FVec Ideal S512x1024 .bf16) (w : FVec Ideal S2816x1024 .bf16) (g u : FVec Ideal S512x2816 .bf16)

/-- A block of the two results. -/
def other : S512x2816.Idx → EReal := fun j => toOther (inner s (row d (j 0)) (row w (j 1))) (g j)
def gate : S512x2816.Idx → EReal := fun j => toGate (inner s (row d (j 0)) (row w (j 1))) (g j) (u j)

/-- A piece of `n` columns from column `o` on: its weights, its part of the block, and what it is of the results. -/
def weights (o n : Nat) (iw : ∀ a, (![o, 0] : Fin 2 → Nat) a + (![n, 1024] : Fin 2 → Nat) a ≤ S2816x1024.size a) (q : Fin n) : Fin 1024 → EReal :=
  fun k => w ((Rect.unit (s := S2816x1024) ![o, 0] ![n, 1024] iw).emb (ix2 q k : (⟨2, ![n, 1024]⟩ : Shape).Idx))

theorem weights_eq (o n : Nat) (iw) (ig : ∀ a, (![0, o] : Fin 2 → Nat) a + (![512, n] : Fin 2 → Nat) a ≤ S512x2816.size a)
    (x : (Rect.unit (s := S512x2816) ![0, o] ![512, n] ig).shape.Idx) :
    weights w o n iw (x 1) = row w ((Rect.unit (s := S512x2816) ![0, o] ![512, n] ig).emb x 1) := by
  funext k
  refine congrArg w (funext fun a => Fin.ext ?_)
  match a with
  | ⟨0, _⟩ => rfl
  | ⟨1, _⟩ => show 0 + 1 * k.val = k.val; omega

theorem row_eq (o n : Nat) (ig : ∀ a, (![0, o] : Fin 2 → Nat) a + (![512, n] : Fin 2 → Nat) a ≤ S512x2816.size a)
    (x : (Rect.unit (s := S512x2816) ![0, o] ![512, n] ig).shape.Idx) :
    (x 0 : Fin 512) = (Rect.unit (s := S512x2816) ![0, o] ![512, n] ig).emb x 0 :=
  Fin.ext (show (x 0).val = 0 + 1 * (x 0).val by omega)

theorem other_piece (s' : EReal) (hs : s' = s) (o n : Nat) (iw) (ig : ∀ a, (![0, o] : Fin 2 → Nat) a + (![512, n] : Fin 2 → Nat) a ≤ S512x2816.size a)
    (x : (Rect.unit (s := S512x2816) ![0, o] ![512, n] ig).shape.Idx) :
    toOther (inner s' (row d (x 0)) (weights w o n iw (x 1))) (g ((Rect.unit (s := S512x2816) ![0, o] ![512, n] ig).emb x))
    = other s d w g ((Rect.unit (s := S512x2816) ![0, o] ![512, n] ig).emb x) := by
  rw [hs]
  exact congrArg (toOther · _) (congrArg₂ (inner s) (congrArg (row d) (row_eq o n ig x)) (weights_eq w o n iw ig x))

theorem gate_piece (s' : EReal) (hs : s' = s) (o n : Nat) (iw) (ig : ∀ a, (![0, o] : Fin 2 → Nat) a + (![512, n] : Fin 2 → Nat) a ≤ S512x2816.size a)
    (x : (Rect.unit (s := S512x2816) ![0, o] ![512, n] ig).shape.Idx) :
    toGate (inner s' (row d (x 0)) (weights w o n iw (x 1))) (g ((Rect.unit (s := S512x2816) ![0, o] ![512, n] ig).emb x)) (u ((Rect.unit (s := S512x2816) ![0, o] ![512, n] ig).emb x))
    = gate s d w g u ((Rect.unit (s := S512x2816) ![0, o] ![512, n] ig).emb x) := by
  rw [hs]
  exact congrArg (toGate · _ _) (congrArg₂ (inner s) (congrArg (row d) (row_eq o n ig x)) (weights_eq w o n iw ig x))

end Body

/-! ## The pieces' formulas, as the program splits them -/

section Wide

variable (s : EReal) (d : FVec Ideal S512x1024 .bf16) (w : FVec Ideal S384x1024 .bf16) (g u : FVec Ideal S512x384 .bf16) (x : S512x384.Idx)

theorem others :
    k0_pay6 (F := Ideal) s d w g x = toOther (inner s (row d (x 0)) (row w (x 1))) (g x)
    ∧ k0_pay11 (F := Ideal) (k0_pay8 s d w) g x = toOther (inner s (row d (x 0)) (row w (x 1))) (g x)
    ∧ k0_pay17 (F := Ideal) (k0_pay13 (k0_pay2 s d) w) (k0_pay16 g) x = toOther (inner s (row d (x 0)) (row w (x 1))) (g x)
    ∧ k0_pay22 (F := Ideal) (k0_pay2 s d) w g x = toOther (inner s (row d (x 0)) (row w (x 1))) (g x)
    ∧ k0_pay29 (F := Ideal) (k0_pay2 s d) w g x = toOther (inner s (row d (x 0)) (row w (x 1))) (g x)
    ∧ k0_pay34 (F := Ideal) (k0_pay31 (k0_pay2 s d) w) g x = toOther (inner s (row d (x 0)) (row w (x 1))) (g x)
    ∧ k0_pay40 (F := Ideal) (k0_pay36 (k0_pay2 s d) w) (k0_pay39 g) x = toOther (inner s (row d (x 0)) (row w (x 1))) (g x) := by
  refine ⟨?_, ?_, ?_, ?_, ?_, ?_, ?_⟩
  all_goals pointwise [k0_pay2, k0_pay3, k0_pay4, k0_pay5, k0_pay6, k0_pay8, k0_pay9, k0_pay10, k0_pay11, k0_pay13, k0_pay14, k0_pay15, k0_pay16, k0_pay17, k0_pay19, k0_pay20, k0_pay21, k0_pay22, k0_pay26, k0_pay27, k0_pay28, k0_pay29, k0_pay31, k0_pay32, k0_pay33, k0_pay34, k0_pay36, k0_pay37, k0_pay38, k0_pay39, k0_pay40, toOther, inner, sg, against, row]

theorem gates :
    k0_pay7 (F := Ideal) s d w g u x = toGate (inner s (row d (x 0)) (row w (x 1))) (g x) (u x)
    ∧ k0_pay12 (F := Ideal) (k0_pay8 s d w) g u x = toGate (inner s (row d (x 0)) (row w (x 1))) (g x) (u x)
    ∧ k0_pay18 (F := Ideal) (k0_pay13 (k0_pay2 s d) w) (k0_pay14 g) (k0_pay15 g) u x = toGate (inner s (row d (x 0)) (row w (x 1))) (g x) (u x)
    ∧ k0_pay25 (F := Ideal) (k0_pay21 g) (k0_pay23 (k0_pay2 s d) w u) (k0_pay24 g) x = toGate (inner s (row d (x 0)) (row w (x 1))) (g x) (u x)
    ∧ k0_pay30 (F := Ideal) (k0_pay2 s d) w g u x = toGate (inner s (row d (x 0)) (row w (x 1))) (g x) (u x)
    ∧ k0_pay35 (F := Ideal) (k0_pay31 (k0_pay2 s d) w) g u x = toGate (inner s (row d (x 0)) (row w (x 1))) (g x) (u x)
    ∧ k0_pay41 (F := Ideal) (k0_pay36 (k0_pay2 s d) w) (k0_pay37 g) (k0_pay38 g) u x = toGate (inner s (row d (x 0)) (row w (x 1))) (g x) (u x) := by
  refine ⟨?_, ?_, ?_, ?_, ?_, ?_, ?_⟩
  all_goals pointwise [k0_pay2, k0_pay3, k0_pay4, k0_pay5, k0_pay7, k0_pay8, k0_pay9, k0_pay10, k0_pay12, k0_pay13, k0_pay14, k0_pay15, k0_pay18, k0_pay19, k0_pay20, k0_pay21, k0_pay23, k0_pay24, k0_pay25, k0_pay26, k0_pay27, k0_pay28, k0_pay30, k0_pay31, k0_pay32, k0_pay33, k0_pay35, k0_pay36, k0_pay37, k0_pay38, k0_pay41, toGate, inner, sg, against, row]

end Wide

section Narrow

variable (s : EReal) (d : FVec Ideal S512x1024 .bf16) (w : FVec Ideal S128x1024 .bf16) (g u : FVec Ideal S512x128 .bf16) (x : S512x128.Idx)

theorem others_last : k0_pay45 (F := Ideal) (k0_pay2 s d) w g x = toOther (inner s (row d (x 0)) (row w (x 1))) (g x) := by
  pointwise [k0_pay2, k0_pay42, k0_pay43, k0_pay44, k0_pay45, toOther, inner, sg, against, row]
theorem gates_last : k0_pay1 (F := Ideal) (k0_pay44 g) (k0_pay46 (k0_pay2 s d) w u) (k0_pay47 g) x = toGate (inner s (row d (x 0)) (row w (x 1))) (g x) (u x) := by
  pointwise [k0_pay1, k0_pay2, k0_pay42, k0_pay43, k0_pay44, k0_pay46, k0_pay47, toGate, inner, sg, against, row]

end Narrow
/-! ## A block of the results -/

section Left

variable (c : Dev nD) (i : grid0.Coords)
  (a1 : Memref sig .tc .smem S1 .f32) (h1 : a1.IsWhole) (a2 : Memref sig .tc .vmem S512x1024 .bf16) (h2 : a2.IsWhole)
  (a3 : Memref sig .tc .vmem S2816x1024 .bf16) (h3 : a3.IsWhole) (a4 : Memref sig .tc .vmem S512x2816 .bf16) (h4 : a4.IsWhole)
  (a5 : Memref sig .tc .vmem S512x2816 .bf16) (h5 : a5.IsWhole) (a6 : Memref sig .tc .vmem S512x2816 .bf16) (h6 : a6.IsWhole)
  (a7 : Memref sig .tc .vmem S512x2816 .bf16) (h7 : a7.IsWhole)
  (s : Vec Ideal S1 .f32) (d : Vec Ideal S512x1024 .bf16) (w : Vec Ideal S2816x1024 .bf16) (g u : Vec Ideal S512x2816 .bf16)

theorem first_eq (inb) (h) : View.ld s (Rect.unit (s := S1) ![0] ![1] inb) (Shape.Idx.first h) = s (ix1 0) :=
  congrArg s (funext fun a => Fin.ext (by match a with | ⟨0, _⟩ => rfl))

theorem left6 : out0_A_6 (F := Ideal) c i a1 h1 a2 h2 a3 h3 a4 h4 a5 h5 a6 h6 a7 h7 s d w g u = other (s (ix1 0)) d w g := by
  unfold out0_A_6
  rw [View.read_writes_eq_canon _ _ _ (cover0_A_6 c i a1 h1 a2 h2 a3 h3 a4 h4 a5 h5 a6 h6 a7 h7 s d w g u)]
  funext y
  refine View.canon_apply_of_pieces (other (s (ix1 0)) d w g) _ ?_ y (cover0_A_6 c i a1 h1 a2 h2 a3 h3 a4 h4 a5 h5 a6 h6 a7 h7 s d w g u y)
  unfold kernelRun0_A
  dsimp only
  sl_unfold_run_names
  simp only [View.readAt_eq_ld, h1.read_unread, h2.read_unread, h3.read_unread, h4.read_unread, View.ld_unit_zero (S := S512x1024) hz]
  simp only [List.forall_mem_cons]
  refine ⟨fun x => ?_, fun x => ?_, fun x => ?_, fun x => ?_, fun x => ?_, fun x => ?_, fun x => ?_, fun x => ?_, by simp⟩
  · exact (others_last _ _ _ _ x).trans (other_piece (s (ix1 0)) d w g _ (first_eq s _ _) 2688 128 (by decide) (by decide) x)
  · exact (others _ _ _ _ x).2.2.2.2.2.2.trans (other_piece (s (ix1 0)) d w g _ (first_eq s _ _) 2304 384 (by decide) (by decide) x)
  · exact (others _ _ _ _ x).2.2.2.2.2.1.trans (other_piece (s (ix1 0)) d w g _ (first_eq s _ _) 1920 384 (by decide) (by decide) x)
  · exact (others _ _ _ _ x).2.2.2.2.1.trans (other_piece (s (ix1 0)) d w g _ (first_eq s _ _) 1536 384 (by decide) (by decide) x)
  · exact (others _ _ _ _ x).2.2.2.1.trans (other_piece (s (ix1 0)) d w g _ (first_eq s _ _) 1152 384 (by decide) (by decide) x)
  · exact (others _ _ _ _ x).2.2.1.trans (other_piece (s (ix1 0)) d w g _ (first_eq s _ _) 768 384 (by decide) (by decide) x)
  · exact (others _ _ _ _ x).2.1.trans (other_piece (s (ix1 0)) d w g _ (first_eq s _ _) 384 384 (by decide) (by decide) x)
  · exact (others _ _ _ _ x).1.trans (other_piece (s (ix1 0)) d w g _ (first_eq s _ _) 0 384 (by decide) (by decide) x)

theorem left5 : out0_A_5 (F := Ideal) c i a1 h1 a2 h2 a3 h3 a4 h4 a5 h5 a6 h6 a7 h7 s d w g u = gate (s (ix1 0)) d w g u := by
  unfold out0_A_5
  rw [View.read_writes_eq_canon _ _ _ (cover0_A_5 c i a1 h1 a2 h2 a3 h3 a4 h4 a5 h5 a6 h6 a7 h7 s d w g u)]
  funext y
  refine View.canon_apply_of_pieces (gate (s (ix1 0)) d w g u) _ ?_ y (cover0_A_5 c i a1 h1 a2 h2 a3 h3 a4 h4 a5 h5 a6 h6 a7 h7 s d w g u y)
  unfold kernelRun0_A
  dsimp only
  sl_unfold_run_names
  simp only [View.readAt_eq_ld, h1.read_unread, h2.read_unread, h3.read_unread, h4.read_unread, h5.read_unread, View.ld_unit_zero (S := S512x1024) hz]
  simp only [List.forall_mem_cons]
  refine ⟨fun x => ?_, fun x => ?_, fun x => ?_, fun x => ?_, fun x => ?_, fun x => ?_, fun x => ?_, fun x => ?_, by simp⟩
  · exact (gates_last _ _ _ _ _ x).trans (gate_piece (s (ix1 0)) d w g u _ (first_eq s _ _) 2688 128 (by decide) (by decide) x)
  · exact (gates _ _ _ _ _ x).2.2.2.2.2.2.trans (gate_piece (s (ix1 0)) d w g u _ (first_eq s _ _) 2304 384 (by decide) (by decide) x)
  · exact (gates _ _ _ _ _ x).2.2.2.2.2.1.trans (gate_piece (s (ix1 0)) d w g u _ (first_eq s _ _) 1920 384 (by decide) (by decide) x)
  · exact (gates _ _ _ _ _ x).2.2.2.2.1.trans (gate_piece (s (ix1 0)) d w g u _ (first_eq s _ _) 1536 384 (by decide) (by decide) x)
  · exact (gates _ _ _ _ _ x).2.2.2.1.trans (gate_piece (s (ix1 0)) d w g u _ (first_eq s _ _) 1152 384 (by decide) (by decide) x)
  · exact (gates _ _ _ _ _ x).2.2.1.trans (gate_piece (s (ix1 0)) d w g u _ (first_eq s _ _) 768 384 (by decide) (by decide) x)
  · exact (gates _ _ _ _ _ x).2.1.trans (gate_piece (s (ix1 0)) d w g u _ (first_eq s _ _) 384 384 (by decide) (by decide) x)
  · exact (gates _ _ _ _ _ x).1.trans (gate_piece (s (ix1 0)) d w g u _ (first_eq s _ _) 0 384 (by decide) (by decide) x)

end Left

/-! ## Over the blocks -/

/-- The results: the derivatives to the other half and to the gate. -/
def otherRows (s : S1.Idx → EReal) (d : S8192x1024.Idx → EReal) (w : S2816x1024.Idx → EReal) (g : S8192x2816.Idx → EReal) : S8192x2816.Idx → EReal :=
  fun i => toOther (inner (s (ix1 0)) (row d (i 0)) (row w (i 1))) (g i)
def gateRows (s : S1.Idx → EReal) (d : S8192x1024.Idx → EReal) (w : S2816x1024.Idx → EReal) (g u : S8192x2816.Idx → EReal) : S8192x2816.Idx → EReal :=
  fun i => toGate (inner (s (ix1 0)) (row d (i 0)) (row w (i 1))) (g i) (u i)

variable (m : (ℓ : Loc nD τ sig) → Buf (Elt Ideal) ℓ) (ρ : Dev nD → PrngReg) (c : Dev nD)

/-- Where a block's elements lie. -/
def place (t : Fin cfg0.N) (y : S512x2816.Idx) : S8192x2816.Idx := ix2 (rowOf t (y 0)) (y 1)

theorem index_eq : ∀ t : Fin cfg0.N, win0_0.index t (0 : Fin 1) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem s_block (t : Fin cfg0.N) : iblk m c 0 t (ix1 0) = V m c main_arg0 (ix1 0) := by
  obtain ⟨e0, -⟩ := index_eq t
  refine congrArg (V m c main_arg0) (funext fun a => Fin.ext ?_)
  match a with
  | ⟨0, _⟩ => show win0_0.index t (0 : Fin 1) * 1 + 1 * 0 = 0; omega
theorem d_block (t : Fin cfg0.N) (r : Fin 512) : row (iblk m c 1 t) r = row (V m c main_arg1) (rowOf t r) := by
  obtain ⟨-, e0, e1, -⟩ := index_eq t
  funext k; refine congrArg (V m c main_arg1) (funext fun a => Fin.ext ?_)
  match a with
  | ⟨0, _⟩ => show win0_1.index t (0 : Fin 2) * 512 + 1 * r.val = t.val * 512 + r.val; omega
  | ⟨1, _⟩ => show win0_1.index t (1 : Fin 2) * 1024 + 1 * k.val = k.val; omega
theorem w_block (t : Fin cfg0.N) (q : Fin 2816) : row (iblk m c 2 t) q = row (V m c main_arg2) q := by
  obtain ⟨-, -, -, e0, e1, -⟩ := index_eq t
  funext k; refine congrArg (V m c main_arg2) (funext fun a => Fin.ext ?_)
  match a with
  | ⟨0, _⟩ => show win0_2.index t (0 : Fin 2) * 2816 + 1 * q.val = q.val; omega
  | ⟨1, _⟩ => show win0_2.index t (1 : Fin 2) * 1024 + 1 * k.val = k.val; omega

/-- The windows of the projections and of the results lie alike. -/
theorem emb_eq (t : Fin cfg0.N) (y : S512x2816.Idx) : ((cfg0.win 3).blk t).view.emb y = place t y := by
  obtain ⟨-, -, -, -, -, e0, e1⟩ := index_eq t
  refine funext fun a => Fin.ext ?_
  match a with
  | ⟨0, _⟩ => show win0_3.index t (0 : Fin 2) * 512 + 1 * (y 0).val = t.val * 512 + (y 0).val; omega
  | ⟨1, _⟩ => show win0_3.index t (1 : Fin 2) * 2816 + 1 * (y 1).val = (y 1).val; omega

theorem inner_step (t : Fin cfg0.N) (r : Fin 512) (q : Fin 2816) : inner (iblk m c 0 t (ix1 0)) (row (iblk m c 1 t) r) (row (iblk m c 2 t) q)
    = inner (V m c main_arg0 (ix1 0)) (row (V m c main_arg1) (rowOf t r)) (row (V m c main_arg2) q) :=
  (congrArg (inner · _ _) (s_block m c t)).trans (congrArg₂ (inner _) (d_block m c t r) (w_block m c t q))
theorem g_block (t : Fin cfg0.N) (y : S512x2816.Idx) : iblk m c 3 t y = V m c main_arg3 (place t y) := congrArg (V m c main_arg3) (emb_eq t y)
theorem u_block (t : Fin cfg0.N) (y : S512x2816.Idx) : iblk m c 4 t y = V m c main_arg4 (place t y) := congrArg (V m c main_arg4) (emb_eq t y)

theorem other_step (t : Fin cfg0.N) (y : S512x2816.Idx) : other (iblk m c 0 t (ix1 0)) (iblk m c 1 t) (iblk m c 2 t) (iblk m c 3 t) y
    = otherRows (V m c main_arg0) (V m c main_arg1) (V m c main_arg2) (V m c main_arg3) (place t y) :=
  congrArg₂ toOther (inner_step m c t (y 0) (y 1)) (g_block m c t y)
theorem gate_step (t : Fin cfg0.N) (y : S512x2816.Idx) : gate (iblk m c 0 t (ix1 0)) (iblk m c 1 t) (iblk m c 2 t) (iblk m c 3 t) (iblk m c 4 t) y
    = gateRows (V m c main_arg0) (V m c main_arg1) (V m c main_arg2) (V m c main_arg3) (V m c main_arg4) (place t y) :=
  (congrArg (toGate · _ _) (inner_step m c t (y 0) (y 1))).trans (congrArg₂ (toGate _) (g_block m c t y) (u_block m c t y))

theorem cover (i : S8192x2816.Idx) : ∃ t : Fin cfg0.N, ∀ a : Fin 2, win0_3.index t a * S512x2816.size a ≤ (i a).val
    ∧ (i a).val < win0_3.index t a * S512x2816.size a + S512x2816.size a := by
  have h0 : (i 0).val < 8192 := (i 0).isLt
  have h1 : (i 1).val < 2816 := (i 1).isLt
  let t : Fin cfg0.N := (⟨(i 0).val / 512, by omega⟩ : Fin 16)
  have ht : t.val = (i 0).val / 512 := rfl
  obtain ⟨-, -, -, -, -, e0, e1⟩ := index_eq t
  refine ⟨t, fun a => ?_⟩
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2816 ≤ (i 1).val ∧ (i 1).val < win0_3.index t (1 : Fin 2) * 2816 + 2816; omega

/-- A function of the array, read at a block's element. -/
theorem read_at (f : S8192x2816.Idx → EReal) (t : Fin cfg0.N) (y : S512x2816.Idx) : f (((cfg0.win 3).blk t).view.emb y) = f (place t y) := congrArg f (emb_eq t y)

theorem final5 : (dats m 0 c).arrAt 5 cfg0.N = gateRows (V m c main_arg0) (V m c main_arg1) (V m c main_arg2) (V m c main_arg3) (V m c main_arg4) := by
  refine (dats m 0 c).arrAt_eq_of_cover 5 _ (fun t _ => ?_) fun i => ?_
  · rw [Value.flushed5_A, left5]
    funext y
    exact (gate_step m c t y).trans (read_at _ t y).symm
  · obtain ⟨t, h⟩ := cover i
    refine ⟨t, flush0_5 t, ?_⟩
    show i ∈ ((View.whole main_v0_0).slice (win0_5.rect t)).set
    rw [View.set_slice_whole, Rect.mem_set_unit]
    exact h

theorem final6 : (dats m 0 c).arrAt 6 cfg0.N = otherRows (V m c main_arg0) (V m c main_arg1) (V m c main_arg2) (V m c main_arg3) := by
  refine (dats m 0 c).arrAt_eq_of_cover 6 _ (fun t _ => ?_) fun i => ?_
  · rw [Value.flushed6_A, left6]
    funext y
    exact (other_step m c t y).trans (read_at _ t y).symm
  · obtain ⟨t, h⟩ := cover i
    refine ⟨t, flush0_6 t, ?_⟩
    show i ∈ ((View.whole main_v0_1).slice (win0_6.rect t)).set
    rw [View.set_slice_whole, Rect.mem_set_unit]
    exact h

/-! ## The claims -/

theorem value : θ_run defs (onTc (τ := τ) (main (F := Ideal))) ⟨m, fun _ => 0, ρ⟩ fun r => ∀ c : Dev nD,
      r.2.mem ((c : Thread nD τ).loc main_v0_0) = gateRows (V m c main_arg0) (V m c main_arg1) (V m c main_arg2) (V m c main_arg3) (V m c main_arg4)
      ∧ r.2.mem ((c : Thread nD τ).loc main_v0_1) = otherRows (V m c main_arg0) (V m c main_arg1) (V m c main_arg2) (V m c main_arg3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2⟩) (Value.run_blocks m ρ)

theorem reference (m : (ℓ : Loc Cert.FfnActRefIdeal.nD Cert.FfnActRefIdeal.τ Cert.FfnActRefIdeal.sig) → Buf (Elt Ideal) ℓ)
    (ρ : Dev Cert.FfnActRefIdeal.nD → PrngReg) :
    θ_run Cert.FfnActRefIdeal.defs (onTc (τ := Cert.FfnActRefIdeal.τ) (Cert.FfnActRefIdeal.main (F := Ideal))) ⟨m, fun _ => 0, ρ⟩ fun r => ∀ c : Dev Cert.FfnActRefIdeal.nD,
      r.2.mem ((c.tc : Thread Cert.FfnActRefIdeal.nD Cert.FfnActRefIdeal.τ).loc Cert.FfnActRefIdeal.main_v23)
        = gateRows (m (c.tc.loc Cert.FfnActRefIdeal.main_arg0)) (m (c.tc.loc Cert.FfnActRefIdeal.main_arg1)) (m (c.tc.loc Cert.FfnActRefIdeal.main_arg2)) (m (c.tc.loc Cert.FfnActRefIdeal.main_arg3)) (m (c.tc.loc Cert.FfnActRefIdeal.main_arg4))
      ∧ r.2.mem ((c.tc : Thread Cert.FfnActRefIdeal.nD Cert.FfnActRefIdeal.τ).loc Cert.FfnActRefIdeal.main_v26)
        = otherRows (m (c.tc.loc Cert.FfnActRefIdeal.main_arg0)) (m (c.tc.loc Cert.FfnActRefIdeal.main_arg1)) (m (c.tc.loc Cert.FfnActRefIdeal.main_arg2)) (m (c.tc.loc Cert.FfnActRefIdeal.main_arg3))
      ∧ r.2.mem ((c.tc : Thread Cert.FfnActRefIdeal.nD Cert.FfnActRefIdeal.τ).loc Cert.FfnActRefIdeal.main_arg0) = m (c.tc.loc Cert.FfnActRefIdeal.main_arg0)
      ∧ r.2.mem ((c.tc : Thread Cert.FfnActRefIdeal.nD Cert.FfnActRefIdeal.τ).loc Cert.FfnActRefIdeal.main_arg1) = m (c.tc.loc Cert.FfnActRefIdeal.main_arg1)
      ∧ r.2.mem ((c.tc : Thread Cert.FfnActRefIdeal.nD Cert.FfnActRefIdeal.τ).loc Cert.FfnActRefIdeal.main_arg2) = m (c.tc.loc Cert.FfnActRefIdeal.main_arg2)
      ∧ r.2.mem ((c.tc : Thread Cert.FfnActRefIdeal.nD Cert.FfnActRefIdeal.τ).loc Cert.FfnActRefIdeal.main_arg3) = m (c.tc.loc Cert.FfnActRefIdeal.main_arg3)
      ∧ r.2.mem ((c.tc : Thread Cert.FfnActRefIdeal.nD Cert.FfnActRefIdeal.τ).loc Cert.FfnActRefIdeal.main_arg4) = m (c.tc.loc Cert.FfnActRefIdeal.main_arg4) :=
  (θ_run Cert.FfnActRefIdeal.defs _ _).mono (fun _ h c => by
    replace h := h c
    refine ⟨h.1.trans ?_, h.2.1.trans ?_, h.2.2⟩
    all_goals
      clear h
      funext j
      generalize m (c.tc.loc Cert.FfnActRefIdeal.main_arg0) = x0
      generalize m (c.tc.loc Cert.FfnActRefIdeal.main_arg1) = x1
      generalize m (c.tc.loc Cert.FfnActRefIdeal.main_arg2) = x2
      generalize m (c.tc.loc Cert.FfnActRefIdeal.main_arg3) = x3
      try generalize m (c.tc.loc Cert.FfnActRefIdeal.main_arg4) = x4
      simp only [gateRows, otherRows, toGate, toOther, sg_eq]
    all_goals pointwise [inner, sigmoid, one, against, row])
    (Cert.FfnActRefIdeal.Value.run m ρ)

/-- The two printings are one program. -/
theorem defs_same {F : FTy → Type} [FloatOps F] : Cert.FfnAct.defs (F := F) = defs (F := F) := by chain_rfl
theorem run_same {F : FTy → Type} [FloatOps F] (s : MemSt nD τ sig (Elt F)) (Q) :
    θ_run (Cert.FfnAct.defs (F := F)) (onTc (τ := τ) (Cert.FfnAct.main (F := F))) s Q = θ_run (defs (F := F)) (onTc (τ := τ) (main (F := F))) s Q := by
  rw [defs_same]; rfl

theorem quiescent_kernel : quiescent_FfnAct := fun m g _ => (run_same _ _).mpr (Gen.frame (F := Bits) m g)
theorem quiescent_ideal : quiescent_FfnActIdeal := fun m g _ => Gen.frame m g
theorem quiescent_refIdeal : quiescent_FfnActRefIdeal := fun m g _ =>
  (θ_run Cert.FfnActRefIdeal.defs _ _).mono (fun _ h => ⟨fun c => (h c).2.2, funext fun ⟨_, s⟩ => ((show ∀ _ : SemLoc Cert.FfnActRefIdeal.sig, False by decide) s).elim⟩)
    (Cert.FfnActRefIdeal.Value.run m g)
theorem algebraic : algebraic_FfnActIdeal_FfnActRefIdeal := fun m g m' g' _ h =>
  ⟨_, _, value m g, (θ_run Cert.FfnActRefIdeal.defs _ _).mono (fun _ k c => by
    have k := k c
    obtain ⟨h0, h1, h2, h3, h4⟩ := h c
    rw [h0, h1, h2, h3, h4] at k ⊢
    exact k) (reference m' g')⟩

end Cert.FfnActProof

end
-- ==== Proof.SumFfnValue.lean ====
/-
  The sum of the four chips' parts of a feed-forward weight's gradient, of all four layers, `Cert.SumFfnIdeal`, against its
  reference. A point takes half of one layer's rows; the body has a branch for each layer.
-/
module

public import proofs.«01_k».proof.Proof.LossValue
public import proofs.«01_k».proof.Proof.Gen.SumFfn
public import proofs.«01_k».proof.Proof.Gen.SumFfnIdeal.Value
public import proofs.«01_k».proof.Proof.Gen.SumFfnRefIdeal.Run

@[expose] public section

noncomputable section

namespace Cert.SumFfnProof

open Idealize.ShloMosaic Idealize.ShloMosaic.TcCoe Idealize.SL.Sem

open Cert.SumFfnIdeal Cert.SumFfnIdeal.Gen
open Cert.LossProof (hz)

/-! ## What the body leaves at a point -/

section Body

variable {F : FTy → Type} [FloatOps F]

/-- The four parts of a block added, as the body does. -/
def added (x : Vec F S4x352x1024 .bf16) : FVec F S352x1024 .f32 :=
  k0_pay1 (View.ld x (Rect.unit (s := S4x352x1024) ![0, 0, 0] S1x352x1024.size inb_S4x352x1024_S1x352x1024_0_0_0)) (View.ld x (Rect.unit (s := S4x352x1024) ![1, 0, 0] S1x352x1024.size inb_S4x352x1024_S1x352x1024_1_0_0))
    (View.ld x (Rect.unit (s := S4x352x1024) ![2, 0, 0] S1x352x1024.size inb_S4x352x1024_S1x352x1024_2_0_0)) (View.ld x (Rect.unit (s := S4x352x1024) ![3, 0, 0] S1x352x1024.size inb_S4x352x1024_S1x352x1024_3_0_0))

variable (c : Dev nD) (i : grid0.Coords)
  (a1 : Memref sig .tc .vmem S4x352x1024 .bf16) (h1 : a1.IsWhole) (a2 : Memref sig .tc .vmem S4x352x1024 .bf16) (h2 : a2.IsWhole)
  (a3 : Memref sig .tc .vmem S4x352x1024 .bf16) (h3 : a3.IsWhole) (a4 : Memref sig .tc .vmem S4x352x1024 .bf16) (h4 : a4.IsWhole)
  (a5 : Memref sig .tc .vmem S352x1024 .f32) (h5 : a5.IsWhole) (x0 x1 x2 x3 : Vec F S4x352x1024 .bf16)

theorem outA (c0) (c1) (c2) (c3) : out0_A_4 c i a1 h1 a2 h2 a3 h3 a4 h4 a5 h5 c0 c1 c2 c3 x0 x1 x2 x3 = added x0 := by
  unfold out0_A_4
  rw [View.read_writes_eq_canon _ _ _ (cover0_A_4 c i a1 h1 a2 h2 a3 h3 a4 h4 a5 h5 c0 c1 c2 c3 x0 x1 x2 x3)]
  unfold kernelRun0_A
  dsimp only
  sl_unfold_words
  rw [View.canon_unit_zero hz]
  simp only [View.readAt_eq_ld, h1.read_unread]
  rfl
theorem outB (c0) (c1) (c2) (c3) : out0_B_4 c i a1 h1 a2 h2 a3 h3 a4 h4 a5 h5 c0 c1 c2 c3 x0 x1 x2 x3 = added x1 := by
  unfold out0_B_4
  rw [View.read_writes_eq_canon _ _ _ (cover0_B_4 c i a1 h1 a2 h2 a3 h3 a4 h4 a5 h5 c0 c1 c2 c3 x0 x1 x2 x3)]
  unfold kernelRun0_B
  dsimp only
  sl_unfold_words
  rw [View.canon_unit_zero hz]
  simp only [View.readAt_eq_ld, h2.read_unread]
  rfl
theorem outC (c0) (c1) (c2) (c3) : out0_C_4 c i a1 h1 a2 h2 a3 h3 a4 h4 a5 h5 c0 c1 c2 c3 x0 x1 x2 x3 = added x2 := by
  unfold out0_C_4
  rw [View.read_writes_eq_canon _ _ _ (cover0_C_4 c i a1 h1 a2 h2 a3 h3 a4 h4 a5 h5 c0 c1 c2 c3 x0 x1 x2 x3)]
  unfold kernelRun0_C
  dsimp only
  sl_unfold_words
  rw [View.canon_unit_zero hz]
  simp only [View.readAt_eq_ld, h3.read_unread]
  rfl
theorem outD (c0) (c1) (c2) (c3) : out0_D_4 c i a1 h1 a2 h2 a3 h3 a4 h4 a5 h5 c0 c1 c2 c3 x0 x1 x2 x3 = added x3 := by
  unfold out0_D_4
  rw [View.read_writes_eq_canon _ _ _ (cover0_D_4 c i a1 h1 a2 h2 a3 h3 a4 h4 a5 h5 c0 c1 c2 c3 x0 x1 x2 x3)]
  unfold kernelRun0_D
  dsimp only
  sl_unfold_words
  rw [View.canon_unit_zero hz]
  simp only [View.readAt_eq_ld, h4.read_unread]
  rfl

end Body

/-! ## The mathematics of one element -/

def four (p : Fin 4 → EReal) : EReal := p 0 + p 1 + p 2 + p 3
/-- A part's element of a row. -/
def at_ {n : ℕ} (x : (⟨3, ![4, n, 1024]⟩ : Shape).Idx → EReal) (r : Fin n) (q : Fin 1024) (k : Fin 4) : EReal := x (ix3 k r q)

theorem pay_eq (a b d e : FVec Ideal S1x352x1024 .bf16) (y : S352x1024.Idx) :
    k0_pay1 (F := Ideal) a b d e y = a (ix3 0 (y 0) (y 1)) + b (ix3 0 (y 0) (y 1)) + d (ix3 0 (y 0) (y 1)) + e (ix3 0 (y 0) (y 1)) := by
  pointwise [k0_pay1]

theorem added_eq (x : Vec Ideal S4x352x1024 .bf16) (y : S352x1024.Idx) : added (F := Ideal) x y = four (at_ x (y 0) (y 1)) := by
  have z : ∀ n : ℕ, 0 + 1 * n = n := fun n => by omega
  have e : ∀ (k : Fin 4) (i : S4x352x1024.Idx), (i 0).val = k.val → (i 1).val = (y 0).val → (i 2).val = (y 1).val → x i = at_ x (y 0) (y 1) k :=
    fun k i e0 e1 e2 => congrArg x (funext fun a => Fin.ext (match a with | ⟨0, _⟩ => e0 | ⟨1, _⟩ => e1 | ⟨2, _⟩ => e2))
  exact (pay_eq _ _ _ _ y).trans (congrArg₂ _ (congrArg₂ _ (congrArg₂ _ (e 0 _ rfl (z _) (z _)) (e 1 _ rfl (z _) (z _))) (e 2 _ rfl (z _) (z _))) (e 3 _ rfl (z _) (z _)))

/-! ## Over the blocks -/

/-- The layer of a row of the result, and its row in that layer. -/
def layerOf (n : Fin 2816) : Fin 4 := ⟨n.val / 704, by omega⟩
def rowIn (n : Fin 2816) : Fin 704 := ⟨n.val % 704, by omega⟩
/-- The result: each layer's parts added, one layer after the other. -/
def total (x : Fin 4 → S4x704x1024.Idx → EReal) : S2816x1024.Idx → EReal := fun i => four (at_ (x (layerOf (i 0))) (rowIn (i 0)) (i 1))

variable (m : (ℓ : Loc nD τ sig) → Buf (Elt Ideal) ℓ) (ρ : Dev nD → PrngReg) (c : Dev nD)

/-- The layers of a device. -/
def layers : Fin 4 → S4x704x1024.Idx → EReal := ![V m c main_arg0, V m c main_arg1, V m c main_arg2, V m c main_arg3]

/-- Where a block's elements lie. -/
def rowAt (t : Fin cfg0.N) (r : Fin 352) : Fin 2816 := ⟨t.val * 352 + r.val, by have : t.val < 8 := t.isLt; omega⟩
def place (t : Fin cfg0.N) (y : S352x1024.Idx) : S2816x1024.Idx := ix2 (rowAt t (y 0)) (y 1)

theorem index_eq : ∀ t : Fin cfg0.N, win0_4.index t (0 : Fin 2) = t.val ∧ win0_4.index t (1 : Fin 2) = 0 :=
  (by decide +kernel : ∀ t : Fin grid0.N, _)
/-- A layer's window stands at the point's half of the rows while the points are that layer's. -/
theorem index0 : ∀ t : Fin cfg0.N, t.val / 2 = 0 → win0_0.index t (0 : Fin 3) = 0 ∧ win0_0.index t (1 : Fin 3) = t.val % 2 ∧ win0_0.index t (2 : Fin 3) = 0 :=
  (by decide +kernel : ∀ t : Fin grid0.N, _)
theorem index1 : ∀ t : Fin cfg0.N, t.val / 2 = 1 → win0_1.index t (0 : Fin 3) = 0 ∧ win0_1.index t (1 : Fin 3) = t.val % 2 ∧ win0_1.index t (2 : Fin 3) = 0 :=
  (by decide +kernel : ∀ t : Fin grid0.N, _)
theorem index2 : ∀ t : Fin cfg0.N, t.val / 2 = 2 → win0_2.index t (0 : Fin 3) = 0 ∧ win0_2.index t (1 : Fin 3) = t.val % 2 ∧ win0_2.index t (2 : Fin 3) = 0 :=
  (by decide +kernel : ∀ t : Fin grid0.N, _)
theorem index3 : ∀ t : Fin cfg0.N, t.val / 2 = 3 → win0_3.index t (0 : Fin 3) = 0 ∧ win0_3.index t (1 : Fin 3) = t.val % 2 ∧ win0_3.index t (2 : Fin 3) = 0 :=
  (by decide +kernel : ∀ t : Fin grid0.N, _)

/-- A block read off its layer's array is that layer's rows of the result. -/
theorem block_eq (l : Fin 4) (t : Fin cfg0.N) (ht : t.val / 2 = l.val) (x : Vec Ideal S4x352x1024 .bf16)
    (h : ∀ (k : Fin 4) (r : Fin 352) (q : Fin 1024), x (ix3 k r q) = layers m c l (ix3 k (rowIn (rowAt t r)) q)) (y : S352x1024.Idx) :
    added (F := Ideal) x y = total (layers m c) (place t y) := by
  have e : layerOf (rowAt t (y 0)) = l := Fin.ext (show (t.val * 352 + (y 0).val) / 704 = l.val by have : (y 0).val < 352 := (y 0).isLt; omega)
  refine (added_eq x y).trans (congrArg four (funext fun k => ?_))
  show x (ix3 k (y 0) (y 1)) = layers m c (layerOf (rowAt t (y 0))) (ix3 k (rowIn (rowAt t (y 0))) (y 1))
  rw [e]
  exact h k (y 0) (y 1)

theorem row_eq (t : Fin cfg0.N) (r : Fin 352) : (rowIn (rowAt t r)).val = t.val % 2 * 352 + r.val := by
  show (t.val * 352 + r.val) % 704 = _
  omega

theorem read0 (t : Fin cfg0.N) (ht : t.val / 2 = 0) (k : Fin 4) (r : Fin 352) (q : Fin 1024) :
    iblk m c 0 t (ix3 k r q) = layers m c 0 (ix3 k (rowIn (rowAt t r)) q) := by
  obtain ⟨e0, e1, e2⟩ := index0 t ht
  have e := row_eq t r
  refine congrArg (V m c main_arg0) (funext fun a => Fin.ext ?_)
  match a with
  | ⟨0, _⟩ => show win0_0.index t (0 : Fin 3) * 4 + 1 * k.val = k.val; omega
  | ⟨1, _⟩ => show win0_0.index t (1 : Fin 3) * 352 + 1 * r.val = (rowIn (rowAt t r)).val; omega
  | ⟨2, _⟩ => show win0_0.index t (2 : Fin 3) * 1024 + 1 * q.val = q.val; omega
theorem read1 (t : Fin cfg0.N) (ht : t.val / 2 = 1) (k : Fin 4) (r : Fin 352) (q : Fin 1024) :
    iblk m c 1 t (ix3 k r q) = layers m c 1 (ix3 k (rowIn (rowAt t r)) q) := by
  obtain ⟨e0, e1, e2⟩ := index1 t ht
  have e := row_eq t r
  refine congrArg (V m c main_arg1) (funext fun a => Fin.ext ?_)
  match a with
  | ⟨0, _⟩ => show win0_1.index t (0 : Fin 3) * 4 + 1 * k.val = k.val; omega
  | ⟨1, _⟩ => show win0_1.index t (1 : Fin 3) * 352 + 1 * r.val = (rowIn (rowAt t r)).val; omega
  | ⟨2, _⟩ => show win0_1.index t (2 : Fin 3) * 1024 + 1 * q.val = q.val; omega
theorem read2 (t : Fin cfg0.N) (ht : t.val / 2 = 2) (k : Fin 4) (r : Fin 352) (q : Fin 1024) :
    iblk m c 2 t (ix3 k r q) = layers m c 2 (ix3 k (rowIn (rowAt t r)) q) := by
  obtain ⟨e0, e1, e2⟩ := index2 t ht
  have e := row_eq t r
  refine congrArg (V m c main_arg2) (funext fun a => Fin.ext ?_)
  match a with
  | ⟨0, _⟩ => show win0_2.index t (0 : Fin 3) * 4 + 1 * k.val = k.val; omega
  | ⟨1, _⟩ => show win0_2.index t (1 : Fin 3) * 352 + 1 * r.val = (rowIn (rowAt t r)).val; omega
  | ⟨2, _⟩ => show win0_2.index t (2 : Fin 3) * 1024 + 1 * q.val = q.val; omega
theorem read3 (t : Fin cfg0.N) (ht : t.val / 2 = 3) (k : Fin 4) (r : Fin 352) (q : Fin 1024) :
    iblk m c 3 t (ix3 k r q) = layers m c 3 (ix3 k (rowIn (rowAt t r)) q) := by
  obtain ⟨e0, e1, e2⟩ := index3 t ht
  have e := row_eq t r
  refine congrArg (V m c main_arg3) (funext fun a => Fin.ext ?_)
  match a with
  | ⟨0, _⟩ => show win0_3.index t (0 : Fin 3) * 4 + 1 * k.val = k.val; omega
  | ⟨1, _⟩ => show win0_3.index t (1 : Fin 3) * 352 + 1 * r.val = (rowIn (rowAt t r)).val; omega
  | ⟨2, _⟩ => show win0_3.index t (2 : Fin 3) * 1024 + 1 * q.val = q.val; omega

theorem flushed (t : Fin cfg0.N) (y : S352x1024.Idx) : (dats m 0 c).flushed 4 t y = total (layers m c) (place t y) := by
  have hN : t.val < 8 := t.isLt
  have hl : t.val / 2 = 0 ∨ t.val / 2 = 1 ∨ t.val / 2 = 2 ∨ t.val / 2 = 3 := by omega
  rcases hl with h | h | h | h
  · rw [Value.flushed4_A m c t (by omega) (by omega) (by omega) (by omega), outA]
    exact block_eq m c 0 t h _ (read0 m c t h) y
  · rw [Value.flushed4_B m c t (by omega) (by omega) (by omega) (by omega), outB]
    exact block_eq m c 1 t h _ (read1 m c t h) y
  · rw [Value.flushed4_C m c t (by omega) (by omega) (by omega) (by omega), outC]
    exact block_eq m c 2 t h _ (read2 m c t h) y
  · rw [Value.flushed4_D m c t (by omega) (by omega) (by omega) (by omega), outD]
    exact block_eq m c 3 t h _ (read3 m c t h) y

theorem emb_eq (t : Fin cfg0.N) (y : S352x1024.Idx) : ((cfg0.win 4).blk t).view.emb y = place t y := by
  obtain ⟨e0, e1⟩ := index_eq t
  refine funext fun a => Fin.ext ?_
  match a with
  | ⟨0, _⟩ => show win0_4.index t (0 : Fin 2) * 352 + 1 * (y 0).val = t.val * 352 + (y 0).val; omega
  | ⟨1, _⟩ => show win0_4.index t (1 : Fin 2) * 1024 + 1 * (y 1).val = (y 1).val; omega
/-- A function of the array, read at a block's element. -/
theorem read_at (f : S2816x1024.Idx → EReal) (t : Fin cfg0.N) (y : S352x1024.Idx) : f (((cfg0.win 4).blk t).view.emb y) = f (place t y) := congrArg f (emb_eq t y)

theorem final4 : (dats m 0 c).arrAt 4 cfg0.N = total (layers m c) := by
  refine (dats m 0 c).arrAt_eq_of_cover 4 _ (fun t _ => funext fun y => (flushed m c t y).trans (read_at _ t y).symm) fun i => ?_
  have h0 : (i 0).val < 2816 := (i 0).isLt
  have h1 : (i 1).val < 1024 := (i 1).isLt
  let t : Fin cfg0.N := (⟨(i 0).val / 352, by omega⟩ : Fin 8)
  have ht : t.val = (i 0).val / 352 := rfl
  obtain ⟨e0, e1⟩ := index_eq t
  refine ⟨t, flush0_4 t, ?_⟩
  show i ∈ ((View.whole main_v0).slice (win0_4.rect t)).set
  rw [View.set_slice_whole, Rect.mem_set_unit]
  intro a
  match a with
  | ⟨0, _⟩ => show win0_4.index t (0 : Fin 2) * 352 ≤ (i 0).val ∧ (i 0).val < win0_4.index t (0 : Fin 2) * 352 + 352; omega
  | ⟨1, _⟩ => show win0_4.index t (1 : Fin 2) * 1024 ≤ (i 1).val ∧ (i 1).val < win0_4.index t (1 : Fin 2) * 1024 + 1024; omega

/-! ## The reference -/

/-- A layer's parts added, as the reference takes them. -/
def reduced (x : S4x704x1024.Idx → EReal) : Cert.SumFfnRefIdeal.S704x1024.Idx → EReal :=
  Host.reduceAdd (F := Ideal) (φ := .f32) (extf (F := Ideal) .f32 (x : FVec Ideal S4x704x1024 .bf16) Cert.SumFfnRefIdeal.Gen.bitsLt_bf16_f32)
    (constant Cert.SumFfnRefIdeal.S_ .f32 0x00000000#32) Cert.SumFfnRefIdeal.Gen.reducesTo_S4x704x1024_S704x1024_d0 Cert.SumFfnRefIdeal.Gen.h_S_

theorem reduced_eq (x : S4x704x1024.Idx → EReal) (r : Fin 704) (q : Fin 1024) : reduced x (ix2 r q) = four (at_ x r q) := by
  unfold reduced
  rw [ValueIdx.hostReduceAdd_apply, Ideal.hostReduceAdd_r3_a0, Fin.sum_univ_four]
  show Ideal.ofBits .f32 0x00000000#32 + _ = _
  rw [Ideal.ofBits_zero_f32, zero_add]
  rfl

theorem joined_eq (x : Fin 4 → S4x704x1024.Idx → EReal) (h) : concatenate Cert.SumFfnRefIdeal.S2816x1024 0
    (List.ofFn fun l : Fin 4 => (⟨Cert.SumFfnRefIdeal.S704x1024, reduced (x l)⟩ : (s : Shape) × (s.Idx → EReal))) h = total x := by
  funext j
  have b0 : (j 0).val < 2816 := (j 0).isLt
  refine (concatenate_ofFn_apply (t := Cert.SumFfnRefIdeal.S2816x1024) (s₁ := Cert.SumFfnRefIdeal.S704x1024) (0 : Fin 2) (fun l => reduced (x l)) h rfl 704 rfl j (layerOf (j 0)) rfl (ix2 (rowIn (j 0)) (j 1)) rfl fun b hb => ?_).trans
    (reduced_eq _ _ _)
  match b with
  | ⟨0, _⟩ => exact absurd rfl hb
  | ⟨1, _⟩ => rfl

/-! ## The claims -/

theorem value : θ_run defs (onTc (τ := τ) (main (F := Ideal))) ⟨m, fun _ => 0, ρ⟩ fun r => ∀ c : Dev nD,
      r.2.mem ((c : Thread nD τ).loc main_v0) = total (layers m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2⟩) (Value.run_blocks m ρ)

theorem reference (m : (ℓ : Loc Cert.SumFfnRefIdeal.nD Cert.SumFfnRefIdeal.τ Cert.SumFfnRefIdeal.sig) → Buf (Elt Ideal) ℓ)
    (ρ : Dev Cert.SumFfnRefIdeal.nD → PrngReg) :
    θ_run Cert.SumFfnRefIdeal.defs (onTc (τ := Cert.SumFfnRefIdeal.τ) (Cert.SumFfnRefIdeal.main (F := Ideal))) ⟨m, fun _ => 0, ρ⟩ fun r => ∀ c : Dev Cert.SumFfnRefIdeal.nD,
      r.2.mem ((c.tc : Thread Cert.SumFfnRefIdeal.nD Cert.SumFfnRefIdeal.τ).loc Cert.SumFfnRefIdeal.main_v8)
        = total ![m (c.tc.loc Cert.SumFfnRefIdeal.main_arg0), m (c.tc.loc Cert.SumFfnRefIdeal.main_arg1), m (c.tc.loc Cert.SumFfnRefIdeal.main_arg2), m (c.tc.loc Cert.SumFfnRefIdeal.main_arg3)]
      ∧ r.2.mem ((c.tc : Thread Cert.SumFfnRefIdeal.nD Cert.SumFfnRefIdeal.τ).loc Cert.SumFfnRefIdeal.main_arg0) = m (c.tc.loc Cert.SumFfnRefIdeal.main_arg0)
      ∧ r.2.mem ((c.tc : Thread Cert.SumFfnRefIdeal.nD Cert.SumFfnRefIdeal.τ).loc Cert.SumFfnRefIdeal.main_arg1) = m (c.tc.loc Cert.SumFfnRefIdeal.main_arg1)
      ∧ r.2.mem ((c.tc : Thread Cert.SumFfnRefIdeal.nD Cert.SumFfnRefIdeal.τ).loc Cert.SumFfnRefIdeal.main_arg2) = m (c.tc.loc Cert.SumFfnRefIdeal.main_arg2)
      ∧ r.2.mem ((c.tc : Thread Cert.SumFfnRefIdeal.nD Cert.SumFfnRefIdeal.τ).loc Cert.SumFfnRefIdeal.main_arg3) = m (c.tc.loc Cert.SumFfnRefIdeal.main_arg3) :=
  (θ_run Cert.SumFfnRefIdeal.defs _ _).mono (fun _ h c => ⟨(h c).1.trans (joined_eq ![m (c.tc.loc Cert.SumFfnRefIdeal.main_arg0), m (c.tc.loc Cert.SumFfnRefIdeal.main_arg1), m (c.tc.loc Cert.SumFfnRefIdeal.main_arg2), m (c.tc.loc Cert.SumFfnRefIdeal.main_arg3)] Cert.SumFfnRefIdeal.Gen.concatenates_S704x1024_S704x1024_S704x1024_S704x1024_S2816x1024_d0), (h c).2⟩)
    (Cert.SumFfnRefIdeal.Value.run m ρ)

/-- The two printings are one program. -/
theorem defs_same {F : FTy → Type} [FloatOps F] : Cert.SumFfn.defs (F := F) = defs (F := F) := by chain_rfl
theorem run_same {F : FTy → Type} [FloatOps F] (s : MemSt nD τ sig (Elt F)) (Q) :
    θ_run (Cert.SumFfn.defs (F := F)) (onTc (τ := τ) (Cert.SumFfn.main (F := F))) s Q = θ_run (defs (F := F)) (onTc (τ := τ) (main (F := F))) s Q := by
  rw [defs_same]; rfl

theorem quiescent_kernel : quiescent_SumFfn := fun m g _ => (run_same _ _).mpr (Gen.frame (F := Bits) m g)
theorem quiescent_ideal : quiescent_SumFfnIdeal := fun m g _ => Gen.frame m g
theorem quiescent_refIdeal : quiescent_SumFfnRefIdeal := fun m g _ =>
  (θ_run Cert.SumFfnRefIdeal.defs _ _).mono (fun _ h => ⟨fun c => (h c).2, funext fun ⟨_, s⟩ => ((show ∀ _ : SemLoc Cert.SumFfnRefIdeal.sig, False by decide) s).elim⟩)
    (Cert.SumFfnRefIdeal.Value.run m g)
theorem algebraic : algebraic_SumFfnIdeal_SumFfnRefIdeal := fun m g m' g' _ h =>
  ⟨_, value m g, (θ_run Cert.SumFfnRefIdeal.defs _ _).mono (fun _ k c => by
    have k := k c
    obtain ⟨h0, h1, h2, h3⟩ := h c
    rw [h0, h1, h2, h3] at k ⊢
    exact k) (reference m' g')⟩

end Cert.SumFfnProof

end
-- ==== Proof.lean ====
/-
  The claims of this certificate, put together from the modules under Proof/.
-/
module

public import proofs.«01_k».proof.Defs
public import proofs.«01_k».proof.Proof.ScatterValue
public import proofs.«01_k».proof.Proof.GatherValue
public import proofs.«01_k».proof.Proof.SiblingValue
public import proofs.«01_k».proof.Proof.ScatterMixValue
public import proofs.«01_k».proof.Proof.SiblingMixValue
public import proofs.«01_k».proof.Proof.GatherMixValue
public import proofs.«01_k».proof.Proof.GatherTwoValue
public import proofs.«01_k».proof.Proof.GatherOneValue
public import proofs.«01_k».proof.Proof.EveryoneValue
public import proofs.«01_k».proof.Proof.AdamWValue
public import proofs.«01_k».proof.Proof.AdamWInValue
public import proofs.«01_k».proof.Proof.AdamWSquareValue
public import proofs.«01_k».proof.Proof.AdamWHalfValue
public import proofs.«01_k».proof.Proof.AdamWSmallValue
public import proofs.«01_k».proof.Proof.LossValue
public import proofs.«01_k».proof.Proof.FfnDxValue
public import proofs.«01_k».proof.Proof.NormValue
public import proofs.«01_k».proof.Proof.FfnUpValue
public import proofs.«01_k».proof.Proof.FfnDownValue
public import proofs.«01_k».proof.Proof.FfnDwUpValue
public import proofs.«01_k».proof.Proof.FfnDwDownValue
public import proofs.«01_k».proof.Proof.FfnActValue
public import proofs.«01_k».proof.Proof.SumFfnValue

@[expose] public section

noncomputable section

namespace Cert.Proof

open Idealize.ShloMosaic Idealize.SL.Sem

theorem claim : Cert.Claim :=
  ⟨Cert.Scatter.Gen.facts, Cert.ScatterIdeal.Gen.facts, Cert.ScatterRefIdeal.Gen.facts, Cert.ScatterRef.Gen.facts,
    Cert.Gather.Gen.facts, Cert.GatherIdeal.Gen.facts, Cert.GatherRefIdeal.Gen.facts, Cert.GatherRef.Gen.facts,
    Cert.Sibling.Gen.facts, Cert.SiblingIdeal.Gen.facts, Cert.SiblingRefIdeal.Gen.facts, Cert.SiblingRef.Gen.facts,
    Cert.ScatterMix.Gen.facts, Cert.ScatterMixIdeal.Gen.facts, Cert.ScatterMixRefIdeal.Gen.facts, Cert.ScatterMixRef.Gen.facts,
    Cert.SiblingMix.Gen.facts, Cert.SiblingMixIdeal.Gen.facts, Cert.SiblingMixRefIdeal.Gen.facts, Cert.SiblingMixRef.Gen.facts,
    Cert.GatherMix.Gen.facts, Cert.GatherMixIdeal.Gen.facts, Cert.GatherMixRefIdeal.Gen.facts, Cert.GatherMixRef.Gen.facts,
    Cert.GatherTwo.Gen.facts, Cert.GatherTwoIdeal.Gen.facts, Cert.GatherTwoRefIdeal.Gen.facts, Cert.GatherTwoRef.Gen.facts,
    Cert.GatherOne.Gen.facts, Cert.GatherOneIdeal.Gen.facts, Cert.GatherOneRefIdeal.Gen.facts, Cert.GatherOneRef.Gen.facts,
    Cert.Everyone.Gen.facts, Cert.EveryoneIdeal.Gen.facts, Cert.EveryoneRefIdeal.Gen.facts, Cert.EveryoneRef.Gen.facts,
    Cert.AdamW.Gen.facts, Cert.AdamWIdeal.Gen.facts, Cert.AdamWRefIdeal.Gen.facts,
    Cert.AdamWIn.Gen.facts, Cert.AdamWInIdeal.Gen.facts, Cert.AdamWInRefIdeal.Gen.facts,
    Cert.AdamWSquare.Gen.facts, Cert.AdamWSquareIdeal.Gen.facts, Cert.AdamWSquareRefIdeal.Gen.facts,
    Cert.AdamWHalf.Gen.facts, Cert.AdamWHalfIdeal.Gen.facts, Cert.AdamWHalfRefIdeal.Gen.facts,
    Cert.AdamWSmall.Gen.facts, Cert.AdamWSmallIdeal.Gen.facts, Cert.AdamWSmallRefIdeal.Gen.facts,
    Cert.Loss.Gen.facts, Cert.LossIdeal.Gen.facts, Cert.LossRefIdeal.Gen.facts,
    Cert.FfnDx.Gen.facts, Cert.FfnDxIdeal.Gen.facts, Cert.FfnDxRefIdeal.Gen.facts,
    Cert.Norm.Gen.facts, Cert.NormIdeal.Gen.facts, Cert.NormRefIdeal.Gen.facts,
    Cert.FfnUp.Gen.facts, Cert.FfnUpIdeal.Gen.facts, Cert.FfnUpRefIdeal.Gen.facts,
    Cert.FfnDown.Gen.facts, Cert.FfnDownIdeal.Gen.facts, Cert.FfnDownRefIdeal.Gen.facts,
    Cert.FfnDwUp.Gen.facts, Cert.FfnDwUpIdeal.Gen.facts, Cert.FfnDwUpRefIdeal.Gen.facts,
    Cert.FfnDwDown.Gen.facts, Cert.FfnDwDownIdeal.Gen.facts, Cert.FfnDwDownRefIdeal.Gen.facts,
    Cert.FfnAct.Gen.facts, Cert.FfnActIdeal.Gen.facts, Cert.FfnActRefIdeal.Gen.facts,
    Cert.SumFfn.Gen.facts, Cert.SumFfnIdeal.Gen.facts, Cert.SumFfnRefIdeal.Gen.facts,
    ScatterProof.quiescent_kernel, ScatterProof.quiescent_ideal, ScatterProof.quiescent_refIdeal, ScatterProof.quiescent_ref,
    GatherProof.quiescent_kernel, GatherProof.quiescent_ideal, GatherProof.quiescent_refIdeal, GatherProof.quiescent_ref,
    SiblingProof.quiescent_kernel, SiblingProof.quiescent_ideal, SiblingProof.quiescent_refIdeal, SiblingProof.quiescent_ref,
    ScatterMixProof.quiescent_kernel, ScatterMixProof.quiescent_ideal, ScatterMixProof.quiescent_refIdeal, ScatterMixProof.quiescent_ref,
    SiblingMixProof.quiescent_kernel, SiblingMixProof.quiescent_ideal, SiblingMixProof.quiescent_refIdeal, SiblingMixProof.quiescent_ref,
    GatherMixProof.quiescent_kernel, GatherMixProof.quiescent_ideal, GatherMixProof.quiescent_refIdeal, GatherMixProof.quiescent_ref,
    GatherTwoProof.quiescent_kernel, GatherTwoProof.quiescent_ideal, GatherTwoProof.quiescent_refIdeal, GatherTwoProof.quiescent_ref,
    GatherOneProof.quiescent_kernel, GatherOneProof.quiescent_ideal, GatherOneProof.quiescent_refIdeal, GatherOneProof.quiescent_ref,
    EveryoneProof.quiescent_kernel, EveryoneProof.quiescent_ideal, EveryoneProof.quiescent_refIdeal, EveryoneProof.quiescent_ref,
    AdamWProof.quiescent_kernel, AdamWProof.quiescent_ideal, AdamWProof.quiescent_refIdeal,
    AdamWInProof.quiescent_kernel, AdamWInProof.quiescent_ideal, AdamWInProof.quiescent_refIdeal,
    AdamWSquareProof.quiescent_kernel, AdamWSquareProof.quiescent_ideal, AdamWSquareProof.quiescent_refIdeal,
    AdamWHalfProof.quiescent_kernel, AdamWHalfProof.quiescent_ideal, AdamWHalfProof.quiescent_refIdeal,
    AdamWSmallProof.quiescent_kernel, AdamWSmallProof.quiescent_ideal, AdamWSmallProof.quiescent_refIdeal,
    LossProof.quiescent_kernel, LossProof.quiescent_ideal, LossProof.quiescent_refIdeal,
    FfnDxProof.quiescent_kernel, FfnDxProof.quiescent_ideal, FfnDxProof.quiescent_refIdeal,
    NormProof.quiescent_kernel, NormProof.quiescent_ideal, NormProof.quiescent_refIdeal,
    FfnUpProof.quiescent_kernel, FfnUpProof.quiescent_ideal, FfnUpProof.quiescent_refIdeal,
    FfnDownProof.quiescent_kernel, FfnDownProof.quiescent_ideal, FfnDownProof.quiescent_refIdeal,
    FfnDwUpProof.quiescent_kernel, FfnDwUpProof.quiescent_ideal, FfnDwUpProof.quiescent_refIdeal,
    FfnDwDownProof.quiescent_kernel, FfnDwDownProof.quiescent_ideal, FfnDwDownProof.quiescent_refIdeal,
    FfnActProof.quiescent_kernel, FfnActProof.quiescent_ideal, FfnActProof.quiescent_refIdeal,
    SumFfnProof.quiescent_kernel, SumFfnProof.quiescent_ideal, SumFfnProof.quiescent_refIdeal,
    trivial, ScatterProof.algebraic, ScatterProof.bitexact,
    trivial, GatherProof.algebraic, GatherProof.bitexact,
    trivial, SiblingProof.algebraic, SiblingProof.bitexact,
    trivial, ScatterMixProof.algebraic, ScatterMixProof.bitexact,
    trivial, SiblingMixProof.algebraic, SiblingMixProof.bitexact,
    trivial, GatherMixProof.algebraic, GatherMixProof.bitexact,
    trivial, GatherTwoProof.algebraic, GatherTwoProof.bitexact,
    trivial, GatherOneProof.algebraic, GatherOneProof.bitexact,
    trivial, EveryoneProof.algebraic, EveryoneProof.bitexact,
    trivial, AdamWProof.algebraic,
    trivial, AdamWInProof.algebraic,
    trivial, AdamWSquareProof.algebraic,
    trivial, AdamWHalfProof.algebraic,
    trivial, AdamWSmallProof.algebraic,
    trivial, LossProof.algebraic,
    trivial, FfnDxProof.algebraic,
    trivial, NormProof.algebraic,
    trivial, FfnUpProof.algebraic,
    trivial, FfnDownProof.algebraic,
    trivial, FfnDwUpProof.algebraic,
    trivial, FfnDwDownProof.algebraic,
    trivial, FfnActProof.algebraic,
    trivial, SumFfnProof.algebraic⟩

end Cert.Proof

end
